-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v165) = v1 c
          ∧ r.2.mem ((c.tc : Thread Cert.ReferenceIdeal.nD Cert.ReferenceIdeal.τ).loc Cert.ReferenceIdeal.main_v166) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7)) (v1 : (c : Dev Cert.Kernel2Ideal.nD) → Buf (Elt Ideal) ((c.tc : Thread Cert.Kernel2Ideal.nD Cert.Kernel2Ideal.τ).loc Cert.Kernel2Ideal.main_v8)) (v2 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_v8) = v1 c
          ∧ r.2.mem ((c.tc : Thread Cert.Kernel2Ideal.nD Cert.Kernel2Ideal.τ).loc Cert.Kernel2Ideal.main_v5) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_v33) = v1 c
          ∧ r.2.mem ((c.tc : Thread Cert.Reference2Ideal.nD Cert.Reference2Ideal.τ).loc Cert.Reference2Ideal.main_v34) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1)) (v1 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_v2) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_v19) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v0)) (v1 : (c : Dev Cert.Kernel8Ideal.nD) → Buf (Elt Ideal) ((c.tc : Thread Cert.Kernel8Ideal.nD Cert.Kernel8Ideal.τ).loc Cert.Kernel8Ideal.main_v1)) (v2 : (c : Dev Cert.Kernel8Ideal.nD) → Buf (Elt Ideal) ((c.tc : Thread Cert.Kernel8Ideal.nD Cert.Kernel8Ideal.τ).loc Cert.Kernel8Ideal.main_v2)) (v3 : (c : Dev Cert.Kernel8Ideal.nD) → Buf (Elt Ideal) ((c.tc : Thread Cert.Kernel8Ideal.nD Cert.Kernel8Ideal.τ).loc Cert.Kernel8Ideal.main_v3)) (v4 : (c : Dev Cert.Kernel8Ideal.nD) → Buf (Elt Ideal) ((c.tc : Thread Cert.Kernel8Ideal.nD Cert.Kernel8Ideal.τ).loc Cert.Kernel8Ideal.main_v4)) (v5 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_v1) = v1 c
          ∧ r.2.mem ((c.tc : Thread Cert.Kernel8Ideal.nD Cert.Kernel8Ideal.τ).loc Cert.Kernel8Ideal.main_v2) = v2 c
          ∧ r.2.mem ((c.tc : Thread Cert.Kernel8Ideal.nD Cert.Kernel8Ideal.τ).loc Cert.Kernel8Ideal.main_v3) = v3 c
          ∧ r.2.mem ((c.tc : Thread Cert.Kernel8Ideal.nD Cert.Kernel8Ideal.τ).loc Cert.Kernel8Ideal.main_v4) = v4 c
          ∧ r.2.mem ((c.tc : Thread Cert.Kernel8Ideal.nD Cert.Kernel8Ideal.τ).loc Cert.Kernel8Ideal.main_v5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_v13) = v1 c
          ∧ r.2.mem ((c.tc : Thread Cert.Reference8Ideal.nD Cert.Reference8Ideal.τ).loc Cert.Reference8Ideal.main_v8) = v2 c
          ∧ r.2.mem ((c.tc : Thread Cert.Reference8Ideal.nD Cert.Reference8Ideal.τ).loc Cert.Reference8Ideal.main_v14) = v3 c
          ∧ r.2.mem ((c.tc : Thread Cert.Reference8Ideal.nD Cert.Reference8Ideal.τ).loc Cert.Reference8Ideal.main_v15) = v4 c
          ∧ r.2.mem ((c.tc : Thread Cert.Reference8Ideal.nD Cert.Reference8Ideal.τ).loc Cert.Reference8Ideal.main_v16) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v37) = v0 c
          ∧ r.2.mem ((c.tc : Thread Cert.Reference9Ideal.nD Cert.Reference9Ideal.τ).loc Cert.Reference9Ideal.main_v38) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v51) = v0 c
          ∧ r.2.mem ((c.tc : Thread Cert.Reference10Ideal.nD Cert.Reference10Ideal.τ).loc Cert.Reference10Ideal.main_v52) = v1 c
          ∧ r.2.mem ((c.tc : Thread Cert.Reference10Ideal.nD Cert.Reference10Ideal.τ).loc Cert.Reference10Ideal.main_v53) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v285) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v15_0)) (v1 : (c : Dev Cert.Kernel12Ideal.nD) → Buf (Elt Ideal) ((c.tc : Thread Cert.Kernel12Ideal.nD Cert.Kernel12Ideal.τ).loc Cert.Kernel12Ideal.main_v15_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v15_0) = v0 c
          ∧ r.2.mem ((c.tc : Thread Cert.Kernel12Ideal.nD Cert.Kernel12Ideal.τ).loc Cert.Kernel12Ideal.main_v15_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v106) = v0 c
          ∧ r.2.mem ((c.tc : Thread Cert.Reference12Ideal.nD Cert.Reference12Ideal.τ).loc Cert.Reference12Ideal.main_v107) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v15_0)) (v1 : (c : Dev Cert.Kernel13Ideal.nD) → Buf (Elt Ideal) ((c.tc : Thread Cert.Kernel13Ideal.nD Cert.Kernel13Ideal.τ).loc Cert.Kernel13Ideal.main_v15_1)) (v2 : (c : Dev Cert.Kernel13Ideal.nD) → Buf (Elt Ideal) ((c.tc : Thread Cert.Kernel13Ideal.nD Cert.Kernel13Ideal.τ).loc Cert.Kernel13Ideal.main_v15_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v15_0) = v0 c
          ∧ r.2.mem ((c.tc : Thread Cert.Kernel13Ideal.nD Cert.Kernel13Ideal.τ).loc Cert.Kernel13Ideal.main_v15_1) = v1 c
          ∧ r.2.mem ((c.tc : Thread Cert.Kernel13Ideal.nD Cert.Kernel13Ideal.τ).loc Cert.Kernel13Ideal.main_v15_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v70) = v0 c
          ∧ r.2.mem ((c.tc : Thread Cert.Reference13Ideal.nD Cert.Reference13Ideal.τ).loc Cert.Reference13Ideal.main_v71) = v1 c
          ∧ r.2.mem ((c.tc : Thread Cert.Reference13Ideal.nD Cert.Reference13Ideal.τ).loc Cert.Reference13Ideal.main_v72) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v45) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v38) = v0 c
          ∧ r.2.mem ((c.tc : Thread Cert.Reference16Ideal.nD Cert.Reference16Ideal.τ).loc Cert.Reference16Ideal.main_v45) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Kernel.lean ====
abbrev S2x4 : Shape := ⟨2, ![2, 4]⟩
abbrev S2048x1024 : Shape := ⟨2, ![2048, 1024]⟩
abbrev S2048x2048 : Shape := ⟨2, ![2048, 2048]⟩
abbrev S4x8x128 : Shape := ⟨3, ![4, 8, 128]⟩
abbrev S2048x256 : Shape := ⟨2, ![2048, 256]⟩
abbrev S2048x512 : Shape := ⟨2, ![2048, 512]⟩
abbrev S1x8x128 : Shape := ⟨3, ![1, 8, 128]⟩
abbrev S16x256x512 : Shape := ⟨3, ![16, 256, 512]⟩
abbrev S256x512 : Shape := ⟨2, ![256, 512]⟩
abbrev S1x1 : Shape := ⟨2, ![1, 1]⟩
abbrev S128x256 : Shape := ⟨2, ![128, 256]⟩
abbrev S128x512 : Shape := ⟨2, ![128, 512]⟩
abbrev S1x256x512 : Shape := ⟨3, ![1, 256, 512]⟩
abbrev S128x1 : Shape := ⟨2, ![128, 1]⟩
abbrev S128x128 : Shape := ⟨2, ![128, 128]⟩
abbrev S128 : Shape := ⟨1, ![128]⟩
abbrev S1 : Shape := ⟨1, ![1]⟩
abbrev S1x128x128 : Shape := ⟨3, ![1, 128, 128]⟩
abbrev S1x1x1 : Shape := ⟨3, ![1, 1, 1]⟩
abbrev S8x128 : Shape := ⟨2, ![8, 128]⟩

abbrev nBuf : Space → Nat
  | .hbm => 9
  | .vmem => 19
  | .smem => 1
  | _ => 0

abbrev bufTy : (tb : Table) → Fin (tcTables nBuf tb) → BufTy
  | .hbm, ⟨0, _⟩ => ⟨S2x4, .f32⟩
  | .hbm, ⟨1, _⟩ => ⟨S2048x1024, .bf16⟩
  | .hbm, ⟨2, _⟩ => ⟨S2048x1024, .bf16⟩
  | .hbm, ⟨3, _⟩ => ⟨S2048x2048, .bf16⟩
  | .hbm, ⟨4, _⟩ => ⟨S2048x2048, .bf16⟩
  | .hbm, ⟨5, _⟩ => ⟨S2048x1024, .f32⟩
  | .hbm, ⟨6, _⟩ => ⟨S2048x1024, .f32⟩
  | .hbm, ⟨7, _⟩ => ⟨S2048x2048, .f32⟩
  | .hbm, ⟨8, _⟩ => ⟨S4x8x128, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x512, .f32⟩
  | .local _ .vmem, ⟨13, _⟩ => ⟨S2048x512, .f32⟩
  | .local _ .vmem, ⟨14, _⟩ => ⟨S1x8x128, .f32⟩
  | .local _ .vmem, ⟨15, _⟩ => ⟨S1x8x128, .f32⟩
  | .local _ .vmem, ⟨16, _⟩ => ⟨S16x256x512, .f32⟩
  | .local _ .vmem, ⟨17, _⟩ => ⟨S256x512, .f32⟩
  | .local _ .vmem, ⟨18, _⟩ => ⟨S256x512, .f32⟩
  | .local _ .smem, ⟨0, _⟩ => ⟨S2x4, .f32⟩
  | _, _ => ⟨S2x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c1 : Index := 1#32
  let arg0 : BitVec 32 := BitVec.ofNat 32 (i 0).val
  let v3 : Index := Scalar.indexCast arg0
  ![1, v3.toNat]
@[reducible] def k0_t1_loop : Scf.Loop 32 :=
  let c0_i32 : BitVec 32 := 0#32
  let c16_i32 : BitVec 32 := 16#32
  let v16 : BitVec 32 := Scalar.addi c0_i32 c16_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c128_i32 : BitVec 32 := 128#32
  let v58 : BitVec 32 := Scalar.muli arg13 c128_i32
  v58
def k0_off3 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v58 : BitVec 32 := Scalar.muli arg13 c128_i32
  let v59 : BitVec 32 := v58
  let v60 : Index := Scalar.indexCast v59
  let c0_35 : Index := 0#32
  ![v60.toNat, 0]
def k0_off4 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v58 : BitVec 32 := Scalar.muli arg13 c128_i32
  let v59 : BitVec 32 := v58
  let v63 : Index := Scalar.indexCast v59
  let c0_36 : Index := 0#32
  ![v63.toNat, 0]
def k0_off5 (k0_t1 : Fin k0_t1_loop.trips) : Fin 3 → Nat :=
  let c0_i32 : BitVec 32 := 0#32
  let c1_i32 : BitVec 32 := 1#32
  let arg13 : BitVec 32 := Scf.iv c0_i32 c1_i32 k0_t1
  let v67 : Index := Scalar.indexCast arg13
  let c0_39 : Index := 0#32
  let c0_40 : Index := 0#32
  ![v67.toNat, 0, 0]
@[reducible] def k0_t2_loop : Scf.Loop 32 :=
  let c0_i32_9 : BitVec 32 := 0#32
  let c16_i32_10 : BitVec 32 := 16#32
  let v22 : BitVec 32 := Scalar.addi c0_i32_9 c16_i32_10
  let c1_i32_11 : BitVec 32 := 1#32
  ⟨c0_i32_9, v22, c1_i32_11⟩
def k0_mult2 (k0_t2 : Fin k0_t2_loop.trips) : BitVec 32 :=
  let c15_i32 : BitVec 32 := 15#32
  let c0_i32_9 : BitVec 32 := 0#32
  let c1_i32_11 : BitVec 32 := 1#32
  let arg13 : BitVec 32 := Scf.iv c0_i32_9 c1_i32_11 k0_t2
  let v58 : BitVec 32 := Scalar.subi c15_i32 arg13
  let c128_i32 : BitVec 32 := 128#32
  let v59 : BitVec 32 := Scalar.muli v58 c128_i32
  v59
def k0_off6 (k0_t2 : Fin k0_t2_loop.trips) : Fin 2 → Nat :=
  let c15_i32 : BitVec 32 := 15#32
  let c0_i32_9 : BitVec 32 := 0#32
  let c1_i32_11 : BitVec 32 := 1#32
  let arg13 : BitVec 32 := Scf.iv c0_i32_9 c1_i32_11 k0_t2
  let v58 : BitVec 32 := Scalar.subi c15_i32 arg13
  let c128_i32 : BitVec 32 := 128#32
  let v59 : BitVec 32 := Scalar.muli v58 c128_i32
  let v60 : BitVec 32 := v59
  let v61 : Index := Scalar.indexCast v60
  let c0_35 : Index := 0#32
  ![v61.toNat, 0]
def k0_off7 (k0_t2 : Fin k0_t2_loop.trips) : Fin 2 → Nat :=
  let c15_i32 : BitVec 32 := 15#32
  let c0_i32_9 : BitVec 32 := 0#32
  let c1_i32_11 : BitVec 32 := 1#32
  let arg13 : BitVec 32 := Scf.iv c0_i32_9 c1_i32_11 k0_t2
  let v58 : BitVec 32 := Scalar.subi c15_i32 arg13
  let c128_i32 : BitVec 32 := 128#32
  let v59 : BitVec 32 := Scalar.muli v58 c128_i32
  let v60 : BitVec 32 := v59
  let v67 : Index := Scalar.indexCast v60
  let c0_37 : Index := 0#32
  ![v67.toNat, 0]
def k0_off8 (k0_t2 : Fin k0_t2_loop.trips) : Fin 3 → Nat :=
  let c15_i32 : BitVec 32 := 15#32
  let c0_i32_9 : BitVec 32 := 0#32
  let c1_i32_11 : BitVec 32 := 1#32
  let arg13 : BitVec 32 := Scf.iv c0_i32_9 c1_i32_11 k0_t2
  let v58 : BitVec 32 := Scalar.subi c15_i32 arg13
  let v73 : Index := Scalar.indexCast v58
  let c0_39 : Index := 0#32
  let c0_40 : Index := 0#32
  ![v73.toNat, 0, 0]
@[reducible] def k0_t3_loop : Scf.Loop 32 :=
  let c0_i32_16 : BitVec 32 := 0#32
  let c16_i32_17 : BitVec 32 := 16#32
  let v28 : BitVec 32 := Scalar.addi c0_i32_16 c16_i32_17
  let c1_i32_18 : BitVec 32 := 1#32
  ⟨c0_i32_16, v28, c1_i32_18⟩
def k0_mult3 (k0_t3 : Fin k0_t3_loop.trips) : BitVec 32 :=
  let c15_i32 : BitVec 32 := 15#32
  let c0_i32_16 : BitVec 32 := 0#32
  let c1_i32_18 : BitVec 32 := 1#32
  let arg13 : BitVec 32 := Scf.iv c0_i32_16 c1_i32_18 k0_t3
  let v58 : BitVec 32 := Scalar.subi c15_i32 arg13
  let c128_i32 : BitVec 32 := 128#32
  let v59 : BitVec 32 := Scalar.muli v58 c128_i32
  v59
def k0_off9 (k0_t3 : Fin k0_t3_loop.trips) : Fin 2 → Nat :=
  let c15_i32 : BitVec 32 := 15#32
  let c0_i32_16 : BitVec 32 := 0#32
  let c1_i32_18 : BitVec 32 := 1#32
  let arg13 : BitVec 32 := Scf.iv c0_i32_16 c1_i32_18 k0_t3
  let v58 : BitVec 32 := Scalar.subi c15_i32 arg13
  let c128_i32 : BitVec 32 := 128#32
  let v59 : BitVec 32 := Scalar.muli v58 c128_i32
  let v60 : BitVec 32 := v59
  let v61 : Index := Scalar.indexCast v60
  let c0_35 : Index := 0#32
  ![v61.toNat, 0]
def k0_off10 (k0_t3 : Fin k0_t3_loop.trips) : Fin 2 → Nat :=
  let c15_i32 : BitVec 32 := 15#32
  let c0_i32_16 : BitVec 32 := 0#32
  let c1_i32_18 : BitVec 32 := 1#32
  let arg13 : BitVec 32 := Scf.iv c0_i32_16 c1_i32_18 k0_t3
  let v58 : BitVec 32 := Scalar.subi c15_i32 arg13
  let c128_i32 : BitVec 32 := 128#32
  let v59 : BitVec 32 := Scalar.muli v58 c128_i32
  let v60 : BitVec 32 := v59
  let v64 : Index := Scalar.indexCast v60
  let c0_36 : Index := 0#32
  ![v64.toNat, 0]
def k0_off11 (k0_t3 : Fin k0_t3_loop.trips) : Fin 3 → Nat :=
  let c15_i32 : BitVec 32 := 15#32
  let c0_i32_16 : BitVec 32 := 0#32
  let c1_i32_18 : BitVec 32 := 1#32
  let arg13 : BitVec 32 := Scf.iv c0_i32_16 c1_i32_18 k0_t3
  let v58 : BitVec 32 := Scalar.subi c15_i32 arg13
  let v68 : Index := Scalar.indexCast v58
  let c0_39 : Index := 0#32
  let c0_40 : Index := 0#32
  ![v68.toNat, 0, 0]
@[reducible] def k0_t4_loop : Scf.Loop 32 :=
  let c0_i32_23 : BitVec 32 := 0#32
  let c16_i32_24 : BitVec 32 := 16#32
  let v33 : BitVec 32 := Scalar.addi c0_i32_23 c16_i32_24
  let c1_i32_25 : BitVec 32 := 1#32
  ⟨c0_i32_23, v33, c1_i32_25⟩
def k0_mult4 (k0_t4 : Fin k0_t4_loop.trips) : BitVec 32 :=
  let c0_i32_23 : BitVec 32 := 0#32
  let c1_i32_25 : BitVec 32 := 1#32
  let arg13 : BitVec 32 := Scf.iv c0_i32_23 c1_i32_25 k0_t4
  let c128_i32 : BitVec 32 := 128#32
  let v58 : BitVec 32 := Scalar.muli arg13 c128_i32
  v58
def k0_off12 (k0_t4 : Fin k0_t4_loop.trips) : Fin 2 → Nat :=
  let c0_i32_23 : BitVec 32 := 0#32
  let c1_i32_25 : BitVec 32 := 1#32
  let arg13 : BitVec 32 := Scf.iv c0_i32_23 c1_i32_25 k0_t4
  let c128_i32 : BitVec 32 := 128#32
  let v58 : BitVec 32 := Scalar.muli arg13 c128_i32
  let v59 : BitVec 32 := v58
  let v60 : Index := Scalar.indexCast v59
  let c0_35 : Index := 0#32
  ![v60.toNat, 0]
def k0_off13 (k0_t4 : Fin k0_t4_loop.trips) : Fin 2 → Nat :=
  let c0_i32_23 : BitVec 32 := 0#32
  let c1_i32_25 : BitVec 32 := 1#32
  let arg13 : BitVec 32 := Scf.iv c0_i32_23 c1_i32_25 k0_t4
  let c128_i32 : BitVec 32 := 128#32
  let v58 : BitVec 32 := Scalar.muli arg13 c128_i32
  let v59 : BitVec 32 := v58
  let v66 : Index := Scalar.indexCast v59
  let c0_37 : Index := 0#32
  ![v66.toNat, 0]
def k0_off14 (k0_t4 : Fin k0_t4_loop.trips) : Fin 3 → Nat :=
  let c0_i32_23 : BitVec 32 := 0#32
  let c1_i32_25 : BitVec 32 := 1#32
  let arg13 : BitVec 32 := Scf.iv c0_i32_23 c1_i32_25 k0_t4
  let v72 : Index := Scalar.indexCast arg13
  let c0_39 : Index := 0#32
  let c0_40 : Index := 0#32
  ![v72.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2x4 : Shape := ⟨2, ![2, 4]⟩
abbrev S2048x1024 : Shape := ⟨2, ![2048, 1024]⟩
abbrev S2048x2048 : Shape := ⟨2, ![2048, 2048]⟩
abbrev S1x2048x4x256 : Shape := ⟨4, ![1, 2048, 4, 256]⟩
abbrev S1x2048x4x512 : Shape := ⟨4, ![1, 2048, 4, 512]⟩
abbrev S1x16x128x4x256 : Shape := ⟨5, ![1, 16, 128, 4, 256]⟩
abbrev S1x16x128x4x512 : Shape := ⟨5, ![1, 16, 128, 4, 512]⟩
abbrev S1x4 : Shape := ⟨2, ![1, 4]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S4x1x1 : Shape := ⟨3, ![4, 1, 1]⟩
abbrev S1x128x128 : Shape := ⟨3, ![1, 128, 128]⟩
abbrev S4x128x128 : Shape := ⟨3, ![4, 128, 128]⟩
abbrev S1x16x4x128x128 : Shape := ⟨5, ![1, 16, 4, 128, 128]⟩
abbrev S1x1x4x128x128 : Shape := ⟨5, ![1, 1, 4, 128, 128]⟩
abbrev S1x16x4x512x128 : Shape := ⟨5, ![1, 16, 4, 512, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S16x1x4x256x512 : Shape := ⟨5, ![16, 1, 4, 256, 512]⟩
abbrev S1x4x1x1 : Shape := ⟨4, ![1, 4, 1, 1]⟩
abbrev S1x4x256x512 : Shape := ⟨4, ![1, 4, 256, 512]⟩
abbrev S1x1x4x256x512 : Shape := ⟨5, ![1, 1, 4, 256, 512]⟩
abbrev S1x16x4x128x256 : Shape := ⟨5, ![1, 16, 4, 128, 256]⟩
abbrev S1x16x4x512x256 : Shape := ⟨5, ![1, 16, 4, 512, 256]⟩
abbrev S16x1x4x512x128 : Shape := ⟨5, ![16, 1, 4, 512, 128]⟩
abbrev S16x1x4x256x128 : Shape := ⟨5, ![16, 1, 4, 256, 128]⟩

abbrev nBuf : Space → Nat
  | .hbm => 292
  | .vmem => 0
  | .smem => 0
  | _ => 0

abbrev hbmTy0_0 (i : Nat) : BufTy := match i % 128 with
  | 0 => ⟨S2x4, .f32⟩
  | 1 => ⟨S2048x1024, .bf16⟩
  | 2 => ⟨S2048x1024, .bf16⟩
  | 3 => ⟨S2048x2048, .bf16⟩
  | 4 => ⟨S2048x2048, .bf16⟩
  | 5 => ⟨S2048x1024, .f32⟩
  | 6 => ⟨S1x2048x4x256, .f32⟩
  | 7 => ⟨S2048x1024, .f32⟩
  | 8 => ⟨S1x2048x4x256, .f32⟩
  | 9 => ⟨S2048x2048, .f32⟩
  | 10 => ⟨S1x2048x4x512, .f32⟩
  | 11 => ⟨S1x16x128x4x256, .f32⟩
  | 12 => ⟨S1x16x128x4x256, .f32⟩
  | 13 => ⟨S1x16x128x4x512, .f32⟩
  | 14 => ⟨S1x4, .f32⟩
  | 15 => ⟨S4, .f32⟩
  | 16 => ⟨S1x4, .f32⟩
  | 17 => ⟨S4, .f32⟩
  | 18 => ⟨S128, .f32⟩
  | 19 => ⟨S128x1, .f32⟩
  | 20 => ⟨S1x128, .f32⟩
  | 21 => ⟨S128x128, .f32⟩
  | 22 => ⟨S128x128, .f32⟩
  | 23 => ⟨S128x128, .f32⟩
  | 24 => ⟨S_, .f32⟩
  | 25 => ⟨S128x128, .f32⟩
  | 26 => ⟨S128x128, .i1⟩
  | 27 => ⟨S4x1x1, .f32⟩
  | 28 => ⟨S1x128x128, .f32⟩
  | 29 => ⟨S4x128x128, .f32⟩
  | 30 => ⟨S4x128x128, .f32⟩
  | 31 => ⟨S4x128x128, .f32⟩
  | 32 => ⟨S4x1x1, .f32⟩
  | 33 => ⟨S4x1x1, .f32⟩
  | 34 => ⟨S1x128x128, .f32⟩
  | 35 => ⟨S4x128x128, .f32⟩
  | 36 => ⟨S4x128x128, .f32⟩
  | 37 => ⟨S4x128x128, .f32⟩
  | 38 => ⟨S4x128x128, .i1⟩
  | 39 => ⟨S4x128x128, .f32⟩
  | 40 => ⟨S4x128x128, .f32⟩
  | 41 => ⟨S1x16x4x128x128, .f32⟩
  | 42 => ⟨S1x1x4x128x128, .f32⟩
  | 43 => ⟨S1x16x4x128x128, .f32⟩
  | 44 => ⟨S1x16x4x128x128, .f32⟩
  | 45 => ⟨S1x16x4x512x128, .f32⟩
  | 46 => ⟨S1x16x128x4x512, .f32⟩
  | 47 => ⟨S1x4, .f32⟩
  | 48 => ⟨S_, .f32⟩
  | 49 => ⟨S128, .f32⟩
  | 50 => ⟨S128, .f32⟩
  | 51 => ⟨S128x1, .f32⟩
  | 52 => ⟨S128x4, .f32⟩
  | 53 => ⟨S128x4, .f32⟩
  | 54 => ⟨S128x4, .f32⟩
  | 55 => ⟨S128x4, .f32⟩
  | 56 => ⟨S128x4x1, .f32⟩
  | 57 => ⟨S1x1x128x4x1, .f32⟩
  | 58 => ⟨S1x16x128x4x256, .f32⟩
  | 59 => ⟨S1x16x128x4x256, .f32⟩
  | 60 => ⟨S1x4, .f32⟩
  | 61 => ⟨S128x1, .f32⟩
  | 62 => ⟨S128x4, .f32⟩
  | 63 => ⟨S128x4, .f32⟩
  | 64 => ⟨S128x4, .f32⟩
  | 65 => ⟨S128x4, .f32⟩
  | 66 => ⟨S128x4x1, .f32⟩
  | 67 => ⟨S1x1x128x4x1, .f32⟩
  | 68 => ⟨S1x16x128x4x256, .f32⟩
  | 69 => ⟨S1x16x128x4x256, .f32⟩
  | 70 => ⟨S16x1x4x256x512, .f32⟩
  | 71 => ⟨S16x1x4x256x512, .f32⟩
  | 72 => ⟨S_, .f32⟩
  | 73 => ⟨S4, .f32⟩
  | 74 => ⟨S4, .f32⟩
  | 75 => ⟨S4, .f32⟩
  | 76 => ⟨S1x4x1x1, .f32⟩
  | 77 => ⟨S_, .f32⟩
  | 78 => ⟨S4, .f32⟩
  | 79 => ⟨S4, .f32⟩
  | 80 => ⟨S4, .f32⟩
  | 81 => ⟨S1x4x1x1, .f32⟩
  | 82 => ⟨S_, .f32⟩
  | 83 => ⟨S1x4x256x512, .f32⟩
  | 84 => ⟨S_, .f32⟩
  | 85 => ⟨S16x1x4x256x512, .f32⟩
  | 86 => ⟨S_, .i32⟩
  | 87 => ⟨S16x1x4x256x512, .f32⟩
  | 88 => ⟨S1x4x1x1, .f32⟩
  | 89 => ⟨S_, .i32⟩
  | 90 => ⟨S1x4x256x512, .f32⟩
  | 91 => ⟨S16x1x4x256x512, .f32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S1x1x4x256x512, .f32⟩
  | 99 => ⟨S1x4x256x512, .f32⟩
  | 100 => ⟨S1x4x256x512, .f32⟩
  | 101 => ⟨S1x4x256x512, .f32⟩
  | 102 => ⟨S1x4x256x512, .f32⟩
  | 103 => ⟨S1x1x4x256x512, .f32⟩
  | 104 => ⟨S_, .i32⟩
  | 105 => ⟨S_, .i32⟩
  | 106 => ⟨S_, .i32⟩
  | 107 => ⟨S_, .i32⟩
  | 108 => ⟨S16x1x4x256x512, .f32⟩
  | 109 => ⟨S_, .i32⟩
  | 110 => ⟨S_, .i32⟩
  | 111 => ⟨S_, .f32⟩
  | 112 => ⟨S16x1x4x256x512, .f32⟩
  | 113 => ⟨S_, .i32⟩
  | 114 => ⟨S16x1x4x256x512, .f32⟩
  | 115 => ⟨S1x4x1x1, .f32⟩
  | 116 => ⟨S_, .i32⟩
  | 117 => ⟨S1x4x256x512, .f32⟩
  | 118 => ⟨S16x1x4x256x512, .f32⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S2x4, .f32⟩

abbrev hbmTy0_1 (i : Nat) : BufTy := match i % 128 with
  | 0 => ⟨S_, .i32⟩
  | 1 => ⟨S1x1x4x256x512, .f32⟩
  | 2 => ⟨S1x4x256x512, .f32⟩
  | 3 => ⟨S1x4x256x512, .f32⟩
  | 4 => ⟨S1x4x256x512, .f32⟩
  | 5 => ⟨S1x4x256x512, .f32⟩
  | 6 => ⟨S1x1x4x256x512, .f32⟩
  | 7 => ⟨S_, .i32⟩
  | 8 => ⟨S_, .i32⟩
  | 9 => ⟨S_, .i32⟩
  | 10 => ⟨S_, .i32⟩
  | 11 => ⟨S16x1x4x256x512, .f32⟩
  | 12 => ⟨S_, .i32⟩
  | 13 => ⟨S_, .i32⟩
  | 14 => ⟨S1x4, .f32⟩
  | 15 => ⟨S128x1, .f32⟩
  | 16 => ⟨S_, .f32⟩
  | 17 => ⟨S128x1, .f32⟩
  | 18 => ⟨S128x1, .f32⟩
  | 19 => ⟨S128x4, .f32⟩
  | 20 => ⟨S128x4, .f32⟩
  | 21 => ⟨S128x4, .f32⟩
  | 22 => ⟨S128x4, .f32⟩
  | 23 => ⟨S128x4x1, .f32⟩
  | 24 => ⟨S1x1x128x4x1, .f32⟩
  | 25 => ⟨S1x16x128x4x256, .f32⟩
  | 26 => ⟨S1x16x128x4x256, .f32⟩
  | 27 => ⟨S1x4, .f32⟩
  | 28 => ⟨S_, .f32⟩
  | 29 => ⟨S128, .f32⟩
  | 30 => ⟨S128, .f32⟩
  | 31 => ⟨S128x1, .f32⟩
  | 32 => ⟨S128x4, .f32⟩
  | 33 => ⟨S128x4, .f32⟩
  | 34 => ⟨S128x4, .f32⟩
  | 35 => ⟨S128x4, .f32⟩
  | 36 => ⟨S128x4x1, .f32⟩
  | 37 => ⟨S1x1x128x4x1, .f32⟩
  | 38 => ⟨S1x16x128x4x256, .f32⟩
  | 39 => ⟨S1x16x128x4x256, .f32⟩
  | 40 => ⟨S1x16x4x512x128, .f32⟩
  | 41 => ⟨S1x16x128x4x512, .f32⟩
  | 42 => ⟨S1x16x128x4x512, .f32⟩
  | 43 => ⟨S1x16x4x512x128, .f32⟩
  | 44 => ⟨S1x16x128x4x512, .f32⟩
  | 45 => ⟨S1x16x128x4x512, .f32⟩
  | 46 => ⟨S1x2048x4x512, .f32⟩
  | 47 => ⟨S2048x2048, .f32⟩
  | 48 => ⟨S1x2048x4x512, .f32⟩
  | 49 => ⟨S_, .f32⟩
  | 50 => ⟨S1x4x256x512, .f32⟩
  | 51 => ⟨S_, .f32⟩
  | 52 => ⟨S1x4x256x512, .f32⟩
  | 53 => ⟨S1x16x128x4x512, .f32⟩
  | 54 => ⟨S1x16x4x512x128, .f32⟩
  | 55 => ⟨S1x16x4x128x256, .f32⟩
  | 56 => ⟨S1x16x128x4x256, .f32⟩
  | 57 => ⟨S1x16x4x512x256, .f32⟩
  | 58 => ⟨S16x1x4x256x512, .f32⟩
  | 59 => ⟨S1x16x4x512x128, .f32⟩
  | 60 => ⟨S1x16x4x128x256, .f32⟩
  | 61 => ⟨S1x16x128x4x256, .f32⟩
  | 62 => ⟨S1x16x4x512x256, .f32⟩
  | 63 => ⟨S16x1x4x256x512, .f32⟩
  | 64 => ⟨S1x16x128x4x256, .f32⟩
  | 65 => ⟨S1x16x128x4x256, .f32⟩
  | 66 => ⟨S1x16x128x4x256, .f32⟩
  | 67 => ⟨S1x16x128x4x256, .f32⟩
  | 68 => ⟨S1x16x128x4x256, .f32⟩
  | 69 => ⟨S_, .f32⟩
  | 70 => ⟨S1x4x256x512, .f32⟩
  | 71 => ⟨S_, .f32⟩
  | 72 => ⟨S16x1x4x256x512, .f32⟩
  | 73 => ⟨S_, .i32⟩
  | 74 => ⟨S16x1x4x256x512, .f32⟩
  | 75 => ⟨S1x4x1x1, .f32⟩
  | 76 => ⟨S_, .i32⟩
  | 77 => ⟨S1x4x256x512, .f32⟩
  | 78 => ⟨S16x1x4x256x512, .f32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S1x1x4x256x512, .f32⟩
  | 86 => ⟨S1x4x256x512, .f32⟩
  | 87 => ⟨S1x4x256x512, .f32⟩
  | 88 => ⟨S1x4x256x512, .f32⟩
  | 89 => ⟨S1x4x256x512, .f32⟩
  | 90 => ⟨S1x1x4x256x512, .f32⟩
  | 91 => ⟨S_, .i32⟩
  | 92 => ⟨S_, .i32⟩
  | 93 => ⟨S_, .i32⟩
  | 94 => ⟨S_, .i32⟩
  | 95 => ⟨S16x1x4x256x512, .f32⟩
  | 96 => ⟨S_, .i32⟩
  | 97 => ⟨S_, .i32⟩
  | 98 => ⟨S_, .f32⟩
  | 99 => ⟨S1x4x256x512, .f32⟩
  | 100 => ⟨S_, .f32⟩
  | 101 => ⟨S16x1x4x256x512, .f32⟩
  | 102 => ⟨S_, .i32⟩
  | 103 => ⟨S16x1x4x256x512, .f32⟩
  | 104 => ⟨S1x4x1x1, .f32⟩
  | 105 => ⟨S_, .i32⟩
  | 106 => ⟨S1x4x256x512, .f32⟩
  | 107 => ⟨S16x1x4x256x512, .f32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S1x1x4x256x512, .f32⟩
  | 119 => ⟨S1x4x256x512, .f32⟩
  | 120 => ⟨S1x4x256x512, .f32⟩
  | 121 => ⟨S1x4x256x512, .f32⟩
  | 122 => ⟨S1x4x256x512, .f32⟩
  | 123 => ⟨S1x1x4x256x512, .f32⟩
  | 124 => ⟨S_, .i32⟩
  | 125 => ⟨S_, .i32⟩
  | 126 => ⟨S_, .i32⟩
  | 127 => ⟨S_, .i32⟩
  | _ => ⟨S2x4, .f32⟩

abbrev hbmTy0_2 (i : Nat) : BufTy := match i % 128 with
  | 0 => ⟨S16x1x4x256x512, .f32⟩
  | 1 => ⟨S_, .i32⟩
  | 2 => ⟨S_, .i32⟩
  | 3 => ⟨S16x1x4x512x128, .f32⟩
  | 4 => ⟨S1x16x128x4x512, .f32⟩
  | 5 => ⟨S16x1x4x256x128, .f32⟩
  | 6 => ⟨S1x16x128x4x256, .f32⟩
  | 7 => ⟨S16x1x4x512x128, .f32⟩
  | 8 => ⟨S1x16x128x4x512, .f32⟩
  | 9 => ⟨S1x16x128x4x512, .f32⟩
  | 10 => ⟨S16x1x4x256x128, .f32⟩
  | 11 => ⟨S1x16x128x4x256, .f32⟩
  | 12 => ⟨S1x16x128x4x256, .f32⟩
  | 13 => ⟨S1x16x128x4x256, .f32⟩
  | 14 => ⟨S1x16x128x4x256, .f32⟩
  | 15 => ⟨S1x16x128x4x256, .f32⟩
  | 16 => ⟨S1x16x128x4x256, .f32⟩
  | 17 => ⟨S1x16x4x512x128, .f32⟩
  | 18 => ⟨S1x16x4x128x128, .f32⟩
  | 19 => ⟨S1x16x4x512x128, .f32⟩
  | 20 => ⟨S1x16x128x4x512, .f32⟩
  | 21 => ⟨S1x16x128x4x512, .f32⟩
  | 22 => ⟨S1x16x4x128x128, .f32⟩
  | 23 => ⟨S1x16x4x128x128, .f32⟩
  | 24 => ⟨S1x16x4x128x256, .f32⟩
  | 25 => ⟨S1x16x128x4x256, .f32⟩
  | 26 => ⟨S1x16x128x4x256, .f32⟩
  | 27 => ⟨S1x16x4x128x256, .f32⟩
  | 28 => ⟨S1x16x128x4x256, .f32⟩
  | 29 => ⟨S1x16x128x4x256, .f32⟩
  | 30 => ⟨S1x2048x4x512, .f32⟩
  | 31 => ⟨S1x2048x4x256, .f32⟩
  | 32 => ⟨S1x2048x4x256, .f32⟩
  | 33 => ⟨S2048x1024, .f32⟩
  | 34 => ⟨S2048x1024, .f32⟩
  | 35 => ⟨S2048x2048, .f32⟩
  | _ => ⟨S2x4, .f32⟩

abbrev hbmTy (i : Nat) : BufTy := match i / 128 with
  | 0 => hbmTy0_0 i
  | 1 => hbmTy0_1 i
  | 2 => hbmTy0_2 i
  | _ => ⟨S2x4, .f32⟩

abbrev bufTy : (tb : Table) → Fin (tcTables nBuf tb) → BufTy
  | .hbm, ⟨i, _⟩ => hbmTy i
  | _, _ => ⟨S2x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call0_v0 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_0 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_cst_1 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_cst_2 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_cst_3 : Ref sig .tc := ⟨.hbm, 82, rfl⟩
abbrev main_v72 : Ref sig .tc := ⟨.hbm, 83, rfl⟩
abbrev main_cst_4 : Ref sig .tc := ⟨.hbm, 84, rfl⟩
abbrev main_v73 : Ref sig .tc := ⟨.hbm, 85, rfl⟩
abbrev main_c : Ref sig .tc := ⟨.hbm, 86, rfl⟩
abbrev main_v74_0 : Ref sig .tc := ⟨.hbm, 87, rfl⟩
abbrev main_v74_1 : Ref sig .tc := ⟨.hbm, 88, rfl⟩
abbrev main_v74_2 : Ref sig .tc := ⟨.hbm, 89, rfl⟩
abbrev main_v74_3 : Ref sig .tc := ⟨.hbm, 90, rfl⟩
abbrev main_v74_4 : Ref sig .tc := ⟨.hbm, 91, rfl⟩
abbrev main_while0c_c_21 : Ref sig .tc := ⟨.hbm, 92, rfl⟩
abbrev main_while0c_v167 : Ref sig .tc := ⟨.hbm, 93, rfl⟩
abbrev main_while0b_call1_c : Ref sig .tc := ⟨.hbm, 94, rfl⟩
abbrev main_while0b_call1_c_0 : Ref sig .tc := ⟨.hbm, 95, rfl⟩
abbrev main_while0b_call1_c_1 : Ref sig .tc := ⟨.hbm, 96, rfl⟩
abbrev main_while0b_call1_c_2 : Ref sig .tc := ⟨.hbm, 97, rfl⟩
abbrev main_while0b_call1_v0 : Ref sig .tc := ⟨.hbm, 98, rfl⟩
abbrev main_while0b_v167 : Ref sig .tc := ⟨.hbm, 99, rfl⟩
abbrev main_while0b_v168 : Ref sig .tc := ⟨.hbm, 100, rfl⟩
abbrev main_while0b_v169 : Ref sig .tc := ⟨.hbm, 101, rfl⟩
abbrev main_while0b_v170 : Ref sig .tc := ⟨.hbm, 102, rfl⟩
abbrev main_while0b_call2_v0 : Ref sig .tc := ⟨.hbm, 103, rfl⟩
abbrev main_while0b_call2_c : Ref sig .tc := ⟨.hbm, 104, rfl⟩
abbrev main_while0b_call2_c_0 : Ref sig .tc := ⟨.hbm, 105, rfl⟩
abbrev main_while0b_call2_c_1 : Ref sig .tc := ⟨.hbm, 106, rfl⟩
abbrev main_while0b_call2_c_2 : Ref sig .tc := ⟨.hbm, 107, rfl⟩
abbrev main_while0b_v171 : Ref sig .tc := ⟨.hbm, 108, rfl⟩
abbrev main_while0b_c_21 : Ref sig .tc := ⟨.hbm, 109, rfl⟩
abbrev main_while0b_v172 : Ref sig .tc := ⟨.hbm, 110, rfl⟩
abbrev main_cst_5 : Ref sig .tc := ⟨.hbm, 111, rfl⟩
abbrev main_v75 : Ref sig .tc := ⟨.hbm, 112, rfl⟩
abbrev main_c_6 : Ref sig .tc := ⟨.hbm, 113, rfl⟩
abbrev main_v76_0 : Ref sig .tc := ⟨.hbm, 114, rfl⟩
abbrev main_v76_1 : Ref sig .tc := ⟨.hbm, 115, rfl⟩
abbrev main_v76_2 : Ref sig .tc := ⟨.hbm, 116, rfl⟩
abbrev main_v76_3 : Ref sig .tc := ⟨.hbm, 117, rfl⟩
abbrev main_v76_4 : Ref sig .tc := ⟨.hbm, 118, rfl⟩
abbrev main_while1c_c_21 : Ref sig .tc := ⟨.hbm, 119, rfl⟩
abbrev main_while1c_v167 : Ref sig .tc := ⟨.hbm, 120, rfl⟩
abbrev main_while1b_c_21 : Ref sig .tc := ⟨.hbm, 121, rfl⟩
abbrev main_while1b_v167 : Ref sig .tc := ⟨.hbm, 122, rfl⟩
abbrev main_while1b_c_22 : Ref sig .tc := ⟨.hbm, 123, rfl⟩
abbrev main_while1b_v168 : Ref sig .tc := ⟨.hbm, 124, rfl⟩
abbrev main_while1b_call3_c : Ref sig .tc := ⟨.hbm, 125, rfl⟩
abbrev main_while1b_call3_c_0 : Ref sig .tc := ⟨.hbm, 126, rfl⟩
abbrev main_while1b_call3_c_1 : Ref sig .tc := ⟨.hbm, 127, rfl⟩
abbrev main_while1b_call3_c_2 : Ref sig .tc := ⟨.hbm, 128, rfl⟩
abbrev main_while1b_call3_v0 : Ref sig .tc := ⟨.hbm, 129, rfl⟩
abbrev main_while1b_v169 : Ref sig .tc := ⟨.hbm, 130, rfl⟩
abbrev main_while1b_v170 : Ref sig .tc := ⟨.hbm, 131, rfl⟩
abbrev main_while1b_v171 : Ref sig .tc := ⟨.hbm, 132, rfl⟩
abbrev main_while1b_v172 : Ref sig .tc := ⟨.hbm, 133, rfl⟩
abbrev main_while1b_call4_v0 : Ref sig .tc := ⟨.hbm, 134, rfl⟩
abbrev main_while1b_call4_c : Ref sig .tc := ⟨.hbm, 135, rfl⟩
abbrev main_while1b_call4_c_0 : Ref sig .tc := ⟨.hbm, 136, rfl⟩
abbrev main_while1b_call4_c_1 : Ref sig .tc := ⟨.hbm, 137, rfl⟩
abbrev main_while1b_call4_c_2 : Ref sig .tc := ⟨.hbm, 138, rfl⟩
abbrev main_while1b_v173 : Ref sig .tc := ⟨.hbm, 139, rfl⟩
abbrev main_while1b_c_23 : Ref sig .tc := ⟨.hbm, 140, rfl⟩
abbrev main_while1b_v174 : Ref sig .tc := ⟨.hbm, 141, rfl⟩
abbrev main_v77 : Ref sig .tc := ⟨.hbm, 142, rfl⟩
abbrev main_v78 : Ref sig .tc := ⟨.hbm, 143, rfl⟩
abbrev main_cst_7 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_cst_8 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_cst_9 : Ref sig .tc := ⟨.hbm, 177, rfl⟩
abbrev main_v110 : Ref sig .tc := ⟨.hbm, 178, rfl⟩
abbrev main_cst_10 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_cst_11 : Ref sig .tc := ⟨.hbm, 197, rfl⟩
abbrev main_v128 : Ref sig .tc := ⟨.hbm, 198, rfl⟩
abbrev main_cst_12 : Ref sig .tc := ⟨.hbm, 199, rfl⟩
abbrev main_v129 : Ref sig .tc := ⟨.hbm, 200, rfl⟩
abbrev main_c_13 : Ref sig .tc := ⟨.hbm, 201, rfl⟩
abbrev main_v130_0 : Ref sig .tc := ⟨.hbm, 202, rfl⟩
abbrev main_v130_1 : Ref sig .tc := ⟨.hbm, 203, rfl⟩
abbrev main_v130_2 : Ref sig .tc := ⟨.hbm, 204, rfl⟩
abbrev main_v130_3 : Ref sig .tc := ⟨.hbm, 205, rfl⟩
abbrev main_v130_4 : Ref sig .tc := ⟨.hbm, 206, rfl⟩
abbrev main_while2c_c_21 : Ref sig .tc := ⟨.hbm, 207, rfl⟩
abbrev main_while2c_v167 : Ref sig .tc := ⟨.hbm, 208, rfl⟩
abbrev main_while2b_call5_c : Ref sig .tc := ⟨.hbm, 209, rfl⟩
abbrev main_while2b_call5_c_0 : Ref sig .tc := ⟨.hbm, 210, rfl⟩
abbrev main_while2b_call5_c_1 : Ref sig .tc := ⟨.hbm, 211, rfl⟩
abbrev main_while2b_call5_c_2 : Ref sig .tc := ⟨.hbm, 212, rfl⟩
abbrev main_while2b_call5_v0 : Ref sig .tc := ⟨.hbm, 213, rfl⟩
abbrev main_while2b_v167 : Ref sig .tc := ⟨.hbm, 214, rfl⟩
abbrev main_while2b_v168 : Ref sig .tc := ⟨.hbm, 215, rfl⟩
abbrev main_while2b_v169 : Ref sig .tc := ⟨.hbm, 216, rfl⟩
abbrev main_while2b_v170 : Ref sig .tc := ⟨.hbm, 217, rfl⟩
abbrev main_while2b_call6_v0 : Ref sig .tc := ⟨.hbm, 218, rfl⟩
abbrev main_while2b_call6_c : Ref sig .tc := ⟨.hbm, 219, rfl⟩
abbrev main_while2b_call6_c_0 : Ref sig .tc := ⟨.hbm, 220, rfl⟩
abbrev main_while2b_call6_c_1 : Ref sig .tc := ⟨.hbm, 221, rfl⟩
abbrev main_while2b_call6_c_2 : Ref sig .tc := ⟨.hbm, 222, rfl⟩
abbrev main_while2b_v171 : Ref sig .tc := ⟨.hbm, 223, rfl⟩
abbrev main_while2b_c_21 : Ref sig .tc := ⟨.hbm, 224, rfl⟩
abbrev main_while2b_v172 : Ref sig .tc := ⟨.hbm, 225, rfl⟩
abbrev main_cst_14 : Ref sig .tc := ⟨.hbm, 226, rfl⟩
abbrev main_v131 : Ref sig .tc := ⟨.hbm, 227, rfl⟩
abbrev main_cst_15 : Ref sig .tc := ⟨.hbm, 228, rfl⟩
abbrev main_v132 : Ref sig .tc := ⟨.hbm, 229, rfl⟩
abbrev main_c_16 : Ref sig .tc := ⟨.hbm, 230, rfl⟩
abbrev main_v133_0 : Ref sig .tc := ⟨.hbm, 231, rfl⟩
abbrev main_v133_1 : Ref sig .tc := ⟨.hbm, 232, rfl⟩
abbrev main_v133_2 : Ref sig .tc := ⟨.hbm, 233, rfl⟩
abbrev main_v133_3 : Ref sig .tc := ⟨.hbm, 234, rfl⟩
abbrev main_v133_4 : Ref sig .tc := ⟨.hbm, 235, rfl⟩
abbrev main_while3c_c_21 : Ref sig .tc := ⟨.hbm, 236, rfl⟩
abbrev main_while3c_v167 : Ref sig .tc := ⟨.hbm, 237, rfl⟩
abbrev main_while3b_c_21 : Ref sig .tc := ⟨.hbm, 238, rfl⟩
abbrev main_while3b_v167 : Ref sig .tc := ⟨.hbm, 239, rfl⟩
abbrev main_while3b_c_22 : Ref sig .tc := ⟨.hbm, 240, rfl⟩
abbrev main_while3b_v168 : Ref sig .tc := ⟨.hbm, 241, rfl⟩
abbrev main_while3b_call7_c : Ref sig .tc := ⟨.hbm, 242, rfl⟩
abbrev main_while3b_call7_c_0 : Ref sig .tc := ⟨.hbm, 243, rfl⟩
abbrev main_while3b_call7_c_1 : Ref sig .tc := ⟨.hbm, 244, rfl⟩
abbrev main_while3b_call7_c_2 : Ref sig .tc := ⟨.hbm, 245, rfl⟩
abbrev main_while3b_call7_v0 : Ref sig .tc := ⟨.hbm, 246, rfl⟩
abbrev main_while3b_v169 : Ref sig .tc := ⟨.hbm, 247, rfl⟩
abbrev main_while3b_v170 : Ref sig .tc := ⟨.hbm, 248, rfl⟩
abbrev main_while3b_v171 : Ref sig .tc := ⟨.hbm, 249, rfl⟩
abbrev main_while3b_v172 : Ref sig .tc := ⟨.hbm, 250, rfl⟩
abbrev main_while3b_call8_v0 : Ref sig .tc := ⟨.hbm, 251, rfl⟩
abbrev main_while3b_call8_c : Ref sig .tc := ⟨.hbm, 252, rfl⟩
abbrev main_while3b_call8_c_0 : Ref sig .tc := ⟨.hbm, 253, rfl⟩
abbrev main_while3b_call8_c_1 : Ref sig .tc := ⟨.hbm, 254, rfl⟩
abbrev main_while3b_call8_c_2 : Ref sig .tc := ⟨.hbm, 255, rfl⟩
abbrev main_while3b_v173 : Ref sig .tc := ⟨.hbm, 256, rfl⟩
abbrev main_while3b_c_23 : Ref sig .tc := ⟨.hbm, 257, rfl⟩
abbrev main_while3b_v174 : Ref sig .tc := ⟨.hbm, 258, rfl⟩
abbrev main_v134 : Ref sig .tc := ⟨.hbm, 259, rfl⟩
abbrev main_v135 : Ref sig .tc := ⟨.hbm, 260, rfl⟩
abbrev main_v136 : Ref sig .tc := ⟨.hbm, 261, rfl⟩
abbrev main_v137 : Ref sig .tc := ⟨.hbm, 262, rfl⟩
abbrev main_v138 : Ref sig .tc := ⟨.hbm, 263, rfl⟩
abbrev main_v139 : Ref sig .tc := ⟨.hbm, 264, rfl⟩
abbrev main_v140 : Ref sig .tc := ⟨.hbm, 265, rfl⟩
abbrev main_v141 : Ref sig .tc := ⟨.hbm, 266, rfl⟩
abbrev main_v142 : Ref sig .tc := ⟨.hbm, 267, rfl⟩
abbrev main_v143 : Ref sig .tc := ⟨.hbm, 268, rfl⟩
abbrev main_v144 : Ref sig .tc := ⟨.hbm, 269, rfl⟩
abbrev main_v145 : Ref sig .tc := ⟨.hbm, 270, rfl⟩
abbrev main_v146 : Ref sig .tc := ⟨.hbm, 271, rfl⟩
abbrev main_v147 : Ref sig .tc := ⟨.hbm, 272, rfl⟩
abbrev main_v148 : Ref sig .tc := ⟨.hbm, 273, rfl⟩
abbrev main_v149 : Ref sig .tc := ⟨.hbm, 274, rfl⟩
abbrev main_v150 : Ref sig .tc := ⟨.hbm, 275, rfl⟩
abbrev main_v151 : Ref sig .tc := ⟨.hbm, 276, rfl⟩
abbrev main_v152 : Ref sig .tc := ⟨.hbm, 277, rfl⟩
abbrev main_v153 : Ref sig .tc := ⟨.hbm, 278, rfl⟩
abbrev main_v154 : Ref sig .tc := ⟨.hbm, 279, rfl⟩
abbrev main_v155 : Ref sig .tc := ⟨.hbm, 280, rfl⟩
abbrev main_v156 : Ref sig .tc := ⟨.hbm, 281, rfl⟩
abbrev main_v157 : Ref sig .tc := ⟨.hbm, 282, rfl⟩
abbrev main_v158 : Ref sig .tc := ⟨.hbm, 283, rfl⟩
abbrev main_v159 : Ref sig .tc := ⟨.hbm, 284, rfl⟩
abbrev main_v160 : Ref sig .tc := ⟨.hbm, 285, rfl⟩
abbrev main_v161 : Ref sig .tc := ⟨.hbm, 286, rfl⟩
abbrev main_v162 : Ref sig .tc := ⟨.hbm, 287, rfl⟩
abbrev main_v163 : Ref sig .tc := ⟨.hbm, 288, rfl⟩
abbrev main_v164 : Ref sig .tc := ⟨.hbm, 289, rfl⟩
abbrev main_v165 : Ref sig .tc := ⟨.hbm, 290, rfl⟩
abbrev main_v166 : Ref sig .tc := ⟨.hbm, 291, rfl⟩

abbrev nD : Nat := 1
abbrev τ : Topo := Topo.v7x

variable {F : FTy → Type} [FloatOps F]

abbrev main_while0_count : Scf.Loop 32 := ⟨0#32, 16#32, 1#32⟩

abbrev main_while1_count : Scf.Loop 32 := ⟨0#32, 16#32, 1#32⟩

abbrev main_while2_count : Scf.Loop 32 := ⟨0#32, 16#32, 1#32⟩

abbrev main_while3_count : Scf.Loop 32 := ⟨0#32, 16#32, 1#32⟩
-- ==== Kernel2.lean ====
abbrev S2048x2048 : Shape := ⟨2, ![2048, 2048]⟩
abbrev S1x2048 : Shape := ⟨2, ![1, 2048]⟩
abbrev S2048x6144 : Shape := ⟨2, ![2048, 6144]⟩
abbrev S6144x2048 : Shape := ⟨2, ![6144, 2048]⟩
abbrev S256x2048 : Shape := ⟨2, ![256, 2048]⟩
abbrev S256 : Shape := ⟨1, ![256]⟩
abbrev S256x1 : Shape := ⟨2, ![256, 1]⟩
abbrev S1024x2048 : Shape := ⟨2, ![1024, 2048]⟩
abbrev S2048x1024 : Shape := ⟨2, ![2048, 1024]⟩
abbrev S1024x1024 : Shape := ⟨2, ![1024, 1024]⟩
abbrev S128x6144 : Shape := ⟨2, ![128, 6144]⟩

abbrev nBuf : Space → Nat
  | .hbm => 16
  | .vmem => 57
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x6144, .bf16⟩
  | .hbm, ⟨3, _⟩ => ⟨S2048x6144, .bf16⟩
  | .hbm, ⟨4, _⟩ => ⟨S6144x2048, .bf16⟩
  | .hbm, ⟨5, _⟩ => ⟨S2048x2048, .f32⟩
  | .hbm, ⟨6, _⟩ => ⟨S2048x2048, .bf16⟩
  | .hbm, ⟨7, _⟩ => ⟨S2048x6144, .f32⟩
  | .hbm, ⟨8, _⟩ => ⟨S2048x6144, .f32⟩
  | .hbm, ⟨9, _⟩ => ⟨S2048x6144, .bf16⟩
  | .hbm, ⟨10, _⟩ => ⟨S2048x6144, .f32⟩
  | .hbm, ⟨11, _⟩ => ⟨S6144x2048, .bf16⟩
  | .hbm, ⟨12, _⟩ => ⟨S2048x6144, .bf16⟩
  | .hbm, ⟨13, _⟩ => ⟨S2048x6144, .bf16⟩
  | .hbm, ⟨14, _⟩ => ⟨S2048x6144, .bf16⟩
  | .hbm, ⟨15, _⟩ => ⟨S2048x6144, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S1024x2048, .bf16⟩
  | .local _ .vmem, ⟨6, _⟩ => ⟨S1024x2048, .bf16⟩
  | .local _ .vmem, ⟨7, _⟩ => ⟨S2048x1024, .bf16⟩
  | .local _ .vmem, ⟨8, _⟩ => ⟨S2048x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x2048, .bf16⟩
  | .local _ .vmem, ⟨12, _⟩ => ⟨S1024x2048, .bf16⟩
  | .local _ .vmem, ⟨13, _⟩ => ⟨S2048x1024, .bf16⟩
  | .local _ .vmem, ⟨14, _⟩ => ⟨S2048x1024, .bf16⟩
  | .local _ .vmem, ⟨15, _⟩ => ⟨S1024x1024, .f32⟩
  | .local _ .vmem, ⟨16, _⟩ => ⟨S1024x1024, .f32⟩
  | .local _ .vmem, ⟨17, _⟩ => ⟨S128x6144, .f32⟩
  | .local _ .vmem, ⟨18, _⟩ => ⟨S128x6144, .f32⟩
  | .local _ .vmem, ⟨19, _⟩ => ⟨S128x6144, .f32⟩
  | .local _ .vmem, ⟨20, _⟩ => ⟨S128x6144, .f32⟩
  | .local _ .vmem, ⟨21, _⟩ => ⟨S128x6144, .bf16⟩
  | .local _ .vmem, ⟨22, _⟩ => ⟨S128x6144, .bf16⟩
  | .local _ .vmem, ⟨23, _⟩ => ⟨S1024x2048, .f32⟩
  | .local _ .vmem, ⟨24, _⟩ => ⟨S1024x2048, .f32⟩
  | .local _ .vmem, ⟨25, _⟩ => ⟨S1024x2048, .bf16⟩
  | .local _ .vmem, ⟨26, _⟩ => ⟨S1024x2048, .bf16⟩
  | .local _ .vmem, ⟨27, _⟩ => ⟨S1024x1024, .f32⟩
  | .local _ .vmem, ⟨28, _⟩ => ⟨S1024x1024, .f32⟩
  | .local _ .vmem, ⟨29, _⟩ => ⟨S2048x1024, .bf16⟩
  | .local _ .vmem, ⟨30, _⟩ => ⟨S2048x1024, .bf16⟩
  | .local _ .vmem, ⟨31, _⟩ => ⟨S2048x1024, .f32⟩
  | .local _ .vmem, ⟨32, _⟩ => ⟨S2048x1024, .f32⟩
  | .local _ .vmem, ⟨33, _⟩ => ⟨S1024x1024, .bf16⟩
  | .local _ .vmem, ⟨34, _⟩ => ⟨S1024x1024, .bf16⟩
  | .local _ .vmem, ⟨35, _⟩ => ⟨S128x6144, .f32⟩
  | .local _ .vmem, ⟨36, _⟩ => ⟨S128x6144, .f32⟩
  | .local _ .vmem, ⟨37, _⟩ => ⟨S128x6144, .f32⟩
  | .local _ .vmem, ⟨38, _⟩ => ⟨S128x6144, .f32⟩
  | .local _ .vmem, ⟨39, _⟩ => ⟨S128x6144, .f32⟩
  | .local _ .vmem, ⟨40, _⟩ => ⟨S128x6144, .f32⟩
  | .local _ .vmem, ⟨41, _⟩ => ⟨S128x6144, .bf16⟩
  | .local _ .vmem, ⟨42, _⟩ => ⟨S128x6144, .bf16⟩
  | .local _ .vmem, ⟨43, _⟩ => ⟨S128x6144, .bf16⟩
  | .local _ .vmem, ⟨44, _⟩ => ⟨S128x6144, .bf16⟩
  | .local _ .vmem, ⟨45, _⟩ => ⟨S2048x1024, .bf16⟩
  | .local _ .vmem, ⟨46, _⟩ => ⟨S2048x1024, .bf16⟩
  | .local _ .vmem, ⟨47, _⟩ => ⟨S2048x1024, .bf16⟩
  | .local _ .vmem, ⟨48, _⟩ => ⟨S2048x1024, .bf16⟩
  | .local _ .vmem, ⟨49, _⟩ => ⟨S1024x1024, .bf16⟩
  | .local _ .vmem, ⟨50, _⟩ => ⟨S1024x1024, .bf16⟩
  | .local _ .vmem, ⟨51, _⟩ => ⟨S2048x1024, .bf16⟩
  | .local _ .vmem, ⟨52, _⟩ => ⟨S2048x1024, .bf16⟩
  | .local _ .vmem, ⟨53, _⟩ => ⟨S2048x1024, .bf16⟩
  | .local _ .vmem, ⟨54, _⟩ => ⟨S2048x1024, .bf16⟩
  | .local _ .vmem, ⟨55, _⟩ => ⟨S1024x1024, .bf16⟩
  | .local _ .vmem, ⟨56, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg1_1 : Ref sig .tc := ⟨.vmem, 38, rfl⟩
abbrev cc6_stg2_0 : Ref sig .tc := ⟨.vmem, 39, rfl⟩
abbrev cc6_stg2_1 : Ref sig .tc := ⟨.vmem, 40, rfl⟩
abbrev cc6_stg3_0 : Ref sig .tc := ⟨.vmem, 41, rfl⟩
abbrev cc6_stg3_1 : Ref sig .tc := ⟨.vmem, 42, rfl⟩
abbrev cc6_stg4_0 : Ref sig .tc := ⟨.vmem, 43, rfl⟩
abbrev cc6_stg4_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg1_1 : Ref sig .tc := ⟨.vmem, 48, rfl⟩
abbrev cc7_stg2_0 : Ref sig .tc := ⟨.vmem, 49, rfl⟩
abbrev cc7_stg2_1 : Ref sig .tc := ⟨.vmem, 50, rfl⟩
abbrev cc8_stg0_0 : Ref sig .tc := ⟨.vmem, 51, rfl⟩
abbrev cc8_stg0_1 : Ref sig .tc := ⟨.vmem, 52, rfl⟩
abbrev cc8_stg1_0 : Ref sig .tc := ⟨.vmem, 53, rfl⟩
abbrev cc8_stg1_1 : Ref sig .tc := ⟨.vmem, 54, rfl⟩
abbrev cc8_stg2_0 : Ref sig .tc := ⟨.vmem, 55, rfl⟩
abbrev cc8_stg2_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem2_1 : DmaSem sig := 34
abbrev cc6_sem0_0 : DmaSem sig := 35
abbrev cc6_sem0_1 : DmaSem sig := 36
abbrev cc6_sem1_0 : DmaSem sig := 37
abbrev cc6_sem1_1 : DmaSem sig := 38
abbrev cc6_sem2_0 : DmaSem sig := 39
abbrev cc6_sem2_1 : DmaSem sig := 40
abbrev cc6_sem3_0 : DmaSem sig := 41
abbrev cc6_sem3_1 : DmaSem sig := 42
abbrev cc6_sem4_0 : DmaSem sig := 43
abbrev cc6_sem4_1 : DmaSem sig := 44
abbrev cc7_sem0_0 : DmaSem sig := 45
abbrev cc7_sem0_1 : DmaSem sig := 46
abbrev cc7_sem1_0 : DmaSem sig := 47
abbrev cc7_sem1_1 : DmaSem sig := 48
abbrev cc7_sem2_0 : DmaSem sig := 49
abbrev cc7_sem2_1 : DmaSem sig := 50
abbrev cc8_sem0_0 : DmaSem sig := 51
abbrev cc8_sem0_1 : DmaSem sig := 52
abbrev cc8_sem1_0 : DmaSem sig := 53
abbrev cc8_sem1_1 : DmaSem sig := 54
abbrev cc8_sem2_0 : DmaSem sig := 55
abbrev cc8_sem2_1 : DmaSem sig := 56

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![2, 6, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 6, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x6144 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x6144 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x6144 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨3, ![2, 6, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![6, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2048x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S2048x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S128x6144 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S128x6144 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S128x6144 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S128x6144 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S128x6144 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨3, ![2, 6, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S2048x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S2048x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![2, 6, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S2048x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S2048x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1024x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]
-- ==== Reference2Ideal.lean ====
abbrev S2048x2048 : Shape := ⟨2, ![2048, 2048]⟩
abbrev S1x2048 : Shape := ⟨2, ![1, 2048]⟩
abbrev S2048x6144 : Shape := ⟨2, ![2048, 6144]⟩
abbrev S6144x2048 : Shape := ⟨2, ![6144, 2048]⟩
abbrev S2048 : Shape := ⟨1, ![2048]⟩
abbrev S_ : Shape := ⟨0, ![]⟩
abbrev S2048x1 : Shape := ⟨2, ![2048, 1]⟩

abbrev nBuf : Space → Nat
  | .hbm => 59
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x6144, .bf16⟩
  | .hbm, ⟨3, _⟩ => ⟨S2048x6144, .bf16⟩
  | .hbm, ⟨4, _⟩ => ⟨S6144x2048, .bf16⟩
  | .hbm, ⟨5, _⟩ => ⟨S2048x2048, .f32⟩
  | .hbm, ⟨6, _⟩ => ⟨S2048x6144, .f32⟩
  | .hbm, ⟨7, _⟩ => ⟨S2048x6144, .f32⟩
  | .hbm, ⟨8, _⟩ => ⟨S6144x2048, .f32⟩
  | .hbm, ⟨9, _⟩ => ⟨S2048, .f32⟩
  | .hbm, ⟨10, _⟩ => ⟨S2048x2048, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S1x2048, .f32⟩
  | .hbm, ⟨24, _⟩ => ⟨S2048x2048, .f32⟩
  | .hbm, ⟨25, _⟩ => ⟨S2048x2048, .f32⟩
  | .hbm, ⟨26, _⟩ => ⟨S2048x6144, .f32⟩
  | .hbm, ⟨27, _⟩ => ⟨S2048x6144, .f32⟩
  | .hbm, ⟨28, _⟩ => ⟨S2048x6144, .f32⟩
  | .hbm, ⟨29, _⟩ => ⟨S_, .f32⟩
  | .hbm, ⟨30, _⟩ => ⟨S2048x6144, .f32⟩
  | .hbm, ⟨31, _⟩ => ⟨S2048x6144, .f32⟩
  | .hbm, ⟨32, _⟩ => ⟨S_, .f32⟩
  | .hbm, ⟨33, _⟩ => ⟨S2048x6144, .f32⟩
  | .hbm, ⟨34, _⟩ => ⟨S2048x6144, .f32⟩
  | .hbm, ⟨35, _⟩ => ⟨S_, .f32⟩
  | .hbm, ⟨36, _⟩ => ⟨S2048x6144, .f32⟩
  | .hbm, ⟨37, _⟩ => ⟨S2048x6144, .f32⟩
  | .hbm, ⟨38, _⟩ => ⟨S2048x6144, .f32⟩
  | .hbm, ⟨39, _⟩ => ⟨S2048x6144, .f32⟩
  | .hbm, ⟨40, _⟩ => ⟨S2048x6144, .f32⟩
  | .hbm, ⟨41, _⟩ => ⟨S2048x6144, .f32⟩
  | .hbm, ⟨42, _⟩ => ⟨S2048x2048, .f32⟩
  | .hbm, ⟨43, _⟩ => ⟨S2048x6144, .f32⟩
  | .hbm, ⟨44, _⟩ => ⟨S6144x2048, .f32⟩
  | .hbm, ⟨45, _⟩ => ⟨S2048x6144, .f32⟩
  | .hbm, ⟨46, _⟩ => ⟨S2048x6144, .f32⟩
  | .hbm, ⟨47, _⟩ => ⟨S2048x6144, .f32⟩
  | .hbm, ⟨48, _⟩ => ⟨S6144x2048, .f32⟩
  | .hbm, ⟨49, _⟩ => ⟨S2048x6144, .f32⟩
  | .hbm, ⟨50, _⟩ => ⟨S2048x6144, .f32⟩
  | .hbm, ⟨51, _⟩ => ⟨S2048x6144, .f32⟩
  | .hbm, ⟨52, _⟩ => ⟨S2048x6144, .f32⟩
  | .hbm, ⟨53, _⟩ => ⟨S2048x6144, .f32⟩
  | .hbm, ⟨54, _⟩ => ⟨S6144x2048, .f32⟩
  | .hbm, ⟨55, _⟩ => ⟨S2048x6144, .f32⟩
  | .hbm, ⟨56, _⟩ => ⟨S2048x6144, .bf16⟩
  | .hbm, ⟨57, _⟩ => ⟨S2048x6144, .bf16⟩
  | .hbm, ⟨58, _⟩ => ⟨S6144x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩

abbrev nD : Nat := 1
abbrev τ : Topo := Topo.v7x

variable {F : FTy → Type} [FloatOps F]
-- ==== Kernel3.lean ====
abbrev S2048x6144 : Shape := ⟨2, ![2048, 6144]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S2048x6144, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x6144 : Shape := ⟨2, ![2048, 6144]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x6144, .bf16⟩
  | .hbm, ⟨2, _⟩ => ⟨S2048x6144, .f32⟩
  | .hbm, ⟨3, _⟩ => ⟨S_, .f32⟩
  | .hbm, ⟨4, _⟩ => ⟨S2048x2048, .f32⟩
  | .hbm, ⟨5, _⟩ => ⟨S2048x6144, .f32⟩
  | .hbm, ⟨6, _⟩ => ⟨S2048x6144, .f32⟩
  | .hbm, ⟨7, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S2048x6144 : Shape := ⟨2, ![2048, 6144]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x6144, .bf16⟩
  | .hbm, ⟨1, _⟩ => ⟨S2048x6144, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S2048x6144 : Shape := ⟨2, ![2048, 6144]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x6144, .bf16⟩
  | .hbm, ⟨2, _⟩ => ⟨S2048x2048, .f32⟩
  | .hbm, ⟨3, _⟩ => ⟨S2048x6144, .f32⟩
  | .hbm, ⟨4, _⟩ => ⟨S_, .f32⟩
  | .hbm, ⟨5, _⟩ => ⟨S2048x2048, .f32⟩
  | .hbm, ⟨6, _⟩ => ⟨S2048x6144, .f32⟩
  | .hbm, ⟨7, _⟩ => ⟨S2048x6144, .f32⟩
  | .hbm, ⟨8, _⟩ => ⟨S2048x2048, .f32⟩
  | .hbm, ⟨9, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel5.lean ====
abbrev S2048x6144 : Shape := ⟨2, ![2048, 6144]⟩
abbrev S6144x2048 : Shape := ⟨2, ![6144, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x6144, .bf16⟩
  | .hbm, ⟨1, _⟩ => ⟨S6144x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S2048x6144 : Shape := ⟨2, ![2048, 6144]⟩
abbrev S6144x2048 : Shape := ⟨2, ![6144, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S6144x2048, .bf16⟩
  | .hbm, ⟨2, _⟩ => ⟨S2048x2048, .f32⟩
  | .hbm, ⟨3, _⟩ => ⟨S2048x6144, .f32⟩
  | .hbm, ⟨4, _⟩ => ⟨S6144x2048, .f32⟩
  | .hbm, ⟨5, _⟩ => ⟨S2048x2048, .f32⟩
  | .hbm, ⟨6, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S2048x12288 : Shape := ⟨2, ![2048, 12288]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x12288, .bf16⟩
  | .hbm, ⟨1, _⟩ => ⟨S2048x12288, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x12288 : Shape := ⟨2, ![2048, 12288]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x12288, .bf16⟩
  | .hbm, ⟨1, _⟩ => ⟨S2048x12288, .bf16⟩
  | .hbm, ⟨2, _⟩ => ⟨S2048x12288, .f32⟩
  | .hbm, ⟨3, _⟩ => ⟨S_, .f32⟩
  | .hbm, ⟨4, _⟩ => ⟨S2048x2048, .f32⟩
  | .hbm, ⟨5, _⟩ => ⟨S2048x12288, .f32⟩
  | .hbm, ⟨6, _⟩ => ⟨S2048x12288, .f32⟩
  | .hbm, ⟨7, _⟩ => ⟨S2048x2048, .f32⟩
  | _, _ => ⟨S2048x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S2048x2048 : Shape := ⟨2, ![2048, 2048]⟩
abbrev S1x2048 : Shape := ⟨2, ![1, 2048]⟩
abbrev S2048x12288 : Shape := ⟨2, ![2048, 12288]⟩
abbrev S256x2048 : Shape := ⟨2, ![256, 2048]⟩
abbrev S256 : Shape := ⟨1, ![256]⟩
abbrev S256x1 : Shape := ⟨2, ![256, 1]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 17
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x12288, .bf16⟩
  | .hbm, ⟨3, _⟩ => ⟨S2048x12288, .bf16⟩
  | .hbm, ⟨4, _⟩ => ⟨S2048x2048, .bf16⟩
  | .hbm, ⟨5, _⟩ => ⟨S2048x12288, .f32⟩
  | .hbm, ⟨6, _⟩ => ⟨S2048x12288, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S1024x2048, .bf16⟩
  | .local _ .vmem, ⟨6, _⟩ => ⟨S1024x2048, .bf16⟩
  | .local _ .vmem, ⟨7, _⟩ => ⟨S2048x1024, .bf16⟩
  | .local _ .vmem, ⟨8, _⟩ => ⟨S2048x1024, .bf16⟩
  | .local _ .vmem, ⟨9, _⟩ => ⟨S1024x1024, .f32⟩
  | .local _ .vmem, ⟨10, _⟩ => ⟨S1024x1024, .f32⟩
  | .local _ .vmem, ⟨11, _⟩ => ⟨S2048x1024, .bf16⟩
  | .local _ .vmem, ⟨12, _⟩ => ⟨S2048x1024, .bf16⟩
  | .local _ .vmem, ⟨13, _⟩ => ⟨S2048x1024, .bf16⟩
  | .local _ .vmem, ⟨14, _⟩ => ⟨S2048x1024, .bf16⟩
  | .local _ .vmem, ⟨15, _⟩ => ⟨S1024x1024, .bf16⟩
  | .local _ .vmem, ⟨16, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![2, 12, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 12, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference7Ideal.lean ====
abbrev S2048x2048 : Shape := ⟨2, ![2048, 2048]⟩
abbrev S1x2048 : Shape := ⟨2, ![1, 2048]⟩
abbrev S2048x12288 : Shape := ⟨2, ![2048, 12288]⟩
abbrev S2048 : Shape := ⟨1, ![2048]⟩
abbrev S_ : Shape := ⟨0, ![]⟩
abbrev S2048x1 : Shape := ⟨2, ![2048, 1]⟩
abbrev S12288x2048 : Shape := ⟨2, ![12288, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x12288, .bf16⟩
  | .hbm, ⟨3, _⟩ => ⟨S2048x12288, .bf16⟩
  | .hbm, ⟨4, _⟩ => ⟨S2048x12288, .f32⟩
  | .hbm, ⟨5, _⟩ => ⟨S2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S1x2048, .f32⟩
  | .hbm, ⟨20, _⟩ => ⟨S2048x2048, .f32⟩
  | .hbm, ⟨21, _⟩ => ⟨S2048x2048, .f32⟩
  | .hbm, ⟨22, _⟩ => ⟨S2048x12288, .f32⟩
  | .hbm, ⟨23, _⟩ => ⟨S2048x12288, .f32⟩
  | .hbm, ⟨24, _⟩ => ⟨S12288x2048, .f32⟩
  | .hbm, ⟨25, _⟩ => ⟨S2048x12288, .f32⟩
  | .hbm, ⟨26, _⟩ => ⟨S2048x12288, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel8.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 14
  | .vmem => 40
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S2048x2048, .bf16⟩
  | .hbm, ⟨5, _⟩ => ⟨S2048x2048, .bf16⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | .hbm, ⟨12, _⟩ => ⟨S2048x2048, .f32⟩
  | .hbm, ⟨13, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x2048, .f32⟩
  | .local _ .vmem, ⟨15, _⟩ => ⟨S1024x2048, .f32⟩
  | .local _ .vmem, ⟨16, _⟩ => ⟨S1024x2048, .bf16⟩
  | .local _ .vmem, ⟨17, _⟩ => ⟨S1024x2048, .bf16⟩
  | .local _ .vmem, ⟨18, _⟩ => ⟨S1024x1024, .f32⟩
  | .local _ .vmem, ⟨19, _⟩ => ⟨S1024x1024, .f32⟩
  | .local _ .vmem, ⟨20, _⟩ => ⟨S2048x1024, .bf16⟩
  | .local _ .vmem, ⟨21, _⟩ => ⟨S2048x1024, .bf16⟩
  | .local _ .vmem, ⟨22, _⟩ => ⟨S2048x1024, .f32⟩
  | .local _ .vmem, ⟨23, _⟩ => ⟨S2048x1024, .f32⟩
  | .local _ .vmem, ⟨24, _⟩ => ⟨S1024x1024, .bf16⟩
  | .local _ .vmem, ⟨25, _⟩ => ⟨S1024x1024, .bf16⟩
  | .local _ .vmem, ⟨26, _⟩ => ⟨S1024x2048, .bf16⟩
  | .local _ .vmem, ⟨27, _⟩ => ⟨S1024x2048, .bf16⟩
  | .local _ .vmem, ⟨28, _⟩ => ⟨S1024x2048, .bf16⟩
  | .local _ .vmem, ⟨29, _⟩ => ⟨S1024x2048, .bf16⟩
  | .local _ .vmem, ⟨30, _⟩ => ⟨S1024x1024, .f32⟩
  | .local _ .vmem, ⟨31, _⟩ => ⟨S1024x1024, .f32⟩
  | .local _ .vmem, ⟨32, _⟩ => ⟨S1024x1024, .f32⟩
  | .local _ .vmem, ⟨33, _⟩ => ⟨S1024x1024, .f32⟩
  | .local _ .vmem, ⟨34, _⟩ => ⟨S2048x1024, .bf16⟩
  | .local _ .vmem, ⟨35, _⟩ => ⟨S2048x1024, .bf16⟩
  | .local _ .vmem, ⟨36, _⟩ => ⟨S2048x1024, .bf16⟩
  | .local _ .vmem, ⟨37, _⟩ => ⟨S2048x1024, .bf16⟩
  | .local _ .vmem, ⟨38, _⟩ => ⟨S1024x1024, .bf16⟩
  | .local _ .vmem, ⟨39, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨3, ![2, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2048x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== Reference8Ideal.lean ====
abbrev S2048x2048 : Shape := ⟨2, ![2048, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S2048x2048, .bf16⟩
  | .hbm, ⟨5, _⟩ => ⟨S2048x2048, .bf16⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .bf16⟩
  | .hbm, ⟨23, _⟩ => ⟨S2048x2048, .f32⟩
  | .hbm, ⟨24, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel9.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference9Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel10.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1x256x2048 : Shape := ⟨3, ![1, 256, 2048]⟩
abbrev S1 : Shape := ⟨1, ![1]⟩
abbrev S1x1x1 : Shape := ⟨3, ![1, 1, 1]⟩

abbrev nBuf : Space → Nat
  | .hbm => 6
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference10Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x2048, .f32⟩
  | .hbm, ⟨60, _⟩ => ⟨S2048x2048, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S1x2048, .f32⟩
  | .hbm, ⟨73, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel11.lean ====
abbrev S2x4 : Shape := ⟨2, ![2, 4]⟩
abbrev S2048x1024 : Shape := ⟨2, ![2048, 1024]⟩
abbrev S2048x2048 : Shape := ⟨2, ![2048, 2048]⟩
abbrev S2048x256 : Shape := ⟨2, ![2048, 256]⟩
abbrev S2048x512 : Shape := ⟨2, ![2048, 512]⟩
abbrev S256x512 : Shape := ⟨2, ![256, 512]⟩
abbrev S1x1 : Shape := ⟨2, ![1, 1]⟩
abbrev S128x256 : Shape := ⟨2, ![128, 256]⟩
abbrev S128x512 : Shape := ⟨2, ![128, 512]⟩
abbrev S128x1 : Shape := ⟨2, ![128, 1]⟩
abbrev S128x128 : Shape := ⟨2, ![128, 128]⟩

abbrev nBuf : Space → Nat
  | .hbm => 5
  | .vmem => 9
  | .smem => 1
  | _ => 0

abbrev bufTy : (tb : Table) → Fin (tcTables nBuf tb) → BufTy
  | .hbm, ⟨0, _⟩ => ⟨S2x4, .f32⟩
  | .hbm, ⟨1, _⟩ => ⟨S2048x1024, .bf16⟩
  | .hbm, ⟨2, _⟩ => ⟨S2048x1024, .bf16⟩
  | .hbm, ⟨3, _⟩ => ⟨S2048x2048, .bf16⟩
  | .hbm, ⟨4, _⟩ => ⟨S2048x2048, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | .local _ .vmem, ⟨7, _⟩ => ⟨S2048x512, .f32⟩
  | .local _ .vmem, ⟨8, _⟩ => ⟨S256x512, .f32⟩
  | .local _ .smem, ⟨0, _⟩ => ⟨S2x4, .f32⟩
  | _, _ => ⟨S2x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c1 : Index := 1#32
  let arg0 : BitVec 32 := BitVec.ofNat 32 (i 0).val
  let v3 : Index := Scalar.indexCast arg0
  ![1, v3.toNat]
@[reducible] def k0_t1_loop : Scf.Loop 32 :=
  let c0_i32 : BitVec 32 := 0#32
  let c16_i32 : BitVec 32 := 16#32
  let v16 : BitVec 32 := Scalar.addi c0_i32 c16_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v22 : BitVec 32 := Scalar.muli arg7 c128_i32
  v22
def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v22 : BitVec 32 := Scalar.muli arg7 c128_i32
  let v23 : BitVec 32 := v22
  let v24 : Index := Scalar.indexCast v23
  let c0_12 : Index := 0#32
  ![v24.toNat, 0]
def k0_off4 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v22 : BitVec 32 := Scalar.muli arg7 c128_i32
  let v23 : BitVec 32 := v22
  let v30 : Index := Scalar.indexCast v23
  let c0_14 : Index := 0#32
  ![v30.toNat, 0]
@[reducible] def k0_t2_loop : Scf.Loop 32 :=
  let c0_i32_8 : BitVec 32 := 0#32
  let c16_i32_9 : BitVec 32 := 16#32
  let v21 : BitVec 32 := Scalar.addi c0_i32_8 c16_i32_9
  let c1_i32_10 : BitVec 32 := 1#32
  ⟨c0_i32_8, v21, c1_i32_10⟩
def k0_mult2 (k0_t2 : Fin k0_t2_loop.trips) : BitVec 32 :=
  let c15_i32 : BitVec 32 := 15#32
  let c0_i32_8 : BitVec 32 := 0#32
  let c1_i32_10 : BitVec 32 := 1#32
  let arg7 : BitVec 32 := Scf.iv c0_i32_8 c1_i32_10 k0_t2
  let v22 : BitVec 32 := Scalar.subi c15_i32 arg7
  let c128_i32 : BitVec 32 := 128#32
  let v23 : BitVec 32 := Scalar.muli v22 c128_i32
  v23
def k0_off5 (k0_t2 : Fin k0_t2_loop.trips) : Fin 2 → Nat :=
  let c15_i32 : BitVec 32 := 15#32
  let c0_i32_8 : BitVec 32 := 0#32
  let c1_i32_10 : BitVec 32 := 1#32
  let arg7 : BitVec 32 := Scf.iv c0_i32_8 c1_i32_10 k0_t2
  let v22 : BitVec 32 := Scalar.subi c15_i32 arg7
  let c128_i32 : BitVec 32 := 128#32
  let v23 : BitVec 32 := Scalar.muli v22 c128_i32
  let v24 : BitVec 32 := v23
  let v25 : Index := Scalar.indexCast v24
  let c0_12 : Index := 0#32
  ![v25.toNat, 0]
def k0_off6 (k0_t2 : Fin k0_t2_loop.trips) : Fin 2 → Nat :=
  let c15_i32 : BitVec 32 := 15#32
  let c0_i32_8 : BitVec 32 := 0#32
  let c1_i32_10 : BitVec 32 := 1#32
  let arg7 : BitVec 32 := Scf.iv c0_i32_8 c1_i32_10 k0_t2
  let v22 : BitVec 32 := Scalar.subi c15_i32 arg7
  let c128_i32 : BitVec 32 := 128#32
  let v23 : BitVec 32 := Scalar.muli v22 c128_i32
  let v24 : BitVec 32 := v23
  let v31 : Index := Scalar.indexCast v24
  let c0_14 : Index := 0#32
  ![v31.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S2x4 : Shape := ⟨2, ![2, 4]⟩
abbrev S2048x1024 : Shape := ⟨2, ![2048, 1024]⟩
abbrev S2048x2048 : Shape := ⟨2, ![2048, 2048]⟩
abbrev S16x128x4x256 : Shape := ⟨4, ![16, 128, 4, 256]⟩
abbrev S16x128x4x512 : Shape := ⟨4, ![16, 128, 4, 512]⟩
abbrev S1x4 : Shape := ⟨2, ![1, 4]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S4x1x1 : Shape := ⟨3, ![4, 1, 1]⟩
abbrev S1x128x128 : Shape := ⟨3, ![1, 128, 128]⟩
abbrev S4x128x128 : Shape := ⟨3, ![4, 128, 128]⟩
abbrev S16x4x128x128 : Shape := ⟨4, ![16, 4, 128, 128]⟩
abbrev S1x4x128x128 : Shape := ⟨4, ![1, 4, 128, 128]⟩
abbrev S16x4x512x128 : Shape := ⟨4, ![16, 4, 512, 128]⟩
abbrev S128x4 : Shape := ⟨2, ![128, 4]⟩
abbrev S128x4x1 : Shape := ⟨3, ![128, 4, 1]⟩
abbrev S1x128x4x1 : Shape := ⟨4, ![1, 128, 4, 1]⟩
abbrev S16x4x256x512 : Shape := ⟨4, ![16, 4, 256, 512]⟩
abbrev S4x256x512 : Shape := ⟨3, ![4, 256, 512]⟩
abbrev S1x4x256x512 : Shape := ⟨4, ![1, 4, 256, 512]⟩

abbrev nBuf : Space → Nat
  | .hbm => 299
  | .vmem => 0
  | .smem => 0
  | _ => 0

abbrev hbmTy0_0 (i : Nat) : BufTy := match i % 128 with
  | 0 => ⟨S2x4, .f32⟩
  | 1 => ⟨S2048x1024, .bf16⟩
  | 2 => ⟨S2048x1024, .bf16⟩
  | 3 => ⟨S2048x2048, .bf16⟩
  | 4 => ⟨S2048x1024, .f32⟩
  | 5 => ⟨S16x128x4x256, .f32⟩
  | 6 => ⟨S2048x1024, .f32⟩
  | 7 => ⟨S16x128x4x256, .f32⟩
  | 8 => ⟨S2048x2048, .f32⟩
  | 9 => ⟨S16x128x4x512, .f32⟩
  | 10 => ⟨S1x4, .f32⟩
  | 11 => ⟨S4, .f32⟩
  | 12 => ⟨S1x4, .f32⟩
  | 13 => ⟨S4, .f32⟩
  | 14 => ⟨S128, .f32⟩
  | 15 => ⟨S128x1, .f32⟩
  | 16 => ⟨S1x128, .f32⟩
  | 17 => ⟨S128x128, .f32⟩
  | 18 => ⟨S128x128, .f32⟩
  | 19 => ⟨S128x128, .f32⟩
  | 20 => ⟨S_, .f32⟩
  | 21 => ⟨S128x128, .f32⟩
  | 22 => ⟨S128x128, .i1⟩
  | 23 => ⟨S4x1x1, .f32⟩
  | 24 => ⟨S1x128x128, .f32⟩
  | 25 => ⟨S4x128x128, .f32⟩
  | 26 => ⟨S4x128x128, .f32⟩
  | 27 => ⟨S4x128x128, .f32⟩
  | 28 => ⟨S4x1x1, .f32⟩
  | 29 => ⟨S4x1x1, .f32⟩
  | 30 => ⟨S1x128x128, .f32⟩
  | 31 => ⟨S4x128x128, .f32⟩
  | 32 => ⟨S4x128x128, .f32⟩
  | 33 => ⟨S4x128x128, .f32⟩
  | 34 => ⟨S4x128x128, .i1⟩
  | 35 => ⟨S4x128x128, .f32⟩
  | 36 => ⟨S4x128x128, .f32⟩
  | 37 => ⟨S16x4x128x128, .f32⟩
  | 38 => ⟨S1x4x128x128, .f32⟩
  | 39 => ⟨S16x4x128x128, .f32⟩
  | 40 => ⟨S16x4x128x128, .f32⟩
  | 41 => ⟨S16x4x512x128, .f32⟩
  | 42 => ⟨S16x128x4x512, .f32⟩
  | 43 => ⟨S1x4, .f32⟩
  | 44 => ⟨S_, .f32⟩
  | 45 => ⟨S128, .f32⟩
  | 46 => ⟨S128, .f32⟩
  | 47 => ⟨S128x1, .f32⟩
  | 48 => ⟨S128x4, .f32⟩
  | 49 => ⟨S128x4, .f32⟩
  | 50 => ⟨S128x4, .f32⟩
  | 51 => ⟨S128x4, .f32⟩
  | 52 => ⟨S128x4x1, .f32⟩
  | 53 => ⟨S1x128x4x1, .f32⟩
  | 54 => ⟨S16x128x4x256, .f32⟩
  | 55 => ⟨S16x128x4x256, .f32⟩
  | 56 => ⟨S1x4, .f32⟩
  | 57 => ⟨S128x1, .f32⟩
  | 58 => ⟨S128x4, .f32⟩
  | 59 => ⟨S128x4, .f32⟩
  | 60 => ⟨S128x4, .f32⟩
  | 61 => ⟨S128x4, .f32⟩
  | 62 => ⟨S128x4x1, .f32⟩
  | 63 => ⟨S1x128x4x1, .f32⟩
  | 64 => ⟨S16x128x4x256, .f32⟩
  | 65 => ⟨S16x128x4x256, .f32⟩
  | 66 => ⟨S16x4x256x512, .f32⟩
  | 67 => ⟨S16x4x256x512, .f32⟩
  | 68 => ⟨S_, .f32⟩
  | 69 => ⟨S4, .f32⟩
  | 70 => ⟨S4, .f32⟩
  | 71 => ⟨S4, .f32⟩
  | 72 => ⟨S4x1x1, .f32⟩
  | 73 => ⟨S_, .f32⟩
  | 74 => ⟨S4, .f32⟩
  | 75 => ⟨S4, .f32⟩
  | 76 => ⟨S4, .f32⟩
  | 77 => ⟨S4x1x1, .f32⟩
  | 78 => ⟨S_, .f32⟩
  | 79 => ⟨S4x256x512, .f32⟩
  | 80 => ⟨S_, .f32⟩
  | 81 => ⟨S4x256x512, .f32⟩
  | 82 => ⟨S4x256x512, .f32⟩
  | 83 => ⟨S4x256x512, .f32⟩
  | 84 => ⟨S1x4x256x512, .f32⟩
  | 85 => ⟨S4x256x512, .f32⟩
  | 86 => ⟨S4x256x512, .f32⟩
  | 87 => ⟨S4x256x512, .f32⟩
  | 88 => ⟨S4x256x512, .f32⟩
  | 89 => ⟨S1x4x256x512, .f32⟩
  | 90 => ⟨S4x256x512, .f32⟩
  | 91 => ⟨S4x256x512, .f32⟩
  | 92 => ⟨S4x256x512, .f32⟩
  | 93 => ⟨S4x256x512, .f32⟩
  | 94 => ⟨S1x4x256x512, .f32⟩
  | 95 => ⟨S4x256x512, .f32⟩
  | 96 => ⟨S4x256x512, .f32⟩
  | 97 => ⟨S4x256x512, .f32⟩
  | 98 => ⟨S4x256x512, .f32⟩
  | 99 => ⟨S1x4x256x512, .f32⟩
  | 100 => ⟨S4x256x512, .f32⟩
  | 101 => ⟨S4x256x512, .f32⟩
  | 102 => ⟨S4x256x512, .f32⟩
  | 103 => ⟨S4x256x512, .f32⟩
  | 104 => ⟨S1x4x256x512, .f32⟩
  | 105 => ⟨S4x256x512, .f32⟩
  | 106 => ⟨S4x256x512, .f32⟩
  | 107 => ⟨S4x256x512, .f32⟩
  | 108 => ⟨S4x256x512, .f32⟩
  | 109 => ⟨S1x4x256x512, .f32⟩
  | 110 => ⟨S4x256x512, .f32⟩
  | 111 => ⟨S4x256x512, .f32⟩
  | 112 => ⟨S4x256x512, .f32⟩
  | 113 => ⟨S4x256x512, .f32⟩
  | 114 => ⟨S1x4x256x512, .f32⟩
  | 115 => ⟨S4x256x512, .f32⟩
  | 116 => ⟨S4x256x512, .f32⟩
  | 117 => ⟨S4x256x512, .f32⟩
  | 118 => ⟨S4x256x512, .f32⟩
  | 119 => ⟨S1x4x256x512, .f32⟩
  | 120 => ⟨S4x256x512, .f32⟩
  | 121 => ⟨S4x256x512, .f32⟩
  | 122 => ⟨S4x256x512, .f32⟩
  | 123 => ⟨S4x256x512, .f32⟩
  | 124 => ⟨S1x4x256x512, .f32⟩
  | 125 => ⟨S4x256x512, .f32⟩
  | 126 => ⟨S4x256x512, .f32⟩
  | 127 => ⟨S4x256x512, .f32⟩
  | _ => ⟨S2x4, .f32⟩

abbrev hbmTy0_1 (i : Nat) : BufTy := match i % 128 with
  | 0 => ⟨S4x256x512, .f32⟩
  | 1 => ⟨S1x4x256x512, .f32⟩
  | 2 => ⟨S4x256x512, .f32⟩
  | 3 => ⟨S4x256x512, .f32⟩
  | 4 => ⟨S4x256x512, .f32⟩
  | 5 => ⟨S4x256x512, .f32⟩
  | 6 => ⟨S1x4x256x512, .f32⟩
  | 7 => ⟨S4x256x512, .f32⟩
  | 8 => ⟨S4x256x512, .f32⟩
  | 9 => ⟨S4x256x512, .f32⟩
  | 10 => ⟨S4x256x512, .f32⟩
  | 11 => ⟨S1x4x256x512, .f32⟩
  | 12 => ⟨S4x256x512, .f32⟩
  | 13 => ⟨S4x256x512, .f32⟩
  | 14 => ⟨S4x256x512, .f32⟩
  | 15 => ⟨S4x256x512, .f32⟩
  | 16 => ⟨S1x4x256x512, .f32⟩
  | 17 => ⟨S4x256x512, .f32⟩
  | 18 => ⟨S4x256x512, .f32⟩
  | 19 => ⟨S4x256x512, .f32⟩
  | 20 => ⟨S4x256x512, .f32⟩
  | 21 => ⟨S1x4x256x512, .f32⟩
  | 22 => ⟨S4x256x512, .f32⟩
  | 23 => ⟨S4x256x512, .f32⟩
  | 24 => ⟨S4x256x512, .f32⟩
  | 25 => ⟨S4x256x512, .f32⟩
  | 26 => ⟨S1x4x256x512, .f32⟩
  | 27 => ⟨S4x256x512, .f32⟩
  | 28 => ⟨S4x256x512, .f32⟩
  | 29 => ⟨S4x256x512, .f32⟩
  | 30 => ⟨S4x256x512, .f32⟩
  | 31 => ⟨S1x4x256x512, .f32⟩
  | 32 => ⟨S4x256x512, .f32⟩
  | 33 => ⟨S4x256x512, .f32⟩
  | 34 => ⟨S4x256x512, .f32⟩
  | 35 => ⟨S4x256x512, .f32⟩
  | 36 => ⟨S1x4x256x512, .f32⟩
  | 37 => ⟨S4x256x512, .f32⟩
  | 38 => ⟨S4x256x512, .f32⟩
  | 39 => ⟨S4x256x512, .f32⟩
  | 40 => ⟨S4x256x512, .f32⟩
  | 41 => ⟨S1x4x256x512, .f32⟩
  | 42 => ⟨S4x256x512, .f32⟩
  | 43 => ⟨S4x256x512, .f32⟩
  | 44 => ⟨S4x256x512, .f32⟩
  | 45 => ⟨S4x256x512, .f32⟩
  | 46 => ⟨S1x4x256x512, .f32⟩
  | 47 => ⟨S4x256x512, .f32⟩
  | 48 => ⟨S4x256x512, .f32⟩
  | 49 => ⟨S4x256x512, .f32⟩
  | 50 => ⟨S4x256x512, .f32⟩
  | 51 => ⟨S1x4x256x512, .f32⟩
  | 52 => ⟨S4x256x512, .f32⟩
  | 53 => ⟨S4x256x512, .f32⟩
  | 54 => ⟨S4x256x512, .f32⟩
  | 55 => ⟨S4x256x512, .f32⟩
  | 56 => ⟨S1x4x256x512, .f32⟩
  | 57 => ⟨S4x256x512, .f32⟩
  | 58 => ⟨S4x256x512, .f32⟩
  | 59 => ⟨S4x256x512, .f32⟩
  | 60 => ⟨S4x256x512, .f32⟩
  | 61 => ⟨S1x4x256x512, .f32⟩
  | 62 => ⟨S4x256x512, .f32⟩
  | 63 => ⟨S4x256x512, .f32⟩
  | 64 => ⟨S4x256x512, .f32⟩
  | 65 => ⟨S4x256x512, .f32⟩
  | 66 => ⟨S1x4x256x512, .f32⟩
  | 67 => ⟨S4x256x512, .f32⟩
  | 68 => ⟨S4x256x512, .f32⟩
  | 69 => ⟨S4x256x512, .f32⟩
  | 70 => ⟨S4x256x512, .f32⟩
  | 71 => ⟨S1x4x256x512, .f32⟩
  | 72 => ⟨S4x256x512, .f32⟩
  | 73 => ⟨S4x256x512, .f32⟩
  | 74 => ⟨S4x256x512, .f32⟩
  | 75 => ⟨S4x256x512, .f32⟩
  | 76 => ⟨S1x4x256x512, .f32⟩
  | 77 => ⟨S4x256x512, .f32⟩
  | 78 => ⟨S4x256x512, .f32⟩
  | 79 => ⟨S4x256x512, .f32⟩
  | 80 => ⟨S4x256x512, .f32⟩
  | 81 => ⟨S1x4x256x512, .f32⟩
  | 82 => ⟨S4x256x512, .f32⟩
  | 83 => ⟨S4x256x512, .f32⟩
  | 84 => ⟨S4x256x512, .f32⟩
  | 85 => ⟨S4x256x512, .f32⟩
  | 86 => ⟨S1x4x256x512, .f32⟩
  | 87 => ⟨S4x256x512, .f32⟩
  | 88 => ⟨S4x256x512, .f32⟩
  | 89 => ⟨S4x256x512, .f32⟩
  | 90 => ⟨S4x256x512, .f32⟩
  | 91 => ⟨S1x4x256x512, .f32⟩
  | 92 => ⟨S4x256x512, .f32⟩
  | 93 => ⟨S4x256x512, .f32⟩
  | 94 => ⟨S4x256x512, .f32⟩
  | 95 => ⟨S4x256x512, .f32⟩
  | 96 => ⟨S1x4x256x512, .f32⟩
  | 97 => ⟨S4x256x512, .f32⟩
  | 98 => ⟨S4x256x512, .f32⟩
  | 99 => ⟨S4x256x512, .f32⟩
  | 100 => ⟨S4x256x512, .f32⟩
  | 101 => ⟨S1x4x256x512, .f32⟩
  | 102 => ⟨S4x256x512, .f32⟩
  | 103 => ⟨S4x256x512, .f32⟩
  | 104 => ⟨S1x4, .f32⟩
  | 105 => ⟨S128x1, .f32⟩
  | 106 => ⟨S_, .f32⟩
  | 107 => ⟨S128x1, .f32⟩
  | 108 => ⟨S128x1, .f32⟩
  | 109 => ⟨S128x4, .f32⟩
  | 110 => ⟨S128x4, .f32⟩
  | 111 => ⟨S128x4, .f32⟩
  | 112 => ⟨S128x4, .f32⟩
  | 113 => ⟨S128x4x1, .f32⟩
  | 114 => ⟨S1x128x4x1, .f32⟩
  | 115 => ⟨S16x128x4x256, .f32⟩
  | 116 => ⟨S16x128x4x256, .f32⟩
  | 117 => ⟨S1x4, .f32⟩
  | 118 => ⟨S_, .f32⟩
  | 119 => ⟨S128, .f32⟩
  | 120 => ⟨S128, .f32⟩
  | 121 => ⟨S128x1, .f32⟩
  | 122 => ⟨S128x4, .f32⟩
  | 123 => ⟨S128x4, .f32⟩
  | 124 => ⟨S128x4, .f32⟩
  | 125 => ⟨S128x4, .f32⟩
  | 126 => ⟨S128x4x1, .f32⟩
  | 127 => ⟨S1x128x4x1, .f32⟩
  | _ => ⟨S2x4, .f32⟩

abbrev hbmTy0_2 (i : Nat) : BufTy := match i % 128 with
  | 0 => ⟨S16x128x4x256, .f32⟩
  | 1 => ⟨S16x128x4x256, .f32⟩
  | 2 => ⟨S1x4x256x512, .f32⟩
  | 3 => ⟨S1x4x256x512, .f32⟩
  | 4 => ⟨S1x4x256x512, .f32⟩
  | 5 => ⟨S1x4x256x512, .f32⟩
  | 6 => ⟨S1x4x256x512, .f32⟩
  | 7 => ⟨S1x4x256x512, .f32⟩
  | 8 => ⟨S1x4x256x512, .f32⟩
  | 9 => ⟨S1x4x256x512, .f32⟩
  | 10 => ⟨S1x4x256x512, .f32⟩
  | 11 => ⟨S1x4x256x512, .f32⟩
  | 12 => ⟨S1x4x256x512, .f32⟩
  | 13 => ⟨S1x4x256x512, .f32⟩
  | 14 => ⟨S1x4x256x512, .f32⟩
  | 15 => ⟨S1x4x256x512, .f32⟩
  | 16 => ⟨S1x4x256x512, .f32⟩
  | 17 => ⟨S1x4x256x512, .f32⟩
  | 18 => ⟨S16x4x256x512, .f32⟩
  | 19 => ⟨S16x4x512x128, .f32⟩
  | 20 => ⟨S16x128x4x512, .f32⟩
  | 21 => ⟨S16x128x4x512, .f32⟩
  | 22 => ⟨S1x4x256x512, .f32⟩
  | 23 => ⟨S1x4x256x512, .f32⟩
  | 24 => ⟨S1x4x256x512, .f32⟩
  | 25 => ⟨S1x4x256x512, .f32⟩
  | 26 => ⟨S1x4x256x512, .f32⟩
  | 27 => ⟨S1x4x256x512, .f32⟩
  | 28 => ⟨S1x4x256x512, .f32⟩
  | 29 => ⟨S1x4x256x512, .f32⟩
  | 30 => ⟨S1x4x256x512, .f32⟩
  | 31 => ⟨S1x4x256x512, .f32⟩
  | 32 => ⟨S1x4x256x512, .f32⟩
  | 33 => ⟨S1x4x256x512, .f32⟩
  | 34 => ⟨S1x4x256x512, .f32⟩
  | 35 => ⟨S1x4x256x512, .f32⟩
  | 36 => ⟨S1x4x256x512, .f32⟩
  | 37 => ⟨S1x4x256x512, .f32⟩
  | 38 => ⟨S16x4x256x512, .f32⟩
  | 39 => ⟨S16x4x512x128, .f32⟩
  | 40 => ⟨S16x128x4x512, .f32⟩
  | 41 => ⟨S16x128x4x512, .f32⟩
  | 42 => ⟨S2048x2048, .f32⟩
  | _ => ⟨S2x4, .f32⟩

abbrev hbmTy (i : Nat) : BufTy := match i / 128 with
  | 0 => hbmTy0_0 i
  | 1 => hbmTy0_1 i
  | 2 => hbmTy0_2 i
  | _ => ⟨S2x4, .f32⟩

abbrev bufTy : (tb : Table) → Fin (tcTables nBuf tb) → BufTy
  | .hbm, ⟨i, _⟩ => hbmTy i
  | _, _ => ⟨S2x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_call0_v0 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_0 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_cst_1 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_cst_2 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_cst_3 : Ref sig .tc := ⟨.hbm, 78, rfl⟩
abbrev main_v69 : Ref sig .tc := ⟨.hbm, 79, rfl⟩
abbrev main_cst_4 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_cst_5 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_cst_6 : Ref sig .tc := ⟨.hbm, 246, rfl⟩
abbrev main_v234 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_v252 : Ref sig .tc := ⟨.hbm, 265, rfl⟩
abbrev main_v253 : Ref sig .tc := ⟨.hbm, 266, rfl⟩
abbrev main_v254 : Ref sig .tc := ⟨.hbm, 267, rfl⟩
abbrev main_v255 : Ref sig .tc := ⟨.hbm, 268, rfl⟩
abbrev main_v256 : Ref sig .tc := ⟨.hbm, 269, rfl⟩
abbrev main_v257 : Ref sig .tc := ⟨.hbm, 270, rfl⟩
abbrev main_v258 : Ref sig .tc := ⟨.hbm, 271, rfl⟩
abbrev main_v259 : Ref sig .tc := ⟨.hbm, 272, rfl⟩
abbrev main_v260 : Ref sig .tc := ⟨.hbm, 273, rfl⟩
abbrev main_v261 : Ref sig .tc := ⟨.hbm, 274, rfl⟩
abbrev main_v262 : Ref sig .tc := ⟨.hbm, 275, rfl⟩
abbrev main_v263 : Ref sig .tc := ⟨.hbm, 276, rfl⟩
abbrev main_v264 : Ref sig .tc := ⟨.hbm, 277, rfl⟩
abbrev main_v265 : Ref sig .tc := ⟨.hbm, 278, rfl⟩
abbrev main_v266 : Ref sig .tc := ⟨.hbm, 279, rfl⟩
abbrev main_v267 : Ref sig .tc := ⟨.hbm, 280, rfl⟩
abbrev main_v268 : Ref sig .tc := ⟨.hbm, 281, rfl⟩
abbrev main_v269 : Ref sig .tc := ⟨.hbm, 282, rfl⟩
abbrev main_v270 : Ref sig .tc := ⟨.hbm, 283, rfl⟩
abbrev main_v271 : Ref sig .tc := ⟨.hbm, 284, rfl⟩
abbrev main_v272 : Ref sig .tc := ⟨.hbm, 285, rfl⟩
abbrev main_v273 : Ref sig .tc := ⟨.hbm, 286, rfl⟩
abbrev main_v274 : Ref sig .tc := ⟨.hbm, 287, rfl⟩
abbrev main_v275 : Ref sig .tc := ⟨.hbm, 288, rfl⟩
abbrev main_v276 : Ref sig .tc := ⟨.hbm, 289, rfl⟩
abbrev main_v277 : Ref sig .tc := ⟨.hbm, 290, rfl⟩
abbrev main_v278 : Ref sig .tc := ⟨.hbm, 291, rfl⟩
abbrev main_v279 : Ref sig .tc := ⟨.hbm, 292, rfl⟩
abbrev main_v280 : Ref sig .tc := ⟨.hbm, 293, rfl⟩
abbrev main_v281 : Ref sig .tc := ⟨.hbm, 294, rfl⟩
abbrev main_v282 : Ref sig .tc := ⟨.hbm, 295, rfl⟩
abbrev main_v283 : Ref sig .tc := ⟨.hbm, 296, rfl⟩
abbrev main_v284 : Ref sig .tc := ⟨.hbm, 297, rfl⟩
abbrev main_v285 : Ref sig .tc := ⟨.hbm, 298, rfl⟩

abbrev nD : Nat := 1
abbrev τ : Topo := Topo.v7x

variable {F : FTy → Type} [FloatOps F]
-- ==== Kernel12.lean ====
abbrev S2048x1024 : Shape := ⟨2, ![2048, 1024]⟩
abbrev S128 : Shape := ⟨1, ![128]⟩
abbrev S_ : Shape := ⟨0, ![]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S256x1024 : Shape := ⟨2, ![256, 1024]⟩
abbrev S256x128 : Shape := ⟨2, ![256, 128]⟩
abbrev S256x256 : Shape := ⟨2, ![256, 256]⟩

abbrev nBuf : Space → Nat
  | .hbm => 22
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S2048, .f32⟩
  | .hbm, ⟨13, _⟩ => ⟨S2048x1, .f32⟩
  | .hbm, ⟨14, _⟩ => ⟨S1x128, .f32⟩
  | .hbm, ⟨15, _⟩ => ⟨S2048x128, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S2048x128, .f32⟩
  | .hbm, ⟨20, _⟩ => ⟨S2048x1024, .bf16⟩
  | .hbm, ⟨21, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S2048x1024 : Shape := ⟨2, ![2048, 1024]⟩
abbrev S_ : Shape := ⟨0, ![]⟩
abbrev S2048x4x256 : Shape := ⟨3, ![2048, 4, 256]⟩
abbrev S128 : Shape := ⟨1, ![128]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S2048x1x128 : Shape := ⟨3, ![2048, 1, 128]⟩
abbrev S2048x4x128 : Shape := ⟨3, ![2048, 4, 128]⟩

abbrev nBuf : Space → Nat
  | .hbm => 124
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x4x256, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S2048, .f32⟩
  | .hbm, ⟨18, _⟩ => ⟨S2048x1, .f32⟩
  | .hbm, ⟨19, _⟩ => ⟨S1x128, .f32⟩
  | .hbm, ⟨20, _⟩ => ⟨S2048x128, .f32⟩
  | .hbm, ⟨21, _⟩ => ⟨S2048x128, .f32⟩
  | .hbm, ⟨22, _⟩ => ⟨S2048x128, .f32⟩
  | .hbm, ⟨23, _⟩ => ⟨S2048x128, .f32⟩
  | .hbm, ⟨24, _⟩ => ⟨S2048x1x128, .f32⟩
  | .hbm, ⟨25, _⟩ => ⟨S2048x128, .f32⟩
  | .hbm, ⟨26, _⟩ => ⟨S2048x1x128, .f32⟩
  | .hbm, ⟨27, _⟩ => ⟨S2048x4x128, .f32⟩
  | .hbm, ⟨28, _⟩ => ⟨S2048x4x128, .f32⟩
  | .hbm, ⟨29, _⟩ => ⟨S2048x4x128, .f32⟩
  | .hbm, ⟨30, _⟩ => ⟨S2048x4x128, .f32⟩
  | .hbm, ⟨31, _⟩ => ⟨S2048x4x128, .f32⟩
  | .hbm, ⟨32, _⟩ => ⟨S2048x4x128, .f32⟩
  | .hbm, ⟨33, _⟩ => ⟨S2048x4x128, .f32⟩
  | .hbm, ⟨34, _⟩ => ⟨S2048x4x128, .f32⟩
  | .hbm, ⟨35, _⟩ => ⟨S2048x4x128, .f32⟩
  | .hbm, ⟨36, _⟩ => ⟨S2048x4x128, .f32⟩
  | .hbm, ⟨37, _⟩ => ⟨S2048x4x128, .f32⟩
  | .hbm, ⟨38, _⟩ => ⟨S2048x4x128, .f32⟩
  | .hbm, ⟨39, _⟩ => ⟨S2048x4x256, .f32⟩
  | .hbm, ⟨40, _⟩ => ⟨S2048x4x256, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S2048, .f32⟩
  | .hbm, ⟨52, _⟩ => ⟨S2048x1, .f32⟩
  | .hbm, ⟨53, _⟩ => ⟨S1x128, .f32⟩
  | .hbm, ⟨54, _⟩ => ⟨S2048x128, .f32⟩
  | .hbm, ⟨55, _⟩ => ⟨S2048x128, .f32⟩
  | .hbm, ⟨56, _⟩ => ⟨S2048x128, .f32⟩
  | .hbm, ⟨57, _⟩ => ⟨S2048x128, .f32⟩
  | .hbm, ⟨58, _⟩ => ⟨S2048x1x128, .f32⟩
  | .hbm, ⟨59, _⟩ => ⟨S2048x128, .f32⟩
  | .hbm, ⟨60, _⟩ => ⟨S2048x1x128, .f32⟩
  | .hbm, ⟨61, _⟩ => ⟨S2048x4x128, .f32⟩
  | .hbm, ⟨62, _⟩ => ⟨S2048x4x128, .f32⟩
  | .hbm, ⟨63, _⟩ => ⟨S2048x4x128, .f32⟩
  | .hbm, ⟨64, _⟩ => ⟨S2048x4x128, .f32⟩
  | .hbm, ⟨65, _⟩ => ⟨S2048x4x128, .f32⟩
  | .hbm, ⟨66, _⟩ => ⟨S2048x4x128, .f32⟩
  | .hbm, ⟨67, _⟩ => ⟨S2048x4x128, .f32⟩
  | .hbm, ⟨68, _⟩ => ⟨S2048x4x128, .f32⟩
  | .hbm, ⟨69, _⟩ => ⟨S2048x4x128, .f32⟩
  | .hbm, ⟨70, _⟩ => ⟨S2048x4x128, .f32⟩
  | .hbm, ⟨71, _⟩ => ⟨S2048x4x128, .f32⟩
  | .hbm, ⟨72, _⟩ => ⟨S2048x4x128, .f32⟩
  | .hbm, ⟨73, _⟩ => ⟨S2048x4x256, .f32⟩
  | .hbm, ⟨74, _⟩ => ⟨S2048x1024, .f32⟩
  | .hbm, ⟨75, _⟩ => ⟨S_, .f32⟩
  | .hbm, ⟨76, _⟩ => ⟨S2048x4x256, .f32⟩
  | .hbm, ⟨77, _⟩ => ⟨S2048x4x256, .f32⟩
  | .hbm, ⟨78, _⟩ => ⟨S2048x1024, .f32⟩
  | .hbm, ⟨79, _⟩ => ⟨S2048x4x256, .f32⟩
  | .hbm, ⟨80, _⟩ => ⟨S_, .f32⟩
  | .hbm, ⟨81, _⟩ => ⟨S2048x4x256, .f32⟩
  | .hbm, ⟨82, _⟩ => ⟨S2048x4x256, .f32⟩
  | .hbm, ⟨83, _⟩ => ⟨S2048x4x256, .f32⟩
  | .hbm, ⟨84, _⟩ => ⟨S2048x4x128, .f32⟩
  | .hbm, ⟨85, _⟩ => ⟨S2048x4x128, .f32⟩
  | .hbm, ⟨86, _⟩ => ⟨S2048x4x128, .f32⟩
  | .hbm, ⟨87, _⟩ => ⟨S2048x4x128, .f32⟩
  | .hbm, ⟨88, _⟩ => ⟨S2048x4x128, .f32⟩
  | .hbm, ⟨89, _⟩ => ⟨S2048x4x128, .f32⟩
  | .hbm, ⟨90, _⟩ => ⟨S2048x4x128, .f32⟩
  | .hbm, ⟨91, _⟩ => ⟨S2048x4x128, .f32⟩
  | .hbm, ⟨92, _⟩ => ⟨S2048x4x128, .f32⟩
  | .hbm, ⟨93, _⟩ => ⟨S2048x4x128, .f32⟩
  | .hbm, ⟨94, _⟩ => ⟨S2048x4x128, .f32⟩
  | .hbm, ⟨95, _⟩ => ⟨S2048x4x128, .f32⟩
  | .hbm, ⟨96, _⟩ => ⟨S2048x4x128, .f32⟩
  | .hbm, ⟨97, _⟩ => ⟨S_, .f32⟩
  | .hbm, ⟨98, _⟩ => ⟨S2048x4x256, .f32⟩
  | .hbm, ⟨99, _⟩ => ⟨S_, .f32⟩
  | .hbm, ⟨100, _⟩ => ⟨S2048x4x256, .f32⟩
  | .hbm, ⟨101, _⟩ => ⟨S2048x4x256, .f32⟩
  | .hbm, ⟨102, _⟩ => ⟨S2048x1024, .f32⟩
  | .hbm, ⟨103, _⟩ => ⟨S2048x4x128, .f32⟩
  | .hbm, ⟨104, _⟩ => ⟨S2048x4x128, .f32⟩
  | .hbm, ⟨105, _⟩ => ⟨S2048x4x128, .f32⟩
  | .hbm, ⟨106, _⟩ => ⟨S2048x4x128, .f32⟩
  | .hbm, ⟨107, _⟩ => ⟨S2048x4x128, .f32⟩
  | .hbm, ⟨108, _⟩ => ⟨S2048x4x128, .f32⟩
  | .hbm, ⟨109, _⟩ => ⟨S2048x4x128, .f32⟩
  | .hbm, ⟨110, _⟩ => ⟨S2048x4x128, .f32⟩
  | .hbm, ⟨111, _⟩ => ⟨S2048x4x128, .f32⟩
  | .hbm, ⟨112, _⟩ => ⟨S2048x4x128, .f32⟩
  | .hbm, ⟨113, _⟩ => ⟨S2048x4x128, .f32⟩
  | .hbm, ⟨114, _⟩ => ⟨S2048x4x128, .f32⟩
  | .hbm, ⟨115, _⟩ => ⟨S2048x4x128, .f32⟩
  | .hbm, ⟨116, _⟩ => ⟨S_, .f32⟩
  | .hbm, ⟨117, _⟩ => ⟨S2048x4x256, .f32⟩
  | .hbm, ⟨118, _⟩ => ⟨S_, .f32⟩
  | .hbm, ⟨119, _⟩ => ⟨S2048x4x256, .f32⟩
  | .hbm, ⟨120, _⟩ => ⟨S2048x4x256, .f32⟩
  | .hbm, ⟨121, _⟩ => ⟨S2048x1024, .f32⟩
  | .hbm, ⟨122, _⟩ => ⟨S2048x1024, .bf16⟩
  | .hbm, ⟨123, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_4 : Ref sig .tc := ⟨.hbm, 42, rfl⟩
abbrev main_v35 : Ref sig .tc := ⟨.hbm, 43, rfl⟩
abbrev main_v36 : Ref sig .tc := ⟨.hbm, 44, rfl⟩
abbrev main_cst_5 : Ref sig .tc := ⟨.hbm, 45, rfl⟩
abbrev main_v37 : Ref sig .tc := ⟨.hbm, 46, rfl⟩
abbrev main_v38 : Ref sig .tc := ⟨.hbm, 47, rfl⟩
abbrev main_cst_6 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_cst_7 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_cst_8 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_cst_9 : Ref sig .tc := ⟨.hbm, 97, rfl⟩
abbrev main_v85 : Ref sig .tc := ⟨.hbm, 98, rfl⟩
abbrev main_cst_10 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_cst_11 : Ref sig .tc := ⟨.hbm, 116, rfl⟩
abbrev main_v102 : Ref sig .tc := ⟨.hbm, 117, rfl⟩
abbrev main_cst_12 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩

abbrev nD : Nat := 1
abbrev τ : Topo := Topo.v7x

variable {F : FTy → Type} [FloatOps F]
-- ==== Kernel13.lean ====
abbrev S2048x12288 : Shape := ⟨2, ![2048, 12288]⟩
abbrev S128 : Shape := ⟨1, ![128]⟩
abbrev S_ : Shape := ⟨0, ![]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S2048x1024 : Shape := ⟨2, ![2048, 1024]⟩
abbrev S2048x2048 : Shape := ⟨2, ![2048, 2048]⟩
abbrev S256x1024 : Shape := ⟨2, ![256, 1024]⟩
abbrev S256x2048 : Shape := ⟨2, ![256, 2048]⟩
abbrev S256x128 : Shape := ⟨2, ![256, 128]⟩
abbrev S256x256 : Shape := ⟨2, ![256, 256]⟩

abbrev nBuf : Space → Nat
  | .hbm => 22
  | .vmem => 16
  | .smem => 0
  | _ => 0

abbrev bufTy : (tb : Table) → Fin (tcTables nBuf tb) → BufTy
  | .hbm, ⟨0, _⟩ => ⟨S2048x12288, .f32⟩
  | .hbm, ⟨1, _⟩ => ⟨S128, .f32⟩
  | .hbm, ⟨2, _⟩ => ⟨S_, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S2048, .f32⟩
  | .hbm, ⟨12, _⟩ => ⟨S2048x1, .f32⟩
  | .hbm, ⟨13, _⟩ => ⟨S1x128, .f32⟩
  | .hbm, ⟨14, _⟩ => ⟨S2048x128, .f32⟩
  | .hbm, ⟨15, _⟩ => ⟨S2048x128, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S2048x1024, .bf16⟩
  | .hbm, ⟨20, _⟩ => ⟨S2048x1024, .bf16⟩
  | .hbm, ⟨21, _⟩ => ⟨S2048x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x2048, .bf16⟩
  | .local _ .vmem, ⟨15, _⟩ => ⟨S256x2048, .bf16⟩
  | _, _ => ⟨S2048x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15_0 : Ref sig .tc := ⟨.hbm, 19, rfl⟩
abbrev main_v15_1 : Ref sig .tc := ⟨.hbm, 20, rfl⟩
abbrev main_v15_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S2048x12288 : Shape := ⟨2, ![2048, 12288]⟩
abbrev S2048x4096 : Shape := ⟨2, ![2048, 4096]⟩
abbrev S2048x1024 : Shape := ⟨2, ![2048, 1024]⟩
abbrev S2048x2048 : Shape := ⟨2, ![2048, 2048]⟩
abbrev S2048x4x256 : Shape := ⟨3, ![2048, 4, 256]⟩
abbrev S128 : Shape := ⟨1, ![128]⟩
abbrev S_ : Shape := ⟨0, ![]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S2048x1x128 : Shape := ⟨3, ![2048, 1, 128]⟩
abbrev S2048x4x128 : Shape := ⟨3, ![2048, 4, 128]⟩

abbrev nBuf : Space → Nat
  | .hbm => 81
  | .vmem => 0
  | .smem => 0
  | _ => 0

abbrev bufTy : (tb : Table) → Fin (tcTables nBuf tb) → BufTy
  | .hbm, ⟨0, _⟩ => ⟨S2048x12288, .f32⟩
  | .hbm, ⟨1, _⟩ => ⟨S2048x4096, .f32⟩
  | .hbm, ⟨2, _⟩ => ⟨S2048x1024, .f32⟩
  | .hbm, ⟨3, _⟩ => ⟨S2048x1024, .f32⟩
  | .hbm, ⟨4, _⟩ => ⟨S2048x2048, .f32⟩
  | .hbm, ⟨5, _⟩ => ⟨S2048x4x256, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S2048, .f32⟩
  | .hbm, ⟨17, _⟩ => ⟨S2048x1, .f32⟩
  | .hbm, ⟨18, _⟩ => ⟨S1x128, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S2048x128, .f32⟩
  | .hbm, ⟨23, _⟩ => ⟨S2048x1x128, .f32⟩
  | .hbm, ⟨24, _⟩ => ⟨S2048x128, .f32⟩
  | .hbm, ⟨25, _⟩ => ⟨S2048x1x128, .f32⟩
  | .hbm, ⟨26, _⟩ => ⟨S2048x4x128, .f32⟩
  | .hbm, ⟨27, _⟩ => ⟨S2048x4x128, .f32⟩
  | .hbm, ⟨28, _⟩ => ⟨S2048x4x128, .f32⟩
  | .hbm, ⟨29, _⟩ => ⟨S2048x4x128, .f32⟩
  | .hbm, ⟨30, _⟩ => ⟨S2048x4x128, .f32⟩
  | .hbm, ⟨31, _⟩ => ⟨S2048x4x128, .f32⟩
  | .hbm, ⟨32, _⟩ => ⟨S2048x4x128, .f32⟩
  | .hbm, ⟨33, _⟩ => ⟨S2048x4x128, .f32⟩
  | .hbm, ⟨34, _⟩ => ⟨S2048x4x128, .f32⟩
  | .hbm, ⟨35, _⟩ => ⟨S2048x4x128, .f32⟩
  | .hbm, ⟨36, _⟩ => ⟨S2048x4x128, .f32⟩
  | .hbm, ⟨37, _⟩ => ⟨S2048x4x128, .f32⟩
  | .hbm, ⟨38, _⟩ => ⟨S2048x4x256, .f32⟩
  | .hbm, ⟨39, _⟩ => ⟨S2048x4x256, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S2048, .f32⟩
  | .hbm, ⟨51, _⟩ => ⟨S2048x1, .f32⟩
  | .hbm, ⟨52, _⟩ => ⟨S1x128, .f32⟩
  | .hbm, ⟨53, _⟩ => ⟨S2048x128, .f32⟩
  | .hbm, ⟨54, _⟩ => ⟨S2048x128, .f32⟩
  | .hbm, ⟨55, _⟩ => ⟨S2048x128, .f32⟩
  | .hbm, ⟨56, _⟩ => ⟨S2048x128, .f32⟩
  | .hbm, ⟨57, _⟩ => ⟨S2048x1x128, .f32⟩
  | .hbm, ⟨58, _⟩ => ⟨S2048x128, .f32⟩
  | .hbm, ⟨59, _⟩ => ⟨S2048x1x128, .f32⟩
  | .hbm, ⟨60, _⟩ => ⟨S2048x4x128, .f32⟩
  | .hbm, ⟨61, _⟩ => ⟨S2048x4x128, .f32⟩
  | .hbm, ⟨62, _⟩ => ⟨S2048x4x128, .f32⟩
  | .hbm, ⟨63, _⟩ => ⟨S2048x4x128, .f32⟩
  | .hbm, ⟨64, _⟩ => ⟨S2048x4x128, .f32⟩
  | .hbm, ⟨65, _⟩ => ⟨S2048x4x128, .f32⟩
  | .hbm, ⟨66, _⟩ => ⟨S2048x4x128, .f32⟩
  | .hbm, ⟨67, _⟩ => ⟨S2048x4x128, .f32⟩
  | .hbm, ⟨68, _⟩ => ⟨S2048x4x128, .f32⟩
  | .hbm, ⟨69, _⟩ => ⟨S2048x4x128, .f32⟩
  | .hbm, ⟨70, _⟩ => ⟨S2048x4x128, .f32⟩
  | .hbm, ⟨71, _⟩ => ⟨S2048x4x128, .f32⟩
  | .hbm, ⟨72, _⟩ => ⟨S2048x4x256, .f32⟩
  | .hbm, ⟨73, _⟩ => ⟨S2048x1024, .f32⟩
  | .hbm, ⟨74, _⟩ => ⟨S_, .f32⟩
  | .hbm, ⟨75, _⟩ => ⟨S2048x4x256, .f32⟩
  | .hbm, ⟨76, _⟩ => ⟨S2048x4x256, .f32⟩
  | .hbm, ⟨77, _⟩ => ⟨S2048x1024, .f32⟩
  | .hbm, ⟨78, _⟩ => ⟨S2048x1024, .bf16⟩
  | .hbm, ⟨79, _⟩ => ⟨S2048x1024, .bf16⟩
  | .hbm, ⟨80, _⟩ => ⟨S2048x2048, .bf16⟩
  | _, _ => ⟨S2048x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_cst_2 : Ref sig .tc := ⟨.hbm, 41, rfl⟩
abbrev main_v37 : Ref sig .tc := ⟨.hbm, 42, rfl⟩
abbrev main_v38 : Ref sig .tc := ⟨.hbm, 43, rfl⟩
abbrev main_cst_3 : Ref sig .tc := ⟨.hbm, 44, rfl⟩
abbrev main_v39 : Ref sig .tc := ⟨.hbm, 45, rfl⟩
abbrev main_v40 : Ref sig .tc := ⟨.hbm, 46, rfl⟩
abbrev main_cst_4 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_cst_5 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩

abbrev nD : Nat := 1
abbrev τ : Topo := Topo.v7x

variable {F : FTy → Type} [FloatOps F]
-- ==== Kernel15.lean ====
abbrev S2048x2048 : Shape := ⟨2, ![2048, 2048]⟩
abbrev S2048x12288 : Shape := ⟨2, ![2048, 12288]⟩
abbrev S1x2048 : Shape := ⟨2, ![1, 2048]⟩
abbrev S128x2048 : Shape := ⟨2, ![128, 2048]⟩
abbrev S128x512 : Shape := ⟨2, ![128, 512]⟩
abbrev S1x512 : Shape := ⟨2, ![1, 512]⟩
abbrev S128 : Shape := ⟨1, ![128]⟩
abbrev S128x1 : Shape := ⟨2, ![128, 1]⟩

abbrev nBuf : Space → Nat
  | .hbm => 6
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x12288, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S1x2048, .f32⟩
  | .local _ .vmem, ⟨13, _⟩ => ⟨S128x2048, .bf16⟩
  | .local _ .vmem, ⟨14, _⟩ => ⟨S128x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S2048x2048 : Shape := ⟨2, ![2048, 2048]⟩
abbrev S2048x12288 : Shape := ⟨2, ![2048, 12288]⟩
abbrev S1x2048 : Shape := ⟨2, ![1, 2048]⟩
abbrev S2048x4096 : Shape := ⟨2, ![2048, 4096]⟩
abbrev S2048x4x512 : Shape := ⟨3, ![2048, 4, 512]⟩
abbrev S_ : Shape := ⟨0, ![]⟩
abbrev S2048x4 : Shape := ⟨2, ![2048, 4]⟩
abbrev S2048x4x1 : Shape := ⟨3, ![2048, 4, 1]⟩
abbrev S2048 : Shape := ⟨1, ![2048]⟩

abbrev nBuf : Space → Nat
  | .hbm => 68
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x12288, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x4096, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x4x512, .f32⟩
  | .hbm, ⟨11, _⟩ => ⟨S2048x4x512, .f32⟩
  | .hbm, ⟨12, _⟩ => ⟨S_, .f32⟩
  | .hbm, ⟨13, _⟩ => ⟨S2048x4, .f32⟩
  | .hbm, ⟨14, _⟩ => ⟨S2048x4x1, .f32⟩
  | .hbm, ⟨15, _⟩ => ⟨S_, .f32⟩
  | .hbm, ⟨16, _⟩ => ⟨S2048x4x1, .f32⟩
  | .hbm, ⟨17, _⟩ => ⟨S2048x4x1, .f32⟩
  | .hbm, ⟨18, _⟩ => ⟨S_, .f32⟩
  | .hbm, ⟨19, _⟩ => ⟨S2048x4x1, .f32⟩
  | .hbm, ⟨20, _⟩ => ⟨S2048x4x1, .f32⟩
  | .hbm, ⟨21, _⟩ => ⟨S2048x4x1, .f32⟩
  | .hbm, ⟨22, _⟩ => ⟨S2048x4x512, .f32⟩
  | .hbm, ⟨23, _⟩ => ⟨S2048x4x512, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048, .f32⟩
  | .hbm, ⟨36, _⟩ => ⟨S1x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S2048x2048, .f32⟩
  | .hbm, ⟨59, _⟩ => ⟨S_, .f32⟩
  | .hbm, ⟨60, _⟩ => ⟨S2048x2048, .f32⟩
  | .hbm, ⟨61, _⟩ => ⟨S2048x2048, .f32⟩
  | .hbm, ⟨62, _⟩ => ⟨S_, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]
-- ==== Kernel16.lean ====
abbrev S2048x2048 : Shape := ⟨2, ![2048, 2048]⟩
abbrev S2048x12288 : Shape := ⟨2, ![2048, 12288]⟩
abbrev S1x2048 : Shape := ⟨2, ![1, 2048]⟩
abbrev S256x2048 : Shape := ⟨2, ![256, 2048]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x12288, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference16Ideal.lean ====
abbrev S2048x2048 : Shape := ⟨2, ![2048, 2048]⟩
abbrev S2048x12288 : Shape := ⟨2, ![2048, 12288]⟩
abbrev S1x2048 : Shape := ⟨2, ![1, 2048]⟩
abbrev S2048 : Shape := ⟨1, ![2048]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x12288, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S1x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S1x2048, .f32⟩
  | .hbm, ⟨59, _⟩ => ⟨S_, .f32⟩
  | .hbm, ⟨60, _⟩ => ⟨S2048, .f32⟩
  | .hbm, ⟨61, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Proof.Ret.Step.lean ====
module

public import proofs.«01_k».proof.Proof.Gen.KernelIdeal.Skeleton
public import Idealize.ShloMosaic.Lib.VecWindow
public import Idealize.ShloMosaic.Lib.WritesUnit

/-! # What one head of the retention's gradient computes, trip by trip

The kernel walks the sixteen chunks of a head four times: it builds the forward states, walks back
through the chunks with the forward adjoint, builds the backward states, and walks the chunks again with
the backward adjoint. Each walk's carried matrix and each chunk's contribution are given here as plain
functions of the head's inputs. -/

@[expose] public section

set_option maxRecDepth 16384

noncomputable section

namespace Cert.KernelIdeal.Ret

open Idealize.ShloMosaic Idealize.ShloMosaic.TcCoe
open Idealize.SL Idealize.SL.Sem
open Cert.KernelIdeal.Gen

variable {F : FTy → Type} [FloatOps F]

/-- Chunk number `k`. -/
def ch (k : ℕ) : Fin 16 := ⟨k % 16, Nat.mod_lt _ (by decide)⟩
/-- Chunk number `k` counted from the last. -/
def rch (k : ℕ) : Fin 16 := ⟨15 - k % 16, by omega⟩

theorem ch_val {k : ℕ} (h : k < 16) : (ch k).val = k := Nat.mod_eq_of_lt h
theorem rch_val {k : ℕ} (h : k < 16) : (rch k).val = 15 - k := by
  show 15 - k % 16 = 15 - k
  rw [Nat.mod_eq_of_lt h]

/-- Rows `128 c` to `128 c + 127` of a block 256 wide. -/
def bn {e : EltTy} (x : Vec F S2048x256 e) (c : Fin 16) : Vec F S128x256 e :=
  VecWindow.window x ![128 * c.val, 0] ![128, 256] (by
    have := c.isLt
    intro a; fin_cases a
    · show 128 * c.val + 128 ≤ 2048; omega
    · show 0 + 256 ≤ 256; omega)

/-- Rows `128 c` to `128 c + 127` of a block 512 wide. -/
def bw {e : EltTy} (x : Vec F S2048x512 e) (c : Fin 16) : Vec F S128x512 e :=
  VecWindow.window x ![128 * c.val, 0] ![128, 512] (by
    have := c.isLt
    intro a; fin_cases a
    · show 128 * c.val + 128 ≤ 2048; omega
    · show 0 + 512 ≤ 512; omega)

/-- The state of chunk `c` in the scratch of sixteen states. -/
def bs (x : Vec F S16x256x512 .f32) (c : Fin 16) : Vec F S1x256x512 .f32 :=
  VecWindow.window x ![c.val, 0, 0] ![1, 256, 512] (by
    have := c.isLt
    intro a; fin_cases a
    · show c.val + 1 ≤ 16; omega
    · show 0 + 256 ≤ 256; omega
    · show 0 + 512 ≤ 512; omega)

variable (w1 w4 : Elt F .f32)
variable (q k : Vec F S2048x256 .bf16) (v y : Vec F S2048x512 .bf16)

/-- The forward state before chunk `n`. -/
def Sf : ℕ → Vec F S256x512 .f32
  | 0 => k0_pay64
  | n + 1 => k0_pay66 w1 (bn k (ch n)) (bw v (ch n)) (Sf n)

/-- The backward state before the `n`-th chunk from the last. -/
def Sb : ℕ → Vec F S256x512 .f32
  | 0 => k0_pay72
  | n + 1 => k0_pay74 w4 (bn k (rch n)) (bw v (rch n)) (Sb n)

/-- The forward adjoint before the `n`-th chunk from the last. -/
def Hf : ℕ → Vec F S256x512 .f32
  | 0 => k0_pay67
  | n + 1 => k0_pay69 (k0_pay23 (k0_pay5 (bn q (rch n))) (k0_pay8 (bw y (rch n))) (k0_pay15 (k0_pay60 w1)))
      (k0_pay37 (k0_pay62 w1) (Hf n))

/-- The backward adjoint before chunk `n`. -/
def Hb : ℕ → Vec F S256x512 .f32
  | 0 => k0_pay1
  | n + 1 => k0_pay2 (k0_pay63 w4) (k0_pay54 (k0_pay40 (bw y (ch n))) (k0_pay46 (k0_pay61 w4) (bn q (ch n)))) (Hb n)

/-- The zero block a product accumulates into. -/
def z128 : FVec F S128x128 .f32 := constant S128x128 .f32 0x00000000#32
/-- The zero block a product accumulates into. -/
def z256 : FVec F S128x256 .f32 := constant S128x256 .f32 0x00000000#32

/-- The forward walk's part of the query gradient on chunk `c`. -/
def Qf (c : Fin 16) : Vec F S128x256 .f32 :=
  k0_pay29 (k0_pay6 (bn k c)) (k0_pay7 (bw v c)) (k0_pay8 (bw y c)) (k0_pay9 (k0_pay65 (Sf w1 k v c.val)))
    (k0_pay13 (k0_pay60 w1) (k0_pay61 w4)) (k0_pay15 (k0_pay60 w1))

/-- The forward walk's part of the key gradient on chunk `c`. -/
def Kf (c : Fin 16) : Vec F S128x256 .f32 :=
  k0_pay30 (k0_pay5 (bn q c)) (k0_pay7 (bw v c)) (k0_pay8 (bw y c)) (k0_pay13 (k0_pay60 w1) (k0_pay61 w4))
    (k0_pay17 (k0_pay60 w1)) (Hf w1 q y (15 - c.val))

/-- The forward walk's part of the value gradient on chunk `c`. -/
def Vf (c : Fin 16) : Vec F S128x512 .f32 :=
  k0_pay26 (k0_pay6 (bn k c)) (k0_pay8 (bw y c)) (k0_pay13 (k0_pay60 w1) (k0_pay61 w4)) (k0_pay17 (k0_pay60 w1))
    (k0_pay18 (bn q c)) (k0_pay19 (bn k c)) z128 (Hf w1 q y (15 - c.val))

/-- The query gradient on chunk `c`. -/
def Qc (c : Fin 16) : Vec F S128x256 .f32 :=
  k0_pay56 (k0_pay44 (k0_pay61 w4)) (k0_pay51 (bw y c)) (k0_pay52 (k0_pay73 (Sb w4 k v (15 - c.val)))) z256 (Qf w1 w4 k v y c)

/-- The key gradient on chunk `c`. -/
def Kc (c : Fin 16) : Vec F S128x256 .f32 :=
  k0_pay57 (k0_pay50 (k0_pay61 w4) (bw v c) (Hb w4 q y c.val)) (Kf w1 w4 q v y c)

/-- The value gradient on chunk `c`. -/
def Vc (c : Fin 16) : Vec F S128x512 .f32 :=
  k0_pay58 (k0_pay48 (k0_pay61 w4) (bn k c) (Hb w4 q y c.val)) (Vf w1 w4 q k y c)

/-- The forward walk's three running sums of the decay gradient before the `n`-th chunk from the last. -/
def Lf : ℕ → FVec F S1x1 .f32 × FVec F S1x1 .f32 × FVec F S1x1 .f32
  | 0 => (k0_pay68, k0_pay68, k0_pay68)
  | n + 1 =>
    let c := rch n
    let p := Lf n
    let s := k0_pay9 (k0_pay65 (Sf w1 k v c.val))
    let d := k0_pay13 (k0_pay60 w1) (k0_pay61 w4)
    let g := k0_pay27 (k0_pay7 (bw v c)) (k0_pay8 (bw y c)) (k0_pay18 (bn q c)) (k0_pay19 (bn k c)) z128
    (k0_pay70 p.1 (k0_pay35 k0_pay11 (k0_pay12 (F := F)) d k0_pay14 (k0_pay15 (k0_pay60 w1))
        (k0_pay24 (k0_pay5 (bn q c)) (k0_pay8 (bw y c)) s) g
        (k0_pay31 (k0_pay6 (bn k c)) (k0_pay7 (bw v c)) k0_pay16 (k0_pay17 (k0_pay60 w1)) (Hf w1 q y n))),
      k0_pay71 p.2.1 (k0_pay34 k0_pay11 (k0_pay12 (F := F)) d g),
      k0_pay36 p.2.2 s (Hf w1 q y n))

/-- The backward walk's two running sums of the decay gradient before chunk `n`, from the sums `i`. -/
def Lb (i : FVec F S1x1 .f32 × FVec F S1x1 .f32) : ℕ → FVec F S1x1 .f32 × FVec F S1x1 .f32
  | 0 => i
  | n + 1 =>
    let c := ch n
    let p := Lb i n
    let s := k0_pay73 (Sb w4 k v (15 - c.val))
    (k0_pay3 p.1 (k0_pay55 (k0_pay38 (bn q c)) k0_pay42 k0_pay43 (k0_pay44 (k0_pay61 w4)) (k0_pay45 (k0_pay61 w4))
        (k0_pay49 (bn k c) (bw v c) (Hb w4 q y n)) (k0_pay51 (bw y c)) (k0_pay52 s) z256),
      k0_pay59 p.2 (k0_pay41 s) (Hb w4 q y n))

/-- The decay gradient of the head. -/
def Lg : Vec F S1x8x128 .f32 :=
  k0_pay4 (k0_pay62 w1) (k0_pay63 w4) (Lf w1 w4 q k v y 16).1 (Lf w1 w4 q k v y 16).2.2
    (Lb w4 q k v y ((Lf w1 w4 q k v y 16).2.1, k0_pay68) 16).1 (Lb w4 q k v y ((Lf w1 w4 q k v y 16).2.1, k0_pay68) 16).2

/-- A block 256 wide from its sixteen chunks. -/
def asmN {e : EltTy} (B : Fin 16 → Vec F S128x256 e) : Vec F S2048x256 e := fun i =>
  B ⟨(i 0).val / 128, by have : (i 0).val < 2048 := (i 0).isLt; omega⟩
    (fun a => Fin.cases (motive := fun a => Fin (S128x256.size a)) (⟨(i 0).val % 128, Nat.mod_lt _ (by decide)⟩ : Fin 128) (fun a => match a with | ⟨0, _⟩ => (⟨(i 1).val, (i 1).isLt⟩ : Fin 256)) a)

/-- A block 512 wide from its sixteen chunks. -/
def asmW {e : EltTy} (B : Fin 16 → Vec F S128x512 e) : Vec F S2048x512 e := fun i =>
  B ⟨(i 0).val / 128, by have : (i 0).val < 2048 := (i 0).isLt; omega⟩
    (fun a => Fin.cases (motive := fun a => Fin (S128x512.size a)) (⟨(i 0).val % 128, Nat.mod_lt _ (by decide)⟩ : Fin 128) (fun a => match a with | ⟨0, _⟩ => (⟨(i 1).val, (i 1).isLt⟩ : Fin 512)) a)

theorem eq_asmN {e : EltTy} (d : Vec F S2048x256 e) (B : Fin 16 → Vec F S128x256 e) (h : ∀ c, bn d c = B c) : d = asmN B := by
  funext i
  unfold asmN
  rw [← h]
  unfold bn VecWindow.window
  refine congrArg d (funext fun a => Fin.ext ?_)
  fin_cases a
  · show (i 0).val = 128 * ((i 0).val / 128) + 1 * ((i 0).val % 128); omega
  · show (i 1).val = 0 + 1 * (i 1).val; omega

theorem eq_asmW {e : EltTy} (d : Vec F S2048x512 e) (B : Fin 16 → Vec F S128x512 e) (h : ∀ c, bw d c = B c) : d = asmW B := by
  funext i
  unfold asmW
  rw [← h]
  unfold bw VecWindow.window
  refine congrArg d (funext fun a => Fin.ext ?_)
  fin_cases a
  · show (i 0).val = 128 * ((i 0).val / 128) + 1 * ((i 0).val % 128); omega
  · show (i 1).val = 0 + 1 * (i 1).val; omega

end Cert.KernelIdeal.Ret

end
-- ==== Proof.Ret.Chunks.lean ====
module

public import proofs.«01_k».proof.Proof.Ret.Step
public import Idealize.ShloMosaic.Lib.Exec
public import Idealize.ShloMosaic.Lib.Tactic
public import Idealize.ShloMosaic.Lib.Pipeline.Kit

/-! # The four walks of the retention's gradient

One trip of each walk over whole staging buffers, from a statement of what the buffers hold before the trip
to the same statement before the next. -/

@[expose] public section

set_option maxRecDepth 16384
set_option maxHeartbeats 2000000

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄R" => MT nD τ sig Unit (Elt F) ℕ (UR sig nD τ) ℕ

/-! ## Reading and storing chunks -/

section Chunks

theorem bn_same {e : EltTy} (x : Vec F S2048x256 e) (w : Vec F S128x256 e) (c : Fin 16) : bn (VecWindow.put x ![128 * c.val, 0] ![128, 256] w) c = w :=
  VecWindow.window_put_same _ _ _ _ _
theorem bw_same {e : EltTy} (x : Vec F S2048x512 e) (w : Vec F S128x512 e) (c : Fin 16) : bw (VecWindow.put x ![128 * c.val, 0] ![128, 512] w) c = w :=
  VecWindow.window_put_same _ _ _ _ _
theorem bs_same (x : Vec F S16x256x512 .f32) (w : Vec F S1x256x512 .f32) (c : Fin 16) : bs (VecWindow.put x ![c.val, 0, 0] ![1, 256, 512] w) c = w :=
  VecWindow.window_put_same _ _ _ _ _
theorem bn_other {e : EltTy} (x : Vec F S2048x256 e) (w : Vec F S128x256 e) (c c' : Fin 16) (h : c' ≠ c) : bn (VecWindow.put x ![128 * c.val, 0] ![128, 256] w) c' = bn x c' :=
  VecWindow.window_put_of_disjoint _ _ _ _ _ _ _ (0 : Fin 2) (by
    have : c'.val ≠ c.val := fun e => h (Fin.ext e)
    show 128 * c'.val + 128 ≤ 128 * c.val ∨ 128 * c.val + 128 ≤ 128 * c'.val
    omega)
theorem bw_other {e : EltTy} (x : Vec F S2048x512 e) (w : Vec F S128x512 e) (c c' : Fin 16) (h : c' ≠ c) : bw (VecWindow.put x ![128 * c.val, 0] ![128, 512] w) c' = bw x c' :=
  VecWindow.window_put_of_disjoint _ _ _ _ _ _ _ (0 : Fin 2) (by
    have : c'.val ≠ c.val := fun e => h (Fin.ext e)
    show 128 * c'.val + 128 ≤ 128 * c.val ∨ 128 * c.val + 128 ≤ 128 * c'.val
    omega)
theorem bs_other (x : Vec F S16x256x512 .f32) (w : Vec F S1x256x512 .f32) (c c' : Fin 16) (h : c' ≠ c) : bs (VecWindow.put x ![c.val, 0, 0] ![1, 256, 512] w) c' = bs x c' :=
  VecWindow.window_put_of_disjoint _ _ _ _ _ _ _ (0 : Fin 3) (by
    have : c'.val ≠ c.val := fun e => h (Fin.ext e)
    show c'.val + 1 ≤ c.val ∨ c.val + 1 ≤ c'.val
    omega)

variable {sp : Space}

/-- A load of one chunk reads the chunk. -/
theorem ld_n {e : EltTy} (a : Memref sig .tc sp S2048x256 e) (f : a.view.ty.Contents (Elt F)) (off : Fin 2 → ℕ) (inb) (c : Fin 16) (h : off = ![128 * c.val, 0]) :
    a.view.readAt (Elt F) (Rect.unit (s := S2048x256) off S128x256.size inb).toLoadRect f = bn (a.view.read (Elt F) f) c :=
  View.readAt_unit a.view f inb h _
theorem ld_w {e : EltTy} (a : Memref sig .tc sp S2048x512 e) (f : a.view.ty.Contents (Elt F)) (off : Fin 2 → ℕ) (inb) (c : Fin 16) (h : off = ![128 * c.val, 0]) :
    a.view.readAt (Elt F) (Rect.unit (s := S2048x512) off S128x512.size inb).toLoadRect f = bw (a.view.read (Elt F) f) c :=
  View.readAt_unit a.view f inb h _
theorem ld_s (a : Memref sig .tc sp S16x256x512 .f32) (f : a.view.ty.Contents (Elt F)) (off : Fin 3 → ℕ) (inb) (c : Fin 16) (h : off = ![c.val, 0, 0]) :
    a.view.readAt (Elt F) (Rect.unit (s := S16x256x512) off S1x256x512.size inb).toLoadRect f = bs (a.view.read (Elt F) f) c :=
  View.readAt_unit a.view f inb h _
/-- A load of a whole state reads the state. -/
theorem ld_m (a : Memref sig .tc sp S256x512 .f32) (f : a.view.ty.Contents (Elt F)) (inb) :
    a.view.readAt (Elt F) (Rect.unit (s := S256x512) ![0, 0] S256x512.size inb).toLoadRect f = a.view.read (Elt F) f :=
  View.readAt_full a.view f inb
theorem ld_m' (a : Memref sig .tc sp S256x512 .f32) (f : a.view.ty.Contents (Elt F)) (inb) :
    a.view.readAt (Elt F) (Rect.unit (s := S256x512) ![0, 0] ![256, 512] inb).toLoadRect f = a.view.read (Elt F) f :=
  View.readAt_full a.view f inb
/-- A store of a whole state leaves the state. -/
theorem st_m (a : Memref sig .tc sp S256x512 .f32) (f : a.view.ty.Contents (Elt F)) (inb) (w : Vec F S256x512 .f32) (L) :
    a.view.read (Elt F) (a.view.writes (Elt F) f (⟨Rect.unit (s := S256x512) ![0, 0] S256x512.size inb, w⟩ :: L)) = w :=
  View.read_writes_full a.view f inb w L
/-- A store of one chunk puts the chunk. -/
theorem st_n (a : Memref sig .tc sp S2048x256 .f32) (f : a.view.ty.Contents (Elt F)) (off : Fin 2 → ℕ) (inb) (w : Vec F S128x256 .f32) (c : Fin 16) (h : off = ![128 * c.val, 0]) :
    a.view.read (Elt F) (a.view.writes (Elt F) f [⟨Rect.unit (s := S2048x256) off S128x256.size inb, w⟩]) = VecWindow.put (a.view.read (Elt F) f) ![128 * c.val, 0] ![128, 256] w :=
  View.read_writes_cons_put a.view f inb w [] h
theorem st_w (a : Memref sig .tc sp S2048x512 .f32) (f : a.view.ty.Contents (Elt F)) (off : Fin 2 → ℕ) (inb) (w : Vec F S128x512 .f32) (c : Fin 16) (h : off = ![128 * c.val, 0]) :
    a.view.read (Elt F) (a.view.writes (Elt F) f [⟨Rect.unit (s := S2048x512) off S128x512.size inb, w⟩]) = VecWindow.put (a.view.read (Elt F) f) ![128 * c.val, 0] ![128, 512] w :=
  View.read_writes_cons_put a.view f inb w [] h
theorem st_s (a : Memref sig .tc sp S16x256x512 .f32) (f : a.view.ty.Contents (Elt F)) (off : Fin 3 → ℕ) (inb) (w : Vec F S1x256x512 .f32) (c : Fin 16) (h : off = ![c.val, 0, 0]) :
    a.view.read (Elt F) (a.view.writes (Elt F) f [⟨Rect.unit (s := S16x256x512) off S1x256x512.size inb, w⟩]) = VecWindow.put (a.view.read (Elt F) f) ![c.val, 0, 0] ![1, 256, 512] w :=
  View.read_writes_cons_put a.view f inb w [] h

/-- Storing one more chunk of a table of chunks: the chunks said to be stored stay, the new one is what was stored. -/
theorem step_n (x : Vec F S2048x256 .f32) (B : Fin 16 → Vec F S128x256 .f32) (c : Fin 16) (P : Fin 16 → Prop) (h : ∀ c', P c' → bn x c' = B c') :
    ∀ c', (P c' ∨ c' = c) → bn (VecWindow.put x ![128 * c.val, 0] ![128, 256] (B c)) c' = B c' := by
  intro c' hc
  by_cases e : c' = c
  · subst e; exact bn_same _ _ _
  · rw [bn_other _ _ _ _ e]; exact h _ (hc.resolve_right e)
theorem step_w (x : Vec F S2048x512 .f32) (B : Fin 16 → Vec F S128x512 .f32) (c : Fin 16) (P : Fin 16 → Prop) (h : ∀ c', P c' → bw x c' = B c') :
    ∀ c', (P c' ∨ c' = c) → bw (VecWindow.put x ![128 * c.val, 0] ![128, 512] (B c)) c' = B c' := by
  intro c' hc
  by_cases e : c' = c
  · subst e; exact bw_same _ _ _
  · rw [bw_other _ _ _ _ e]; exact h _ (hc.resolve_right e)
theorem step_s (x : Vec F S16x256x512 .f32) (B : Fin 16 → Vec F S1x256x512 .f32) (c : Fin 16) (P : Fin 16 → Prop) (h : ∀ c', P c' → bs x c' = B c') :
    ∀ c', (P c' ∨ c' = c) → bs (VecWindow.put x ![c.val, 0, 0] ![1, 256, 512] (B c)) c' = B c' := by
  intro c' hc
  by_cases e : c' = c
  · subst e; exact bs_same _ _ _
  · rw [bs_other _ _ _ _ e]; exact h _ (hc.resolve_right e)

end Chunks

end Cert.KernelIdeal.Ret

end
-- ==== Proof.Ret.Walk1.lean ====
module

public import proofs.«01_k».proof.Proof.Ret.Chunks
public import Idealize.ShloMosaic.Lib.Exec
public import Idealize.ShloMosaic.Lib.Tactic
public import Idealize.ShloMosaic.Lib.Pipeline.Kit

/-! # The four walks of the retention's gradient

One trip of each walk over whole staging buffers, from a statement of what the buffers hold before the trip
to the same statement before the next. -/

@[expose] public section

set_option maxRecDepth 16384
set_option maxHeartbeats 2000000

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄R" => MT nD τ sig Unit (Elt F) ℕ (UR sig nD τ) ℕ

variable (c : Dev nD) (i : grid0.Coords)
variable (arg1 : Memref sig .tc .smem S2x4 .f32) (harg1 : arg1.IsWhole)
variable (arg2 : Memref sig .tc .vmem S2048x256 .bf16) (harg2 : arg2.IsWhole)
variable (arg3 : Memref sig .tc .vmem S2048x256 .bf16) (harg3 : arg3.IsWhole)
variable (arg4 : Memref sig .tc .vmem S2048x512 .bf16) (harg4 : arg4.IsWhole)
variable (arg5 : Memref sig .tc .vmem S2048x512 .bf16) (harg5 : arg5.IsWhole)
variable (arg6 : Memref sig .tc .vmem S2048x256 .f32) (harg6 : arg6.IsWhole)
variable (arg7 : Memref sig .tc .vmem S2048x256 .f32) (harg7 : arg7.IsWhole)
variable (arg8 : Memref sig .tc .vmem S2048x512 .f32) (harg8 : arg8.IsWhole)
variable (arg9 : Memref sig .tc .vmem S1x8x128 .f32) (harg9 : arg9.IsWhole)
variable (arg10 : Memref sig .tc .vmem S16x256x512 .f32) (harg10 : arg10.IsWhole)
variable (arg11 : Memref sig .tc .vmem S256x512 .f32) (harg11 : arg11.IsWhole)
variable (arg12 : Memref sig .tc .vmem S256x512 .f32) (harg12 : arg12.IsWhole)
variable (w1 w4 : Elt F .f32)
variable (X2 : BufTy.Contents (Elt F) arg2.view.ty) (X3 : BufTy.Contents (Elt F) arg3.view.ty) (X4 : BufTy.Contents (Elt F) arg4.view.ty) (X5 : BufTy.Contents (Elt F) arg5.view.ty)

local notation "xq" => arg2.view.read (Elt F) X2
local notation "xk" => arg3.view.read (Elt F) X3
local notation "xv" => arg4.view.read (Elt F) X4
local notation "xy" => arg5.view.read (Elt F) X5

/-! ## The forward states -/

/-- Before trip `n` the chunks before `n` hold their states and the running state is the `n`-th. -/
def inv1 (n : ℕ) : sProp 𝕄R :=
  iprop((arg3.view.loc (c : Thread nD τ) ↦[arg3.view.set]{fullShare} X3) ∗ (arg4.view.loc (c : Thread nD τ) ↦[arg4.view.set]{fullShare} X4)
    ∗ (∃ f, ⌜∀ j : Fin 16, j.val < n → bs (arg10.view.read (Elt F) f) j = k0_pay65 (Sf w1 xk xv j.val)⌝ ∗ (arg10.view.loc (c : Thread nD τ) ↦[arg10.view.set]{fullShare} f))
    ∗ (∃ f, ⌜arg11.view.read (Elt F) f = Sf w1 xk xv n⌝ ∗ (arg11.view.loc (c : Thread nD τ) ↦[arg11.view.set]{fullShare} f)))

theorem trip1 (n : Fin k0_t1_loop.trips) (E : Set ℕ) :
    inv1 (F := F) c arg3 arg4 arg10 arg11 w1 X3 X4 n.val ⊢ wp frame (wpE (defs₀ (F := F)) Variants.none (c : Thread nD τ) none) E
      (k0_t1_body (F := F) i arg1 harg1 arg2 harg2 arg3 harg3 arg4 harg4 arg5 harg5 arg6 harg6 arg7 harg7 arg8 harg8 arg9 harg9 arg10 harg10 arg11 harg11 arg12 harg12 w1 n PUnit.unit) (fun _ => inv1 (F := F) c arg3 arg4 arg10 arg11 w1 X3 X4 (n.val + 1)) := by
  have hn : n.val < 16 := Nat.lt_of_lt_of_le n.isLt k0_t1_abs.2.1
  have hc := ch_val hn
  have e3 : k0_off3 n = ![128 * (ch n.val).val, 0] := by rw [k0_off3_eq, hc]
  have e4 : k0_off4 n = ![128 * (ch n.val).val, 0] := by rw [k0_off4_eq, hc]
  have e5 : k0_off5 n = ![(ch n.val).val, 0, 0] := by rw [k0_off5_eq, hc]
  unfold k0_t1_body inv1
  iintro ⟨H3, H4, ⟨%f10, %h10, H10⟩, ⟨%f11, %h11, H11⟩⟩
  sl_exec
  sl_step
  isplitl [H3]; · iexact H3
  isplitl [H4]; · iexact H4
  isplitl [H10]
  · iexists _; isplitr; swap; · iexact H10
    ipureintro
    rw [st_s _ _ _ _ _ _ e5, ld_m, h11]
    have := step_s (arg10.view.read (Elt F) f10) (fun j => k0_pay65 (Sf w1 xk xv j.val)) (ch n.val) _ h10
    intro j hj
    rw [show (Sf w1 xk xv n.val) = Sf w1 xk xv (ch n.val).val by rw [hc]]
    exact this j (by rcases Nat.lt_succ_iff_lt_or_eq.mp hj with h | h
                     · exact Or.inl h
                     · exact Or.inr (Fin.ext (h.trans hc.symm)))
  iexists _; isplitr; swap; · iexact H11
  ipureintro
  rw [st_m, ld_m, h11, ld_n _ _ _ _ _ e3, ld_w _ _ _ _ _ e4]
  rfl

end Cert.KernelIdeal.Ret

end
-- ==== Proof.Ret.Walk2.lean ====
module

public import proofs.«01_k».proof.Proof.Ret.Chunks
public import Idealize.ShloMosaic.Lib.Exec
public import Idealize.ShloMosaic.Lib.Tactic
public import Idealize.ShloMosaic.Lib.Pipeline.Kit

/-! # The four walks of the retention's gradient

One trip of each walk over whole staging buffers, from a statement of what the buffers hold before the trip
to the same statement before the next. -/

@[expose] public section

set_option maxRecDepth 16384
set_option maxHeartbeats 2000000

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄R" => MT nD τ sig Unit (Elt F) ℕ (UR sig nD τ) ℕ

variable (c : Dev nD) (i : grid0.Coords)
variable (arg1 : Memref sig .tc .smem S2x4 .f32) (harg1 : arg1.IsWhole)
variable (arg2 : Memref sig .tc .vmem S2048x256 .bf16) (harg2 : arg2.IsWhole)
variable (arg3 : Memref sig .tc .vmem S2048x256 .bf16) (harg3 : arg3.IsWhole)
variable (arg4 : Memref sig .tc .vmem S2048x512 .bf16) (harg4 : arg4.IsWhole)
variable (arg5 : Memref sig .tc .vmem S2048x512 .bf16) (harg5 : arg5.IsWhole)
variable (arg6 : Memref sig .tc .vmem S2048x256 .f32) (harg6 : arg6.IsWhole)
variable (arg7 : Memref sig .tc .vmem S2048x256 .f32) (harg7 : arg7.IsWhole)
variable (arg8 : Memref sig .tc .vmem S2048x512 .f32) (harg8 : arg8.IsWhole)
variable (arg9 : Memref sig .tc .vmem S1x8x128 .f32) (harg9 : arg9.IsWhole)
variable (arg10 : Memref sig .tc .vmem S16x256x512 .f32) (harg10 : arg10.IsWhole)
variable (arg11 : Memref sig .tc .vmem S256x512 .f32) (harg11 : arg11.IsWhole)
variable (arg12 : Memref sig .tc .vmem S256x512 .f32) (harg12 : arg12.IsWhole)
variable (w1 w4 : Elt F .f32)
variable (X2 : BufTy.Contents (Elt F) arg2.view.ty) (X3 : BufTy.Contents (Elt F) arg3.view.ty) (X4 : BufTy.Contents (Elt F) arg4.view.ty) (X5 : BufTy.Contents (Elt F) arg5.view.ty)

local notation "xq" => arg2.view.read (Elt F) X2
local notation "xk" => arg3.view.read (Elt F) X3
local notation "xv" => arg4.view.read (Elt F) X4
local notation "xy" => arg5.view.read (Elt F) X5

variable (X10 : BufTy.Contents (Elt F) arg10.view.ty)

/-! ## The forward adjoint -/

/-- Before trip `n` the last `n` chunks hold the forward walk's parts of the three gradients, the adjoint is the
    `n`-th and the carried sums are the `n`-th. -/
def inv2 (n : ℕ) (a : FVec F S1x1 .f32 × FVec F S1x1 .f32 × FVec F S1x1 .f32) : sProp 𝕄R :=
  iprop(⌜a = Lf w1 w4 xq xk xv xy n⌝ ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10)
    ∗ (∃ f, ⌜∀ j : Fin 16, 15 - j.val < n → bn (arg6.view.read (Elt F) f) j = Qf w1 w4 xk xv xy j⌝ ∗ (arg6.view.loc (c : Thread nD τ) ↦[arg6.view.set]{fullShare} f))
    ∗ (∃ f, ⌜∀ j : Fin 16, 15 - j.val < n → bn (arg7.view.read (Elt F) f) j = Kf w1 w4 xq xv xy j⌝ ∗ (arg7.view.loc (c : Thread nD τ) ↦[arg7.view.set]{fullShare} f))
    ∗ (∃ f, ⌜∀ j : Fin 16, 15 - j.val < n → bw (arg8.view.read (Elt F) f) j = Vf w1 w4 xq xk xy j⌝ ∗ (arg8.view.loc (c : Thread nD τ) ↦[arg8.view.set]{fullShare} f))
    ∗ (∃ f, ⌜arg12.view.read (Elt F) f = Hf w1 xq xy n⌝ ∗ (arg12.view.loc (c : Thread nD τ) ↦[arg12.view.set]{fullShare} f)))

theorem trip2 (hX : ∀ j : Fin 16, bs (arg10.view.read (Elt F) X10) j = k0_pay65 (Sf w1 xk xv j.val))
    (n : Fin k0_t2_loop.trips) (a : FVec F S1x1 .f32 × FVec F S1x1 .f32 × FVec F S1x1 .f32) (E : Set ℕ) :
    inv2 (F := F) c arg2 arg3 arg4 arg5 arg6 arg7 arg8 arg10 arg12 w1 w4 X2 X3 X4 X5 X10 n.val a ⊢ wp frame (wpE (defs₀ (F := F)) Variants.none (c : Thread nD τ) none) E
      (k0_t2_body (F := F) i arg1 harg1 arg2 harg2 arg3 harg3 arg4 harg4 arg5 harg5 arg6 harg6 arg7 harg7 arg8 harg8 arg9 harg9 arg10 harg10 arg11 harg11 arg12 harg12 w1 w4 n a) (fun a' => inv2 (F := F) c arg2 arg3 arg4 arg5 arg6 arg7 arg8 arg10 arg12 w1 w4 X2 X3 X4 X5 X10 (n.val + 1) a') := by
  have hn : n.val < 16 := Nat.lt_of_lt_of_le n.isLt k0_t2_abs.2.1
  have hc := rch_val hn
  have hr : 15 - (rch n.val).val = n.val := by rw [hc]; omega
  have e6 : k0_off6 n = ![128 * (rch n.val).val, 0] := by rw [k0_off6_eq, hc]; congr 1; omega
  have e7 : k0_off7 n = ![128 * (rch n.val).val, 0] := by rw [k0_off7_eq, hc]; congr 1; omega
  have e8 : k0_off8 n = ![(rch n.val).val, 0, 0] := by rw [k0_off8_eq, hc]
  obtain ⟨a1, a2, a3⟩ := a
  unfold k0_t2_body inv2
  simp only [k0_part1_eq_skeleton, k0_part2_eq_skeleton, k0_part3_eq_skeleton]
  iintro ⟨%ha, H2, H3, H4, H5, H10, ⟨%f6, %h6, H6⟩, ⟨%f7, %h7, H7⟩, ⟨%f8, %h8, H8⟩, ⟨%f12, %h12, H12⟩⟩
  sl_exec
  sl_step
  have hj : ∀ j : Fin 16, 15 - j.val < n.val + 1 → 15 - j.val < n.val ∨ j = rch n.val := fun j hj => by
    rcases Nat.lt_succ_iff_lt_or_eq.mp hj with h | h
    · exact Or.inl h
    · exact Or.inr (Fin.ext (by rw [hc]; omega))
  isplitr
  · ipureintro
    try sl_unfold_run_names
    simp only [ld_n _ _ _ _ _ e6, ld_w _ _ _ _ _ e7, ld_s _ _ _ _ _ e8, ld_m, ld_m', h12, hX]
    have ha1 : a1 = _ := congrArg Prod.fst ha
    have ha2 : a2 = _ := congrArg (fun p => p.2.1) ha
    have ha3 : a3 = _ := congrArg (fun p => p.2.2) ha
    rw [ha1, ha2, ha3]
    try rfl
  isplitl [H2]; · iexact H2
  isplitl [H3]; · iexact H3
  isplitl [H4]; · iexact H4
  isplitl [H5]; · iexact H5
  isplitl [H10]; · iexact H10
  isplitl [H6]
  · iexists _; isplitr; swap; · iexact H6
    ipureintro
    intro j hj'
    refine Eq.trans ?_ (step_n (arg6.view.read (Elt F) f6) (Qf w1 w4 xk xv xy) (rch n.val) _ h6 j (hj j hj'))
    rw [st_n _ _ _ _ _ _ e6]
    try sl_unfold_run_names
    simp only [ld_n _ _ _ _ _ e6, ld_w _ _ _ _ _ e7, ld_s _ _ _ _ _ e8, ld_m, ld_m', h12, hX]
    try rfl
  isplitl [H7]
  · iexists _; isplitr; swap; · iexact H7
    ipureintro
    intro j hj'
    refine Eq.trans ?_ (step_n (arg7.view.read (Elt F) f7) (Kf w1 w4 xq xv xy) (rch n.val) _ h7 j (hj j hj'))
    rw [st_n _ _ _ _ _ _ e6]
    unfold Kf; rw [hr]
    try sl_unfold_run_names
    simp only [ld_n _ _ _ _ _ e6, ld_w _ _ _ _ _ e7, ld_s _ _ _ _ _ e8, ld_m, ld_m', h12, hX]
    try rfl
  isplitl [H8]
  · iexists _; isplitr; swap; · iexact H8
    ipureintro
    intro j hj'
    refine Eq.trans ?_ (step_w (arg8.view.read (Elt F) f8) (Vf w1 w4 xq xk xy) (rch n.val) _ h8 j (hj j hj'))
    rw [st_w _ _ _ _ _ _ e7]
    unfold Vf; rw [hr]
    try sl_unfold_run_names
    simp only [ld_n _ _ _ _ _ e6, ld_w _ _ _ _ _ e7, ld_s _ _ _ _ _ e8, ld_m, ld_m', h12, hX]
    try rfl
  iexists _; isplitr; swap; · iexact H12
  ipureintro
  refine (st_m _ _ _ _ _).trans ?_
  try sl_unfold_run_names
  simp only [ld_n _ _ _ _ _ e6, ld_w _ _ _ _ _ e7, ld_s _ _ _ _ _ e8, ld_m, ld_m', h12, hX]
  rfl

end Cert.KernelIdeal.Ret

end
-- ==== Proof.Ret.Walk3.lean ====
module

public import proofs.«01_k».proof.Proof.Ret.Chunks
public import Idealize.ShloMosaic.Lib.Exec
public import Idealize.ShloMosaic.Lib.Tactic
public import Idealize.ShloMosaic.Lib.Pipeline.Kit

/-! # The four walks of the retention's gradient

One trip of each walk over whole staging buffers, from a statement of what the buffers hold before the trip
to the same statement before the next. -/

@[expose] public section

set_option maxRecDepth 16384
set_option maxHeartbeats 2000000

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄R" => MT nD τ sig Unit (Elt F) ℕ (UR sig nD τ) ℕ

variable (c : Dev nD) (i : grid0.Coords)
variable (arg1 : Memref sig .tc .smem S2x4 .f32) (harg1 : arg1.IsWhole)
variable (arg2 : Memref sig .tc .vmem S2048x256 .bf16) (harg2 : arg2.IsWhole)
variable (arg3 : Memref sig .tc .vmem S2048x256 .bf16) (harg3 : arg3.IsWhole)
variable (arg4 : Memref sig .tc .vmem S2048x512 .bf16) (harg4 : arg4.IsWhole)
variable (arg5 : Memref sig .tc .vmem S2048x512 .bf16) (harg5 : arg5.IsWhole)
variable (arg6 : Memref sig .tc .vmem S2048x256 .f32) (harg6 : arg6.IsWhole)
variable (arg7 : Memref sig .tc .vmem S2048x256 .f32) (harg7 : arg7.IsWhole)
variable (arg8 : Memref sig .tc .vmem S2048x512 .f32) (harg8 : arg8.IsWhole)
variable (arg9 : Memref sig .tc .vmem S1x8x128 .f32) (harg9 : arg9.IsWhole)
variable (arg10 : Memref sig .tc .vmem S16x256x512 .f32) (harg10 : arg10.IsWhole)
variable (arg11 : Memref sig .tc .vmem S256x512 .f32) (harg11 : arg11.IsWhole)
variable (arg12 : Memref sig .tc .vmem S256x512 .f32) (harg12 : arg12.IsWhole)
variable (w1 w4 : Elt F .f32)
variable (X2 : BufTy.Contents (Elt F) arg2.view.ty) (X3 : BufTy.Contents (Elt F) arg3.view.ty) (X4 : BufTy.Contents (Elt F) arg4.view.ty) (X5 : BufTy.Contents (Elt F) arg5.view.ty)

local notation "xq" => arg2.view.read (Elt F) X2
local notation "xk" => arg3.view.read (Elt F) X3
local notation "xv" => arg4.view.read (Elt F) X4
local notation "xy" => arg5.view.read (Elt F) X5

/-! ## The backward states -/

/-- Before trip `n` the last `n` chunks hold their backward states and the running state is the `n`-th. -/
def inv3 (n : ℕ) : sProp 𝕄R :=
  iprop((arg3.view.loc (c : Thread nD τ) ↦[arg3.view.set]{fullShare} X3) ∗ (arg4.view.loc (c : Thread nD τ) ↦[arg4.view.set]{fullShare} X4)
    ∗ (∃ f, ⌜∀ j : Fin 16, 15 - j.val < n → bs (arg10.view.read (Elt F) f) j = k0_pay73 (Sb w4 xk xv (15 - j.val))⌝ ∗ (arg10.view.loc (c : Thread nD τ) ↦[arg10.view.set]{fullShare} f))
    ∗ (∃ f, ⌜arg11.view.read (Elt F) f = Sb w4 xk xv n⌝ ∗ (arg11.view.loc (c : Thread nD τ) ↦[arg11.view.set]{fullShare} f)))

theorem trip3 (n : Fin k0_t3_loop.trips) (E : Set ℕ) :
    inv3 (F := F) c arg3 arg4 arg10 arg11 w4 X3 X4 n.val ⊢ wp frame (wpE (defs₀ (F := F)) Variants.none (c : Thread nD τ) none) E
      (k0_t3_body (F := F) i arg1 harg1 arg2 harg2 arg3 harg3 arg4 harg4 arg5 harg5 arg6 harg6 arg7 harg7 arg8 harg8 arg9 harg9 arg10 harg10 arg11 harg11 arg12 harg12 w4 n PUnit.unit) (fun _ => inv3 (F := F) c arg3 arg4 arg10 arg11 w4 X3 X4 (n.val + 1)) := by
  have hn : n.val < 16 := Nat.lt_of_lt_of_le n.isLt k0_t3_abs.2.1
  have hc := rch_val hn
  have e9 : k0_off9 n = ![128 * (rch n.val).val, 0] := by rw [k0_off9_eq, hc]; congr 1; omega
  have e10 : k0_off10 n = ![128 * (rch n.val).val, 0] := by rw [k0_off10_eq, hc]; congr 1; omega
  have e11 : k0_off11 n = ![(rch n.val).val, 0, 0] := by rw [k0_off11_eq, hc]
  unfold k0_t3_body inv3
  iintro ⟨H3, H4, ⟨%f10, %h10, H10⟩, ⟨%f11, %h11, H11⟩⟩
  sl_exec
  sl_step
  isplitl [H3]; · iexact H3
  isplitl [H4]; · iexact H4
  isplitl [H10]
  · iexists _; isplitr; swap; · iexact H10
    ipureintro
    rw [st_s _ _ _ _ _ _ e11, ld_m, h11]
    have := step_s (arg10.view.read (Elt F) f10) (fun j => k0_pay73 (Sb w4 xk xv (15 - j.val))) (rch n.val) _ h10
    intro j hj
    rw [show (Sb w4 xk xv n.val) = Sb w4 xk xv (15 - (rch n.val).val) by rw [hc]; congr 1; omega]
    exact this j (by rcases Nat.lt_succ_iff_lt_or_eq.mp hj with h | h
                     · exact Or.inl h
                     · exact Or.inr (Fin.ext (by rw [hc]; omega)))
  iexists _; isplitr; swap; · iexact H11
  ipureintro
  rw [st_m, ld_m, h11, ld_n _ _ _ _ _ e9, ld_w _ _ _ _ _ e10]
  rfl

end Cert.KernelIdeal.Ret

end
-- ==== Proof.Ret.Walk4.lean ====
module

public import proofs.«01_k».proof.Proof.Ret.Chunks
public import Idealize.ShloMosaic.Lib.Exec
public import Idealize.ShloMosaic.Lib.Tactic
public import Idealize.ShloMosaic.Lib.Pipeline.Kit

/-! # The four walks of the retention's gradient

One trip of each walk over whole staging buffers, from a statement of what the buffers hold before the trip
to the same statement before the next. -/

@[expose] public section

set_option maxRecDepth 16384
set_option maxHeartbeats 2000000

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄R" => MT nD τ sig Unit (Elt F) ℕ (UR sig nD τ) ℕ

variable (c : Dev nD) (i : grid0.Coords)
variable (arg1 : Memref sig .tc .smem S2x4 .f32) (harg1 : arg1.IsWhole)
variable (arg2 : Memref sig .tc .vmem S2048x256 .bf16) (harg2 : arg2.IsWhole)
variable (arg3 : Memref sig .tc .vmem S2048x256 .bf16) (harg3 : arg3.IsWhole)
variable (arg4 : Memref sig .tc .vmem S2048x512 .bf16) (harg4 : arg4.IsWhole)
variable (arg5 : Memref sig .tc .vmem S2048x512 .bf16) (harg5 : arg5.IsWhole)
variable (arg6 : Memref sig .tc .vmem S2048x256 .f32) (harg6 : arg6.IsWhole)
variable (arg7 : Memref sig .tc .vmem S2048x256 .f32) (harg7 : arg7.IsWhole)
variable (arg8 : Memref sig .tc .vmem S2048x512 .f32) (harg8 : arg8.IsWhole)
variable (arg9 : Memref sig .tc .vmem S1x8x128 .f32) (harg9 : arg9.IsWhole)
variable (arg10 : Memref sig .tc .vmem S16x256x512 .f32) (harg10 : arg10.IsWhole)
variable (arg11 : Memref sig .tc .vmem S256x512 .f32) (harg11 : arg11.IsWhole)
variable (arg12 : Memref sig .tc .vmem S256x512 .f32) (harg12 : arg12.IsWhole)
variable (w1 w4 : Elt F .f32)
variable (X2 : BufTy.Contents (Elt F) arg2.view.ty) (X3 : BufTy.Contents (Elt F) arg3.view.ty) (X4 : BufTy.Contents (Elt F) arg4.view.ty) (X5 : BufTy.Contents (Elt F) arg5.view.ty)

local notation "xq" => arg2.view.read (Elt F) X2
local notation "xk" => arg3.view.read (Elt F) X3
local notation "xv" => arg4.view.read (Elt F) X4
local notation "xy" => arg5.view.read (Elt F) X5

variable (X10 : BufTy.Contents (Elt F) arg10.view.ty) (a0 : FVec F S1x1 .f32 × FVec F S1x1 .f32)

/-! ## The backward adjoint -/

/-- Before trip `n` the chunks before `n` hold their gradients and the others the forward walk's parts, the adjoint
    is the `n`-th and the carried sums are the `n`-th. -/
def inv4 (n : ℕ) (a : FVec F S1x1 .f32 × FVec F S1x1 .f32) : sProp 𝕄R :=
  iprop(⌜a = Lb w4 xq xk xv xy a0 n⌝ ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10)
    ∗ (∃ f, ⌜∀ j : Fin 16, bn (arg6.view.read (Elt F) f) j = if j.val < n then Qc w1 w4 xk xv xy j else Qf w1 w4 xk xv xy j⌝ ∗ (arg6.view.loc (c : Thread nD τ) ↦[arg6.view.set]{fullShare} f))
    ∗ (∃ f, ⌜∀ j : Fin 16, bn (arg7.view.read (Elt F) f) j = if j.val < n then Kc w1 w4 xq xv xy j else Kf w1 w4 xq xv xy j⌝ ∗ (arg7.view.loc (c : Thread nD τ) ↦[arg7.view.set]{fullShare} f))
    ∗ (∃ f, ⌜∀ j : Fin 16, bw (arg8.view.read (Elt F) f) j = if j.val < n then Vc w1 w4 xq xk xy j else Vf w1 w4 xq xk xy j⌝ ∗ (arg8.view.loc (c : Thread nD τ) ↦[arg8.view.set]{fullShare} f))
    ∗ (∃ f, ⌜arg12.view.read (Elt F) f = Hb w4 xq xy n⌝ ∗ (arg12.view.loc (c : Thread nD τ) ↦[arg12.view.set]{fullShare} f)))

theorem trip4 (hX : ∀ j : Fin 16, bs (arg10.view.read (Elt F) X10) j = k0_pay73 (Sb w4 xk xv (15 - j.val)))
    (n : Fin k0_t4_loop.trips) (a : FVec F S1x1 .f32 × FVec F S1x1 .f32) (E : Set ℕ) :
    inv4 (F := F) c arg2 arg3 arg4 arg5 arg6 arg7 arg8 arg10 arg12 w1 w4 X2 X3 X4 X5 X10 a0 n.val a ⊢ wp frame (wpE (defs₀ (F := F)) Variants.none (c : Thread nD τ) none) E
      (k0_t4_body (F := F) i arg1 harg1 arg2 harg2 arg3 harg3 arg4 harg4 arg5 harg5 arg6 harg6 arg7 harg7 arg8 harg8 arg9 harg9 arg10 harg10 arg11 harg11 arg12 harg12 (k0_pay61 w4) (k0_pay63 w4) n a) (fun a' => inv4 (F := F) c arg2 arg3 arg4 arg5 arg6 arg7 arg8 arg10 arg12 w1 w4 X2 X3 X4 X5 X10 a0 (n.val + 1) a') := by
  have hn : n.val < 16 := Nat.lt_of_lt_of_le n.isLt k0_t4_abs.2.1
  have hc := ch_val hn
  have e12 : k0_off12 n = ![128 * (ch n.val).val, 0] := by rw [k0_off12_eq, hc]
  have e13 : k0_off13 n = ![128 * (ch n.val).val, 0] := by rw [k0_off13_eq, hc]
  have e14 : k0_off14 n = ![(ch n.val).val, 0, 0] := by rw [k0_off14_eq, hc]
  have hself : ¬ (ch n.val).val < n.val := by omega
  have hnext : (ch n.val).val < n.val + 1 := by omega
  have hoth : ∀ j : Fin 16, j ≠ ch n.val → (j.val < n.val ↔ j.val < n.val + 1) := fun j hj => by
    have : j.val ≠ (ch n.val).val := fun e => hj (Fin.ext e)
    omega
  obtain ⟨a1, a2⟩ := a
  unfold k0_t4_body inv4
  simp only [k0_part4_eq_skeleton, k0_part5_eq_skeleton]
  iintro ⟨%ha, H2, H3, H4, H5, H10, ⟨%f6, %h6, H6⟩, ⟨%f7, %h7, H7⟩, ⟨%f8, %h8, H8⟩, ⟨%f12, %h12, H12⟩⟩
  have g6 := h6 (ch n.val); rw [if_neg hself] at g6
  have g7 := h7 (ch n.val); rw [if_neg hself] at g7
  have g8 := h8 (ch n.val); rw [if_neg hself] at g8
  sl_exec
  sl_step
  isplitr
  · ipureintro
    try sl_unfold_run_names
    simp only [ld_n _ _ _ _ _ e12, ld_w _ _ _ _ _ e13, ld_s _ _ _ _ _ e14, ld_m, ld_m', h12, hX]
    have ha1 : a1 = _ := congrArg Prod.fst ha
    have ha2 : a2 = _ := congrArg Prod.snd ha
    rw [ha1, ha2]
    try rfl
  isplitl [H2]; · iexact H2
  isplitl [H3]; · iexact H3
  isplitl [H4]; · iexact H4
  isplitl [H5]; · iexact H5
  isplitl [H10]; · iexact H10
  isplitl [H6]
  · iexists _; isplitr; swap; · iexact H6
    ipureintro
    intro j
    have key := step_n (arg6.view.read (Elt F) f6) (fun j => if j.val < n.val + 1 then Qc w1 w4 xk xv xy j else Qf w1 w4 xk xv xy j) (ch n.val) (· ≠ ch n.val)
      (fun j hj => by rw [h6 j]; simp only [hoth j hj]) j (or_comm.mp (em _))
    refine Eq.trans ?_ key
    rw [st_n _ _ _ _ _ _ e12, if_pos hnext]
    unfold Qc
    try sl_unfold_run_names
    simp only [ld_n _ _ _ _ _ e12, ld_w _ _ _ _ _ e13, ld_s _ _ _ _ _ e14, ld_m, ld_m', h12, hX, g6]
    try rfl
  isplitl [H7]
  · iexists _; isplitr; swap; · iexact H7
    ipureintro
    intro j
    have key := step_n (arg7.view.read (Elt F) f7) (fun j => if j.val < n.val + 1 then Kc w1 w4 xq xv xy j else Kf w1 w4 xq xv xy j) (ch n.val) (· ≠ ch n.val)
      (fun j hj => by rw [h7 j]; simp only [hoth j hj]) j (or_comm.mp (em _))
    refine Eq.trans ?_ key
    rw [st_n _ _ _ _ _ _ e12, if_pos hnext]
    unfold Kc; rw [hc]
    try sl_unfold_run_names
    simp only [ld_n _ _ _ _ _ e12, ld_w _ _ _ _ _ e13, ld_s _ _ _ _ _ e14, ld_m, ld_m', h12, hX, g7]
    try rfl
  isplitl [H8]
  · iexists _; isplitr; swap; · iexact H8
    ipureintro
    intro j
    have key := step_w (arg8.view.read (Elt F) f8) (fun j => if j.val < n.val + 1 then Vc w1 w4 xq xk xy j else Vf w1 w4 xq xk xy j) (ch n.val) (· ≠ ch n.val)
      (fun j hj => by rw [h8 j]; simp only [hoth j hj]) j (or_comm.mp (em _))
    refine Eq.trans ?_ key
    rw [st_w _ _ _ _ _ _ e13, if_pos hnext]
    unfold Vc; rw [hc]
    try sl_unfold_run_names
    simp only [ld_n _ _ _ _ _ e12, ld_w _ _ _ _ _ e13, ld_s _ _ _ _ _ e14, ld_m, ld_m', h12, hX, g8]
    try rfl
  iexists _; isplitr; swap; · iexact H12
  ipureintro
  refine (st_m _ _ _ _ _).trans ?_
  try sl_unfold_run_names
  simp only [ld_n _ _ _ _ _ e12, ld_w _ _ _ _ _ e13, ld_s _ _ _ _ _ e14, ld_m, ld_m', h12, hX]
  rfl

end Cert.KernelIdeal.Ret

end
-- ==== Proof.Ret.Body.lean ====
module

public import proofs.«01_k».proof.Proof.Ret.Walk1
public import proofs.«01_k».proof.Proof.Ret.Walk2
public import proofs.«01_k».proof.Proof.Ret.Walk3
public import proofs.«01_k».proof.Proof.Ret.Walk4
public import Idealize.ShloMosaic.Lib.Exec
public import Idealize.ShloMosaic.Lib.Tactic
public import Idealize.ShloMosaic.Lib.Pipeline.Kit

/-! # The retention's gradient of one head

The whole body over whole staging buffers: the four walks one after another, each over its own statement of what the
buffers hold, and what the four outputs hold in the end. -/

@[expose] public section

set_option maxRecDepth 16384
set_option maxHeartbeats 2000000

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄R" => MT nD τ sig Unit (Elt F) ℕ (UR sig nD τ) ℕ

variable (c : Dev nD) (i : grid0.Coords)
variable (arg1 : Memref sig .tc .smem S2x4 .f32) (harg1 : arg1.IsWhole)
variable (arg2 : Memref sig .tc .vmem S2048x256 .bf16) (harg2 : arg2.IsWhole)
variable (arg3 : Memref sig .tc .vmem S2048x256 .bf16) (harg3 : arg3.IsWhole)
variable (arg4 : Memref sig .tc .vmem S2048x512 .bf16) (harg4 : arg4.IsWhole)
variable (arg5 : Memref sig .tc .vmem S2048x512 .bf16) (harg5 : arg5.IsWhole)
variable (arg6 : Memref sig .tc .vmem S2048x256 .f32) (harg6 : arg6.IsWhole)
variable (arg7 : Memref sig .tc .vmem S2048x256 .f32) (harg7 : arg7.IsWhole)
variable (arg8 : Memref sig .tc .vmem S2048x512 .f32) (harg8 : arg8.IsWhole)
variable (arg9 : Memref sig .tc .vmem S1x8x128 .f32) (harg9 : arg9.IsWhole)
variable (arg10 : Memref sig .tc .vmem S16x256x512 .f32) (harg10 : arg10.IsWhole)
variable (arg11 : Memref sig .tc .vmem S256x512 .f32) (harg11 : arg11.IsWhole)
variable (arg12 : Memref sig .tc .vmem S256x512 .f32) (harg12 : arg12.IsWhole)

/-- The head's forward decay exponent. -/
def wf (i : grid0.Coords) (x : Vec F S2x4 .f32) : Elt F .f32 := x (fun a => match a with | ⟨0, _⟩ => (0 : Fin 2) | ⟨1, _⟩ => (i 0 : Fin 4))
/-- The head's backward decay exponent. -/
def wb (i : grid0.Coords) (x : Vec F S2x4 .f32) : Elt F .f32 := x (fun a => match a with | ⟨0, _⟩ => (1 : Fin 2) | ⟨1, _⟩ => (i 0 : Fin 4))

theorem trips1 : k0_t1_loop.trips = 16 := by decide +kernel
theorem trips2 : k0_t2_loop.trips = 16 := by decide +kernel
theorem trips3 : k0_t3_loop.trips = 16 := by decide +kernel
theorem trips4 : k0_t4_loop.trips = 16 := by decide +kernel

theorem head_nat (j : Fin 4) : (Scalar.indexCast (BitVec.ofNat 32 j.val) : Index).toNat = j.val := by
  revert j; decide +kernel

theorem off1 (i : grid0.Coords) : k0_off1 i = ![0, (i 0).val] := by
  show ![0, (Scalar.indexCast (BitVec.ofNat 32 (i 0).val) : Index).toNat] = _
  rw [head_nat (i 0)]

theorem off2 (i : grid0.Coords) : k0_off2 i = ![1, (i 0).val] := by
  show ![1, (Scalar.indexCast (BitVec.ofNat 32 (i 0).val) : Index).toNat] = _
  rw [head_nat (i 0)]

/-- On whole staging buffers the body leaves each output at the head's gradient, as a function of the head's inputs. -/
theorem run (x0 : Vec F S2x4 .f32) (x1 x2 : Vec F S2048x256 .bf16) (x3 x4 : Vec F S2048x512 .bf16) (E : Set ℕ) (K : PUnit → sProp 𝕄R) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (asmN (Qc (wf i x0) (wb i x0) x2 x3 x4)) ∗ owns (c : Thread nD τ) arg7 fullShare (asmN (Kc (wf i x0) (wb i x0) x1 x3 x4)) ∗ owns (c : Thread nD τ) arg8 fullShare (asmW (Vc (wf i x0) (wb i x0) x1 x2 x4)) ∗ owns (c : Thread nD τ) arg9 fullShare (Lg (wf i x0) (wb i x0) x1 x2 x3 x4) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_ret_bwd (F := F) i arg1 harg1 arg2 harg2 arg3 harg3 arg4 harg4 arg5 harg5 arg6 harg6 arg7 harg7 arg8 harg8 arg9 harg9 arg10 harg10 arg11 harg11 arg12 harg12) K := by
  simp only [cc0_ret_bwd_eq_skeleton]; unfold cc0_ret_bwd_skel
  simp only [k0_part6_eq_skeleton]
  unfold owns
  iintro ⟨⟨%f0, %hf0, H1⟩, ⟨%X2, %hf1, H2⟩, ⟨%X3, %hf2, H3⟩, ⟨%X4, %hf3, H4⟩, ⟨%X5, %hf4, H5⟩, ⟨%d5, %f5, -, H6⟩, ⟨%d6, %f6, -, H7⟩, ⟨%d7, %f7, -, H8⟩, ⟨%d8, %f8, -, H9⟩, ⟨%ds0, %fs0, -, H10⟩, ⟨%ds1, %fs1, -, H11⟩, ⟨%ds2, %fs2, -, H12⟩, Hk⟩
  subst hf0 hf1 hf2 hf3 hf4
  sl_exec
  have e1 : run.sl.r (F := F) c i arg1 f0 = wf i (arg1.view.read (Elt F) f0) := by
    unfold run.sl.r
    refine congrArg (arg1.view.read (Elt F) f0) (funext fun a => Fin.ext ?_)
    fin_cases a
    · exact congrFun (off1 i) 0
    · exact congrFun (off1 i) 1
  have e2 : run.sl.r_1 (F := F) c i arg1 f0 = wb i (arg1.view.read (Elt F) f0) := by
    unfold run.sl.r_1
    refine congrArg (arg1.view.read (Elt F) f0) (funext fun a => Fin.ext ?_)
    fin_cases a
    · exact congrFun (off2 i) 0
    · exact congrFun (off2 i) 1
  generalize wf i (arg1.view.read (Elt F) f0) = w1 at e1 ⊢
  generalize wb i (arg1.view.read (Elt F) f0) = w4 at e2 ⊢
  sl_for (fun n (_ : PUnit) => inv1 (F := F) c arg3 arg4 arg10 arg11 w1 X3 X4 n) $$ [H3 H4 H10 H11]
  case region =>
    intro n acc
    unfold run.sl.prog.body_1
    rw [e1]
    exact trip1 (F := F) c i arg1 harg1 arg2 harg2 arg3 harg3 arg4 harg4 arg5 harg5 arg6 harg6 arg7 harg7 arg8 harg8 arg9 harg9 arg10 harg10 arg11 harg11 arg12 harg12 _ X3 X4 n E
  · unfold inv1
    isplitl [H3]; · iexact H3
    isplitl [H4]; · iexact H4
    isplitl [H10]
    · iexists _; isplitr; swap; · iexact H10
      ipureintro; intro j hj; exact absurd hj (Nat.not_lt_zero _)
    iexists _; isplitr; swap; · iexact H11
    ipureintro; exact st_m _ _ _ _ _
  iintro %acc HI
  rw [show Scf.trips k0_t1_loop.lb k0_t1_loop.ub k0_t1_loop.st = 16 from trips1]
  unfold inv1
  icases HI with ⟨H3, H4, ⟨%X10, %h10, H10⟩, ⟨%f11, %h11, H11⟩⟩
  sl_exec
  sl_for (fun n a => inv2 (F := F) c arg2 arg3 arg4 arg5 arg6 arg7 arg8 arg10 arg12 w1 w4 X2 X3 X4 X5 X10 n a) $$ [H2 H3 H4 H5 H6 H7 H8 H10 H12]
  case region =>
    intro n acc
    unfold run.sl.prog.body_2
    rw [e1, e2]
    exact trip2 (F := F) c i arg1 harg1 arg2 harg2 arg3 harg3 arg4 harg4 arg5 harg5 arg6 harg6 arg7 harg7 arg8 harg8 arg9 harg9 arg10 harg10 arg11 harg11 arg12 harg12 _ _ X2 X3 X4 X5 X10 (fun j => h10 j j.isLt) n acc E
  · unfold inv2
    isplitr
    · ipureintro; rfl
    isplitl [H2]; · iexact H2
    isplitl [H3]; · iexact H3
    isplitl [H4]; · iexact H4
    isplitl [H5]; · iexact H5
    isplitl [H10]; · iexact H10
    isplitl [H6]
    · iexists _; isplitr; swap; · iexact H6
      ipureintro; intro j hj; exact absurd hj (Nat.not_lt_zero _)
    isplitl [H7]
    · iexists _; isplitr; swap; · iexact H7
      ipureintro; intro j hj; exact absurd hj (Nat.not_lt_zero _)
    isplitl [H8]
    · iexists _; isplitr; swap; · iexact H8
      ipureintro; intro j hj; exact absurd hj (Nat.not_lt_zero _)
    iexists _; isplitr; swap; · iexact H12
    ipureintro; exact st_m _ _ _ _ _
  iintro %a2 HI
  rw [show Scf.trips k0_t2_loop.lb k0_t2_loop.ub k0_t2_loop.st = 16 from trips2]
  unfold inv2
  icases HI with ⟨%ha2, H2, H3, H4, H5, H10, ⟨%f6, %h6, H6⟩, ⟨%f7, %h7, H7⟩, ⟨%f8, %h8, H8⟩, ⟨%f12, %h12, H12⟩⟩
  obtain ⟨a20, a21, a22⟩ := a2
  sl_exec
  sl_for (fun n (_ : PUnit) => inv3 (F := F) c arg3 arg4 arg10 arg11 w4 X3 X4 n) $$ [H3 H4 H10 H11]
  case region =>
    intro n acc
    unfold run.sl.prog.body_3
    rw [e2]
    exact trip3 (F := F) c i arg1 harg1 arg2 harg2 arg3 harg3 arg4 harg4 arg5 harg5 arg6 harg6 arg7 harg7 arg8 harg8 arg9 harg9 arg10 harg10 arg11 harg11 arg12 harg12 _ X3 X4 n E
  · unfold inv3
    isplitl [H3]; · iexact H3
    isplitl [H4]; · iexact H4
    isplitl [H10]
    · iexists _; isplitr; swap; · iexact H10
      ipureintro; intro j hj; exact absurd hj (Nat.not_lt_zero _)
    iexists _; isplitr; swap; · iexact H11
    ipureintro; exact st_m _ _ _ _ _
  iintro %acc3 HI
  rw [show Scf.trips k0_t3_loop.lb k0_t3_loop.ub k0_t3_loop.st = 16 from trips3]
  unfold inv3
  icases HI with ⟨H3, H4, ⟨%X10', %h10', H10⟩, ⟨%f11', %h11', H11⟩⟩
  sl_exec
  have e3 : run.sl.r_2 (F := F) c i arg1 f0 = k0_pay61 w4 := congrArg k0_pay61 e2
  have e4 : run.sl.r_3 (F := F) c i arg1 f0 = k0_pay62 w1 := congrArg k0_pay62 e1
  have e5 : run.sl.r_4 (F := F) c i arg1 f0 = k0_pay63 w4 := congrArg k0_pay63 e2
  sl_for (fun n a => inv4 (F := F) c arg2 arg3 arg4 arg5 arg6 arg7 arg8 arg10 arg12 w1 w4 X2 X3 X4 X5 X10' (a21, k0_pay68) n a) $$ [H2 H3 H4 H5 H6 H7 H8 H10 H12]
  case region =>
    intro n acc
    unfold run.sl.prog.body_4
    rw [e3, e5]
    exact trip4 (F := F) c i arg1 harg1 arg2 harg2 arg3 harg3 arg4 harg4 arg5 harg5 arg6 harg6 arg7 harg7 arg8 harg8 arg9 harg9 arg10 harg10 arg11 harg11 arg12 harg12 _ _ X2 X3 X4 X5 X10' _ (fun j => h10' j (by have := j.isLt; omega)) n acc E
  · unfold inv4
    isplitr
    · ipureintro; rfl
    isplitl [H2]; · iexact H2
    isplitl [H3]; · iexact H3
    isplitl [H4]; · iexact H4
    isplitl [H5]; · iexact H5
    isplitl [H10]; · iexact H10
    isplitl [H6]
    · iexists _; isplitr; swap; · iexact H6
      ipureintro; intro j; rw [if_neg (Nat.not_lt_zero _)]; exact h6 j (by have := j.isLt; omega)
    isplitl [H7]
    · iexists _; isplitr; swap; · iexact H7
      ipureintro; intro j; rw [if_neg (Nat.not_lt_zero _)]; exact h7 j (by have := j.isLt; omega)
    isplitl [H8]
    · iexists _; isplitr; swap; · iexact H8
      ipureintro; intro j; rw [if_neg (Nat.not_lt_zero _)]; exact h8 j (by have := j.isLt; omega)
    iexists _; isplitr; swap; · iexact H12
    ipureintro; exact st_m _ _ _ _ _
  iintro %a4 HI
  rw [show Scf.trips k0_t4_loop.lb k0_t4_loop.ub k0_t4_loop.st = 16 from trips4]
  unfold inv4
  icases HI with ⟨%ha4, H2, H3, H4, H5, H10, ⟨%g6, %hg6, H6⟩, ⟨%g7, %hg7, H7⟩, ⟨%g8, %hg8, H8⟩, ⟨%g12, %hg12, H12⟩⟩
  obtain ⟨a40, a41⟩ := a4
  sl_exec
  sl_step
  iapply Hk
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]
  · iexists _; isplitr; swap; · iexact H6
    ipureintro; refine eq_asmN _ _ fun j => ?_
    rw [hg6 j, if_pos j.isLt]
  isplitl [H7]
  · iexists _; isplitr; swap; · iexact H7
    ipureintro; refine eq_asmN _ _ fun j => ?_
    rw [hg7 j, if_pos j.isLt]
  isplitl [H8]
  · iexists _; isplitr; swap; · iexact H8
    ipureintro; refine eq_asmW _ _ fun j => ?_
    rw [hg8 j, if_pos j.isLt]
  isplitl [H9]
  · iexists _; isplitr; swap; · iexact H9
    ipureintro
    rw [e4, e5]
    have p1 := congrArg Prod.fst ha2
    have p2 := congrArg (fun p => p.2.1) ha2
    have p3 := congrArg (fun p => p.2.2) ha2
    have p4 := congrArg Prod.fst ha4
    have p5 := congrArg Prod.snd ha4
    dsimp only at p1 p2 p3 p4 p5
    subst p1 p2 p3 p4 p5
    exact View.read_writes_full _ _ _ _ _
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

end Cert.KernelIdeal.Ret

end
-- ==== Proof.Ret.Launch.lean ====
module

public import proofs.«01_k».proof.Proof.Gen.KernelIdeal.Frame.Runs
public import proofs.«01_k».proof.Proof.Ret.Body
public import Idealize.ShloMosaic.Lib.Claim

/-! # The launch of the retention's gradient

The four heads' bodies under the pipeline: what every staging buffer holds after each head, the launch, and the
frame, over any values. -/

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The head's forward exponent at grid point `t`. -/
def w1At (c : Dev nD) (t : Fin cfg0.N) : Elt F .f32 := wf (grid0.coords t) (iblk m c 0 t)
/-- The head's backward exponent at grid point `t`. -/
def w4At (c : Dev nD) (t : Fin cfg0.N) : Elt F .f32 := wb (grid0.coords t) (iblk m c 0 t)
/-- The head's query gradient. -/
def dqAt (c : Dev nD) (t : Fin cfg0.N) : Vec F S2048x256 .f32 := asmN (Qc (w1At m c t) (w4At m c t) (iblk m c 2 t) (iblk m c 3 t) (iblk m c 4 t))
/-- The head's key gradient. -/
def dkAt (c : Dev nD) (t : Fin cfg0.N) : Vec F S2048x256 .f32 := asmN (Kc (w1At m c t) (w4At m c t) (iblk m c 1 t) (iblk m c 3 t) (iblk m c 4 t))
/-- The head's value gradient. -/
def dvAt (c : Dev nD) (t : Fin cfg0.N) : Vec F S2048x512 .f32 := asmW (Vc (w1At m c t) (w4At m c t) (iblk m c 1 t) (iblk m c 2 t) (iblk m c 4 t))
/-- The head's decay gradient. -/
def dgAt (c : Dev nD) (t : Fin cfg0.N) : Vec F S1x8x128 .f32 := Lg (w1At m c t) (w4At m c t) (iblk m c 1 t) (iblk m c 2 t) (iblk m c 3 t) (iblk m c 4 t)

/-- The arrays as the launch finds them and what each buffer holds after the body at each head. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqAt m c t
    | ⟨6, _⟩ => dkAt m c t
    | ⟨7, _⟩ => dvAt m c t
    | ⟨8, _⟩ => dgAt m c t
  Φ _ := Pipeline.ΦA spec0 c
  q _ := fullShare
  owed _ := 0

/-- The arrays are as the launch finds them. -/
theorem A_eq (c : Dev nD) (w : Fin cfg0.W) : (dats m 0 c).A w = V m c (Pipeline.arrRef spec0 w) := by
  dsimp only [dats]

/-- What the body leaves, buffer by buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = dqAt m c t := by dsimp only [dats]
theorem after0_6 (c : Dev nD) (t : Fin cfg0.N) : (dats m 0 c).after 6 t = dkAt m c t := by dsimp only [dats]
theorem after0_7 (c : Dev nD) (t : Fin cfg0.N) : (dats m 0 c).after 7 t = dvAt m c t := by dsimp only [dats]
theorem after0_8 (c : Dev nD) (t : Fin cfg0.N) : (dats m 0 c).after 8 t = dgAt m c t := by dsimp only [dats]

/-- Each input's buffer holds the head's block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body finds at a head, buffer by buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What the body leaves at a head. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1200000 in
/-- At every head the body takes what it finds to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold dqAt dkAt dvAt dgAt w1At w4At
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run (F := F) c (grid0.coords t) _ _ _ _ _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The table's row at a head is the body over the head's buffers. -/
theorem defs₀_row (t : Fin cfg0.N) :
    defs₀ (F := F) .tc cfg0.body (cfg0.bodyArgs t (cfg0.slots t)) = bodyAt0 t := by
  unfold defs₀; rw [Defs.onTc_tc]

/-- The body at every head, as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every fair execution ends with the arrays at what the heads left and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The arguments end as they began and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Ret

end
-- ==== Proof.Ret.Same.lean ====
module

public import proofs.«01_k».proof.Defs
public import proofs.«01_k».proof.Proof.Gen.Kernel
public import proofs.«01_k».proof.Proof.Ret.Launch
public import proofs.«01_k».proof.Proof.Gen.KernelIdeal
@[expose] public section
set_option maxRecDepth 16384
noncomputable section
namespace Cert.Proof
open Idealize.ShloMosaic Idealize.SL.Sem
variable {F : FTy → Type} [FloatOps F] [Cert.Kernel.Facts] [Cert.KernelIdeal.Facts]

/-- The two programs' kernel functions are the same. -/
theorem same_body : @Cert.Kernel.cc0_ret_bwd F _ _ = @Cert.KernelIdeal.cc0_ret_bwd F _ _ := rfl
/-- The two programs' tables of kernel functions are the same. -/
theorem same_table : @Cert.Kernel.defs₀ F _ _ = @Cert.KernelIdeal.defs₀ F _ _ := by
  unfold Cert.Kernel.defs₀ Cert.KernelIdeal.defs₀
  refine congrArg Defs.onTc ?_
  funext l x
  match l, x with
  | 0, (t, s) => rfl
  | ⟨_ + 1, h⟩, _ => exact absurd h (Nat.not_lt.2 (Nat.le_add_left _ _))
/-- The two programs' body tables are the same. -/
theorem same_defs : @Cert.Kernel.defs F _ _ = @Cert.KernelIdeal.defs F _ _ := congrArg (Pipeline.defs Cert.KernelIdeal.pcfgs) same_table

/-- The kernel at the bits runs, leaves its arguments unchanged and its semaphores at zero. -/
theorem frame_kernel : Cert.quiescent_Kernel := fun m ρ _ => by
  rw [same_defs]
  exact (θ_run Cert.KernelIdeal.defs _ _).mono (fun _ h => h) (Cert.KernelIdeal.Ret.frame (F := Bits) m ρ)

end Cert.Proof
end
-- ==== Proof.Ret.Spec.lean ====
module

public import Idealize.ShloMosaic.Lib.Pointwise
public import Idealize.ShloMosaic.Lib.KernelVsHost

/-! # The retention's gradient of one head, element by element

Queries, keys, values and the incoming gradient of one head are given chunk by chunk: `q c t x` is row `t` of
chunk `c`. `lf` and `lb` are the forward and the backward exponent of the head. The three gradients are written
as sums over extended reals; both programs are read down to these. -/

@[expose] public section
set_option maxRecDepth 16384
noncomputable section
namespace Cert.RetSpec
open Idealize.ShloMosaic

/-- Position `t` within a chunk, as a number. -/
def pos (t : Fin 128) : EReal := FloatOps.sitofp (F := Ideal) FTy.f32 (BitVec.ofNat 32 t)

/-- Chunk number `n`. -/
def cN (n : ℕ) : Fin 16 := ⟨n % 16, Nat.mod_lt _ (by decide)⟩
/-- Chunk number `n` counted from the last. -/
def cR (n : ℕ) : Fin 16 := ⟨15 - n % 16, by omega⟩

/-- Row `t` of chunk `c`. -/
def row (c : Fin 16) (t : Fin 128) : Fin 2048 := ⟨c.val * 128 + t.val, by omega⟩
/-- Column `x` of head `h` among the queries or the keys. -/
def colN (h : Fin 4) (x : Fin 256) : Fin 1024 := ⟨h.val * 256 + x.val, by omega⟩
/-- Column `e` of head `h` among the values. -/
def colW (h : Fin 4) (e : Fin 512) : Fin 2048 := ⟨h.val * 512 + e.val, by omega⟩

/-- A chunk's decay. -/
def dec (l : EReal) : EReal := Ideal.exp (l * Ideal.ofBits FTy.f32 1124073472#32)
/-- Weight of a query against the forward state. -/
def wqf (lf : EReal) (t : Fin 128) : EReal := Ideal.exp (lf * (pos t + 1))
/-- Weight of a key in the forward state. -/
def wkf (lf : EReal) (t : Fin 128) : EReal := Ideal.exp (lf * (Ideal.ofBits FTy.f32 1123942400#32 - pos t))
/-- Weight of a query against the backward state. -/
def wqb (lb : EReal) (t : Fin 128) : EReal := Ideal.exp (lb * (Ideal.ofBits FTy.f32 1124073472#32 - pos t))
/-- Weight of a key in the backward state. -/
def wkb (lb : EReal) (t : Fin 128) : EReal := Ideal.exp (lb * pos t)
/-- The weight between two positions of one chunk. -/
def dm (lf lb : EReal) (i j : Fin 128) : EReal :=
  Ideal.exp (if 0 ≤ pos i - pos j then lf * (pos i - pos j) else (-lb) * (pos i - pos j))

variable (lf lb : EReal) (q k : Fin 16 → Fin 128 → Fin 256 → EReal) (v y : Fin 16 → Fin 128 → Fin 512 → EReal)

/-- A chunk's keys against its values, weighted for the forward state. -/
def kvf (c : Fin 16) (x : Fin 256) (e : Fin 512) : EReal := ∑ t, k c t x * wkf lf t * v c t e
/-- A chunk's keys against its values, weighted for the backward state. -/
def kvb (c : Fin 16) (x : Fin 256) (e : Fin 512) : EReal := ∑ t, k c t x * wkb lb t * v c t e
/-- A chunk's queries against the incoming gradient, weighted for the forward state. -/
def qyf (c : Fin 16) (x : Fin 256) (e : Fin 512) : EReal := ∑ t, q c t x * wqf lf t * y c t e
/-- A chunk's queries against the incoming gradient, weighted for the backward state. -/
def qyb (c : Fin 16) (x : Fin 256) (e : Fin 512) : EReal := ∑ t, q c t x * wqb lb t * y c t e

/-- A carried number: each step decays it by `d` and adds the next term. -/
def carry (d : EReal) (a : ℕ → EReal) : ℕ → EReal
  | 0 => 0
  | n + 1 => d * carry d a n + a n

/-- The forward state before chunk `c`. -/
def stF (c : Fin 16) (x : Fin 256) (e : Fin 512) : EReal := carry (dec lf) (fun n => kvf lf k v (cN n) x e) c.val
/-- The backward state after chunk `c`. -/
def stB (c : Fin 16) (x : Fin 256) (e : Fin 512) : EReal := carry (dec lb) (fun n => kvb lb k v (cR n) x e) (15 - c.val)
/-- The gradient reaching the forward state after chunk `c`. -/
def adF (c : Fin 16) (x : Fin 256) (e : Fin 512) : EReal := carry (dec lf) (fun n => qyf lf q y (cR n) x e) (15 - c.val)
/-- The gradient reaching the backward state before chunk `c`. -/
def adB (c : Fin 16) (x : Fin 256) (e : Fin 512) : EReal := carry (dec lb) (fun n => qyb lb q y (cN n) x e) c.val

/-- The query gradient. -/
def dq (c : Fin 16) (t : Fin 128) (x : Fin 256) : EReal :=
  (∑ e, y c t e * stF lf k v c x e) * wqf lf t + ∑ u, (∑ e, y c t e * v c u e) * dm lf lb t u * k c u x
    + (∑ e, y c t e * stB lb k v c x e) * wqb lb t
/-- The key gradient. -/
def dk (c : Fin 16) (t : Fin 128) (x : Fin 256) : EReal :=
  (∑ e, v c t e * adF lf q y c x e) * wkf lf t + ∑ u, (∑ e, y c u e * v c t e) * dm lf lb u t * q c u x
    + (∑ e, v c t e * adB lb q y c x e) * wkb lb t
/-- The value gradient. -/
def dv (c : Fin 16) (t : Fin 128) (e : Fin 512) : EReal :=
  ∑ x, k c t x * wkf lf t * adF lf q y c x e + ∑ u, (∑ x, q c u x * k c t x) * dm lf lb u t * y c u e
    + ∑ x, k c t x * wkb lb t * adB lb q y c x e

/-- What a walk over sixteen chunks leaves: the stack holds at every chunk the number carried when the walk came
    to it. `p` names the chunk of a step, `i` the step of a chunk. -/
theorem scan (d : EReal) (a : Fin 16 → EReal) (p : ℕ → Fin 16) (i : Fin 16 → ℕ) (hi : ∀ n, i n < 16) (hpi : ∀ n, p (i n) = n)
    (hip : ∀ k, k < 16 → i (p k) = k) (s : ℕ → EReal) (o : ℕ → Fin 16 → EReal) (hs0 : s 0 = 0)
    (hs : ∀ k, k < 16 → s (k + 1) = d * s k + a (p k))
    (ho : ∀ k, k < 16 → ∀ n, o (k + 1) n = if n = p k then s k else o k n) (n : Fin 16) :
    o 16 n = carry d (fun k => a (p k)) (i n) := by
  have h1 : ∀ k, k ≤ 16 → s k = carry d (fun k => a (p k)) k := by
    intro k
    induction k with
    | zero => intro _; exact hs0
    | succ k ih =>
      intro hk
      rw [hs k (by omega), ih (by omega)]
      rfl
  have h2 : ∀ k, k ≤ 16 → i n < k → o k n = s (i n) := by
    intro k
    induction k with
    | zero => intro _ h; omega
    | succ k ih =>
      intro hk hn
      rw [ho k (by omega) n]
      by_cases e : n = p k
      · rw [if_pos e, e, hip k (by omega)]
      · rw [if_neg e]
        refine ih (by omega) ?_
        have : i n ≠ k := fun hk' => e (by rw [← hk', hpi])
        omega
  rw [h2 16 le_rfl (hi n), h1 _ (hi n).le]

theorem cN_val (n : Fin 16) : cN n.val = n := Fin.ext (Nat.mod_eq_of_lt n.isLt)
theorem val_cN (k : ℕ) (hk : k < 16) : (cN k).val = k := Nat.mod_eq_of_lt hk
theorem cR_val (n : Fin 16) : cR (15 - n.val) = n := by
  refine Fin.ext ?_
  show 15 - (15 - n.val) % 16 = n.val
  omega
theorem val_cR (k : ℕ) (hk : k < 16) : 15 - (cR k).val = k := by
  show 15 - (15 - k % 16) = k
  omega
theorem rev_cN (k : ℕ) : Fin.rev (cN k) = cR k := by
  refine Fin.ext ?_
  show 16 - (k % 16 + 1) = 15 - k % 16
  omega

/-- A difference of two positions taken in integers is the difference of the numbers. -/
theorem pos_sub (i j : Fin 128) :
    FloatOps.sitofp (F := Ideal) FTy.f32 (IntOp.subi (BitVec.ofNat 32 i) (BitVec.ofNat 32 j)) = pos i - pos j := by
  have h : (IntOp.subi (BitVec.ofNat 32 i) (BitVec.ofNat 32 j)).toInt = (BitVec.ofNat 32 i).toInt - (BitVec.ofNat 32 j).toInt := by
    revert i j
    decide +kernel
  show (((IntOp.subi (BitVec.ofNat 32 i) (BitVec.ofNat 32 j)).toInt : ℝ) : EReal)
    = (((BitVec.ofNat 32 i).toInt : ℝ) : EReal) - (((BitVec.ofNat 32 j).toInt : ℝ) : EReal)
  rw [h, ← EReal.coe_sub]
  push_cast
  rfl

end Cert.RetSpec
end
-- ==== Proof.Ret.KerElt.lean ====
module

public import proofs.«01_k».proof.Proof.Ret.Step
public import proofs.«01_k».proof.Proof.Ret.Spec

/-! # The kernel's head, element by element -/

@[expose] public section
set_option maxRecDepth 16384
noncomputable section
namespace Cert.KernelIdeal.Ret
open Cert.KernelIdeal Cert.KernelIdeal.Gen Cert.RetSpec
open Idealize.ShloMosaic Idealize.ShloMosaic.TcCoe
open Idealize.SL.Sem

variable (w1 w4 : Elt Ideal .f32)
variable (kb qb : Vec Ideal S128x256 .bf16) (vb yb : Vec Ideal S128x512 .bf16) (S H : Vec Ideal S256x512 .f32)
  (w : FVec Ideal S128x256 .f32) (vf : FVec Ideal S128x512 .f32) (d : FVec Ideal S128x128 .f32)
  (i j : Fin 128) (x : Fin 256) (e : Fin 512)

theorem e64 : (k0_pay64 : FVec Ideal S256x512 .f32) (ix2 x e) = 0 := by pointwise [k0_pay64]
theorem e72 : (k0_pay72 : FVec Ideal S256x512 .f32) (ix2 x e) = 0 := by pointwise [k0_pay72]
theorem e67 : (k0_pay67 : FVec Ideal S256x512 .f32) (ix2 x e) = 0 := by pointwise [k0_pay67]
theorem e1 : (k0_pay1 : FVec Ideal S256x512 .f32) (ix2 x e) = 0 := by pointwise [k0_pay1]

theorem e66 : k0_pay66 w1 kb vb S (ix2 x e) = dec w1 * S (ix2 x e) + ∑ t, kb (ix2 t x) * wkf w1 t * vb (ix2 t e) := by
  unfold dec wkf pos
  pointwise [k0_pay66, k0_pay62, k0_pay60]
theorem e74 : k0_pay74 w4 kb vb S (ix2 x e) = dec w4 * S (ix2 x e) + ∑ t, kb (ix2 t x) * wkb w4 t * vb (ix2 t e) := by
  unfold dec wkb pos
  pointwise [k0_pay74, k0_pay63, k0_pay61]
theorem e13 : k0_pay13 (k0_pay60 w1) (k0_pay61 w4) (ix2 i j) = dm w1 w4 i j := by
  unfold dm
  pointwise [k0_pay13, k0_pay60, k0_pay61, k0_pay11, k0_pay12, pos_sub, zero_sub]
theorem e69 : k0_pay69 (k0_pay23 (k0_pay5 qb) (k0_pay8 yb) (k0_pay15 (k0_pay60 w1))) (k0_pay37 (k0_pay62 w1) H) (ix2 x e)
    = ∑ t, qb (ix2 t x) * wqf w1 t * yb (ix2 t e) + dec w1 * H (ix2 x e) := by
  unfold dec wqf pos
  pointwise [k0_pay69, k0_pay23, k0_pay5, k0_pay8, k0_pay15, k0_pay60, k0_pay37, k0_pay62, k0_pay14, k0_pay10]
theorem e2 : k0_pay2 (k0_pay63 w4) (k0_pay54 (k0_pay40 yb) (k0_pay46 (k0_pay61 w4) qb)) H (ix2 x e)
    = ∑ t, qb (ix2 t x) * wqb w4 t * yb (ix2 t e) + dec w4 * H (ix2 x e) := by
  unfold dec wqb pos
  pointwise [k0_pay2, k0_pay63, k0_pay54, k0_pay40, k0_pay46, k0_pay61, k0_pay44, k0_pay43, k0_pay42, k0_pay38]
theorem e29 : k0_pay29 (k0_pay6 kb) (k0_pay7 vb) (k0_pay8 yb) (k0_pay9 (k0_pay65 S)) d (k0_pay15 (k0_pay60 w1)) (ix2 i x)
    = (∑ e, yb (ix2 i e) * S (ix2 x e)) * wqf w1 i + ∑ u, (∑ e, yb (ix2 i e) * vb (ix2 u e)) * d (ix2 i u) * kb (ix2 u x) := by
  unfold wqf pos
  pointwise [k0_pay29, k0_pay6, k0_pay7, k0_pay8, k0_pay9, k0_pay65, k0_pay15, k0_pay60, k0_pay14, k0_pay10, k0_pay22, k0_pay25, k0_pay28]
theorem e30 : k0_pay30 (k0_pay5 qb) (k0_pay7 vb) (k0_pay8 yb) d (k0_pay17 (k0_pay60 w1)) H (ix2 i x)
    = (∑ e, vb (ix2 i e) * H (ix2 x e)) * wkf w1 i + ∑ u, (∑ e, yb (ix2 u e) * vb (ix2 i e)) * d (ix2 u i) * qb (ix2 u x) := by
  unfold wkf pos
  pointwise [k0_pay30, k0_pay5, k0_pay7, k0_pay8, k0_pay17, k0_pay60, k0_pay16, k0_pay10, k0_pay21, k0_pay25, k0_pay28]
theorem e26 : k0_pay26 (k0_pay6 kb) (k0_pay8 yb) d (k0_pay17 (k0_pay60 w1)) (k0_pay18 qb) (k0_pay19 kb) z128 H (ix2 i e)
    = ∑ x, kb (ix2 i x) * wkf w1 i * H (ix2 x e) + ∑ u, (∑ x, qb (ix2 u x) * kb (ix2 i x)) * d (ix2 u i) * yb (ix2 u e) := by
  unfold wkf pos
  pointwise [k0_pay26, k0_pay6, k0_pay8, k0_pay17, k0_pay60, k0_pay16, k0_pay18, k0_pay19, z128, k0_pay10, k0_pay20, k0_pay5]
theorem e56 : k0_pay56 (k0_pay44 (k0_pay61 w4)) (k0_pay51 yb) (k0_pay52 (k0_pay73 S)) z256 w (ix2 i x)
    = w (ix2 i x) + (∑ e, yb (ix2 i e) * S (ix2 x e)) * wqb w4 i := by
  unfold wqb pos
  pointwise [k0_pay56, k0_pay44, k0_pay61, k0_pay51, k0_pay52, k0_pay73, z256, k0_pay43, k0_pay42, k0_pay53, k0_pay40, k0_pay41]
theorem e57 : k0_pay57 (k0_pay50 (k0_pay61 w4) vb H) w (ix2 i x)
    = w (ix2 i x) + (∑ e, vb (ix2 i e) * H (ix2 x e)) * wkb w4 i := by
  unfold wkb pos
  pointwise [k0_pay57, k0_pay50, k0_pay61, k0_pay45, k0_pay42, k0_pay47]
theorem e58 : k0_pay58 (k0_pay48 (k0_pay61 w4) kb H) vf (ix2 i e)
    = vf (ix2 i e) + ∑ x, kb (ix2 i x) * wkb w4 i * H (ix2 x e) := by
  unfold wkb pos
  pointwise [k0_pay58, k0_pay48, k0_pay61, k0_pay45, k0_pay42, k0_pay39]

variable (q k : Vec Ideal S2048x256 .bf16) (v y : Vec Ideal S2048x512 .bf16)

theorem bn_apply (z : Vec Ideal S2048x256 .bf16) (c : Fin 16) (t : Fin 128) (x : Fin 256) :
    bn z c (ix2 t x) = z (ix2 (row c t) x) := by
  unfold bn VecWindow.window
  refine congrArg z (funext fun a => ?_)
  fin_cases a
  · exact Fin.ext (show 128 * c.val + 1 * t.val = c.val * 128 + t.val by omega)
  · exact Fin.ext (show 0 + 1 * x.val = x.val by omega)

theorem bw_apply (z : Vec Ideal S2048x512 .bf16) (c : Fin 16) (t : Fin 128) (x : Fin 512) :
    bw z c (ix2 t x) = z (ix2 (row c t) x) := by
  unfold bw VecWindow.window
  refine congrArg z (funext fun a => ?_)
  fin_cases a
  · exact Fin.ext (show 128 * c.val + 1 * t.val = c.val * 128 + t.val by omega)
  · exact Fin.ext (show 0 + 1 * x.val = x.val by omega)

/-- A narrow block by chunk, row and column. -/
def cn (z : Vec Ideal S2048x256 .bf16) : Fin 16 → Fin 128 → Fin 256 → EReal := fun c t x => z (ix2 (row c t) x)
/-- A wide block by chunk, row and column. -/
def cw (z : Vec Ideal S2048x512 .bf16) : Fin 16 → Fin 128 → Fin 512 → EReal := fun c t x => z (ix2 (row c t) x)

theorem Sf_apply (n : ℕ) : Sf w1 k v n (ix2 x e) = carry (dec w1) (fun n => kvf w1 (cn k) (cw v) (cN n) x e) n := by
  induction n with
  | zero => exact e64 x e
  | succ n ih =>
    show k0_pay66 w1 (bn k (ch n)) (bw v (ch n)) (Sf w1 k v n) (ix2 x e) = _
    rw [e66, ih]
    simp only [bn_apply, bw_apply]
    rfl

theorem Sb_apply (n : ℕ) : Sb w4 k v n (ix2 x e) = carry (dec w4) (fun n => kvb w4 (cn k) (cw v) (cR n) x e) n := by
  induction n with
  | zero => exact e72 x e
  | succ n ih =>
    show k0_pay74 w4 (bn k (rch n)) (bw v (rch n)) (Sb w4 k v n) (ix2 x e) = _
    rw [e74, ih]
    simp only [bn_apply, bw_apply]
    rfl

theorem Hf_apply (n : ℕ) : Hf w1 q y n (ix2 x e) = carry (dec w1) (fun n => qyf w1 (cn q) (cw y) (cR n) x e) n := by
  induction n with
  | zero => exact e67 x e
  | succ n ih =>
    show k0_pay69 (k0_pay23 (k0_pay5 (bn q (rch n))) (k0_pay8 (bw y (rch n))) (k0_pay15 (k0_pay60 w1)))
      (k0_pay37 (k0_pay62 w1) (Hf w1 q y n)) (ix2 x e) = _
    rw [e69, ih, add_comm]
    simp only [bn_apply, bw_apply]
    rfl

theorem Hb_apply (n : ℕ) : Hb w4 q y n (ix2 x e) = carry (dec w4) (fun n => qyb w4 (cn q) (cw y) (cN n) x e) n := by
  induction n with
  | zero => exact e1 x e
  | succ n ih =>
    show k0_pay2 (k0_pay63 w4) (k0_pay54 (k0_pay40 (bw y (ch n))) (k0_pay46 (k0_pay61 w4) (bn q (ch n)))) (Hb w4 q y n) (ix2 x e) = _
    rw [e2, ih, add_comm]
    simp only [bn_apply, bw_apply]
    rfl

theorem Qc_apply (c : Fin 16) : Qc w1 w4 k v y c (ix2 i x) = RetSpec.dq w1 w4 (cn k) (cw v) (cw y) c i x := by
  unfold Qc Qf
  rw [e56, e29]
  simp only [e13, bn_apply, bw_apply, Sf_apply, Sb_apply]
  rfl

theorem Kc_apply (c : Fin 16) : Kc w1 w4 q v y c (ix2 i x) = RetSpec.dk w1 w4 (cn q) (cw v) (cw y) c i x := by
  unfold Kc Kf
  rw [e57, e30]
  simp only [e13, bn_apply, bw_apply, Hf_apply, Hb_apply]
  rfl

theorem Vc_apply (c : Fin 16) : Vc w1 w4 q k y c (ix2 i e) = RetSpec.dv w1 w4 (cn q) (cn k) (cw y) c i e := by
  unfold Vc Vf
  rw [e58, e26]
  simp only [e13, bn_apply, bw_apply, Hf_apply, Hb_apply]
  rfl

end Cert.KernelIdeal.Ret
end
-- ==== Proof.Ret.KerFinal.lean ====
module

public import proofs.«01_k».proof.Proof.Ret.Launch
public import proofs.«01_k».proof.Proof.Ret.KerElt
public import Idealize.ShloMosaic.Lib.Pipeline.ValueKit

/-! # The kernel's three result arrays after the launch, element by element -/

@[expose] public section
set_option maxRecDepth 16384
noncomputable section
namespace Cert.KernelIdeal.Ret
open Cert.KernelIdeal Cert.KernelIdeal.Gen Cert.RetSpec
open Idealize.ShloMosaic Idealize.ShloMosaic.TcCoe
open Idealize.SL.Sem

variable (m : (ℓ : Loc nD τ sig) → Buf (Elt Ideal) ℓ) (c : Dev nD)

/-- The exponents as launched. -/
def B0 : FVec Ideal S2x4 .f32 := m ((c.tc : Thread nD τ).loc main_arg0)
/-- The queries as launched. -/
def B1 : FVec Ideal S2048x1024 .bf16 := m ((c.tc : Thread nD τ).loc main_arg1)
/-- The keys as launched. -/
def B2 : FVec Ideal S2048x1024 .bf16 := m ((c.tc : Thread nD τ).loc main_arg2)
/-- The values as launched. -/
def B3 : FVec Ideal S2048x2048 .bf16 := m ((c.tc : Thread nD τ).loc main_arg3)
/-- The incoming gradient as launched. -/
def B4 : FVec Ideal S2048x2048 .bf16 := m ((c.tc : Thread nD τ).loc main_arg4)

def hq (h : Fin 4) : Fin 16 → Fin 128 → Fin 256 → EReal := fun n t x => B1 m c (ix2 (row n t) (colN h x))
def hk (h : Fin 4) : Fin 16 → Fin 128 → Fin 256 → EReal := fun n t x => B2 m c (ix2 (row n t) (colN h x))
def hv (h : Fin 4) : Fin 16 → Fin 128 → Fin 512 → EReal := fun n t e => B3 m c (ix2 (row n t) (colW h e))
def hy (h : Fin 4) : Fin 16 → Fin 128 → Fin 512 → EReal := fun n t e => B4 m c (ix2 (row n t) (colW h e))
def hf (h : Fin 4) : EReal := B0 m c (ix2 0 h)
def hb (h : Fin 4) : EReal := B0 m c (ix2 1 h)

/-- The head at a grid point. -/
def hd (t : Fin cfg0.N) : Fin 4 := grid0.coords t 0

theorem idx0 : ∀ t : Fin cfg0.N, win0_0.index t = ![0, 0] := by decide +kernel
theorem idx1 : ∀ t : Fin cfg0.N, win0_1.index t = ![0, (hd t).val] := by decide +kernel
theorem idx2 : ∀ t : Fin cfg0.N, win0_2.index t = ![0, (hd t).val] := by decide +kernel
theorem idx3 : ∀ t : Fin cfg0.N, win0_3.index t = ![0, (hd t).val] := by decide +kernel
theorem idx4 : ∀ t : Fin cfg0.N, win0_4.index t = ![0, (hd t).val] := by decide +kernel
theorem idx5 : ∀ t : Fin cfg0.N, win0_5.index t = ![0, (hd t).val] := by decide +kernel
theorem idx6 : ∀ t : Fin cfg0.N, win0_6.index t = ![0, (hd t).val] := by decide +kernel
theorem idx7 : ∀ t : Fin cfg0.N, win0_7.index t = ![0, (hd t).val] := by decide +kernel

theorem w1At_eq (t : Fin cfg0.N) : w1At m c t = hf m c (hd t) := by
  unfold w1At wf hf B0 hd
  blk_ext [iblk, V, idx0 t]
theorem w4At_eq (t : Fin cfg0.N) : w4At m c t = hb m c (hd t) := by
  unfold w4At wb hb B0 hd
  blk_ext [iblk, V, idx0 t]
theorem cn1 (t : Fin cfg0.N) : cn (iblk m c 1 t) = hq m c (hd t) := by
  funext n r x
  unfold cn hq B1
  blk_ext [iblk, V, idx1 t, row, colN]
theorem cn2 (t : Fin cfg0.N) : cn (iblk m c 2 t) = hk m c (hd t) := by
  funext n r x
  unfold cn hk B2
  blk_ext [iblk, V, idx2 t, row, colN]
theorem cw3 (t : Fin cfg0.N) : cw (iblk m c 3 t) = hv m c (hd t) := by
  funext n r x
  unfold cw hv B3
  blk_ext [iblk, V, idx3 t, row, colW]
theorem cw4 (t : Fin cfg0.N) : cw (iblk m c 4 t) = hy m c (hd t) := by
  funext n r x
  unfold cw hy B4
  blk_ext [iblk, V, idx4 t, row, colW]

/-- The query gradient as an array. -/
def dqArr : FVec Ideal S2048x1024 .f32 := fun i =>
  have hr : (i 0).val < 2048 := (i 0).isLt
  have hz : (i 1).val < 1024 := (i 1).isLt
  let h : Fin 4 := ⟨(i 1).val / 256, by omega⟩
  RetSpec.dq (hf m c h) (hb m c h) (hk m c h) (hv m c h) (hy m c h) ⟨(i 0).val / 128, by omega⟩ ⟨(i 0).val % 128, Nat.mod_lt _ (by decide)⟩ ⟨(i 1).val % 256, Nat.mod_lt _ (by decide)⟩
/-- The key gradient as an array. -/
def dkArr : FVec Ideal S2048x1024 .f32 := fun i =>
  have hr : (i 0).val < 2048 := (i 0).isLt
  have hz : (i 1).val < 1024 := (i 1).isLt
  let h : Fin 4 := ⟨(i 1).val / 256, by omega⟩
  RetSpec.dk (hf m c h) (hb m c h) (hq m c h) (hv m c h) (hy m c h) ⟨(i 0).val / 128, by omega⟩ ⟨(i 0).val % 128, Nat.mod_lt _ (by decide)⟩ ⟨(i 1).val % 256, Nat.mod_lt _ (by decide)⟩
/-- The value gradient as an array. -/
def dvArr : FVec Ideal S2048x2048 .f32 := fun i =>
  have hr : (i 0).val < 2048 := (i 0).isLt
  have hz : (i 1).val < 2048 := (i 1).isLt
  let h : Fin 4 := ⟨(i 1).val / 512, by omega⟩
  RetSpec.dv (hf m c h) (hb m c h) (hq m c h) (hk m c h) (hy m c h) ⟨(i 0).val / 128, by omega⟩ ⟨(i 0).val % 128, Nat.mod_lt _ (by decide)⟩ ⟨(i 1).val % 512, Nat.mod_lt _ (by decide)⟩

theorem asmN_at (B : Fin 16 → Vec Ideal S128x256 .f32) (i : S2048x256.Idx) (n : Fin 16) (t : Fin 128) (x : Fin 256)
    (hn : (i 0).val / 128 = n.val) (ht : (i 0).val % 128 = t.val) (hx : (i 1).val = x.val) : asmN B i = B n (ix2 t x) := by
  unfold asmN
  refine congrArg₂ (fun n j => B n j) (Fin.ext hn) (funext fun a => ?_)
  fin_cases a
  · exact Fin.ext ht
  · exact Fin.ext hx
theorem asmW_at (B : Fin 16 → Vec Ideal S128x512 .f32) (i : S2048x512.Idx) (n : Fin 16) (t : Fin 128) (x : Fin 512)
    (hn : (i 0).val / 128 = n.val) (ht : (i 0).val % 128 = t.val) (hx : (i 1).val = x.val) : asmW B i = B n (ix2 t x) := by
  unfold asmW
  refine congrArg₂ (fun n j => B n j) (Fin.ext hn) (funext fun a => ?_)
  fin_cases a
  · exact Fin.ext ht
  · exact Fin.ext hx

theorem dqArr_at (i : S2048x1024.Idx) (h : Fin 4) (n : Fin 16) (t : Fin 128) (x : Fin 256)
    (h0 : (i 0).val = n.val * 128 + t.val) (h1 : (i 1).val = h.val * 256 + x.val) :
    dqArr m c i = RetSpec.dq (hf m c h) (hb m c h) (hk m c h) (hv m c h) (hy m c h) n t x := by
  have e1 : (i 1).val / 256 = h.val := by have := x.isLt; omega
  have e2 : (i 1).val % 256 = x.val := by have := x.isLt; omega
  have e3 : (i 0).val / 128 = n.val := by have := t.isLt; omega
  have e4 : (i 0).val % 128 = t.val := by have := t.isLt; omega
  unfold dqArr
  simp only [e1, e2, e3, e4, Fin.eta]

theorem dq_final : (dats m 0 c).arrAt 5 cfg0.N = dqArr m c := by
  refine (dats m 0 c).arrAt_eq_of_covers 5 _ (by decide +kernel) fun t hf y => ?_
  blk_simp
  rw [after0_5]
  have hy0 : (y 0).val < 2048 := (y 0).isLt
  have hy1 : (y 1).val < 256 := (y 1).isLt
  refine Eq.trans ?_ (dqArr_at m c _ (hd t) ⟨(y 0).val / 128, by omega⟩ ⟨(y 0).val % 128, Nat.mod_lt _ (by decide)⟩ ⟨(y 1).val, hy1⟩ ?_ ?_).symm
  · unfold dqAt
    rw [asmN_at _ y ⟨(y 0).val / 128, by omega⟩ ⟨(y 0).val % 128, Nat.mod_lt _ (by decide)⟩ ⟨(y 1).val, hy1⟩ rfl rfl rfl,
      Qc_apply, w1At_eq, w4At_eq, cn2, cw3, cw4]
  · blk_simp [idx5 t]
    have := Nat.div_add_mod (y 0).val 128
    show (y 0).val = (y 0).val / 128 * 128 + (y 0).val % 128
    omega
  · blk_simp [idx5 t]

theorem dkArr_at (i : S2048x1024.Idx) (h : Fin 4) (n : Fin 16) (t : Fin 128) (x : Fin 256)
    (h0 : (i 0).val = n.val * 128 + t.val) (h1 : (i 1).val = h.val * 256 + x.val) :
    dkArr m c i = RetSpec.dk (hf m c h) (hb m c h) (hq m c h) (hv m c h) (hy m c h) n t x := by
  have e1 : (i 1).val / 256 = h.val := by have := x.isLt; omega
  have e2 : (i 1).val % 256 = x.val := by have := x.isLt; omega
  have e3 : (i 0).val / 128 = n.val := by have := t.isLt; omega
  have e4 : (i 0).val % 128 = t.val := by have := t.isLt; omega
  unfold dkArr
  simp only [e1, e2, e3, e4, Fin.eta]

theorem dk_final : (dats m 0 c).arrAt 6 cfg0.N = dkArr m c := by
  refine (dats m 0 c).arrAt_eq_of_covers 6 _ (by decide +kernel) fun t hf y => ?_
  blk_simp
  rw [after0_6]
  have hy0 : (y 0).val < 2048 := (y 0).isLt
  have hy1 : (y 1).val < 256 := (y 1).isLt
  refine Eq.trans ?_ (dkArr_at m c _ (hd t) ⟨(y 0).val / 128, by omega⟩ ⟨(y 0).val % 128, Nat.mod_lt _ (by decide)⟩ ⟨(y 1).val, hy1⟩ ?_ ?_).symm
  · unfold dkAt
    rw [asmN_at _ y ⟨(y 0).val / 128, by omega⟩ ⟨(y 0).val % 128, Nat.mod_lt _ (by decide)⟩ ⟨(y 1).val, hy1⟩ rfl rfl rfl,
      Kc_apply, w1At_eq, w4At_eq, cn1, cw3, cw4]
  · blk_simp [idx6 t]
    have := Nat.div_add_mod (y 0).val 128
    show (y 0).val = (y 0).val / 128 * 128 + (y 0).val % 128
    omega
  · blk_simp [idx6 t]

theorem dvArr_at (i : S2048x2048.Idx) (h : Fin 4) (n : Fin 16) (t : Fin 128) (x : Fin 512)
    (h0 : (i 0).val = n.val * 128 + t.val) (h1 : (i 1).val = h.val * 512 + x.val) :
    dvArr m c i = RetSpec.dv (hf m c h) (hb m c h) (hq m c h) (hk m c h) (hy m c h) n t x := by
  have e1 : (i 1).val / 512 = h.val := by have := x.isLt; omega
  have e2 : (i 1).val % 512 = x.val := by have := x.isLt; omega
  have e3 : (i 0).val / 128 = n.val := by have := t.isLt; omega
  have e4 : (i 0).val % 128 = t.val := by have := t.isLt; omega
  unfold dvArr
  simp only [e1, e2, e3, e4, Fin.eta]

theorem dv_final : (dats m 0 c).arrAt 7 cfg0.N = dvArr m c := by
  refine (dats m 0 c).arrAt_eq_of_covers 7 _ (by decide +kernel) fun t hf y => ?_
  blk_simp
  rw [after0_7]
  have hy0 : (y 0).val < 2048 := (y 0).isLt
  have hy1 : (y 1).val < 512 := (y 1).isLt
  refine Eq.trans ?_ (dvArr_at m c _ (hd t) ⟨(y 0).val / 128, by omega⟩ ⟨(y 0).val % 128, Nat.mod_lt _ (by decide)⟩ ⟨(y 1).val, hy1⟩ ?_ ?_).symm
  · unfold dvAt
    rw [asmW_at _ y ⟨(y 0).val / 128, by omega⟩ ⟨(y 0).val % 128, Nat.mod_lt _ (by decide)⟩ ⟨(y 1).val, hy1⟩ rfl rfl rfl,
      Vc_apply, w1At_eq, w4At_eq, cn1, cn2, cw4]
  · blk_simp [idx7 t]
    have := Nat.div_add_mod (y 0).val 128
    show (y 0).val = (y 0).val / 128 * 128 + (y 0).val % 128
    omega
  · blk_simp [idx7 t]

/-- The run: the three results, the arguments unchanged. -/
theorem ret_run (g : Dev nD → PrngReg) : θ_run defs (onTc (τ := τ) (main (F := Ideal))) ⟨m, fun _ => 0, g⟩ (fun r => ∀ c : Dev nD,
      r.2.mem ((c.tc : Thread nD τ).loc main_v0_0) = dqArr m c
      ∧ r.2.mem ((c.tc : Thread nD τ).loc main_v0_1) = dkArr m c
      ∧ r.2.mem ((c.tc : Thread nD τ).loc main_v0_2) = dvArr m c) :=
  (θ_run defs _ _).mono (fun r h c => ⟨((h c).1 5).trans (dq_final m c), ((h c).1 6).trans (dk_final m c), ((h c).1 7).trans (dv_final m c)⟩) (run_main m g)

end Cert.KernelIdeal.Ret
end
-- ==== Proof.Ret.RefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
@[expose] public section
set_option maxRecDepth 16384
noncomputable section
namespace Cert.ReferenceIdeal.Ret
open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
/-- What a buffer of shape `s` and element type `e` holds. -/
abbrev Bc (F : FTy → Type) (s : Shape) (e : EltTy) : Type := (⟨s, e⟩ : BufTy).Contents (Elt F)

/-- Functions of one and of two f32 buffers, and an f32 buffer's name. -/
abbrev Un (F : FTy → Type) (s t : Shape) : Type := Bc F s .f32 → Bc F t .f32
abbrev Bi (F : FTy → Type) (s t u : Shape) : Type := Bc F s .f32 → Bc F t .f32 → Bc F u .f32
abbrev T (s : Shape) : Type := TRef sig ⟨s, .f32⟩

/-- A stretch of the reference as a program. -/
abbrev HP (F : FTy → Type) [FloatOps F] := Prog (TpuEff nD τ sig (Elt F) (HostLoop.Sig (Pipeline.Sig Λ₀ (Fin 0) fun p => (pcfgs (F := F) p).Adm) 4) .tc) PUnit

variable {F : FTy → Type} [FloatOps F]
/-- Operations of the reference, in order. The lists below split it into stretches, each followed by what it writes. -/
abbrev Ops (F : FTy → Type) [FloatOps F] := List (HloOp τ sig (Elt F))
/-- The operations keep to the core's buffers. -/
abbrev Sub (l : Ops F) : Prop := l.Forall (·.bufs ⊆ tcRefs τ sig)
/-- The operations take no fresh buffer. -/
abbrev Fresh (l : Ops F) : Prop := l.Forall (·.fresh = ∅)
/-- The operations write no buffer but `W`'s. -/
abbrev Wr (l : Ops F) (W : List (Ref sig .tc)) : Prop := l.Forall fun op => op.writes ⊆ (W.map (Proc.devRef (τ := τ) .tc)).toFinset
theorem mems {l : Ops F} (h : Fresh l) : ∀ op ∈ l, op.fresh = ∅ := List.forall_iff_forall_mem.mp h
/-- All three. -/
structure Ok (l : Ops F) (W : List (Ref sig .tc)) : Prop where
  s : Sub l
  f : Fresh l
  w : Wr l W
theorem Ok.cons {l : Ops F} {W : List (Ref sig .tc)} (h : Ok l W) {ls : List (Ops F)} (p : Plain ls) : Plain (l :: ls) := .cons h.s (hf := mems h.f) p
attribute [local simp] nullary_bufs_sub unary_bufs_sub binary_bufs_sub ternary_bufs_sub reshape_bufs_sub
abbrev g0 : Ops F :=
  [ unary main_arg1 main_v0 ((extf .f32 · bitsLt_bf16_f32) : Bc F S2048x1024 .bf16 → Bc F S2048x1024 .f32),
    reshape main_v0 main_v1 rfl shapeCasts_S2048x1024_S1x2048x4x256,
    unary main_arg2 main_v2 ((extf .f32 · bitsLt_bf16_f32) : Bc F S2048x1024 .bf16 → Bc F S2048x1024 .f32),
    reshape main_v2 main_v3 rfl shapeCasts_S2048x1024_S1x2048x4x256,
    unary main_arg3 main_v4 ((extf .f32 · bitsLt_bf16_f32) : Bc F S2048x2048 .bf16 → Bc F S2048x2048 .f32),
    reshape main_v4 main_v5 rfl shapeCasts_S2048x2048_S1x2048x4x512 ]
abbrev g0_W : List (Ref sig .tc) := [main_v0, main_v1, main_v2, main_v3, main_v4, main_v5]
theorem g0_ok : Ok (F := F) g0 g0_W := ⟨by simp, forall_fresh_of_map rfl, forall_writes_sub_of_map rfl⟩

abbrev g1 : Ops F :=
  [ reshape main_v1 main_v6 rfl shapeCasts_S1x2048x4x256_S1x16x128x4x256,
    reshape main_v3 main_v7 rfl shapeCasts_S1x2048x4x256_S1x16x128x4x256,
    reshape main_v5 main_v8 rfl shapeCasts_S1x2048x4x512_S1x16x128x4x512 ]
abbrev g1_W : List (Ref sig .tc) := [main_v6, main_v7, main_v8]
theorem g1_ok : Ok (F := F) g1 g1_W := ⟨by simp, forall_fresh_of_map rfl, forall_writes_sub_of_map rfl⟩

abbrev g2 : Ops F :=
  [ unary main_arg0 main_v9 ((extractStridedSlice S1x4 ![0, 0] · slices_S2x4_S1x4_0_0) : Un F S2x4 S1x4),
    reshape main_v9 main_v10 rfl shapeCasts_S1x4_S4,
    unary main_arg0 main_v11 ((extractStridedSlice S1x4 ![1, 0] · slices_S2x4_S1x4_1_0) : Un F S2x4 S1x4),
    reshape main_v11 main_v12 rfl shapeCasts_S1x4_S4 ]
abbrev g2_W : List (Ref sig .tc) := [main_v9, main_v10, main_v11, main_v12]
theorem g2_ok : Ok (F := F) g2 g2_W := ⟨by simp, forall_fresh_of_map rfl, forall_writes_sub_of_map rfl⟩

abbrev g3 : Ops F :=
  [ nullary main_v13 (sitofp .f32 (iotaInDim S128 32 0)) ]
abbrev g3_W : List (Ref sig .tc) := [main_v13]
theorem g3_ok : Ok (F := F) g3 g3_W := ⟨by simp, forall_fresh_of_map rfl, forall_writes_sub_of_map rfl⟩

abbrev g4 : Ops F :=
  [ unary main_v13 main_v14 (broadcastInDim S128x1 ![0] bcast_S128_S128x1_0 : Un F S128 S128x1),
    unary main_v13 main_v15 (broadcastInDim S1x128 ![1] bcast_S128_S1x128_1 : Un F S128 S1x128),
    unary main_v14 main_v16 (broadcastInDim S128x128 ![0, 1] bcast_S128x1_S128x128_0_1 : Un F S128x1 S128x128),
    unary main_v15 main_v17 (broadcastInDim S128x128 ![0, 1] bcast_S1x128_S128x128_0_1 : Un F S1x128 S128x128),
    binary main_v16 main_v17 main_v18 (subf : Bi F S128x128 S128x128 S128x128),
    nullary main_cst (constant S_ .f32 0x00000000#32),
    unary main_cst main_v19 (broadcastInDim S128x128 ![] bcast_S_S128x128 : Un F S_ S128x128),
    binary main_v18 main_v19 main_v20 (cmpf .oge : Bc F S128x128 .f32 → Bc F S128x128 .f32 → Bc F S128x128 .i1) ]
abbrev g4_W : List (Ref sig .tc) := [main_v14, main_v15, main_v16, main_v17, main_v18, main_cst, main_v19, main_v20]
theorem g4_ok : Ok (F := F) g4 g4_W := ⟨by simp, forall_fresh_of_map rfl, forall_writes_sub_of_map rfl⟩

abbrev g5 : Ops F :=
  [ unary main_v10 main_v21 (broadcastInDim S4x1x1 ![0] bcast_S4_S4x1x1_0 : Un F S4 S4x1x1),
    unary main_v18 main_v22 (broadcastInDim S1x128x128 ![1, 2] bcast_S128x128_S1x128x128_1_2 : Un F S128x128 S1x128x128),
    unary main_v21 main_v23 (broadcastInDim S4x128x128 ![0, 1, 2] bcast_S4x1x1_S4x128x128_0_1_2 : Un F S4x1x1 S4x128x128),
    unary main_v22 main_v24 (broadcastInDim S4x128x128 ![0, 1, 2] bcast_S1x128x128_S4x128x128_0_1_2 : Un F S1x128x128 S4x128x128),
    binary main_v23 main_v24 main_v25 (mulf : Bi F S4x128x128 S4x128x128 S4x128x128),
    unary main_v12 main_v26 (broadcastInDim S4x1x1 ![0] bcast_S4_S4x1x1_0 : Un F S4 S4x1x1),
    unary main_v26 main_v27 (Host.negf : Un F S4x1x1 S4x1x1),
    unary main_v18 main_v28 (broadcastInDim S1x128x128 ![1, 2] bcast_S128x128_S1x128x128_1_2 : Un F S128x128 S1x128x128),
    unary main_v27 main_v29 (broadcastInDim S4x128x128 ![0, 1, 2] bcast_S4x1x1_S4x128x128_0_1_2 : Un F S4x1x1 S4x128x128),
    unary main_v28 main_v30 (broadcastInDim S4x128x128 ![0, 1, 2] bcast_S1x128x128_S4x128x128_0_1_2 : Un F S1x128x128 S4x128x128),
    binary main_v29 main_v30 main_v31 (mulf : Bi F S4x128x128 S4x128x128 S4x128x128) ]
abbrev g5_W : List (Ref sig .tc) := [main_v21, main_v22, main_v23, main_v24, main_v25, main_v26, main_v27, main_v28, main_v29, main_v30, main_v31]
theorem g5_ok : Ok (F := F) g5 g5_W := ⟨by simp, forall_fresh_of_map rfl, forall_writes_sub_of_map rfl⟩

abbrev g6 : Ops F :=
  [ TRef.unary (.of main_v20 : TRef sig ⟨S128x128, .i1⟩) (.of main_call0_v0 : TRef sig ⟨S4x128x128, .i1⟩) (broadcastInDim S4x128x128 ![1, 2] bcast_S128x128_S4x128x128_1_2),
    TRef.ternary (.of main_call0_v0 : TRef sig ⟨S4x128x128, .i1⟩) (.of main_v25 : T S4x128x128) (.of main_v31 : T S4x128x128) (.of main_v32 : T S4x128x128) select ]
abbrev g6_W : List (Ref sig .tc) := [main_call0_v0, main_v32]
theorem g6_ok : Ok (F := F) g6 g6_W := ⟨by simp, forall_fresh_of_map rfl, forall_writes_sub_of_map rfl⟩

abbrev g7 : Ops F :=
  [ unary main_v32 main_v33 (Host.exp : Un F S4x128x128 S4x128x128) ]
abbrev g7_W : List (Ref sig .tc) := [main_v33]
theorem g7_ok : Ok (F := F) g7 g7_W := ⟨by simp, forall_fresh_of_map rfl, forall_writes_sub_of_map rfl⟩

abbrev g8 : Ops F :=
  [ binary main_v6 main_v7 main_v34 ((fun l r => Host.dotGeneral dot_S1x16x128x4x256_S1x16x128x4x256_S1x16x4x128x128_4_4_2_2_013_013 none l r) : Bi F S1x16x128x4x256 S1x16x128x4x256 S1x16x4x128x128),
    unary main_v33 main_v35 (broadcastInDim S1x1x4x128x128 ![2, 3, 4] bcast_S4x128x128_S1x1x4x128x128_2_3_4 : Un F S4x128x128 S1x1x4x128x128),
    unary main_v35 main_v36 (broadcastInDim S1x16x4x128x128 ![0, 1, 2, 3, 4] bcast_S1x1x4x128x128_S1x16x4x128x128_0_1_2_3_4 : Un F S1x1x4x128x128 S1x16x4x128x128),
    binary main_v34 main_v36 main_v37 (mulf : Bi F S1x16x4x128x128 S1x16x4x128x128 S1x16x4x128x128) ]
abbrev g8_W : List (Ref sig .tc) := [main_v34, main_v35, main_v36, main_v37]
theorem g8_ok : Ok (F := F) g8 g8_W := ⟨by simp, forall_fresh_of_map rfl, forall_writes_sub_of_map rfl⟩

abbrev g9 : Ops F :=
  [ binary main_v8 main_v37 main_v38 ((fun l r => Host.dotGeneral dot_S1x16x128x4x512_S1x16x4x128x128_S1x16x4x512x128_2_4_4_3_013_012 none l r) : Bi F S1x16x128x4x512 S1x16x4x128x128 S1x16x4x512x128),
    unary main_v38 main_v39 ((transpose S1x16x128x4x512 [0, 1, 4, 2, 3] · transposes_S1x16x4x512x128_S1x16x128x4x512_0_1_4_2_3) : Un F S1x16x4x512x128 S1x16x128x4x512) ]
abbrev g9_W : List (Ref sig .tc) := [main_v38, main_v39]
theorem g9_ok : Ok (F := F) g9 g9_W := ⟨by simp, forall_fresh_of_map rfl, forall_writes_sub_of_map rfl⟩

abbrev g10 : Ops F :=
  [ unary main_v10 main_v40 (broadcastInDim S1x4 ![1] bcast_S4_S1x4_1 : Un F S4 S1x4),
    nullary main_cst_0 (constant S_ .f32 0x42FE0000#32),
    unary main_cst_0 main_v41 (broadcastInDim S128 ![] bcast_S_S128 : Un F S_ S128),
    binary main_v41 main_v13 main_v42 (subf : Bi F S128 S128 S128),
    unary main_v42 main_v43 (broadcastInDim S128x1 ![0] bcast_S128_S128x1_0 : Un F S128 S128x1),
    unary main_v40 main_v44 (broadcastInDim S128x4 ![0, 1] bcast_S1x4_S128x4_0_1 : Un F S1x4 S128x4),
    unary main_v43 main_v45 (broadcastInDim S128x4 ![0, 1] bcast_S128x1_S128x4_0_1 : Un F S128x1 S128x4),
    binary main_v44 main_v45 main_v46 (mulf : Bi F S128x4 S128x4 S128x4),
    unary main_v46 main_v47 (Host.exp : Un F S128x4 S128x4),
    unary main_v47 main_v48 (broadcastInDim S128x4x1 ![0, 1] bcast_S128x4_S128x4x1_0_1 : Un F S128x4 S128x4x1),
    unary main_v48 main_v49 (broadcastInDim S1x1x128x4x1 ![2, 3, 4] bcast_S128x4x1_S1x1x128x4x1_2_3_4 : Un F S128x4x1 S1x1x128x4x1) ]
abbrev g10_W : List (Ref sig .tc) := [main_v40, main_cst_0, main_v41, main_v42, main_v43, main_v44, main_v45, main_v46, main_v47, main_v48, main_v49]
theorem g10_ok : Ok (F := F) g10 g10_W := ⟨by simp, forall_fresh_of_map rfl, forall_writes_sub_of_map rfl⟩

abbrev g11 : Ops F :=
  [ unary main_v49 main_v50 (broadcastInDim S1x16x128x4x256 ![0, 1, 2, 3, 4] bcast_S1x1x128x4x1_S1x16x128x4x256_0_1_2_3_4 : Un F S1x1x128x4x1 S1x16x128x4x256),
    binary main_v7 main_v50 main_v51 (mulf : Bi F S1x16x128x4x256 S1x16x128x4x256 S1x16x128x4x256) ]
abbrev g11_W : List (Ref sig .tc) := [main_v50, main_v51]
theorem g11_ok : Ok (F := F) g11 g11_W := ⟨by simp, forall_fresh_of_map rfl, forall_writes_sub_of_map rfl⟩

abbrev g12 : Ops F :=
  [ unary main_v12 main_v52 (broadcastInDim S1x4 ![1] bcast_S4_S1x4_1 : Un F S4 S1x4),
    unary main_v13 main_v53 (broadcastInDim S128x1 ![0] bcast_S128_S128x1_0 : Un F S128 S128x1),
    unary main_v52 main_v54 (broadcastInDim S128x4 ![0, 1] bcast_S1x4_S128x4_0_1 : Un F S1x4 S128x4),
    unary main_v53 main_v55 (broadcastInDim S128x4 ![0, 1] bcast_S128x1_S128x4_0_1 : Un F S128x1 S128x4),
    binary main_v54 main_v55 main_v56 (mulf : Bi F S128x4 S128x4 S128x4),
    unary main_v56 main_v57 (Host.exp : Un F S128x4 S128x4) ]
abbrev g12_W : List (Ref sig .tc) := [main_v52, main_v53, main_v54, main_v55, main_v56, main_v57]
theorem g12_ok : Ok (F := F) g12 g12_W := ⟨by simp, forall_fresh_of_map rfl, forall_writes_sub_of_map rfl⟩

abbrev g13 : Ops F :=
  [ unary main_v57 main_v58 (broadcastInDim S128x4x1 ![0, 1] bcast_S128x4_S128x4x1_0_1 : Un F S128x4 S128x4x1),
    unary main_v58 main_v59 (broadcastInDim S1x1x128x4x1 ![2, 3, 4] bcast_S128x4x1_S1x1x128x4x1_2_3_4 : Un F S128x4x1 S1x1x128x4x1) ]
abbrev g13_W : List (Ref sig .tc) := [main_v58, main_v59]
theorem g13_ok : Ok (F := F) g13 g13_W := ⟨by simp, forall_fresh_of_map rfl, forall_writes_sub_of_map rfl⟩

abbrev g14 : Ops F :=
  [ unary main_v59 main_v60 (broadcastInDim S1x16x128x4x256 ![0, 1, 2, 3, 4] bcast_S1x1x128x4x1_S1x16x128x4x256_0_1_2_3_4 : Un F S1x1x128x4x1 S1x16x128x4x256),
    binary main_v7 main_v60 main_v61 (mulf : Bi F S1x16x128x4x256 S1x16x128x4x256 S1x16x128x4x256) ]
abbrev g14_W : List (Ref sig .tc) := [main_v60, main_v61]
theorem g14_ok : Ok (F := F) g14 g14_W := ⟨by simp, forall_fresh_of_map rfl, forall_writes_sub_of_map rfl⟩

abbrev g15 : Ops F :=
  [ binary main_v51 main_v8 main_v62 ((fun l r => Host.dotGeneral dot_S1x16x128x4x256_S1x16x128x4x512_S16x1x4x256x512_2_2_4_4_103_103 none l r) : Bi F S1x16x128x4x256 S1x16x128x4x512 S16x1x4x256x512),
    binary main_v61 main_v8 main_v63 ((fun l r => Host.dotGeneral dot_S1x16x128x4x256_S1x16x128x4x512_S16x1x4x256x512_2_2_4_4_103_103 none l r) : Bi F S1x16x128x4x256 S1x16x128x4x512 S16x1x4x256x512) ]
abbrev g15_W : List (Ref sig .tc) := [main_v62, main_v63]
theorem g15_ok : Ok (F := F) g15 g15_W := ⟨by simp, forall_fresh_of_map rfl, forall_writes_sub_of_map rfl⟩

abbrev g16 : Ops F :=
  [ nullary main_cst_1 (constant S_ .f32 0x43000000#32),
    unary main_cst_1 main_v64 (broadcastInDim S4 ![] bcast_S_S4 : Un F S_ S4),
    binary main_v10 main_v64 main_v65 (mulf : Bi F S4 S4 S4),
    unary main_v65 main_v66 (Host.exp : Un F S4 S4),
    unary main_v66 main_v67 (broadcastInDim S1x4x1x1 ![1] bcast_S4_S1x4x1x1_1 : Un F S4 S1x4x1x1) ]
abbrev g16_W : List (Ref sig .tc) := [main_cst_1, main_v64, main_v65, main_v66, main_v67]
theorem g16_ok : Ok (F := F) g16 g16_W := ⟨by simp, forall_fresh_of_map rfl, forall_writes_sub_of_map rfl⟩

abbrev g17 : Ops F :=
  [ nullary main_cst_2 (constant S_ .f32 0x43000000#32),
    unary main_cst_2 main_v68 (broadcastInDim S4 ![] bcast_S_S4 : Un F S_ S4),
    binary main_v12 main_v68 main_v69 (mulf : Bi F S4 S4 S4),
    unary main_v69 main_v70 (Host.exp : Un F S4 S4),
    unary main_v70 main_v71 (broadcastInDim S1x4x1x1 ![1] bcast_S4_S1x4x1x1_1 : Un F S4 S1x4x1x1) ]
abbrev g17_W : List (Ref sig .tc) := [main_cst_2, main_v68, main_v69, main_v70, main_v71]
theorem g17_ok : Ok (F := F) g17 g17_W := ⟨by simp, forall_fresh_of_map rfl, forall_writes_sub_of_map rfl⟩

abbrev g18 : Ops F :=
  [ nullary main_cst_3 (constant S_ .f32 0x00000000#32),
    unary main_cst_3 main_v72 (broadcastInDim S1x4x256x512 ![] bcast_S_S1x4x256x512 : Un F S_ S1x4x256x512),
    nullary main_cst_4 (constant S_ .f32 0x00000000#32),
    unary main_cst_4 main_v73 (broadcastInDim S16x1x4x256x512 ![] bcast_S_S16x1x4x256x512 : Un F S_ S16x1x4x256x512),
    nullary main_c (constantI S_ 32 0#32),
    unary main_v62 main_v74_0 id,
    unary main_v67 main_v74_1 id,
    unary main_c main_v74_2 id,
    unary main_v72 main_v74_3 id,
    unary main_v73 main_v74_4 id ]
abbrev g18_W : List (Ref sig .tc) := [main_cst_3, main_v72, main_cst_4, main_v73, main_c, main_v74_0, main_v74_1, main_v74_2, main_v74_3, main_v74_4]
theorem g18_ok : Ok (F := F) g18 g18_W := ⟨by simp, forall_fresh_of_map rfl, forall_writes_sub_of_map rfl⟩

abbrev g19 : Ops F :=
  [ nullary main_cst_5 (constant S_ .f32 0x00000000#32),
    unary main_cst_5 main_v75 (broadcastInDim S16x1x4x256x512 ![] bcast_S_S16x1x4x256x512 : Un F S_ S16x1x4x256x512),
    nullary main_c_6 (constantI S_ 32 0#32),
    unary main_v63 main_v76_0 id,
    unary main_v71 main_v76_1 id,
    unary main_c_6 main_v76_2 id,
    unary main_v72 main_v76_3 id,
    unary main_v75 main_v76_4 id ]
abbrev g19_W : List (Ref sig .tc) := [main_cst_5, main_v75, main_c_6, main_v76_0, main_v76_1, main_v76_2, main_v76_3, main_v76_4]
theorem g19_ok : Ok (F := F) g19 g19_W := ⟨by simp, forall_fresh_of_map rfl, forall_writes_sub_of_map rfl⟩

abbrev g20 : Ops F :=
  [ unary main_v10 main_v77 (broadcastInDim S1x4 ![1] bcast_S4_S1x4_1 : Un F S4 S1x4),
    unary main_v13 main_v78 (broadcastInDim S128x1 ![0] bcast_S128_S128x1_0 : Un F S128 S128x1),
    nullary main_cst_7 (constant S_ .f32 0x3F800000#32),
    unary main_cst_7 main_v79 (broadcastInDim S128x1 ![] bcast_S_S128x1 : Un F S_ S128x1),
    binary main_v78 main_v79 main_v80 (addf : Bi F S128x1 S128x1 S128x1),
    unary main_v77 main_v81 (broadcastInDim S128x4 ![0, 1] bcast_S1x4_S128x4_0_1 : Un F S1x4 S128x4),
    unary main_v80 main_v82 (broadcastInDim S128x4 ![0, 1] bcast_S128x1_S128x4_0_1 : Un F S128x1 S128x4),
    binary main_v81 main_v82 main_v83 (mulf : Bi F S128x4 S128x4 S128x4),
    unary main_v83 main_v84 (Host.exp : Un F S128x4 S128x4),
    unary main_v84 main_v85 (broadcastInDim S128x4x1 ![0, 1] bcast_S128x4_S128x4x1_0_1 : Un F S128x4 S128x4x1),
    unary main_v85 main_v86 (broadcastInDim S1x1x128x4x1 ![2, 3, 4] bcast_S128x4x1_S1x1x128x4x1_2_3_4 : Un F S128x4x1 S1x1x128x4x1) ]
abbrev g20_W : List (Ref sig .tc) := [main_v77, main_v78, main_cst_7, main_v79, main_v80, main_v81, main_v82, main_v83, main_v84, main_v85, main_v86]
theorem g20_ok : Ok (F := F) g20 g20_W := ⟨by simp, forall_fresh_of_map rfl, forall_writes_sub_of_map rfl⟩

abbrev g21 : Ops F :=
  [ unary main_v86 main_v87 (broadcastInDim S1x16x128x4x256 ![0, 1, 2, 3, 4] bcast_S1x1x128x4x1_S1x16x128x4x256_0_1_2_3_4 : Un F S1x1x128x4x1 S1x16x128x4x256),
    binary main_v6 main_v87 main_v88 (mulf : Bi F S1x16x128x4x256 S1x16x128x4x256 S1x16x128x4x256) ]
abbrev g21_W : List (Ref sig .tc) := [main_v87, main_v88]
theorem g21_ok : Ok (F := F) g21 g21_W := ⟨by simp, forall_fresh_of_map rfl, forall_writes_sub_of_map rfl⟩

abbrev g22 : Ops F :=
  [ unary main_v12 main_v89 (broadcastInDim S1x4 ![1] bcast_S4_S1x4_1 : Un F S4 S1x4),
    nullary main_cst_8 (constant S_ .f32 0x43000000#32),
    unary main_cst_8 main_v90 (broadcastInDim S128 ![] bcast_S_S128 : Un F S_ S128),
    binary main_v90 main_v13 main_v91 (subf : Bi F S128 S128 S128),
    unary main_v91 main_v92 (broadcastInDim S128x1 ![0] bcast_S128_S128x1_0 : Un F S128 S128x1),
    unary main_v89 main_v93 (broadcastInDim S128x4 ![0, 1] bcast_S1x4_S128x4_0_1 : Un F S1x4 S128x4),
    unary main_v92 main_v94 (broadcastInDim S128x4 ![0, 1] bcast_S128x1_S128x4_0_1 : Un F S128x1 S128x4),
    binary main_v93 main_v94 main_v95 (mulf : Bi F S128x4 S128x4 S128x4),
    unary main_v95 main_v96 (Host.exp : Un F S128x4 S128x4),
    unary main_v96 main_v97 (broadcastInDim S128x4x1 ![0, 1] bcast_S128x4_S128x4x1_0_1 : Un F S128x4 S128x4x1),
    unary main_v97 main_v98 (broadcastInDim S1x1x128x4x1 ![2, 3, 4] bcast_S128x4x1_S1x1x128x4x1_2_3_4 : Un F S128x4x1 S1x1x128x4x1) ]
abbrev g22_W : List (Ref sig .tc) := [main_v89, main_cst_8, main_v90, main_v91, main_v92, main_v93, main_v94, main_v95, main_v96, main_v97, main_v98]
theorem g22_ok : Ok (F := F) g22 g22_W := ⟨by simp, forall_fresh_of_map rfl, forall_writes_sub_of_map rfl⟩

abbrev g23 : Ops F :=
  [ unary main_v98 main_v99 (broadcastInDim S1x16x128x4x256 ![0, 1, 2, 3, 4] bcast_S1x1x128x4x1_S1x16x128x4x256_0_1_2_3_4 : Un F S1x1x128x4x1 S1x16x128x4x256),
    binary main_v6 main_v99 main_v100 (mulf : Bi F S1x16x128x4x256 S1x16x128x4x256 S1x16x128x4x256) ]
abbrev g23_W : List (Ref sig .tc) := [main_v99, main_v100]
theorem g23_ok : Ok (F := F) g23 g23_W := ⟨by simp, forall_fresh_of_map rfl, forall_writes_sub_of_map rfl⟩

abbrev g24 : Ops F :=
  [ binary main_v74_4 main_v88 main_v101 ((fun l r => Host.dotGeneral dot_S16x1x4x256x512_S1x16x128x4x256_S1x16x4x512x128_3_4_4_2_102_013 none l r) : Bi F S16x1x4x256x512 S1x16x128x4x256 S1x16x4x512x128),
    unary main_v101 main_v102 ((transpose S1x16x128x4x512 [0, 1, 4, 2, 3] · transposes_S1x16x4x512x128_S1x16x128x4x512_0_1_4_2_3) : Un F S1x16x4x512x128 S1x16x128x4x512),
    binary main_v39 main_v102 main_v103 (addf : Bi F S1x16x128x4x512 S1x16x128x4x512 S1x16x128x4x512),
    binary main_v76_4 main_v100 main_v104 ((fun l r => Host.dotGeneral dot_S16x1x4x256x512_S1x16x128x4x256_S1x16x4x512x128_3_4_4_2_102_013 none l r) : Bi F S16x1x4x256x512 S1x16x128x4x256 S1x16x4x512x128),
    unary main_v104 main_v105 ((transpose S1x16x128x4x512 [0, 1, 4, 2, 3] · transposes_S1x16x4x512x128_S1x16x128x4x512_0_1_4_2_3) : Un F S1x16x4x512x128 S1x16x128x4x512),
    binary main_v103 main_v105 main_v106 (addf : Bi F S1x16x128x4x512 S1x16x128x4x512 S1x16x128x4x512),
    reshape main_v106 main_v107 rfl shapeCasts_S1x16x128x4x512_S1x2048x4x512 ]
abbrev g24_W : List (Ref sig .tc) := [main_v101, main_v102, main_v103, main_v104, main_v105, main_v106, main_v107]
theorem g24_ok : Ok (F := F) g24 g24_W := ⟨by simp, forall_fresh_of_map rfl, forall_writes_sub_of_map rfl⟩

abbrev g25 : Ops F :=
  [ unary main_arg4 main_v108 ((extf .f32 · bitsLt_bf16_f32) : Bc F S2048x2048 .bf16 → Bc F S2048x2048 .f32),
    reshape main_v108 main_v109 rfl shapeCasts_S2048x2048_S1x2048x4x512,
    nullary main_cst_9 (constant S_ .f32 0x00000000#32),
    unary main_cst_9 main_v110 (broadcastInDim S1x4x256x512 ![] bcast_S_S1x4x256x512 : Un F S_ S1x4x256x512),
    nullary main_cst_10 (constant S_ .f32 0x00000000#32),
    unary main_cst_10 main_v111 (broadcastInDim S1x4x256x512 ![] bcast_S_S1x4x256x512 : Un F S_ S1x4x256x512),
    reshape main_v109 main_v112 rfl shapeCasts_S1x2048x4x512_S1x16x128x4x512 ]
abbrev g25_W : List (Ref sig .tc) := [main_v108, main_v109, main_cst_9, main_v110, main_cst_10, main_v111, main_v112]
theorem g25_ok : Ok (F := F) g25 g25_W := ⟨by simp, forall_fresh_of_map rfl, forall_writes_sub_of_map rfl⟩

abbrev g26 : Ops F :=
  [ unary main_v112 main_v113 ((transpose S1x16x4x512x128 [0, 1, 3, 4, 2] · transposes_S1x16x128x4x512_S1x16x4x512x128_0_1_3_4_2) : Un F S1x16x128x4x512 S1x16x4x512x128),
    binary main_v113 main_v76_4 main_v114 ((fun l r => Host.dotGeneral dot_S1x16x4x512x128_S16x1x4x256x512_S1x16x4x128x256_3_4_4_3_012_102 none l r) : Bi F S1x16x4x512x128 S16x1x4x256x512 S1x16x4x128x256),
    unary main_v114 main_v115 ((transpose S1x16x128x4x256 [0, 1, 3, 2, 4] · transposes_S1x16x4x128x256_S1x16x128x4x256_0_1_3_2_4) : Un F S1x16x4x128x256 S1x16x128x4x256) ]
abbrev g26_W : List (Ref sig .tc) := [main_v113, main_v114, main_v115]
theorem g26_ok : Ok (F := F) g26 g26_W := ⟨by simp, forall_fresh_of_map rfl, forall_writes_sub_of_map rfl⟩

abbrev g27 : Ops F :=
  [ binary main_v113 main_v100 main_v116 ((fun l r => Host.dotGeneral dot_S1x16x4x512x128_S1x16x128x4x256_S1x16x4x512x256_4_2_3_4_012_013 none l r) : Bi F S1x16x4x512x128 S1x16x128x4x256 S1x16x4x512x256),
    unary main_v116 main_v117 ((transpose S16x1x4x256x512 [1, 0, 2, 4, 3] · transposes_S1x16x4x512x256_S16x1x4x256x512_1_0_2_4_3) : Un F S1x16x4x512x256 S16x1x4x256x512) ]
abbrev g27_W : List (Ref sig .tc) := [main_v116, main_v117]
theorem g27_ok : Ok (F := F) g27 g27_W := ⟨by simp, forall_fresh_of_map rfl, forall_writes_sub_of_map rfl⟩

abbrev g28 : Ops F :=
  [ unary main_v112 main_v118 ((transpose S1x16x4x512x128 [0, 1, 3, 4, 2] · transposes_S1x16x128x4x512_S1x16x4x512x128_0_1_3_4_2) : Un F S1x16x128x4x512 S1x16x4x512x128),
    binary main_v118 main_v74_4 main_v119 ((fun l r => Host.dotGeneral dot_S1x16x4x512x128_S16x1x4x256x512_S1x16x4x128x256_3_4_4_3_012_102 none l r) : Bi F S1x16x4x512x128 S16x1x4x256x512 S1x16x4x128x256),
    unary main_v119 main_v120 ((transpose S1x16x128x4x256 [0, 1, 3, 2, 4] · transposes_S1x16x4x128x256_S1x16x128x4x256_0_1_3_2_4) : Un F S1x16x4x128x256 S1x16x128x4x256) ]
abbrev g28_W : List (Ref sig .tc) := [main_v118, main_v119, main_v120]
theorem g28_ok : Ok (F := F) g28 g28_W := ⟨by simp, forall_fresh_of_map rfl, forall_writes_sub_of_map rfl⟩

abbrev g29 : Ops F :=
  [ binary main_v118 main_v88 main_v121 ((fun l r => Host.dotGeneral dot_S1x16x4x512x128_S1x16x128x4x256_S1x16x4x512x256_4_2_3_4_012_013 none l r) : Bi F S1x16x4x512x128 S1x16x128x4x256 S1x16x4x512x256),
    unary main_v121 main_v122 ((transpose S16x1x4x256x512 [1, 0, 2, 4, 3] · transposes_S1x16x4x512x256_S16x1x4x256x512_1_0_2_4_3) : Un F S1x16x4x512x256 S16x1x4x256x512) ]
abbrev g29_W : List (Ref sig .tc) := [main_v121, main_v122]
theorem g29_ok : Ok (F := F) g29 g29_W := ⟨by simp, forall_fresh_of_map rfl, forall_writes_sub_of_map rfl⟩

abbrev g30 : Ops F :=
  [ unary main_v98 main_v123 (broadcastInDim S1x16x128x4x256 ![0, 1, 2, 3, 4] bcast_S1x1x128x4x1_S1x16x128x4x256_0_1_2_3_4 : Un F S1x1x128x4x1 S1x16x128x4x256),
    binary main_v115 main_v123 main_v124 (mulf : Bi F S1x16x128x4x256 S1x16x128x4x256 S1x16x128x4x256),
    unary main_v86 main_v125 (broadcastInDim S1x16x128x4x256 ![0, 1, 2, 3, 4] bcast_S1x1x128x4x1_S1x16x128x4x256_0_1_2_3_4 : Un F S1x1x128x4x1 S1x16x128x4x256),
    binary main_v120 main_v125 main_v126 (mulf : Bi F S1x16x128x4x256 S1x16x128x4x256 S1x16x128x4x256),
    binary main_v124 main_v126 main_v127 (addf : Bi F S1x16x128x4x256 S1x16x128x4x256 S1x16x128x4x256) ]
abbrev g30_W : List (Ref sig .tc) := [main_v123, main_v124, main_v125, main_v126, main_v127]
theorem g30_ok : Ok (F := F) g30 g30_W := ⟨by simp, forall_fresh_of_map rfl, forall_writes_sub_of_map rfl⟩

abbrev g31 : Ops F :=
  [ nullary main_cst_11 (constant S_ .f32 0x00000000#32),
    unary main_cst_11 main_v128 (broadcastInDim S1x4x256x512 ![] bcast_S_S1x4x256x512 : Un F S_ S1x4x256x512),
    nullary main_cst_12 (constant S_ .f32 0x00000000#32),
    unary main_cst_12 main_v129 (broadcastInDim S16x1x4x256x512 ![] bcast_S_S16x1x4x256x512 : Un F S_ S16x1x4x256x512),
    nullary main_c_13 (constantI S_ 32 0#32),
    unary main_v117 main_v130_0 id,
    unary main_v71 main_v130_1 id,
    unary main_c_13 main_v130_2 id,
    unary main_v128 main_v130_3 id,
    unary main_v129 main_v130_4 id ]
abbrev g31_W : List (Ref sig .tc) := [main_cst_11, main_v128, main_cst_12, main_v129, main_c_13, main_v130_0, main_v130_1, main_v130_2, main_v130_3, main_v130_4]
theorem g31_ok : Ok (F := F) g31 g31_W := ⟨by simp, forall_fresh_of_map rfl, forall_writes_sub_of_map rfl⟩

abbrev g32 : Ops F :=
  [ nullary main_cst_14 (constant S_ .f32 0x00000000#32),
    unary main_cst_14 main_v131 (broadcastInDim S1x4x256x512 ![] bcast_S_S1x4x256x512 : Un F S_ S1x4x256x512),
    nullary main_cst_15 (constant S_ .f32 0x00000000#32),
    unary main_cst_15 main_v132 (broadcastInDim S16x1x4x256x512 ![] bcast_S_S16x1x4x256x512 : Un F S_ S16x1x4x256x512),
    nullary main_c_16 (constantI S_ 32 0#32),
    unary main_v122 main_v133_0 id,
    unary main_v67 main_v133_1 id,
    unary main_c_16 main_v133_2 id,
    unary main_v131 main_v133_3 id,
    unary main_v132 main_v133_4 id ]
abbrev g32_W : List (Ref sig .tc) := [main_cst_14, main_v131, main_cst_15, main_v132, main_c_16, main_v133_0, main_v133_1, main_v133_2, main_v133_3, main_v133_4]
theorem g32_ok : Ok (F := F) g32 g32_W := ⟨by simp, forall_fresh_of_map rfl, forall_writes_sub_of_map rfl⟩

abbrev g33 : Ops F :=
  [ binary main_v130_4 main_v61 main_v134 ((fun l r => Host.dotGeneral dot_S16x1x4x256x512_S1x16x128x4x256_S16x1x4x512x128_3_4_4_2_012_103 none l r) : Bi F S16x1x4x256x512 S1x16x128x4x256 S16x1x4x512x128),
    unary main_v134 main_v135 ((transpose S1x16x128x4x512 [1, 0, 4, 2, 3] · transposes_S16x1x4x512x128_S1x16x128x4x512_1_0_4_2_3) : Un F S16x1x4x512x128 S1x16x128x4x512),
    binary main_v130_4 main_v8 main_v136 ((fun l r => Host.dotGeneral dot_S16x1x4x256x512_S1x16x128x4x512_S16x1x4x256x128_4_4_3_2_012_103 none l r) : Bi F S16x1x4x256x512 S1x16x128x4x512 S16x1x4x256x128),
    unary main_v136 main_v137 ((transpose S1x16x128x4x256 [1, 0, 4, 2, 3] · transposes_S16x1x4x256x128_S1x16x128x4x256_1_0_4_2_3) : Un F S16x1x4x256x128 S1x16x128x4x256),
    binary main_v133_4 main_v51 main_v138 ((fun l r => Host.dotGeneral dot_S16x1x4x256x512_S1x16x128x4x256_S16x1x4x512x128_3_4_4_2_012_103 none l r) : Bi F S16x1x4x256x512 S1x16x128x4x256 S16x1x4x512x128),
    unary main_v138 main_v139 ((transpose S1x16x128x4x512 [1, 0, 4, 2, 3] · transposes_S16x1x4x512x128_S1x16x128x4x512_1_0_4_2_3) : Un F S16x1x4x512x128 S1x16x128x4x512),
    binary main_v135 main_v139 main_v140 (addf : Bi F S1x16x128x4x512 S1x16x128x4x512 S1x16x128x4x512) ]
abbrev g33_W : List (Ref sig .tc) := [main_v134, main_v135, main_v136, main_v137, main_v138, main_v139, main_v140]
theorem g33_ok : Ok (F := F) g33 g33_W := ⟨by simp, forall_fresh_of_map rfl, forall_writes_sub_of_map rfl⟩

abbrev g34 : Ops F :=
  [ binary main_v133_4 main_v8 main_v141 ((fun l r => Host.dotGeneral dot_S16x1x4x256x512_S1x16x128x4x512_S16x1x4x256x128_4_4_3_2_012_103 none l r) : Bi F S16x1x4x256x512 S1x16x128x4x512 S16x1x4x256x128),
    unary main_v141 main_v142 ((transpose S1x16x128x4x256 [1, 0, 4, 2, 3] · transposes_S16x1x4x256x128_S1x16x128x4x256_1_0_4_2_3) : Un F S16x1x4x256x128 S1x16x128x4x256) ]
abbrev g34_W : List (Ref sig .tc) := [main_v141, main_v142]
theorem g34_ok : Ok (F := F) g34 g34_W := ⟨by simp, forall_fresh_of_map rfl, forall_writes_sub_of_map rfl⟩

abbrev g35 : Ops F :=
  [ unary main_v59 main_v143 (broadcastInDim S1x16x128x4x256 ![0, 1, 2, 3, 4] bcast_S1x1x128x4x1_S1x16x128x4x256_0_1_2_3_4 : Un F S1x1x128x4x1 S1x16x128x4x256),
    binary main_v137 main_v143 main_v144 (mulf : Bi F S1x16x128x4x256 S1x16x128x4x256 S1x16x128x4x256),
    unary main_v49 main_v145 (broadcastInDim S1x16x128x4x256 ![0, 1, 2, 3, 4] bcast_S1x1x128x4x1_S1x16x128x4x256_0_1_2_3_4 : Un F S1x1x128x4x1 S1x16x128x4x256),
    binary main_v142 main_v145 main_v146 (mulf : Bi F S1x16x128x4x256 S1x16x128x4x256 S1x16x128x4x256),
    binary main_v144 main_v146 main_v147 (addf : Bi F S1x16x128x4x256 S1x16x128x4x256 S1x16x128x4x256) ]
abbrev g35_W : List (Ref sig .tc) := [main_v143, main_v144, main_v145, main_v146, main_v147]
theorem g35_ok : Ok (F := F) g35 g35_W := ⟨by simp, forall_fresh_of_map rfl, forall_writes_sub_of_map rfl⟩

abbrev g36 : Ops F :=
  [ unary main_v112 main_v148 ((transpose S1x16x4x512x128 [0, 1, 3, 4, 2] · transposes_S1x16x128x4x512_S1x16x4x512x128_0_1_3_4_2) : Un F S1x16x128x4x512 S1x16x4x512x128),
    binary main_v148 main_v8 main_v149 ((fun l r => Host.dotGeneral dot_S1x16x4x512x128_S1x16x128x4x512_S1x16x4x128x128_3_4_4_2_012_013 none l r) : Bi F S1x16x4x512x128 S1x16x128x4x512 S1x16x4x128x128) ]
abbrev g36_W : List (Ref sig .tc) := [main_v148, main_v149]
theorem g36_ok : Ok (F := F) g36 g36_W := ⟨by simp, forall_fresh_of_map rfl, forall_writes_sub_of_map rfl⟩

abbrev g37 : Ops F :=
  [ binary main_v148 main_v37 main_v150 ((fun l r => Host.dotGeneral dot_S1x16x4x512x128_S1x16x4x128x128_S1x16x4x512x128_4_3_3_4_012_012 none l r) : Bi F S1x16x4x512x128 S1x16x4x128x128 S1x16x4x512x128),
    unary main_v150 main_v151 ((transpose S1x16x128x4x512 [0, 1, 4, 2, 3] · transposes_S1x16x4x512x128_S1x16x128x4x512_0_1_4_2_3) : Un F S1x16x4x512x128 S1x16x128x4x512),
    binary main_v140 main_v151 main_v152 (addf : Bi F S1x16x128x4x512 S1x16x128x4x512 S1x16x128x4x512) ]
abbrev g37_W : List (Ref sig .tc) := [main_v150, main_v151, main_v152]
theorem g37_ok : Ok (F := F) g37 g37_W := ⟨by simp, forall_fresh_of_map rfl, forall_writes_sub_of_map rfl⟩

abbrev g38 : Ops F :=
  [ unary main_v35 main_v153 (broadcastInDim S1x16x4x128x128 ![0, 1, 2, 3, 4] bcast_S1x1x4x128x128_S1x16x4x128x128_0_1_2_3_4 : Un F S1x1x4x128x128 S1x16x4x128x128),
    binary main_v149 main_v153 main_v154 (mulf : Bi F S1x16x4x128x128 S1x16x4x128x128 S1x16x4x128x128) ]
abbrev g38_W : List (Ref sig .tc) := [main_v153, main_v154]
theorem g38_ok : Ok (F := F) g38 g38_W := ⟨by simp, forall_fresh_of_map rfl, forall_writes_sub_of_map rfl⟩

abbrev g39 : Ops F :=
  [ binary main_v154 main_v6 main_v155 ((fun l r => Host.dotGeneral dot_S1x16x4x128x128_S1x16x128x4x256_S1x16x4x128x256_3_2_4_4_012_013 none l r) : Bi F S1x16x4x128x128 S1x16x128x4x256 S1x16x4x128x256),
    unary main_v155 main_v156 ((transpose S1x16x128x4x256 [0, 1, 3, 2, 4] · transposes_S1x16x4x128x256_S1x16x128x4x256_0_1_3_2_4) : Un F S1x16x4x128x256 S1x16x128x4x256),
    binary main_v147 main_v156 main_v157 (addf : Bi F S1x16x128x4x256 S1x16x128x4x256 S1x16x128x4x256) ]
abbrev g39_W : List (Ref sig .tc) := [main_v155, main_v156, main_v157]
theorem g39_ok : Ok (F := F) g39 g39_W := ⟨by simp, forall_fresh_of_map rfl, forall_writes_sub_of_map rfl⟩

abbrev g40 : Ops F :=
  [ binary main_v154 main_v7 main_v158 ((fun l r => Host.dotGeneral dot_S1x16x4x128x128_S1x16x128x4x256_S1x16x4x128x256_4_2_3_4_012_013 none l r) : Bi F S1x16x4x128x128 S1x16x128x4x256 S1x16x4x128x256),
    unary main_v158 main_v159 ((transpose S1x16x128x4x256 [0, 1, 3, 2, 4] · transposes_S1x16x4x128x256_S1x16x128x4x256_0_1_3_2_4) : Un F S1x16x4x128x256 S1x16x128x4x256),
    binary main_v127 main_v159 main_v160 (addf : Bi F S1x16x128x4x256 S1x16x128x4x256 S1x16x128x4x256) ]
abbrev g40_W : List (Ref sig .tc) := [main_v158, main_v159, main_v160]
theorem g40_ok : Ok (F := F) g40 g40_W := ⟨by simp, forall_fresh_of_map rfl, forall_writes_sub_of_map rfl⟩

abbrev g41 : Ops F :=
  [ reshape main_v152 main_v161 rfl shapeCasts_S1x16x128x4x512_S1x2048x4x512,
    reshape main_v157 main_v162 rfl shapeCasts_S1x16x128x4x256_S1x2048x4x256,
    reshape main_v160 main_v163 rfl shapeCasts_S1x16x128x4x256_S1x2048x4x256,
    reshape main_v163 main_v164 rfl shapeCasts_S1x2048x4x256_S2048x1024,
    reshape main_v162 main_v165 rfl shapeCasts_S1x2048x4x256_S2048x1024,
    reshape main_v161 main_v166 rfl shapeCasts_S1x2048x4x512_S2048x2048 ]
abbrev g41_W : List (Ref sig .tc) := [main_v161, main_v162, main_v163, main_v164, main_v165, main_v166]
theorem g41_ok : Ok (F := F) g41 g41_W := ⟨by simp, forall_fresh_of_map rfl, forall_writes_sub_of_map rfl⟩

abbrev b0_0 : Ops F :=
  [ TRef.nullary (.of main_while0b_call1_c : TRef sig ⟨S_, .i32⟩) (constantI S_ 32 0#32),
    TRef.nullary (.of main_while0b_call1_c_0 : TRef sig ⟨S_, .i32⟩) (constantI S_ 32 0#32),
    TRef.nullary (.of main_while0b_call1_c_1 : TRef sig ⟨S_, .i32⟩) (constantI S_ 32 0#32),
    TRef.nullary (.of main_while0b_call1_c_2 : TRef sig ⟨S_, .i32⟩) (constantI S_ 32 0#32),
    TRef.unaryIndexed (.of main_v74_0 : T S16x1x4x256x512) ![(.of main_v74_2 : TRef sig ⟨S_, .i32⟩), (.of main_while0b_call1_c : TRef sig ⟨S_, .i32⟩), (.of main_while0b_call1_c_0 : TRef sig ⟨S_, .i32⟩), (.of main_while0b_call1_c_1 : TRef sig ⟨S_, .i32⟩), (.of main_while0b_call1_c_2 : TRef sig ⟨S_, .i32⟩)] (.of main_while0b_call1_v0 : T S1x1x4x256x512) (fun x i => Host.dynamicSlice S1x1x4x256x512 x (fun k => (i k (Shape.Idx.first h_S_)).toInt) sliceFits_S16x1x4x256x512_S1x1x4x256x512),
    TRef.reshape (.of main_while0b_call1_v0 : T S1x1x4x256x512) (.of main_while0b_v167 : T S1x4x256x512) rfl shapeCasts_S1x1x4x256x512_S1x4x256x512 ]
abbrev b0_0_W : List (Ref sig .tc) := [main_while0b_call1_c, main_while0b_call1_c_0, main_while0b_call1_c_1, main_while0b_call1_c_2, main_while0b_call1_v0, main_while0b_v167]
theorem b0_0_ok : Ok (F := F) b0_0 b0_0_W := ⟨by simp, forall_fresh_of_map rfl, forall_writes_sub_of_map rfl⟩
abbrev b0_1 : Ops F :=
  [ unary main_v74_1 main_while0b_v168 (broadcastInDim S1x4x256x512 ![0, 1, 2, 3] bcast_S1x4x1x1_S1x4x256x512_0_1_2_3 : Un F S1x4x1x1 S1x4x256x512),
    binary main_while0b_v168 main_v74_3 main_while0b_v169 (mulf : Bi F S1x4x256x512 S1x4x256x512 S1x4x256x512),
    binary main_while0b_v169 main_while0b_v167 main_while0b_v170 (addf : Bi F S1x4x256x512 S1x4x256x512 S1x4x256x512) ]
abbrev b0_1_W : List (Ref sig .tc) := [main_while0b_v168, main_while0b_v169, main_while0b_v170]
theorem b0_1_ok : Ok (F := F) b0_1 b0_1_W := ⟨by simp, forall_fresh_of_map rfl, forall_writes_sub_of_map rfl⟩
abbrev b0_2 : Ops F :=
  [ TRef.unary (.of main_v74_3 : T S1x4x256x512) (.of main_while0b_call2_v0 : T S1x1x4x256x512) (broadcastInDim S1x1x4x256x512 ![1, 2, 3, 4] bcast_S1x4x256x512_S1x1x4x256x512_1_2_3_4),
    TRef.nullary (.of main_while0b_call2_c : TRef sig ⟨S_, .i32⟩) (constantI S_ 32 0#32),
    TRef.nullary (.of main_while0b_call2_c_0 : TRef sig ⟨S_, .i32⟩) (constantI S_ 32 0#32),
    TRef.nullary (.of main_while0b_call2_c_1 : TRef sig ⟨S_, .i32⟩) (constantI S_ 32 0#32),
    TRef.nullary (.of main_while0b_call2_c_2 : TRef sig ⟨S_, .i32⟩) (constantI S_ 32 0#32),
    TRef.binaryIndexed (.of main_v74_4 : T S16x1x4x256x512) (.of main_while0b_call2_v0 : T S1x1x4x256x512) ![(.of main_v74_2 : TRef sig ⟨S_, .i32⟩), (.of main_while0b_call2_c : TRef sig ⟨S_, .i32⟩), (.of main_while0b_call2_c_0 : TRef sig ⟨S_, .i32⟩), (.of main_while0b_call2_c_1 : TRef sig ⟨S_, .i32⟩), (.of main_while0b_call2_c_2 : TRef sig ⟨S_, .i32⟩)] (.of main_while0b_v171 : T S16x1x4x256x512) (fun x u i => Host.dynamicUpdateSlice x u (fun k => (i k (Shape.Idx.first h_S_)).toInt) updateFits_S16x1x4x256x512_S1x1x4x256x512) ]
abbrev b0_2_W : List (Ref sig .tc) := [main_while0b_call2_v0, main_while0b_call2_c, main_while0b_call2_c_0, main_while0b_call2_c_1, main_while0b_call2_c_2, main_while0b_v171]
theorem b0_2_ok : Ok (F := F) b0_2 b0_2_W := ⟨by simp, forall_fresh_of_map rfl, forall_writes_sub_of_map rfl⟩
abbrev b0_3 : Ops F :=
  [ nullary main_while0b_c_21 (constantI S_ 32 1#32),
    binary main_v74_2 main_while0b_c_21 main_while0b_v172 (addi : Bc F S_ .i32 → Bc F S_ .i32 → Bc F S_ .i32),
    unary main_while0b_v172 main_v74_2 id,
    unary main_while0b_v170 main_v74_3 id,
    unary main_while0b_v171 main_v74_4 id ]
abbrev b0_3_W : List (Ref sig .tc) := [main_while0b_c_21, main_while0b_v172, main_v74_2, main_v74_3, main_v74_4]
theorem b0_3_ok : Ok (F := F) b0_3 b0_3_W := ⟨by simp, forall_fresh_of_map rfl, forall_writes_sub_of_map rfl⟩
abbrev c0 : Ops F :=
  [ nullary main_while0c_c_21 (constantI S_ 32 16#32),
    binary main_v74_2 main_while0c_c_21 main_while0c_v167 (cmpi .slt : Bc F S_ .i32 → Bc F S_ .i32 → Bc F S_ .i1) ]
abbrev c0_W : List (Ref sig .tc) := [main_while0c_c_21, main_while0c_v167]
theorem c0_ok : Ok (F := F) c0 c0_W := ⟨by simp, forall_fresh_of_map rfl, forall_writes_sub_of_map rfl⟩
/-- The stretches of the body of loop 0. -/
abbrev bd0 : List (List (HloOp τ sig (Elt F))) := [b0_0, b0_1, b0_2, b0_3]
theorem bd0_plain : Plain (bd0 (F := F)) := b0_0_ok.cons <| b0_1_ok.cons <| b0_2_ok.cons <| b0_3_ok.cons <| .nil
theorem body0_chain : main_while0_body (F := F) = (Pipeline.chain (bd0.map fun ops => seq ops) : HP F) := by
  show _ = (Pipeline.chain [seq b0_0, seq b0_1, seq b0_2, seq b0_3] : HP F)
  rewrite [Pipeline.chain_cons, chain_seq_cons, Pipeline.chain_cons, chain_seq_cons]
  chain_rfl

abbrev b1_0 : Ops F :=
  [ nullary main_while1b_c_21 (constantI S_ 32 16#32),
    binary main_while1b_c_21 main_v76_2 main_while1b_v167 (subi : Bc F S_ .i32 → Bc F S_ .i32 → Bc F S_ .i32),
    nullary main_while1b_c_22 (constantI S_ 32 1#32),
    binary main_while1b_v167 main_while1b_c_22 main_while1b_v168 (subi : Bc F S_ .i32 → Bc F S_ .i32 → Bc F S_ .i32) ]
abbrev b1_0_W : List (Ref sig .tc) := [main_while1b_c_21, main_while1b_v167, main_while1b_c_22, main_while1b_v168]
theorem b1_0_ok : Ok (F := F) b1_0 b1_0_W := ⟨by simp, forall_fresh_of_map rfl, forall_writes_sub_of_map rfl⟩
abbrev b1_1 : Ops F :=
  [ TRef.nullary (.of main_while1b_call3_c : TRef sig ⟨S_, .i32⟩) (constantI S_ 32 0#32),
    TRef.nullary (.of main_while1b_call3_c_0 : TRef sig ⟨S_, .i32⟩) (constantI S_ 32 0#32),
    TRef.nullary (.of main_while1b_call3_c_1 : TRef sig ⟨S_, .i32⟩) (constantI S_ 32 0#32),
    TRef.nullary (.of main_while1b_call3_c_2 : TRef sig ⟨S_, .i32⟩) (constantI S_ 32 0#32),
    TRef.unaryIndexed (.of main_v76_0 : T S16x1x4x256x512) ![(.of main_while1b_v168 : TRef sig ⟨S_, .i32⟩), (.of main_while1b_call3_c : TRef sig ⟨S_, .i32⟩), (.of main_while1b_call3_c_0 : TRef sig ⟨S_, .i32⟩), (.of main_while1b_call3_c_1 : TRef sig ⟨S_, .i32⟩), (.of main_while1b_call3_c_2 : TRef sig ⟨S_, .i32⟩)] (.of main_while1b_call3_v0 : T S1x1x4x256x512) (fun x i => Host.dynamicSlice S1x1x4x256x512 x (fun k => (i k (Shape.Idx.first h_S_)).toInt) sliceFits_S16x1x4x256x512_S1x1x4x256x512),
    TRef.reshape (.of main_while1b_call3_v0 : T S1x1x4x256x512) (.of main_while1b_v169 : T S1x4x256x512) rfl shapeCasts_S1x1x4x256x512_S1x4x256x512 ]
abbrev b1_1_W : List (Ref sig .tc) := [main_while1b_call3_c, main_while1b_call3_c_0, main_while1b_call3_c_1, main_while1b_call3_c_2, main_while1b_call3_v0, main_while1b_v169]
theorem b1_1_ok : Ok (F := F) b1_1 b1_1_W := ⟨by simp, forall_fresh_of_map rfl, forall_writes_sub_of_map rfl⟩
abbrev b1_2 : Ops F :=
  [ unary main_v76_1 main_while1b_v170 (broadcastInDim S1x4x256x512 ![0, 1, 2, 3] bcast_S1x4x1x1_S1x4x256x512_0_1_2_3 : Un F S1x4x1x1 S1x4x256x512),
    binary main_while1b_v170 main_v76_3 main_while1b_v171 (mulf : Bi F S1x4x256x512 S1x4x256x512 S1x4x256x512),
    binary main_while1b_v171 main_while1b_v169 main_while1b_v172 (addf : Bi F S1x4x256x512 S1x4x256x512 S1x4x256x512) ]
abbrev b1_2_W : List (Ref sig .tc) := [main_while1b_v170, main_while1b_v171, main_while1b_v172]
theorem b1_2_ok : Ok (F := F) b1_2 b1_2_W := ⟨by simp, forall_fresh_of_map rfl, forall_writes_sub_of_map rfl⟩
abbrev b1_3 : Ops F :=
  [ TRef.unary (.of main_v76_3 : T S1x4x256x512) (.of main_while1b_call4_v0 : T S1x1x4x256x512) (broadcastInDim S1x1x4x256x512 ![1, 2, 3, 4] bcast_S1x4x256x512_S1x1x4x256x512_1_2_3_4),
    TRef.nullary (.of main_while1b_call4_c : TRef sig ⟨S_, .i32⟩) (constantI S_ 32 0#32),
    TRef.nullary (.of main_while1b_call4_c_0 : TRef sig ⟨S_, .i32⟩) (constantI S_ 32 0#32),
    TRef.nullary (.of main_while1b_call4_c_1 : TRef sig ⟨S_, .i32⟩) (constantI S_ 32 0#32),
    TRef.nullary (.of main_while1b_call4_c_2 : TRef sig ⟨S_, .i32⟩) (constantI S_ 32 0#32),
    TRef.binaryIndexed (.of main_v76_4 : T S16x1x4x256x512) (.of main_while1b_call4_v0 : T S1x1x4x256x512) ![(.of main_while1b_v168 : TRef sig ⟨S_, .i32⟩), (.of main_while1b_call4_c : TRef sig ⟨S_, .i32⟩), (.of main_while1b_call4_c_0 : TRef sig ⟨S_, .i32⟩), (.of main_while1b_call4_c_1 : TRef sig ⟨S_, .i32⟩), (.of main_while1b_call4_c_2 : TRef sig ⟨S_, .i32⟩)] (.of main_while1b_v173 : T S16x1x4x256x512) (fun x u i => Host.dynamicUpdateSlice x u (fun k => (i k (Shape.Idx.first h_S_)).toInt) updateFits_S16x1x4x256x512_S1x1x4x256x512) ]
abbrev b1_3_W : List (Ref sig .tc) := [main_while1b_call4_v0, main_while1b_call4_c, main_while1b_call4_c_0, main_while1b_call4_c_1, main_while1b_call4_c_2, main_while1b_v173]
theorem b1_3_ok : Ok (F := F) b1_3 b1_3_W := ⟨by simp, forall_fresh_of_map rfl, forall_writes_sub_of_map rfl⟩
abbrev b1_4 : Ops F :=
  [ nullary main_while1b_c_23 (constantI S_ 32 1#32),
    binary main_v76_2 main_while1b_c_23 main_while1b_v174 (addi : Bc F S_ .i32 → Bc F S_ .i32 → Bc F S_ .i32),
    unary main_while1b_v174 main_v76_2 id,
    unary main_while1b_v172 main_v76_3 id,
    unary main_while1b_v173 main_v76_4 id ]
abbrev b1_4_W : List (Ref sig .tc) := [main_while1b_c_23, main_while1b_v174, main_v76_2, main_v76_3, main_v76_4]
theorem b1_4_ok : Ok (F := F) b1_4 b1_4_W := ⟨by simp, forall_fresh_of_map rfl, forall_writes_sub_of_map rfl⟩
abbrev c1 : Ops F :=
  [ nullary main_while1c_c_21 (constantI S_ 32 16#32),
    binary main_v76_2 main_while1c_c_21 main_while1c_v167 (cmpi .slt : Bc F S_ .i32 → Bc F S_ .i32 → Bc F S_ .i1) ]
abbrev c1_W : List (Ref sig .tc) := [main_while1c_c_21, main_while1c_v167]
theorem c1_ok : Ok (F := F) c1 c1_W := ⟨by simp, forall_fresh_of_map rfl, forall_writes_sub_of_map rfl⟩
/-- The stretches of the body of loop 1. -/
abbrev bd1 : List (List (HloOp τ sig (Elt F))) := [b1_0, b1_1, b1_2, b1_3, b1_4]
theorem bd1_plain : Plain (bd1 (F := F)) := b1_0_ok.cons <| b1_1_ok.cons <| b1_2_ok.cons <| b1_3_ok.cons <| b1_4_ok.cons <| .nil
theorem body1_chain : main_while1_body (F := F) = (Pipeline.chain (bd1.map fun ops => seq ops) : HP F) := by
  show _ = (Pipeline.chain [seq b1_0, seq b1_1, seq b1_2, seq b1_3, seq b1_4] : HP F)
  rewrite [chain_seq_cons, Pipeline.chain_cons, chain_seq_cons, Pipeline.chain_cons, chain_seq_cons]
  chain_rfl

abbrev b2_0 : Ops F :=
  [ TRef.nullary (.of main_while2b_call5_c : TRef sig ⟨S_, .i32⟩) (constantI S_ 32 0#32),
    TRef.nullary (.of main_while2b_call5_c_0 : TRef sig ⟨S_, .i32⟩) (constantI S_ 32 0#32),
    TRef.nullary (.of main_while2b_call5_c_1 : TRef sig ⟨S_, .i32⟩) (constantI S_ 32 0#32),
    TRef.nullary (.of main_while2b_call5_c_2 : TRef sig ⟨S_, .i32⟩) (constantI S_ 32 0#32),
    TRef.unaryIndexed (.of main_v130_0 : T S16x1x4x256x512) ![(.of main_v130_2 : TRef sig ⟨S_, .i32⟩), (.of main_while2b_call5_c : TRef sig ⟨S_, .i32⟩), (.of main_while2b_call5_c_0 : TRef sig ⟨S_, .i32⟩), (.of main_while2b_call5_c_1 : TRef sig ⟨S_, .i32⟩), (.of main_while2b_call5_c_2 : TRef sig ⟨S_, .i32⟩)] (.of main_while2b_call5_v0 : T S1x1x4x256x512) (fun x i => Host.dynamicSlice S1x1x4x256x512 x (fun k => (i k (Shape.Idx.first h_S_)).toInt) sliceFits_S16x1x4x256x512_S1x1x4x256x512),
    TRef.reshape (.of main_while2b_call5_v0 : T S1x1x4x256x512) (.of main_while2b_v167 : T S1x4x256x512) rfl shapeCasts_S1x1x4x256x512_S1x4x256x512 ]
abbrev b2_0_W : List (Ref sig .tc) := [main_while2b_call5_c, main_while2b_call5_c_0, main_while2b_call5_c_1, main_while2b_call5_c_2, main_while2b_call5_v0, main_while2b_v167]
theorem b2_0_ok : Ok (F := F) b2_0 b2_0_W := ⟨by simp, forall_fresh_of_map rfl, forall_writes_sub_of_map rfl⟩
abbrev b2_1 : Ops F :=
  [ unary main_v130_1 main_while2b_v168 (broadcastInDim S1x4x256x512 ![0, 1, 2, 3] bcast_S1x4x1x1_S1x4x256x512_0_1_2_3 : Un F S1x4x1x1 S1x4x256x512),
    binary main_while2b_v168 main_v130_3 main_while2b_v169 (mulf : Bi F S1x4x256x512 S1x4x256x512 S1x4x256x512),
    binary main_while2b_v167 main_while2b_v169 main_while2b_v170 (addf : Bi F S1x4x256x512 S1x4x256x512 S1x4x256x512) ]
abbrev b2_1_W : List (Ref sig .tc) := [main_while2b_v168, main_while2b_v169, main_while2b_v170]
theorem b2_1_ok : Ok (F := F) b2_1 b2_1_W := ⟨by simp, forall_fresh_of_map rfl, forall_writes_sub_of_map rfl⟩
abbrev b2_2 : Ops F :=
  [ TRef.unary (.of main_v130_3 : T S1x4x256x512) (.of main_while2b_call6_v0 : T S1x1x4x256x512) (broadcastInDim S1x1x4x256x512 ![1, 2, 3, 4] bcast_S1x4x256x512_S1x1x4x256x512_1_2_3_4),
    TRef.nullary (.of main_while2b_call6_c : TRef sig ⟨S_, .i32⟩) (constantI S_ 32 0#32),
    TRef.nullary (.of main_while2b_call6_c_0 : TRef sig ⟨S_, .i32⟩) (constantI S_ 32 0#32),
    TRef.nullary (.of main_while2b_call6_c_1 : TRef sig ⟨S_, .i32⟩) (constantI S_ 32 0#32),
    TRef.nullary (.of main_while2b_call6_c_2 : TRef sig ⟨S_, .i32⟩) (constantI S_ 32 0#32),
    TRef.binaryIndexed (.of main_v130_4 : T S16x1x4x256x512) (.of main_while2b_call6_v0 : T S1x1x4x256x512) ![(.of main_v130_2 : TRef sig ⟨S_, .i32⟩), (.of main_while2b_call6_c : TRef sig ⟨S_, .i32⟩), (.of main_while2b_call6_c_0 : TRef sig ⟨S_, .i32⟩), (.of main_while2b_call6_c_1 : TRef sig ⟨S_, .i32⟩), (.of main_while2b_call6_c_2 : TRef sig ⟨S_, .i32⟩)] (.of main_while2b_v171 : T S16x1x4x256x512) (fun x u i => Host.dynamicUpdateSlice x u (fun k => (i k (Shape.Idx.first h_S_)).toInt) updateFits_S16x1x4x256x512_S1x1x4x256x512) ]
abbrev b2_2_W : List (Ref sig .tc) := [main_while2b_call6_v0, main_while2b_call6_c, main_while2b_call6_c_0, main_while2b_call6_c_1, main_while2b_call6_c_2, main_while2b_v171]
theorem b2_2_ok : Ok (F := F) b2_2 b2_2_W := ⟨by simp, forall_fresh_of_map rfl, forall_writes_sub_of_map rfl⟩
abbrev b2_3 : Ops F :=
  [ nullary main_while2b_c_21 (constantI S_ 32 1#32),
    binary main_v130_2 main_while2b_c_21 main_while2b_v172 (addi : Bc F S_ .i32 → Bc F S_ .i32 → Bc F S_ .i32),
    unary main_while2b_v172 main_v130_2 id,
    unary main_while2b_v170 main_v130_3 id,
    unary main_while2b_v171 main_v130_4 id ]
abbrev b2_3_W : List (Ref sig .tc) := [main_while2b_c_21, main_while2b_v172, main_v130_2, main_v130_3, main_v130_4]
theorem b2_3_ok : Ok (F := F) b2_3 b2_3_W := ⟨by simp, forall_fresh_of_map rfl, forall_writes_sub_of_map rfl⟩
abbrev c2 : Ops F :=
  [ nullary main_while2c_c_21 (constantI S_ 32 16#32),
    binary main_v130_2 main_while2c_c_21 main_while2c_v167 (cmpi .slt : Bc F S_ .i32 → Bc F S_ .i32 → Bc F S_ .i1) ]
abbrev c2_W : List (Ref sig .tc) := [main_while2c_c_21, main_while2c_v167]
theorem c2_ok : Ok (F := F) c2 c2_W := ⟨by simp, forall_fresh_of_map rfl, forall_writes_sub_of_map rfl⟩
/-- The stretches of the body of loop 2. -/
abbrev bd2 : List (List (HloOp τ sig (Elt F))) := [b2_0, b2_1, b2_2, b2_3]
theorem bd2_plain : Plain (bd2 (F := F)) := b2_0_ok.cons <| b2_1_ok.cons <| b2_2_ok.cons <| b2_3_ok.cons <| .nil
theorem body2_chain : main_while2_body (F := F) = (Pipeline.chain (bd2.map fun ops => seq ops) : HP F) := by
  show _ = (Pipeline.chain [seq b2_0, seq b2_1, seq b2_2, seq b2_3] : HP F)
  rewrite [Pipeline.chain_cons, chain_seq_cons, Pipeline.chain_cons, chain_seq_cons]
  chain_rfl

abbrev b3_0 : Ops F :=
  [ nullary main_while3b_c_21 (constantI S_ 32 16#32),
    binary main_while3b_c_21 main_v133_2 main_while3b_v167 (subi : Bc F S_ .i32 → Bc F S_ .i32 → Bc F S_ .i32),
    nullary main_while3b_c_22 (constantI S_ 32 1#32),
    binary main_while3b_v167 main_while3b_c_22 main_while3b_v168 (subi : Bc F S_ .i32 → Bc F S_ .i32 → Bc F S_ .i32) ]
abbrev b3_0_W : List (Ref sig .tc) := [main_while3b_c_21, main_while3b_v167, main_while3b_c_22, main_while3b_v168]
theorem b3_0_ok : Ok (F := F) b3_0 b3_0_W := ⟨by simp, forall_fresh_of_map rfl, forall_writes_sub_of_map rfl⟩
abbrev b3_1 : Ops F :=
  [ TRef.nullary (.of main_while3b_call7_c : TRef sig ⟨S_, .i32⟩) (constantI S_ 32 0#32),
    TRef.nullary (.of main_while3b_call7_c_0 : TRef sig ⟨S_, .i32⟩) (constantI S_ 32 0#32),
    TRef.nullary (.of main_while3b_call7_c_1 : TRef sig ⟨S_, .i32⟩) (constantI S_ 32 0#32),
    TRef.nullary (.of main_while3b_call7_c_2 : TRef sig ⟨S_, .i32⟩) (constantI S_ 32 0#32),
    TRef.unaryIndexed (.of main_v133_0 : T S16x1x4x256x512) ![(.of main_while3b_v168 : TRef sig ⟨S_, .i32⟩), (.of main_while3b_call7_c : TRef sig ⟨S_, .i32⟩), (.of main_while3b_call7_c_0 : TRef sig ⟨S_, .i32⟩), (.of main_while3b_call7_c_1 : TRef sig ⟨S_, .i32⟩), (.of main_while3b_call7_c_2 : TRef sig ⟨S_, .i32⟩)] (.of main_while3b_call7_v0 : T S1x1x4x256x512) (fun x i => Host.dynamicSlice S1x1x4x256x512 x (fun k => (i k (Shape.Idx.first h_S_)).toInt) sliceFits_S16x1x4x256x512_S1x1x4x256x512),
    TRef.reshape (.of main_while3b_call7_v0 : T S1x1x4x256x512) (.of main_while3b_v169 : T S1x4x256x512) rfl shapeCasts_S1x1x4x256x512_S1x4x256x512 ]
abbrev b3_1_W : List (Ref sig .tc) := [main_while3b_call7_c, main_while3b_call7_c_0, main_while3b_call7_c_1, main_while3b_call7_c_2, main_while3b_call7_v0, main_while3b_v169]
theorem b3_1_ok : Ok (F := F) b3_1 b3_1_W := ⟨by simp, forall_fresh_of_map rfl, forall_writes_sub_of_map rfl⟩
abbrev b3_2 : Ops F :=
  [ unary main_v133_1 main_while3b_v170 (broadcastInDim S1x4x256x512 ![0, 1, 2, 3] bcast_S1x4x1x1_S1x4x256x512_0_1_2_3 : Un F S1x4x1x1 S1x4x256x512),
    binary main_while3b_v170 main_v133_3 main_while3b_v171 (mulf : Bi F S1x4x256x512 S1x4x256x512 S1x4x256x512),
    binary main_while3b_v169 main_while3b_v171 main_while3b_v172 (addf : Bi F S1x4x256x512 S1x4x256x512 S1x4x256x512) ]
abbrev b3_2_W : List (Ref sig .tc) := [main_while3b_v170, main_while3b_v171, main_while3b_v172]
theorem b3_2_ok : Ok (F := F) b3_2 b3_2_W := ⟨by simp, forall_fresh_of_map rfl, forall_writes_sub_of_map rfl⟩
abbrev b3_3 : Ops F :=
  [ TRef.unary (.of main_v133_3 : T S1x4x256x512) (.of main_while3b_call8_v0 : T S1x1x4x256x512) (broadcastInDim S1x1x4x256x512 ![1, 2, 3, 4] bcast_S1x4x256x512_S1x1x4x256x512_1_2_3_4),
    TRef.nullary (.of main_while3b_call8_c : TRef sig ⟨S_, .i32⟩) (constantI S_ 32 0#32),
    TRef.nullary (.of main_while3b_call8_c_0 : TRef sig ⟨S_, .i32⟩) (constantI S_ 32 0#32),
    TRef.nullary (.of main_while3b_call8_c_1 : TRef sig ⟨S_, .i32⟩) (constantI S_ 32 0#32),
    TRef.nullary (.of main_while3b_call8_c_2 : TRef sig ⟨S_, .i32⟩) (constantI S_ 32 0#32),
    TRef.binaryIndexed (.of main_v133_4 : T S16x1x4x256x512) (.of main_while3b_call8_v0 : T S1x1x4x256x512) ![(.of main_while3b_v168 : TRef sig ⟨S_, .i32⟩), (.of main_while3b_call8_c : TRef sig ⟨S_, .i32⟩), (.of main_while3b_call8_c_0 : TRef sig ⟨S_, .i32⟩), (.of main_while3b_call8_c_1 : TRef sig ⟨S_, .i32⟩), (.of main_while3b_call8_c_2 : TRef sig ⟨S_, .i32⟩)] (.of main_while3b_v173 : T S16x1x4x256x512) (fun x u i => Host.dynamicUpdateSlice x u (fun k => (i k (Shape.Idx.first h_S_)).toInt) updateFits_S16x1x4x256x512_S1x1x4x256x512) ]
abbrev b3_3_W : List (Ref sig .tc) := [main_while3b_call8_v0, main_while3b_call8_c, main_while3b_call8_c_0, main_while3b_call8_c_1, main_while3b_call8_c_2, main_while3b_v173]
theorem b3_3_ok : Ok (F := F) b3_3 b3_3_W := ⟨by simp, forall_fresh_of_map rfl, forall_writes_sub_of_map rfl⟩
abbrev b3_4 : Ops F :=
  [ nullary main_while3b_c_23 (constantI S_ 32 1#32),
    binary main_v133_2 main_while3b_c_23 main_while3b_v174 (addi : Bc F S_ .i32 → Bc F S_ .i32 → Bc F S_ .i32),
    unary main_while3b_v174 main_v133_2 id,
    unary main_while3b_v172 main_v133_3 id,
    unary main_while3b_v173 main_v133_4 id ]
abbrev b3_4_W : List (Ref sig .tc) := [main_while3b_c_23, main_while3b_v174, main_v133_2, main_v133_3, main_v133_4]
theorem b3_4_ok : Ok (F := F) b3_4 b3_4_W := ⟨by simp, forall_fresh_of_map rfl, forall_writes_sub_of_map rfl⟩
abbrev c3 : Ops F :=
  [ nullary main_while3c_c_21 (constantI S_ 32 16#32),
    binary main_v133_2 main_while3c_c_21 main_while3c_v167 (cmpi .slt : Bc F S_ .i32 → Bc F S_ .i32 → Bc F S_ .i1) ]
abbrev c3_W : List (Ref sig .tc) := [main_while3c_c_21, main_while3c_v167]
theorem c3_ok : Ok (F := F) c3 c3_W := ⟨by simp, forall_fresh_of_map rfl, forall_writes_sub_of_map rfl⟩
/-- The stretches of the body of loop 3. -/
abbrev bd3 : List (List (HloOp τ sig (Elt F))) := [b3_0, b3_1, b3_2, b3_3, b3_4]
theorem bd3_plain : Plain (bd3 (F := F)) := b3_0_ok.cons <| b3_1_ok.cons <| b3_2_ok.cons <| b3_3_ok.cons <| b3_4_ok.cons <| .nil
theorem body3_chain : main_while3_body (F := F) = (Pipeline.chain (bd3.map fun ops => seq ops) : HP F) := by
  show _ = (Pipeline.chain [seq b3_0, seq b3_1, seq b3_2, seq b3_3, seq b3_4] : HP F)
  rewrite [chain_seq_cons, Pipeline.chain_cons, chain_seq_cons, Pipeline.chain_cons, chain_seq_cons]
  chain_rfl

theorem part0_chain (c : Dev nD) : main_part0 (F := F) c = (Pipeline.chainK
  [ seq g0, seq g1, seq g2, seq g3, seq g4, seq g5, seq g6, seq g7, seq g8, seq g9, seq g10, seq g11 ]
  (seq g12) : HP F) := by
  rewrite [chainK_seq_cons, chainK_seq_cons, chainK_seq_cons, chainK_seq_cons, chainK_seq_cons, chainK_seq_cons, Pipeline.chainK_cons, chainK_seq_cons, chainK_seq_cons, chainK_seq_cons, chainK_seq_cons, chainK_seq_cons]
  chain_rfl

theorem part1_chain (c : Dev nD) : main_part1 (F := F) c = (Pipeline.chainK
  [ seq g13, seq g14, seq g15, seq g16, seq g17, seq g18,
    HostLoop.enter 0, seq g19,
    HostLoop.enter 1, seq g20, seq g21 ]
  (seq g22) : HP F) := by
  rewrite [chainK_seq_cons, chainK_seq_cons, chainK_seq_cons, chainK_seq_cons, chainK_seq_cons, chainK_seq_cons, Pipeline.chainK_cons, chainK_seq_cons, Pipeline.chainK_cons, chainK_seq_cons, chainK_seq_cons]
  chain_rfl

theorem part2_chain (c : Dev nD) : main_part2 (F := F) c = (Pipeline.chainK
  [ seq g23, seq g24, seq g25, seq g26, seq g27, seq g28, seq g29, seq g30, seq g31,
    HostLoop.enter 2, seq g32,
    HostLoop.enter 3 ]
  (seq g33) : HP F) := by
  rewrite [chainK_seq_cons, chainK_seq_cons, chainK_seq_cons, chainK_seq_cons, chainK_seq_cons, chainK_seq_cons, chainK_seq_cons, chainK_seq_cons, chainK_seq_cons, Pipeline.chainK_cons, chainK_seq_cons, Pipeline.chainK_cons]
  chain_rfl

theorem part3_chain (c : Dev nD) : main_part3 (F := F) c = (Pipeline.chain
  [ seq g34, seq g35, seq g36, seq g37, seq g38, seq g39, seq g40, seq g41 ] : HP F) := by
  rewrite [chain_seq_cons, chain_seq_cons, chain_seq_cons, chain_seq_cons, chain_seq_cons, chain_seq_cons, chain_seq_cons, chain_seq_cons]
  chain_rfl

/-- The stretches of segment 0. -/
abbrev sg0 : List (List (HloOp τ sig (Elt F))) := [g0, g1, g2, g3, g4, g5, g6, g7, g8, g9, g10, g11, g12, g13, g14, g15, g16, g17, g18]
theorem sg0_plain : Plain (sg0 (F := F)) := g0_ok.cons <| g1_ok.cons <| g2_ok.cons <| g3_ok.cons <| g4_ok.cons <| g5_ok.cons <| g6_ok.cons <| g7_ok.cons <| g8_ok.cons <| g9_ok.cons <| g10_ok.cons <| g11_ok.cons <| g12_ok.cons <| g13_ok.cons <| g14_ok.cons <| g15_ok.cons <| g16_ok.cons <| g17_ok.cons <| g18_ok.cons <| .nil
/-- The stretches of segment 1. -/
abbrev sg1 : List (List (HloOp τ sig (Elt F))) := [g19]
theorem sg1_plain : Plain (sg1 (F := F)) := g19_ok.cons <| .nil
/-- The stretches of segment 2. -/
abbrev sg2 : List (List (HloOp τ sig (Elt F))) := [g20, g21, g22, g23, g24, g25, g26, g27, g28, g29, g30, g31]
theorem sg2_plain : Plain (sg2 (F := F)) := g20_ok.cons <| g21_ok.cons <| g22_ok.cons <| g23_ok.cons <| g24_ok.cons <| g25_ok.cons <| g26_ok.cons <| g27_ok.cons <| g28_ok.cons <| g29_ok.cons <| g30_ok.cons <| g31_ok.cons <| .nil
/-- The stretches of segment 3. -/
abbrev sg3 : List (List (HloOp τ sig (Elt F))) := [g32]
theorem sg3_plain : Plain (sg3 (F := F)) := g32_ok.cons <| .nil
/-- The stretches of segment 4. -/
abbrev sg4 : List (List (HloOp τ sig (Elt F))) := [g33, g34, g35, g36, g37, g38, g39, g40, g41]
theorem sg4_plain : Plain (sg4 (F := F)) := g33_ok.cons <| g34_ok.cons <| g35_ok.cons <| g36_ok.cons <| g37_ok.cons <| g38_ok.cons <| g39_ok.cons <| g40_ok.cons <| g41_ok.cons <| .nil
theorem main_chain (c : Dev nD) : main (F := F) c = (Pipeline.chain ((sg0.map fun ops => (seq ops : HP F)) ++ (HostLoop.enter 0 :: ((sg1.map fun ops => (seq ops : HP F)) ++ (HostLoop.enter 1 :: ((sg2.map fun ops => (seq ops : HP F)) ++ (HostLoop.enter 2 :: ((sg3.map fun ops => (seq ops : HP F)) ++ (HostLoop.enter 3 :: (sg4.map fun ops => (seq ops : HP F)))))))))) : HP F) := by
  show (main_part0 (F := F) c >>= fun _ => main_part1 (F := F) c >>= fun _ => main_part2 (F := F) c >>= fun _ => main_part3 (F := F) c) = _
  rewrite [part3_chain, part2_chain, Pipeline.chainK_bind_chain, part1_chain, Pipeline.chainK_bind_chain, part0_chain, Pipeline.chainK_bind_chain]
  show _ = (Pipeline.chain [seq g0, seq g1, seq g2, seq g3, seq g4, seq g5, seq g6, seq g7, seq g8, seq g9, seq g10, seq g11, seq g12, seq g13, seq g14, seq g15, seq g16, seq g17, seq g18,
    HostLoop.enter 0, seq g19,
    HostLoop.enter 1, seq g20, seq g21, seq g22, seq g23, seq g24, seq g25, seq g26, seq g27, seq g28, seq g29, seq g30, seq g31,
    HostLoop.enter 2, seq g32,
    HostLoop.enter 3, seq g33, seq g34, seq g35, seq g36, seq g37, seq g38, seq g39, seq g40, seq g41] : HP F)
  chain_rfl

end Cert.ReferenceIdeal.Ret
end
-- ==== Proof.Ret.RefRun.lean ====
module

public import proofs.«01_k».proof.Proof.Ret.RefOps
public import Idealize.ShloMosaic.Lib.Pipeline.RegionsLoop
public import Idealize.ShloMosaic.Lib.Quiescent
public import Idealize.ShloMosaic.Lib.Claim
@[expose] public section
set_option maxRecDepth 16384
noncomputable section
namespace Cert.ReferenceIdeal.Ret
open Cert.ReferenceIdeal Cert.ReferenceIdeal.Gen
open Idealize.ShloMosaic.Proc (devRef)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
variable {F : FTy → Type} [FloatOps F]
open Idealize.ShloMosaic.Pipeline (CSeg Ticket PCfg unscopedBufs_held)
open Idealize.ShloMosaic.Rounds

variable (m : (ℓ : Loc nD τ sig) → Buf (Elt F) ℓ) (ρ : Dev nD → PrngReg)

/-- The buffers at the entry of the first loop. -/
def E0 (c : Dev nD) : Valuation τ sig (Elt F) := afterL sg0 (launchContents m c)
/-- The buffers before trip `k` of loop 0. -/
def K0 (k : ℕ) (c : Dev nD) : Valuation τ sig (Elt F) := atTrip c0 bd0 (E0 m) k c
/-- The buffers when loop 0 is left. -/
def X0 (c : Dev nD) : Valuation τ sig (Elt F) := after c0 (K0 m 16 c)
/-- The buffers after the operations that follow loop 0. -/
def E1 (c : Dev nD) : Valuation τ sig (Elt F) := afterL sg1 (X0 m c)
/-- The buffers before trip `k` of loop 1. -/
def K1 (k : ℕ) (c : Dev nD) : Valuation τ sig (Elt F) := atTrip c1 bd1 (E1 m) k c
/-- The buffers when loop 1 is left. -/
def X1 (c : Dev nD) : Valuation τ sig (Elt F) := after c1 (K1 m 16 c)
/-- The buffers after the operations that follow loop 1. -/
def E2 (c : Dev nD) : Valuation τ sig (Elt F) := afterL sg2 (X1 m c)
/-- The buffers before trip `k` of loop 2. -/
def K2 (k : ℕ) (c : Dev nD) : Valuation τ sig (Elt F) := atTrip c2 bd2 (E2 m) k c
/-- The buffers when loop 2 is left. -/
def X2 (c : Dev nD) : Valuation τ sig (Elt F) := after c2 (K2 m 16 c)
/-- The buffers after the operations that follow loop 2. -/
def E3 (c : Dev nD) : Valuation τ sig (Elt F) := afterL sg3 (X2 m c)
/-- The buffers before trip `k` of loop 3. -/
def K3 (k : ℕ) (c : Dev nD) : Valuation τ sig (Elt F) := atTrip c3 bd3 (E3 m) k c
/-- The buffers when loop 3 is left. -/
def X3 (c : Dev nD) : Valuation τ sig (Elt F) := after c3 (K3 m 16 c)
/-- The buffers after the operations that follow loop 3. -/
def E4 (c : Dev nD) : Valuation τ sig (Elt F) := afterL sg4 (X3 m c)

/-- The counter of loop 0 starts at nought. -/
theorem ctr0_set (V : Valuation τ sig (Elt F)) : after g18 V (devRef .tc main_v74_2) = fun _ => (0#32 : BitVec 32) := by
  after_results
  rfl
theorem ctr0_entry (c : Dev nD) : E0 m c (devRef .tc main_v74_2) = fun _ => (0#32 : BitVec 32) := by
  unfold E0
  simp only [afterL_cons, afterL_nil]
  exact ctr0_set _
theorem ctr0_cond (V : Valuation τ sig (Elt F)) : after c0 V (devRef .tc main_v74_2) = V (devRef .tc main_v74_2) :=
  after_of_writes_sub c0 V c0_ok.w (by decide +kernel)
theorem ctr0_b0 (V : Valuation τ sig (Elt F)) : after b0_0 V (devRef .tc main_v74_2) = V (devRef .tc main_v74_2) :=
  after_of_writes_sub b0_0 V b0_0_ok.w (by decide +kernel)
theorem ctr0_b1 (V : Valuation τ sig (Elt F)) : after b0_1 V (devRef .tc main_v74_2) = V (devRef .tc main_v74_2) :=
  after_of_writes_sub b0_1 V b0_1_ok.w (by decide +kernel)
theorem ctr0_b2 (V : Valuation τ sig (Elt F)) : after b0_2 V (devRef .tc main_v74_2) = V (devRef .tc main_v74_2) :=
  after_of_writes_sub b0_2 V b0_2_ok.w (by decide +kernel)
theorem ctr0_step (V : Valuation τ sig (Elt F)) : after b0_3 V (devRef .tc main_v74_2) = addi (V (devRef .tc main_v74_2)) (constantI S_ 32 1#32) := by
  after_results
  rfl
/-- Before trip `k` the counter of loop 0 stands at `k`. -/
theorem ctr0_at (c : Dev nD) : ∀ k, K0 m k c (devRef .tc main_v74_2) = fun _ => Scf.iv 0#32 1#32 k
  | 0 => by rw [show K0 m 0 c = E0 m c from rfl, ctr0_entry, Scf.iv_zero]
  | k + 1 => by
    rw [show K0 m (k + 1) c = afterL bd0 (after c0 (K0 m k c)) from rfl]
    simp only [afterL_cons, afterL_nil]
    rw [ctr0_step, ctr0_b2, ctr0_b1, ctr0_b0, ctr0_cond, ctr0_at c k, Scf.iv_succ]
    rfl

/-- The counter of loop 1 starts at nought. -/
theorem ctr1_set (V : Valuation τ sig (Elt F)) : after g19 V (devRef .tc main_v76_2) = fun _ => (0#32 : BitVec 32) := by
  after_results
  rfl
theorem ctr1_entry (c : Dev nD) : E1 m c (devRef .tc main_v76_2) = fun _ => (0#32 : BitVec 32) := by
  unfold E1
  simp only [afterL_cons, afterL_nil]
  exact ctr1_set _
theorem ctr1_cond (V : Valuation τ sig (Elt F)) : after c1 V (devRef .tc main_v76_2) = V (devRef .tc main_v76_2) :=
  after_of_writes_sub c1 V c1_ok.w (by decide +kernel)
theorem ctr1_b0 (V : Valuation τ sig (Elt F)) : after b1_0 V (devRef .tc main_v76_2) = V (devRef .tc main_v76_2) :=
  after_of_writes_sub b1_0 V b1_0_ok.w (by decide +kernel)
theorem ctr1_b1 (V : Valuation τ sig (Elt F)) : after b1_1 V (devRef .tc main_v76_2) = V (devRef .tc main_v76_2) :=
  after_of_writes_sub b1_1 V b1_1_ok.w (by decide +kernel)
theorem ctr1_b2 (V : Valuation τ sig (Elt F)) : after b1_2 V (devRef .tc main_v76_2) = V (devRef .tc main_v76_2) :=
  after_of_writes_sub b1_2 V b1_2_ok.w (by decide +kernel)
theorem ctr1_b3 (V : Valuation τ sig (Elt F)) : after b1_3 V (devRef .tc main_v76_2) = V (devRef .tc main_v76_2) :=
  after_of_writes_sub b1_3 V b1_3_ok.w (by decide +kernel)
theorem ctr1_step (V : Valuation τ sig (Elt F)) : after b1_4 V (devRef .tc main_v76_2) = addi (V (devRef .tc main_v76_2)) (constantI S_ 32 1#32) := by
  after_results
  rfl
/-- Before trip `k` the counter of loop 1 stands at `k`. -/
theorem ctr1_at (c : Dev nD) : ∀ k, K1 m k c (devRef .tc main_v76_2) = fun _ => Scf.iv 0#32 1#32 k
  | 0 => by rw [show K1 m 0 c = E1 m c from rfl, ctr1_entry, Scf.iv_zero]
  | k + 1 => by
    rw [show K1 m (k + 1) c = afterL bd1 (after c1 (K1 m k c)) from rfl]
    simp only [afterL_cons, afterL_nil]
    rw [ctr1_step, ctr1_b3, ctr1_b2, ctr1_b1, ctr1_b0, ctr1_cond, ctr1_at c k, Scf.iv_succ]
    rfl

/-- The counter of loop 2 starts at nought. -/
theorem ctr2_set (V : Valuation τ sig (Elt F)) : after g31 V (devRef .tc main_v130_2) = fun _ => (0#32 : BitVec 32) := by
  after_results
  rfl
theorem ctr2_entry (c : Dev nD) : E2 m c (devRef .tc main_v130_2) = fun _ => (0#32 : BitVec 32) := by
  unfold E2
  simp only [afterL_cons, afterL_nil]
  exact ctr2_set _
theorem ctr2_cond (V : Valuation τ sig (Elt F)) : after c2 V (devRef .tc main_v130_2) = V (devRef .tc main_v130_2) :=
  after_of_writes_sub c2 V c2_ok.w (by decide +kernel)
theorem ctr2_b0 (V : Valuation τ sig (Elt F)) : after b2_0 V (devRef .tc main_v130_2) = V (devRef .tc main_v130_2) :=
  after_of_writes_sub b2_0 V b2_0_ok.w (by decide +kernel)
theorem ctr2_b1 (V : Valuation τ sig (Elt F)) : after b2_1 V (devRef .tc main_v130_2) = V (devRef .tc main_v130_2) :=
  after_of_writes_sub b2_1 V b2_1_ok.w (by decide +kernel)
theorem ctr2_b2 (V : Valuation τ sig (Elt F)) : after b2_2 V (devRef .tc main_v130_2) = V (devRef .tc main_v130_2) :=
  after_of_writes_sub b2_2 V b2_2_ok.w (by decide +kernel)
theorem ctr2_step (V : Valuation τ sig (Elt F)) : after b2_3 V (devRef .tc main_v130_2) = addi (V (devRef .tc main_v130_2)) (constantI S_ 32 1#32) := by
  after_results
  rfl
/-- Before trip `k` the counter of loop 2 stands at `k`. -/
theorem ctr2_at (c : Dev nD) : ∀ k, K2 m k c (devRef .tc main_v130_2) = fun _ => Scf.iv 0#32 1#32 k
  | 0 => by rw [show K2 m 0 c = E2 m c from rfl, ctr2_entry, Scf.iv_zero]
  | k + 1 => by
    rw [show K2 m (k + 1) c = afterL bd2 (after c2 (K2 m k c)) from rfl]
    simp only [afterL_cons, afterL_nil]
    rw [ctr2_step, ctr2_b2, ctr2_b1, ctr2_b0, ctr2_cond, ctr2_at c k, Scf.iv_succ]
    rfl

/-- The counter of loop 3 starts at nought. -/
theorem ctr3_set (V : Valuation τ sig (Elt F)) : after g32 V (devRef .tc main_v133_2) = fun _ => (0#32 : BitVec 32) := by
  after_results
  rfl
theorem ctr3_entry (c : Dev nD) : E3 m c (devRef .tc main_v133_2) = fun _ => (0#32 : BitVec 32) := by
  unfold E3
  simp only [afterL_cons, afterL_nil]
  exact ctr3_set _
theorem ctr3_cond (V : Valuation τ sig (Elt F)) : after c3 V (devRef .tc main_v133_2) = V (devRef .tc main_v133_2) :=
  after_of_writes_sub c3 V c3_ok.w (by decide +kernel)
theorem ctr3_b0 (V : Valuation τ sig (Elt F)) : after b3_0 V (devRef .tc main_v133_2) = V (devRef .tc main_v133_2) :=
  after_of_writes_sub b3_0 V b3_0_ok.w (by decide +kernel)
theorem ctr3_b1 (V : Valuation τ sig (Elt F)) : after b3_1 V (devRef .tc main_v133_2) = V (devRef .tc main_v133_2) :=
  after_of_writes_sub b3_1 V b3_1_ok.w (by decide +kernel)
theorem ctr3_b2 (V : Valuation τ sig (Elt F)) : after b3_2 V (devRef .tc main_v133_2) = V (devRef .tc main_v133_2) :=
  after_of_writes_sub b3_2 V b3_2_ok.w (by decide +kernel)
theorem ctr3_b3 (V : Valuation τ sig (Elt F)) : after b3_3 V (devRef .tc main_v133_2) = V (devRef .tc main_v133_2) :=
  after_of_writes_sub b3_3 V b3_3_ok.w (by decide +kernel)
theorem ctr3_step (V : Valuation τ sig (Elt F)) : after b3_4 V (devRef .tc main_v133_2) = addi (V (devRef .tc main_v133_2)) (constantI S_ 32 1#32) := by
  after_results
  rfl
/-- Before trip `k` the counter of loop 3 stands at `k`. -/
theorem ctr3_at (c : Dev nD) : ∀ k, K3 m k c (devRef .tc main_v133_2) = fun _ => Scf.iv 0#32 1#32 k
  | 0 => by rw [show K3 m 0 c = E3 m c from rfl, ctr3_entry, Scf.iv_zero]
  | k + 1 => by
    rw [show K3 m (k + 1) c = afterL bd3 (after c3 (K3 m k c)) from rfl]
    simp only [afterL_cons, afterL_nil]
    rw [ctr3_step, ctr3_b3, ctr3_b2, ctr3_b1, ctr3_b0, ctr3_cond, ctr3_at c k, Scf.iv_succ]
    rfl

local notation "𝕄" => MT nD τ sig Unit (Elt F) ℕ (Option PUnit) ℕ

/-- Nothing is admitted: there is no region. -/
abbrev adm : (p : Fin 0) → (pcfgs (F := F) p).Adm := fun p => p.elim0
/-- No tickets. -/
abbrev tk : Fin 0 → Ticket (Ix := Unit) (Name := ℕ) (U := Option PUnit) (Lvl := ℕ) (nD := nD) (τ := τ) (pcfgs (F := F)) adm := fun j => j.elim0
/-- No indices and no levels. -/
abbrev Ls : GSem nD τ sig → Finset Unit := fun _ => ∅
abbrev lvs : GSem nD τ sig → Unit → ℕ := fun _ _ => 0
/-- What travels beside the buffers. -/
abbrev Rw (c : Dev nD) : sProp 𝕄 := iprop(∃ W, owes (c : Thread nD τ) (0 : CellTallies nD τ sig Unit) W)

set_option backward.isDefEq.respectTransparency.types false in
/-- The condition of loop 0 holds on the first sixteen runs. -/
theorem cond0 : LoopCond (pcfgs (F := F)) defs₀ Variants.none loops Rw (main_while0_cond (F := F)) c0 bd0 (E0 m) 16 := by
  intro k hk c bd
  have hctr := ctr0_at m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (K0 m k c) main_v74_2 HostLoop.idx0)
        (HloOp.result _ (K0 m k c) main_while0c_c_21 HostLoop.idx0) = 1#1) (k < 16)
    rw [nullary_result_ne _ _ _ _ (by decide), nullary_result, hctr]
    exact Scf.cmpi_slt_iv_ub_iff (lb := 0#32) (ub := 16#32) (st := 1#32) (by decide) (show k ≤ Scf.trips 0#32 16#32 1#32 from hk)
  isplitl [Hb]; · iexact Hb
  isplitl [Hh]; · rw [after_cons, after_cons, after_nil]; iexact Hh
  iexact HR

set_option backward.isDefEq.respectTransparency.types false in
/-- The condition of loop 1 holds on the first sixteen runs. -/
theorem cond1 : LoopCond (pcfgs (F := F)) defs₀ Variants.none loops Rw (main_while1_cond (F := F)) c1 bd1 (E1 m) 16 := by
  intro k hk c bd
  have hctr := ctr1_at m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (K1 m k c) main_v76_2 HostLoop.idx0)
        (HloOp.result _ (K1 m k c) main_while1c_c_21 HostLoop.idx0) = 1#1) (k < 16)
    rw [nullary_result_ne _ _ _ _ (by decide), nullary_result, hctr]
    exact Scf.cmpi_slt_iv_ub_iff (lb := 0#32) (ub := 16#32) (st := 1#32) (by decide) (show k ≤ Scf.trips 0#32 16#32 1#32 from hk)
  isplitl [Hb]; · iexact Hb
  isplitl [Hh]; · rw [after_cons, after_cons, after_nil]; iexact Hh
  iexact HR

set_option backward.isDefEq.respectTransparency.types false in
/-- The condition of loop 2 holds on the first sixteen runs. -/
theorem cond2 : LoopCond (pcfgs (F := F)) defs₀ Variants.none loops Rw (main_while2_cond (F := F)) c2 bd2 (E2 m) 16 := by
  intro k hk c bd
  have hctr := ctr2_at m c k
  unfold main_while2_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (K2 m k c) main_v130_2 HostLoop.idx0)
        (HloOp.result _ (K2 m k c) main_while2c_c_21 HostLoop.idx0) = 1#1) (k < 16)
    rw [nullary_result_ne _ _ _ _ (by decide), nullary_result, hctr]
    exact Scf.cmpi_slt_iv_ub_iff (lb := 0#32) (ub := 16#32) (st := 1#32) (by decide) (show k ≤ Scf.trips 0#32 16#32 1#32 from hk)
  isplitl [Hb]; · iexact Hb
  isplitl [Hh]; · rw [after_cons, after_cons, after_nil]; iexact Hh
  iexact HR

set_option backward.isDefEq.respectTransparency.types false in
/-- The condition of loop 3 holds on the first sixteen runs. -/
theorem cond3 : LoopCond (pcfgs (F := F)) defs₀ Variants.none loops Rw (main_while3_cond (F := F)) c3 bd3 (E3 m) 16 := by
  intro k hk c bd
  have hctr := ctr3_at m c k
  unfold main_while3_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (K3 m k c) main_v133_2 HostLoop.idx0)
        (HloOp.result _ (K3 m k c) main_while3c_c_21 HostLoop.idx0) = 1#1) (k < 16)
    rw [nullary_result_ne _ _ _ _ (by decide), nullary_result, hctr]
    exact Scf.cmpi_slt_iv_ub_iff (lb := 0#32) (ub := 16#32) (st := 1#32) (by decide) (show k ≤ Scf.trips 0#32 16#32 1#32 from hk)
  isplitl [Hb]; · iexact Hb
  isplitl [Hh]; · rw [after_cons, after_cons, after_nil]; iexact Hh
  iexact HR

/-- The segments of the program. -/
def rsegs : List (CSeg (pcfgs (F := F)) adm defs₀ Variants.none Ls lvs loops tk) :=
  segsOf (pcfgs (F := F)) adm defs₀ Variants.none Ls lvs loops tk Rw sg0 sg0_plain (launchContents m)
    ++ loopSeg (pcfgs (F := F)) adm defs₀ Variants.none Ls lvs loops tk 0 main_while0_cond main_while0_body rfl c0 bd0 bd0_plain (by rw [body0_chain]) 16 (E0 m) Rw (cond0 m) ::
    (segsOf (pcfgs (F := F)) adm defs₀ Variants.none Ls lvs loops tk Rw sg1 sg1_plain (X0 m)
    ++ loopSeg (pcfgs (F := F)) adm defs₀ Variants.none Ls lvs loops tk 1 main_while1_cond main_while1_body rfl c1 bd1 bd1_plain (by rw [body1_chain]) 16 (E1 m) Rw (cond1 m) ::
    (segsOf (pcfgs (F := F)) adm defs₀ Variants.none Ls lvs loops tk Rw sg2 sg2_plain (X1 m)
    ++ loopSeg (pcfgs (F := F)) adm defs₀ Variants.none Ls lvs loops tk 2 main_while2_cond main_while2_body rfl c2 bd2 bd2_plain (by rw [body2_chain]) 16 (E2 m) Rw (cond2 m) ::
    (segsOf (pcfgs (F := F)) adm defs₀ Variants.none Ls lvs loops tk Rw sg3 sg3_plain (X2 m)
    ++ loopSeg (pcfgs (F := F)) adm defs₀ Variants.none Ls lvs loops tk 3 main_while3_cond main_while3_body rfl c3 bd3 bd3_plain (by rw [body3_chain]) 16 (E3 m) Rw (cond3 m) ::
    (segsOf (pcfgs (F := F)) adm defs₀ Variants.none Ls lvs loops tk Rw sg4 sg4_plain (X3 m)))))

theorem rsegs_prog : (rsegs m).map CSeg.prog = (sg0.map fun ops => (StableHlo.seq ops : Prog (TpuEff nD τ sig (Elt F) (HostLoop.Sig (Pipeline.Sig Λ₀ (Fin 0) fun p => (pcfgs (F := F) p).Adm) 4) .tc) PUnit)) ++ (HostLoop.enter 0 :: ((sg1.map fun ops => (StableHlo.seq ops : Prog (TpuEff nD τ sig (Elt F) (HostLoop.Sig (Pipeline.Sig Λ₀ (Fin 0) fun p => (pcfgs (F := F) p).Adm) 4) .tc) PUnit)) ++ (HostLoop.enter 1 :: ((sg2.map fun ops => (StableHlo.seq ops : Prog (TpuEff nD τ sig (Elt F) (HostLoop.Sig (Pipeline.Sig Λ₀ (Fin 0) fun p => (pcfgs (F := F) p).Adm) 4) .tc) PUnit)) ++ (HostLoop.enter 2 :: ((sg3.map fun ops => (StableHlo.seq ops : Prog (TpuEff nD τ sig (Elt F) (HostLoop.Sig (Pipeline.Sig Λ₀ (Fin 0) fun p => (pcfgs (F := F) p).Adm) 4) .tc) PUnit)) ++ (HostLoop.enter 3 :: (sg4.map fun ops => (StableHlo.seq ops : Prog (TpuEff nD τ sig (Elt F) (HostLoop.Sig (Pipeline.Sig Λ₀ (Fin 0) fun p => (pcfgs (F := F) p).Adm) 4) .tc) PUnit))))))))) := by
  unfold rsegs
  simp only [List.map_append, List.map_cons, segsOf_prog]
  rfl

theorem rsegs_chains : CSeg.Chains (fun c => iprop(held (c : Thread nD τ) (ucRefs τ sig) (launchContents m c) ∗ Rw c)) (rsegs m)
      (fun c => iprop(iprop(held (c : Thread nD τ) (ucRefs τ sig) (E4 m c)) ∗ ∃ W, owes (c : Thread nD τ) (0 : CellTallies nD τ sig Unit) W)) := by
  unfold rsegs
  exact CSeg.Chains.append (segsOf_chains _ _ _ _ _ _ _ _ Rw sg0 sg0_plain _) ⟨fun _ => .rfl,
    CSeg.Chains.append (segsOf_chains _ _ _ _ _ _ _ _ Rw sg1 sg1_plain _) ⟨fun _ => .rfl,
    CSeg.Chains.append (segsOf_chains _ _ _ _ _ _ _ _ Rw sg2 sg2_plain _) ⟨fun _ => .rfl,
    CSeg.Chains.append (segsOf_chains _ _ _ _ _ _ _ _ Rw sg3 sg3_plain _) ⟨fun _ => .rfl,
    segsOf_chains _ _ _ _ _ _ _ _ Rw sg4 sg4_plain _⟩⟩⟩⟩

set_option maxRecDepth 100000 in
/-- Every fair execution ends with every buffer of the program as the operations and the loops leave it. -/
theorem run_all : θ_run (defs (F := F)) (onTc (τ := τ) (main (F := F))) ⟨m, fun _ => 0, ρ⟩
    (fun r => ∀ (c : Dev nD) (b : Ref sig .tc), (devRef .tc b : DevRef τ sig).isScoped = false →
      r.2.mem ((c.tc : Thread nD τ).loc b) = E4 m c (devRef .tc b)) :=
  Pipeline.θ_run_regions_loop_kit (Ix := Unit) (Name := ℕ) (U := Option PUnit) (Lvl := ℕ) (J := Fin 0) (P := Fin 0) (Val := Elt F)
    (pcfgs (F := F)) adm (fun k => k.1.elim0) defs₀ Variants.none Ls lvs loops tk m ρ main (rsegs m)
    (fun c Q => by
      rw [main_chain c]
      show wp _ _ _ (Pipeline.chain ((rsegs m).map CSeg.prog)) Q ⊢ _
      rw [rsegs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (E4 m c)))
    (hch := rsegs_chains m)
    (hinit := by
      refine Pipeline.initEach Ls lvs fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = E4 m c b)
    (hfin := fun c s' => by
      unfold held
      iintro ⟨Hh, HSI⟩
      ihave Hr := (pointsTo_read_all (ucRefs τ sig) (fun b => ((c : Dev nD), b)) (fun b => E4 m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-- The program has no semaphore, so every counter reads zero. -/
theorem run_all_sems : θ_run (defs (F := F)) (onTc (τ := τ) (main (F := F))) ⟨m, fun _ => 0, ρ⟩
    (fun r => (∀ (c : Dev nD) (b : Ref sig .tc), (devRef .tc b : DevRef τ sig).isScoped = false →
      r.2.mem ((c.tc : Thread nD τ).loc b) = E4 m c (devRef .tc b)) ∧ r.2.sem = fun _ => 0) :=
  (θ_run defs _ _).mono (fun r h => ⟨h, sem_eq_zero_of_no_sems (by decide) r.2⟩) (run_all m ρ)

end Cert.ReferenceIdeal.Ret
end
-- ==== Proof.Ret.RefRead.lean ====
module

public import proofs.«01_k».proof.Proof.Ret.RefRun
@[expose] public section
set_option maxRecDepth 16384
noncomputable section
namespace Cert.ReferenceIdeal.Ret
open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Proc (devRef)
variable {F : FTy → Type} [FloatOps F]
variable (m : (ℓ : Loc nD τ sig) → Buf (Elt F) ℓ) (c : Dev nD)

/-! `P0`, `P1`, …: the buffers before each stretch. -/

def P0 : Valuation τ sig (Elt F) := launchContents m c
def P1 : Valuation τ sig (Elt F) := after g0 (P0 m c)
def P2 : Valuation τ sig (Elt F) := after g1 (P1 m c)
def P3 : Valuation τ sig (Elt F) := after g2 (P2 m c)
def P4 : Valuation τ sig (Elt F) := after g3 (P3 m c)
def P5 : Valuation τ sig (Elt F) := after g4 (P4 m c)
def P6 : Valuation τ sig (Elt F) := after g5 (P5 m c)
def P7 : Valuation τ sig (Elt F) := after g6 (P6 m c)
def P8 : Valuation τ sig (Elt F) := after g7 (P7 m c)
def P9 : Valuation τ sig (Elt F) := after g8 (P8 m c)
def P10 : Valuation τ sig (Elt F) := after g9 (P9 m c)
def P11 : Valuation τ sig (Elt F) := after g10 (P10 m c)
def P12 : Valuation τ sig (Elt F) := after g11 (P11 m c)
def P13 : Valuation τ sig (Elt F) := after g12 (P12 m c)
def P14 : Valuation τ sig (Elt F) := after g13 (P13 m c)
def P15 : Valuation τ sig (Elt F) := after g14 (P14 m c)
def P16 : Valuation τ sig (Elt F) := after g15 (P15 m c)
def P17 : Valuation τ sig (Elt F) := after g16 (P16 m c)
def P18 : Valuation τ sig (Elt F) := after g17 (P17 m c)
def P19 : Valuation τ sig (Elt F) := X0 m c
def P20 : Valuation τ sig (Elt F) := X1 m c
def P21 : Valuation τ sig (Elt F) := after g20 (P20 m c)
def P22 : Valuation τ sig (Elt F) := after g21 (P21 m c)
def P23 : Valuation τ sig (Elt F) := after g22 (P22 m c)
def P24 : Valuation τ sig (Elt F) := after g23 (P23 m c)
def P25 : Valuation τ sig (Elt F) := after g24 (P24 m c)
def P26 : Valuation τ sig (Elt F) := after g25 (P25 m c)
def P27 : Valuation τ sig (Elt F) := after g26 (P26 m c)
def P28 : Valuation τ sig (Elt F) := after g27 (P27 m c)
def P29 : Valuation τ sig (Elt F) := after g28 (P28 m c)
def P30 : Valuation τ sig (Elt F) := after g29 (P29 m c)
def P31 : Valuation τ sig (Elt F) := after g30 (P30 m c)
def P32 : Valuation τ sig (Elt F) := X2 m c
def P33 : Valuation τ sig (Elt F) := X3 m c
def P34 : Valuation τ sig (Elt F) := after g33 (P33 m c)
def P35 : Valuation τ sig (Elt F) := after g34 (P34 m c)
def P36 : Valuation τ sig (Elt F) := after g35 (P35 m c)
def P37 : Valuation τ sig (Elt F) := after g36 (P36 m c)
def P38 : Valuation τ sig (Elt F) := after g37 (P37 m c)
def P39 : Valuation τ sig (Elt F) := after g38 (P38 m c)
def P40 : Valuation τ sig (Elt F) := after g39 (P39 m c)
def P41 : Valuation τ sig (Elt F) := after g40 (P40 m c)
/-- What loop 0 writes. -/
abbrev LW0 : List (Ref sig .tc) := c0_W ++ b0_0_W ++ b0_1_W ++ b0_2_W ++ b0_3_W
theorem keepK0 (r : Ref sig .tc) (h : r ∉ LW0) : ∀ k, K0 m k c (devRef .tc r) = E0 m c (devRef .tc r)
  | 0 => rfl
  | k + 1 => by
    have h0 := h
    simp only [LW0, List.mem_append, not_or] at h0
    rw [show K0 m (k + 1) c = afterL bd0 (after c0 (K0 m k c)) from rfl]
    simp only [afterL_cons, afterL_nil]
    obtain ⟨h_c, h_0, h_1, h_2, h_3⟩ := (by simpa only [and_assoc] using h0 : r ∉ c0_W ∧ r ∉ b0_0_W ∧ r ∉ b0_1_W ∧ r ∉ b0_2_W ∧ r ∉ b0_3_W)
    rw [after_of_writes_sub b0_3 _ b0_3_ok.w h_3, after_of_writes_sub b0_2 _ b0_2_ok.w h_2, after_of_writes_sub b0_1 _ b0_1_ok.w h_1, after_of_writes_sub b0_0 _ b0_0_ok.w h_0, after_of_writes_sub c0 _ c0_ok.w h_c, keepK0 r h k]
theorem keepX0 (r : Ref sig .tc) (h : r ∉ LW0) : X0 m c (devRef .tc r) = E0 m c (devRef .tc r) := by
  have h0 : r ∉ c0_W := fun hm => h (by simp only [LW0, List.mem_append]; tauto)
  exact (after_of_writes_sub c0 _ c0_ok.w h0).trans (keepK0 m c r h 16)

/-- What loop 1 writes. -/
abbrev LW1 : List (Ref sig .tc) := c1_W ++ b1_0_W ++ b1_1_W ++ b1_2_W ++ b1_3_W ++ b1_4_W
theorem keepK1 (r : Ref sig .tc) (h : r ∉ LW1) : ∀ k, K1 m k c (devRef .tc r) = E1 m c (devRef .tc r)
  | 0 => rfl
  | k + 1 => by
    have h0 := h
    simp only [LW1, List.mem_append, not_or] at h0
    rw [show K1 m (k + 1) c = afterL bd1 (after c1 (K1 m k c)) from rfl]
    simp only [afterL_cons, afterL_nil]
    obtain ⟨h_c, h_0, h_1, h_2, h_3, h_4⟩ := (by simpa only [and_assoc] using h0 : r ∉ c1_W ∧ r ∉ b1_0_W ∧ r ∉ b1_1_W ∧ r ∉ b1_2_W ∧ r ∉ b1_3_W ∧ r ∉ b1_4_W)
    rw [after_of_writes_sub b1_4 _ b1_4_ok.w h_4, after_of_writes_sub b1_3 _ b1_3_ok.w h_3, after_of_writes_sub b1_2 _ b1_2_ok.w h_2, after_of_writes_sub b1_1 _ b1_1_ok.w h_1, after_of_writes_sub b1_0 _ b1_0_ok.w h_0, after_of_writes_sub c1 _ c1_ok.w h_c, keepK1 r h k]
theorem keepX1 (r : Ref sig .tc) (h : r ∉ LW1) : X1 m c (devRef .tc r) = E1 m c (devRef .tc r) := by
  have h0 : r ∉ c1_W := fun hm => h (by simp only [LW1, List.mem_append]; tauto)
  exact (after_of_writes_sub c1 _ c1_ok.w h0).trans (keepK1 m c r h 16)

/-- What loop 2 writes. -/
abbrev LW2 : List (Ref sig .tc) := c2_W ++ b2_0_W ++ b2_1_W ++ b2_2_W ++ b2_3_W
theorem keepK2 (r : Ref sig .tc) (h : r ∉ LW2) : ∀ k, K2 m k c (devRef .tc r) = E2 m c (devRef .tc r)
  | 0 => rfl
  | k + 1 => by
    have h0 := h
    simp only [LW2, List.mem_append, not_or] at h0
    rw [show K2 m (k + 1) c = afterL bd2 (after c2 (K2 m k c)) from rfl]
    simp only [afterL_cons, afterL_nil]
    obtain ⟨h_c, h_0, h_1, h_2, h_3⟩ := (by simpa only [and_assoc] using h0 : r ∉ c2_W ∧ r ∉ b2_0_W ∧ r ∉ b2_1_W ∧ r ∉ b2_2_W ∧ r ∉ b2_3_W)
    rw [after_of_writes_sub b2_3 _ b2_3_ok.w h_3, after_of_writes_sub b2_2 _ b2_2_ok.w h_2, after_of_writes_sub b2_1 _ b2_1_ok.w h_1, after_of_writes_sub b2_0 _ b2_0_ok.w h_0, after_of_writes_sub c2 _ c2_ok.w h_c, keepK2 r h k]
theorem keepX2 (r : Ref sig .tc) (h : r ∉ LW2) : X2 m c (devRef .tc r) = E2 m c (devRef .tc r) := by
  have h0 : r ∉ c2_W := fun hm => h (by simp only [LW2, List.mem_append]; tauto)
  exact (after_of_writes_sub c2 _ c2_ok.w h0).trans (keepK2 m c r h 16)

/-- What loop 3 writes. -/
abbrev LW3 : List (Ref sig .tc) := c3_W ++ b3_0_W ++ b3_1_W ++ b3_2_W ++ b3_3_W ++ b3_4_W
theorem keepK3 (r : Ref sig .tc) (h : r ∉ LW3) : ∀ k, K3 m k c (devRef .tc r) = E3 m c (devRef .tc r)
  | 0 => rfl
  | k + 1 => by
    have h0 := h
    simp only [LW3, List.mem_append, not_or] at h0
    rw [show K3 m (k + 1) c = afterL bd3 (after c3 (K3 m k c)) from rfl]
    simp only [afterL_cons, afterL_nil]
    obtain ⟨h_c, h_0, h_1, h_2, h_3, h_4⟩ := (by simpa only [and_assoc] using h0 : r ∉ c3_W ∧ r ∉ b3_0_W ∧ r ∉ b3_1_W ∧ r ∉ b3_2_W ∧ r ∉ b3_3_W ∧ r ∉ b3_4_W)
    rw [after_of_writes_sub b3_4 _ b3_4_ok.w h_4, after_of_writes_sub b3_3 _ b3_3_ok.w h_3, after_of_writes_sub b3_2 _ b3_2_ok.w h_2, after_of_writes_sub b3_1 _ b3_1_ok.w h_1, after_of_writes_sub b3_0 _ b3_0_ok.w h_0, after_of_writes_sub c3 _ c3_ok.w h_c, keepK3 r h k]
theorem keepX3 (r : Ref sig .tc) (h : r ∉ LW3) : X3 m c (devRef .tc r) = E3 m c (devRef .tc r) := by
  have h0 : r ∉ c3_W := fun hm => h (by simp only [LW3, List.mem_append]; tauto)
  exact (after_of_writes_sub c3 _ c3_ok.w h0).trans (keepK3 m c r h 16)

/-- What a stretch does not write is before it what it is after it. -/
theorem back {l : Ops F} {W L : List (Ref sig .tc)} {V E : Valuation τ sig (Elt F)} (hw : Wr l W) (h : ∀ r, r ∉ L → E (devRef .tc r) = after l V (devRef .tc r)) (r : Ref sig .tc) (hr : r ∉ W ++ L) :
    E (devRef .tc r) = V (devRef .tc r) :=
  (h r fun hm => hr (List.mem_append_right _ hm)).trans (after_of_writes_sub l _ hw fun hm => hr (List.mem_append_left _ hm))
/-- What is not in `L` ends as it is in `V`. -/
abbrev La (L : List (Ref sig .tc)) (V : Valuation τ sig (Elt F)) : Prop :=
  ∀ (r : Ref sig .tc) (h : r ∉ L := by decide +kernel), E4 m c (devRef .tc r) = V (devRef .tc r)
abbrev L42 : List (Ref sig .tc) := []
abbrev L41 : List (Ref sig .tc) := g41_W ++ L42
theorem at41 (r : Ref sig .tc) (h : r ∉ L42 := by decide +kernel) : E4 m c (devRef .tc r) = after g41 (P41 m c) (devRef .tc r) := rfl
theorem later41 : La m c L41 (P41 m c) := back g41_ok.w (@at41 F _ m c)
abbrev L40 : List (Ref sig .tc) := g40_W ++ L41
theorem later40 : La m c L40 (P40 m c) := back g40_ok.w (@later41 F _ m c)
abbrev L39 : List (Ref sig .tc) := g39_W ++ L40
theorem later39 : La m c L39 (P39 m c) := back g39_ok.w (@later40 F _ m c)
abbrev L38 : List (Ref sig .tc) := g38_W ++ L39
theorem later38 : La m c L38 (P38 m c) := back g38_ok.w (@later39 F _ m c)
abbrev L37 : List (Ref sig .tc) := g37_W ++ L38
theorem later37 : La m c L37 (P37 m c) := back g37_ok.w (@later38 F _ m c)
abbrev L36 : List (Ref sig .tc) := g36_W ++ L37
theorem later36 : La m c L36 (P36 m c) := back g36_ok.w (@later37 F _ m c)
abbrev L35 : List (Ref sig .tc) := g35_W ++ L36
theorem later35 : La m c L35 (P35 m c) := back g35_ok.w (@later36 F _ m c)
abbrev L34 : List (Ref sig .tc) := g34_W ++ L35
theorem later34 : La m c L34 (P34 m c) := back g34_ok.w (@later35 F _ m c)
abbrev L33 : List (Ref sig .tc) := g33_W ++ L34
theorem later33 : La m c L33 (P33 m c) := back g33_ok.w (@later34 F _ m c)
abbrev L32 : List (Ref sig .tc) := g32_W ++ (LW3 ++ L33)
theorem at32 : La m c (LW3 ++ L33) (after g32 (P32 m c)) := fun r h => by
  have h1 : r ∉ LW3 := fun hm => h (List.mem_append_left _ hm)
  have h2 : r ∉ L33 := fun hm => h (List.mem_append_right _ hm)
  rw [later33 m c r h2]
  exact keepX3 m c r h1
theorem later32 : La m c L32 (P32 m c) := back g32_ok.w (@at32 F _ m c)
abbrev L31 : List (Ref sig .tc) := g31_W ++ (LW2 ++ L32)
theorem at31 : La m c (LW2 ++ L32) (after g31 (P31 m c)) := fun r h => by
  have h1 : r ∉ LW2 := fun hm => h (List.mem_append_left _ hm)
  have h2 : r ∉ L32 := fun hm => h (List.mem_append_right _ hm)
  rw [later32 m c r h2]
  exact keepX2 m c r h1
theorem later31 : La m c L31 (P31 m c) := back g31_ok.w (@at31 F _ m c)
abbrev L30 : List (Ref sig .tc) := g30_W ++ L31
theorem later30 : La m c L30 (P30 m c) := back g30_ok.w (@later31 F _ m c)
abbrev L29 : List (Ref sig .tc) := g29_W ++ L30
theorem later29 : La m c L29 (P29 m c) := back g29_ok.w (@later30 F _ m c)
abbrev L28 : List (Ref sig .tc) := g28_W ++ L29
theorem later28 : La m c L28 (P28 m c) := back g28_ok.w (@later29 F _ m c)
abbrev L27 : List (Ref sig .tc) := g27_W ++ L28
theorem later27 : La m c L27 (P27 m c) := back g27_ok.w (@later28 F _ m c)
abbrev L26 : List (Ref sig .tc) := g26_W ++ L27
theorem later26 : La m c L26 (P26 m c) := back g26_ok.w (@later27 F _ m c)
abbrev L25 : List (Ref sig .tc) := g25_W ++ L26
theorem later25 : La m c L25 (P25 m c) := back g25_ok.w (@later26 F _ m c)
abbrev L24 : List (Ref sig .tc) := g24_W ++ L25
theorem later24 : La m c L24 (P24 m c) := back g24_ok.w (@later25 F _ m c)
abbrev L23 : List (Ref sig .tc) := g23_W ++ L24
theorem later23 : La m c L23 (P23 m c) := back g23_ok.w (@later24 F _ m c)
abbrev L22 : List (Ref sig .tc) := g22_W ++ L23
theorem later22 : La m c L22 (P22 m c) := back g22_ok.w (@later23 F _ m c)
abbrev L21 : List (Ref sig .tc) := g21_W ++ L22
theorem later21 : La m c L21 (P21 m c) := back g21_ok.w (@later22 F _ m c)
abbrev L20 : List (Ref sig .tc) := g20_W ++ L21
theorem later20 : La m c L20 (P20 m c) := back g20_ok.w (@later21 F _ m c)
abbrev L19 : List (Ref sig .tc) := g19_W ++ (LW1 ++ L20)
theorem at19 : La m c (LW1 ++ L20) (after g19 (P19 m c)) := fun r h => by
  have h1 : r ∉ LW1 := fun hm => h (List.mem_append_left _ hm)
  have h2 : r ∉ L20 := fun hm => h (List.mem_append_right _ hm)
  rw [later20 m c r h2]
  exact keepX1 m c r h1
theorem later19 : La m c L19 (P19 m c) := back g19_ok.w (@at19 F _ m c)
abbrev L18 : List (Ref sig .tc) := g18_W ++ (LW0 ++ L19)
theorem at18 : La m c (LW0 ++ L19) (after g18 (P18 m c)) := fun r h => by
  have h1 : r ∉ LW0 := fun hm => h (List.mem_append_left _ hm)
  have h2 : r ∉ L19 := fun hm => h (List.mem_append_right _ hm)
  rw [later19 m c r h2]
  exact keepX0 m c r h1
theorem later18 : La m c L18 (P18 m c) := back g18_ok.w (@at18 F _ m c)
abbrev L17 : List (Ref sig .tc) := g17_W ++ L18
theorem later17 : La m c L17 (P17 m c) := back g17_ok.w (@later18 F _ m c)
abbrev L16 : List (Ref sig .tc) := g16_W ++ L17
theorem later16 : La m c L16 (P16 m c) := back g16_ok.w (@later17 F _ m c)
abbrev L15 : List (Ref sig .tc) := g15_W ++ L16
theorem later15 : La m c L15 (P15 m c) := back g15_ok.w (@later16 F _ m c)
abbrev L14 : List (Ref sig .tc) := g14_W ++ L15
theorem later14 : La m c L14 (P14 m c) := back g14_ok.w (@later15 F _ m c)
abbrev L13 : List (Ref sig .tc) := g13_W ++ L14
theorem later13 : La m c L13 (P13 m c) := back g13_ok.w (@later14 F _ m c)
abbrev L12 : List (Ref sig .tc) := g12_W ++ L13
theorem later12 : La m c L12 (P12 m c) := back g12_ok.w (@later13 F _ m c)
abbrev L11 : List (Ref sig .tc) := g11_W ++ L12
theorem later11 : La m c L11 (P11 m c) := back g11_ok.w (@later12 F _ m c)
abbrev L10 : List (Ref sig .tc) := g10_W ++ L11
theorem later10 : La m c L10 (P10 m c) := back g10_ok.w (@later11 F _ m c)
abbrev L9 : List (Ref sig .tc) := g9_W ++ L10
theorem later9 : La m c L9 (P9 m c) := back g9_ok.w (@later10 F _ m c)
abbrev L8 : List (Ref sig .tc) := g8_W ++ L9
theorem later8 : La m c L8 (P8 m c) := back g8_ok.w (@later9 F _ m c)
abbrev L7 : List (Ref sig .tc) := g7_W ++ L8
theorem later7 : La m c L7 (P7 m c) := back g7_ok.w (@later8 F _ m c)
abbrev L6 : List (Ref sig .tc) := g6_W ++ L7
theorem later6 : La m c L6 (P6 m c) := back g6_ok.w (@later7 F _ m c)
abbrev L5 : List (Ref sig .tc) := g5_W ++ L6
theorem later5 : La m c L5 (P5 m c) := back g5_ok.w (@later6 F _ m c)
abbrev L4 : List (Ref sig .tc) := g4_W ++ L5
theorem later4 : La m c L4 (P4 m c) := back g4_ok.w (@later5 F _ m c)
abbrev L3 : List (Ref sig .tc) := g3_W ++ L4
theorem later3 : La m c L3 (P3 m c) := back g3_ok.w (@later4 F _ m c)
abbrev L2 : List (Ref sig .tc) := g2_W ++ L3
theorem later2 : La m c L2 (P2 m c) := back g2_ok.w (@later3 F _ m c)
abbrev L1 : List (Ref sig .tc) := g1_W ++ L2
theorem later1 : La m c L1 (P1 m c) := back g1_ok.w (@later2 F _ m c)
abbrev L0 : List (Ref sig .tc) := g0_W ++ L1
theorem later0 : La m c L0 (P0 m c) := back g0_ok.w (@later1 F _ m c)

def o_v1 (arg1 : FVec F S2048x1024 .bf16) : FVec F S1x2048x4x256 .f32 :=
  shapeCast S1x2048x4x256 (extf .f32 (arg1) bitsLt_bf16_f32) shapeCasts_S2048x1024_S1x2048x4x256
theorem f_v1 : E4 m c (devRef .tc main_v1) = o_v1 (E4 m c (devRef .tc main_arg1)) := by
  rw [later1 m c main_v1, later0 m c main_arg1, P1]
  generalize P0 m c = V
  simp only [o_v1, g0]
  after_results_entrywise [cast_eq]
def o_v3 (arg2 : FVec F S2048x1024 .bf16) : FVec F S1x2048x4x256 .f32 :=
  shapeCast S1x2048x4x256 (extf .f32 (arg2) bitsLt_bf16_f32) shapeCasts_S2048x1024_S1x2048x4x256
theorem f_v3 : E4 m c (devRef .tc main_v3) = o_v3 (E4 m c (devRef .tc main_arg2)) := by
  rw [later1 m c main_v3, later0 m c main_arg2, P1]
  generalize P0 m c = V
  simp only [o_v3, g0]
  after_results_entrywise [cast_eq]
def o_v5 (arg3 : FVec F S2048x2048 .bf16) : FVec F S1x2048x4x512 .f32 :=
  shapeCast S1x2048x4x512 (extf .f32 (arg3) bitsLt_bf16_f32) shapeCasts_S2048x2048_S1x2048x4x512
theorem f_v5 : E4 m c (devRef .tc main_v5) = o_v5 (E4 m c (devRef .tc main_arg3)) := by
  rw [later1 m c main_v5, later0 m c main_arg3, P1]
  generalize P0 m c = V
  simp only [o_v5, g0]
  after_results_entrywise [cast_eq]
def o_v6 (v1 : FVec F S1x2048x4x256 .f32) : FVec F S1x16x128x4x256 .f32 :=
  shapeCast S1x16x128x4x256 (v1) shapeCasts_S1x2048x4x256_S1x16x128x4x256
theorem f_v6 : E4 m c (devRef .tc main_v6) = o_v6 (E4 m c (devRef .tc main_v1)) := by
  rw [later2 m c main_v6, later1 m c main_v1, P2]
  generalize P1 m c = V
  simp only [o_v6, g1]
  after_results_entrywise [cast_eq]
def o_v7 (v3 : FVec F S1x2048x4x256 .f32) : FVec F S1x16x128x4x256 .f32 :=
  shapeCast S1x16x128x4x256 (v3) shapeCasts_S1x2048x4x256_S1x16x128x4x256
theorem f_v7 : E4 m c (devRef .tc main_v7) = o_v7 (E4 m c (devRef .tc main_v3)) := by
  rw [later2 m c main_v7, later1 m c main_v3, P2]
  generalize P1 m c = V
  simp only [o_v7, g1]
  after_results_entrywise [cast_eq]
def o_v8 (v5 : FVec F S1x2048x4x512 .f32) : FVec F S1x16x128x4x512 .f32 :=
  shapeCast S1x16x128x4x512 (v5) shapeCasts_S1x2048x4x512_S1x16x128x4x512
theorem f_v8 : E4 m c (devRef .tc main_v8) = o_v8 (E4 m c (devRef .tc main_v5)) := by
  rw [later2 m c main_v8, later1 m c main_v5, P2]
  generalize P1 m c = V
  simp only [o_v8, g1]
  after_results_entrywise [cast_eq]
def o_v10 (arg0 : FVec F S2x4 .f32) : FVec F S4 .f32 :=
  shapeCast S4 (extractStridedSlice S1x4 ![0, 0] (arg0) slices_S2x4_S1x4_0_0) shapeCasts_S1x4_S4
theorem f_v10 : E4 m c (devRef .tc main_v10) = o_v10 (E4 m c (devRef .tc main_arg0)) := by
  rw [later3 m c main_v10, later2 m c main_arg0, P3]
  generalize P2 m c = V
  simp only [o_v10, g2]
  after_results_entrywise [cast_eq]
def o_v12 (arg0 : FVec F S2x4 .f32) : FVec F S4 .f32 :=
  shapeCast S4 (extractStridedSlice S1x4 ![1, 0] (arg0) slices_S2x4_S1x4_1_0) shapeCasts_S1x4_S4
theorem f_v12 : E4 m c (devRef .tc main_v12) = o_v12 (E4 m c (devRef .tc main_arg0)) := by
  rw [later3 m c main_v12, later2 m c main_arg0, P3]
  generalize P2 m c = V
  simp only [o_v12, g2]
  after_results_entrywise [cast_eq]
def o_v13  : FVec F S128 .f32 :=
  sitofp .f32 (iotaInDim S128 32 0)
theorem f_v13 : E4 m c (devRef .tc main_v13) = (o_v13 : FVec F S128 .f32) := by
  rw [later4 m c main_v13, P4]
  generalize P3 m c = V
  simp only [o_v13, g3]
  after_results_entrywise [cast_eq]
def o_v18 (v13 : FVec F S128 .f32) : FVec F S128x128 .f32 :=
  subf (broadcastInDim S128x128 ![0, 1] bcast_S128x1_S128x128_0_1 (broadcastInDim S128x1 ![0] bcast_S128_S128x1_0 (v13))) (broadcastInDim S128x128 ![0, 1] bcast_S1x128_S128x128_0_1 (broadcastInDim S1x128 ![1] bcast_S128_S1x128_1 (v13)))
theorem f_v18 : E4 m c (devRef .tc main_v18) = o_v18 (E4 m c (devRef .tc main_v13)) := by
  rw [later5 m c main_v18, later4 m c main_v13, P5]
  generalize P4 m c = V
  simp only [o_v18, g4]
  after_results_entrywise [cast_eq]
def o_v20 (v13 : FVec F S128 .f32) : IVec S128x128 1 :=
  cmpf .oge (subf (broadcastInDim S128x128 ![0, 1] bcast_S128x1_S128x128_0_1 (broadcastInDim S128x1 ![0] bcast_S128_S128x1_0 (v13))) (broadcastInDim S128x128 ![0, 1] bcast_S1x128_S128x128_0_1 (broadcastInDim S1x128 ![1] bcast_S128_S1x128_1 (v13)))) (broadcastInDim S128x128 ![] bcast_S_S128x128 (constant S_ .f32 0x00000000#32))
theorem f_v20 : E4 m c (devRef .tc main_v20) = o_v20 (E4 m c (devRef .tc main_v13)) := by
  rw [later5 m c main_v20, later4 m c main_v13, P5]
  generalize P4 m c = V
  simp only [o_v20, g4]
  after_results_entrywise [cast_eq]
def o_v25 (v10 : FVec F S4 .f32) (v18 : FVec F S128x128 .f32) : FVec F S4x128x128 .f32 :=
  mulf (broadcastInDim S4x128x128 ![0, 1, 2] bcast_S4x1x1_S4x128x128_0_1_2 (broadcastInDim S4x1x1 ![0] bcast_S4_S4x1x1_0 (v10))) (broadcastInDim S4x128x128 ![0, 1, 2] bcast_S1x128x128_S4x128x128_0_1_2 (broadcastInDim S1x128x128 ![1, 2] bcast_S128x128_S1x128x128_1_2 (v18)))
theorem f_v25 : E4 m c (devRef .tc main_v25) = o_v25 (E4 m c (devRef .tc main_v10)) (E4 m c (devRef .tc main_v18)) := by
  rw [later6 m c main_v25, later5 m c main_v10, later5 m c main_v18, P6]
  generalize P5 m c = V
  simp only [o_v25, g5]
  after_results_entrywise [cast_eq]
def o_v31 (v12 : FVec F S4 .f32) (v18 : FVec F S128x128 .f32) : FVec F S4x128x128 .f32 :=
  mulf (broadcastInDim S4x128x128 ![0, 1, 2] bcast_S4x1x1_S4x128x128_0_1_2 (Host.negf (broadcastInDim S4x1x1 ![0] bcast_S4_S4x1x1_0 (v12)))) (broadcastInDim S4x128x128 ![0, 1, 2] bcast_S1x128x128_S4x128x128_0_1_2 (broadcastInDim S1x128x128 ![1, 2] bcast_S128x128_S1x128x128_1_2 (v18)))
theorem f_v31 : E4 m c (devRef .tc main_v31) = o_v31 (E4 m c (devRef .tc main_v12)) (E4 m c (devRef .tc main_v18)) := by
  rw [later6 m c main_v31, later5 m c main_v12, later5 m c main_v18, P6]
  generalize P5 m c = V
  simp only [o_v31, g5]
  after_results_entrywise [cast_eq]
def o_v32 (v20 : IVec S128x128 1) (v25 : FVec F S4x128x128 .f32) (v31 : FVec F S4x128x128 .f32) : FVec F S4x128x128 .f32 :=
  select (broadcastInDim S4x128x128 ![1, 2] bcast_S128x128_S4x128x128_1_2 (v20)) (v25) (v31)
theorem f_v32 : E4 m c (devRef .tc main_v32) = o_v32 (E4 m c (devRef .tc main_v20)) (E4 m c (devRef .tc main_v25)) (E4 m c (devRef .tc main_v31)) := by
  rw [later7 m c main_v32, later6 m c main_v20, later6 m c main_v25, later6 m c main_v31, P7]
  generalize P6 m c = V
  simp only [o_v32, g6]
  after_results_entrywise [cast_eq]
def o_v33 (v32 : FVec F S4x128x128 .f32) : FVec F S4x128x128 .f32 :=
  Host.exp (v32)
theorem f_v33 : E4 m c (devRef .tc main_v33) = o_v33 (E4 m c (devRef .tc main_v32)) := by
  rw [later8 m c main_v33, later7 m c main_v32, P8]
  generalize P7 m c = V
  simp only [o_v33, g7]
  after_results_entrywise [cast_eq]
def o_v35 (v33 : FVec F S4x128x128 .f32) : FVec F S1x1x4x128x128 .f32 :=
  broadcastInDim S1x1x4x128x128 ![2, 3, 4] bcast_S4x128x128_S1x1x4x128x128_2_3_4 (v33)
theorem f_v35 : E4 m c (devRef .tc main_v35) = o_v35 (E4 m c (devRef .tc main_v33)) := by
  rw [later9 m c main_v35, later8 m c main_v33, P9]
  generalize P8 m c = V
  simp only [o_v35, g8]
  after_results_entrywise [cast_eq]
def o_v37 (v6 : FVec F S1x16x128x4x256 .f32) (v7 : FVec F S1x16x128x4x256 .f32) (v33 : FVec F S4x128x128 .f32) : FVec F S1x16x4x128x128 .f32 :=
  mulf (Host.dotGeneral dot_S1x16x128x4x256_S1x16x128x4x256_S1x16x4x128x128_4_4_2_2_013_013 none (v6) (v7)) (broadcastInDim S1x16x4x128x128 ![0, 1, 2, 3, 4] bcast_S1x1x4x128x128_S1x16x4x128x128_0_1_2_3_4 (broadcastInDim S1x1x4x128x128 ![2, 3, 4] bcast_S4x128x128_S1x1x4x128x128_2_3_4 (v33)))
theorem f_v37 : E4 m c (devRef .tc main_v37) = o_v37 (E4 m c (devRef .tc main_v6)) (E4 m c (devRef .tc main_v7)) (E4 m c (devRef .tc main_v33)) := by
  rw [later9 m c main_v37, later8 m c main_v6, later8 m c main_v7, later8 m c main_v33, P9]
  generalize P8 m c = V
  simp only [o_v37, g8]
  after_results_entrywise [cast_eq]
def o_v49 (v10 : FVec F S4 .f32) (v13 : FVec F S128 .f32) : FVec F S1x1x128x4x1 .f32 :=
  broadcastInDim S1x1x128x4x1 ![2, 3, 4] bcast_S128x4x1_S1x1x128x4x1_2_3_4 (broadcastInDim S128x4x1 ![0, 1] bcast_S128x4_S128x4x1_0_1 (Host.exp (mulf (broadcastInDim S128x4 ![0, 1] bcast_S1x4_S128x4_0_1 (broadcastInDim S1x4 ![1] bcast_S4_S1x4_1 (v10))) (broadcastInDim S128x4 ![0, 1] bcast_S128x1_S128x4_0_1 (broadcastInDim S128x1 ![0] bcast_S128_S128x1_0 (subf (broadcastInDim S128 ![] bcast_S_S128 (constant S_ .f32 0x42FE0000#32)) (v13)))))))
theorem f_v49 : E4 m c (devRef .tc main_v49) = o_v49 (E4 m c (devRef .tc main_v10)) (E4 m c (devRef .tc main_v13)) := by
  rw [later11 m c main_v49, later10 m c main_v10, later10 m c main_v13, P11]
  generalize P10 m c = V
  simp only [o_v49, g10]
  after_results_entrywise [cast_eq]
def o_v51 (v7 : FVec F S1x16x128x4x256 .f32) (v49 : FVec F S1x1x128x4x1 .f32) : FVec F S1x16x128x4x256 .f32 :=
  mulf (v7) (broadcastInDim S1x16x128x4x256 ![0, 1, 2, 3, 4] bcast_S1x1x128x4x1_S1x16x128x4x256_0_1_2_3_4 (v49))
theorem f_v51 : E4 m c (devRef .tc main_v51) = o_v51 (E4 m c (devRef .tc main_v7)) (E4 m c (devRef .tc main_v49)) := by
  rw [later12 m c main_v51, later11 m c main_v7, later11 m c main_v49, P12]
  generalize P11 m c = V
  simp only [o_v51, g11]
  after_results_entrywise [cast_eq]
def o_v57 (v12 : FVec F S4 .f32) (v13 : FVec F S128 .f32) : FVec F S128x4 .f32 :=
  Host.exp (mulf (broadcastInDim S128x4 ![0, 1] bcast_S1x4_S128x4_0_1 (broadcastInDim S1x4 ![1] bcast_S4_S1x4_1 (v12))) (broadcastInDim S128x4 ![0, 1] bcast_S128x1_S128x4_0_1 (broadcastInDim S128x1 ![0] bcast_S128_S128x1_0 (v13))))
theorem f_v57 : E4 m c (devRef .tc main_v57) = o_v57 (E4 m c (devRef .tc main_v12)) (E4 m c (devRef .tc main_v13)) := by
  rw [later13 m c main_v57, later12 m c main_v12, later12 m c main_v13, P13]
  generalize P12 m c = V
  simp only [o_v57, g12]
  after_results_entrywise [cast_eq]
def o_v59 (v57 : FVec F S128x4 .f32) : FVec F S1x1x128x4x1 .f32 :=
  broadcastInDim S1x1x128x4x1 ![2, 3, 4] bcast_S128x4x1_S1x1x128x4x1_2_3_4 (broadcastInDim S128x4x1 ![0, 1] bcast_S128x4_S128x4x1_0_1 (v57))
theorem f_v59 : E4 m c (devRef .tc main_v59) = o_v59 (E4 m c (devRef .tc main_v57)) := by
  rw [later14 m c main_v59, later13 m c main_v57, P14]
  generalize P13 m c = V
  simp only [o_v59, g13]
  after_results_entrywise [cast_eq]
def o_v61 (v7 : FVec F S1x16x128x4x256 .f32) (v59 : FVec F S1x1x128x4x1 .f32) : FVec F S1x16x128x4x256 .f32 :=
  mulf (v7) (broadcastInDim S1x16x128x4x256 ![0, 1, 2, 3, 4] bcast_S1x1x128x4x1_S1x16x128x4x256_0_1_2_3_4 (v59))
theorem f_v61 : E4 m c (devRef .tc main_v61) = o_v61 (E4 m c (devRef .tc main_v7)) (E4 m c (devRef .tc main_v59)) := by
  rw [later15 m c main_v61, later14 m c main_v7, later14 m c main_v59, P15]
  generalize P14 m c = V
  simp only [o_v61, g14]
  after_results_entrywise [cast_eq]
def o_v62 (v51 : FVec F S1x16x128x4x256 .f32) (v8 : FVec F S1x16x128x4x512 .f32) : FVec F S16x1x4x256x512 .f32 :=
  Host.dotGeneral dot_S1x16x128x4x256_S1x16x128x4x512_S16x1x4x256x512_2_2_4_4_103_103 none (v51) (v8)
theorem f_v62 : E4 m c (devRef .tc main_v62) = o_v62 (E4 m c (devRef .tc main_v51)) (E4 m c (devRef .tc main_v8)) := by
  rw [later16 m c main_v62, later15 m c main_v51, later15 m c main_v8, P16]
  generalize P15 m c = V
  simp only [o_v62, g15]
  after_results_entrywise [cast_eq]
def o_v63 (v61 : FVec F S1x16x128x4x256 .f32) (v8 : FVec F S1x16x128x4x512 .f32) : FVec F S16x1x4x256x512 .f32 :=
  Host.dotGeneral dot_S1x16x128x4x256_S1x16x128x4x512_S16x1x4x256x512_2_2_4_4_103_103 none (v61) (v8)
theorem f_v63 : E4 m c (devRef .tc main_v63) = o_v63 (E4 m c (devRef .tc main_v61)) (E4 m c (devRef .tc main_v8)) := by
  rw [later16 m c main_v63, later15 m c main_v61, later15 m c main_v8, P16]
  generalize P15 m c = V
  simp only [o_v63, g15]
  after_results_entrywise [cast_eq]
def o_v67 (v10 : FVec F S4 .f32) : FVec F S1x4x1x1 .f32 :=
  broadcastInDim S1x4x1x1 ![1] bcast_S4_S1x4x1x1_1 (Host.exp (mulf (v10) (broadcastInDim S4 ![] bcast_S_S4 (constant S_ .f32 0x43000000#32))))
theorem f_v67 : E4 m c (devRef .tc main_v67) = o_v67 (E4 m c (devRef .tc main_v10)) := by
  rw [later17 m c main_v67, later16 m c main_v10, P17]
  generalize P16 m c = V
  simp only [o_v67, g16]
  after_results_entrywise [cast_eq]
def o_v71 (v12 : FVec F S4 .f32) : FVec F S1x4x1x1 .f32 :=
  broadcastInDim S1x4x1x1 ![1] bcast_S4_S1x4x1x1_1 (Host.exp (mulf (v12) (broadcastInDim S4 ![] bcast_S_S4 (constant S_ .f32 0x43000000#32))))
theorem f_v71 : E4 m c (devRef .tc main_v71) = o_v71 (E4 m c (devRef .tc main_v12)) := by
  rw [later18 m c main_v71, later17 m c main_v12, P18]
  generalize P17 m c = V
  simp only [o_v71, g17]
  after_results_entrywise [cast_eq]
def o_v72  : FVec F S1x4x256x512 .f32 :=
  broadcastInDim S1x4x256x512 ![] bcast_S_S1x4x256x512 (constant S_ .f32 0x00000000#32)
theorem f_v72 : E4 m c (devRef .tc main_v72) = (o_v72 : FVec F S1x4x256x512 .f32) := by
  rw [at18 m c main_v72]
  show after g18 (P18 m c) _ = _
  generalize P18 m c = V
  simp only [o_v72, g18]
  after_results_entrywise [cast_eq]
def o_v74_0 (v62 : FVec F S16x1x4x256x512 .f32) : FVec F S16x1x4x256x512 .f32 :=
  v62
theorem f_v74_0 : E4 m c (devRef .tc main_v74_0) = o_v74_0 (E4 m c (devRef .tc main_v62)) := by
  rw [at18 m c main_v74_0, later18 m c main_v62]
  show after g18 (P18 m c) _ = _
  generalize P18 m c = V
  simp only [o_v74_0, g18]
  after_results_entrywise [cast_eq]
def o_v74_1 (v67 : FVec F S1x4x1x1 .f32) : FVec F S1x4x1x1 .f32 :=
  v67
theorem f_v74_1 : E4 m c (devRef .tc main_v74_1) = o_v74_1 (E4 m c (devRef .tc main_v67)) := by
  rw [at18 m c main_v74_1, later18 m c main_v67]
  show after g18 (P18 m c) _ = _
  generalize P18 m c = V
  simp only [o_v74_1, g18]
  after_results_entrywise [cast_eq]
def o_v74_3  : FVec F S1x4x256x512 .f32 :=
  broadcastInDim S1x4x256x512 ![] bcast_S_S1x4x256x512 (constant S_ .f32 0x00000000#32)
theorem i_v74_3 (c : Dev nD) : E0 m c (devRef .tc main_v74_3) = (o_v74_3 : FVec F S1x4x256x512 .f32) := by
  rw [show E0 m c = after g18 (P18 m c) from rfl]
  generalize P18 m c = V
  unfold o_v74_3
  simp only [g18]
  after_results_entrywise [cast_eq]
def o_v74_4  : FVec F S16x1x4x256x512 .f32 :=
  broadcastInDim S16x1x4x256x512 ![] bcast_S_S16x1x4x256x512 (constant S_ .f32 0x00000000#32)
theorem i_v74_4 (c : Dev nD) : E0 m c (devRef .tc main_v74_4) = (o_v74_4 : FVec F S16x1x4x256x512 .f32) := by
  rw [show E0 m c = after g18 (P18 m c) from rfl]
  generalize P18 m c = V
  unfold o_v74_4
  simp only [g18]
  after_results_entrywise [cast_eq]
def o_v76_0 (v63 : FVec F S16x1x4x256x512 .f32) : FVec F S16x1x4x256x512 .f32 :=
  v63
theorem f_v76_0 : E4 m c (devRef .tc main_v76_0) = o_v76_0 (E4 m c (devRef .tc main_v63)) := by
  rw [at19 m c main_v76_0, later19 m c main_v63]
  show after g19 (P19 m c) _ = _
  generalize P19 m c = V
  simp only [o_v76_0, g19]
  after_results_entrywise [cast_eq]
def o_v76_1 (v71 : FVec F S1x4x1x1 .f32) : FVec F S1x4x1x1 .f32 :=
  v71
theorem f_v76_1 : E4 m c (devRef .tc main_v76_1) = o_v76_1 (E4 m c (devRef .tc main_v71)) := by
  rw [at19 m c main_v76_1, later19 m c main_v71]
  show after g19 (P19 m c) _ = _
  generalize P19 m c = V
  simp only [o_v76_1, g19]
  after_results_entrywise [cast_eq]
def o_v76_3 (v72 : FVec F S1x4x256x512 .f32) : FVec F S1x4x256x512 .f32 :=
  v72
theorem i_v76_3 (c : Dev nD) : E1 m c (devRef .tc main_v76_3) = o_v76_3 (E4 m c (devRef .tc main_v72)) := by
  rw [later19 m c main_v72]
  rw [show E1 m c = after g19 (P19 m c) from rfl]
  generalize P19 m c = V
  unfold o_v76_3
  simp only [g19]
  after_results_entrywise [cast_eq]
def o_v76_4  : FVec F S16x1x4x256x512 .f32 :=
  broadcastInDim S16x1x4x256x512 ![] bcast_S_S16x1x4x256x512 (constant S_ .f32 0x00000000#32)
theorem i_v76_4 (c : Dev nD) : E1 m c (devRef .tc main_v76_4) = (o_v76_4 : FVec F S16x1x4x256x512 .f32) := by
  rw [show E1 m c = after g19 (P19 m c) from rfl]
  generalize P19 m c = V
  unfold o_v76_4
  simp only [g19]
  after_results_entrywise [cast_eq]
def o_v86 (v10 : FVec F S4 .f32) (v13 : FVec F S128 .f32) : FVec F S1x1x128x4x1 .f32 :=
  broadcastInDim S1x1x128x4x1 ![2, 3, 4] bcast_S128x4x1_S1x1x128x4x1_2_3_4 (broadcastInDim S128x4x1 ![0, 1] bcast_S128x4_S128x4x1_0_1 (Host.exp (mulf (broadcastInDim S128x4 ![0, 1] bcast_S1x4_S128x4_0_1 (broadcastInDim S1x4 ![1] bcast_S4_S1x4_1 (v10))) (broadcastInDim S128x4 ![0, 1] bcast_S128x1_S128x4_0_1 (addf (broadcastInDim S128x1 ![0] bcast_S128_S128x1_0 (v13)) (broadcastInDim S128x1 ![] bcast_S_S128x1 (constant S_ .f32 0x3F800000#32)))))))
theorem f_v86 : E4 m c (devRef .tc main_v86) = o_v86 (E4 m c (devRef .tc main_v10)) (E4 m c (devRef .tc main_v13)) := by
  rw [later21 m c main_v86, later20 m c main_v10, later20 m c main_v13, P21]
  generalize P20 m c = V
  simp only [o_v86, g20]
  after_results_entrywise [cast_eq]
def o_v88 (v6 : FVec F S1x16x128x4x256 .f32) (v86 : FVec F S1x1x128x4x1 .f32) : FVec F S1x16x128x4x256 .f32 :=
  mulf (v6) (broadcastInDim S1x16x128x4x256 ![0, 1, 2, 3, 4] bcast_S1x1x128x4x1_S1x16x128x4x256_0_1_2_3_4 (v86))
theorem f_v88 : E4 m c (devRef .tc main_v88) = o_v88 (E4 m c (devRef .tc main_v6)) (E4 m c (devRef .tc main_v86)) := by
  rw [later22 m c main_v88, later21 m c main_v6, later21 m c main_v86, P22]
  generalize P21 m c = V
  simp only [o_v88, g21]
  after_results_entrywise [cast_eq]
def o_v98 (v12 : FVec F S4 .f32) (v13 : FVec F S128 .f32) : FVec F S1x1x128x4x1 .f32 :=
  broadcastInDim S1x1x128x4x1 ![2, 3, 4] bcast_S128x4x1_S1x1x128x4x1_2_3_4 (broadcastInDim S128x4x1 ![0, 1] bcast_S128x4_S128x4x1_0_1 (Host.exp (mulf (broadcastInDim S128x4 ![0, 1] bcast_S1x4_S128x4_0_1 (broadcastInDim S1x4 ![1] bcast_S4_S1x4_1 (v12))) (broadcastInDim S128x4 ![0, 1] bcast_S128x1_S128x4_0_1 (broadcastInDim S128x1 ![0] bcast_S128_S128x1_0 (subf (broadcastInDim S128 ![] bcast_S_S128 (constant S_ .f32 0x43000000#32)) (v13)))))))
theorem f_v98 : E4 m c (devRef .tc main_v98) = o_v98 (E4 m c (devRef .tc main_v12)) (E4 m c (devRef .tc main_v13)) := by
  rw [later23 m c main_v98, later22 m c main_v12, later22 m c main_v13, P23]
  generalize P22 m c = V
  simp only [o_v98, g22]
  after_results_entrywise [cast_eq]
def o_v100 (v6 : FVec F S1x16x128x4x256 .f32) (v98 : FVec F S1x1x128x4x1 .f32) : FVec F S1x16x128x4x256 .f32 :=
  mulf (v6) (broadcastInDim S1x16x128x4x256 ![0, 1, 2, 3, 4] bcast_S1x1x128x4x1_S1x16x128x4x256_0_1_2_3_4 (v98))
theorem f_v100 : E4 m c (devRef .tc main_v100) = o_v100 (E4 m c (devRef .tc main_v6)) (E4 m c (devRef .tc main_v98)) := by
  rw [later24 m c main_v100, later23 m c main_v6, later23 m c main_v98, P24]
  generalize P23 m c = V
  simp only [o_v100, g23]
  after_results_entrywise [cast_eq]
def o_v110  : FVec F S1x4x256x512 .f32 :=
  broadcastInDim S1x4x256x512 ![] bcast_S_S1x4x256x512 (constant S_ .f32 0x00000000#32)
theorem f_v110 : E4 m c (devRef .tc main_v110) = (o_v110 : FVec F S1x4x256x512 .f32) := by
  rw [later26 m c main_v110, P26]
  generalize P25 m c = V
  simp only [o_v110, g25]
  after_results_entrywise [cast_eq]
def o_v111  : FVec F S1x4x256x512 .f32 :=
  broadcastInDim S1x4x256x512 ![] bcast_S_S1x4x256x512 (constant S_ .f32 0x00000000#32)
theorem f_v111 : E4 m c (devRef .tc main_v111) = (o_v111 : FVec F S1x4x256x512 .f32) := by
  rw [later26 m c main_v111, P26]
  generalize P25 m c = V
  simp only [o_v111, g25]
  after_results_entrywise [cast_eq]
def o_v112 (arg4 : FVec F S2048x2048 .bf16) : FVec F S1x16x128x4x512 .f32 :=
  shapeCast S1x16x128x4x512 (shapeCast S1x2048x4x512 (extf .f32 (arg4) bitsLt_bf16_f32) shapeCasts_S2048x2048_S1x2048x4x512) shapeCasts_S1x2048x4x512_S1x16x128x4x512
theorem f_v112 : E4 m c (devRef .tc main_v112) = o_v112 (E4 m c (devRef .tc main_arg4)) := by
  rw [later26 m c main_v112, later25 m c main_arg4, P26]
  generalize P25 m c = V
  simp only [o_v112, g25]
  after_results_entrywise [cast_eq]
def o_v113 (v112 : FVec F S1x16x128x4x512 .f32) : FVec F S1x16x4x512x128 .f32 :=
  transpose S1x16x4x512x128 [0, 1, 3, 4, 2] (v112) transposes_S1x16x128x4x512_S1x16x4x512x128_0_1_3_4_2
theorem f_v113 : E4 m c (devRef .tc main_v113) = o_v113 (E4 m c (devRef .tc main_v112)) := by
  rw [later27 m c main_v113, later26 m c main_v112, P27]
  generalize P26 m c = V
  simp only [o_v113, g26]
  after_results_entrywise [cast_eq]
def o_v115 (v112 : FVec F S1x16x128x4x512 .f32) (v76_4 : FVec F S16x1x4x256x512 .f32) : FVec F S1x16x128x4x256 .f32 :=
  transpose S1x16x128x4x256 [0, 1, 3, 2, 4] (Host.dotGeneral dot_S1x16x4x512x128_S16x1x4x256x512_S1x16x4x128x256_3_4_4_3_012_102 none (transpose S1x16x4x512x128 [0, 1, 3, 4, 2] (v112) transposes_S1x16x128x4x512_S1x16x4x512x128_0_1_3_4_2) (v76_4)) transposes_S1x16x4x128x256_S1x16x128x4x256_0_1_3_2_4
theorem f_v115 : E4 m c (devRef .tc main_v115) = o_v115 (E4 m c (devRef .tc main_v112)) (E4 m c (devRef .tc main_v76_4)) := by
  rw [later27 m c main_v115, later26 m c main_v112, later26 m c main_v76_4, P27]
  generalize P26 m c = V
  simp only [o_v115, g26]
  after_results_entrywise [cast_eq]
def o_v117 (v113 : FVec F S1x16x4x512x128 .f32) (v100 : FVec F S1x16x128x4x256 .f32) : FVec F S16x1x4x256x512 .f32 :=
  transpose S16x1x4x256x512 [1, 0, 2, 4, 3] (Host.dotGeneral dot_S1x16x4x512x128_S1x16x128x4x256_S1x16x4x512x256_4_2_3_4_012_013 none (v113) (v100)) transposes_S1x16x4x512x256_S16x1x4x256x512_1_0_2_4_3
theorem f_v117 : E4 m c (devRef .tc main_v117) = o_v117 (E4 m c (devRef .tc main_v113)) (E4 m c (devRef .tc main_v100)) := by
  rw [later28 m c main_v117, later27 m c main_v113, later27 m c main_v100, P28]
  generalize P27 m c = V
  simp only [o_v117, g27]
  after_results_entrywise [cast_eq]
def o_v118 (v112 : FVec F S1x16x128x4x512 .f32) : FVec F S1x16x4x512x128 .f32 :=
  transpose S1x16x4x512x128 [0, 1, 3, 4, 2] (v112) transposes_S1x16x128x4x512_S1x16x4x512x128_0_1_3_4_2
theorem f_v118 : E4 m c (devRef .tc main_v118) = o_v118 (E4 m c (devRef .tc main_v112)) := by
  rw [later29 m c main_v118, later28 m c main_v112, P29]
  generalize P28 m c = V
  simp only [o_v118, g28]
  after_results_entrywise [cast_eq]
def o_v120 (v112 : FVec F S1x16x128x4x512 .f32) (v74_4 : FVec F S16x1x4x256x512 .f32) : FVec F S1x16x128x4x256 .f32 :=
  transpose S1x16x128x4x256 [0, 1, 3, 2, 4] (Host.dotGeneral dot_S1x16x4x512x128_S16x1x4x256x512_S1x16x4x128x256_3_4_4_3_012_102 none (transpose S1x16x4x512x128 [0, 1, 3, 4, 2] (v112) transposes_S1x16x128x4x512_S1x16x4x512x128_0_1_3_4_2) (v74_4)) transposes_S1x16x4x128x256_S1x16x128x4x256_0_1_3_2_4
theorem f_v120 : E4 m c (devRef .tc main_v120) = o_v120 (E4 m c (devRef .tc main_v112)) (E4 m c (devRef .tc main_v74_4)) := by
  rw [later29 m c main_v120, later28 m c main_v112, later28 m c main_v74_4, P29]
  generalize P28 m c = V
  simp only [o_v120, g28]
  after_results_entrywise [cast_eq]
def o_v122 (v118 : FVec F S1x16x4x512x128 .f32) (v88 : FVec F S1x16x128x4x256 .f32) : FVec F S16x1x4x256x512 .f32 :=
  transpose S16x1x4x256x512 [1, 0, 2, 4, 3] (Host.dotGeneral dot_S1x16x4x512x128_S1x16x128x4x256_S1x16x4x512x256_4_2_3_4_012_013 none (v118) (v88)) transposes_S1x16x4x512x256_S16x1x4x256x512_1_0_2_4_3
theorem f_v122 : E4 m c (devRef .tc main_v122) = o_v122 (E4 m c (devRef .tc main_v118)) (E4 m c (devRef .tc main_v88)) := by
  rw [later30 m c main_v122, later29 m c main_v118, later29 m c main_v88, P30]
  generalize P29 m c = V
  simp only [o_v122, g29]
  after_results_entrywise [cast_eq]
def o_v127 (v115 : FVec F S1x16x128x4x256 .f32) (v98 : FVec F S1x1x128x4x1 .f32) (v120 : FVec F S1x16x128x4x256 .f32) (v86 : FVec F S1x1x128x4x1 .f32) : FVec F S1x16x128x4x256 .f32 :=
  addf (mulf (v115) (broadcastInDim S1x16x128x4x256 ![0, 1, 2, 3, 4] bcast_S1x1x128x4x1_S1x16x128x4x256_0_1_2_3_4 (v98))) (mulf (v120) (broadcastInDim S1x16x128x4x256 ![0, 1, 2, 3, 4] bcast_S1x1x128x4x1_S1x16x128x4x256_0_1_2_3_4 (v86)))
theorem f_v127 : E4 m c (devRef .tc main_v127) = o_v127 (E4 m c (devRef .tc main_v115)) (E4 m c (devRef .tc main_v98)) (E4 m c (devRef .tc main_v120)) (E4 m c (devRef .tc main_v86)) := by
  rw [later31 m c main_v127, later30 m c main_v115, later30 m c main_v98, later30 m c main_v120, later30 m c main_v86, P31]
  generalize P30 m c = V
  simp only [o_v127, g30]
  after_results_entrywise [cast_eq]
def o_v130_0 (v117 : FVec F S16x1x4x256x512 .f32) : FVec F S16x1x4x256x512 .f32 :=
  v117
theorem f_v130_0 : E4 m c (devRef .tc main_v130_0) = o_v130_0 (E4 m c (devRef .tc main_v117)) := by
  rw [at31 m c main_v130_0, later31 m c main_v117]
  show after g31 (P31 m c) _ = _
  generalize P31 m c = V
  simp only [o_v130_0, g31]
  after_results_entrywise [cast_eq]
def o_v130_1 (v71 : FVec F S1x4x1x1 .f32) : FVec F S1x4x1x1 .f32 :=
  v71
theorem f_v130_1 : E4 m c (devRef .tc main_v130_1) = o_v130_1 (E4 m c (devRef .tc main_v71)) := by
  rw [at31 m c main_v130_1, later31 m c main_v71]
  show after g31 (P31 m c) _ = _
  generalize P31 m c = V
  simp only [o_v130_1, g31]
  after_results_entrywise [cast_eq]
def o_v130_3  : FVec F S1x4x256x512 .f32 :=
  broadcastInDim S1x4x256x512 ![] bcast_S_S1x4x256x512 (constant S_ .f32 0x00000000#32)
theorem i_v130_3 (c : Dev nD) : E2 m c (devRef .tc main_v130_3) = (o_v130_3 : FVec F S1x4x256x512 .f32) := by
  rw [show E2 m c = after g31 (P31 m c) from rfl]
  generalize P31 m c = V
  unfold o_v130_3
  simp only [g31]
  after_results_entrywise [cast_eq]
def o_v130_4  : FVec F S16x1x4x256x512 .f32 :=
  broadcastInDim S16x1x4x256x512 ![] bcast_S_S16x1x4x256x512 (constant S_ .f32 0x00000000#32)
theorem i_v130_4 (c : Dev nD) : E2 m c (devRef .tc main_v130_4) = (o_v130_4 : FVec F S16x1x4x256x512 .f32) := by
  rw [show E2 m c = after g31 (P31 m c) from rfl]
  generalize P31 m c = V
  unfold o_v130_4
  simp only [g31]
  after_results_entrywise [cast_eq]
def o_v133_0 (v122 : FVec F S16x1x4x256x512 .f32) : FVec F S16x1x4x256x512 .f32 :=
  v122
theorem f_v133_0 : E4 m c (devRef .tc main_v133_0) = o_v133_0 (E4 m c (devRef .tc main_v122)) := by
  rw [at32 m c main_v133_0, later32 m c main_v122]
  show after g32 (P32 m c) _ = _
  generalize P32 m c = V
  simp only [o_v133_0, g32]
  after_results_entrywise [cast_eq]
def o_v133_1 (v67 : FVec F S1x4x1x1 .f32) : FVec F S1x4x1x1 .f32 :=
  v67
theorem f_v133_1 : E4 m c (devRef .tc main_v133_1) = o_v133_1 (E4 m c (devRef .tc main_v67)) := by
  rw [at32 m c main_v133_1, later32 m c main_v67]
  show after g32 (P32 m c) _ = _
  generalize P32 m c = V
  simp only [o_v133_1, g32]
  after_results_entrywise [cast_eq]
def o_v133_3  : FVec F S1x4x256x512 .f32 :=
  broadcastInDim S1x4x256x512 ![] bcast_S_S1x4x256x512 (constant S_ .f32 0x00000000#32)
theorem i_v133_3 (c : Dev nD) : E3 m c (devRef .tc main_v133_3) = (o_v133_3 : FVec F S1x4x256x512 .f32) := by
  rw [show E3 m c = after g32 (P32 m c) from rfl]
  generalize P32 m c = V
  unfold o_v133_3
  simp only [g32]
  after_results_entrywise [cast_eq]
def o_v133_4  : FVec F S16x1x4x256x512 .f32 :=
  broadcastInDim S16x1x4x256x512 ![] bcast_S_S16x1x4x256x512 (constant S_ .f32 0x00000000#32)
theorem i_v133_4 (c : Dev nD) : E3 m c (devRef .tc main_v133_4) = (o_v133_4 : FVec F S16x1x4x256x512 .f32) := by
  rw [show E3 m c = after g32 (P32 m c) from rfl]
  generalize P32 m c = V
  unfold o_v133_4
  simp only [g32]
  after_results_entrywise [cast_eq]
def o_v137 (v130_4 : FVec F S16x1x4x256x512 .f32) (v8 : FVec F S1x16x128x4x512 .f32) : FVec F S1x16x128x4x256 .f32 :=
  transpose S1x16x128x4x256 [1, 0, 4, 2, 3] (Host.dotGeneral dot_S16x1x4x256x512_S1x16x128x4x512_S16x1x4x256x128_4_4_3_2_012_103 none (v130_4) (v8)) transposes_S16x1x4x256x128_S1x16x128x4x256_1_0_4_2_3
theorem f_v137 : E4 m c (devRef .tc main_v137) = o_v137 (E4 m c (devRef .tc main_v130_4)) (E4 m c (devRef .tc main_v8)) := by
  rw [later34 m c main_v137, later33 m c main_v130_4, later33 m c main_v8, P34]
  generalize P33 m c = V
  simp only [o_v137, g33]
  after_results_entrywise [cast_eq]
def o_v140 (v130_4 : FVec F S16x1x4x256x512 .f32) (v61 : FVec F S1x16x128x4x256 .f32) (v133_4 : FVec F S16x1x4x256x512 .f32) (v51 : FVec F S1x16x128x4x256 .f32) : FVec F S1x16x128x4x512 .f32 :=
  addf (transpose S1x16x128x4x512 [1, 0, 4, 2, 3] (Host.dotGeneral dot_S16x1x4x256x512_S1x16x128x4x256_S16x1x4x512x128_3_4_4_2_012_103 none (v130_4) (v61)) transposes_S16x1x4x512x128_S1x16x128x4x512_1_0_4_2_3) (transpose S1x16x128x4x512 [1, 0, 4, 2, 3] (Host.dotGeneral dot_S16x1x4x256x512_S1x16x128x4x256_S16x1x4x512x128_3_4_4_2_012_103 none (v133_4) (v51)) transposes_S16x1x4x512x128_S1x16x128x4x512_1_0_4_2_3)
theorem f_v140 : E4 m c (devRef .tc main_v140) = o_v140 (E4 m c (devRef .tc main_v130_4)) (E4 m c (devRef .tc main_v61)) (E4 m c (devRef .tc main_v133_4)) (E4 m c (devRef .tc main_v51)) := by
  rw [later34 m c main_v140, later33 m c main_v130_4, later33 m c main_v61, later33 m c main_v133_4, later33 m c main_v51, P34]
  generalize P33 m c = V
  simp only [o_v140, g33]
  after_results_entrywise [cast_eq]
def o_v142 (v133_4 : FVec F S16x1x4x256x512 .f32) (v8 : FVec F S1x16x128x4x512 .f32) : FVec F S1x16x128x4x256 .f32 :=
  transpose S1x16x128x4x256 [1, 0, 4, 2, 3] (Host.dotGeneral dot_S16x1x4x256x512_S1x16x128x4x512_S16x1x4x256x128_4_4_3_2_012_103 none (v133_4) (v8)) transposes_S16x1x4x256x128_S1x16x128x4x256_1_0_4_2_3
theorem f_v142 : E4 m c (devRef .tc main_v142) = o_v142 (E4 m c (devRef .tc main_v133_4)) (E4 m c (devRef .tc main_v8)) := by
  rw [later35 m c main_v142, later34 m c main_v133_4, later34 m c main_v8, P35]
  generalize P34 m c = V
  simp only [o_v142, g34]
  after_results_entrywise [cast_eq]
def o_v147 (v137 : FVec F S1x16x128x4x256 .f32) (v59 : FVec F S1x1x128x4x1 .f32) (v142 : FVec F S1x16x128x4x256 .f32) (v49 : FVec F S1x1x128x4x1 .f32) : FVec F S1x16x128x4x256 .f32 :=
  addf (mulf (v137) (broadcastInDim S1x16x128x4x256 ![0, 1, 2, 3, 4] bcast_S1x1x128x4x1_S1x16x128x4x256_0_1_2_3_4 (v59))) (mulf (v142) (broadcastInDim S1x16x128x4x256 ![0, 1, 2, 3, 4] bcast_S1x1x128x4x1_S1x16x128x4x256_0_1_2_3_4 (v49)))
theorem f_v147 : E4 m c (devRef .tc main_v147) = o_v147 (E4 m c (devRef .tc main_v137)) (E4 m c (devRef .tc main_v59)) (E4 m c (devRef .tc main_v142)) (E4 m c (devRef .tc main_v49)) := by
  rw [later36 m c main_v147, later35 m c main_v137, later35 m c main_v59, later35 m c main_v142, later35 m c main_v49, P36]
  generalize P35 m c = V
  simp only [o_v147, g35]
  after_results_entrywise [cast_eq]
def o_v148 (v112 : FVec F S1x16x128x4x512 .f32) : FVec F S1x16x4x512x128 .f32 :=
  transpose S1x16x4x512x128 [0, 1, 3, 4, 2] (v112) transposes_S1x16x128x4x512_S1x16x4x512x128_0_1_3_4_2
theorem f_v148 : E4 m c (devRef .tc main_v148) = o_v148 (E4 m c (devRef .tc main_v112)) := by
  rw [later37 m c main_v148, later36 m c main_v112, P37]
  generalize P36 m c = V
  simp only [o_v148, g36]
  after_results_entrywise [cast_eq]
def o_v149 (v112 : FVec F S1x16x128x4x512 .f32) (v8 : FVec F S1x16x128x4x512 .f32) : FVec F S1x16x4x128x128 .f32 :=
  Host.dotGeneral dot_S1x16x4x512x128_S1x16x128x4x512_S1x16x4x128x128_3_4_4_2_012_013 none (transpose S1x16x4x512x128 [0, 1, 3, 4, 2] (v112) transposes_S1x16x128x4x512_S1x16x4x512x128_0_1_3_4_2) (v8)
theorem f_v149 : E4 m c (devRef .tc main_v149) = o_v149 (E4 m c (devRef .tc main_v112)) (E4 m c (devRef .tc main_v8)) := by
  rw [later37 m c main_v149, later36 m c main_v112, later36 m c main_v8, P37]
  generalize P36 m c = V
  simp only [o_v149, g36]
  after_results_entrywise [cast_eq]
def o_v152 (v140 : FVec F S1x16x128x4x512 .f32) (v148 : FVec F S1x16x4x512x128 .f32) (v37 : FVec F S1x16x4x128x128 .f32) : FVec F S1x16x128x4x512 .f32 :=
  addf (v140) (transpose S1x16x128x4x512 [0, 1, 4, 2, 3] (Host.dotGeneral dot_S1x16x4x512x128_S1x16x4x128x128_S1x16x4x512x128_4_3_3_4_012_012 none (v148) (v37)) transposes_S1x16x4x512x128_S1x16x128x4x512_0_1_4_2_3)
theorem f_v152 : E4 m c (devRef .tc main_v152) = o_v152 (E4 m c (devRef .tc main_v140)) (E4 m c (devRef .tc main_v148)) (E4 m c (devRef .tc main_v37)) := by
  rw [later38 m c main_v152, later37 m c main_v140, later37 m c main_v148, later37 m c main_v37, P38]
  generalize P37 m c = V
  simp only [o_v152, g37]
  after_results_entrywise [cast_eq]
def o_v154 (v149 : FVec F S1x16x4x128x128 .f32) (v35 : FVec F S1x1x4x128x128 .f32) : FVec F S1x16x4x128x128 .f32 :=
  mulf (v149) (broadcastInDim S1x16x4x128x128 ![0, 1, 2, 3, 4] bcast_S1x1x4x128x128_S1x16x4x128x128_0_1_2_3_4 (v35))
theorem f_v154 : E4 m c (devRef .tc main_v154) = o_v154 (E4 m c (devRef .tc main_v149)) (E4 m c (devRef .tc main_v35)) := by
  rw [later39 m c main_v154, later38 m c main_v149, later38 m c main_v35, P39]
  generalize P38 m c = V
  simp only [o_v154, g38]
  after_results_entrywise [cast_eq]
def o_v157 (v147 : FVec F S1x16x128x4x256 .f32) (v154 : FVec F S1x16x4x128x128 .f32) (v6 : FVec F S1x16x128x4x256 .f32) : FVec F S1x16x128x4x256 .f32 :=
  addf (v147) (transpose S1x16x128x4x256 [0, 1, 3, 2, 4] (Host.dotGeneral dot_S1x16x4x128x128_S1x16x128x4x256_S1x16x4x128x256_3_2_4_4_012_013 none (v154) (v6)) transposes_S1x16x4x128x256_S1x16x128x4x256_0_1_3_2_4)
theorem f_v157 : E4 m c (devRef .tc main_v157) = o_v157 (E4 m c (devRef .tc main_v147)) (E4 m c (devRef .tc main_v154)) (E4 m c (devRef .tc main_v6)) := by
  rw [later40 m c main_v157, later39 m c main_v147, later39 m c main_v154, later39 m c main_v6, P40]
  generalize P39 m c = V
  simp only [o_v157, g39]
  after_results_entrywise [cast_eq]
def o_v160 (v127 : FVec F S1x16x128x4x256 .f32) (v154 : FVec F S1x16x4x128x128 .f32) (v7 : FVec F S1x16x128x4x256 .f32) : FVec F S1x16x128x4x256 .f32 :=
  addf (v127) (transpose S1x16x128x4x256 [0, 1, 3, 2, 4] (Host.dotGeneral dot_S1x16x4x128x128_S1x16x128x4x256_S1x16x4x128x256_4_2_3_4_012_013 none (v154) (v7)) transposes_S1x16x4x128x256_S1x16x128x4x256_0_1_3_2_4)
theorem f_v160 : E4 m c (devRef .tc main_v160) = o_v160 (E4 m c (devRef .tc main_v127)) (E4 m c (devRef .tc main_v154)) (E4 m c (devRef .tc main_v7)) := by
  rw [later41 m c main_v160, later40 m c main_v127, later40 m c main_v154, later40 m c main_v7, P41]
  generalize P40 m c = V
  simp only [o_v160, g40]
  after_results_entrywise [cast_eq]
def o_v164 (v160 : FVec F S1x16x128x4x256 .f32) : FVec F S2048x1024 .f32 :=
  shapeCast S2048x1024 (shapeCast S1x2048x4x256 (v160) shapeCasts_S1x16x128x4x256_S1x2048x4x256) shapeCasts_S1x2048x4x256_S2048x1024
theorem f_v164 : E4 m c (devRef .tc main_v164) = o_v164 (E4 m c (devRef .tc main_v160)) := by
  rw [at41 m c main_v164, later41 m c main_v160]
  show after g41 (P41 m c) _ = _
  generalize P41 m c = V
  simp only [o_v164, g41]
  after_results_entrywise [cast_eq]
def o_v165 (v157 : FVec F S1x16x128x4x256 .f32) : FVec F S2048x1024 .f32 :=
  shapeCast S2048x1024 (shapeCast S1x2048x4x256 (v157) shapeCasts_S1x16x128x4x256_S1x2048x4x256) shapeCasts_S1x2048x4x256_S2048x1024
theorem f_v165 : E4 m c (devRef .tc main_v165) = o_v165 (E4 m c (devRef .tc main_v157)) := by
  rw [at41 m c main_v165, later41 m c main_v157]
  show after g41 (P41 m c) _ = _
  generalize P41 m c = V
  simp only [o_v165, g41]
  after_results_entrywise [cast_eq]
def o_v166 (v152 : FVec F S1x16x128x4x512 .f32) : FVec F S2048x2048 .f32 :=
  shapeCast S2048x2048 (shapeCast S1x2048x4x512 (v152) shapeCasts_S1x16x128x4x512_S1x2048x4x512) shapeCasts_S1x2048x4x512_S2048x2048
theorem f_v166 : E4 m c (devRef .tc main_v166) = o_v166 (E4 m c (devRef .tc main_v152)) := by
  rw [at41 m c main_v166, later41 m c main_v152]
  show after g41 (P41 m c) _ = _
  generalize P41 m c = V
  simp only [o_v166, g41]
  after_results_entrywise [cast_eq]

end Cert.ReferenceIdeal.Ret
end
-- ==== Proof.Ret.RefLoop.lean ====
module

public import proofs.«01_k».proof.Proof.Ret.RefRead
@[expose] public section
set_option maxRecDepth 16384
noncomputable section
namespace Cert.ReferenceIdeal.Ret
open Cert.ReferenceIdeal Cert.ReferenceIdeal.Gen
open Idealize.ShloMosaic.Proc (devRef)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
variable {F : FTy → Type} [FloatOps F]
variable (m : (ℓ : Loc nD τ sig) → Buf (Elt F) ℓ)

/-- The chunk of a stack of states at a position. -/
def cutAt (A : FVec F S16x1x4x256x512 .f32) (i : IVec S_ 32) : FVec F S1x4x256x512 .f32 :=
  shapeCast S1x4x256x512 (Host.dynamicSlice S1x1x4x256x512 A (fun k => ((![i, constantI S_ 32 0#32, constantI S_ 32 0#32, constantI S_ 32 0#32, constantI S_ 32 0#32] : Fin 5 → IVec S_ 32) k (Shape.Idx.first h_S_)).toInt) sliceFits_S16x1x4x256x512_S1x1x4x256x512) shapeCasts_S1x1x4x256x512_S1x4x256x512
/-- A stack of states with one chunk written. -/
def putAt (A : FVec F S16x1x4x256x512 .f32) (s : FVec F S1x4x256x512 .f32) (i : IVec S_ 32) : FVec F S16x1x4x256x512 .f32 :=
  Host.dynamicUpdateSlice A (broadcastInDim S1x1x4x256x512 ![1, 2, 3, 4] bcast_S1x4x256x512_S1x1x4x256x512_1_2_3_4 s) (fun k => ((![i, constantI S_ 32 0#32, constantI S_ 32 0#32, constantI S_ 32 0#32, constantI S_ 32 0#32] : Fin 5 → IVec S_ 32) k (Shape.Idx.first h_S_)).toInt) updateFits_S16x1x4x256x512_S1x1x4x256x512
/-- A state decayed by its heads' decays. -/
def decayed (d : FVec F S1x4x1x1 .f32) (s : FVec F S1x4x256x512 .f32) : FVec F S1x4x256x512 .f32 :=
  mulf (broadcastInDim S1x4x256x512 ![0, 1, 2, 3] bcast_S1x4x1x1_S1x4x256x512_0_1_2_3 d) s
/-- The position counted from the end. -/
def backAt (i : IVec S_ 32) : IVec S_ 32 := subi (subi (constantI S_ 32 16#32) i) (constantI S_ 32 1#32)

theorem t0_0_while0b_v167 (V : Valuation τ sig (Elt F)) : after b0_0 V (devRef .tc main_while0b_v167) = cutAt (V (devRef .tc main_v74_0)) (V (devRef .tc main_v74_2)) := by
  unfold cutAt
  simp only [b0_0]
  after_results_entrywise [cast_eq]
theorem t0_1_while0b_v170 (V : Valuation τ sig (Elt F)) : after b0_1 V (devRef .tc main_while0b_v170) = addf (decayed (V (devRef .tc main_v74_1)) (V (devRef .tc main_v74_3))) (V (devRef .tc main_while0b_v167)) := by
  unfold decayed
  simp only [b0_1]
  after_results_entrywise [cast_eq]
theorem t0_2_while0b_v171 (V : Valuation τ sig (Elt F)) : after b0_2 V (devRef .tc main_while0b_v171) = putAt (V (devRef .tc main_v74_4)) (V (devRef .tc main_v74_3)) (V (devRef .tc main_v74_2)) := by
  unfold putAt
  simp only [b0_2]
  after_results_entrywise [cast_eq]
theorem t0_3_v74_3 (V : Valuation τ sig (Elt F)) : after b0_3 V (devRef .tc main_v74_3) = (V (devRef .tc main_while0b_v170)) := by
  simp only [b0_3]
  after_results_entrywise [cast_eq]
theorem t0_3_v74_4 (V : Valuation τ sig (Elt F)) : after b0_3 V (devRef .tc main_v74_4) = (V (devRef .tc main_while0b_v171)) := by
  simp only [b0_3]
  after_results_entrywise [cast_eq]
/-- One trip of loop 0. -/
theorem trip0_3 (V : Valuation τ sig (Elt F)) : afterL bd0 (after c0 V) (devRef .tc main_v74_3) = addf (decayed (V (devRef .tc main_v74_1)) (V (devRef .tc main_v74_3))) (cutAt (V (devRef .tc main_v74_0)) (V (devRef .tc main_v74_2))) := by
  simp only [afterL_cons, afterL_nil]
  rw [t0_3_v74_3,
    (after_of_writes_sub b0_2 _ b0_2_ok.w (r := main_while0b_v170) (by decide +kernel)),
    t0_1_while0b_v170,
    (after_of_writes_sub b0_0 _ b0_0_ok.w (r := main_v74_1) (by decide +kernel)),
    (after_of_writes_sub b0_0 _ b0_0_ok.w (r := main_v74_3) (by decide +kernel)),
    t0_0_while0b_v167,
    (after_of_writes_sub c0 _ c0_ok.w (r := main_v74_1) (by decide +kernel)),
    (after_of_writes_sub c0 _ c0_ok.w (r := main_v74_3) (by decide +kernel)),
    (after_of_writes_sub c0 _ c0_ok.w (r := main_v74_0) (by decide +kernel)),
    (after_of_writes_sub c0 _ c0_ok.w (r := main_v74_2) (by decide +kernel))]
/-- One trip of loop 0. -/
theorem trip0_4 (V : Valuation τ sig (Elt F)) : afterL bd0 (after c0 V) (devRef .tc main_v74_4) = putAt (V (devRef .tc main_v74_4)) (V (devRef .tc main_v74_3)) (V (devRef .tc main_v74_2)) := by
  simp only [afterL_cons, afterL_nil]
  rw [t0_3_v74_4,
    t0_2_while0b_v171,
    (after_of_writes_sub b0_1 _ b0_1_ok.w (r := main_v74_4) (by decide +kernel)),
    (after_of_writes_sub b0_1 _ b0_1_ok.w (r := main_v74_3) (by decide +kernel)),
    (after_of_writes_sub b0_1 _ b0_1_ok.w (r := main_v74_2) (by decide +kernel)),
    (after_of_writes_sub b0_0 _ b0_0_ok.w (r := main_v74_4) (by decide +kernel)),
    (after_of_writes_sub b0_0 _ b0_0_ok.w (r := main_v74_3) (by decide +kernel)),
    (after_of_writes_sub b0_0 _ b0_0_ok.w (r := main_v74_2) (by decide +kernel)),
    (after_of_writes_sub c0 _ c0_ok.w (r := main_v74_4) (by decide +kernel)),
    (after_of_writes_sub c0 _ c0_ok.w (r := main_v74_3) (by decide +kernel)),
    (after_of_writes_sub c0 _ c0_ok.w (r := main_v74_2) (by decide +kernel))]
theorem k0_0 (k : ℕ) (c : Dev nD) : K0 m k c (devRef .tc main_v74_0) = E4 m c (devRef .tc main_v74_0) := by
  rw [keepK0 m c _ (by decide +kernel) k, at18 m c _ (by decide +kernel)]
  rfl
theorem k0_1 (k : ℕ) (c : Dev nD) : K0 m k c (devRef .tc main_v74_1) = E4 m c (devRef .tc main_v74_1) := by
  rw [keepK0 m c _ (by decide +kernel) k, at18 m c _ (by decide +kernel)]
  rfl
/-- The state before the next trip of loop 0. -/
theorem k0_3 (k : ℕ) (c : Dev nD) : K0 m (k + 1) c (devRef .tc main_v74_3) = addf (decayed (E4 m c (devRef .tc main_v74_1)) (K0 m k c (devRef .tc main_v74_3))) (cutAt (E4 m c (devRef .tc main_v74_0)) (fun _ => Scf.iv 0#32 1#32 k)) := by
  rw [show K0 m (k + 1) c = afterL bd0 (after c0 (K0 m k c)) from rfl, trip0_3, k0_0, k0_1, ctr0_at]
  rfl
/-- The stack before the next trip of loop 0. -/
theorem k0_4 (k : ℕ) (c : Dev nD) : K0 m (k + 1) c (devRef .tc main_v74_4) = putAt (K0 m k c (devRef .tc main_v74_4)) (K0 m k c (devRef .tc main_v74_3)) (fun _ => Scf.iv 0#32 1#32 k) := by
  rw [show K0 m (k + 1) c = afterL bd0 (after c0 (K0 m k c)) from rfl, trip0_4, ctr0_at]
  rfl
/-- What loop 0 leaves. -/
theorem e0_4 (c : Dev nD) : E4 m c (devRef .tc main_v74_4) = K0 m 16 c (devRef .tc main_v74_4) := by
  rw [later19 m c _ (by decide +kernel)]
  exact after_of_writes_sub c0 _ c0_ok.w (by decide +kernel)

theorem t1_0_while1b_v168 (V : Valuation τ sig (Elt F)) : after b1_0 V (devRef .tc main_while1b_v168) = backAt (V (devRef .tc main_v76_2)) := by
  unfold backAt
  simp only [b1_0]
  after_results_entrywise [cast_eq]
theorem t1_1_while1b_v169 (V : Valuation τ sig (Elt F)) : after b1_1 V (devRef .tc main_while1b_v169) = cutAt (V (devRef .tc main_v76_0)) (V (devRef .tc main_while1b_v168)) := by
  unfold cutAt
  simp only [b1_1]
  after_results_entrywise [cast_eq]
theorem t1_2_while1b_v172 (V : Valuation τ sig (Elt F)) : after b1_2 V (devRef .tc main_while1b_v172) = addf (decayed (V (devRef .tc main_v76_1)) (V (devRef .tc main_v76_3))) (V (devRef .tc main_while1b_v169)) := by
  unfold decayed
  simp only [b1_2]
  after_results_entrywise [cast_eq]
theorem t1_3_while1b_v173 (V : Valuation τ sig (Elt F)) : after b1_3 V (devRef .tc main_while1b_v173) = putAt (V (devRef .tc main_v76_4)) (V (devRef .tc main_v76_3)) (V (devRef .tc main_while1b_v168)) := by
  unfold putAt
  simp only [b1_3]
  after_results_entrywise [cast_eq]
theorem t1_4_v76_3 (V : Valuation τ sig (Elt F)) : after b1_4 V (devRef .tc main_v76_3) = (V (devRef .tc main_while1b_v172)) := by
  simp only [b1_4]
  after_results_entrywise [cast_eq]
theorem t1_4_v76_4 (V : Valuation τ sig (Elt F)) : after b1_4 V (devRef .tc main_v76_4) = (V (devRef .tc main_while1b_v173)) := by
  simp only [b1_4]
  after_results_entrywise [cast_eq]
/-- One trip of loop 1. -/
theorem trip1_3 (V : Valuation τ sig (Elt F)) : afterL bd1 (after c1 V) (devRef .tc main_v76_3) = addf (decayed (V (devRef .tc main_v76_1)) (V (devRef .tc main_v76_3))) (cutAt (V (devRef .tc main_v76_0)) (backAt (V (devRef .tc main_v76_2)))) := by
  simp only [afterL_cons, afterL_nil]
  rw [t1_4_v76_3,
    (after_of_writes_sub b1_3 _ b1_3_ok.w (r := main_while1b_v172) (by decide +kernel)),
    t1_2_while1b_v172,
    (after_of_writes_sub b1_1 _ b1_1_ok.w (r := main_v76_1) (by decide +kernel)),
    (after_of_writes_sub b1_1 _ b1_1_ok.w (r := main_v76_3) (by decide +kernel)),
    t1_1_while1b_v169,
    (after_of_writes_sub b1_0 _ b1_0_ok.w (r := main_v76_1) (by decide +kernel)),
    (after_of_writes_sub b1_0 _ b1_0_ok.w (r := main_v76_3) (by decide +kernel)),
    (after_of_writes_sub b1_0 _ b1_0_ok.w (r := main_v76_0) (by decide +kernel)),
    t1_0_while1b_v168,
    (after_of_writes_sub c1 _ c1_ok.w (r := main_v76_1) (by decide +kernel)),
    (after_of_writes_sub c1 _ c1_ok.w (r := main_v76_3) (by decide +kernel)),
    (after_of_writes_sub c1 _ c1_ok.w (r := main_v76_0) (by decide +kernel)),
    (after_of_writes_sub c1 _ c1_ok.w (r := main_v76_2) (by decide +kernel))]
/-- One trip of loop 1. -/
theorem trip1_4 (V : Valuation τ sig (Elt F)) : afterL bd1 (after c1 V) (devRef .tc main_v76_4) = putAt (V (devRef .tc main_v76_4)) (V (devRef .tc main_v76_3)) (backAt (V (devRef .tc main_v76_2))) := by
  simp only [afterL_cons, afterL_nil]
  rw [t1_4_v76_4,
    t1_3_while1b_v173,
    (after_of_writes_sub b1_2 _ b1_2_ok.w (r := main_v76_4) (by decide +kernel)),
    (after_of_writes_sub b1_2 _ b1_2_ok.w (r := main_v76_3) (by decide +kernel)),
    (after_of_writes_sub b1_2 _ b1_2_ok.w (r := main_while1b_v168) (by decide +kernel)),
    (after_of_writes_sub b1_1 _ b1_1_ok.w (r := main_v76_4) (by decide +kernel)),
    (after_of_writes_sub b1_1 _ b1_1_ok.w (r := main_v76_3) (by decide +kernel)),
    (after_of_writes_sub b1_1 _ b1_1_ok.w (r := main_while1b_v168) (by decide +kernel)),
    (after_of_writes_sub b1_0 _ b1_0_ok.w (r := main_v76_4) (by decide +kernel)),
    (after_of_writes_sub b1_0 _ b1_0_ok.w (r := main_v76_3) (by decide +kernel)),
    t1_0_while1b_v168,
    (after_of_writes_sub c1 _ c1_ok.w (r := main_v76_4) (by decide +kernel)),
    (after_of_writes_sub c1 _ c1_ok.w (r := main_v76_3) (by decide +kernel)),
    (after_of_writes_sub c1 _ c1_ok.w (r := main_v76_2) (by decide +kernel))]
theorem k1_0 (k : ℕ) (c : Dev nD) : K1 m k c (devRef .tc main_v76_0) = E4 m c (devRef .tc main_v76_0) := by
  rw [keepK1 m c _ (by decide +kernel) k, at19 m c _ (by decide +kernel)]
  rfl
theorem k1_1 (k : ℕ) (c : Dev nD) : K1 m k c (devRef .tc main_v76_1) = E4 m c (devRef .tc main_v76_1) := by
  rw [keepK1 m c _ (by decide +kernel) k, at19 m c _ (by decide +kernel)]
  rfl
/-- The state before the next trip of loop 1. -/
theorem k1_3 (k : ℕ) (c : Dev nD) : K1 m (k + 1) c (devRef .tc main_v76_3) = addf (decayed (E4 m c (devRef .tc main_v76_1)) (K1 m k c (devRef .tc main_v76_3))) (cutAt (E4 m c (devRef .tc main_v76_0)) (backAt (fun _ => Scf.iv 0#32 1#32 k))) := by
  rw [show K1 m (k + 1) c = afterL bd1 (after c1 (K1 m k c)) from rfl, trip1_3, k1_0, k1_1, ctr1_at]
  rfl
/-- The stack before the next trip of loop 1. -/
theorem k1_4 (k : ℕ) (c : Dev nD) : K1 m (k + 1) c (devRef .tc main_v76_4) = putAt (K1 m k c (devRef .tc main_v76_4)) (K1 m k c (devRef .tc main_v76_3)) (backAt (fun _ => Scf.iv 0#32 1#32 k)) := by
  rw [show K1 m (k + 1) c = afterL bd1 (after c1 (K1 m k c)) from rfl, trip1_4, ctr1_at]
  rfl
/-- What loop 1 leaves. -/
theorem e1_4 (c : Dev nD) : E4 m c (devRef .tc main_v76_4) = K1 m 16 c (devRef .tc main_v76_4) := by
  rw [later20 m c _ (by decide +kernel)]
  exact after_of_writes_sub c1 _ c1_ok.w (by decide +kernel)

theorem t2_0_while2b_v167 (V : Valuation τ sig (Elt F)) : after b2_0 V (devRef .tc main_while2b_v167) = cutAt (V (devRef .tc main_v130_0)) (V (devRef .tc main_v130_2)) := by
  unfold cutAt
  simp only [b2_0]
  after_results_entrywise [cast_eq]
theorem t2_1_while2b_v170 (V : Valuation τ sig (Elt F)) : after b2_1 V (devRef .tc main_while2b_v170) = addf (V (devRef .tc main_while2b_v167)) (decayed (V (devRef .tc main_v130_1)) (V (devRef .tc main_v130_3))) := by
  unfold decayed
  simp only [b2_1]
  after_results_entrywise [cast_eq]
theorem t2_2_while2b_v171 (V : Valuation τ sig (Elt F)) : after b2_2 V (devRef .tc main_while2b_v171) = putAt (V (devRef .tc main_v130_4)) (V (devRef .tc main_v130_3)) (V (devRef .tc main_v130_2)) := by
  unfold putAt
  simp only [b2_2]
  after_results_entrywise [cast_eq]
theorem t2_3_v130_3 (V : Valuation τ sig (Elt F)) : after b2_3 V (devRef .tc main_v130_3) = (V (devRef .tc main_while2b_v170)) := by
  simp only [b2_3]
  after_results_entrywise [cast_eq]
theorem t2_3_v130_4 (V : Valuation τ sig (Elt F)) : after b2_3 V (devRef .tc main_v130_4) = (V (devRef .tc main_while2b_v171)) := by
  simp only [b2_3]
  after_results_entrywise [cast_eq]
/-- One trip of loop 2. -/
theorem trip2_3 (V : Valuation τ sig (Elt F)) : afterL bd2 (after c2 V) (devRef .tc main_v130_3) = addf (cutAt (V (devRef .tc main_v130_0)) (V (devRef .tc main_v130_2))) (decayed (V (devRef .tc main_v130_1)) (V (devRef .tc main_v130_3))) := by
  simp only [afterL_cons, afterL_nil]
  rw [t2_3_v130_3,
    (after_of_writes_sub b2_2 _ b2_2_ok.w (r := main_while2b_v170) (by decide +kernel)),
    t2_1_while2b_v170,
    t2_0_while2b_v167,
    (after_of_writes_sub b2_0 _ b2_0_ok.w (r := main_v130_1) (by decide +kernel)),
    (after_of_writes_sub b2_0 _ b2_0_ok.w (r := main_v130_3) (by decide +kernel)),
    (after_of_writes_sub c2 _ c2_ok.w (r := main_v130_0) (by decide +kernel)),
    (after_of_writes_sub c2 _ c2_ok.w (r := main_v130_2) (by decide +kernel)),
    (after_of_writes_sub c2 _ c2_ok.w (r := main_v130_1) (by decide +kernel)),
    (after_of_writes_sub c2 _ c2_ok.w (r := main_v130_3) (by decide +kernel))]
/-- One trip of loop 2. -/
theorem trip2_4 (V : Valuation τ sig (Elt F)) : afterL bd2 (after c2 V) (devRef .tc main_v130_4) = putAt (V (devRef .tc main_v130_4)) (V (devRef .tc main_v130_3)) (V (devRef .tc main_v130_2)) := by
  simp only [afterL_cons, afterL_nil]
  rw [t2_3_v130_4,
    t2_2_while2b_v171,
    (after_of_writes_sub b2_1 _ b2_1_ok.w (r := main_v130_4) (by decide +kernel)),
    (after_of_writes_sub b2_1 _ b2_1_ok.w (r := main_v130_3) (by decide +kernel)),
    (after_of_writes_sub b2_1 _ b2_1_ok.w (r := main_v130_2) (by decide +kernel)),
    (after_of_writes_sub b2_0 _ b2_0_ok.w (r := main_v130_4) (by decide +kernel)),
    (after_of_writes_sub b2_0 _ b2_0_ok.w (r := main_v130_3) (by decide +kernel)),
    (after_of_writes_sub b2_0 _ b2_0_ok.w (r := main_v130_2) (by decide +kernel)),
    (after_of_writes_sub c2 _ c2_ok.w (r := main_v130_4) (by decide +kernel)),
    (after_of_writes_sub c2 _ c2_ok.w (r := main_v130_3) (by decide +kernel)),
    (after_of_writes_sub c2 _ c2_ok.w (r := main_v130_2) (by decide +kernel))]
theorem k2_0 (k : ℕ) (c : Dev nD) : K2 m k c (devRef .tc main_v130_0) = E4 m c (devRef .tc main_v130_0) := by
  rw [keepK2 m c _ (by decide +kernel) k, at31 m c _ (by decide +kernel)]
  rfl
theorem k2_1 (k : ℕ) (c : Dev nD) : K2 m k c (devRef .tc main_v130_1) = E4 m c (devRef .tc main_v130_1) := by
  rw [keepK2 m c _ (by decide +kernel) k, at31 m c _ (by decide +kernel)]
  rfl
/-- The state before the next trip of loop 2. -/
theorem k2_3 (k : ℕ) (c : Dev nD) : K2 m (k + 1) c (devRef .tc main_v130_3) = addf (cutAt (E4 m c (devRef .tc main_v130_0)) (fun _ => Scf.iv 0#32 1#32 k)) (decayed (E4 m c (devRef .tc main_v130_1)) (K2 m k c (devRef .tc main_v130_3))) := by
  rw [show K2 m (k + 1) c = afterL bd2 (after c2 (K2 m k c)) from rfl, trip2_3, k2_0, k2_1, ctr2_at]
  rfl
/-- The stack before the next trip of loop 2. -/
theorem k2_4 (k : ℕ) (c : Dev nD) : K2 m (k + 1) c (devRef .tc main_v130_4) = putAt (K2 m k c (devRef .tc main_v130_4)) (K2 m k c (devRef .tc main_v130_3)) (fun _ => Scf.iv 0#32 1#32 k) := by
  rw [show K2 m (k + 1) c = afterL bd2 (after c2 (K2 m k c)) from rfl, trip2_4, ctr2_at]
  rfl
/-- What loop 2 leaves. -/
theorem e2_4 (c : Dev nD) : E4 m c (devRef .tc main_v130_4) = K2 m 16 c (devRef .tc main_v130_4) := by
  rw [later32 m c _ (by decide +kernel)]
  exact after_of_writes_sub c2 _ c2_ok.w (by decide +kernel)

theorem t3_0_while3b_v168 (V : Valuation τ sig (Elt F)) : after b3_0 V (devRef .tc main_while3b_v168) = backAt (V (devRef .tc main_v133_2)) := by
  unfold backAt
  simp only [b3_0]
  after_results_entrywise [cast_eq]
theorem t3_1_while3b_v169 (V : Valuation τ sig (Elt F)) : after b3_1 V (devRef .tc main_while3b_v169) = cutAt (V (devRef .tc main_v133_0)) (V (devRef .tc main_while3b_v168)) := by
  unfold cutAt
  simp only [b3_1]
  after_results_entrywise [cast_eq]
theorem t3_2_while3b_v172 (V : Valuation τ sig (Elt F)) : after b3_2 V (devRef .tc main_while3b_v172) = addf (V (devRef .tc main_while3b_v169)) (decayed (V (devRef .tc main_v133_1)) (V (devRef .tc main_v133_3))) := by
  unfold decayed
  simp only [b3_2]
  after_results_entrywise [cast_eq]
theorem t3_3_while3b_v173 (V : Valuation τ sig (Elt F)) : after b3_3 V (devRef .tc main_while3b_v173) = putAt (V (devRef .tc main_v133_4)) (V (devRef .tc main_v133_3)) (V (devRef .tc main_while3b_v168)) := by
  unfold putAt
  simp only [b3_3]
  after_results_entrywise [cast_eq]
theorem t3_4_v133_3 (V : Valuation τ sig (Elt F)) : after b3_4 V (devRef .tc main_v133_3) = (V (devRef .tc main_while3b_v172)) := by
  simp only [b3_4]
  after_results_entrywise [cast_eq]
theorem t3_4_v133_4 (V : Valuation τ sig (Elt F)) : after b3_4 V (devRef .tc main_v133_4) = (V (devRef .tc main_while3b_v173)) := by
  simp only [b3_4]
  after_results_entrywise [cast_eq]
/-- One trip of loop 3. -/
theorem trip3_3 (V : Valuation τ sig (Elt F)) : afterL bd3 (after c3 V) (devRef .tc main_v133_3) = addf (cutAt (V (devRef .tc main_v133_0)) (backAt (V (devRef .tc main_v133_2)))) (decayed (V (devRef .tc main_v133_1)) (V (devRef .tc main_v133_3))) := by
  simp only [afterL_cons, afterL_nil]
  rw [t3_4_v133_3,
    (after_of_writes_sub b3_3 _ b3_3_ok.w (r := main_while3b_v172) (by decide +kernel)),
    t3_2_while3b_v172,
    t3_1_while3b_v169,
    (after_of_writes_sub b3_1 _ b3_1_ok.w (r := main_v133_1) (by decide +kernel)),
    (after_of_writes_sub b3_1 _ b3_1_ok.w (r := main_v133_3) (by decide +kernel)),
    (after_of_writes_sub b3_0 _ b3_0_ok.w (r := main_v133_0) (by decide +kernel)),
    t3_0_while3b_v168,
    (after_of_writes_sub b3_0 _ b3_0_ok.w (r := main_v133_1) (by decide +kernel)),
    (after_of_writes_sub b3_0 _ b3_0_ok.w (r := main_v133_3) (by decide +kernel)),
    (after_of_writes_sub c3 _ c3_ok.w (r := main_v133_0) (by decide +kernel)),
    (after_of_writes_sub c3 _ c3_ok.w (r := main_v133_2) (by decide +kernel)),
    (after_of_writes_sub c3 _ c3_ok.w (r := main_v133_1) (by decide +kernel)),
    (after_of_writes_sub c3 _ c3_ok.w (r := main_v133_3) (by decide +kernel))]
/-- One trip of loop 3. -/
theorem trip3_4 (V : Valuation τ sig (Elt F)) : afterL bd3 (after c3 V) (devRef .tc main_v133_4) = putAt (V (devRef .tc main_v133_4)) (V (devRef .tc main_v133_3)) (backAt (V (devRef .tc main_v133_2))) := by
  simp only [afterL_cons, afterL_nil]
  rw [t3_4_v133_4,
    t3_3_while3b_v173,
    (after_of_writes_sub b3_2 _ b3_2_ok.w (r := main_v133_4) (by decide +kernel)),
    (after_of_writes_sub b3_2 _ b3_2_ok.w (r := main_v133_3) (by decide +kernel)),
    (after_of_writes_sub b3_2 _ b3_2_ok.w (r := main_while3b_v168) (by decide +kernel)),
    (after_of_writes_sub b3_1 _ b3_1_ok.w (r := main_v133_4) (by decide +kernel)),
    (after_of_writes_sub b3_1 _ b3_1_ok.w (r := main_v133_3) (by decide +kernel)),
    (after_of_writes_sub b3_1 _ b3_1_ok.w (r := main_while3b_v168) (by decide +kernel)),
    (after_of_writes_sub b3_0 _ b3_0_ok.w (r := main_v133_4) (by decide +kernel)),
    (after_of_writes_sub b3_0 _ b3_0_ok.w (r := main_v133_3) (by decide +kernel)),
    t3_0_while3b_v168,
    (after_of_writes_sub c3 _ c3_ok.w (r := main_v133_4) (by decide +kernel)),
    (after_of_writes_sub c3 _ c3_ok.w (r := main_v133_3) (by decide +kernel)),
    (after_of_writes_sub c3 _ c3_ok.w (r := main_v133_2) (by decide +kernel))]
theorem k3_0 (k : ℕ) (c : Dev nD) : K3 m k c (devRef .tc main_v133_0) = E4 m c (devRef .tc main_v133_0) := by
  rw [keepK3 m c _ (by decide +kernel) k, at32 m c _ (by decide +kernel)]
  rfl
theorem k3_1 (k : ℕ) (c : Dev nD) : K3 m k c (devRef .tc main_v133_1) = E4 m c (devRef .tc main_v133_1) := by
  rw [keepK3 m c _ (by decide +kernel) k, at32 m c _ (by decide +kernel)]
  rfl
/-- The state before the next trip of loop 3. -/
theorem k3_3 (k : ℕ) (c : Dev nD) : K3 m (k + 1) c (devRef .tc main_v133_3) = addf (cutAt (E4 m c (devRef .tc main_v133_0)) (backAt (fun _ => Scf.iv 0#32 1#32 k))) (decayed (E4 m c (devRef .tc main_v133_1)) (K3 m k c (devRef .tc main_v133_3))) := by
  rw [show K3 m (k + 1) c = afterL bd3 (after c3 (K3 m k c)) from rfl, trip3_3, k3_0, k3_1, ctr3_at]
  rfl
/-- The stack before the next trip of loop 3. -/
theorem k3_4 (k : ℕ) (c : Dev nD) : K3 m (k + 1) c (devRef .tc main_v133_4) = putAt (K3 m k c (devRef .tc main_v133_4)) (K3 m k c (devRef .tc main_v133_3)) (backAt (fun _ => Scf.iv 0#32 1#32 k)) := by
  rw [show K3 m (k + 1) c = afterL bd3 (after c3 (K3 m k c)) from rfl, trip3_4, ctr3_at]
  rfl
/-- What loop 3 leaves. -/
theorem e3_4 (c : Dev nD) : E4 m c (devRef .tc main_v133_4) = K3 m 16 c (devRef .tc main_v133_4) := by
  rw [later33 m c _ (by decide +kernel)]
  exact after_of_writes_sub c3 _ c3_ok.w (by decide +kernel)

end Cert.ReferenceIdeal.Ret
end
-- ==== Proof.Ret.RefElt.lean ====
module

public import proofs.«01_k».proof.Proof.Ret.RefLoop
public import Idealize.ShloMosaic.Lib.Pointwise
public import Idealize.ShloMosaic.Lib.WordCmp
@[expose] public section
set_option maxRecDepth 16384
noncomputable section
namespace Cert.ReferenceIdeal.Ret
open Cert.ReferenceIdeal Cert.ReferenceIdeal.Gen
open Idealize.ShloMosaic Idealize.ShloMosaic.TcCoe
open Idealize.SL.Sem
open Idealize.ShloMosaic.StableHlo

theorem decayed_apply (d : FVec Ideal S1x4x1x1 .f32) (s : FVec Ideal S1x4x256x512 .f32) (h : Fin 4) (x : Fin 256) (y : Fin 512) :
    decayed d s (ix4 0 h x y) = d (ix4 0 h 0 0) * s (ix4 0 h x y) := by
  pointwise [decayed]

/-- Where a chunk lies in the stack. -/
abbrev chunkAt (p : Fin 16) : Fin 5 → ℕ := ![(p : ℕ), 0, 0, 0, 0]

theorem start_eq (p : Fin 16) (a : Fin 5) :
    ((![fun _ => BitVec.ofNat 32 p, constantI S_ 32 0#32, constantI S_ 32 0#32, constantI S_ 32 0#32, constantI S_ 32 0#32] : Fin 5 → IVec S_ 32) a (Shape.Idx.first h_S_)).toInt
      = (chunkAt p a : ℤ) := by
  revert p a
  decide +kernel

theorem chunk_in (p : Fin 16) : S16x1x4x256x512.Slices (chunkAt p) S1x1x4x256x512 := by
  revert p
  decide +kernel

theorem cutAt_apply (A : FVec Ideal S16x1x4x256x512 .f32) (p : Fin 16) (h : Fin 4) (x : Fin 256) (y : Fin 512) :
    cutAt A (fun _ => BitVec.ofNat 32 p) (ix4 0 h x y) = A (ix5 p 0 h x y) := by
  unfold cutAt
  rw [WordCmp.dynamicSlice_eq_extract _ _ _ _ (chunkAt p) (chunk_in p) (start_eq p)]
  pointwise

theorem putAt_apply (A : FVec Ideal S16x1x4x256x512 .f32) (s : FVec Ideal S1x4x256x512 .f32) (p : Fin 16) (n : Fin 16) (h : Fin 4) (x : Fin 256) (y : Fin 512) :
    putAt A s (fun _ => BitVec.ofNat 32 p) (ix5 n 0 h x y) = if n = p then s (ix4 0 h x y) else A (ix5 n 0 h x y) := by
  unfold putAt
  rw [WordCmp.dynamicUpdateSlice_eq_update _ _ _ _ (chunkAt p) (chunk_in p) (start_eq p)]
  unfold updateSlice
  by_cases hn : n = p
  · subst hn
    rw [dif_pos (by
      intro a
      match a with
      | 0 => exact ⟨le_rfl, Nat.lt_succ_self _⟩
      | 1 => exact ⟨le_rfl, Nat.zero_lt_one⟩
      | 2 => exact ⟨Nat.zero_le _, by simpa using h.isLt⟩
      | 3 => exact ⟨Nat.zero_le _, by simpa using x.isLt⟩
      | 4 => exact ⟨Nat.zero_le _, by simpa using y.isLt⟩), if_pos rfl]
    pointwise
    done
  · rw [dif_neg (fun hh => hn (Fin.ext (by
      have h0 := hh 0
      have h1 : (n : ℕ) < p + 1 := h0.2
      have h2 : (p : ℕ) ≤ n := h0.1
      omega))), if_neg hn]

theorem back_eq (p : Fin 16) : backAt (fun _ => BitVec.ofNat 32 p) = fun _ => BitVec.ofNat 32 (Fin.rev p) := by
  funext j
  show IntOp.subi (IntOp.subi 16#32 (BitVec.ofNat 32 p)) 1#32 = BitVec.ofNat 32 (Fin.rev p)
  revert p
  decide +kernel

end Cert.ReferenceIdeal.Ret
end
-- ==== Proof.Ret.RefVal.lean ====
module

public import proofs.«01_k».proof.Proof.Ret.RefRead
public import proofs.«01_k».proof.Proof.Ret.Spec

/-! # The reference's operations, element by element -/

@[expose] public section
set_option maxRecDepth 16384
noncomputable section
namespace Cert.ReferenceIdeal.Ret
open Cert.ReferenceIdeal Cert.ReferenceIdeal.Gen
open Idealize.ShloMosaic Idealize.ShloMosaic.TcCoe
open Idealize.SL.Sem
open Idealize.ShloMosaic.StableHlo

variable (arg1 arg2 : FVec Ideal S2048x1024 .bf16) (r r2 : Fin 2048) (h : Fin 4) (x : Fin 256) (arg3 arg4 : FVec Ideal S2048x2048 .bf16) (e : Fin 512) (v1 v3 : FVec Ideal S1x2048x4x256 .f32) (c : Fin 16) (t u : Fin 128) (v5 : FVec Ideal S1x2048x4x512 .f32) (arg0 : FVec Ideal S2x4 .f32) (v13 : FVec Ideal S128 .f32) (v10 v12 : FVec Ideal S4 .f32) (v18 : FVec Ideal S128x128 .f32) (v20 : IVec S128x128 1) (v25 v31 v32 v33 : FVec Ideal S4x128x128 .f32) (v6 v7 v51 v61 v100 v88 v115 v120 v137 v142 v147 v127 v160 v157 : FVec Ideal S1x16x128x4x256 .f32) (v49 v59 v86 v98 : FVec Ideal S1x1x128x4x1 .f32) (v57 : FVec Ideal S128x4 .f32) (v8 v112 v140 v152 : FVec Ideal S1x16x128x4x512 .f32) (v72 : FVec Ideal S1x4x256x512 .f32) (v76_4 v74_4 v130_4 v133_4 : FVec Ideal S16x1x4x256x512 .f32) (v113 v118 v148 : FVec Ideal S1x16x4x512x128 .f32) (v37 v149 v154 : FVec Ideal S1x16x4x128x128 .f32) (v35 : FVec Ideal S1x1x4x128x128 .f32) (d : Fin 1024)

theorem v1_at :
    o_v1 arg1 (ix4 0 r h x) = arg1 (ix2 r ⟨h.val * 256 + x.val, by omega⟩) := by
  pointwise [o_v1]
theorem v3_at :
    o_v3 arg2 (ix4 0 r h x) = arg2 (ix2 r ⟨h.val * 256 + x.val, by omega⟩) := by
  pointwise [o_v3]
theorem v5_at :
    o_v5 arg3 (ix4 0 r h e) = arg3 (ix2 r ⟨h.val * 512 + e.val, by omega⟩) := by
  pointwise [o_v5]
theorem v6_at :
    o_v6 v1 (ix5 0 c t h x) = v1 (ix4 0 ⟨c.val * 128 + t.val, by omega⟩ h x) := by
  pointwise [o_v6]
theorem v7_at :
    o_v7 v3 (ix5 0 c t h x) = v3 (ix4 0 ⟨c.val * 128 + t.val, by omega⟩ h x) := by
  pointwise [o_v7]
theorem v8_at :
    o_v8 v5 (ix5 0 c t h e) = v5 (ix4 0 ⟨c.val * 128 + t.val, by omega⟩ h e) := by
  pointwise [o_v8]
theorem v10_at :
    o_v10 arg0 (ix1 h) = arg0 (ix2 0 h) := by
  pointwise [o_v10]
theorem v12_at :
    o_v12 arg0 (ix1 h) = arg0 (ix2 1 h) := by
  pointwise [o_v12]
theorem v13_at :
    (o_v13 : FVec Ideal S128 .f32) (ix1 t) = RetSpec.pos t := by
  unfold RetSpec.pos
  pointwise [o_v13]
theorem v18_at :
    o_v18 v13 (ix2 t u) = v13 (ix1 t) - v13 (ix1 u) := by
  pointwise [o_v18]
theorem v20_at :
    o_v20 v13 (ix2 t u) = BitVec.ofBool (decide (0 ≤ v13 (ix1 t) - v13 (ix1 u))) := by
  pointwise [o_v20]
theorem v25_at :
    o_v25 v10 v18 (ix3 h t u) = v10 (ix1 h) * v18 (ix2 t u) := by
  pointwise [o_v25]
theorem v31_at :
    o_v31 v12 v18 (ix3 h t u) = -v12 (ix1 h) * v18 (ix2 t u) := by
  pointwise [o_v31]
theorem v32_at :
    o_v32 v20 v25 v31 (ix3 h t u) = Scalar.select (v20 (ix2 t u)) (v25 (ix3 h t u)) (v31 (ix3 h t u)) := by
  pointwise [o_v32]
theorem v33_at :
    o_v33 v32 (ix3 h t u) = Ideal.exp (v32 (ix3 h t u)) := by
  pointwise [o_v33]
theorem v35_at :
    o_v35 v33 (ix5 0 0 h t u) = v33 (ix3 h t u) := by
  pointwise [o_v35]
theorem v37_at :
    o_v37 v6 v7 v33 (ix5 0 c h t u) = (∑ x, v6 (ix5 0 c t h x) * v7 (ix5 0 c u h x)) * v33 (ix3 h t u) := by
  pointwise [o_v37]
theorem v49_at :
    o_v49 v10 v13 (ix5 0 0 t h 0) = Ideal.exp (v10 (ix1 h) * (Ideal.ofBits FTy.f32 1123942400#32 - v13 (ix1 t))) := by
  pointwise [o_v49]
theorem v51_at :
    o_v51 v7 v49 (ix5 0 c t h x) = v7 (ix5 0 c t h x) * v49 (ix5 0 0 t h 0) := by
  pointwise [o_v51]
theorem v57_at :
    o_v57 v12 v13 (ix2 t h) = Ideal.exp (v12 (ix1 h) * v13 (ix1 t)) := by
  pointwise [o_v57]
theorem v59_at :
    o_v59 v57 (ix5 0 0 t h 0) = v57 (ix2 t h) := by
  pointwise [o_v59]
theorem v61_at :
    o_v61 v7 v59 (ix5 0 c t h x) = v7 (ix5 0 c t h x) * v59 (ix5 0 0 t h 0) := by
  pointwise [o_v61]
theorem v62_at :
    o_v62 v51 v8 (ix5 c 0 h x e) = ∑ t, v51 (ix5 0 c t h x) * v8 (ix5 0 c t h e) := by
  pointwise [o_v62]
theorem v63_at :
    o_v63 v61 v8 (ix5 c 0 h x e) = ∑ t, v61 (ix5 0 c t h x) * v8 (ix5 0 c t h e) := by
  pointwise [o_v63]
theorem v67_at :
    o_v67 v10 (ix4 0 h 0 0) = Ideal.exp (v10 (ix1 h) * Ideal.ofBits FTy.f32 1124073472#32) := by
  pointwise [o_v67]
theorem v71_at :
    o_v71 v12 (ix4 0 h 0 0) = Ideal.exp (v12 (ix1 h) * Ideal.ofBits FTy.f32 1124073472#32) := by
  pointwise [o_v71]
theorem v72_at :
    (o_v72 : FVec Ideal S1x4x256x512 .f32) (ix4 0 h x e) = 0 := by
  pointwise [o_v72]
theorem v74_3_at :
    (o_v74_3 : FVec Ideal S1x4x256x512 .f32) (ix4 0 h x e) = 0 := by
  pointwise [o_v74_3]
theorem v76_3_at :
    o_v76_3 v72 (ix4 0 h x e) = v72 (ix4 0 h x e) := by
  pointwise [o_v76_3]
theorem v86_at :
    o_v86 v10 v13 (ix5 0 0 t h 0) = Ideal.exp (v10 (ix1 h) * (v13 (ix1 t) + 1)) := by
  pointwise [o_v86]
theorem v88_at :
    o_v88 v6 v86 (ix5 0 c t h x) = v6 (ix5 0 c t h x) * v86 (ix5 0 0 t h 0) := by
  pointwise [o_v88]
theorem v98_at :
    o_v98 v12 v13 (ix5 0 0 t h 0) = Ideal.exp (v12 (ix1 h) * (Ideal.ofBits FTy.f32 1124073472#32 - v13 (ix1 t))) := by
  pointwise [o_v98]
theorem v100_at :
    o_v100 v6 v98 (ix5 0 c t h x) = v6 (ix5 0 c t h x) * v98 (ix5 0 0 t h 0) := by
  pointwise [o_v100]
theorem v112_at :
    o_v112 arg4 (ix5 0 c t h e) = arg4 (ix2 ⟨c.val * 128 + t.val, by omega⟩ ⟨h.val * 512 + e.val, by omega⟩) := by
  pointwise [o_v112]
theorem v113_at :
    o_v113 v112 (ix5 0 c h e t) = v112 (ix5 0 c t h e) := by
  pointwise [o_v113]
theorem v115_at :
    o_v115 v112 v76_4 (ix5 0 c t h x) = ∑ e, v112 (ix5 0 c t h e) * v76_4 (ix5 c 0 h x e) := by
  pointwise [o_v115]
theorem v117_at :
    o_v117 v113 v100 (ix5 c 0 h x e) = ∑ t, v113 (ix5 0 c h e t) * v100 (ix5 0 c t h x) := by
  pointwise [o_v117]
theorem v118_at :
    o_v118 v112 (ix5 0 c h e t) = v112 (ix5 0 c t h e) := by
  pointwise [o_v118]
theorem v120_at :
    o_v120 v112 v74_4 (ix5 0 c t h x) = ∑ e, v112 (ix5 0 c t h e) * v74_4 (ix5 c 0 h x e) := by
  pointwise [o_v120]
theorem v122_at :
    o_v122 v118 v88 (ix5 c 0 h x e) = ∑ t, v118 (ix5 0 c h e t) * v88 (ix5 0 c t h x) := by
  pointwise [o_v122]
theorem v127_at :
    o_v127 v115 v98 v120 v86 (ix5 0 c t h x) = v115 (ix5 0 c t h x) * v98 (ix5 0 0 t h 0) + v120 (ix5 0 c t h x) * v86 (ix5 0 0 t h 0) := by
  pointwise [o_v127]
theorem v130_3_at :
    (o_v130_3 : FVec Ideal S1x4x256x512 .f32) (ix4 0 h x e) = 0 := by
  pointwise [o_v130_3]
theorem v133_3_at :
    (o_v133_3 : FVec Ideal S1x4x256x512 .f32) (ix4 0 h x e) = 0 := by
  pointwise [o_v133_3]
theorem v137_at :
    o_v137 v130_4 v8 (ix5 0 c t h x) = ∑ e, v130_4 (ix5 c 0 h x e) * v8 (ix5 0 c t h e) := by
  pointwise [o_v137]
theorem v140_at :
    o_v140 v130_4 v61 v133_4 v51 (ix5 0 c t h e) = ∑ x, v130_4 (ix5 c 0 h x e) * v61 (ix5 0 c t h x) + ∑ x, v133_4 (ix5 c 0 h x e) * v51 (ix5 0 c t h x) := by
  pointwise [o_v140]
theorem v142_at :
    o_v142 v133_4 v8 (ix5 0 c t h x) = ∑ e, v133_4 (ix5 c 0 h x e) * v8 (ix5 0 c t h e) := by
  pointwise [o_v142]
theorem v147_at :
    o_v147 v137 v59 v142 v49 (ix5 0 c t h x) = v137 (ix5 0 c t h x) * v59 (ix5 0 0 t h 0) + v142 (ix5 0 c t h x) * v49 (ix5 0 0 t h 0) := by
  pointwise [o_v147]
theorem v148_at :
    o_v148 v112 (ix5 0 c h e t) = v112 (ix5 0 c t h e) := by
  pointwise [o_v148]
theorem v149_at :
    o_v149 v112 v8 (ix5 0 c h t u) = ∑ e, v112 (ix5 0 c t h e) * v8 (ix5 0 c u h e) := by
  pointwise [o_v149]
theorem v152_at :
    o_v152 v140 v148 v37 (ix5 0 c t h e) = v140 (ix5 0 c t h e) + ∑ u, v148 (ix5 0 c h e u) * v37 (ix5 0 c h u t) := by
  pointwise [o_v152]
theorem v154_at :
    o_v154 v149 v35 (ix5 0 c h t u) = v149 (ix5 0 c h t u) * v35 (ix5 0 0 h t u) := by
  pointwise [o_v154]
theorem v157_at :
    o_v157 v147 v154 v6 (ix5 0 c t h x) = v147 (ix5 0 c t h x) + ∑ u, v154 (ix5 0 c h u t) * v6 (ix5 0 c u h x) := by
  pointwise [o_v157]
theorem v160_at :
    o_v160 v127 v154 v7 (ix5 0 c t h x) = v127 (ix5 0 c t h x) + ∑ u, v154 (ix5 0 c h t u) * v7 (ix5 0 c u h x) := by
  pointwise [o_v160]
theorem v164_at :
    o_v164 v160 (ix2 r d) = v160 (ix5 0 ⟨r.val / 128, by omega⟩ ⟨r.val % 128, Nat.mod_lt _ (by decide)⟩ ⟨d.val / 256, by omega⟩ ⟨d.val % 256, Nat.mod_lt _ (by decide)⟩) := by
  pointwise [o_v164]
theorem v165_at :
    o_v165 v157 (ix2 r d) = v157 (ix5 0 ⟨r.val / 128, by omega⟩ ⟨r.val % 128, Nat.mod_lt _ (by decide)⟩ ⟨d.val / 256, by omega⟩ ⟨d.val % 256, Nat.mod_lt _ (by decide)⟩) := by
  pointwise [o_v165]
theorem v166_at :
    o_v166 v152 (ix2 r r2) = v152 (ix5 0 ⟨r.val / 128, by omega⟩ ⟨r.val % 128, Nat.mod_lt _ (by decide)⟩ ⟨r2.val / 512, by omega⟩ ⟨r2.val % 512, Nat.mod_lt _ (by decide)⟩) := by
  pointwise [o_v166]

end Cert.ReferenceIdeal.Ret
end
-- ==== Proof.Ret.RefState.lean ====
module

public import proofs.«01_k».proof.Proof.Ret.RefElt
public import proofs.«01_k».proof.Proof.Ret.RefVal

/-! # The reference's values, element by element -/

@[expose] public section
set_option maxRecDepth 16384
noncomputable section
namespace Cert.ReferenceIdeal.Ret
open Cert.ReferenceIdeal Cert.ReferenceIdeal.Gen
open Idealize.ShloMosaic.Proc (devRef)
open Idealize.ShloMosaic Idealize.ShloMosaic.TcCoe
open Idealize.SL.Sem
open Idealize.ShloMosaic.StableHlo

variable (m : (ℓ : Loc nD τ sig) → Buf (Elt Ideal) ℓ) (d : Dev nD)

def A0 : FVec Ideal S2x4 .f32 := E4 m d (devRef .tc main_arg0)
def A1 : FVec Ideal S2048x1024 .bf16 := E4 m d (devRef .tc main_arg1)
def A2 : FVec Ideal S2048x1024 .bf16 := E4 m d (devRef .tc main_arg2)
def A3 : FVec Ideal S2048x2048 .bf16 := E4 m d (devRef .tc main_arg3)
def A4 : FVec Ideal S2048x2048 .bf16 := E4 m d (devRef .tc main_arg4)
def W1 : FVec Ideal S1x2048x4x256 .f32 := E4 m d (devRef .tc main_v1)
def W3 : FVec Ideal S1x2048x4x256 .f32 := E4 m d (devRef .tc main_v3)
def W5 : FVec Ideal S1x2048x4x512 .f32 := E4 m d (devRef .tc main_v5)
def W6 : FVec Ideal S1x16x128x4x256 .f32 := E4 m d (devRef .tc main_v6)
def W7 : FVec Ideal S1x16x128x4x256 .f32 := E4 m d (devRef .tc main_v7)
def W8 : FVec Ideal S1x16x128x4x512 .f32 := E4 m d (devRef .tc main_v8)
def W10 : FVec Ideal S4 .f32 := E4 m d (devRef .tc main_v10)
def W12 : FVec Ideal S4 .f32 := E4 m d (devRef .tc main_v12)
def W13 : FVec Ideal S128 .f32 := E4 m d (devRef .tc main_v13)
def W18 : FVec Ideal S128x128 .f32 := E4 m d (devRef .tc main_v18)
def W20 : IVec S128x128 1 := E4 m d (devRef .tc main_v20)
def W25 : FVec Ideal S4x128x128 .f32 := E4 m d (devRef .tc main_v25)
def W31 : FVec Ideal S4x128x128 .f32 := E4 m d (devRef .tc main_v31)
def W32 : FVec Ideal S4x128x128 .f32 := E4 m d (devRef .tc main_v32)
def W33 : FVec Ideal S4x128x128 .f32 := E4 m d (devRef .tc main_v33)
def W35 : FVec Ideal S1x1x4x128x128 .f32 := E4 m d (devRef .tc main_v35)
def W37 : FVec Ideal S1x16x4x128x128 .f32 := E4 m d (devRef .tc main_v37)
def W49 : FVec Ideal S1x1x128x4x1 .f32 := E4 m d (devRef .tc main_v49)
def W51 : FVec Ideal S1x16x128x4x256 .f32 := E4 m d (devRef .tc main_v51)
def W57 : FVec Ideal S128x4 .f32 := E4 m d (devRef .tc main_v57)
def W59 : FVec Ideal S1x1x128x4x1 .f32 := E4 m d (devRef .tc main_v59)
def W61 : FVec Ideal S1x16x128x4x256 .f32 := E4 m d (devRef .tc main_v61)
def W62 : FVec Ideal S16x1x4x256x512 .f32 := E4 m d (devRef .tc main_v62)
def W63 : FVec Ideal S16x1x4x256x512 .f32 := E4 m d (devRef .tc main_v63)
def W67 : FVec Ideal S1x4x1x1 .f32 := E4 m d (devRef .tc main_v67)
def W71 : FVec Ideal S1x4x1x1 .f32 := E4 m d (devRef .tc main_v71)
def W72 : FVec Ideal S1x4x256x512 .f32 := E4 m d (devRef .tc main_v72)
def W74_0 : FVec Ideal S16x1x4x256x512 .f32 := E4 m d (devRef .tc main_v74_0)
def W74_1 : FVec Ideal S1x4x1x1 .f32 := E4 m d (devRef .tc main_v74_1)
def W74_3 : FVec Ideal S1x4x256x512 .f32 := E4 m d (devRef .tc main_v74_3)
def W74_4 : FVec Ideal S16x1x4x256x512 .f32 := E4 m d (devRef .tc main_v74_4)
def W76_0 : FVec Ideal S16x1x4x256x512 .f32 := E4 m d (devRef .tc main_v76_0)
def W76_1 : FVec Ideal S1x4x1x1 .f32 := E4 m d (devRef .tc main_v76_1)
def W76_3 : FVec Ideal S1x4x256x512 .f32 := E4 m d (devRef .tc main_v76_3)
def W76_4 : FVec Ideal S16x1x4x256x512 .f32 := E4 m d (devRef .tc main_v76_4)
def W86 : FVec Ideal S1x1x128x4x1 .f32 := E4 m d (devRef .tc main_v86)
def W88 : FVec Ideal S1x16x128x4x256 .f32 := E4 m d (devRef .tc main_v88)
def W98 : FVec Ideal S1x1x128x4x1 .f32 := E4 m d (devRef .tc main_v98)
def W100 : FVec Ideal S1x16x128x4x256 .f32 := E4 m d (devRef .tc main_v100)
def W112 : FVec Ideal S1x16x128x4x512 .f32 := E4 m d (devRef .tc main_v112)
def W113 : FVec Ideal S1x16x4x512x128 .f32 := E4 m d (devRef .tc main_v113)
def W115 : FVec Ideal S1x16x128x4x256 .f32 := E4 m d (devRef .tc main_v115)
def W117 : FVec Ideal S16x1x4x256x512 .f32 := E4 m d (devRef .tc main_v117)
def W118 : FVec Ideal S1x16x4x512x128 .f32 := E4 m d (devRef .tc main_v118)
def W120 : FVec Ideal S1x16x128x4x256 .f32 := E4 m d (devRef .tc main_v120)
def W122 : FVec Ideal S16x1x4x256x512 .f32 := E4 m d (devRef .tc main_v122)
def W127 : FVec Ideal S1x16x128x4x256 .f32 := E4 m d (devRef .tc main_v127)
def W130_0 : FVec Ideal S16x1x4x256x512 .f32 := E4 m d (devRef .tc main_v130_0)
def W130_1 : FVec Ideal S1x4x1x1 .f32 := E4 m d (devRef .tc main_v130_1)
def W130_3 : FVec Ideal S1x4x256x512 .f32 := E4 m d (devRef .tc main_v130_3)
def W130_4 : FVec Ideal S16x1x4x256x512 .f32 := E4 m d (devRef .tc main_v130_4)
def W133_0 : FVec Ideal S16x1x4x256x512 .f32 := E4 m d (devRef .tc main_v133_0)
def W133_1 : FVec Ideal S1x4x1x1 .f32 := E4 m d (devRef .tc main_v133_1)
def W133_3 : FVec Ideal S1x4x256x512 .f32 := E4 m d (devRef .tc main_v133_3)
def W133_4 : FVec Ideal S16x1x4x256x512 .f32 := E4 m d (devRef .tc main_v133_4)
def W137 : FVec Ideal S1x16x128x4x256 .f32 := E4 m d (devRef .tc main_v137)
def W140 : FVec Ideal S1x16x128x4x512 .f32 := E4 m d (devRef .tc main_v140)
def W142 : FVec Ideal S1x16x128x4x256 .f32 := E4 m d (devRef .tc main_v142)
def W147 : FVec Ideal S1x16x128x4x256 .f32 := E4 m d (devRef .tc main_v147)
def W148 : FVec Ideal S1x16x4x512x128 .f32 := E4 m d (devRef .tc main_v148)
def W149 : FVec Ideal S1x16x4x128x128 .f32 := E4 m d (devRef .tc main_v149)
def W152 : FVec Ideal S1x16x128x4x512 .f32 := E4 m d (devRef .tc main_v152)
def W154 : FVec Ideal S1x16x4x128x128 .f32 := E4 m d (devRef .tc main_v154)
def W157 : FVec Ideal S1x16x128x4x256 .f32 := E4 m d (devRef .tc main_v157)
def W160 : FVec Ideal S1x16x128x4x256 .f32 := E4 m d (devRef .tc main_v160)
def W164 : FVec Ideal S2048x1024 .f32 := E4 m d (devRef .tc main_v164)
def W165 : FVec Ideal S2048x1024 .f32 := E4 m d (devRef .tc main_v165)
def W166 : FVec Ideal S2048x2048 .f32 := E4 m d (devRef .tc main_v166)

variable (r : Fin 2048) (n : Fin 16) (h : Fin 4) (t u : Fin 128) (x : Fin 256) (e : Fin 512)

theorem W1_at : W1 m d (ix4 0 r h x) = A1 m d (ix2 r (RetSpec.colN h x)) :=
  (congrFun (f_v1 m d) _).trans (v1_at ..)
theorem W3_at : W3 m d (ix4 0 r h x) = A2 m d (ix2 r (RetSpec.colN h x)) :=
  (congrFun (f_v3 m d) _).trans (v3_at ..)
theorem W5_at : W5 m d (ix4 0 r h e) = A3 m d (ix2 r (RetSpec.colW h e)) :=
  (congrFun (f_v5 m d) _).trans (v5_at ..)
theorem W6_at : W6 m d (ix5 0 n t h x) = W1 m d (ix4 0 (RetSpec.row n t) h x) :=
  (congrFun (f_v6 m d) _).trans (v6_at ..)
theorem W7_at : W7 m d (ix5 0 n t h x) = W3 m d (ix4 0 (RetSpec.row n t) h x) :=
  (congrFun (f_v7 m d) _).trans (v7_at ..)
theorem W8_at : W8 m d (ix5 0 n t h e) = W5 m d (ix4 0 (RetSpec.row n t) h e) :=
  (congrFun (f_v8 m d) _).trans (v8_at ..)
theorem W10_at : W10 m d (ix1 h) = A0 m d (ix2 0 h) :=
  (congrFun (f_v10 m d) _).trans (v10_at ..)
theorem W12_at : W12 m d (ix1 h) = A0 m d (ix2 1 h) :=
  (congrFun (f_v12 m d) _).trans (v12_at ..)
theorem W13_at : W13 m d (ix1 t) = RetSpec.pos t :=
  (congrFun (f_v13 m d) _).trans (v13_at ..)
theorem W18_at : W18 m d (ix2 t u) = W13 m d (ix1 t) - W13 m d (ix1 u) :=
  (congrFun (f_v18 m d) _).trans (v18_at ..)
theorem W20_at : W20 m d (ix2 t u) = BitVec.ofBool (decide (0 ≤ W13 m d (ix1 t) - W13 m d (ix1 u))) :=
  (congrFun (f_v20 m d) _).trans (v20_at ..)
theorem W25_at : W25 m d (ix3 h t u) = W10 m d (ix1 h) * W18 m d (ix2 t u) :=
  (congrFun (f_v25 m d) _).trans (v25_at ..)
theorem W31_at : W31 m d (ix3 h t u) = -W12 m d (ix1 h) * W18 m d (ix2 t u) :=
  (congrFun (f_v31 m d) _).trans (v31_at ..)
theorem W32_at : W32 m d (ix3 h t u) = Scalar.select (W20 m d (ix2 t u)) (W25 m d (ix3 h t u)) (W31 m d (ix3 h t u)) :=
  (congrFun (f_v32 m d) _).trans (v32_at ..)
theorem W33_at : W33 m d (ix3 h t u) = Ideal.exp (W32 m d (ix3 h t u)) :=
  (congrFun (f_v33 m d) _).trans (v33_at ..)
theorem W35_at : W35 m d (ix5 0 0 h t u) = W33 m d (ix3 h t u) :=
  (congrFun (f_v35 m d) _).trans (v35_at ..)
theorem W37_at : W37 m d (ix5 0 n h t u) = (∑ x, W6 m d (ix5 0 n t h x) * W7 m d (ix5 0 n u h x)) * W33 m d (ix3 h t u) :=
  (congrFun (f_v37 m d) _).trans (v37_at ..)
theorem W49_at : W49 m d (ix5 0 0 t h 0) = Ideal.exp (W10 m d (ix1 h) * (Ideal.ofBits FTy.f32 1123942400#32 - W13 m d (ix1 t))) :=
  (congrFun (f_v49 m d) _).trans (v49_at ..)
theorem W51_at : W51 m d (ix5 0 n t h x) = W7 m d (ix5 0 n t h x) * W49 m d (ix5 0 0 t h 0) :=
  (congrFun (f_v51 m d) _).trans (v51_at ..)
theorem W57_at : W57 m d (ix2 t h) = Ideal.exp (W12 m d (ix1 h) * W13 m d (ix1 t)) :=
  (congrFun (f_v57 m d) _).trans (v57_at ..)
theorem W59_at : W59 m d (ix5 0 0 t h 0) = W57 m d (ix2 t h) :=
  (congrFun (f_v59 m d) _).trans (v59_at ..)
theorem W61_at : W61 m d (ix5 0 n t h x) = W7 m d (ix5 0 n t h x) * W59 m d (ix5 0 0 t h 0) :=
  (congrFun (f_v61 m d) _).trans (v61_at ..)
theorem W62_at : W62 m d (ix5 n 0 h x e) = ∑ t, W51 m d (ix5 0 n t h x) * W8 m d (ix5 0 n t h e) :=
  (congrFun (f_v62 m d) _).trans (v62_at ..)
theorem W63_at : W63 m d (ix5 n 0 h x e) = ∑ t, W61 m d (ix5 0 n t h x) * W8 m d (ix5 0 n t h e) :=
  (congrFun (f_v63 m d) _).trans (v63_at ..)
theorem W67_at : W67 m d (ix4 0 h 0 0) = Ideal.exp (W10 m d (ix1 h) * Ideal.ofBits FTy.f32 1124073472#32) :=
  (congrFun (f_v67 m d) _).trans (v67_at ..)
theorem W71_at : W71 m d (ix4 0 h 0 0) = Ideal.exp (W12 m d (ix1 h) * Ideal.ofBits FTy.f32 1124073472#32) :=
  (congrFun (f_v71 m d) _).trans (v71_at ..)
theorem W72_at : W72 m d (ix4 0 h x e) = 0 :=
  (congrFun (f_v72 m d) _).trans (v72_at ..)
theorem W86_at : W86 m d (ix5 0 0 t h 0) = Ideal.exp (W10 m d (ix1 h) * (W13 m d (ix1 t) + 1)) :=
  (congrFun (f_v86 m d) _).trans (v86_at ..)
theorem W88_at : W88 m d (ix5 0 n t h x) = W6 m d (ix5 0 n t h x) * W86 m d (ix5 0 0 t h 0) :=
  (congrFun (f_v88 m d) _).trans (v88_at ..)
theorem W98_at : W98 m d (ix5 0 0 t h 0) = Ideal.exp (W12 m d (ix1 h) * (Ideal.ofBits FTy.f32 1124073472#32 - W13 m d (ix1 t))) :=
  (congrFun (f_v98 m d) _).trans (v98_at ..)
theorem W100_at : W100 m d (ix5 0 n t h x) = W6 m d (ix5 0 n t h x) * W98 m d (ix5 0 0 t h 0) :=
  (congrFun (f_v100 m d) _).trans (v100_at ..)
theorem W112_at : W112 m d (ix5 0 n t h e) = A4 m d (ix2 (RetSpec.row n t) (RetSpec.colW h e)) :=
  (congrFun (f_v112 m d) _).trans (v112_at ..)
theorem W113_at : W113 m d (ix5 0 n h e t) = W112 m d (ix5 0 n t h e) :=
  (congrFun (f_v113 m d) _).trans (v113_at ..)
theorem W115_at : W115 m d (ix5 0 n t h x) = ∑ e, W112 m d (ix5 0 n t h e) * W76_4 m d (ix5 n 0 h x e) :=
  (congrFun (f_v115 m d) _).trans (v115_at ..)
theorem W117_at : W117 m d (ix5 n 0 h x e) = ∑ t, W113 m d (ix5 0 n h e t) * W100 m d (ix5 0 n t h x) :=
  (congrFun (f_v117 m d) _).trans (v117_at ..)
theorem W118_at : W118 m d (ix5 0 n h e t) = W112 m d (ix5 0 n t h e) :=
  (congrFun (f_v118 m d) _).trans (v118_at ..)
theorem W120_at : W120 m d (ix5 0 n t h x) = ∑ e, W112 m d (ix5 0 n t h e) * W74_4 m d (ix5 n 0 h x e) :=
  (congrFun (f_v120 m d) _).trans (v120_at ..)
theorem W122_at : W122 m d (ix5 n 0 h x e) = ∑ t, W118 m d (ix5 0 n h e t) * W88 m d (ix5 0 n t h x) :=
  (congrFun (f_v122 m d) _).trans (v122_at ..)
theorem W127_at : W127 m d (ix5 0 n t h x) = W115 m d (ix5 0 n t h x) * W98 m d (ix5 0 0 t h 0) + W120 m d (ix5 0 n t h x) * W86 m d (ix5 0 0 t h 0) :=
  (congrFun (f_v127 m d) _).trans (v127_at ..)
theorem W137_at : W137 m d (ix5 0 n t h x) = ∑ e, W130_4 m d (ix5 n 0 h x e) * W8 m d (ix5 0 n t h e) :=
  (congrFun (f_v137 m d) _).trans (v137_at ..)
theorem W140_at : W140 m d (ix5 0 n t h e) = ∑ x, W130_4 m d (ix5 n 0 h x e) * W61 m d (ix5 0 n t h x) + ∑ x, W133_4 m d (ix5 n 0 h x e) * W51 m d (ix5 0 n t h x) :=
  (congrFun (f_v140 m d) _).trans (v140_at ..)
theorem W142_at : W142 m d (ix5 0 n t h x) = ∑ e, W133_4 m d (ix5 n 0 h x e) * W8 m d (ix5 0 n t h e) :=
  (congrFun (f_v142 m d) _).trans (v142_at ..)
theorem W147_at : W147 m d (ix5 0 n t h x) = W137 m d (ix5 0 n t h x) * W59 m d (ix5 0 0 t h 0) + W142 m d (ix5 0 n t h x) * W49 m d (ix5 0 0 t h 0) :=
  (congrFun (f_v147 m d) _).trans (v147_at ..)
theorem W148_at : W148 m d (ix5 0 n h e t) = W112 m d (ix5 0 n t h e) :=
  (congrFun (f_v148 m d) _).trans (v148_at ..)
theorem W149_at : W149 m d (ix5 0 n h t u) = ∑ e, W112 m d (ix5 0 n t h e) * W8 m d (ix5 0 n u h e) :=
  (congrFun (f_v149 m d) _).trans (v149_at ..)
theorem W152_at : W152 m d (ix5 0 n t h e) = W140 m d (ix5 0 n t h e) + ∑ u, W148 m d (ix5 0 n h e u) * W37 m d (ix5 0 n h u t) :=
  (congrFun (f_v152 m d) _).trans (v152_at ..)
theorem W154_at : W154 m d (ix5 0 n h t u) = W149 m d (ix5 0 n h t u) * W35 m d (ix5 0 0 h t u) :=
  (congrFun (f_v154 m d) _).trans (v154_at ..)
theorem W157_at : W157 m d (ix5 0 n t h x) = W147 m d (ix5 0 n t h x) + ∑ u, W154 m d (ix5 0 n h u t) * W6 m d (ix5 0 n u h x) :=
  (congrFun (f_v157 m d) _).trans (v157_at ..)
theorem W160_at : W160 m d (ix5 0 n t h x) = W127 m d (ix5 0 n t h x) + ∑ u, W154 m d (ix5 0 n h t u) * W7 m d (ix5 0 n u h x) :=
  (congrFun (f_v160 m d) _).trans (v160_at ..)
theorem W164_at (z : Fin 1024) : W164 m d (ix2 r z) = W160 m d (ix5 0 ⟨r.val / 128, by omega⟩ ⟨r.val % 128, Nat.mod_lt _ (by decide)⟩ ⟨z.val / 256, by omega⟩ ⟨z.val % 256, Nat.mod_lt _ (by decide)⟩) :=
  (congrFun (f_v164 m d) _).trans (v164_at ..)
theorem W165_at (z : Fin 1024) : W165 m d (ix2 r z) = W157 m d (ix5 0 ⟨r.val / 128, by omega⟩ ⟨r.val % 128, Nat.mod_lt _ (by decide)⟩ ⟨z.val / 256, by omega⟩ ⟨z.val % 256, Nat.mod_lt _ (by decide)⟩) :=
  (congrFun (f_v165 m d) _).trans (v165_at ..)
theorem W166_at (z : Fin 2048) : W166 m d (ix2 r z) = W152 m d (ix5 0 ⟨r.val / 128, by omega⟩ ⟨r.val % 128, Nat.mod_lt _ (by decide)⟩ ⟨z.val / 512, by omega⟩ ⟨z.val % 512, Nat.mod_lt _ (by decide)⟩) :=
  (congrFun (f_v166 m d) _).trans (v166_at ..)

theorem iv_at (k : ℕ) (hk : k < 16) : Scf.iv 0#32 1#32 k = BitVec.ofNat 32 (RetSpec.cN k) := by
  rw [RetSpec.val_cN k hk]
  have h : ∀ k : Fin 16, Scf.iv 0#32 1#32 k.val = BitVec.ofNat 32 k.val := by decide +kernel
  exact h ⟨k, hk⟩

theorem back_iv (k : ℕ) (hk : k < 16) : backAt (fun _ => Scf.iv 0#32 1#32 k) = fun _ => BitVec.ofNat 32 (RetSpec.cR k) := by
  rw [iv_at k hk, back_eq, RetSpec.rev_cN]

def St0 (k : ℕ) : FVec Ideal S1x4x256x512 .f32 := K0 m k d (devRef .tc main_v74_3)
theorem W74_0_eq : W74_0 m d = W62 m d := (f_v74_0 m d).trans ((show ∀ z, o_v74_0 (F := Ideal) z = z from fun _ => rfl) _)
theorem W74_1_eq : W74_1 m d = W67 m d := (f_v74_1 m d).trans ((show ∀ z, o_v74_1 (F := Ideal) z = z from fun _ => rfl) _)
def Ot0 (k : ℕ) : FVec Ideal S16x1x4x256x512 .f32 := K0 m k d (devRef .tc main_v74_4)
theorem St0_succ (k : ℕ) : St0 m d (k + 1) = addf (decayed (W74_1 m d) (St0 m d k)) (cutAt (W74_0 m d) ((fun _ => Scf.iv 0#32 1#32 k))) := k0_3 m k d
theorem Ot0_succ (k : ℕ) : Ot0 m d (k + 1) = putAt (Ot0 m d k) (St0 m d k) ((fun _ => Scf.iv 0#32 1#32 k)) := k0_4 m k d
theorem St0_zero (h : Fin 4) (x : Fin 256) (e : Fin 512) : St0 m d 0 (ix4 0 h x e) = 0 := by
  unfold St0
  rw [show K0 m 0 d = E0 m d from rfl, i_v74_3]
  exact v74_3_at ..
/-- Loop 0 leaves at every chunk the state carried to it. -/
theorem W74_4_at (n : Fin 16) (h : Fin 4) (x : Fin 256) (e : Fin 512) :
    W74_4 m d (ix5 n 0 h x e)
      = RetSpec.carry (W67 m d (ix4 0 h 0 0)) (fun k => W62 m d (ix5 (RetSpec.cN k) 0 h x e)) n.val := by
  refine (congrFun (e0_4 m d) _).trans ?_
  refine RetSpec.scan _ (fun n => W62 m d (ix5 n 0 h x e)) RetSpec.cN (fun n => n.val) (fun n => n.isLt) RetSpec.cN_val RetSpec.val_cN
    (fun k => St0 m d k (ix4 0 h x e)) (fun k n => Ot0 m d k (ix5 n 0 h x e)) (St0_zero m d h x e) ?_ ?_ n
  · intro k hk
    show St0 m d (k + 1) (ix4 0 h x e) = _
    rw [St0_succ, iv_at k hk]
    show decayed (W74_1 m d) (St0 m d k) (ix4 0 h x e) + cutAt (W74_0 m d) (fun _ => BitVec.ofNat 32 (RetSpec.cN k)) (ix4 0 h x e) = _
    rw [decayed_apply, cutAt_apply]
    rw [W74_1_eq, W74_0_eq]
  · intro k hk n
    show Ot0 m d (k + 1) (ix5 n 0 h x e) = _
    rw [Ot0_succ, iv_at k hk, putAt_apply]

def St1 (k : ℕ) : FVec Ideal S1x4x256x512 .f32 := K1 m k d (devRef .tc main_v76_3)
theorem W76_0_eq : W76_0 m d = W63 m d := (f_v76_0 m d).trans ((show ∀ z, o_v76_0 (F := Ideal) z = z from fun _ => rfl) _)
theorem W76_1_eq : W76_1 m d = W71 m d := (f_v76_1 m d).trans ((show ∀ z, o_v76_1 (F := Ideal) z = z from fun _ => rfl) _)
def Ot1 (k : ℕ) : FVec Ideal S16x1x4x256x512 .f32 := K1 m k d (devRef .tc main_v76_4)
theorem St1_succ (k : ℕ) : St1 m d (k + 1) = addf (decayed (W76_1 m d) (St1 m d k)) (cutAt (W76_0 m d) (backAt (fun _ => Scf.iv 0#32 1#32 k))) := k1_3 m k d
theorem Ot1_succ (k : ℕ) : Ot1 m d (k + 1) = putAt (Ot1 m d k) (St1 m d k) (backAt (fun _ => Scf.iv 0#32 1#32 k)) := k1_4 m k d
theorem St1_zero (h : Fin 4) (x : Fin 256) (e : Fin 512) : St1 m d 0 (ix4 0 h x e) = 0 := by
  unfold St1
  rw [show K1 m 0 d = E1 m d from rfl, i_v76_3]
  exact (v76_3_at ..).trans (W72_at m d h x e)
/-- Loop 1 leaves at every chunk the state carried to it. -/
theorem W76_4_at (n : Fin 16) (h : Fin 4) (x : Fin 256) (e : Fin 512) :
    W76_4 m d (ix5 n 0 h x e)
      = RetSpec.carry (W71 m d (ix4 0 h 0 0)) (fun k => W63 m d (ix5 (RetSpec.cR k) 0 h x e)) (15 - n.val) := by
  refine (congrFun (e1_4 m d) _).trans ?_
  refine RetSpec.scan _ (fun n => W63 m d (ix5 n 0 h x e)) RetSpec.cR (fun n => 15 - n.val) (fun n => by show 15 - n.val < 16; omega) RetSpec.cR_val RetSpec.val_cR
    (fun k => St1 m d k (ix4 0 h x e)) (fun k n => Ot1 m d k (ix5 n 0 h x e)) (St1_zero m d h x e) ?_ ?_ n
  · intro k hk
    show St1 m d (k + 1) (ix4 0 h x e) = _
    rw [St1_succ, back_iv k hk]
    show decayed (W76_1 m d) (St1 m d k) (ix4 0 h x e) + cutAt (W76_0 m d) (fun _ => BitVec.ofNat 32 (RetSpec.cR k)) (ix4 0 h x e) = _
    rw [decayed_apply, cutAt_apply]
    rw [W76_1_eq, W76_0_eq]
  · intro k hk n
    show Ot1 m d (k + 1) (ix5 n 0 h x e) = _
    rw [Ot1_succ, back_iv k hk, putAt_apply]

def St2 (k : ℕ) : FVec Ideal S1x4x256x512 .f32 := K2 m k d (devRef .tc main_v130_3)
theorem W130_0_eq : W130_0 m d = W117 m d := (f_v130_0 m d).trans ((show ∀ z, o_v130_0 (F := Ideal) z = z from fun _ => rfl) _)
theorem W130_1_eq : W130_1 m d = W71 m d := (f_v130_1 m d).trans ((show ∀ z, o_v130_1 (F := Ideal) z = z from fun _ => rfl) _)
def Ot2 (k : ℕ) : FVec Ideal S16x1x4x256x512 .f32 := K2 m k d (devRef .tc main_v130_4)
theorem St2_succ (k : ℕ) : St2 m d (k + 1) = addf (cutAt (W130_0 m d) ((fun _ => Scf.iv 0#32 1#32 k))) (decayed (W130_1 m d) (St2 m d k)) := k2_3 m k d
theorem Ot2_succ (k : ℕ) : Ot2 m d (k + 1) = putAt (Ot2 m d k) (St2 m d k) ((fun _ => Scf.iv 0#32 1#32 k)) := k2_4 m k d
theorem St2_zero (h : Fin 4) (x : Fin 256) (e : Fin 512) : St2 m d 0 (ix4 0 h x e) = 0 := by
  unfold St2
  rw [show K2 m 0 d = E2 m d from rfl, i_v130_3]
  exact v130_3_at ..
/-- Loop 2 leaves at every chunk the state carried to it. -/
theorem W130_4_at (n : Fin 16) (h : Fin 4) (x : Fin 256) (e : Fin 512) :
    W130_4 m d (ix5 n 0 h x e)
      = RetSpec.carry (W71 m d (ix4 0 h 0 0)) (fun k => W117 m d (ix5 (RetSpec.cN k) 0 h x e)) n.val := by
  refine (congrFun (e2_4 m d) _).trans ?_
  refine RetSpec.scan _ (fun n => W117 m d (ix5 n 0 h x e)) RetSpec.cN (fun n => n.val) (fun n => n.isLt) RetSpec.cN_val RetSpec.val_cN
    (fun k => St2 m d k (ix4 0 h x e)) (fun k n => Ot2 m d k (ix5 n 0 h x e)) (St2_zero m d h x e) ?_ ?_ n
  · intro k hk
    show St2 m d (k + 1) (ix4 0 h x e) = _
    rw [St2_succ, iv_at k hk]
    show (cutAt (W130_0 m d) (fun _ => BitVec.ofNat 32 (RetSpec.cN k)) (ix4 0 h x e) : EReal) + decayed (W130_1 m d) (St2 m d k) (ix4 0 h x e) = _
    rw [decayed_apply, cutAt_apply, add_comm]
    rw [W130_1_eq, W130_0_eq]
  · intro k hk n
    show Ot2 m d (k + 1) (ix5 n 0 h x e) = _
    rw [Ot2_succ, iv_at k hk, putAt_apply]

def St3 (k : ℕ) : FVec Ideal S1x4x256x512 .f32 := K3 m k d (devRef .tc main_v133_3)
theorem W133_0_eq : W133_0 m d = W122 m d := (f_v133_0 m d).trans ((show ∀ z, o_v133_0 (F := Ideal) z = z from fun _ => rfl) _)
theorem W133_1_eq : W133_1 m d = W67 m d := (f_v133_1 m d).trans ((show ∀ z, o_v133_1 (F := Ideal) z = z from fun _ => rfl) _)
def Ot3 (k : ℕ) : FVec Ideal S16x1x4x256x512 .f32 := K3 m k d (devRef .tc main_v133_4)
theorem St3_succ (k : ℕ) : St3 m d (k + 1) = addf (cutAt (W133_0 m d) (backAt (fun _ => Scf.iv 0#32 1#32 k))) (decayed (W133_1 m d) (St3 m d k)) := k3_3 m k d
theorem Ot3_succ (k : ℕ) : Ot3 m d (k + 1) = putAt (Ot3 m d k) (St3 m d k) (backAt (fun _ => Scf.iv 0#32 1#32 k)) := k3_4 m k d
theorem St3_zero (h : Fin 4) (x : Fin 256) (e : Fin 512) : St3 m d 0 (ix4 0 h x e) = 0 := by
  unfold St3
  rw [show K3 m 0 d = E3 m d from rfl, i_v133_3]
  exact v133_3_at ..
/-- Loop 3 leaves at every chunk the state carried to it. -/
theorem W133_4_at (n : Fin 16) (h : Fin 4) (x : Fin 256) (e : Fin 512) :
    W133_4 m d (ix5 n 0 h x e)
      = RetSpec.carry (W67 m d (ix4 0 h 0 0)) (fun k => W122 m d (ix5 (RetSpec.cR k) 0 h x e)) (15 - n.val) := by
  refine (congrFun (e3_4 m d) _).trans ?_
  refine RetSpec.scan _ (fun n => W122 m d (ix5 n 0 h x e)) RetSpec.cR (fun n => 15 - n.val) (fun n => by show 15 - n.val < 16; omega) RetSpec.cR_val RetSpec.val_cR
    (fun k => St3 m d k (ix4 0 h x e)) (fun k n => Ot3 m d k (ix5 n 0 h x e)) (St3_zero m d h x e) ?_ ?_ n
  · intro k hk
    show St3 m d (k + 1) (ix4 0 h x e) = _
    rw [St3_succ, back_iv k hk]
    show (cutAt (W133_0 m d) (fun _ => BitVec.ofNat 32 (RetSpec.cR k)) (ix4 0 h x e) : EReal) + decayed (W133_1 m d) (St3 m d k) (ix4 0 h x e) = _
    rw [decayed_apply, cutAt_apply, add_comm]
    rw [W133_1_eq, W133_0_eq]
  · intro k hk n
    show Ot3 m d (k + 1) (ix5 n 0 h x e) = _
    rw [Ot3_succ, back_iv k hk, putAt_apply]

/-- Queries of head `h`, by chunk. -/
def rq (h : Fin 4) : Fin 16 → Fin 128 → Fin 256 → EReal := fun n t x => A1 m d (ix2 (RetSpec.row n t) (RetSpec.colN h x))
/-- Keys of head `h`, by chunk. -/
def rk (h : Fin 4) : Fin 16 → Fin 128 → Fin 256 → EReal := fun n t x => A2 m d (ix2 (RetSpec.row n t) (RetSpec.colN h x))
/-- Values of head `h`, by chunk. -/
def rv (h : Fin 4) : Fin 16 → Fin 128 → Fin 512 → EReal := fun n t e => A3 m d (ix2 (RetSpec.row n t) (RetSpec.colW h e))
/-- The incoming gradient of head `h`, by chunk. -/
def ry (h : Fin 4) : Fin 16 → Fin 128 → Fin 512 → EReal := fun n t e => A4 m d (ix2 (RetSpec.row n t) (RetSpec.colW h e))
/-- The forward exponent of head `h`. -/
def rf (h : Fin 4) : EReal := A0 m d (ix2 0 h)
/-- The backward exponent of head `h`. -/
def rb (h : Fin 4) : EReal := A0 m d (ix2 1 h)

theorem q_at : W6 m d (ix5 0 n t h x) = rq m d h n t x := by rw [W6_at, W1_at]; rfl
theorem k_at : W7 m d (ix5 0 n t h x) = rk m d h n t x := by rw [W7_at, W3_at]; rfl
theorem v_at : W8 m d (ix5 0 n t h e) = rv m d h n t e := by rw [W8_at, W5_at]; rfl
theorem y_at : W112 m d (ix5 0 n t h e) = ry m d h n t e := by rw [W112_at]; rfl
theorem wkf_at : W49 m d (ix5 0 0 t h 0) = RetSpec.wkf (rf m d h) t := by rw [W49_at, W10_at, W13_at]; rfl
theorem wkb_at : W59 m d (ix5 0 0 t h 0) = RetSpec.wkb (rb m d h) t := by rw [W59_at, W57_at, W12_at, W13_at]; rfl
theorem wqf_at : W86 m d (ix5 0 0 t h 0) = RetSpec.wqf (rf m d h) t := by rw [W86_at, W10_at, W13_at]; rfl
theorem wqb_at : W98 m d (ix5 0 0 t h 0) = RetSpec.wqb (rb m d h) t := by rw [W98_at, W12_at, W13_at]; rfl
theorem decf_at : W67 m d (ix4 0 h 0 0) = RetSpec.dec (rf m d h) := by rw [W67_at, W10_at]; rfl
theorem decb_at : W71 m d (ix4 0 h 0 0) = RetSpec.dec (rb m d h) := by rw [W71_at, W12_at]; rfl
theorem dm_at : W33 m d (ix3 h t u) = RetSpec.dm (rf m d h) (rb m d h) t u := by
  rw [W33_at, W32_at, W20_at, W25_at, W31_at, W18_at, W13_at, W13_at, W10_at, W12_at]
  unfold RetSpec.dm
  by_cases hc : 0 ≤ RetSpec.pos t - RetSpec.pos u
  · rw [if_pos hc, decide_eq_true hc]
    rfl
  · rw [if_neg hc, decide_eq_false hc]
    rfl
theorem kvf_at : W62 m d (ix5 n 0 h x e) = RetSpec.kvf (rf m d h) (rk m d h) (rv m d h) n x e := by
  rw [W62_at]; simp only [W51_at, k_at, wkf_at, v_at]; rfl
theorem kvb_at : W63 m d (ix5 n 0 h x e) = RetSpec.kvb (rb m d h) (rk m d h) (rv m d h) n x e := by
  rw [W63_at]; simp only [W61_at, k_at, wkb_at, v_at]; rfl
theorem qyb_at : W117 m d (ix5 n 0 h x e) = RetSpec.qyb (rb m d h) (rq m d h) (ry m d h) n x e := by
  rw [W117_at]; simp only [W113_at, W100_at, q_at, wqb_at, y_at]
  exact Finset.sum_congr rfl fun t _ => mul_comm _ _
theorem qyf_at : W122 m d (ix5 n 0 h x e) = RetSpec.qyf (rf m d h) (rq m d h) (ry m d h) n x e := by
  rw [W122_at]; simp only [W118_at, W88_at, q_at, wqf_at, y_at]
  exact Finset.sum_congr rfl fun t _ => mul_comm _ _
theorem stF_at : W74_4 m d (ix5 n 0 h x e) = RetSpec.stF (rf m d h) (rk m d h) (rv m d h) n x e := by
  rw [W74_4_at]; simp only [decf_at, kvf_at]; rfl
theorem stB_at : W76_4 m d (ix5 n 0 h x e) = RetSpec.stB (rb m d h) (rk m d h) (rv m d h) n x e := by
  rw [W76_4_at]; simp only [decb_at, kvb_at]; rfl
theorem adB_at : W130_4 m d (ix5 n 0 h x e) = RetSpec.adB (rb m d h) (rq m d h) (ry m d h) n x e := by
  rw [W130_4_at]; simp only [decb_at, qyb_at]; rfl
theorem adF_at : W133_4 m d (ix5 n 0 h x e) = RetSpec.adF (rf m d h) (rq m d h) (ry m d h) n x e := by
  rw [W133_4_at]; simp only [decf_at, qyf_at]; rfl

theorem flip3 (a b c : EReal) : a + b + c = b + c + a := by rw [add_assoc, add_comm]

theorem join {a a' b b' c c' x y : EReal} (ha : a = a') (hb : b = b') (hc : c = c') :
    c * y + a * x + b = a' * x + b' + c' * y := by
  rw [flip3, ha, hb, hc]

theorem join' {a a' b b' c c' : EReal} (ha : a = a') (hb : b = b') (hc : c = c') : c + a + b = a' + b' + c' := by
  rw [flip3, ha, hb, hc]

theorem ds_at : W154 m d (ix5 0 n h t u) = (∑ e, ry m d h n t e * rv m d h n u e) * RetSpec.dm (rf m d h) (rb m d h) t u := by
  rw [W154_at, W149_at, W35_at, dm_at]
  exact congrArg (· * _) (Finset.sum_congr rfl fun e _ => by rw [y_at, v_at])

theorem sd_at : W37 m d (ix5 0 n h t u) = (∑ x, rq m d h n t x * rk m d h n u x) * RetSpec.dm (rf m d h) (rb m d h) t u := by
  rw [W37_at, dm_at]
  exact congrArg (· * _) (Finset.sum_congr rfl fun x _ => by rw [q_at, k_at])

theorem dq_at : W160 m d (ix5 0 n t h x) = RetSpec.dq (rf m d h) (rb m d h) (rk m d h) (rv m d h) (ry m d h) n t x := by
  rw [W160_at, W127_at, W115_at, W120_at, wqb_at, wqf_at]
  unfold RetSpec.dq
  refine join ?_ ?_ ?_
  · exact Finset.sum_congr rfl fun e _ => by rw [y_at, stF_at]
  · exact Finset.sum_congr rfl fun u _ => by rw [ds_at, k_at]
  · exact Finset.sum_congr rfl fun e _ => by rw [y_at, stB_at]

theorem dk_at : W157 m d (ix5 0 n t h x) = RetSpec.dk (rf m d h) (rb m d h) (rq m d h) (rv m d h) (ry m d h) n t x := by
  rw [W157_at, W147_at, W137_at, W142_at, wkb_at, wkf_at]
  unfold RetSpec.dk
  refine join ?_ ?_ ?_
  · exact Finset.sum_congr rfl fun e _ => by rw [v_at, adF_at, mul_comm]
  · exact Finset.sum_congr rfl fun u _ => by rw [ds_at, q_at]
  · exact Finset.sum_congr rfl fun e _ => by rw [v_at, adB_at, mul_comm]

theorem dv_at : W152 m d (ix5 0 n t h e) = RetSpec.dv (rf m d h) (rb m d h) (rq m d h) (rk m d h) (ry m d h) n t e := by
  rw [W152_at, W140_at]
  unfold RetSpec.dv
  refine join' ?_ ?_ ?_
  · exact Finset.sum_congr rfl fun x _ => by rw [W51_at, k_at, wkf_at, adF_at, mul_comm]
  · exact Finset.sum_congr rfl fun u _ => by rw [W148_at, sd_at, y_at, mul_comm]
  · exact Finset.sum_congr rfl fun x _ => by rw [W61_at, k_at, wkb_at, adB_at, mul_comm]

end Cert.ReferenceIdeal.Ret
end
-- ==== Proof.Ret.RefFinal.lean ====
module

public import proofs.«01_k».proof.Proof.Ret.RefState

/-! # The reference's run: its three results and its arguments -/

@[expose] public section
set_option maxRecDepth 16384
noncomputable section
namespace Cert.ReferenceIdeal.Ret
open Cert.ReferenceIdeal Cert.ReferenceIdeal.Gen
open Idealize.ShloMosaic Idealize.ShloMosaic.TcCoe
open Idealize.SL.Sem
open Idealize.ShloMosaic.StableHlo

section frame
variable {F : FTy → Type} [FloatOps F]
variable (m : (ℓ : Loc nD τ sig) → Buf (Elt F) ℓ) (ρ : Dev nD → PrngReg) (d : Dev nD)

theorem arg0_eq : E4 m d (Proc.devRef .tc main_arg0) = m ((d.tc : Thread nD τ).loc main_arg0) := (later0 m d main_arg0 (by decide +kernel)).trans rfl
theorem arg1_eq : E4 m d (Proc.devRef .tc main_arg1) = m ((d.tc : Thread nD τ).loc main_arg1) := (later0 m d main_arg1 (by decide +kernel)).trans rfl
theorem arg2_eq : E4 m d (Proc.devRef .tc main_arg2) = m ((d.tc : Thread nD τ).loc main_arg2) := (later0 m d main_arg2 (by decide +kernel)).trans rfl
theorem arg3_eq : E4 m d (Proc.devRef .tc main_arg3) = m ((d.tc : Thread nD τ).loc main_arg3) := (later0 m d main_arg3 (by decide +kernel)).trans rfl
theorem arg4_eq : E4 m d (Proc.devRef .tc main_arg4) = m ((d.tc : Thread nD τ).loc main_arg4) := (later0 m d main_arg4 (by decide +kernel)).trans rfl

/-- The arguments end as they began. -/
theorem unchanged : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c main_arg0 rfl).trans (arg0_eq m c), (h.1 c main_arg1 rfl).trans (arg1_eq m c),
    (h.1 c main_arg2 rfl).trans (arg2_eq m c), (h.1 c main_arg3 rfl).trans (arg3_eq m c), (h.1 c main_arg4 rfl).trans (arg4_eq m c)⟩) (run_all_sems m ρ)

/-- The arguments end as they began and every counter is at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_all_sems m ρ))
end frame

variable (m : (ℓ : Loc nD τ sig) → Buf (Elt Ideal) ℓ) (ρ : Dev nD → PrngReg) (d : Dev nD)

theorem A0_eq : A0 m d = m ((d.tc : Thread nD τ).loc main_arg0) := arg0_eq m d
theorem A1_eq : A1 m d = m ((d.tc : Thread nD τ).loc main_arg1) := arg1_eq m d
theorem A2_eq : A2 m d = m ((d.tc : Thread nD τ).loc main_arg2) := arg2_eq m d
theorem A3_eq : A3 m d = m ((d.tc : Thread nD τ).loc main_arg3) := arg3_eq m d
theorem A4_eq : A4 m d = m ((d.tc : Thread nD τ).loc main_arg4) := arg4_eq m d

/-- The three results of the reference. -/
theorem results : θ_run (defs (F := Ideal)) (onTc (τ := τ) (main (F := Ideal))) ⟨m, fun _ => 0, ρ⟩ (fun r => ∀ c : Dev nD,
      r.2.mem ((c.tc : Thread nD τ).loc main_v164) = W164 m c
      ∧ r.2.mem ((c.tc : Thread nD τ).loc main_v165) = W165 m c
      ∧ r.2.mem ((c.tc : Thread nD τ).loc main_v166) = W166 m c) :=
  (θ_run defs _ _).mono (fun r h c => ⟨h.1 c main_v164 rfl, h.1 c main_v165 rfl, h.1 c main_v166 rfl⟩) (run_all_sems m ρ)

end Cert.ReferenceIdeal.Ret
end
-- ==== Proof.Ret.Value.lean ====
module

public import proofs.«01_k».proof.Defs
public import proofs.«01_k».proof.Proof.Ret.KerFinal
public import proofs.«01_k».proof.Proof.Ret.RefFinal

/-! # The kernel's gradients are the reference's, element by element -/

@[expose] public section
set_option maxRecDepth 16384
noncomputable section
namespace Cert.Proof
open Idealize.ShloMosaic Idealize.ShloMosaic.TcCoe Idealize.SL.Sem

section
variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)
  (e0 : m' ((c.tc : Thread ReferenceIdeal.nD ReferenceIdeal.τ).loc ReferenceIdeal.main_arg0) = m ((c.tc : Thread KernelIdeal.nD KernelIdeal.τ).loc KernelIdeal.main_arg0))
  (e1 : m' ((c.tc : Thread ReferenceIdeal.nD ReferenceIdeal.τ).loc ReferenceIdeal.main_arg1) = m ((c.tc : Thread KernelIdeal.nD KernelIdeal.τ).loc KernelIdeal.main_arg1))
  (e2 : m' ((c.tc : Thread ReferenceIdeal.nD ReferenceIdeal.τ).loc ReferenceIdeal.main_arg2) = m ((c.tc : Thread KernelIdeal.nD KernelIdeal.τ).loc KernelIdeal.main_arg2))
  (e3 : m' ((c.tc : Thread ReferenceIdeal.nD ReferenceIdeal.τ).loc ReferenceIdeal.main_arg3) = m ((c.tc : Thread KernelIdeal.nD KernelIdeal.τ).loc KernelIdeal.main_arg3))
  (e4 : m' ((c.tc : Thread ReferenceIdeal.nD ReferenceIdeal.τ).loc ReferenceIdeal.main_arg4) = m ((c.tc : Thread KernelIdeal.nD KernelIdeal.τ).loc KernelIdeal.main_arg4))

include e0 in
theorem A0_same : ReferenceIdeal.Ret.A0 m' c = KernelIdeal.Ret.B0 m c := (ReferenceIdeal.Ret.A0_eq m' c).trans e0
include e1 in
theorem A1_same : ReferenceIdeal.Ret.A1 m' c = KernelIdeal.Ret.B1 m c := (ReferenceIdeal.Ret.A1_eq m' c).trans e1
include e2 in
theorem A2_same : ReferenceIdeal.Ret.A2 m' c = KernelIdeal.Ret.B2 m c := (ReferenceIdeal.Ret.A2_eq m' c).trans e2
include e3 in
theorem A3_same : ReferenceIdeal.Ret.A3 m' c = KernelIdeal.Ret.B3 m c := (ReferenceIdeal.Ret.A3_eq m' c).trans e3
include e4 in
theorem A4_same : ReferenceIdeal.Ret.A4 m' c = KernelIdeal.Ret.B4 m c := (ReferenceIdeal.Ret.A4_eq m' c).trans e4

include e0 in
theorem rf_same (h : Fin 4) : ReferenceIdeal.Ret.rf m' c h = KernelIdeal.Ret.hf m c h := congrFun (A0_same m m' c e0) _
include e0 in
theorem rb_same (h : Fin 4) : ReferenceIdeal.Ret.rb m' c h = KernelIdeal.Ret.hb m c h := congrFun (A0_same m m' c e0) _
include e1 in
theorem rq_same (h : Fin 4) : ReferenceIdeal.Ret.rq m' c h = KernelIdeal.Ret.hq m c h := by
  funext n t x; exact congrFun (A1_same m m' c e1) _
include e2 in
theorem rk_same (h : Fin 4) : ReferenceIdeal.Ret.rk m' c h = KernelIdeal.Ret.hk m c h := by
  funext n t x; exact congrFun (A2_same m m' c e2) _
include e3 in
theorem rv_same (h : Fin 4) : ReferenceIdeal.Ret.rv m' c h = KernelIdeal.Ret.hv m c h := by
  funext n t x; exact congrFun (A3_same m m' c e3) _
include e4 in
theorem ry_same (h : Fin 4) : ReferenceIdeal.Ret.ry m' c h = KernelIdeal.Ret.hy m c h := by
  funext n t x; exact congrFun (A4_same m m' c e4) _

include e0 e2 e3 e4 in
theorem dq_same : ReferenceIdeal.Ret.W164 m' c = KernelIdeal.Ret.dqArr m c := by
  funext i
  obtain ⟨r, z, rfl⟩ : ∃ (r : Fin 2048) (z : Fin 1024), i = ix2 r z := ⟨i 0, i 1, by funext a; fin_cases a <;> rfl⟩
  rw [ReferenceIdeal.Ret.W164_at, ReferenceIdeal.Ret.dq_at, rf_same m m' c e0, rb_same m m' c e0, rk_same m m' c e2,
    rv_same m m' c e3, ry_same m m' c e4]
  rfl

include e0 e1 e3 e4 in
theorem dk_same : ReferenceIdeal.Ret.W165 m' c = KernelIdeal.Ret.dkArr m c := by
  funext i
  obtain ⟨r, z, rfl⟩ : ∃ (r : Fin 2048) (z : Fin 1024), i = ix2 r z := ⟨i 0, i 1, by funext a; fin_cases a <;> rfl⟩
  rw [ReferenceIdeal.Ret.W165_at, ReferenceIdeal.Ret.dk_at, rf_same m m' c e0, rb_same m m' c e0, rq_same m m' c e1,
    rv_same m m' c e3, ry_same m m' c e4]
  rfl

include e0 e1 e2 e4 in
theorem dv_same : ReferenceIdeal.Ret.W166 m' c = KernelIdeal.Ret.dvArr m c := by
  funext i
  obtain ⟨r, z, rfl⟩ : ∃ (r : Fin 2048) (z : Fin 2048), i = ix2 r z := ⟨i 0, i 1, by funext a; fin_cases a <;> rfl⟩
  rw [ReferenceIdeal.Ret.W166_at, ReferenceIdeal.Ret.dv_at, rf_same m m' c e0, rb_same m m' c e0, rq_same m m' c e1,
    rk_same m m' c e2, ry_same m m' c e4]
  rfl
end

/-- From memories agreeing on the arguments both programs run and end with the same three gradients. -/
theorem value : Cert.algebraic_KernelIdeal_ReferenceIdeal := by
  intro m g m' g' _ hm
  refine ⟨KernelIdeal.Ret.dqArr m, KernelIdeal.Ret.dkArr m, KernelIdeal.Ret.dvArr m, ?_, ?_⟩
  · exact (θ_run KernelIdeal.defs _ _).mono (fun r h c => ⟨(h.1 c).1, (h.1 c).2.1, (h.1 c).2.2, h.2 c⟩)
      (θ_run_and (KernelIdeal.Ret.ret_run m g) (KernelIdeal.Ret.unchanged m g))
  · refine (θ_run ReferenceIdeal.defs _ _).mono (fun r h c => ?_)
      (θ_run_and (ReferenceIdeal.Ret.results m' g') (ReferenceIdeal.Ret.unchanged m' g'))
    obtain ⟨e0, e1, e2, e3, e4⟩ := hm c
    exact ⟨(h.1 c).1.trans (dq_same m m' c e0 e2 e3 e4), (h.1 c).2.1.trans (dk_same m m' c e0 e1 e3 e4),
      (h.1 c).2.2.trans (dv_same m m' c e0 e1 e2 e4), h.2 c⟩

end Cert.Proof
end
-- ==== Proof.Mm.Spec.lean ====
module

public import Idealize.ShloMosaic.PureOps.Ideal
public import Idealize.ShloMosaic.Lib.Pipeline.ValueKit
public import Idealize.ShloMosaic.Lib.IdealHost

/-! # The mathematics of the projection and the gated feed-forward, over plain functions of row and column -/

@[expose] public section
noncomputable section
namespace Cert.MmSpec
open Idealize.ShloMosaic

/-- A row divided by its root mean square (with the small constant), times the gain. -/
def nrm (x : Fin 2048 → Fin 2048 → EReal) (g : Fin 2048 → EReal) (r k : Fin 2048) : EReal :=
  x r k * Ideal.rsqrt (Ideal.div (∑ l, x r l * x r l) (Ideal.ofBits .f32 1157627904#32) + Ideal.ofBits .f32 897988541#32) * g k

/-- A row's mean square plus epsilon. -/
def ms (x : Fin 2048 → EReal) : EReal :=
  Ideal.div (∑ l, x l * x l) (Ideal.ofBits .f32 1157627904#32) + Ideal.ofBits .f32 897988541#32
/-- What reaches a row's entries through its mean square. -/
def via (x g d : Fin 2048 → EReal) : EReal :=
  Ideal.div ((∑ l, x l * (d l * g l)) * (Ideal.ofBits .f32 3204448256#32 * Ideal.div (Ideal.rsqrt (ms x)) (ms x))) (Ideal.ofBits .f32 1157627904#32)
/-- The gradient of a row. -/
def ndx (x g d : Fin 2048 → EReal) (k : Fin 2048) : EReal :=
  d k * g k * Ideal.rsqrt (ms x) + x k * via x g d + via x g d * x k
/-- A normed entry less its target. -/
def err (x g u : Fin 2048 → EReal) (k : Fin 2048) : EReal := x k * Ideal.rsqrt (ms x) * g k - u k
/-- The loss's gradient there: over 2048. -/
def ect (x g u : Fin 2048 → EReal) (k : Fin 2048) : EReal := err x g u k * Ideal.ofBits .f32 973078528#32

/-- Half the rows' mean squares. -/
def lossOf (e : Fin 2048 → Fin 2048 → EReal) : EReal :=
  Ideal.ofBits .f32 1056964608#32 * ∑ r, Ideal.div (∑ l, e r l * e r l) (Ideal.ofBits .f32 1157627904#32)

theorem sq_nonneg (e : EReal) : 0 ≤ e * e := by
  rcases le_total 0 e with h | h
  · exact mul_nonneg h h
  · have := mul_nonneg (EReal.neg_nonneg.mpr h) (EReal.neg_nonneg.mpr h)
    rwa [neg_mul_neg] at this
theorem mul_sum {ι : Type} (s : Finset ι) (a : EReal) (f : ι → EReal) (hf : ∀ i, 0 ≤ f i) : a * ∑ i ∈ s, f i = ∑ i ∈ s, a * f i := by
  classical
  induction s using Finset.induction_on with
  | empty => simp
  | insert i s hi ih => rw [Finset.sum_insert hi, Finset.sum_insert hi, EReal.left_distrib_of_nonneg (hf i) (Finset.sum_nonneg fun j _ => hf j), ih]
theorem c2048 : Ideal.ofBits .f32 1157627904#32 = ((2048 : ℝ) : EReal) := by
  simp [Ideal.ofBits, Ideal.ieee, -EReal.coe_mul]; norm_num
theorem cHalf : Ideal.ofBits .f32 1056964608#32 = ((1 / 2 : ℝ) : EReal) := by
  simp [Ideal.ofBits, Ideal.ieee, -EReal.coe_mul]; norm_num
theorem c4096 : Ideal.ofBits .f32 964689920#32 = ((1 / 4096 : ℝ) : EReal) := by
  simp [Ideal.ofBits, Ideal.ieee, -EReal.coe_mul]; norm_num
/-- The loss, block by block. -/
theorem loss_blocks (e : Fin 2048 → Fin 2048 → EReal) (b : Fin 8 → Fin 256 → Fin 2048 → EReal)
    (h : ∀ (s : Fin 8) (k : Fin 256) (hl : s.val * 256 + k.val < 2048), b s k = e ⟨s.val * 256 + k.val, hl⟩) :
    ∑ s, Ideal.ofBits .f32 964689920#32 * ∑ k, ∑ l, b s k l * b s k l = lossOf e := by
  have p : ∀ r, 0 ≤ ∑ l, e r l * e r l := fun r => Finset.sum_nonneg fun l _ => sq_nonneg _
  unfold lossOf
  simp only [c2048, Ideal.div_coe (y := 2048) (by norm_num)]
  rw [mul_sum _ _ _ fun r => mul_nonneg (p r) (EReal.coe_nonneg.mpr (by norm_num))]
  refine (Finset.sum_congr rfl fun s _ => mul_sum _ _ _ fun k => Finset.sum_nonneg fun l _ => sq_nonneg _).trans ?_
  refine Fin.sum_mul_add_congr fun s k hl => ?_
  rw [h s k hl, c4096, cHalf, mul_comm (∑ l, _) _, ← mul_assoc, ← EReal.coe_mul]
  norm_num

theorem c2 : Ideal.ofBits .f32 1073741824#32 = ((2 : ℝ) : EReal) := by
  simp [Ideal.ofBits, Ideal.ieee, -EReal.coe_mul]; norm_num
theorem cInv : Ideal.ofBits .f32 973078528#32 = ((1 / 2048 : ℝ) : EReal) := by
  simp [Ideal.ofBits, Ideal.ieee, -EReal.coe_mul]; norm_num
/-- The square's derivative times the mean's and the half's. -/
theorem dct_eq (e : EReal) : Ideal.div (Ideal.ofBits .f32 1056964608#32 * Ideal.ofBits .f32 1065353216#32) (Ideal.ofBits .f32 1157627904#32)
    * (Ideal.ofBits .f32 1073741824#32 * e) = e * Ideal.ofBits .f32 973078528#32 := by
  rw [c2048, Ideal.div_coe (by norm_num), cHalf, c2, cInv, Ideal.ofBits_one_f32, mul_one, ← mul_assoc, ← EReal.coe_mul, ← EReal.coe_mul, mul_comm]
  norm_num

/-- Rows against columns. -/
def mm {p q n : ℕ} (A : Fin p → Fin q → EReal) (B : Fin q → Fin n → EReal) (i : Fin p) (j : Fin n) : EReal := ∑ k, A i k * B k j
/-- Rows against rows. -/
def mmT {p q n : ℕ} (A : Fin p → Fin q → EReal) (B : Fin n → Fin q → EReal) (i : Fin p) (j : Fin n) : EReal := ∑ k, A i k * B j k
/-- Columns against columns. -/
def mTm {p q n : ℕ} (A : Fin q → Fin p → EReal) (B : Fin q → Fin n → EReal) (i : Fin p) (j : Fin n) : EReal := ∑ k, A k i * B k j

theorem mTm_comm {p q n : ℕ} (A : Fin q → Fin p → EReal) (B : Fin q → Fin n → EReal) (i : Fin p) (j : Fin n) :
    mTm A B i j = ∑ k, B k j * A k i := Finset.sum_congr rfl fun k _ => mul_comm _ _

/-- `z · σ(z) · u`. -/
def act (z u : EReal) : EReal := z * Ideal.logistic z * u
/-- The gradient of `z · σ(z) · u` with respect to `z`. -/
def dact (z u d : EReal) : EReal :=
  d * u * Ideal.logistic z + z * (d * u) * (Ideal.logistic z * (1 - Ideal.logistic z))

end Cert.MmSpec
end
-- ==== Proof.Mm.R2.lean ====
module

public import proofs.«01_k».proof.Proof.Gen.Kernel2Ideal.Frame
public import proofs.«01_k».proof.Proof.Mm.Spec
public import Idealize.ShloMosaic.Lib.Pointwise
public import Idealize.ShloMosaic.Lib.Pipeline.ValueKit

/-! # Program 2: what each call leaves in its array -/

@[expose] public section
set_option maxRecDepth 16384
noncomputable section
namespace Cert.Kernel2Ideal.Mm
open Cert.Kernel2Ideal Cert.Kernel2Ideal.Gen
open Idealize.ShloMosaic Idealize.ShloMosaic.TcCoe
open Idealize.SL.Sem

variable (V : (c : Dev nD) → (b : Ref sig .tc) → Buf (Elt Ideal) ((c : Thread nD τ).loc b)) (c : Dev nD)

/-! ## Region 0: the normalised rows -/

theorem pay0_at (a : Vec Ideal S256x2048 .f32) (b : Vec Ideal S1x2048 .f32) (i : Fin 256) (j : Fin 2048) :
    k0_pay1 a b (ix2 i j) = a (ix2 i j) * Ideal.rsqrt (Ideal.div (∑ l, a (ix2 i l) * a (ix2 i l)) (Ideal.ofBits .f32 1157627904#32)
      + Ideal.ofBits .f32 897988541#32) * b (ix2 0 j) := by
  pointwise [k0_pay1]
theorem idx0_0 : ∀ t : Fin cfg0.N, win0_0.index t = ![t.val, 0] := by decide +kernel
theorem idx0_1 : ∀ t : Fin cfg0.N, win0_1.index t = ![0, 0] := by decide +kernel
theorem idx0_2 : ∀ t : Fin cfg0.N, win0_2.index t = ![t.val, 0] := by decide +kernel
theorem blk0_0 (t : Fin cfg0.N) (i : Fin 256) (j : Fin 2048) (r : Fin 2048) (hr : r.val = t.val * 256 + i.val) :
    iblk0 V c 0 t (ix2 i j) = (V c main_arg0 : FVec Ideal S2048x2048 .f32) (ix2 r j) := by
  blk_ext [iblk0, idx0_0 t, hr]
theorem blk0_1 (t : Fin cfg0.N) (j : Fin 2048) :
    iblk0 V c 1 t (ix2 0 j) = (V c main_arg1 : FVec Ideal S1x2048 .f32) (ix2 0 j) := by
  blk_ext [iblk0, idx0_1 t]
/-- What region 0 leaves in its array. -/
def out0 : FVec Ideal S2048x2048 .bf16 := fun i => MmSpec.nrm (fun r l => (V c main_arg0 : FVec Ideal S2048x2048 .f32) (ix2 r l))
  (fun l => (V c main_arg1 : FVec Ideal S1x2048 .f32) (ix2 0 l)) (i 0) (i 1)
theorem final0 : (dat0 V c).arrAt 2 cfg0.N = out0 V c := by
  refine (dat0 V c).arrAt_eq_of_covers 2 _ (by decide +kernel) fun t hf y => ?_
  obtain ⟨i, j, rfl⟩ : ∃ (i : Fin 256) (j : Fin 2048), y = ix2 i j := ⟨y 0, y 1, by funext a; fin_cases a <;> rfl⟩
  blk_simp
  rw [after0_2]
  frame_out
  rw [pay0_at]
  have ht : t.val < 8 := t.isLt
  have e : (win0_2.blk t).view.emb (ix2 i j) = ix2 (⟨t.val * 256 + i.val, by omega⟩ : Fin 2048) j := by
    refine (eq_ix2 _).trans (congrArg₂ ix2 (Fin.ext ?_) (Fin.ext ?_))
    · blk_simp [idx0_2 t]
    · blk_simp [idx0_2 t]
  rw [e, blk0_1 V c t j, blk0_0 V c t i j ⟨t.val * 256 + i.val, by omega⟩ rfl,
    Finset.sum_congr rfl fun l _ => by rw [blk0_0 V c t i l ⟨t.val * 256 + i.val, by omega⟩ rfl]]
  rfl

/-! ## Region 1: a product written tile by tile -/

theorem pay1_at (a : Vec Ideal S1024x2048 .bf16) (b : Vec Ideal S2048x1024 .bf16) (i j : Fin 1024) :
    k1_pay1 a b (ix2 i j) = ∑ k : Fin 2048, a (ix2 i k) * b (ix2 k j) := by
  pointwise [k1_pay1]
theorem idx1_0 : ∀ t : Fin cfg1.N, win1_0.index t = ![t.val / 6, 0] := by decide +kernel
theorem idx1_1 : ∀ t : Fin cfg1.N, win1_1.index t = ![0, t.val % 6] := by decide +kernel
theorem idx1_2 : ∀ t : Fin cfg1.N, win1_2.index t = ![t.val / 6, t.val % 6] := by decide +kernel
theorem blk1_0 (t : Fin cfg1.N) (i : Fin 1024) (k : Fin 2048) (r : Fin 2048) (hr : r.val = t.val / 6 * 1024 + i.val) :
    iblk1 V c 0 t (ix2 i k) = (V c main_v0 : FVec Ideal S2048x2048 .bf16) (ix2 r k) := by
  blk_ext [iblk1, idx1_0 t, hr]
theorem blk1_1 (t : Fin cfg1.N) (j : Fin 1024) (k : Fin 2048) (z : Fin 6144) (hz : z.val = t.val % 6 * 1024 + j.val) :
    iblk1 V c 1 t (ix2 k j) = (V c main_arg2 : FVec Ideal S2048x6144 .bf16) (ix2 k z) := by
  blk_ext [iblk1, idx1_1 t, hz]
/-- What region 1 leaves in its array. -/
def out1 : FVec Ideal S2048x6144 .f32 := fun i => MmSpec.mm (fun r l => (V c main_v0 : FVec Ideal S2048x2048 .bf16) (ix2 r l)) (fun r l => (V c main_arg2 : FVec Ideal S2048x6144 .bf16) (ix2 r l)) (i 0) (i 1)
theorem final1 : (dat1 V c).arrAt 2 cfg1.N = out1 V c := by
  refine (dat1 V c).arrAt_eq_of_covers 2 _ (by decide +kernel) fun t hf y => ?_
  obtain ⟨i, j, rfl⟩ : ∃ (i j : Fin 1024), y = ix2 i j := ⟨y 0, y 1, by funext a; fin_cases a <;> rfl⟩
  blk_simp
  rw [after1_2]
  frame_out
  rw [pay1_at]
  unfold out1 MmSpec.mm
  refine show (_ : EReal) = _ from Finset.sum_congr rfl fun k _ => ?_
  congr 1
  · refine blk1_0 V c t i k _ ?_
    blk_simp [idx1_2 t]
  · refine blk1_1 V c t j k _ ?_
    blk_simp [idx1_2 t]

/-! ## Region 2: a product written tile by tile -/

theorem pay2_at (a : Vec Ideal S1024x2048 .bf16) (b : Vec Ideal S2048x1024 .bf16) (i j : Fin 1024) :
    k2_pay1 a b (ix2 i j) = ∑ k : Fin 2048, a (ix2 i k) * b (ix2 k j) := by
  pointwise [k2_pay1]
theorem idx2_0 : ∀ t : Fin cfg2.N, win2_0.index t = ![t.val / 6, 0] := by decide +kernel
theorem idx2_1 : ∀ t : Fin cfg2.N, win2_1.index t = ![0, t.val % 6] := by decide +kernel
theorem idx2_2 : ∀ t : Fin cfg2.N, win2_2.index t = ![t.val / 6, t.val % 6] := by decide +kernel
theorem blk2_0 (t : Fin cfg2.N) (i : Fin 1024) (k : Fin 2048) (r : Fin 2048) (hr : r.val = t.val / 6 * 1024 + i.val) :
    iblk2 V c 0 t (ix2 i k) = (V c main_v0 : FVec Ideal S2048x2048 .bf16) (ix2 r k) := by
  blk_ext [iblk2, idx2_0 t, hr]
theorem blk2_1 (t : Fin cfg2.N) (j : Fin 1024) (k : Fin 2048) (z : Fin 6144) (hz : z.val = t.val % 6 * 1024 + j.val) :
    iblk2 V c 1 t (ix2 k j) = (V c main_arg3 : FVec Ideal S2048x6144 .bf16) (ix2 k z) := by
  blk_ext [iblk2, idx2_1 t, hz]
/-- What region 2 leaves in its array. -/
def out2 : FVec Ideal S2048x6144 .f32 := fun i => MmSpec.mm (fun r l => (V c main_v0 : FVec Ideal S2048x2048 .bf16) (ix2 r l)) (fun r l => (V c main_arg3 : FVec Ideal S2048x6144 .bf16) (ix2 r l)) (i 0) (i 1)
theorem final2 : (dat2 V c).arrAt 2 cfg2.N = out2 V c := by
  refine (dat2 V c).arrAt_eq_of_covers 2 _ (by decide +kernel) fun t hf y => ?_
  obtain ⟨i, j, rfl⟩ : ∃ (i j : Fin 1024), y = ix2 i j := ⟨y 0, y 1, by funext a; fin_cases a <;> rfl⟩
  blk_simp
  rw [after2_2]
  frame_out
  rw [pay2_at]
  unfold out2 MmSpec.mm
  refine show (_ : EReal) = _ from Finset.sum_congr rfl fun k _ => ?_
  congr 1
  · refine blk2_0 V c t i k _ ?_
    blk_simp [idx2_2 t]
  · refine blk2_1 V c t j k _ ?_
    blk_simp [idx2_2 t]

/-! ## Region 3: element by element -/

theorem idx3_0 : ∀ t : Fin cfg3.N, win3_0.index t = ![t.val, 0] := by decide +kernel
theorem idx3_1 : ∀ t : Fin cfg3.N, win3_1.index t = ![t.val, 0] := by decide +kernel
theorem idx3_2 : ∀ t : Fin cfg3.N, win3_2.index t = ![t.val, 0] := by decide +kernel
theorem blk3_0 (t : Fin cfg3.N) (i : Fin 128) (j : Fin 6144) (r : Fin 2048) (hr : r.val = t.val * 128 + i.val) :
    iblk3 V c 0 t (ix2 i j) = (V c main_v1 : FVec Ideal S2048x6144 .f32) (ix2 r j) := by
  blk_ext [iblk3, idx3_0 t, hr]
theorem blk3_1 (t : Fin cfg3.N) (i : Fin 128) (j : Fin 6144) (r : Fin 2048) (hr : r.val = t.val * 128 + i.val) :
    iblk3 V c 1 t (ix2 i j) = (V c main_v2 : FVec Ideal S2048x6144 .f32) (ix2 r j) := by
  blk_ext [iblk3, idx3_1 t, hr]
theorem pay3_at (a b : Vec Ideal S128x6144 .f32) (i : Fin 128) (j : Fin 6144) :
    k3_pay1 a b (ix2 i j) = MmSpec.act (a (ix2 i j)) (b (ix2 i j)) := by
  pointwise [k3_pay1, MmSpec.act]
/-- What region 3 leaves in its array. -/
def out3 : FVec Ideal S2048x6144 .bf16 := fun i => MmSpec.act ((V c main_v1 : FVec Ideal S2048x6144 .f32) i) ((V c main_v2 : FVec Ideal S2048x6144 .f32) i)
theorem final3 : (dat3 V c).arrAt 2 cfg3.N = out3 V c := by
  refine (dat3 V c).arrAt_eq_of_covers 2 _ (by decide +kernel) fun t hf y => ?_
  obtain ⟨i, j, rfl⟩ : ∃ (i : Fin 128) (j : Fin 6144), y = ix2 i j := ⟨y 0, y 1, by funext a; fin_cases a <;> rfl⟩
  blk_simp
  rw [after3_2]
  frame_out
  rw [pay3_at]
  have ht : t.val < 16 := t.isLt
  have e : (win3_2.blk t).view.emb (ix2 i j) = ix2 (⟨t.val * 128 + i.val, by omega⟩ : Fin 2048) j := by
    refine (eq_ix2 _).trans (congrArg₂ ix2 (Fin.ext ?_) (Fin.ext ?_))
    · blk_simp [idx3_2 t]
    · blk_simp [idx3_2 t]
  rw [e, blk3_0 V c t i j ⟨t.val * 128 + i.val, by omega⟩ rfl, blk3_1 V c t i j ⟨t.val * 128 + i.val, by omega⟩ rfl]
  rfl

/-! ## Region 4: a product written tile by tile -/

theorem pay4_at (a : Vec Ideal S1024x2048 .f32) (b : Vec Ideal S1024x2048 .bf16) (i j : Fin 1024) :
    k4_pay1 a b (ix2 i j) = ∑ k : Fin 2048, a (ix2 i k) * b (ix2 j k) := by
  pointwise [k4_pay1]
theorem idx4_0 : ∀ t : Fin cfg4.N, win4_0.index t = ![t.val / 6, 0] := by decide +kernel
theorem idx4_1 : ∀ t : Fin cfg4.N, win4_1.index t = ![t.val % 6, 0] := by decide +kernel
theorem idx4_2 : ∀ t : Fin cfg4.N, win4_2.index t = ![t.val / 6, t.val % 6] := by decide +kernel
theorem blk4_0 (t : Fin cfg4.N) (i : Fin 1024) (k : Fin 2048) (r : Fin 2048) (hr : r.val = t.val / 6 * 1024 + i.val) :
    iblk4 V c 0 t (ix2 i k) = (V c main_arg5 : FVec Ideal S2048x2048 .f32) (ix2 r k) := by
  blk_ext [iblk4, idx4_0 t, hr]
theorem blk4_1 (t : Fin cfg4.N) (j : Fin 1024) (k : Fin 2048) (z : Fin 6144) (hz : z.val = t.val % 6 * 1024 + j.val) :
    iblk4 V c 1 t (ix2 j k) = (V c main_arg4 : FVec Ideal S6144x2048 .bf16) (ix2 z k) := by
  blk_ext [iblk4, idx4_1 t, hz]
/-- What region 4 leaves in its array. -/
def out4 : FVec Ideal S2048x6144 .f32 := fun i => MmSpec.mmT (fun r l => (V c main_arg5 : FVec Ideal S2048x2048 .f32) (ix2 r l)) (fun r l => (V c main_arg4 : FVec Ideal S6144x2048 .bf16) (ix2 r l)) (i 0) (i 1)
theorem final4 : (dat4 V c).arrAt 2 cfg4.N = out4 V c := by
  refine (dat4 V c).arrAt_eq_of_covers 2 _ (by decide +kernel) fun t hf y => ?_
  obtain ⟨i, j, rfl⟩ : ∃ (i j : Fin 1024), y = ix2 i j := ⟨y 0, y 1, by funext a; fin_cases a <;> rfl⟩
  blk_simp
  rw [after4_2]
  frame_out
  rw [pay4_at]
  unfold out4 MmSpec.mmT
  refine show (_ : EReal) = _ from Finset.sum_congr rfl fun k _ => ?_
  congr 1
  · refine blk4_0 V c t i k _ ?_
    blk_simp [idx4_2 t]
  · refine blk4_1 V c t j k _ ?_
    blk_simp [idx4_2 t]

/-! ## Region 5: a product written tile by tile -/

theorem pay5_at (a : Vec Ideal S2048x1024 .bf16) (b : Vec Ideal S2048x1024 .f32) (i j : Fin 1024) :
    k5_pay1 a b (ix2 i j) = ∑ k : Fin 2048, a (ix2 k i) * b (ix2 k j) := by
  pointwise [k5_pay1]
theorem idx5_0 : ∀ t : Fin cfg5.N, win5_0.index t = ![0, t.val / 2] := by decide +kernel
theorem idx5_1 : ∀ t : Fin cfg5.N, win5_1.index t = ![0, t.val % 2] := by decide +kernel
theorem idx5_2 : ∀ t : Fin cfg5.N, win5_2.index t = ![t.val / 2, t.val % 2] := by decide +kernel
theorem blk5_0 (t : Fin cfg5.N) (i : Fin 1024) (k : Fin 2048) (r : Fin 6144) (hr : r.val = t.val / 2 * 1024 + i.val) :
    iblk5 V c 0 t (ix2 k i) = (V c main_v3 : FVec Ideal S2048x6144 .bf16) (ix2 k r) := by
  blk_ext [iblk5, idx5_0 t, hr]
theorem blk5_1 (t : Fin cfg5.N) (j : Fin 1024) (k : Fin 2048) (z : Fin 2048) (hz : z.val = t.val % 2 * 1024 + j.val) :
    iblk5 V c 1 t (ix2 k j) = (V c main_arg5 : FVec Ideal S2048x2048 .f32) (ix2 k z) := by
  blk_ext [iblk5, idx5_1 t, hz]
/-- What region 5 leaves in its array. -/
def out5 : FVec Ideal S6144x2048 .bf16 := fun i => MmSpec.mTm (fun r l => (V c main_v3 : FVec Ideal S2048x6144 .bf16) (ix2 r l)) (fun r l => (V c main_arg5 : FVec Ideal S2048x2048 .f32) (ix2 r l)) (i 0) (i 1)
theorem final5 : (dat5 V c).arrAt 2 cfg5.N = out5 V c := by
  refine (dat5 V c).arrAt_eq_of_covers 2 _ (by decide +kernel) fun t hf y => ?_
  obtain ⟨i, j, rfl⟩ : ∃ (i j : Fin 1024), y = ix2 i j := ⟨y 0, y 1, by funext a; fin_cases a <;> rfl⟩
  blk_simp
  rw [after5_2]
  frame_out
  rw [pay5_at]
  unfold out5 MmSpec.mTm
  refine show (_ : EReal) = _ from Finset.sum_congr rfl fun k _ => ?_
  congr 1
  · refine blk5_0 V c t i k _ ?_
    blk_simp [idx5_2 t]
  · refine blk5_1 V c t j k _ ?_
    blk_simp [idx5_2 t]

/-! ## Region 6: element by element -/

theorem idx6_0 : ∀ t : Fin cfg6.N, win6_0.index t = ![t.val, 0] := by decide +kernel
theorem idx6_1 : ∀ t : Fin cfg6.N, win6_1.index t = ![t.val, 0] := by decide +kernel
theorem idx6_2 : ∀ t : Fin cfg6.N, win6_2.index t = ![t.val, 0] := by decide +kernel
theorem idx6_3 : ∀ t : Fin cfg6.N, win6_3.index t = ![t.val, 0] := by decide +kernel
theorem idx6_4 : ∀ t : Fin cfg6.N, win6_4.index t = ![t.val, 0] := by decide +kernel
theorem blk6_0 (t : Fin cfg6.N) (i : Fin 128) (j : Fin 6144) (r : Fin 2048) (hr : r.val = t.val * 128 + i.val) :
    iblk6 V c 0 t (ix2 i j) = (V c main_v1 : FVec Ideal S2048x6144 .f32) (ix2 r j) := by
  blk_ext [iblk6, idx6_0 t, hr]
theorem blk6_1 (t : Fin cfg6.N) (i : Fin 128) (j : Fin 6144) (r : Fin 2048) (hr : r.val = t.val * 128 + i.val) :
    iblk6 V c 1 t (ix2 i j) = (V c main_v2 : FVec Ideal S2048x6144 .f32) (ix2 r j) := by
  blk_ext [iblk6, idx6_1 t, hr]
theorem blk6_2 (t : Fin cfg6.N) (i : Fin 128) (j : Fin 6144) (r : Fin 2048) (hr : r.val = t.val * 128 + i.val) :
    iblk6 V c 2 t (ix2 i j) = (V c main_v4 : FVec Ideal S2048x6144 .f32) (ix2 r j) := by
  blk_ext [iblk6, idx6_2 t, hr]
theorem pay6_0_at (a b d : Vec Ideal S128x6144 .f32) (i : Fin 128) (j : Fin 6144) :
    k6_pay4 a b d (ix2 i j) = MmSpec.dact (a (ix2 i j)) (b (ix2 i j)) (d (ix2 i j)) := by
  pointwise [k6_pay4, k6_pay1, k6_pay2, k6_pay3, MmSpec.dact]
/-- What region 6 leaves in its array. -/
def out6_0 : FVec Ideal S2048x6144 .bf16 := fun i => MmSpec.dact ((V c main_v1 : FVec Ideal S2048x6144 .f32) i) ((V c main_v2 : FVec Ideal S2048x6144 .f32) i) ((V c main_v4 : FVec Ideal S2048x6144 .f32) i)
theorem final6_0 : (dat6 V c).arrAt 3 cfg6.N = out6_0 V c := by
  refine (dat6 V c).arrAt_eq_of_covers 3 _ (by decide +kernel) fun t hf y => ?_
  obtain ⟨i, j, rfl⟩ : ∃ (i : Fin 128) (j : Fin 6144), y = ix2 i j := ⟨y 0, y 1, by funext a; fin_cases a <;> rfl⟩
  blk_simp
  rw [after6_3]
  frame_out
  rw [pay6_0_at]
  have ht : t.val < 16 := t.isLt
  have e : (win6_3.blk t).view.emb (ix2 i j) = ix2 (⟨t.val * 128 + i.val, by omega⟩ : Fin 2048) j := by
    refine (eq_ix2 _).trans (congrArg₂ ix2 (Fin.ext ?_) (Fin.ext ?_))
    · blk_simp [idx6_3 t]
    · blk_simp [idx6_3 t]
  rw [e, blk6_0 V c t i j ⟨t.val * 128 + i.val, by omega⟩ rfl, blk6_1 V c t i j ⟨t.val * 128 + i.val, by omega⟩ rfl, blk6_2 V c t i j ⟨t.val * 128 + i.val, by omega⟩ rfl]
  rfl
theorem pay6_1_at (a d : Vec Ideal S128x6144 .f32) (i : Fin 128) (j : Fin 6144) :
    k6_pay5 a d (ix2 i j) = MmSpec.act (a (ix2 i j)) (d (ix2 i j)) := by
  pointwise [k6_pay5, k6_pay1, k6_pay2, k6_pay3, MmSpec.act]
/-- What region 6 leaves in its array. -/
def out6_1 : FVec Ideal S2048x6144 .bf16 := fun i => MmSpec.act ((V c main_v1 : FVec Ideal S2048x6144 .f32) i) ((V c main_v4 : FVec Ideal S2048x6144 .f32) i)
theorem final6_1 : (dat6 V c).arrAt 4 cfg6.N = out6_1 V c := by
  refine (dat6 V c).arrAt_eq_of_covers 4 _ (by decide +kernel) fun t hf y => ?_
  obtain ⟨i, j, rfl⟩ : ∃ (i : Fin 128) (j : Fin 6144), y = ix2 i j := ⟨y 0, y 1, by funext a; fin_cases a <;> rfl⟩
  blk_simp
  rw [after6_4]
  frame_out
  rw [pay6_1_at]
  have ht : t.val < 16 := t.isLt
  have e : (win6_4.blk t).view.emb (ix2 i j) = ix2 (⟨t.val * 128 + i.val, by omega⟩ : Fin 2048) j := by
    refine (eq_ix2 _).trans (congrArg₂ ix2 (Fin.ext ?_) (Fin.ext ?_))
    · blk_simp [idx6_4 t]
    · blk_simp [idx6_4 t]
  rw [e, blk6_0 V c t i j ⟨t.val * 128 + i.val, by omega⟩ rfl, blk6_2 V c t i j ⟨t.val * 128 + i.val, by omega⟩ rfl]
  rfl

/-! ## Region 7: a product written tile by tile -/

theorem pay7_at (a : Vec Ideal S2048x1024 .bf16) (b : Vec Ideal S2048x1024 .bf16) (i j : Fin 1024) :
    k7_pay1 a b (ix2 i j) = ∑ k : Fin 2048, a (ix2 k i) * b (ix2 k j) := by
  pointwise [k7_pay1]
theorem idx7_0 : ∀ t : Fin cfg7.N, win7_0.index t = ![0, t.val / 6] := by decide +kernel
theorem idx7_1 : ∀ t : Fin cfg7.N, win7_1.index t = ![0, t.val % 6] := by decide +kernel
theorem idx7_2 : ∀ t : Fin cfg7.N, win7_2.index t = ![t.val / 6, t.val % 6] := by decide +kernel
theorem blk7_0 (t : Fin cfg7.N) (i : Fin 1024) (k : Fin 2048) (r : Fin 2048) (hr : r.val = t.val / 6 * 1024 + i.val) :
    iblk7 V c 0 t (ix2 k i) = (V c main_v0 : FVec Ideal S2048x2048 .bf16) (ix2 k r) := by
  blk_ext [iblk7, idx7_0 t, hr]
theorem blk7_1 (t : Fin cfg7.N) (j : Fin 1024) (k : Fin 2048) (z : Fin 6144) (hz : z.val = t.val % 6 * 1024 + j.val) :
    iblk7 V c 1 t (ix2 k j) = (V c main_v6_0 : FVec Ideal S2048x6144 .bf16) (ix2 k z) := by
  blk_ext [iblk7, idx7_1 t, hz]
/-- What region 7 leaves in its array. -/
def out7 : FVec Ideal S2048x6144 .bf16 := fun i => MmSpec.mTm (fun r l => (V c main_v0 : FVec Ideal S2048x2048 .bf16) (ix2 r l)) (fun r l => (V c main_v6_0 : FVec Ideal S2048x6144 .bf16) (ix2 r l)) (i 0) (i 1)
theorem final7 : (dat7 V c).arrAt 2 cfg7.N = out7 V c := by
  refine (dat7 V c).arrAt_eq_of_covers 2 _ (by decide +kernel) fun t hf y => ?_
  obtain ⟨i, j, rfl⟩ : ∃ (i j : Fin 1024), y = ix2 i j := ⟨y 0, y 1, by funext a; fin_cases a <;> rfl⟩
  blk_simp
  rw [after7_2]
  frame_out
  rw [pay7_at]
  unfold out7 MmSpec.mTm
  refine show (_ : EReal) = _ from Finset.sum_congr rfl fun k _ => ?_
  congr 1
  · refine blk7_0 V c t i k _ ?_
    blk_simp [idx7_2 t]
  · refine blk7_1 V c t j k _ ?_
    blk_simp [idx7_2 t]

/-! ## Region 8: a product written tile by tile -/

theorem pay8_at (a : Vec Ideal S2048x1024 .bf16) (b : Vec Ideal S2048x1024 .bf16) (i j : Fin 1024) :
    k8_pay1 a b (ix2 i j) = ∑ k : Fin 2048, a (ix2 k i) * b (ix2 k j) := by
  pointwise [k8_pay1]
theorem idx8_0 : ∀ t : Fin cfg8.N, win8_0.index t = ![0, t.val / 6] := by decide +kernel
theorem idx8_1 : ∀ t : Fin cfg8.N, win8_1.index t = ![0, t.val % 6] := by decide +kernel
theorem idx8_2 : ∀ t : Fin cfg8.N, win8_2.index t = ![t.val / 6, t.val % 6] := by decide +kernel
theorem blk8_0 (t : Fin cfg8.N) (i : Fin 1024) (k : Fin 2048) (r : Fin 2048) (hr : r.val = t.val / 6 * 1024 + i.val) :
    iblk8 V c 0 t (ix2 k i) = (V c main_v0 : FVec Ideal S2048x2048 .bf16) (ix2 k r) := by
  blk_ext [iblk8, idx8_0 t, hr]
theorem blk8_1 (t : Fin cfg8.N) (j : Fin 1024) (k : Fin 2048) (z : Fin 6144) (hz : z.val = t.val % 6 * 1024 + j.val) :
    iblk8 V c 1 t (ix2 k j) = (V c main_v6_1 : FVec Ideal S2048x6144 .bf16) (ix2 k z) := by
  blk_ext [iblk8, idx8_1 t, hz]
/-- What region 8 leaves in its array. -/
def out8 : FVec Ideal S2048x6144 .bf16 := fun i => MmSpec.mTm (fun r l => (V c main_v0 : FVec Ideal S2048x2048 .bf16) (ix2 r l)) (fun r l => (V c main_v6_1 : FVec Ideal S2048x6144 .bf16) (ix2 r l)) (i 0) (i 1)
theorem final8 : (dat8 V c).arrAt 2 cfg8.N = out8 V c := by
  refine (dat8 V c).arrAt_eq_of_covers 2 _ (by decide +kernel) fun t hf y => ?_
  obtain ⟨i, j, rfl⟩ : ∃ (i j : Fin 1024), y = ix2 i j := ⟨y 0, y 1, by funext a; fin_cases a <;> rfl⟩
  blk_simp
  rw [after8_2]
  frame_out
  rw [pay8_at]
  unfold out8 MmSpec.mTm
  refine show (_ : EReal) = _ from Finset.sum_congr rfl fun k _ => ?_
  congr 1
  · refine blk8_0 V c t i k _ ?_
    blk_simp [idx8_2 t]
  · refine blk8_1 V c t j k _ ?_
    blk_simp [idx8_2 t]

end Cert.Kernel2Ideal.Mm
end
-- ==== Proof.Mm.C2.lean ====
module

public import proofs.«01_k».proof.Proof.Mm.R2

/-! # Program 2: the calls one after another, and the run with its results -/

@[expose] public section
set_option maxRecDepth 16384
noncomputable section
namespace Cert.Kernel2Ideal.Mm
open Cert.Kernel2Ideal Cert.Kernel2Ideal.Gen
open Idealize.ShloMosaic.Proc (devRef)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ
variable (m : (ℓ : Loc nD τ sig) → Buf (Elt Ideal) ℓ) (ρ : Dev nD → PrngReg) (c : Dev nD)

/-! ## The values, as functions of row and column -/

def X0 : Fin 2048 → Fin 2048 → EReal := fun r l => (m ((c : Thread nD τ).loc main_arg0) : FVec Ideal S2048x2048 .f32) (ix2 r l)
def X1 : Fin 1 → Fin 2048 → EReal := fun r l => (m ((c : Thread nD τ).loc main_arg1) : FVec Ideal S1x2048 .f32) (ix2 r l)
def X2 : Fin 2048 → Fin 6144 → EReal := fun r l => (m ((c : Thread nD τ).loc main_arg2) : FVec Ideal S2048x6144 .bf16) (ix2 r l)
def X3 : Fin 2048 → Fin 6144 → EReal := fun r l => (m ((c : Thread nD τ).loc main_arg3) : FVec Ideal S2048x6144 .bf16) (ix2 r l)
def X4 : Fin 6144 → Fin 2048 → EReal := fun r l => (m ((c : Thread nD τ).loc main_arg4) : FVec Ideal S6144x2048 .bf16) (ix2 r l)
def X5 : Fin 2048 → Fin 2048 → EReal := fun r l => (m ((c : Thread nD τ).loc main_arg5) : FVec Ideal S2048x2048 .f32) (ix2 r l)
def H : Fin 2048 → Fin 2048 → EReal := MmSpec.nrm (X0 m c) (X1 m c 0)
def Z : Fin 2048 → Fin 6144 → EReal := MmSpec.mm (H m c) (X2 m c)
def U : Fin 2048 → Fin 6144 → EReal := MmSpec.mm (H m c) (X3 m c)
def Ac : Fin 2048 → Fin 6144 → EReal := fun i j => MmSpec.act (Z m c i j) (U m c i j)
def DA : Fin 2048 → Fin 6144 → EReal := MmSpec.mmT (X5 m c) (X4 m c)
def WD : Fin 6144 → Fin 2048 → EReal := MmSpec.mTm (Ac m c) (X5 m c)
def DG : Fin 2048 → Fin 6144 → EReal := fun i j => MmSpec.dact (Z m c i j) (U m c i j) (DA m c i j)
def DU : Fin 2048 → Fin 6144 → EReal := fun i j => MmSpec.act (Z m c i j) (DA m c i j)
def WG : Fin 2048 → Fin 6144 → EReal := MmSpec.mTm (H m c) (DG m c)
def WU : Fin 2048 → Fin 6144 → EReal := MmSpec.mTm (H m c) (DU m c)

/-! ## What each buffer holds when it is read -/
theorem a0_0 : (W0 m ρ c (devRef .tc main_arg0) : FVec Ideal S2048x2048 .f32) = fun i => X0 m c (i 0) (i 1) :=
  (W0_args m ρ c main_arg0 (by decide)).trans (funext fun i => congrArg (m ((c : Thread nD τ).loc main_arg0) : FVec Ideal S2048x2048 .f32) (eq_ix2 i))
theorem a1_0 : (W0 m ρ c (devRef .tc main_arg1) : FVec Ideal S1x2048 .f32) = fun i => X1 m c (i 0) (i 1) :=
  (W0_args m ρ c main_arg1 (by decide)).trans (funext fun i => congrArg (m ((c : Thread nD τ).loc main_arg1) : FVec Ideal S1x2048 .f32) (eq_ix2 i))
theorem a2_1 : (W1 m ρ c (devRef .tc main_arg2) : FVec Ideal S2048x6144 .bf16) = fun i => X2 m c (i 0) (i 1) :=
  (W1_args m ρ c main_arg2 (by decide)).trans (funext fun i => congrArg (m ((c : Thread nD τ).loc main_arg2) : FVec Ideal S2048x6144 .bf16) (eq_ix2 i))
theorem a3_2 : (W2 m ρ c (devRef .tc main_arg3) : FVec Ideal S2048x6144 .bf16) = fun i => X3 m c (i 0) (i 1) :=
  (W2_args m ρ c main_arg3 (by decide)).trans (funext fun i => congrArg (m ((c : Thread nD τ).loc main_arg3) : FVec Ideal S2048x6144 .bf16) (eq_ix2 i))
theorem a4_4 : (W4 m ρ c (devRef .tc main_arg4) : FVec Ideal S6144x2048 .bf16) = fun i => X4 m c (i 0) (i 1) :=
  (W4_args m ρ c main_arg4 (by decide)).trans (funext fun i => congrArg (m ((c : Thread nD τ).loc main_arg4) : FVec Ideal S6144x2048 .bf16) (eq_ix2 i))
theorem a5_4 : (W4 m ρ c (devRef .tc main_arg5) : FVec Ideal S2048x2048 .f32) = fun i => X5 m c (i 0) (i 1) :=
  (W4_args m ρ c main_arg5 (by decide)).trans (funext fun i => congrArg (m ((c : Thread nD τ).loc main_arg5) : FVec Ideal S2048x2048 .f32) (eq_ix2 i))
theorem a5_5 : (W5 m ρ c (devRef .tc main_arg5) : FVec Ideal S2048x2048 .f32) = fun i => X5 m c (i 0) (i 1) :=
  (W5_args m ρ c main_arg5 (by decide)).trans (funext fun i => congrArg (m ((c : Thread nD τ).loc main_arg5) : FVec Ideal S2048x2048 .f32) (eq_ix2 i))
theorem v0_1 : (W1 m ρ c (devRef .tc main_v0) : FVec Ideal S2048x2048 .bf16) = fun i => H m c (i 0) (i 1) := by
  refine (W1_arr m ρ c 2).trans ((final0 (V0 m ρ) c).trans ?_)
  unfold out0
  rw [show (V0 m ρ c main_arg0 : FVec Ideal S2048x2048 .f32) = fun i => X0 m c (i 0) (i 1) from a0_0 m ρ c, show (V0 m ρ c main_arg1 : FVec Ideal S1x2048 .f32) = fun i => X1 m c (i 0) (i 1) from a1_0 m ρ c]
  rfl
theorem v0_2 : (W2 m ρ c (devRef .tc main_v0) : FVec Ideal S2048x2048 .bf16) = fun i => H m c (i 0) (i 1) :=
  (W2_of m ρ c main_v0 (by decide)).trans (v0_1 m ρ c)
theorem v0_3 : (W3 m ρ c (devRef .tc main_v0) : FVec Ideal S2048x2048 .bf16) = fun i => H m c (i 0) (i 1) :=
  (W3_of m ρ c main_v0 (by decide)).trans (v0_2 m ρ c)
theorem v0_4 : (W4 m ρ c (devRef .tc main_v0) : FVec Ideal S2048x2048 .bf16) = fun i => H m c (i 0) (i 1) :=
  (W4_of m ρ c main_v0 (by decide)).trans (v0_3 m ρ c)
theorem v0_5 : (W5 m ρ c (devRef .tc main_v0) : FVec Ideal S2048x2048 .bf16) = fun i => H m c (i 0) (i 1) :=
  (W5_of m ρ c main_v0 (by decide)).trans (v0_4 m ρ c)
theorem v0_6 : (W6 m ρ c (devRef .tc main_v0) : FVec Ideal S2048x2048 .bf16) = fun i => H m c (i 0) (i 1) :=
  (W6_of m ρ c main_v0 (by decide)).trans (v0_5 m ρ c)
theorem v0_7 : (W7 m ρ c (devRef .tc main_v0) : FVec Ideal S2048x2048 .bf16) = fun i => H m c (i 0) (i 1) :=
  (W7_of m ρ c main_v0 (by decide)).trans (v0_6 m ρ c)
theorem v0_8 : (W8 m ρ c (devRef .tc main_v0) : FVec Ideal S2048x2048 .bf16) = fun i => H m c (i 0) (i 1) :=
  (W8_of m ρ c main_v0 (by decide)).trans (v0_7 m ρ c)
theorem v1_2 : (W2 m ρ c (devRef .tc main_v1) : FVec Ideal S2048x6144 .f32) = fun i => Z m c (i 0) (i 1) := by
  refine (W2_arr m ρ c 2).trans ((final1 (V1 m ρ) c).trans ?_)
  unfold out1
  rw [show (V1 m ρ c main_v0 : FVec Ideal S2048x2048 .bf16) = fun i => H m c (i 0) (i 1) from v0_1 m ρ c, show (V1 m ρ c main_arg2 : FVec Ideal S2048x6144 .bf16) = fun i => X2 m c (i 0) (i 1) from a2_1 m ρ c]
  rfl
theorem v1_3 : (W3 m ρ c (devRef .tc main_v1) : FVec Ideal S2048x6144 .f32) = fun i => Z m c (i 0) (i 1) :=
  (W3_of m ρ c main_v1 (by decide)).trans (v1_2 m ρ c)
theorem v1_4 : (W4 m ρ c (devRef .tc main_v1) : FVec Ideal S2048x6144 .f32) = fun i => Z m c (i 0) (i 1) :=
  (W4_of m ρ c main_v1 (by decide)).trans (v1_3 m ρ c)
theorem v1_5 : (W5 m ρ c (devRef .tc main_v1) : FVec Ideal S2048x6144 .f32) = fun i => Z m c (i 0) (i 1) :=
  (W5_of m ρ c main_v1 (by decide)).trans (v1_4 m ρ c)
theorem v1_6 : (W6 m ρ c (devRef .tc main_v1) : FVec Ideal S2048x6144 .f32) = fun i => Z m c (i 0) (i 1) :=
  (W6_of m ρ c main_v1 (by decide)).trans (v1_5 m ρ c)
theorem v2_3 : (W3 m ρ c (devRef .tc main_v2) : FVec Ideal S2048x6144 .f32) = fun i => U m c (i 0) (i 1) := by
  refine (W3_arr m ρ c 2).trans ((final2 (V2 m ρ) c).trans ?_)
  unfold out2
  rw [show (V2 m ρ c main_v0 : FVec Ideal S2048x2048 .bf16) = fun i => H m c (i 0) (i 1) from v0_2 m ρ c, show (V2 m ρ c main_arg3 : FVec Ideal S2048x6144 .bf16) = fun i => X3 m c (i 0) (i 1) from a3_2 m ρ c]
  rfl
theorem v2_4 : (W4 m ρ c (devRef .tc main_v2) : FVec Ideal S2048x6144 .f32) = fun i => U m c (i 0) (i 1) :=
  (W4_of m ρ c main_v2 (by decide)).trans (v2_3 m ρ c)
theorem v2_5 : (W5 m ρ c (devRef .tc main_v2) : FVec Ideal S2048x6144 .f32) = fun i => U m c (i 0) (i 1) :=
  (W5_of m ρ c main_v2 (by decide)).trans (v2_4 m ρ c)
theorem v2_6 : (W6 m ρ c (devRef .tc main_v2) : FVec Ideal S2048x6144 .f32) = fun i => U m c (i 0) (i 1) :=
  (W6_of m ρ c main_v2 (by decide)).trans (v2_5 m ρ c)
theorem v3_4 : (W4 m ρ c (devRef .tc main_v3) : FVec Ideal S2048x6144 .bf16) = fun i => Ac m c (i 0) (i 1) := by
  refine (W4_arr m ρ c 2).trans ((final3 (V3 m ρ) c).trans ?_)
  unfold out3
  rw [show (V3 m ρ c main_v1 : FVec Ideal S2048x6144 .f32) = fun i => Z m c (i 0) (i 1) from v1_3 m ρ c, show (V3 m ρ c main_v2 : FVec Ideal S2048x6144 .f32) = fun i => U m c (i 0) (i 1) from v2_3 m ρ c]
  rfl
theorem v3_5 : (W5 m ρ c (devRef .tc main_v3) : FVec Ideal S2048x6144 .bf16) = fun i => Ac m c (i 0) (i 1) :=
  (W5_of m ρ c main_v3 (by decide)).trans (v3_4 m ρ c)
theorem v4_5 : (W5 m ρ c (devRef .tc main_v4) : FVec Ideal S2048x6144 .f32) = fun i => DA m c (i 0) (i 1) := by
  refine (W5_arr m ρ c 2).trans ((final4 (V4 m ρ) c).trans ?_)
  unfold out4
  rw [show (V4 m ρ c main_arg5 : FVec Ideal S2048x2048 .f32) = fun i => X5 m c (i 0) (i 1) from a5_4 m ρ c, show (V4 m ρ c main_arg4 : FVec Ideal S6144x2048 .bf16) = fun i => X4 m c (i 0) (i 1) from a4_4 m ρ c]
  rfl
theorem v4_6 : (W6 m ρ c (devRef .tc main_v4) : FVec Ideal S2048x6144 .f32) = fun i => DA m c (i 0) (i 1) :=
  (W6_of m ρ c main_v4 (by decide)).trans (v4_5 m ρ c)
theorem v5_6 : (W6 m ρ c (devRef .tc main_v5) : FVec Ideal S6144x2048 .bf16) = fun i => WD m c (i 0) (i 1) := by
  refine (W6_arr m ρ c 2).trans ((final5 (V5 m ρ) c).trans ?_)
  unfold out5
  rw [show (V5 m ρ c main_v3 : FVec Ideal S2048x6144 .bf16) = fun i => Ac m c (i 0) (i 1) from v3_5 m ρ c, show (V5 m ρ c main_arg5 : FVec Ideal S2048x2048 .f32) = fun i => X5 m c (i 0) (i 1) from a5_5 m ρ c]
  rfl
theorem v5_7 : (W7 m ρ c (devRef .tc main_v5) : FVec Ideal S6144x2048 .bf16) = fun i => WD m c (i 0) (i 1) :=
  (W7_of m ρ c main_v5 (by decide)).trans (v5_6 m ρ c)
theorem v5_8 : (W8 m ρ c (devRef .tc main_v5) : FVec Ideal S6144x2048 .bf16) = fun i => WD m c (i 0) (i 1) :=
  (W8_of m ρ c main_v5 (by decide)).trans (v5_7 m ρ c)
theorem v5_9 : (W9 m ρ c (devRef .tc main_v5) : FVec Ideal S6144x2048 .bf16) = fun i => WD m c (i 0) (i 1) :=
  (W9_of m ρ c main_v5 (by decide)).trans (v5_8 m ρ c)
theorem v6_0_7 : (W7 m ρ c (devRef .tc main_v6_0) : FVec Ideal S2048x6144 .bf16) = fun i => DG m c (i 0) (i 1) := by
  refine (W7_arr m ρ c 3).trans ((final6_0 (V6 m ρ) c).trans ?_)
  unfold out6_0
  rw [show (V6 m ρ c main_v1 : FVec Ideal S2048x6144 .f32) = fun i => Z m c (i 0) (i 1) from v1_6 m ρ c, show (V6 m ρ c main_v2 : FVec Ideal S2048x6144 .f32) = fun i => U m c (i 0) (i 1) from v2_6 m ρ c, show (V6 m ρ c main_v4 : FVec Ideal S2048x6144 .f32) = fun i => DA m c (i 0) (i 1) from v4_6 m ρ c]
  rfl
theorem v6_1_7 : (W7 m ρ c (devRef .tc main_v6_1) : FVec Ideal S2048x6144 .bf16) = fun i => DU m c (i 0) (i 1) := by
  refine (W7_arr m ρ c 4).trans ((final6_1 (V6 m ρ) c).trans ?_)
  unfold out6_1
  rw [show (V6 m ρ c main_v1 : FVec Ideal S2048x6144 .f32) = fun i => Z m c (i 0) (i 1) from v1_6 m ρ c, show (V6 m ρ c main_v4 : FVec Ideal S2048x6144 .f32) = fun i => DA m c (i 0) (i 1) from v4_6 m ρ c]
  rfl
theorem v6_1_8 : (W8 m ρ c (devRef .tc main_v6_1) : FVec Ideal S2048x6144 .bf16) = fun i => DU m c (i 0) (i 1) :=
  (W8_of m ρ c main_v6_1 (by decide)).trans (v6_1_7 m ρ c)
theorem v7_8 : (W8 m ρ c (devRef .tc main_v7) : FVec Ideal S2048x6144 .bf16) = fun i => WG m c (i 0) (i 1) := by
  refine (W8_arr m ρ c 2).trans ((final7 (V7 m ρ) c).trans ?_)
  unfold out7
  rw [show (V7 m ρ c main_v0 : FVec Ideal S2048x2048 .bf16) = fun i => H m c (i 0) (i 1) from v0_7 m ρ c, show (V7 m ρ c main_v6_0 : FVec Ideal S2048x6144 .bf16) = fun i => DG m c (i 0) (i 1) from v6_0_7 m ρ c]
  rfl
theorem v7_9 : (W9 m ρ c (devRef .tc main_v7) : FVec Ideal S2048x6144 .bf16) = fun i => WG m c (i 0) (i 1) :=
  (W9_of m ρ c main_v7 (by decide)).trans (v7_8 m ρ c)
theorem v8_9 : (W9 m ρ c (devRef .tc main_v8) : FVec Ideal S2048x6144 .bf16) = fun i => WU m c (i 0) (i 1) := by
  refine (W9_arr m ρ c 2).trans ((final8 (V8 m ρ) c).trans ?_)
  unfold out8
  rw [show (V8 m ρ c main_v0 : FVec Ideal S2048x2048 .bf16) = fun i => H m c (i 0) (i 1) from v0_8 m ρ c, show (V8 m ρ c main_v6_1 : FVec Ideal S2048x6144 .bf16) = fun i => DU m c (i 0) (i 1) from v6_1_8 m ρ c]
  rfl

/-! ## The run -/

set_option backward.isDefEq.respectTransparency.types false in
/-- Every run ends with each result's array at its value. -/
theorem run : θ_run defs (onTc (τ := τ) (main (F := Ideal))) ⟨m, fun _ => 0, ρ⟩ (fun r => ∀ c : Dev nD,
      r.2.mem ((c.tc : Thread nD τ).loc main_v7) = (fun i => WG m c (i 0) (i 1) : FVec Ideal S2048x6144 .bf16)
      ∧ r.2.mem ((c.tc : Thread nD τ).loc main_v8) = (fun i => WU m c (i 0) (i 1) : FVec Ideal S2048x6144 .bf16)
      ∧ r.2.mem ((c.tc : Thread nD τ).loc main_v5) = (fun i => WD m c (i 0) (i 1) : FVec Ideal S6144x2048 .bf16)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => fun c =>
     ⟨(h c _ (mem_uc main_v7 (by decide))).trans (v7_9 m ρ c),
      (h c _ (mem_uc main_v8 (by decide))).trans (v8_9 m ρ c),
      (h c _ (mem_uc main_v5 (by decide))).trans (v5_9 m ρ c)⟩)

end Cert.Kernel2Ideal.Mm
end
-- ==== Proof.Mm.V2.lean ====
module

public import proofs.«01_k».proof.Defs
public import proofs.«01_k».proof.Proof.Mm.C2
public import proofs.«01_k».proof.Proof.Gen.Reference2Ideal.Run

/-! # Program 2: the kernel's results are the reference's -/

@[expose] public section
set_option maxRecDepth 16384
noncomputable section
namespace Cert.Reference2Ideal.Mm
open Cert.Reference2Ideal Cert.Reference2Ideal.Gen
open Idealize.ShloMosaic Idealize.ShloMosaic.TcCoe
open Idealize.SL.Sem

section
variable {F : FTy → Type} [FloatOps F] (m : (ℓ : Loc nD τ sig) → Buf (Elt F) ℓ) (ρ : Dev nD → PrngReg)
/-- The arguments end as they began and every counter is at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2.2.2, sem_eq_zero_of_no_sems (by decide) r.2⟩) (Value.run m ρ)
end

/-- The reference's normalised rows. -/
def Hh (x : FVec Ideal S2048x2048 .f32) (g : FVec Ideal S1x2048 .f32) : FVec Ideal S2048x2048 .f32 :=
  mulf (mulf x (broadcastInDim S2048x2048 ![0, 1] bcast_S2048x1_S2048x2048_0_1 (Host.rsqrt (addf (Host.divf (broadcastInDim S2048x1 ![0] bcast_S2048_S2048x1_0
    (Host.reduceAdd (mulf x x) (constant S_ .f32 0x00000000#32) reducesTo_S2048x2048_S2048_d1 h_S_))
    (broadcastInDim S2048x1 ![] bcast_S_S2048x1 (constant S_ .f32 0x45000000#32))) (broadcastInDim S2048x1 ![] bcast_S_S2048x1 (constant S_ .f32 0x358637BD#32))))))
  (broadcastInDim S2048x2048 ![0, 1] bcast_S1x2048_S2048x2048_0_1 (broadcastInDim S1x2048 ![1] bcast_S2048_S1x2048_1 (shapeCast _ g shapeCasts_S1x2048_S2048)))
theorem Hh_at (x : FVec Ideal S2048x2048 .f32) (g : FVec Ideal S1x2048 .f32) (r k : Fin 2048) :
    Hh x g (ix2 r k) = MmSpec.nrm (fun r l => x (ix2 r l)) (fun l => g (ix2 0 l)) r k := by
  pointwise [Hh, MmSpec.nrm]

theorem dot_at (h : FVec Ideal S2048x2048 .f32) (w : FVec Ideal S2048x6144 .bf16) (r : Fin 2048) (z : Fin 6144) :
    Host.dotGeneral (F := Ideal) dot_S2048x2048_S2048x6144_S2048x6144_1_0_0_1_n_n none h (extf .f32 w bitsLt_bf16_f32) (ix2 r z)
      = MmSpec.mm (fun r l => h (ix2 r l)) (fun l z => w (ix2 l z)) r z := by
  pointwise [MmSpec.mm]
theorem grad_at (d : FVec Ideal S2048x6144 .f32) (h : FVec Ideal S2048x2048 .f32) (r : Fin 2048) (z : Fin 6144) :
    (truncf .bf16 (transpose S2048x6144 [1, 0] (Host.dotGeneral (F := Ideal) dot_S2048x6144_S2048x2048_S6144x2048_0_0_1_1_n_n none d h)
      transposes_S6144x2048_S2048x6144_1_0) bitsLt_bf16_f32 : FVec Ideal S2048x6144 .bf16) (ix2 r z)
      = MmSpec.mTm (fun l r => h (ix2 l r)) (fun l z => d (ix2 l z)) r z := by
  rw [MmSpec.mTm_comm]
  pointwise

/-- The reference's sigmoid. -/
def Sg (z : FVec Ideal S2048x6144 .f32) : FVec Ideal S2048x6144 .f32 :=
  Host.divf (broadcastInDim S2048x6144 ![] bcast_S_S2048x6144 (constant S_ .f32 0x3F800000#32))
    (addf (broadcastInDim S2048x6144 ![] bcast_S_S2048x6144 (constant S_ .f32 0x3F800000#32)) (Host.exp (Host.negf z)))
/-- The reference's gradients of the gate and of the up product, and its gated product. -/
def Dg (z u d : FVec Ideal S2048x6144 .f32) : FVec Ideal S2048x6144 .f32 :=
  addf (mulf (mulf d u) (Sg z)) (mulf (mulf z (mulf d u)) (mulf (Sg z)
    (subf (broadcastInDim S2048x6144 ![] bcast_S_S2048x6144 (constant S_ .f32 0x3F800000#32)) (Sg z))))
def Ac (z u : FVec Ideal S2048x6144 .f32) : FVec Ideal S2048x6144 .f32 := mulf (mulf z (Sg z)) u
theorem Dg_at (z u d : FVec Ideal S2048x6144 .f32) (r : Fin 2048) (k : Fin 6144) :
    Dg z u d (ix2 r k) = MmSpec.dact (z (ix2 r k)) (u (ix2 r k)) (d (ix2 r k)) := by
  pointwise [Dg, Sg, MmSpec.dact, Ideal.logistic]
theorem Ac_at (z u : FVec Ideal S2048x6144 .f32) (r : Fin 2048) (k : Fin 6144) :
    Ac z u (ix2 r k) = MmSpec.act (z (ix2 r k)) (u (ix2 r k)) := by
  pointwise [Ac, Sg, MmSpec.act, Ideal.logistic]
/-- The products the reference's results are made of, as terms of its arguments. -/
def Pr (h : FVec Ideal S2048x2048 .f32) (w : FVec Ideal S2048x6144 .bf16) : FVec Ideal S2048x6144 .f32 :=
  Host.dotGeneral (F := Ideal) dot_S2048x2048_S2048x6144_S2048x6144_1_0_0_1_n_n none h (extf .f32 w bitsLt_bf16_f32)
def Da (x : FVec Ideal S2048x2048 .f32) (w : FVec Ideal S6144x2048 .bf16) : FVec Ideal S2048x6144 .f32 :=
  Host.dotGeneral (F := Ideal) dot_S2048x2048_S6144x2048_S2048x6144_1_1_0_0_n_n none x (extf .f32 w bitsLt_bf16_f32)
theorem Pr_at (h : FVec Ideal S2048x2048 .f32) (w : FVec Ideal S2048x6144 .bf16) (r : Fin 2048) (z : Fin 6144) :
    Pr h w (ix2 r z) = MmSpec.mm (fun r l => h (ix2 r l)) (fun l z => w (ix2 l z)) r z := dot_at h w r z
theorem Da_at (x : FVec Ideal S2048x2048 .f32) (w : FVec Ideal S6144x2048 .bf16) (r : Fin 2048) (z : Fin 6144) :
    Da x w (ix2 r z) = MmSpec.mmT (fun r l => x (ix2 r l)) (fun z l => w (ix2 z l)) r z := by
  pointwise [Da, MmSpec.mmT]
theorem down_at (x : FVec Ideal S2048x2048 .f32) (a : FVec Ideal S2048x6144 .f32) (r : Fin 6144) (z : Fin 2048) :
    (truncf .bf16 (transpose S6144x2048 [1, 0] (Host.dotGeneral (F := Ideal) dot_S2048x2048_S2048x6144_S2048x6144_0_0_1_1_n_n none x a)
      transposes_S2048x6144_S6144x2048_1_0) bitsLt_bf16_f32 : FVec Ideal S6144x2048 .bf16) (ix2 r z)
      = MmSpec.mTm (fun l r => a (ix2 l r)) (fun l z => x (ix2 l z)) r z := by
  rw [MmSpec.mTm_comm]
  pointwise

end Cert.Reference2Ideal.Mm

namespace Cert.Proof
open Idealize.ShloMosaic Idealize.ShloMosaic.TcCoe Idealize.SL.Sem

/-- From memories agreeing on the arguments both programs run and end with the same results. -/
theorem value2 : Cert.algebraic_Kernel2Ideal_Reference2Ideal := by
  intro m g m' g' _ hm
  refine ⟨fun c i => Kernel2Ideal.Mm.WG m c (i 0) (i 1), fun c i => Kernel2Ideal.Mm.WU m c (i 0) (i 1),
    fun c i => Kernel2Ideal.Mm.WD m c (i 0) (i 1), ?_, ?_⟩
  · exact θ_run_and (Kernel2Ideal.Mm.run m g) (Kernel2Ideal.Gen.unchanged m g) |> (θ_run Kernel2Ideal.defs _ _).mono
      (fun r h c => ⟨(h.1 c).1, (h.1 c).2.1, (h.1 c).2.2, h.2 c⟩)
  · refine (θ_run Reference2Ideal.defs _ _).mono (fun r h c => ⟨(h c).1.trans ?_, (h c).2.1.trans ?_, (h c).2.2.1.trans ?_, (h c).2.2.2⟩)
      (Reference2Ideal.Value.run m' g')
    · obtain ⟨e0, e1, e2, e3, e4, e5⟩ := hm c
      unfold Reference2Ideal.Value.res_main_v32
      rw [e0, e1, e2, e3, e4, e5]
      funext i
      obtain ⟨r, z, rfl⟩ : ∃ (r : Fin 2048) (z : Fin 6144), i = ix2 r z := ⟨i 0, i 1, by funext a; fin_cases a <;> rfl⟩
      refine (Reference2Ideal.Mm.grad_at (Reference2Ideal.Mm.Dg (Reference2Ideal.Mm.Pr (Reference2Ideal.Mm.Hh _ _) _) (Reference2Ideal.Mm.Pr (Reference2Ideal.Mm.Hh _ _) _) (Reference2Ideal.Mm.Da _ _)) (Reference2Ideal.Mm.Hh _ _) r z).trans ?_
      simp only [Reference2Ideal.Mm.Dg_at, Reference2Ideal.Mm.Pr_at, Reference2Ideal.Mm.Da_at, Reference2Ideal.Mm.Hh_at]
      rfl
    · obtain ⟨e0, e1, e2, e3, e4, e5⟩ := hm c
      rw [e0, e1, e2, e4, e5]
      funext i
      obtain ⟨r, z, rfl⟩ : ∃ (r : Fin 2048) (z : Fin 6144), i = ix2 r z := ⟨i 0, i 1, by funext a; fin_cases a <;> rfl⟩
      refine (Reference2Ideal.Mm.grad_at (Reference2Ideal.Mm.Ac (Reference2Ideal.Mm.Pr (Reference2Ideal.Mm.Hh _ _) _) (Reference2Ideal.Mm.Da _ _)) (Reference2Ideal.Mm.Hh _ _) r z).trans ?_
      simp only [Reference2Ideal.Mm.Ac_at, Reference2Ideal.Mm.Pr_at, Reference2Ideal.Mm.Da_at, Reference2Ideal.Mm.Hh_at]
      rfl
    · obtain ⟨e0, e1, e2, e3, e4, e5⟩ := hm c
      rw [e0, e1, e2, e3, e5]
      funext i
      obtain ⟨r, z, rfl⟩ : ∃ (r : Fin 6144) (z : Fin 2048), i = ix2 r z := ⟨i 0, i 1, by funext a; fin_cases a <;> rfl⟩
      refine (Reference2Ideal.Mm.down_at _ (Reference2Ideal.Mm.Ac (Reference2Ideal.Mm.Pr (Reference2Ideal.Mm.Hh _ _) _) (Reference2Ideal.Mm.Pr (Reference2Ideal.Mm.Hh _ _) _)) r z).trans ?_
      simp only [Reference2Ideal.Mm.Ac_at, Reference2Ideal.Mm.Pr_at, Reference2Ideal.Mm.Hh_at]
      rfl

end Cert.Proof
end
-- ==== Proof.Mm.K3.lean ====
module

public import proofs.«01_k».proof.Proof.Gen.Kernel3Ideal.Frame
public import Idealize.ShloMosaic.Lib.Pointwise
public import Idealize.ShloMosaic.Lib.Pipeline.ValueKit

/-! # Program 3: a product whose contraction is cut into 3 blocks, element by element -/

@[expose] public section
set_option maxRecDepth 16384
noncomputable section
namespace Cert.Kernel3Ideal.Mm
open Cert.Kernel3Ideal Cert.Kernel3Ideal.Gen
open Idealize.ShloMosaic Idealize.ShloMosaic.TcCoe
open Idealize.SL.Sem

theorem pay1_at (a : Vec Ideal S1024x2048 .bf16) (b : Vec Ideal S1024x2048 .bf16) (i j : Fin 1024) :
    k0_pay1 a b (ix2 i j) = ∑ k : Fin 2048, a (ix2 i k) * b (ix2 j k) := by
  pointwise [k0_pay1]
theorem pay2_at (a : Vec Ideal S1024x2048 .bf16) (b : Vec Ideal S1024x2048 .bf16) (y : S1024x1024.Idx) : k0_pay2 a b y = k0_pay1 a b y := by
  unfold k0_pay2; simp only [shapeCast_self]
theorem pay3_at (a : Vec Ideal S1024x2048 .bf16) (b : Vec Ideal S1024x2048 .bf16) (x : Vec Ideal S1024x1024 .f32) (y : S1024x1024.Idx) :
    k0_pay3 a b x y = x y + k0_pay1 a b y := by
  unfold k0_pay3; simp only [shapeCast_self]; rfl

variable (m : (ℓ : Loc nD τ sig) → Buf (Elt Ideal) ℓ) (c : Dev nD)

/-- The left factor as launched. -/
def A0 : FVec Ideal S2048x6144 .bf16 := m ((c.tc : Thread nD τ).loc main_arg0)
/-- The right factor as launched. -/
def A1 : FVec Ideal S2048x6144 .bf16 := m ((c.tc : Thread nD τ).loc main_arg1)

theorem idx0 : ∀ t : Fin cfg0.N, win0_0.index t = ![t.val / 6, t.val % 3] := by decide +kernel
theorem idx1 : ∀ t : Fin cfg0.N, win0_1.index t = ![t.val / 3 % 2, t.val % 3] := by decide +kernel
theorem idx2 : ∀ t : Fin cfg0.N, win0_2.index t = ![t.val / 6, t.val / 3 % 2] := by decide +kernel

theorem blk0 (t : Fin cfg0.N) (i : Fin 1024) (k : Fin 2048) (r : Fin 2048) (l : Fin 6144)
    (hr : r.val = t.val / 6 * 1024 + i.val) (hl : l.val = t.val % 3 * 2048 + k.val) :
    iblk m c 0 t (ix2 i k) = A0 m c (ix2 r l) := by
  unfold A0
  blk_ext [iblk, V, idx0 t, hr, hl]
theorem blk1 (t : Fin cfg0.N) (j : Fin 1024) (k : Fin 2048) (r : Fin 2048) (l : Fin 6144)
    (hr : r.val = t.val / 3 % 2 * 1024 + j.val) (hl : l.val = t.val % 3 * 2048 + k.val) :
    iblk m c 1 t (ix2 j k) = A1 m c (ix2 r l) := by
  unfold A1
  blk_ext [iblk, V, idx1 t, hr, hl]

theorem first (t : Fin cfg0.N) (h : t.val % 3 = 0) (y : S1024x1024.Idx) :
    (outsAt0 m c t.val t.isLt).2 y = 0 + (k0_pay1 (iblk m c 0 t) (iblk m c 1 t) y) := by
  rw [outsAt0_A m c t h (by omega) (by omega)]; frame_out; rw [pay2_at, zero_add]
theorem later (t : Fin cfg0.N) (h : ¬t.val % 3 = 0) (y : S1024x1024.Idx) :
    (outsAt0 m c t.val t.isLt).2 y = (outsAt0 m c (t.val - 1) (Nat.lt_of_le_of_lt (Nat.sub_le _ _) t.isLt)).2 y
      + (k0_pay1 (iblk m c 0 t) (iblk m c 1 t) y) := by
  by_cases h2 : t.val % 3 = 2
  · rw [outsAt0_C m c t h (by omega) h2]; frame_out; rw [pay3_at]; exact congrArg₂ (· + ·) (congrFun ((Memref.isWhole_whole cc0_scratch0).read_unread _) y) rfl
  · rw [outsAt0_B m c t h (by omega) h2]; frame_out; rw [pay3_at]; exact congrArg₂ (· + ·) (congrFun ((Memref.isWhole_whole cc0_scratch0).read_unread _) y) rfl
/-- At the last block of a run the output is what the accumulator holds. -/
theorem last (t : Fin cfg0.N) (h2 : t.val % 3 = 2) (y : S1024x1024.Idx) :
    (outsAt0 m c t.val t.isLt).1 y = (outsAt0 m c t.val t.isLt).2 y := by
  rw [outsAt0_C m c t (by omega) (by omega) h2]; frame_out

/-- The point of a run at its block `s`. -/
def pt (t : Fin cfg0.N) (h2 : t.val % 3 = 2) (s : Fin 3) : Fin cfg0.N :=
  ⟨3 * (t.val / 3) + s.val, Pipeline.run_point_lt_of_flush t h2 s⟩

theorem acc_eq (t : Fin cfg0.N) (h2 : t.val % 3 = 2) (y : S1024x1024.Idx) :
    (outsAt0 m c t.val t.isLt).2 y = 0 + ∑ s : Fin 3, (k0_pay1 (iblk m c 0 (pt t h2 s)) (iblk m c 1 (pt t h2 s)) y) :=
  Pipeline.eq_sum_fin_of_reset_step_apply_of_flush (fun n h => (outsAt0 m c n h).2) 3 (fun _ => 0)
    (fun t y => k0_pay1 (iblk m c 0 t) (iblk m c 1 t) y) (first m c) (later m c) t h2 y

/-- The result, from the launched arrays. -/
def res : FVec Ideal S2048x2048 .f32 := fun i => ∑ k : Fin 6144, A0 m c (ix2 (i 0) k) * A1 m c (ix2 (i 1) k)

theorem res_final : (dats m 0 c).arrAt 2 cfg0.N = res m c := by
  refine (dats m 0 c).arrAt_eq_of_covers 2 _ (by decide +kernel) fun t hf y => ?_
  have h2 : t.val % 3 = 2 := (flush0_2 t).mp hf
  obtain ⟨i, j, rfl⟩ : ∃ (i j : Fin 1024), y = ix2 i j := ⟨y 0, y 1, by funext a; fin_cases a <;> rfl⟩
  blk_simp
  rw [after0_2, last m c t h2, acc_eq m c t h2, zero_add]
  unfold res
  refine (Finset.sum_congr rfl fun s _ => pay1_at _ _ i j).trans ?_
  refine Fin.sum_mul_add_congr fun s k hl => ?_
  have e : (3 * (t.val / 3) + s.val) % 3 = s.val := by omega
  have e1 : (3 * (t.val / 3) + s.val) / 6 = t.val / 6 := by omega
  have e2 : (3 * (t.val / 3) + s.val) / 3 % 2 = t.val / 3 % 2 := by omega
  congr 1
  · refine blk0 m c _ i k _ _ ?_ ?_
    · blk_simp [idx2 t]; dsimp only [pt]; omega
    · dsimp only [pt]; omega
  · refine blk1 m c _ j k _ _ ?_ ?_
    · blk_simp [idx2 t]; dsimp only [pt]; omega
    · dsimp only [pt]; omega

/-- The run: the result. -/
theorem run (g : Dev nD → PrngReg) : θ_run defs (onTc (τ := τ) (main (F := Ideal))) ⟨m, fun _ => 0, g⟩ (fun r => ∀ c : Dev nD,
      r.2.mem ((c.tc : Thread nD τ).loc main_v0) = res m c) :=
  (θ_run defs _ _).mono (fun r h c => ((h c).1 2).trans (res_final m c)) (run_main m g)

end Cert.Kernel3Ideal.Mm
end
-- ==== Proof.Mm.V3.lean ====
module

public import proofs.«01_k».proof.Defs
public import proofs.«01_k».proof.Proof.Mm.K3
public import proofs.«01_k».proof.Proof.Gen.Reference3Ideal.Run

/-! # Program 3: the kernel's result is the reference's -/

@[expose] public section
set_option maxRecDepth 16384
noncomputable section
namespace Cert.Reference3Ideal.Mm
open Cert.Reference3Ideal Cert.Reference3Ideal.Gen
open Idealize.ShloMosaic Idealize.ShloMosaic.TcCoe
open Idealize.SL.Sem

section
variable {F : FTy → Type} [FloatOps F] (m : (ℓ : Loc nD τ sig) → Buf (Elt F) ℓ) (ρ : Dev nD → PrngReg)
/-- The arguments end as they began and every counter is at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (Value.run m ρ)
end

theorem dot_at (A : FVec Ideal S2048x6144 .bf16) (B : FVec Ideal S2048x6144 .bf16) (r z : Fin 2048) :
    Host.dotGeneral (F := Ideal) dot_S2048x6144_S2048x6144_S2048x2048_1_1_0_0_n_n none (extf .f32 A bitsLt_bf16_f32) (extf .f32 B bitsLt_bf16_f32) (ix2 r z)
      = ∑ k : Fin 6144, A (ix2 r k) * B (ix2 z k) := by
  pointwise

end Cert.Reference3Ideal.Mm

namespace Cert.Proof
open Idealize.ShloMosaic Idealize.ShloMosaic.TcCoe Idealize.SL.Sem

/-- From memories agreeing on the arguments both programs run and end with the same result. -/
theorem value3 : Cert.algebraic_Kernel3Ideal_Reference3Ideal := by
  intro m g m' g' _ hm
  refine ⟨Kernel3Ideal.Mm.res m, ?_, ?_⟩
  · exact θ_run_and (Kernel3Ideal.Mm.run m g) (Kernel3Ideal.Gen.unchanged m g) |> (θ_run Kernel3Ideal.defs _ _).mono
      (fun r h c => ⟨h.1 c, h.2 c⟩)
  · refine (θ_run Reference3Ideal.defs _ _).mono (fun r h c => ⟨(h c).1.trans ?_, (h c).2⟩) (Reference3Ideal.Value.run m' g')
    obtain ⟨e0, e1⟩ := hm c
    rw [e0, e1]
    funext i
    obtain ⟨r, z, rfl⟩ : ∃ (r z : Fin 2048), i = ix2 r z := ⟨i 0, i 1, by funext a; fin_cases a <;> rfl⟩
    exact Reference3Ideal.Mm.dot_at _ _ r z

end Cert.Proof
end
-- ==== Proof.Mm.K4.lean ====
module

public import proofs.«01_k».proof.Proof.Gen.Kernel4Ideal.Frame
public import Idealize.ShloMosaic.Lib.Pointwise
public import Idealize.ShloMosaic.Lib.Pipeline.ValueKit

/-! # Program 4: a product whose contraction is cut into 3 blocks, element by element -/

@[expose] public section
set_option maxRecDepth 16384
noncomputable section
namespace Cert.Kernel4Ideal.Mm
open Cert.Kernel4Ideal Cert.Kernel4Ideal.Gen
open Idealize.ShloMosaic Idealize.ShloMosaic.TcCoe
open Idealize.SL.Sem

theorem pay1_at (a : Vec Ideal S1024x2048 .bf16) (b : Vec Ideal S1024x2048 .bf16) (i j : Fin 1024) :
    k0_pay1 a b (ix2 i j) = ∑ k : Fin 2048, a (ix2 i k) * b (ix2 j k) := by
  pointwise [k0_pay1]
theorem pay2_at (a : Vec Ideal S1024x2048 .bf16) (b : Vec Ideal S1024x2048 .bf16) (x : Vec Ideal S1024x1024 .f32) (y : S1024x1024.Idx) :
    k0_pay2 a b x y = k0_pay1 a b y + x y := by
  unfold k0_pay2; simp only [shapeCast_self]; rfl
theorem pay3_at (a : Vec Ideal S1024x2048 .bf16) (b : Vec Ideal S1024x2048 .bf16) (x : Vec Ideal S1024x1024 .f32) (y : S1024x1024.Idx) :
    k0_pay3 a b x y = x y + k0_pay1 a b y := by
  unfold k0_pay3; simp only [shapeCast_self]; rfl

variable (m : (ℓ : Loc nD τ sig) → Buf (Elt Ideal) ℓ) (c : Dev nD)

/-- The left factor as launched. -/
def A0 : FVec Ideal S2048x6144 .bf16 := m ((c.tc : Thread nD τ).loc main_arg0)
/-- The right factor as launched. -/
def A1 : FVec Ideal S2048x6144 .bf16 := m ((c.tc : Thread nD τ).loc main_arg1)
/-- The addend as launched. -/
def A2 : FVec Ideal S2048x2048 .f32 := m ((c.tc : Thread nD τ).loc main_arg2)

theorem idx0 : ∀ t : Fin cfg0.N, win0_0.index t = ![t.val / 6, t.val % 3] := by decide +kernel
theorem idx1 : ∀ t : Fin cfg0.N, win0_1.index t = ![t.val / 3 % 2, t.val % 3] := by decide +kernel
theorem idx2 : ∀ t : Fin cfg0.N, win0_2.index t = ![t.val / 6, t.val / 3 % 2] := by decide +kernel
theorem idx3 : ∀ t : Fin cfg0.N, win0_3.index t = ![t.val / 6, t.val / 3 % 2] := by decide +kernel

theorem blk0 (t : Fin cfg0.N) (i : Fin 1024) (k : Fin 2048) (r : Fin 2048) (l : Fin 6144)
    (hr : r.val = t.val / 6 * 1024 + i.val) (hl : l.val = t.val % 3 * 2048 + k.val) :
    iblk m c 0 t (ix2 i k) = A0 m c (ix2 r l) := by
  unfold A0
  blk_ext [iblk, V, idx0 t, hr, hl]
theorem blk1 (t : Fin cfg0.N) (j : Fin 1024) (k : Fin 2048) (r : Fin 2048) (l : Fin 6144)
    (hr : r.val = t.val / 3 % 2 * 1024 + j.val) (hl : l.val = t.val % 3 * 2048 + k.val) :
    iblk m c 1 t (ix2 j k) = A1 m c (ix2 r l) := by
  unfold A1
  blk_ext [iblk, V, idx1 t, hr, hl]
theorem blk2 (t : Fin cfg0.N) (i j : Fin 1024) (r z : Fin 2048)
    (hr : r.val = t.val / 6 * 1024 + i.val) (hz : z.val = t.val / 3 % 2 * 1024 + j.val) :
    iblk m c 2 t (ix2 i j) = A2 m c (ix2 r z) := by
  unfold A2
  blk_ext [iblk, V, idx2 t, hr, hz]
/-- What the first block of a run adds besides its product. -/
def add (t : Fin cfg0.N) : S1024x1024.Idx → EReal := fun y => if t.val % 3 = 0 then iblk m c 2 t y else 0

theorem first (t : Fin cfg0.N) (h : t.val % 3 = 0) (y : S1024x1024.Idx) :
    (outsAt0 m c t.val t.isLt).2 y = 0 + (k0_pay1 (iblk m c 0 t) (iblk m c 1 t) y + add m c t y) := by
  rw [outsAt0_A m c t h (by omega) (by omega)]; frame_out; rw [pay2_at, zero_add, add, if_pos h]
theorem later (t : Fin cfg0.N) (h : ¬t.val % 3 = 0) (y : S1024x1024.Idx) :
    (outsAt0 m c t.val t.isLt).2 y = (outsAt0 m c (t.val - 1) (Nat.lt_of_le_of_lt (Nat.sub_le _ _) t.isLt)).2 y
      + (k0_pay1 (iblk m c 0 t) (iblk m c 1 t) y + add m c t y) := by
  by_cases h2 : t.val % 3 = 2
  · rw [outsAt0_C m c t h (by omega) h2]; frame_out; rw [pay3_at, add, if_neg h, add_zero]; exact congrArg₂ (· + ·) (congrFun ((Memref.isWhole_whole cc0_scratch0).read_unread _) y) rfl
  · rw [outsAt0_B m c t h (by omega) h2]; frame_out; rw [pay3_at, add, if_neg h, add_zero]; exact congrArg₂ (· + ·) (congrFun ((Memref.isWhole_whole cc0_scratch0).read_unread _) y) rfl
/-- At the last block of a run the output is what the accumulator holds. -/
theorem last (t : Fin cfg0.N) (h2 : t.val % 3 = 2) (y : S1024x1024.Idx) :
    (outsAt0 m c t.val t.isLt).1 y = (outsAt0 m c t.val t.isLt).2 y := by
  rw [outsAt0_C m c t (by omega) (by omega) h2]; frame_out

/-- The point of a run at its block `s`. -/
def pt (t : Fin cfg0.N) (h2 : t.val % 3 = 2) (s : Fin 3) : Fin cfg0.N :=
  ⟨3 * (t.val / 3) + s.val, Pipeline.run_point_lt_of_flush t h2 s⟩

theorem acc_eq (t : Fin cfg0.N) (h2 : t.val % 3 = 2) (y : S1024x1024.Idx) :
    (outsAt0 m c t.val t.isLt).2 y = 0 + ∑ s : Fin 3, (k0_pay1 (iblk m c 0 (pt t h2 s)) (iblk m c 1 (pt t h2 s)) y + add m c (pt t h2 s) y) :=
  Pipeline.eq_sum_fin_of_reset_step_apply_of_flush (fun n h => (outsAt0 m c n h).2) 3 (fun _ => 0)
    (fun t y => k0_pay1 (iblk m c 0 t) (iblk m c 1 t) y + add m c t y) (first m c) (later m c) t h2 y

/-- The result, from the launched arrays. -/
def res : FVec Ideal S2048x2048 .f32 := fun i => A2 m c i + ∑ k : Fin 6144, A0 m c (ix2 (i 0) k) * A1 m c (ix2 (i 1) k)

theorem res_final : (dats m 0 c).arrAt 3 cfg0.N = res m c := by
  refine (dats m 0 c).arrAt_eq_of_covers 3 _ (by decide +kernel) fun t hf y => ?_
  have h2 : t.val % 3 = 2 := (flush0_3 t).mp hf
  obtain ⟨i, j, rfl⟩ : ∃ (i j : Fin 1024), y = ix2 i j := ⟨y 0, y 1, by funext a; fin_cases a <;> rfl⟩
  blk_simp
  rw [after0_3, last m c t h2, acc_eq m c t h2, zero_add]
  unfold res
  rw [Finset.sum_add_distrib, add_comm]
  refine congrArg₂ (· + ·) ?_ ?_
  · rw [Fin.sum_univ_three, show add m c (pt t h2 1) (ix2 i j) = 0 from if_neg (by show ¬(3 * (t.val / 3) + 1) % 3 = 0; omega), show add m c (pt t h2 2) (ix2 i j) = 0 from if_neg (by show ¬(3 * (t.val / 3) + 2) % 3 = 0; omega), add_zero, add_zero, show add m c (pt t h2 0) (ix2 i j) = iblk m c 2 (pt t h2 0) (ix2 i j) from if_pos (by show (3 * (t.val / 3) + 0) % 3 = 0; omega)]
    rw [eq_ix2 ((win0_3.blk t).view.emb (ix2 i j))]
    refine blk2 m c _ i j _ _ ?_ ?_
    · blk_simp [idx3 t]; dsimp only [pt, Fin.val_zero]; omega
    · blk_simp [idx3 t]; dsimp only [pt, Fin.val_zero]; omega
  refine (Finset.sum_congr rfl fun s _ => pay1_at _ _ i j).trans ?_
  refine Fin.sum_mul_add_congr fun s k hl => ?_
  have e : (3 * (t.val / 3) + s.val) % 3 = s.val := by omega
  have e1 : (3 * (t.val / 3) + s.val) / 6 = t.val / 6 := by omega
  have e2 : (3 * (t.val / 3) + s.val) / 3 % 2 = t.val / 3 % 2 := by omega
  congr 1
  · refine blk0 m c _ i k _ _ ?_ ?_
    · blk_simp [idx3 t]; dsimp only [pt]; omega
    · dsimp only [pt]; omega
  · refine blk1 m c _ j k _ _ ?_ ?_
    · blk_simp [idx3 t]; dsimp only [pt]; omega
    · dsimp only [pt]; omega

/-- The run: the result. -/
theorem run (g : Dev nD → PrngReg) : θ_run defs (onTc (τ := τ) (main (F := Ideal))) ⟨m, fun _ => 0, g⟩ (fun r => ∀ c : Dev nD,
      r.2.mem ((c.tc : Thread nD τ).loc main_v0) = res m c) :=
  (θ_run defs _ _).mono (fun r h c => ((h c).1 3).trans (res_final m c)) (run_main m g)

end Cert.Kernel4Ideal.Mm
end
-- ==== Proof.Mm.V4.lean ====
module

public import proofs.«01_k».proof.Defs
public import proofs.«01_k».proof.Proof.Mm.K4
public import proofs.«01_k».proof.Proof.Gen.Reference4Ideal.Run

/-! # Program 4: the kernel's result is the reference's -/

@[expose] public section
set_option maxRecDepth 16384
noncomputable section
namespace Cert.Reference4Ideal.Mm
open Cert.Reference4Ideal Cert.Reference4Ideal.Gen
open Idealize.ShloMosaic Idealize.ShloMosaic.TcCoe
open Idealize.SL.Sem

section
variable {F : FTy → Type} [FloatOps F] (m : (ℓ : Loc nD τ sig) → Buf (Elt F) ℓ) (ρ : Dev nD → PrngReg)
/-- The arguments end as they began and every counter is at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Value.run m ρ)
end

theorem dot_at (A : FVec Ideal S2048x6144 .bf16) (B : FVec Ideal S2048x6144 .bf16) (r z : Fin 2048) :
    Host.dotGeneral (F := Ideal) dot_S2048x6144_S2048x6144_S2048x2048_1_1_0_0_n_n none (extf .f32 A bitsLt_bf16_f32) (extf .f32 B bitsLt_bf16_f32) (ix2 r z)
      = ∑ k : Fin 6144, A (ix2 r k) * B (ix2 z k) := by
  pointwise

end Cert.Reference4Ideal.Mm

namespace Cert.Proof
open Idealize.ShloMosaic Idealize.ShloMosaic.TcCoe Idealize.SL.Sem

/-- From memories agreeing on the arguments both programs run and end with the same result. -/
theorem value4 : Cert.algebraic_Kernel4Ideal_Reference4Ideal := by
  intro m g m' g' _ hm
  refine ⟨Kernel4Ideal.Mm.res m, ?_, ?_⟩
  · exact θ_run_and (Kernel4Ideal.Mm.run m g) (Kernel4Ideal.Gen.unchanged m g) |> (θ_run Kernel4Ideal.defs _ _).mono
      (fun r h c => ⟨h.1 c, h.2 c⟩)
  · refine (θ_run Reference4Ideal.defs _ _).mono (fun r h c => ⟨(h c).1.trans ?_, (h c).2⟩) (Reference4Ideal.Value.run m' g')
    obtain ⟨e0, e1, e2⟩ := hm c
    rw [e0, e1, e2]
    funext i
    obtain ⟨r, z, rfl⟩ : ∃ (r z : Fin 2048), i = ix2 r z := ⟨i 0, i 1, by funext a; fin_cases a <;> rfl⟩
    exact congrArg₂ (· + ·) rfl (Reference4Ideal.Mm.dot_at _ _ r z)

end Cert.Proof
end
-- ==== Proof.Mm.K5.lean ====
module

public import proofs.«01_k».proof.Proof.Gen.Kernel5Ideal.Frame
public import Idealize.ShloMosaic.Lib.Pointwise
public import Idealize.ShloMosaic.Lib.Pipeline.ValueKit

/-! # Program 5: a product whose contraction is cut into 3 blocks, element by element -/

@[expose] public section
set_option maxRecDepth 16384
noncomputable section
namespace Cert.Kernel5Ideal.Mm
open Cert.Kernel5Ideal Cert.Kernel5Ideal.Gen
open Idealize.ShloMosaic Idealize.ShloMosaic.TcCoe
open Idealize.SL.Sem

theorem pay1_at (a : Vec Ideal S1024x2048 .bf16) (b : Vec Ideal S2048x1024 .bf16) (i j : Fin 1024) :
    k0_pay1 a b (ix2 i j) = ∑ k : Fin 2048, a (ix2 i k) * b (ix2 k j) := by
  pointwise [k0_pay1]
theorem pay2_at (a : Vec Ideal S1024x2048 .bf16) (b : Vec Ideal S2048x1024 .bf16) (x : Vec Ideal S1024x1024 .f32) (y : S1024x1024.Idx) :
    k0_pay2 a b x y = k0_pay1 a b y + x y := by
  unfold k0_pay2; simp only [shapeCast_self]; rfl
theorem pay3_at (a : Vec Ideal S1024x2048 .bf16) (b : Vec Ideal S2048x1024 .bf16) (x : Vec Ideal S1024x1024 .f32) (y : S1024x1024.Idx) :
    k0_pay3 a b x y = x y + k0_pay1 a b y := by
  unfold k0_pay3; simp only [shapeCast_self]; rfl

variable (m : (ℓ : Loc nD τ sig) → Buf (Elt Ideal) ℓ) (c : Dev nD)

/-- The left factor as launched. -/
def A0 : FVec Ideal S2048x6144 .bf16 := m ((c.tc : Thread nD τ).loc main_arg0)
/-- The right factor as launched. -/
def A1 : FVec Ideal S6144x2048 .bf16 := m ((c.tc : Thread nD τ).loc main_arg1)
/-- The addend as launched. -/
def A2 : FVec Ideal S2048x2048 .f32 := m ((c.tc : Thread nD τ).loc main_arg2)

theorem idx0 : ∀ t : Fin cfg0.N, win0_0.index t = ![t.val / 6, t.val % 3] := by decide +kernel
theorem idx1 : ∀ t : Fin cfg0.N, win0_1.index t = ![t.val % 3, t.val / 3 % 2] := by decide +kernel
theorem idx2 : ∀ t : Fin cfg0.N, win0_2.index t = ![t.val / 6, t.val / 3 % 2] := by decide +kernel
theorem idx3 : ∀ t : Fin cfg0.N, win0_3.index t = ![t.val / 6, t.val / 3 % 2] := by decide +kernel

theorem blk0 (t : Fin cfg0.N) (i : Fin 1024) (k : Fin 2048) (r : Fin 2048) (l : Fin 6144)
    (hr : r.val = t.val / 6 * 1024 + i.val) (hl : l.val = t.val % 3 * 2048 + k.val) :
    iblk m c 0 t (ix2 i k) = A0 m c (ix2 r l) := by
  unfold A0
  blk_ext [iblk, V, idx0 t, hr, hl]
theorem blk1 (t : Fin cfg0.N) (j : Fin 1024) (k : Fin 2048) (r : Fin 2048) (l : Fin 6144)
    (hr : r.val = t.val / 3 % 2 * 1024 + j.val) (hl : l.val = t.val % 3 * 2048 + k.val) :
    iblk m c 1 t (ix2 k j) = A1 m c (ix2 l r) := by
  unfold A1
  blk_ext [iblk, V, idx1 t, hr, hl]
theorem blk2 (t : Fin cfg0.N) (i j : Fin 1024) (r z : Fin 2048)
    (hr : r.val = t.val / 6 * 1024 + i.val) (hz : z.val = t.val / 3 % 2 * 1024 + j.val) :
    iblk m c 2 t (ix2 i j) = A2 m c (ix2 r z) := by
  unfold A2
  blk_ext [iblk, V, idx2 t, hr, hz]
/-- What the first block of a run adds besides its product. -/
def add (t : Fin cfg0.N) : S1024x1024.Idx → EReal := fun y => if t.val % 3 = 0 then iblk m c 2 t y else 0

theorem first (t : Fin cfg0.N) (h : t.val % 3 = 0) (y : S1024x1024.Idx) :
    (outsAt0 m c t.val t.isLt).2 y = 0 + (k0_pay1 (iblk m c 0 t) (iblk m c 1 t) y + add m c t y) := by
  rw [outsAt0_A m c t h (by omega) (by omega)]; frame_out; rw [pay2_at, zero_add, add, if_pos h]
theorem later (t : Fin cfg0.N) (h : ¬t.val % 3 = 0) (y : S1024x1024.Idx) :
    (outsAt0 m c t.val t.isLt).2 y = (outsAt0 m c (t.val - 1) (Nat.lt_of_le_of_lt (Nat.sub_le _ _) t.isLt)).2 y
      + (k0_pay1 (iblk m c 0 t) (iblk m c 1 t) y + add m c t y) := by
  by_cases h2 : t.val % 3 = 2
  · rw [outsAt0_C m c t h (by omega) h2]; frame_out; rw [pay3_at, add, if_neg h, add_zero]; exact congrArg₂ (· + ·) (congrFun ((Memref.isWhole_whole cc0_scratch0).read_unread _) y) rfl
  · rw [outsAt0_B m c t h (by omega) h2]; frame_out; rw [pay3_at, add, if_neg h, add_zero]; exact congrArg₂ (· + ·) (congrFun ((Memref.isWhole_whole cc0_scratch0).read_unread _) y) rfl
/-- At the last block of a run the output is what the accumulator holds. -/
theorem last (t : Fin cfg0.N) (h2 : t.val % 3 = 2) (y : S1024x1024.Idx) :
    (outsAt0 m c t.val t.isLt).1 y = (outsAt0 m c t.val t.isLt).2 y := by
  rw [outsAt0_C m c t (by omega) (by omega) h2]; frame_out

/-- The point of a run at its block `s`. -/
def pt (t : Fin cfg0.N) (h2 : t.val % 3 = 2) (s : Fin 3) : Fin cfg0.N :=
  ⟨3 * (t.val / 3) + s.val, Pipeline.run_point_lt_of_flush t h2 s⟩

theorem acc_eq (t : Fin cfg0.N) (h2 : t.val % 3 = 2) (y : S1024x1024.Idx) :
    (outsAt0 m c t.val t.isLt).2 y = 0 + ∑ s : Fin 3, (k0_pay1 (iblk m c 0 (pt t h2 s)) (iblk m c 1 (pt t h2 s)) y + add m c (pt t h2 s) y) :=
  Pipeline.eq_sum_fin_of_reset_step_apply_of_flush (fun n h => (outsAt0 m c n h).2) 3 (fun _ => 0)
    (fun t y => k0_pay1 (iblk m c 0 t) (iblk m c 1 t) y + add m c t y) (first m c) (later m c) t h2 y

/-- The result, from the launched arrays. -/
def res : FVec Ideal S2048x2048 .f32 := fun i => A2 m c i + ∑ k : Fin 6144, A0 m c (ix2 (i 0) k) * A1 m c (ix2 k (i 1))

theorem res_final : (dats m 0 c).arrAt 3 cfg0.N = res m c := by
  refine (dats m 0 c).arrAt_eq_of_covers 3 _ (by decide +kernel) fun t hf y => ?_
  have h2 : t.val % 3 = 2 := (flush0_3 t).mp hf
  obtain ⟨i, j, rfl⟩ : ∃ (i j : Fin 1024), y = ix2 i j := ⟨y 0, y 1, by funext a; fin_cases a <;> rfl⟩
  blk_simp
  rw [after0_3, last m c t h2, acc_eq m c t h2, zero_add]
  unfold res
  rw [Finset.sum_add_distrib, add_comm]
  refine congrArg₂ (· + ·) ?_ ?_
  · rw [Fin.sum_univ_three, show add m c (pt t h2 1) (ix2 i j) = 0 from if_neg (by show ¬(3 * (t.val / 3) + 1) % 3 = 0; omega), show add m c (pt t h2 2) (ix2 i j) = 0 from if_neg (by show ¬(3 * (t.val / 3) + 2) % 3 = 0; omega), add_zero, add_zero, show add m c (pt t h2 0) (ix2 i j) = iblk m c 2 (pt t h2 0) (ix2 i j) from if_pos (by show (3 * (t.val / 3) + 0) % 3 = 0; omega)]
    rw [eq_ix2 ((win0_3.blk t).view.emb (ix2 i j))]
    refine blk2 m c _ i j _ _ ?_ ?_
    · blk_simp [idx3 t]; dsimp only [pt, Fin.val_zero]; omega
    · blk_simp [idx3 t]; dsimp only [pt, Fin.val_zero]; omega
  refine (Finset.sum_congr rfl fun s _ => pay1_at _ _ i j).trans ?_
  refine Fin.sum_mul_add_congr fun s k hl => ?_
  have e : (3 * (t.val / 3) + s.val) % 3 = s.val := by omega
  have e1 : (3 * (t.val / 3) + s.val) / 6 = t.val / 6 := by omega
  have e2 : (3 * (t.val / 3) + s.val) / 3 % 2 = t.val / 3 % 2 := by omega
  congr 1
  · refine blk0 m c _ i k _ _ ?_ ?_
    · blk_simp [idx3 t]; dsimp only [pt]; omega
    · dsimp only [pt]; omega
  · refine blk1 m c _ j k _ _ ?_ ?_
    · blk_simp [idx3 t]; dsimp only [pt]; omega
    · dsimp only [pt]; omega

/-- The run: the result. -/
theorem run (g : Dev nD → PrngReg) : θ_run defs (onTc (τ := τ) (main (F := Ideal))) ⟨m, fun _ => 0, g⟩ (fun r => ∀ c : Dev nD,
      r.2.mem ((c.tc : Thread nD τ).loc main_v0) = res m c) :=
  (θ_run defs _ _).mono (fun r h c => ((h c).1 3).trans (res_final m c)) (run_main m g)

end Cert.Kernel5Ideal.Mm
end
-- ==== Proof.Mm.V5.lean ====
module

public import proofs.«01_k».proof.Defs
public import proofs.«01_k».proof.Proof.Mm.K5
public import proofs.«01_k».proof.Proof.Gen.Reference5Ideal.Run

/-! # Program 5: the kernel's result is the reference's -/

@[expose] public section
set_option maxRecDepth 16384
noncomputable section
namespace Cert.Reference5Ideal.Mm
open Cert.Reference5Ideal Cert.Reference5Ideal.Gen
open Idealize.ShloMosaic Idealize.ShloMosaic.TcCoe
open Idealize.SL.Sem

section
variable {F : FTy → Type} [FloatOps F] (m : (ℓ : Loc nD τ sig) → Buf (Elt F) ℓ) (ρ : Dev nD → PrngReg)
/-- The arguments end as they began and every counter is at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Value.run m ρ)
end

theorem dot_at (A : FVec Ideal S2048x6144 .bf16) (B : FVec Ideal S6144x2048 .bf16) (r z : Fin 2048) :
    Host.dotGeneral (F := Ideal) dot_S2048x6144_S6144x2048_S2048x2048_1_0_0_1_n_n none (extf .f32 A bitsLt_bf16_f32) (extf .f32 B bitsLt_bf16_f32) (ix2 r z)
      = ∑ k : Fin 6144, A (ix2 r k) * B (ix2 k z) := by
  pointwise

end Cert.Reference5Ideal.Mm

namespace Cert.Proof
open Idealize.ShloMosaic Idealize.ShloMosaic.TcCoe Idealize.SL.Sem

/-- From memories agreeing on the arguments both programs run and end with the same result. -/
theorem value5 : Cert.algebraic_Kernel5Ideal_Reference5Ideal := by
  intro m g m' g' _ hm
  refine ⟨Kernel5Ideal.Mm.res m, ?_, ?_⟩
  · exact θ_run_and (Kernel5Ideal.Mm.run m g) (Kernel5Ideal.Gen.unchanged m g) |> (θ_run Kernel5Ideal.defs _ _).mono
      (fun r h c => ⟨h.1 c, h.2 c⟩)
  · refine (θ_run Reference5Ideal.defs _ _).mono (fun r h c => ⟨(h c).1.trans ?_, (h c).2⟩) (Reference5Ideal.Value.run m' g')
    obtain ⟨e0, e1, e2⟩ := hm c
    rw [e0, e1, e2]
    funext i
    obtain ⟨r, z, rfl⟩ : ∃ (r z : Fin 2048), i = ix2 r z := ⟨i 0, i 1, by funext a; fin_cases a <;> rfl⟩
    exact congrArg₂ (· + ·) rfl (Reference5Ideal.Mm.dot_at _ _ r z)

end Cert.Proof
end
-- ==== Proof.Mm.K6.lean ====
module

public import proofs.«01_k».proof.Proof.Gen.Kernel6Ideal.Frame
public import Idealize.ShloMosaic.Lib.Pointwise
public import Idealize.ShloMosaic.Lib.Pipeline.ValueKit

/-! # Program 6: a product whose contraction is cut into 6 blocks, element by element -/

@[expose] public section
set_option maxRecDepth 16384
noncomputable section
namespace Cert.Kernel6Ideal.Mm
open Cert.Kernel6Ideal Cert.Kernel6Ideal.Gen
open Idealize.ShloMosaic Idealize.ShloMosaic.TcCoe
open Idealize.SL.Sem

theorem pay1_at (a : Vec Ideal S1024x2048 .bf16) (b : Vec Ideal S1024x2048 .bf16) (i j : Fin 1024) :
    k0_pay1 a b (ix2 i j) = ∑ k : Fin 2048, a (ix2 i k) * b (ix2 j k) := by
  pointwise [k0_pay1]
theorem pay2_at (a : Vec Ideal S1024x2048 .bf16) (b : Vec Ideal S1024x2048 .bf16) (y : S1024x1024.Idx) : k0_pay2 a b y = k0_pay1 a b y := by
  unfold k0_pay2; simp only [shapeCast_self]
theorem pay3_at (a : Vec Ideal S1024x2048 .bf16) (b : Vec Ideal S1024x2048 .bf16) (x : Vec Ideal S1024x1024 .f32) (y : S1024x1024.Idx) :
    k0_pay3 a b x y = x y + k0_pay1 a b y := by
  unfold k0_pay3; simp only [shapeCast_self]; rfl

variable (m : (ℓ : Loc nD τ sig) → Buf (Elt Ideal) ℓ) (c : Dev nD)

/-- The left factor as launched. -/
def A0 : FVec Ideal S2048x12288 .bf16 := m ((c.tc : Thread nD τ).loc main_arg0)
/-- The right factor as launched. -/
def A1 : FVec Ideal S2048x12288 .bf16 := m ((c.tc : Thread nD τ).loc main_arg1)

theorem idx0 : ∀ t : Fin cfg0.N, win0_0.index t = ![t.val / 12, t.val % 6] := by decide +kernel
theorem idx1 : ∀ t : Fin cfg0.N, win0_1.index t = ![t.val / 6 % 2, t.val % 6] := by decide +kernel
theorem idx2 : ∀ t : Fin cfg0.N, win0_2.index t = ![t.val / 12, t.val / 6 % 2] := by decide +kernel

theorem blk0 (t : Fin cfg0.N) (i : Fin 1024) (k : Fin 2048) (r : Fin 2048) (l : Fin 12288)
    (hr : r.val = t.val / 12 * 1024 + i.val) (hl : l.val = t.val % 6 * 2048 + k.val) :
    iblk m c 0 t (ix2 i k) = A0 m c (ix2 r l) := by
  unfold A0
  blk_ext [iblk, V, idx0 t, hr, hl]
theorem blk1 (t : Fin cfg0.N) (j : Fin 1024) (k : Fin 2048) (r : Fin 2048) (l : Fin 12288)
    (hr : r.val = t.val / 6 % 2 * 1024 + j.val) (hl : l.val = t.val % 6 * 2048 + k.val) :
    iblk m c 1 t (ix2 j k) = A1 m c (ix2 r l) := by
  unfold A1
  blk_ext [iblk, V, idx1 t, hr, hl]

theorem first (t : Fin cfg0.N) (h : t.val % 6 = 0) (y : S1024x1024.Idx) :
    (outsAt0 m c t.val t.isLt).2 y = 0 + (k0_pay1 (iblk m c 0 t) (iblk m c 1 t) y) := by
  rw [outsAt0_A m c t h (by omega) (by omega)]; frame_out; rw [pay2_at, zero_add]
theorem later (t : Fin cfg0.N) (h : ¬t.val % 6 = 0) (y : S1024x1024.Idx) :
    (outsAt0 m c t.val t.isLt).2 y = (outsAt0 m c (t.val - 1) (Nat.lt_of_le_of_lt (Nat.sub_le _ _) t.isLt)).2 y
      + (k0_pay1 (iblk m c 0 t) (iblk m c 1 t) y) := by
  by_cases h2 : t.val % 6 = 5
  · rw [outsAt0_C m c t h (by omega) h2]; frame_out; rw [pay3_at]; exact congrArg₂ (· + ·) (congrFun ((Memref.isWhole_whole cc0_scratch0).read_unread _) y) rfl
  · rw [outsAt0_B m c t h (by omega) h2]; frame_out; rw [pay3_at]; exact congrArg₂ (· + ·) (congrFun ((Memref.isWhole_whole cc0_scratch0).read_unread _) y) rfl
/-- At the last block of a run the output is what the accumulator holds. -/
theorem last (t : Fin cfg0.N) (h2 : t.val % 6 = 5) (y : S1024x1024.Idx) :
    (outsAt0 m c t.val t.isLt).1 y = (outsAt0 m c t.val t.isLt).2 y := by
  rw [outsAt0_C m c t (by omega) (by omega) h2]; frame_out

/-- The point of a run at its block `s`. -/
def pt (t : Fin cfg0.N) (h2 : t.val % 6 = 5) (s : Fin 6) : Fin cfg0.N :=
  ⟨6 * (t.val / 6) + s.val, Pipeline.run_point_lt_of_flush t h2 s⟩

theorem acc_eq (t : Fin cfg0.N) (h2 : t.val % 6 = 5) (y : S1024x1024.Idx) :
    (outsAt0 m c t.val t.isLt).2 y = 0 + ∑ s : Fin 6, (k0_pay1 (iblk m c 0 (pt t h2 s)) (iblk m c 1 (pt t h2 s)) y) :=
  Pipeline.eq_sum_fin_of_reset_step_apply_of_flush (fun n h => (outsAt0 m c n h).2) 6 (fun _ => 0)
    (fun t y => k0_pay1 (iblk m c 0 t) (iblk m c 1 t) y) (first m c) (later m c) t h2 y

/-- The result, from the launched arrays. -/
def res : FVec Ideal S2048x2048 .f32 := fun i => ∑ k : Fin 12288, A0 m c (ix2 (i 0) k) * A1 m c (ix2 (i 1) k)

theorem res_final : (dats m 0 c).arrAt 2 cfg0.N = res m c := by
  refine (dats m 0 c).arrAt_eq_of_covers 2 _ (by decide +kernel) fun t hf y => ?_
  have h2 : t.val % 6 = 5 := (flush0_2 t).mp hf
  obtain ⟨i, j, rfl⟩ : ∃ (i j : Fin 1024), y = ix2 i j := ⟨y 0, y 1, by funext a; fin_cases a <;> rfl⟩
  blk_simp
  rw [after0_2, last m c t h2, acc_eq m c t h2, zero_add]
  unfold res
  refine (Finset.sum_congr rfl fun s _ => pay1_at _ _ i j).trans ?_
  refine Fin.sum_mul_add_congr fun s k hl => ?_
  have e : (6 * (t.val / 6) + s.val) % 6 = s.val := by omega
  have e1 : (6 * (t.val / 6) + s.val) / 12 = t.val / 12 := by omega
  have e2 : (6 * (t.val / 6) + s.val) / 6 % 2 = t.val / 6 % 2 := by omega
  congr 1
  · refine blk0 m c _ i k _ _ ?_ ?_
    · blk_simp [idx2 t]; dsimp only [pt]; omega
    · dsimp only [pt]; omega
  · refine blk1 m c _ j k _ _ ?_ ?_
    · blk_simp [idx2 t]; dsimp only [pt]; omega
    · dsimp only [pt]; omega

/-- The run: the result. -/
theorem run (g : Dev nD → PrngReg) : θ_run defs (onTc (τ := τ) (main (F := Ideal))) ⟨m, fun _ => 0, g⟩ (fun r => ∀ c : Dev nD,
      r.2.mem ((c.tc : Thread nD τ).loc main_v0) = res m c) :=
  (θ_run defs _ _).mono (fun r h c => ((h c).1 2).trans (res_final m c)) (run_main m g)

end Cert.Kernel6Ideal.Mm
end
-- ==== Proof.Mm.V6.lean ====
module

public import proofs.«01_k».proof.Defs
public import proofs.«01_k».proof.Proof.Mm.K6
public import proofs.«01_k».proof.Proof.Gen.Reference6Ideal.Run

/-! # Program 6: the kernel's result is the reference's -/

@[expose] public section
set_option maxRecDepth 16384
noncomputable section
namespace Cert.Reference6Ideal.Mm
open Cert.Reference6Ideal Cert.Reference6Ideal.Gen
open Idealize.ShloMosaic Idealize.ShloMosaic.TcCoe
open Idealize.SL.Sem

section
variable {F : FTy → Type} [FloatOps F] (m : (ℓ : Loc nD τ sig) → Buf (Elt F) ℓ) (ρ : Dev nD → PrngReg)
/-- The arguments end as they began and every counter is at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (Value.run m ρ)
end

theorem dot_at (A : FVec Ideal S2048x12288 .bf16) (B : FVec Ideal S2048x12288 .bf16) (r z : Fin 2048) :
    Host.dotGeneral (F := Ideal) dot_S2048x12288_S2048x12288_S2048x2048_1_1_0_0_n_n none (extf .f32 A bitsLt_bf16_f32) (extf .f32 B bitsLt_bf16_f32) (ix2 r z)
      = ∑ k : Fin 12288, A (ix2 r k) * B (ix2 z k) := by
  pointwise

end Cert.Reference6Ideal.Mm

namespace Cert.Proof
open Idealize.ShloMosaic Idealize.ShloMosaic.TcCoe Idealize.SL.Sem

/-- From memories agreeing on the arguments both programs run and end with the same result. -/
theorem value6 : Cert.algebraic_Kernel6Ideal_Reference6Ideal := by
  intro m g m' g' _ hm
  refine ⟨Kernel6Ideal.Mm.res m, ?_, ?_⟩
  · exact θ_run_and (Kernel6Ideal.Mm.run m g) (Kernel6Ideal.Gen.unchanged m g) |> (θ_run Kernel6Ideal.defs _ _).mono
      (fun r h c => ⟨h.1 c, h.2 c⟩)
  · refine (θ_run Reference6Ideal.defs _ _).mono (fun r h c => ⟨(h c).1.trans ?_, (h c).2⟩) (Reference6Ideal.Value.run m' g')
    obtain ⟨e0, e1⟩ := hm c
    rw [e0, e1]
    funext i
    obtain ⟨r, z, rfl⟩ : ∃ (r z : Fin 2048), i = ix2 r z := ⟨i 0, i 1, by funext a; fin_cases a <;> rfl⟩
    exact Reference6Ideal.Mm.dot_at _ _ r z

end Cert.Proof
end
-- ==== Proof.Mm.R7.lean ====
module

public import proofs.«01_k».proof.Proof.Gen.Kernel7Ideal.Frame
public import proofs.«01_k».proof.Proof.Mm.Spec
public import Idealize.ShloMosaic.Lib.Pointwise
public import Idealize.ShloMosaic.Lib.Pipeline.ValueKit

/-! # Program 7: what each call leaves in its array -/

@[expose] public section
set_option maxRecDepth 16384
noncomputable section
namespace Cert.Kernel7Ideal.Mm
open Cert.Kernel7Ideal Cert.Kernel7Ideal.Gen
open Idealize.ShloMosaic Idealize.ShloMosaic.TcCoe
open Idealize.SL.Sem

variable (V : (c : Dev nD) → (b : Ref sig .tc) → Buf (Elt Ideal) ((c : Thread nD τ).loc b)) (c : Dev nD)

/-! ## Region 0: the normalised rows -/

theorem pay0_at (a : Vec Ideal S256x2048 .f32) (b : Vec Ideal S1x2048 .f32) (i : Fin 256) (j : Fin 2048) :
    k0_pay1 a b (ix2 i j) = a (ix2 i j) * Ideal.rsqrt (Ideal.div (∑ l, a (ix2 i l) * a (ix2 i l)) (Ideal.ofBits .f32 1157627904#32)
      + Ideal.ofBits .f32 897988541#32) * b (ix2 0 j) := by
  pointwise [k0_pay1]
theorem idx0_0 : ∀ t : Fin cfg0.N, win0_0.index t = ![t.val, 0] := by decide +kernel
theorem idx0_1 : ∀ t : Fin cfg0.N, win0_1.index t = ![0, 0] := by decide +kernel
theorem idx0_2 : ∀ t : Fin cfg0.N, win0_2.index t = ![t.val, 0] := by decide +kernel
theorem blk0_0 (t : Fin cfg0.N) (i : Fin 256) (j : Fin 2048) (r : Fin 2048) (hr : r.val = t.val * 256 + i.val) :
    iblk0 V c 0 t (ix2 i j) = (V c main_arg0 : FVec Ideal S2048x2048 .f32) (ix2 r j) := by
  blk_ext [iblk0, idx0_0 t, hr]
theorem blk0_1 (t : Fin cfg0.N) (j : Fin 2048) :
    iblk0 V c 1 t (ix2 0 j) = (V c main_arg1 : FVec Ideal S1x2048 .f32) (ix2 0 j) := by
  blk_ext [iblk0, idx0_1 t]
/-- What region 0 leaves in its array. -/
def out0 : FVec Ideal S2048x2048 .bf16 := fun i => MmSpec.nrm (fun r l => (V c main_arg0 : FVec Ideal S2048x2048 .f32) (ix2 r l))
  (fun l => (V c main_arg1 : FVec Ideal S1x2048 .f32) (ix2 0 l)) (i 0) (i 1)
theorem final0 : (dat0 V c).arrAt 2 cfg0.N = out0 V c := by
  refine (dat0 V c).arrAt_eq_of_covers 2 _ (by decide +kernel) fun t hf y => ?_
  obtain ⟨i, j, rfl⟩ : ∃ (i : Fin 256) (j : Fin 2048), y = ix2 i j := ⟨y 0, y 1, by funext a; fin_cases a <;> rfl⟩
  blk_simp
  rw [after0_2]
  frame_out
  rw [pay0_at]
  have ht : t.val < 8 := t.isLt
  have e : (win0_2.blk t).view.emb (ix2 i j) = ix2 (⟨t.val * 256 + i.val, by omega⟩ : Fin 2048) j := by
    refine (eq_ix2 _).trans (congrArg₂ ix2 (Fin.ext ?_) (Fin.ext ?_))
    · blk_simp [idx0_2 t]
    · blk_simp [idx0_2 t]
  rw [e, blk0_1 V c t j, blk0_0 V c t i j ⟨t.val * 256 + i.val, by omega⟩ rfl,
    Finset.sum_congr rfl fun l _ => by rw [blk0_0 V c t i l ⟨t.val * 256 + i.val, by omega⟩ rfl]]
  rfl

/-! ## Region 1: a product written tile by tile -/

theorem pay1_at (a : Vec Ideal S1024x2048 .bf16) (b : Vec Ideal S2048x1024 .bf16) (i j : Fin 1024) :
    k1_pay1 a b (ix2 i j) = ∑ k : Fin 2048, a (ix2 i k) * b (ix2 k j) := by
  pointwise [k1_pay1]
theorem idx1_0 : ∀ t : Fin cfg1.N, win1_0.index t = ![t.val / 12, 0] := by decide +kernel
theorem idx1_1 : ∀ t : Fin cfg1.N, win1_1.index t = ![0, t.val % 12] := by decide +kernel
theorem idx1_2 : ∀ t : Fin cfg1.N, win1_2.index t = ![t.val / 12, t.val % 12] := by decide +kernel
theorem blk1_0 (t : Fin cfg1.N) (i : Fin 1024) (k : Fin 2048) (r : Fin 2048) (hr : r.val = t.val / 12 * 1024 + i.val) :
    iblk1 V c 0 t (ix2 i k) = (V c main_v0 : FVec Ideal S2048x2048 .bf16) (ix2 r k) := by
  blk_ext [iblk1, idx1_0 t, hr]
theorem blk1_1 (t : Fin cfg1.N) (j : Fin 1024) (k : Fin 2048) (z : Fin 12288) (hz : z.val = t.val % 12 * 1024 + j.val) :
    iblk1 V c 1 t (ix2 k j) = (V c main_arg2 : FVec Ideal S2048x12288 .bf16) (ix2 k z) := by
  blk_ext [iblk1, idx1_1 t, hz]
/-- What region 1 leaves in its array. -/
def out1 : FVec Ideal S2048x12288 .f32 := fun i => MmSpec.mm (fun r l => (V c main_v0 : FVec Ideal S2048x2048 .bf16) (ix2 r l)) (fun r l => (V c main_arg2 : FVec Ideal S2048x12288 .bf16) (ix2 r l)) (i 0) (i 1)
theorem final1 : (dat1 V c).arrAt 2 cfg1.N = out1 V c := by
  refine (dat1 V c).arrAt_eq_of_covers 2 _ (by decide +kernel) fun t hf y => ?_
  obtain ⟨i, j, rfl⟩ : ∃ (i j : Fin 1024), y = ix2 i j := ⟨y 0, y 1, by funext a; fin_cases a <;> rfl⟩
  blk_simp
  rw [after1_2]
  frame_out
  rw [pay1_at]
  unfold out1 MmSpec.mm
  refine show (_ : EReal) = _ from Finset.sum_congr rfl fun k _ => ?_
  congr 1
  · refine blk1_0 V c t i k _ ?_
    blk_simp [idx1_2 t]
  · refine blk1_1 V c t j k _ ?_
    blk_simp [idx1_2 t]

/-! ## Region 2: a product written tile by tile -/

theorem pay2_at (a : Vec Ideal S2048x1024 .bf16) (b : Vec Ideal S2048x1024 .bf16) (i j : Fin 1024) :
    k2_pay1 a b (ix2 i j) = ∑ k : Fin 2048, a (ix2 k i) * b (ix2 k j) := by
  pointwise [k2_pay1]
theorem idx2_0 : ∀ t : Fin cfg2.N, win2_0.index t = ![0, t.val / 12] := by decide +kernel
theorem idx2_1 : ∀ t : Fin cfg2.N, win2_1.index t = ![0, t.val % 12] := by decide +kernel
theorem idx2_2 : ∀ t : Fin cfg2.N, win2_2.index t = ![t.val / 12, t.val % 12] := by decide +kernel
theorem blk2_0 (t : Fin cfg2.N) (i : Fin 1024) (k : Fin 2048) (r : Fin 2048) (hr : r.val = t.val / 12 * 1024 + i.val) :
    iblk2 V c 0 t (ix2 k i) = (V c main_v0 : FVec Ideal S2048x2048 .bf16) (ix2 k r) := by
  blk_ext [iblk2, idx2_0 t, hr]
theorem blk2_1 (t : Fin cfg2.N) (j : Fin 1024) (k : Fin 2048) (z : Fin 12288) (hz : z.val = t.val % 12 * 1024 + j.val) :
    iblk2 V c 1 t (ix2 k j) = (V c main_arg3 : FVec Ideal S2048x12288 .bf16) (ix2 k z) := by
  blk_ext [iblk2, idx2_1 t, hz]
/-- What region 2 leaves in its array. -/
def out2 : FVec Ideal S2048x12288 .bf16 := fun i => MmSpec.mTm (fun r l => (V c main_v0 : FVec Ideal S2048x2048 .bf16) (ix2 r l)) (fun r l => (V c main_arg3 : FVec Ideal S2048x12288 .bf16) (ix2 r l)) (i 0) (i 1)
theorem final2 : (dat2 V c).arrAt 2 cfg2.N = out2 V c := by
  refine (dat2 V c).arrAt_eq_of_covers 2 _ (by decide +kernel) fun t hf y => ?_
  obtain ⟨i, j, rfl⟩ : ∃ (i j : Fin 1024), y = ix2 i j := ⟨y 0, y 1, by funext a; fin_cases a <;> rfl⟩
  blk_simp
  rw [after2_2]
  frame_out
  rw [pay2_at]
  unfold out2 MmSpec.mTm
  refine show (_ : EReal) = _ from Finset.sum_congr rfl fun k _ => ?_
  congr 1
  · refine blk2_0 V c t i k _ ?_
    blk_simp [idx2_2 t]
  · refine blk2_1 V c t j k _ ?_
    blk_simp [idx2_2 t]

end Cert.Kernel7Ideal.Mm
end
-- ==== Proof.Mm.C7.lean ====
module

public import proofs.«01_k».proof.Proof.Mm.R7

/-! # Program 7: the calls one after another, and the run with its results -/

@[expose] public section
set_option maxRecDepth 16384
noncomputable section
namespace Cert.Kernel7Ideal.Mm
open Cert.Kernel7Ideal Cert.Kernel7Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ
variable (m : (ℓ : Loc nD τ sig) → Buf (Elt Ideal) ℓ) (ρ : Dev nD → PrngReg) (c : Dev nD)

/-! ## The values, as functions of row and column -/

def X0 : Fin 2048 → Fin 2048 → EReal := fun r l => (m ((c : Thread nD τ).loc main_arg0) : FVec Ideal S2048x2048 .f32) (ix2 r l)
def X1 : Fin 1 → Fin 2048 → EReal := fun r l => (m ((c : Thread nD τ).loc main_arg1) : FVec Ideal S1x2048 .f32) (ix2 r l)
def X2 : Fin 2048 → Fin 12288 → EReal := fun r l => (m ((c : Thread nD τ).loc main_arg2) : FVec Ideal S2048x12288 .bf16) (ix2 r l)
def X3 : Fin 2048 → Fin 12288 → EReal := fun r l => (m ((c : Thread nD τ).loc main_arg3) : FVec Ideal S2048x12288 .bf16) (ix2 r l)
def H : Fin 2048 → Fin 2048 → EReal := MmSpec.nrm (X0 m c) (X1 m c 0)
def P : Fin 2048 → Fin 12288 → EReal := MmSpec.mm (H m c) (X2 m c)
def DW : Fin 2048 → Fin 12288 → EReal := MmSpec.mTm (H m c) (X3 m c)

/-! ## What each buffer holds when it is read -/
theorem a0_0 : (W0 m ρ c (Proc.devRef .tc main_arg0) : FVec Ideal S2048x2048 .f32) = fun i => X0 m c (i 0) (i 1) :=
  (W0_args m ρ c main_arg0 (by decide)).trans (funext fun i => congrArg (m ((c : Thread nD τ).loc main_arg0) : FVec Ideal S2048x2048 .f32) (eq_ix2 i))
theorem a1_0 : (W0 m ρ c (Proc.devRef .tc main_arg1) : FVec Ideal S1x2048 .f32) = fun i => X1 m c (i 0) (i 1) :=
  (W0_args m ρ c main_arg1 (by decide)).trans (funext fun i => congrArg (m ((c : Thread nD τ).loc main_arg1) : FVec Ideal S1x2048 .f32) (eq_ix2 i))
theorem a2_1 : (W1 m ρ c (Proc.devRef .tc main_arg2) : FVec Ideal S2048x12288 .bf16) = fun i => X2 m c (i 0) (i 1) :=
  (W1_args m ρ c main_arg2 (by decide)).trans (funext fun i => congrArg (m ((c : Thread nD τ).loc main_arg2) : FVec Ideal S2048x12288 .bf16) (eq_ix2 i))
theorem a3_2 : (W2 m ρ c (Proc.devRef .tc main_arg3) : FVec Ideal S2048x12288 .bf16) = fun i => X3 m c (i 0) (i 1) :=
  (W2_args m ρ c main_arg3 (by decide)).trans (funext fun i => congrArg (m ((c : Thread nD τ).loc main_arg3) : FVec Ideal S2048x12288 .bf16) (eq_ix2 i))
theorem v0_1 : (W1 m ρ c (Proc.devRef .tc main_v0) : FVec Ideal S2048x2048 .bf16) = fun i => H m c (i 0) (i 1) := by
  refine (W1_arr m ρ c 2).trans ((final0 (V0 m ρ) c).trans ?_)
  unfold out0
  rw [show (V0 m ρ c main_arg0 : FVec Ideal S2048x2048 .f32) = fun i => X0 m c (i 0) (i 1) from a0_0 m ρ c, show (V0 m ρ c main_arg1 : FVec Ideal S1x2048 .f32) = fun i => X1 m c (i 0) (i 1) from a1_0 m ρ c]
  rfl
theorem v0_2 : (W2 m ρ c (Proc.devRef .tc main_v0) : FVec Ideal S2048x2048 .bf16) = fun i => H m c (i 0) (i 1) :=
  (W2_of m ρ c main_v0 (by decide)).trans (v0_1 m ρ c)
theorem v1_2 : (W2 m ρ c (Proc.devRef .tc main_v1) : FVec Ideal S2048x12288 .f32) = fun i => P m c (i 0) (i 1) := by
  refine (W2_arr m ρ c 2).trans ((final1 (V1 m ρ) c).trans ?_)
  unfold out1
  rw [show (V1 m ρ c main_v0 : FVec Ideal S2048x2048 .bf16) = fun i => H m c (i 0) (i 1) from v0_1 m ρ c, show (V1 m ρ c main_arg2 : FVec Ideal S2048x12288 .bf16) = fun i => X2 m c (i 0) (i 1) from a2_1 m ρ c]
  rfl
theorem v1_3 : (W3 m ρ c (Proc.devRef .tc main_v1) : FVec Ideal S2048x12288 .f32) = fun i => P m c (i 0) (i 1) :=
  (W3_of m ρ c main_v1 (by decide)).trans (v1_2 m ρ c)
theorem v2_3 : (W3 m ρ c (Proc.devRef .tc main_v2) : FVec Ideal S2048x12288 .bf16) = fun i => DW m c (i 0) (i 1) := by
  refine (W3_arr m ρ c 2).trans ((final2 (V2 m ρ) c).trans ?_)
  unfold out2
  rw [show (V2 m ρ c main_v0 : FVec Ideal S2048x2048 .bf16) = fun i => H m c (i 0) (i 1) from v0_2 m ρ c, show (V2 m ρ c main_arg3 : FVec Ideal S2048x12288 .bf16) = fun i => X3 m c (i 0) (i 1) from a3_2 m ρ c]
  rfl

/-! ## The run -/

set_option backward.isDefEq.respectTransparency.types false in
/-- Every run ends with each result's array at its value. -/
theorem run : θ_run defs (onTc (τ := τ) (main (F := Ideal))) ⟨m, fun _ => 0, ρ⟩ (fun r => ∀ c : Dev nD,
      r.2.mem ((c.tc : Thread nD τ).loc main_v1) = (fun i => P m c (i 0) (i 1) : FVec Ideal S2048x12288 .f32)
      ∧ r.2.mem ((c.tc : Thread nD τ).loc main_v2) = (fun i => DW m c (i 0) (i 1) : FVec Ideal S2048x12288 .bf16)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
     ⟨(h c _ (mem_uc main_v1 (by decide))).trans (v1_3 m ρ c),
      (h c _ (mem_uc main_v2 (by decide))).trans (v2_3 m ρ c)⟩)

end Cert.Kernel7Ideal.Mm
end
-- ==== Proof.Mm.V7.lean ====
module

public import proofs.«01_k».proof.Defs
public import proofs.«01_k».proof.Proof.Mm.C7
public import proofs.«01_k».proof.Proof.Gen.Reference7Ideal.Run

/-! # Program 7: the kernel's results are the reference's -/

@[expose] public section
set_option maxRecDepth 16384
noncomputable section
namespace Cert.Reference7Ideal.Mm
open Cert.Reference7Ideal Cert.Reference7Ideal.Gen
open Idealize.ShloMosaic Idealize.ShloMosaic.TcCoe
open Idealize.SL.Sem

section
variable {F : FTy → Type} [FloatOps F] (m : (ℓ : Loc nD τ sig) → Buf (Elt F) ℓ) (ρ : Dev nD → PrngReg)
/-- The arguments end as they began and every counter is at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2, sem_eq_zero_of_no_sems (by decide) r.2⟩) (Value.run m ρ)
end

/-- The reference's normalised rows. -/
def Hh (x : FVec Ideal S2048x2048 .f32) (g : FVec Ideal S1x2048 .f32) : FVec Ideal S2048x2048 .f32 :=
  mulf (mulf x (broadcastInDim S2048x2048 ![0, 1] bcast_S2048x1_S2048x2048_0_1 (Host.rsqrt (addf (Host.divf (broadcastInDim S2048x1 ![0] bcast_S2048_S2048x1_0
    (Host.reduceAdd (mulf x x) (constant S_ .f32 0x00000000#32) reducesTo_S2048x2048_S2048_d1 h_S_))
    (broadcastInDim S2048x1 ![] bcast_S_S2048x1 (constant S_ .f32 0x45000000#32))) (broadcastInDim S2048x1 ![] bcast_S_S2048x1 (constant S_ .f32 0x358637BD#32))))))
  (broadcastInDim S2048x2048 ![0, 1] bcast_S1x2048_S2048x2048_0_1 (broadcastInDim S1x2048 ![1] bcast_S2048_S1x2048_1 (shapeCast _ g shapeCasts_S1x2048_S2048)))
theorem Hh_at (x : FVec Ideal S2048x2048 .f32) (g : FVec Ideal S1x2048 .f32) (r k : Fin 2048) :
    Hh x g (ix2 r k) = MmSpec.nrm (fun r l => x (ix2 r l)) (fun l => g (ix2 0 l)) r k := by
  pointwise [Hh, MmSpec.nrm]

theorem dot_at (h : FVec Ideal S2048x2048 .f32) (w : FVec Ideal S2048x12288 .bf16) (r : Fin 2048) (z : Fin 12288) :
    Host.dotGeneral (F := Ideal) dot_S2048x2048_S2048x12288_S2048x12288_1_0_0_1_n_n none h (extf .f32 w bitsLt_bf16_f32) (ix2 r z)
      = MmSpec.mm (fun r l => h (ix2 r l)) (fun l z => w (ix2 l z)) r z := by
  pointwise [MmSpec.mm]
theorem grad_at (d : FVec Ideal S2048x12288 .f32) (h : FVec Ideal S2048x2048 .f32) (r : Fin 2048) (z : Fin 12288) :
    (truncf .bf16 (transpose S2048x12288 [1, 0] (Host.dotGeneral (F := Ideal) dot_S2048x12288_S2048x2048_S12288x2048_0_0_1_1_n_n none d h)
      transposes_S12288x2048_S2048x12288_1_0) bitsLt_bf16_f32 : FVec Ideal S2048x12288 .bf16) (ix2 r z)
      = MmSpec.mTm (fun l r => h (ix2 l r)) (fun l z => d (ix2 l z)) r z := by
  rw [MmSpec.mTm_comm]
  pointwise

end Cert.Reference7Ideal.Mm

namespace Cert.Proof
open Idealize.ShloMosaic Idealize.ShloMosaic.TcCoe Idealize.SL.Sem

/-- From memories agreeing on the arguments both programs run and end with the same results. -/
theorem value7 : Cert.algebraic_Kernel7Ideal_Reference7Ideal := by
  intro m g m' g' _ hm
  refine ⟨fun c i => Kernel7Ideal.Mm.P m c (i 0) (i 1), fun c i => Kernel7Ideal.Mm.DW m c (i 0) (i 1), ?_, ?_⟩
  · exact θ_run_and (Kernel7Ideal.Mm.run m g) (Kernel7Ideal.Gen.unchanged m g) |> (θ_run Kernel7Ideal.defs _ _).mono
      (fun r h c => ⟨(h.1 c).1, (h.1 c).2, h.2 c⟩)
  · refine (θ_run Reference7Ideal.defs _ _).mono (fun r h c => ⟨(h c).1.trans ?_, (h c).2.1.trans ?_, (h c).2.2⟩) (Reference7Ideal.Value.run m' g')
    · obtain ⟨e0, e1, e2, e3⟩ := hm c
      rw [e0, e1, e2]
      funext i
      obtain ⟨r, z, rfl⟩ : ∃ (r : Fin 2048) (z : Fin 12288), i = ix2 r z := ⟨i 0, i 1, by funext a; fin_cases a <;> rfl⟩
      refine (Reference7Ideal.Mm.dot_at (Reference7Ideal.Mm.Hh _ _) _ r z).trans ?_
      simp only [Reference7Ideal.Mm.Hh_at]
      rfl
    · obtain ⟨e0, e1, e2, e3⟩ := hm c
      rw [e0, e1, e3]
      funext i
      obtain ⟨r, z, rfl⟩ : ∃ (r : Fin 2048) (z : Fin 12288), i = ix2 r z := ⟨i 0, i 1, by funext a; fin_cases a <;> rfl⟩
      refine (Reference7Ideal.Mm.grad_at (extf .f32 _ _) (Reference7Ideal.Mm.Hh _ _) r z).trans ?_
      simp only [Reference7Ideal.Mm.Hh_at]
      rfl

end Cert.Proof
end
-- ==== Proof.Mm.R8.lean ====
module

public import proofs.«01_k».proof.Proof.Gen.Kernel8Ideal.Frame
public import proofs.«01_k».proof.Proof.Mm.Spec
public import Idealize.ShloMosaic.Lib.Pointwise
public import Idealize.ShloMosaic.Lib.Pipeline.ValueKit

/-! # Program 8: what each call leaves in its array -/

@[expose] public section
set_option maxRecDepth 16384
noncomputable section
namespace Cert.Kernel8Ideal.Mm
open Cert.Kernel8Ideal Cert.Kernel8Ideal.Gen
open Idealize.ShloMosaic Idealize.ShloMosaic.TcCoe
open Idealize.SL.Sem

variable (V : (c : Dev nD) → (b : Ref sig .tc) → Buf (Elt Ideal) ((c : Thread nD τ).loc b)) (c : Dev nD)

/-! ## Region 0: a product written tile by tile -/

theorem pay0_at (a : Vec Ideal S1024x2048 .bf16) (b : Vec Ideal S2048x1024 .bf16) (i j : Fin 1024) :
    k0_pay1 a b (ix2 i j) = ∑ k : Fin 2048, a (ix2 i k) * b (ix2 k j) := by
  pointwise [k0_pay1]
theorem idx0_0 : ∀ t : Fin cfg0.N, win0_0.index t = ![t.val / 2, 0] := by decide +kernel
theorem idx0_1 : ∀ t : Fin cfg0.N, win0_1.index t = ![0, t.val % 2] := by decide +kernel
theorem idx0_2 : ∀ t : Fin cfg0.N, win0_2.index t = ![t.val / 2, t.val % 2] := by decide +kernel
theorem blk0_0 (t : Fin cfg0.N) (i : Fin 1024) (k : Fin 2048) (r : Fin 2048) (hr : r.val = t.val / 2 * 1024 + i.val) :
    iblk0 V c 0 t (ix2 i k) = (V c main_arg0 : FVec Ideal S2048x2048 .bf16) (ix2 r k) := by
  blk_ext [iblk0, idx0_0 t, hr]
theorem blk0_1 (t : Fin cfg0.N) (j : Fin 1024) (k : Fin 2048) (z : Fin 2048) (hz : z.val = t.val % 2 * 1024 + j.val) :
    iblk0 V c 1 t (ix2 k j) = (V c main_arg1 : FVec Ideal S2048x2048 .bf16) (ix2 k z) := by
  blk_ext [iblk0, idx0_1 t, hz]
/-- What region 0 leaves in its array. -/
def out0 : FVec Ideal S2048x2048 .f32 := fun i => MmSpec.mm (fun r l => (V c main_arg0 : FVec Ideal S2048x2048 .bf16) (ix2 r l)) (fun r l => (V c main_arg1 : FVec Ideal S2048x2048 .bf16) (ix2 r l)) (i 0) (i 1)
theorem final0 : (dat0 V c).arrAt 2 cfg0.N = out0 V c := by
  refine (dat0 V c).arrAt_eq_of_covers 2 _ (by decide +kernel) fun t hf y => ?_
  obtain ⟨i, j, rfl⟩ : ∃ (i j : Fin 1024), y = ix2 i j := ⟨y 0, y 1, by funext a; fin_cases a <;> rfl⟩
  blk_simp
  rw [after0_2]
  frame_out
  rw [pay0_at]
  unfold out0 MmSpec.mm
  refine show (_ : EReal) = _ from Finset.sum_congr rfl fun k _ => ?_
  congr 1
  · refine blk0_0 V c t i k _ ?_
    blk_simp [idx0_2 t]
  · refine blk0_1 V c t j k _ ?_
    blk_simp [idx0_2 t]

/-! ## Region 1: a product written tile by tile -/

theorem pay1_at (a : Vec Ideal S1024x2048 .bf16) (b : Vec Ideal S2048x1024 .bf16) (x : Vec Ideal S1024x1024 .f32) (i j : Fin 1024) :
    k1_pay1 a b x (ix2 i j) = x (ix2 i j) + ∑ k : Fin 2048, a (ix2 i k) * b (ix2 k j) := by
  rw [add_comm]
  pointwise [k1_pay1]
theorem idx1_0 : ∀ t : Fin cfg1.N, win1_0.index t = ![t.val / 2, 0] := by decide +kernel
theorem idx1_1 : ∀ t : Fin cfg1.N, win1_1.index t = ![0, t.val % 2] := by decide +kernel
theorem idx1_2 : ∀ t : Fin cfg1.N, win1_2.index t = ![t.val / 2, t.val % 2] := by decide +kernel
theorem idx1_3 : ∀ t : Fin cfg1.N, win1_3.index t = ![t.val / 2, t.val % 2] := by decide +kernel
theorem blk1_0 (t : Fin cfg1.N) (i : Fin 1024) (k : Fin 2048) (r : Fin 2048) (hr : r.val = t.val / 2 * 1024 + i.val) :
    iblk1 V c 0 t (ix2 i k) = (V c main_arg4 : FVec Ideal S2048x2048 .bf16) (ix2 r k) := by
  blk_ext [iblk1, idx1_0 t, hr]
theorem blk1_1 (t : Fin cfg1.N) (j : Fin 1024) (k : Fin 2048) (z : Fin 2048) (hz : z.val = t.val % 2 * 1024 + j.val) :
    iblk1 V c 1 t (ix2 k j) = (V c main_arg5 : FVec Ideal S2048x2048 .bf16) (ix2 k z) := by
  blk_ext [iblk1, idx1_1 t, hz]
theorem blk1_2 (t : Fin cfg1.N) (i j : Fin 1024) (r : Fin 2048) (z : Fin 2048) (hr : r.val = t.val / 2 * 1024 + i.val) (hz : z.val = t.val % 2 * 1024 + j.val) :
    iblk1 V c 2 t (ix2 i j) = (V c main_arg6 : FVec Ideal S2048x2048 .f32) (ix2 r z) := by
  blk_ext [iblk1, idx1_2 t, hr, hz]
/-- What region 1 leaves in its array. -/
def out1 : FVec Ideal S2048x2048 .f32 := fun i => (fun p q : EReal => p + q) ((V c main_arg6 : FVec Ideal S2048x2048 .f32) (ix2 (i 0) (i 1))) <| MmSpec.mm (fun r l => (V c main_arg4 : FVec Ideal S2048x2048 .bf16) (ix2 r l)) (fun r l => (V c main_arg5 : FVec Ideal S2048x2048 .bf16) (ix2 r l)) (i 0) (i 1)
theorem final1 : (dat1 V c).arrAt 3 cfg1.N = out1 V c := by
  refine (dat1 V c).arrAt_eq_of_covers 3 _ (by decide +kernel) fun t hf y => ?_
  obtain ⟨i, j, rfl⟩ : ∃ (i j : Fin 1024), y = ix2 i j := ⟨y 0, y 1, by funext a; fin_cases a <;> rfl⟩
  blk_simp
  rw [after1_3]
  frame_out
  rw [pay1_at]
  unfold out1 MmSpec.mm
  refine congrArg₂ (fun p q : EReal => p + q) ?_ (Finset.sum_congr rfl fun k _ => ?_)
  · refine blk1_2 V c t i j _ _ ?_ ?_ <;> blk_simp [idx1_3 t]
  · congr 1
    · refine blk1_0 V c t i k _ ?_
      blk_simp [idx1_3 t]
    · refine blk1_1 V c t j k _ ?_
      blk_simp [idx1_3 t]

/-! ## Region 2: a product written tile by tile -/

theorem pay2_at (a : Vec Ideal S1024x2048 .f32) (b : Vec Ideal S1024x2048 .bf16) (i j : Fin 1024) :
    k2_pay1 a b (ix2 i j) = ∑ k : Fin 2048, a (ix2 i k) * b (ix2 j k) := by
  pointwise [k2_pay1]
theorem idx2_0 : ∀ t : Fin cfg2.N, win2_0.index t = ![t.val / 2, 0] := by decide +kernel
theorem idx2_1 : ∀ t : Fin cfg2.N, win2_1.index t = ![t.val % 2, 0] := by decide +kernel
theorem idx2_2 : ∀ t : Fin cfg2.N, win2_2.index t = ![t.val / 2, t.val % 2] := by decide +kernel
theorem blk2_0 (t : Fin cfg2.N) (i : Fin 1024) (k : Fin 2048) (r : Fin 2048) (hr : r.val = t.val / 2 * 1024 + i.val) :
    iblk2 V c 0 t (ix2 i k) = (V c main_arg7 : FVec Ideal S2048x2048 .f32) (ix2 r k) := by
  blk_ext [iblk2, idx2_0 t, hr]
theorem blk2_1 (t : Fin cfg2.N) (j : Fin 1024) (k : Fin 2048) (z : Fin 2048) (hz : z.val = t.val % 2 * 1024 + j.val) :
    iblk2 V c 1 t (ix2 j k) = (V c main_arg5 : FVec Ideal S2048x2048 .bf16) (ix2 z k) := by
  blk_ext [iblk2, idx2_1 t, hz]
/-- What region 2 leaves in its array. -/
def out2 : FVec Ideal S2048x2048 .f32 := fun i => MmSpec.mmT (fun r l => (V c main_arg7 : FVec Ideal S2048x2048 .f32) (ix2 r l)) (fun r l => (V c main_arg5 : FVec Ideal S2048x2048 .bf16) (ix2 r l)) (i 0) (i 1)
theorem final2 : (dat2 V c).arrAt 2 cfg2.N = out2 V c := by
  refine (dat2 V c).arrAt_eq_of_covers 2 _ (by decide +kernel) fun t hf y => ?_
  obtain ⟨i, j, rfl⟩ : ∃ (i j : Fin 1024), y = ix2 i j := ⟨y 0, y 1, by funext a; fin_cases a <;> rfl⟩
  blk_simp
  rw [after2_2]
  frame_out
  rw [pay2_at]
  unfold out2 MmSpec.mmT
  refine show (_ : EReal) = _ from Finset.sum_congr rfl fun k _ => ?_
  congr 1
  · refine blk2_0 V c t i k _ ?_
    blk_simp [idx2_2 t]
  · refine blk2_1 V c t j k _ ?_
    blk_simp [idx2_2 t]

/-! ## Region 3: a product written tile by tile -/

theorem pay3_at (a : Vec Ideal S2048x1024 .bf16) (b : Vec Ideal S2048x1024 .f32) (i j : Fin 1024) :
    k3_pay1 a b (ix2 i j) = ∑ k : Fin 2048, a (ix2 k i) * b (ix2 k j) := by
  pointwise [k3_pay1]
theorem idx3_0 : ∀ t : Fin cfg3.N, win3_0.index t = ![0, t.val / 2] := by decide +kernel
theorem idx3_1 : ∀ t : Fin cfg3.N, win3_1.index t = ![0, t.val % 2] := by decide +kernel
theorem idx3_2 : ∀ t : Fin cfg3.N, win3_2.index t = ![t.val / 2, t.val % 2] := by decide +kernel
theorem blk3_0 (t : Fin cfg3.N) (i : Fin 1024) (k : Fin 2048) (r : Fin 2048) (hr : r.val = t.val / 2 * 1024 + i.val) :
    iblk3 V c 0 t (ix2 k i) = (V c main_arg4 : FVec Ideal S2048x2048 .bf16) (ix2 k r) := by
  blk_ext [iblk3, idx3_0 t, hr]
theorem blk3_1 (t : Fin cfg3.N) (j : Fin 1024) (k : Fin 2048) (z : Fin 2048) (hz : z.val = t.val % 2 * 1024 + j.val) :
    iblk3 V c 1 t (ix2 k j) = (V c main_arg7 : FVec Ideal S2048x2048 .f32) (ix2 k z) := by
  blk_ext [iblk3, idx3_1 t, hz]
/-- What region 3 leaves in its array. -/
def out3 : FVec Ideal S2048x2048 .bf16 := fun i => MmSpec.mTm (fun r l => (V c main_arg4 : FVec Ideal S2048x2048 .bf16) (ix2 r l)) (fun r l => (V c main_arg7 : FVec Ideal S2048x2048 .f32) (ix2 r l)) (i 0) (i 1)
theorem final3 : (dat3 V c).arrAt 2 cfg3.N = out3 V c := by
  refine (dat3 V c).arrAt_eq_of_covers 2 _ (by decide +kernel) fun t hf y => ?_
  obtain ⟨i, j, rfl⟩ : ∃ (i j : Fin 1024), y = ix2 i j := ⟨y 0, y 1, by funext a; fin_cases a <;> rfl⟩
  blk_simp
  rw [after3_2]
  frame_out
  rw [pay3_at]
  unfold out3 MmSpec.mTm
  refine show (_ : EReal) = _ from Finset.sum_congr rfl fun k _ => ?_
  congr 1
  · refine blk3_0 V c t i k _ ?_
    blk_simp [idx3_2 t]
  · refine blk3_1 V c t j k _ ?_
    blk_simp [idx3_2 t]

/-! ## Region 4: a product written tile by tile -/

theorem pay4_at (a : Vec Ideal S1024x2048 .bf16) (b : Vec Ideal S1024x2048 .bf16) (x : Vec Ideal S1024x1024 .f32) (i j : Fin 1024) :
    k4_pay1 a b x (ix2 i j) = x (ix2 i j) + ∑ k : Fin 2048, a (ix2 i k) * b (ix2 j k) := by
  rw [add_comm]
  pointwise [k4_pay1]
theorem idx4_0 : ∀ t : Fin cfg4.N, win4_0.index t = ![t.val / 2, 0] := by decide +kernel
theorem idx4_1 : ∀ t : Fin cfg4.N, win4_1.index t = ![t.val % 2, 0] := by decide +kernel
theorem idx4_2 : ∀ t : Fin cfg4.N, win4_2.index t = ![t.val / 2, t.val % 2] := by decide +kernel
theorem idx4_3 : ∀ t : Fin cfg4.N, win4_3.index t = ![t.val / 2, t.val % 2] := by decide +kernel
theorem blk4_0 (t : Fin cfg4.N) (i : Fin 1024) (k : Fin 2048) (r : Fin 2048) (hr : r.val = t.val / 2 * 1024 + i.val) :
    iblk4 V c 0 t (ix2 i k) = (V c main_arg2 : FVec Ideal S2048x2048 .bf16) (ix2 r k) := by
  blk_ext [iblk4, idx4_0 t, hr]
theorem blk4_1 (t : Fin cfg4.N) (j : Fin 1024) (k : Fin 2048) (z : Fin 2048) (hz : z.val = t.val % 2 * 1024 + j.val) :
    iblk4 V c 1 t (ix2 j k) = (V c main_arg1 : FVec Ideal S2048x2048 .bf16) (ix2 z k) := by
  blk_ext [iblk4, idx4_1 t, hz]
theorem blk4_2 (t : Fin cfg4.N) (i j : Fin 1024) (r : Fin 2048) (z : Fin 2048) (hr : r.val = t.val / 2 * 1024 + i.val) (hz : z.val = t.val % 2 * 1024 + j.val) :
    iblk4 V c 2 t (ix2 i j) = (V c main_arg3 : FVec Ideal S2048x2048 .f32) (ix2 r z) := by
  blk_ext [iblk4, idx4_2 t, hr, hz]
/-- What region 4 leaves in its array. -/
def out4 : FVec Ideal S2048x2048 .f32 := fun i => (fun p q : EReal => p + q) ((V c main_arg3 : FVec Ideal S2048x2048 .f32) (ix2 (i 0) (i 1))) <| MmSpec.mmT (fun r l => (V c main_arg2 : FVec Ideal S2048x2048 .bf16) (ix2 r l)) (fun r l => (V c main_arg1 : FVec Ideal S2048x2048 .bf16) (ix2 r l)) (i 0) (i 1)
theorem final4 : (dat4 V c).arrAt 3 cfg4.N = out4 V c := by
  refine (dat4 V c).arrAt_eq_of_covers 3 _ (by decide +kernel) fun t hf y => ?_
  obtain ⟨i, j, rfl⟩ : ∃ (i j : Fin 1024), y = ix2 i j := ⟨y 0, y 1, by funext a; fin_cases a <;> rfl⟩
  blk_simp
  rw [after4_3]
  frame_out
  rw [pay4_at]
  unfold out4 MmSpec.mmT
  refine congrArg₂ (fun p q : EReal => p + q) ?_ (Finset.sum_congr rfl fun k _ => ?_)
  · refine blk4_2 V c t i j _ _ ?_ ?_ <;> blk_simp [idx4_3 t]
  · congr 1
    · refine blk4_0 V c t i k _ ?_
      blk_simp [idx4_3 t]
    · refine blk4_1 V c t j k _ ?_
      blk_simp [idx4_3 t]

/-! ## Region 5: a product written tile by tile -/

theorem pay5_at (a : Vec Ideal S2048x1024 .bf16) (b : Vec Ideal S2048x1024 .bf16) (i j : Fin 1024) :
    k5_pay1 a b (ix2 i j) = ∑ k : Fin 2048, a (ix2 k i) * b (ix2 k j) := by
  pointwise [k5_pay1]
theorem idx5_0 : ∀ t : Fin cfg5.N, win5_0.index t = ![0, t.val / 2] := by decide +kernel
theorem idx5_1 : ∀ t : Fin cfg5.N, win5_1.index t = ![0, t.val % 2] := by decide +kernel
theorem idx5_2 : ∀ t : Fin cfg5.N, win5_2.index t = ![t.val / 2, t.val % 2] := by decide +kernel
theorem blk5_0 (t : Fin cfg5.N) (i : Fin 1024) (k : Fin 2048) (r : Fin 2048) (hr : r.val = t.val / 2 * 1024 + i.val) :
    iblk5 V c 0 t (ix2 k i) = (V c main_arg0 : FVec Ideal S2048x2048 .bf16) (ix2 k r) := by
  blk_ext [iblk5, idx5_0 t, hr]
theorem blk5_1 (t : Fin cfg5.N) (j : Fin 1024) (k : Fin 2048) (z : Fin 2048) (hz : z.val = t.val % 2 * 1024 + j.val) :
    iblk5 V c 1 t (ix2 k j) = (V c main_arg2 : FVec Ideal S2048x2048 .bf16) (ix2 k z) := by
  blk_ext [iblk5, idx5_1 t, hz]
/-- What region 5 leaves in its array. -/
def out5 : FVec Ideal S2048x2048 .bf16 := fun i => MmSpec.mTm (fun r l => (V c main_arg0 : FVec Ideal S2048x2048 .bf16) (ix2 r l)) (fun r l => (V c main_arg2 : FVec Ideal S2048x2048 .bf16) (ix2 r l)) (i 0) (i 1)
theorem final5 : (dat5 V c).arrAt 2 cfg5.N = out5 V c := by
  refine (dat5 V c).arrAt_eq_of_covers 2 _ (by decide +kernel) fun t hf y => ?_
  obtain ⟨i, j, rfl⟩ : ∃ (i j : Fin 1024), y = ix2 i j := ⟨y 0, y 1, by funext a; fin_cases a <;> rfl⟩
  blk_simp
  rw [after5_2]
  frame_out
  rw [pay5_at]
  unfold out5 MmSpec.mTm
  refine show (_ : EReal) = _ from Finset.sum_congr rfl fun k _ => ?_
  congr 1
  · refine blk5_0 V c t i k _ ?_
    blk_simp [idx5_2 t]
  · refine blk5_1 V c t j k _ ?_
    blk_simp [idx5_2 t]

end Cert.Kernel8Ideal.Mm
end
-- ==== Proof.Mm.C8.lean ====
module

public import proofs.«01_k».proof.Proof.Mm.R8

/-! # Program 8: the calls one after another, and the run with its results -/

@[expose] public section
set_option maxRecDepth 16384
noncomputable section
namespace Cert.Kernel8Ideal.Mm
open Cert.Kernel8Ideal Cert.Kernel8Ideal.Gen
open Idealize.ShloMosaic.Proc (devRef)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ
variable (m : (ℓ : Loc nD τ sig) → Buf (Elt Ideal) ℓ) (ρ : Dev nD → PrngReg) (c : Dev nD)

/-! ## The values, as functions of row and column -/

def X0 : Fin 2048 → Fin 2048 → EReal := fun r l => (m ((c : Thread nD τ).loc main_arg0) : FVec Ideal S2048x2048 .bf16) (ix2 r l)
def X1 : Fin 2048 → Fin 2048 → EReal := fun r l => (m ((c : Thread nD τ).loc main_arg1) : FVec Ideal S2048x2048 .bf16) (ix2 r l)
def X2 : Fin 2048 → Fin 2048 → EReal := fun r l => (m ((c : Thread nD τ).loc main_arg2) : FVec Ideal S2048x2048 .bf16) (ix2 r l)
def X3 : Fin 2048 → Fin 2048 → EReal := fun r l => (m ((c : Thread nD τ).loc main_arg3) : FVec Ideal S2048x2048 .f32) (ix2 r l)
def X4 : Fin 2048 → Fin 2048 → EReal := fun r l => (m ((c : Thread nD τ).loc main_arg4) : FVec Ideal S2048x2048 .bf16) (ix2 r l)
def X5 : Fin 2048 → Fin 2048 → EReal := fun r l => (m ((c : Thread nD τ).loc main_arg5) : FVec Ideal S2048x2048 .bf16) (ix2 r l)
def X6 : Fin 2048 → Fin 2048 → EReal := fun r l => (m ((c : Thread nD τ).loc main_arg6) : FVec Ideal S2048x2048 .f32) (ix2 r l)
def X7 : Fin 2048 → Fin 2048 → EReal := fun r l => (m ((c : Thread nD τ).loc main_arg7) : FVec Ideal S2048x2048 .f32) (ix2 r l)
def Glu : Fin 2048 → Fin 2048 → EReal := MmSpec.mm (X0 m c) (X1 m c)
def X1o : Fin 2048 → Fin 2048 → EReal := fun i j => X6 m c i j + MmSpec.mm (X4 m c) (X5 m c) i j
def Dm : Fin 2048 → Fin 2048 → EReal := MmSpec.mmT (X7 m c) (X5 m c)
def DWo : Fin 2048 → Fin 2048 → EReal := MmSpec.mTm (X4 m c) (X7 m c)
def Dys : Fin 2048 → Fin 2048 → EReal := fun i j => X3 m c i j + MmSpec.mmT (X2 m c) (X1 m c) i j
def DWg : Fin 2048 → Fin 2048 → EReal := MmSpec.mTm (X0 m c) (X2 m c)

/-! ## What each buffer holds when it is read -/
theorem a0_0 : (W0 m ρ c (devRef .tc main_arg0) : FVec Ideal S2048x2048 .bf16) = fun i => X0 m c (i 0) (i 1) :=
  (W0_args m ρ c main_arg0 (by decide)).trans (funext fun i => congrArg (m ((c : Thread nD τ).loc main_arg0) : FVec Ideal S2048x2048 .bf16) (eq_ix2 i))
theorem a0_5 : (W5 m ρ c (devRef .tc main_arg0) : FVec Ideal S2048x2048 .bf16) = fun i => X0 m c (i 0) (i 1) :=
  (W5_args m ρ c main_arg0 (by decide)).trans (funext fun i => congrArg (m ((c : Thread nD τ).loc main_arg0) : FVec Ideal S2048x2048 .bf16) (eq_ix2 i))
theorem a1_0 : (W0 m ρ c (devRef .tc main_arg1) : FVec Ideal S2048x2048 .bf16) = fun i => X1 m c (i 0) (i 1) :=
  (W0_args m ρ c main_arg1 (by decide)).trans (funext fun i => congrArg (m ((c : Thread nD τ).loc main_arg1) : FVec Ideal S2048x2048 .bf16) (eq_ix2 i))
theorem a1_4 : (W4 m ρ c (devRef .tc main_arg1) : FVec Ideal S2048x2048 .bf16) = fun i => X1 m c (i 0) (i 1) :=
  (W4_args m ρ c main_arg1 (by decide)).trans (funext fun i => congrArg (m ((c : Thread nD τ).loc main_arg1) : FVec Ideal S2048x2048 .bf16) (eq_ix2 i))
theorem a2_4 : (W4 m ρ c (devRef .tc main_arg2) : FVec Ideal S2048x2048 .bf16) = fun i => X2 m c (i 0) (i 1) :=
  (W4_args m ρ c main_arg2 (by decide)).trans (funext fun i => congrArg (m ((c : Thread nD τ).loc main_arg2) : FVec Ideal S2048x2048 .bf16) (eq_ix2 i))
theorem a2_5 : (W5 m ρ c (devRef .tc main_arg2) : FVec Ideal S2048x2048 .bf16) = fun i => X2 m c (i 0) (i 1) :=
  (W5_args m ρ c main_arg2 (by decide)).trans (funext fun i => congrArg (m ((c : Thread nD τ).loc main_arg2) : FVec Ideal S2048x2048 .bf16) (eq_ix2 i))
theorem a3_4 : (W4 m ρ c (devRef .tc main_arg3) : FVec Ideal S2048x2048 .f32) = fun i => X3 m c (i 0) (i 1) :=
  (W4_args m ρ c main_arg3 (by decide)).trans (funext fun i => congrArg (m ((c : Thread nD τ).loc main_arg3) : FVec Ideal S2048x2048 .f32) (eq_ix2 i))
theorem a4_1 : (W1 m ρ c (devRef .tc main_arg4) : FVec Ideal S2048x2048 .bf16) = fun i => X4 m c (i 0) (i 1) :=
  (W1_args m ρ c main_arg4 (by decide)).trans (funext fun i => congrArg (m ((c : Thread nD τ).loc main_arg4) : FVec Ideal S2048x2048 .bf16) (eq_ix2 i))
theorem a4_3 : (W3 m ρ c (devRef .tc main_arg4) : FVec Ideal S2048x2048 .bf16) = fun i => X4 m c (i 0) (i 1) :=
  (W3_args m ρ c main_arg4 (by decide)).trans (funext fun i => congrArg (m ((c : Thread nD τ).loc main_arg4) : FVec Ideal S2048x2048 .bf16) (eq_ix2 i))
theorem a5_1 : (W1 m ρ c (devRef .tc main_arg5) : FVec Ideal S2048x2048 .bf16) = fun i => X5 m c (i 0) (i 1) :=
  (W1_args m ρ c main_arg5 (by decide)).trans (funext fun i => congrArg (m ((c : Thread nD τ).loc main_arg5) : FVec Ideal S2048x2048 .bf16) (eq_ix2 i))
theorem a5_2 : (W2 m ρ c (devRef .tc main_arg5) : FVec Ideal S2048x2048 .bf16) = fun i => X5 m c (i 0) (i 1) :=
  (W2_args m ρ c main_arg5 (by decide)).trans (funext fun i => congrArg (m ((c : Thread nD τ).loc main_arg5) : FVec Ideal S2048x2048 .bf16) (eq_ix2 i))
theorem a6_1 : (W1 m ρ c (devRef .tc main_arg6) : FVec Ideal S2048x2048 .f32) = fun i => X6 m c (i 0) (i 1) :=
  (W1_args m ρ c main_arg6 (by decide)).trans (funext fun i => congrArg (m ((c : Thread nD τ).loc main_arg6) : FVec Ideal S2048x2048 .f32) (eq_ix2 i))
theorem a7_2 : (W2 m ρ c (devRef .tc main_arg7) : FVec Ideal S2048x2048 .f32) = fun i => X7 m c (i 0) (i 1) :=
  (W2_args m ρ c main_arg7 (by decide)).trans (funext fun i => congrArg (m ((c : Thread nD τ).loc main_arg7) : FVec Ideal S2048x2048 .f32) (eq_ix2 i))
theorem a7_3 : (W3 m ρ c (devRef .tc main_arg7) : FVec Ideal S2048x2048 .f32) = fun i => X7 m c (i 0) (i 1) :=
  (W3_args m ρ c main_arg7 (by decide)).trans (funext fun i => congrArg (m ((c : Thread nD τ).loc main_arg7) : FVec Ideal S2048x2048 .f32) (eq_ix2 i))
theorem v0_1 : (W1 m ρ c (devRef .tc main_v0) : FVec Ideal S2048x2048 .f32) = fun i => Glu m c (i 0) (i 1) := by
  refine (W1_arr m ρ c 2).trans ((final0 (V0 m ρ) c).trans ?_)
  unfold out0
  rw [show (V0 m ρ c main_arg0 : FVec Ideal S2048x2048 .bf16) = fun i => X0 m c (i 0) (i 1) from a0_0 m ρ c, show (V0 m ρ c main_arg1 : FVec Ideal S2048x2048 .bf16) = fun i => X1 m c (i 0) (i 1) from a1_0 m ρ c]
  rfl
theorem v0_2 : (W2 m ρ c (devRef .tc main_v0) : FVec Ideal S2048x2048 .f32) = fun i => Glu m c (i 0) (i 1) :=
  (W2_of m ρ c main_v0 (by decide)).trans (v0_1 m ρ c)
theorem v0_3 : (W3 m ρ c (devRef .tc main_v0) : FVec Ideal S2048x2048 .f32) = fun i => Glu m c (i 0) (i 1) :=
  (W3_of m ρ c main_v0 (by decide)).trans (v0_2 m ρ c)
theorem v0_4 : (W4 m ρ c (devRef .tc main_v0) : FVec Ideal S2048x2048 .f32) = fun i => Glu m c (i 0) (i 1) :=
  (W4_of m ρ c main_v0 (by decide)).trans (v0_3 m ρ c)
theorem v0_5 : (W5 m ρ c (devRef .tc main_v0) : FVec Ideal S2048x2048 .f32) = fun i => Glu m c (i 0) (i 1) :=
  (W5_of m ρ c main_v0 (by decide)).trans (v0_4 m ρ c)
theorem v0_6 : (W6 m ρ c (devRef .tc main_v0) : FVec Ideal S2048x2048 .f32) = fun i => Glu m c (i 0) (i 1) :=
  (W6_of m ρ c main_v0 (by decide)).trans (v0_5 m ρ c)
theorem v1_2 : (W2 m ρ c (devRef .tc main_v1) : FVec Ideal S2048x2048 .f32) = fun i => X1o m c (i 0) (i 1) := by
  refine (W2_arr m ρ c 3).trans ((final1 (V1 m ρ) c).trans ?_)
  unfold out1
  rw [show (V1 m ρ c main_arg4 : FVec Ideal S2048x2048 .bf16) = fun i => X4 m c (i 0) (i 1) from a4_1 m ρ c, show (V1 m ρ c main_arg5 : FVec Ideal S2048x2048 .bf16) = fun i => X5 m c (i 0) (i 1) from a5_1 m ρ c, show (V1 m ρ c main_arg6 : FVec Ideal S2048x2048 .f32) = fun i => X6 m c (i 0) (i 1) from a6_1 m ρ c]
  rfl
theorem v1_3 : (W3 m ρ c (devRef .tc main_v1) : FVec Ideal S2048x2048 .f32) = fun i => X1o m c (i 0) (i 1) :=
  (W3_of m ρ c main_v1 (by decide)).trans (v1_2 m ρ c)
theorem v1_4 : (W4 m ρ c (devRef .tc main_v1) : FVec Ideal S2048x2048 .f32) = fun i => X1o m c (i 0) (i 1) :=
  (W4_of m ρ c main_v1 (by decide)).trans (v1_3 m ρ c)
theorem v1_5 : (W5 m ρ c (devRef .tc main_v1) : FVec Ideal S2048x2048 .f32) = fun i => X1o m c (i 0) (i 1) :=
  (W5_of m ρ c main_v1 (by decide)).trans (v1_4 m ρ c)
theorem v1_6 : (W6 m ρ c (devRef .tc main_v1) : FVec Ideal S2048x2048 .f32) = fun i => X1o m c (i 0) (i 1) :=
  (W6_of m ρ c main_v1 (by decide)).trans (v1_5 m ρ c)
theorem v2_3 : (W3 m ρ c (devRef .tc main_v2) : FVec Ideal S2048x2048 .f32) = fun i => Dm m c (i 0) (i 1) := by
  refine (W3_arr m ρ c 2).trans ((final2 (V2 m ρ) c).trans ?_)
  unfold out2
  rw [show (V2 m ρ c main_arg7 : FVec Ideal S2048x2048 .f32) = fun i => X7 m c (i 0) (i 1) from a7_2 m ρ c, show (V2 m ρ c main_arg5 : FVec Ideal S2048x2048 .bf16) = fun i => X5 m c (i 0) (i 1) from a5_2 m ρ c]
  rfl
theorem v2_4 : (W4 m ρ c (devRef .tc main_v2) : FVec Ideal S2048x2048 .f32) = fun i => Dm m c (i 0) (i 1) :=
  (W4_of m ρ c main_v2 (by decide)).trans (v2_3 m ρ c)
theorem v2_5 : (W5 m ρ c (devRef .tc main_v2) : FVec Ideal S2048x2048 .f32) = fun i => Dm m c (i 0) (i 1) :=
  (W5_of m ρ c main_v2 (by decide)).trans (v2_4 m ρ c)
theorem v2_6 : (W6 m ρ c (devRef .tc main_v2) : FVec Ideal S2048x2048 .f32) = fun i => Dm m c (i 0) (i 1) :=
  (W6_of m ρ c main_v2 (by decide)).trans (v2_5 m ρ c)
theorem v3_4 : (W4 m ρ c (devRef .tc main_v3) : FVec Ideal S2048x2048 .bf16) = fun i => DWo m c (i 0) (i 1) := by
  refine (W4_arr m ρ c 2).trans ((final3 (V3 m ρ) c).trans ?_)
  unfold out3
  rw [show (V3 m ρ c main_arg4 : FVec Ideal S2048x2048 .bf16) = fun i => X4 m c (i 0) (i 1) from a4_3 m ρ c, show (V3 m ρ c main_arg7 : FVec Ideal S2048x2048 .f32) = fun i => X7 m c (i 0) (i 1) from a7_3 m ρ c]
  rfl
theorem v3_5 : (W5 m ρ c (devRef .tc main_v3) : FVec Ideal S2048x2048 .bf16) = fun i => DWo m c (i 0) (i 1) :=
  (W5_of m ρ c main_v3 (by decide)).trans (v3_4 m ρ c)
theorem v3_6 : (W6 m ρ c (devRef .tc main_v3) : FVec Ideal S2048x2048 .bf16) = fun i => DWo m c (i 0) (i 1) :=
  (W6_of m ρ c main_v3 (by decide)).trans (v3_5 m ρ c)
theorem v4_5 : (W5 m ρ c (devRef .tc main_v4) : FVec Ideal S2048x2048 .f32) = fun i => Dys m c (i 0) (i 1) := by
  refine (W5_arr m ρ c 3).trans ((final4 (V4 m ρ) c).trans ?_)
  unfold out4
  rw [show (V4 m ρ c main_arg2 : FVec Ideal S2048x2048 .bf16) = fun i => X2 m c (i 0) (i 1) from a2_4 m ρ c, show (V4 m ρ c main_arg1 : FVec Ideal S2048x2048 .bf16) = fun i => X1 m c (i 0) (i 1) from a1_4 m ρ c, show (V4 m ρ c main_arg3 : FVec Ideal S2048x2048 .f32) = fun i => X3 m c (i 0) (i 1) from a3_4 m ρ c]
  rfl
theorem v4_6 : (W6 m ρ c (devRef .tc main_v4) : FVec Ideal S2048x2048 .f32) = fun i => Dys m c (i 0) (i 1) :=
  (W6_of m ρ c main_v4 (by decide)).trans (v4_5 m ρ c)
theorem v5_6 : (W6 m ρ c (devRef .tc main_v5) : FVec Ideal S2048x2048 .bf16) = fun i => DWg m c (i 0) (i 1) := by
  refine (W6_arr m ρ c 2).trans ((final5 (V5 m ρ) c).trans ?_)
  unfold out5
  rw [show (V5 m ρ c main_arg0 : FVec Ideal S2048x2048 .bf16) = fun i => X0 m c (i 0) (i 1) from a0_5 m ρ c, show (V5 m ρ c main_arg2 : FVec Ideal S2048x2048 .bf16) = fun i => X2 m c (i 0) (i 1) from a2_5 m ρ c]
  rfl

/-! ## The run -/

set_option backward.isDefEq.respectTransparency.types false in
/-- Every run ends with each result's array at its value. -/
theorem run : θ_run defs (onTc (τ := τ) (main (F := Ideal))) ⟨m, fun _ => 0, ρ⟩ (fun r => ∀ c : Dev nD,
      r.2.mem ((c.tc : Thread nD τ).loc main_v0) = (fun i => Glu m c (i 0) (i 1) : FVec Ideal S2048x2048 .f32)
      ∧ r.2.mem ((c.tc : Thread nD τ).loc main_v1) = (fun i => X1o m c (i 0) (i 1) : FVec Ideal S2048x2048 .f32)
      ∧ r.2.mem ((c.tc : Thread nD τ).loc main_v2) = (fun i => Dm m c (i 0) (i 1) : FVec Ideal S2048x2048 .f32)
      ∧ r.2.mem ((c.tc : Thread nD τ).loc main_v3) = (fun i => DWo m c (i 0) (i 1) : FVec Ideal S2048x2048 .bf16)
      ∧ r.2.mem ((c.tc : Thread nD τ).loc main_v4) = (fun i => Dys m c (i 0) (i 1) : FVec Ideal S2048x2048 .f32)
      ∧ r.2.mem ((c.tc : Thread nD τ).loc main_v5) = (fun i => DWg m c (i 0) (i 1) : FVec Ideal S2048x2048 .bf16)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => fun c =>
     ⟨(h c _ (mem_uc main_v0 (by decide))).trans (v0_6 m ρ c),
      (h c _ (mem_uc main_v1 (by decide))).trans (v1_6 m ρ c),
      (h c _ (mem_uc main_v2 (by decide))).trans (v2_6 m ρ c),
      (h c _ (mem_uc main_v3 (by decide))).trans (v3_6 m ρ c),
      (h c _ (mem_uc main_v4 (by decide))).trans (v4_6 m ρ c),
      (h c _ (mem_uc main_v5 (by decide))).trans (v5_6 m ρ c)⟩)

end Cert.Kernel8Ideal.Mm
end
-- ==== Proof.Mm.V8.lean ====
module

public import proofs.«01_k».proof.Defs
public import proofs.«01_k».proof.Proof.Mm.C8
public import proofs.«01_k».proof.Proof.Gen.Reference8Ideal.Run

/-! # Program 8: the kernel's results are the reference's -/

@[expose] public section
set_option maxRecDepth 16384
noncomputable section
namespace Cert.Reference8Ideal.Mm
open Cert.Reference8Ideal Cert.Reference8Ideal.Gen
open Idealize.ShloMosaic Idealize.ShloMosaic.TcCoe
open Idealize.SL.Sem

section
variable {F : FTy → Type} [FloatOps F] (m : (ℓ : Loc nD τ sig) → Buf (Elt F) ℓ) (ρ : Dev nD → PrngReg)
/-- The arguments end as they began and every counter is at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => (h c).2.2.2.2.2.2, sem_eq_zero_of_no_sems (by decide) r.2⟩) (Value.run m ρ)
end

theorem dot_at (h w : FVec Ideal S2048x2048 .f32) (r z : Fin 2048) :
    Host.dotGeneral (F := Ideal) dot_S2048x2048_S2048x2048_S2048x2048_1_0_0_1_n_n none h w (ix2 r z)
      = MmSpec.mm (fun r l => h (ix2 r l)) (fun l z => w (ix2 l z)) r z := by
  pointwise [MmSpec.mm]
theorem ct_at (h w : FVec Ideal S2048x2048 .f32) (r z : Fin 2048) :
    Host.dotGeneral (F := Ideal) dot_S2048x2048_S2048x2048_S2048x2048_1_1_0_0_n_n none h w (ix2 r z)
      = MmSpec.mmT (fun r l => h (ix2 r l)) (fun z l => w (ix2 z l)) r z := by
  pointwise [MmSpec.mmT]
theorem dotA_at (x h w : FVec Ideal S2048x2048 .f32) (r z : Fin 2048) :
    addf x (Host.dotGeneral (F := Ideal) dot_S2048x2048_S2048x2048_S2048x2048_1_0_0_1_n_n none h w) (ix2 r z)
      = x (ix2 r z) + MmSpec.mm (fun r l => h (ix2 r l)) (fun l z => w (ix2 l z)) r z := by
  pointwise [MmSpec.mm]
theorem ctA_at (x h w : FVec Ideal S2048x2048 .f32) (r z : Fin 2048) :
    addf x (Host.dotGeneral (F := Ideal) dot_S2048x2048_S2048x2048_S2048x2048_1_1_0_0_n_n none h w) (ix2 r z)
      = x (ix2 r z) + MmSpec.mmT (fun r l => h (ix2 r l)) (fun z l => w (ix2 z l)) r z := by
  pointwise [MmSpec.mmT]
theorem grad_at (d h : FVec Ideal S2048x2048 .f32) (r z : Fin 2048) :
    (truncf .bf16 (transpose S2048x2048 [1, 0] (Host.dotGeneral (F := Ideal) dot_S2048x2048_S2048x2048_S2048x2048_0_0_1_1_n_n none d h)
      transposes_S2048x2048_S2048x2048_1_0) bitsLt_bf16_f32 : FVec Ideal S2048x2048 .bf16) (ix2 r z)
      = MmSpec.mTm (fun l r => h (ix2 l r)) (fun l z => d (ix2 l z)) r z := by
  rw [MmSpec.mTm_comm]
  pointwise
end Cert.Reference8Ideal.Mm

namespace Cert.Proof
open Idealize.ShloMosaic Idealize.ShloMosaic.TcCoe Idealize.SL.Sem

/-- From memories agreeing on the arguments both programs run and end with the same results. -/
theorem value8 : Cert.algebraic_Kernel8Ideal_Reference8Ideal := by
  intro m g m' g' _ hm
  refine ⟨fun c i => Kernel8Ideal.Mm.Glu m c (i 0) (i 1), fun c i => Kernel8Ideal.Mm.X1o m c (i 0) (i 1), fun c i => Kernel8Ideal.Mm.Dm m c (i 0) (i 1), fun c i => Kernel8Ideal.Mm.DWo m c (i 0) (i 1), fun c i => Kernel8Ideal.Mm.Dys m c (i 0) (i 1), fun c i => Kernel8Ideal.Mm.DWg m c (i 0) (i 1), ?_, ?_⟩
  · exact θ_run_and (Kernel8Ideal.Mm.run m g) (Kernel8Ideal.Gen.unchanged m g) |> (θ_run Kernel8Ideal.defs _ _).mono
      (fun r h c => ⟨(h.1 c).1, (h.1 c).2.1, (h.1 c).2.2.1, (h.1 c).2.2.2.1, (h.1 c).2.2.2.2.1, (h.1 c).2.2.2.2.2, h.2 c⟩)
  · refine (θ_run Reference8Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Reference8Ideal.Value.run m' g')
    · obtain ⟨e0, e1, e2, e3, e4, e5, e6, e7⟩ := hm c
      rw [e0, e1]
      funext i
      obtain ⟨r, z, rfl⟩ : ∃ (r : Fin 2048) (z : Fin 2048), i = ix2 r z := ⟨i 0, i 1, by funext a; fin_cases a <;> rfl⟩
      exact Reference8Ideal.Mm.dot_at _ _ r z
    · obtain ⟨e0, e1, e2, e3, e4, e5, e6, e7⟩ := hm c
      rw [e4, e5, e6]
      funext i
      obtain ⟨r, z, rfl⟩ : ∃ (r : Fin 2048) (z : Fin 2048), i = ix2 r z := ⟨i 0, i 1, by funext a; fin_cases a <;> rfl⟩
      exact Reference8Ideal.Mm.dotA_at _ _ _ r z
    · obtain ⟨e0, e1, e2, e3, e4, e5, e6, e7⟩ := hm c
      rw [e5, e7]
      funext i
      obtain ⟨r, z, rfl⟩ : ∃ (r : Fin 2048) (z : Fin 2048), i = ix2 r z := ⟨i 0, i 1, by funext a; fin_cases a <;> rfl⟩
      exact Reference8Ideal.Mm.ct_at _ _ r z
    · obtain ⟨e0, e1, e2, e3, e4, e5, e6, e7⟩ := hm c
      rw [e4, e7]
      funext i
      obtain ⟨r, z, rfl⟩ : ∃ (r : Fin 2048) (z : Fin 2048), i = ix2 r z := ⟨i 0, i 1, by funext a; fin_cases a <;> rfl⟩
      exact Reference8Ideal.Mm.grad_at _ _ r z
    · obtain ⟨e0, e1, e2, e3, e4, e5, e6, e7⟩ := hm c
      rw [e1, e2, e3]
      funext i
      obtain ⟨r, z, rfl⟩ : ∃ (r : Fin 2048) (z : Fin 2048), i = ix2 r z := ⟨i 0, i 1, by funext a; fin_cases a <;> rfl⟩
      exact Reference8Ideal.Mm.ctA_at _ _ _ r z
    · obtain ⟨e0, e1, e2, e3, e4, e5, e6, e7⟩ := hm c
      rw [e0, e2]
      funext i
      obtain ⟨r, z, rfl⟩ : ∃ (r : Fin 2048) (z : Fin 2048), i = ix2 r z := ⟨i 0, i 1, by funext a; fin_cases a <;> rfl⟩
      exact Reference8Ideal.Mm.grad_at _ _ r z

end Cert.Proof
end
-- ==== Proof.Mm.K9.lean ====
module

public import proofs.«01_k».proof.Proof.Gen.Kernel9Ideal.Frame
public import proofs.«01_k».proof.Proof.Mm.Spec
public import Idealize.ShloMosaic.Lib.Pointwise
public import Idealize.ShloMosaic.Lib.Pipeline.ValueKit

/-! # Program 9: the backward of a root-mean-square norm, over eight blocks of rows, element by element -/

@[expose] public section
set_option maxRecDepth 16384
noncomputable section

namespace Cert.Kernel9Ideal.Mm
open Cert.Kernel9Ideal Cert.Kernel9Ideal.Gen
open Idealize.ShloMosaic Idealize.ShloMosaic.TcCoe
open Idealize.SL.Sem

theorem pay4_at (a : Vec Ideal S256x2048 .f32) (i : Fin 256) (j : Fin 1) :
    k0_pay4 a (ix2 i j) = MmSpec.ms (fun l => a (ix2 i l)) := by
  pointwise [k0_pay4, MmSpec.ms]
theorem pay5_at (a : Vec Ideal S256x2048 .f32) (i : Fin 256) (j : Fin 1) :
    k0_pay5 a (ix2 i j) = Ideal.rsqrt (MmSpec.ms (fun l => a (ix2 i l))) := by
  pointwise [k0_pay5, pay4_at]
theorem pay6_at (a d : Vec Ideal S256x2048 .f32) (i : Fin 1) (j : Fin 2048) :
    k0_pay6 a d (ix2 i j) = ∑ k, a (ix2 k j) * Ideal.rsqrt (MmSpec.ms (fun l => a (ix2 k l))) * d (ix2 k j) := by
  pointwise [k0_pay6, pay5_at]
theorem pay7_at (a : Vec Ideal S256x2048 .f32) (g : Vec Ideal S1x2048 .f32) (d : Vec Ideal S256x2048 .f32) (i : Fin 256) (j : Fin 2048) :
    k0_pay7 a g d (ix2 i j) = MmSpec.ndx (fun l => a (ix2 i l)) (fun l => g (ix2 0 l)) (fun l => d (ix2 i l)) j := by
  pointwise [k0_pay7, pay5_at, pay4_at, MmSpec.ndx, MmSpec.via]
  simp only [Fin.sum_univ_one]
theorem pay1_at (a b : Vec Ideal S256x2048 .f32) (y : S256x2048.Idx) : k0_pay1 a b y = b y + a y := rfl
theorem pay2_at (a b : Vec Ideal S1x2048 .f32) (y : S1x2048.Idx) : k0_pay2 a b y = b y + a y := by
  unfold k0_pay2; simp only [shapeCast_self]; rfl
theorem pay3_at (y : S1x2048.Idx) : (k0_pay3 : FVec Ideal S1x2048 .f32) y = 0 := by
  obtain ⟨i, j, rfl⟩ : ∃ (i : Fin 1) (j : Fin 2048), y = ix2 i j := ⟨y 0, y 1, by funext a; fin_cases a <;> rfl⟩
  pointwise [k0_pay3]

variable (m : (ℓ : Loc nD τ sig) → Buf (Elt Ideal) ℓ) (c : Dev nD)

/-- The norm's input as launched. -/
def X (r k : Fin 2048) : EReal := (m ((c.tc : Thread nD τ).loc main_arg0) : FVec Ideal S2048x2048 .f32) (ix2 r k)
/-- The gain as launched. -/
def G (k : Fin 2048) : EReal := (m ((c.tc : Thread nD τ).loc main_arg1) : FVec Ideal S1x2048 .f32) (ix2 0 k)
/-- The gradient of the norm's output as launched. -/
def Dh (r k : Fin 2048) : EReal := (m ((c.tc : Thread nD τ).loc main_arg2) : FVec Ideal S2048x2048 .f32) (ix2 r k)
/-- The gradient of the residual as launched. -/
def Dr (r k : Fin 2048) : EReal := (m ((c.tc : Thread nD τ).loc main_arg3) : FVec Ideal S2048x2048 .f32) (ix2 r k)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![0, 0] := by decide +kernel
theorem N_eq : cfg0.N = 8 := by decide +kernel

theorem blk0 (t : Fin cfg0.N) (i : Fin 256) (k r : Fin 2048) (hr : r.val = t.val * 256 + i.val) :
    iblk m c 0 t (ix2 i k) = X m c r k := by
  unfold X
  blk_ext [iblk, V, idx0 t, hr]
theorem blk1 (t : Fin cfg0.N) (i : Fin 1) (k : Fin 2048) : iblk m c 1 t (ix2 i k) = G m c k := by
  unfold G
  obtain rfl : i = 0 := Subsingleton.elim _ _
  blk_ext [iblk, V, idx1 t]
theorem blk2 (t : Fin cfg0.N) (i : Fin 256) (k r : Fin 2048) (hr : r.val = t.val * 256 + i.val) :
    iblk m c 2 t (ix2 i k) = Dh m c r k := by
  unfold Dh
  blk_ext [iblk, V, idx2 t, hr]
theorem blk3 (t : Fin cfg0.N) (i : Fin 256) (k r : Fin 2048) (hr : r.val = t.val * 256 + i.val) :
    iblk m c 3 t (ix2 i k) = Dr m c r k := by
  unfold Dr
  blk_ext [iblk, V, idx3 t, hr]

theorem rows (t : Fin cfg0.N) (y : S256x2048.Idx) : (outsAt0 m c t.val t.isLt).1 y
    = k0_pay1 (k0_pay7 (iblk m c 0 t) (iblk m c 1 t) (iblk m c 2 t)) (iblk m c 3 t) y := by
  by_cases h : t.val % 8 = 0
  · rw [outsAt0_A m c t h]; frame_out
  · rw [outsAt0_B m c t h]; frame_out
theorem first (t : Fin cfg0.N) (h : t.val % 8 = 0) (y : S1x2048.Idx) :
    (outsAt0 m c t.val t.isLt).2 y = 0 + k0_pay6 (iblk m c 0 t) (iblk m c 2 t) y := by
  rw [outsAt0_A m c t h]; frame_out; rw [pay2_at, pay3_at]
theorem later (t : Fin cfg0.N) (h : ¬t.val % 8 = 0) (y : S1x2048.Idx) :
    (outsAt0 m c t.val t.isLt).2 y = (outsAt0 m c (t.val - 1) (Nat.lt_of_le_of_lt (Nat.sub_le _ _) t.isLt)).2 y
      + k0_pay6 (iblk m c 0 t) (iblk m c 2 t) y := by
  rw [outsAt0_B m c t h]; frame_out; rw [pay2_at]

/-- The point of the run at its block `s`. -/
def pt (t : Fin cfg0.N) (h2 : t.val % 8 = 7) (s : Fin 8) : Fin cfg0.N :=
  ⟨8 * (t.val / 8) + s.val, Pipeline.run_point_lt_of_flush t h2 s⟩

theorem acc_eq (t : Fin cfg0.N) (h2 : t.val % 8 = 7) (y : S1x2048.Idx) :
    (outsAt0 m c t.val t.isLt).2 y = 0 + ∑ s : Fin 8, k0_pay6 (iblk m c 0 (pt t h2 s)) (iblk m c 2 (pt t h2 s)) y :=
  Pipeline.eq_sum_fin_of_reset_step_apply_of_flush (fun n h => (outsAt0 m c n h).2) 8 (fun _ => 0)
    (fun t y => k0_pay6 (iblk m c 0 t) (iblk m c 2 t) y) (first m c) (later m c) t h2 y

/-- The gradient of the input, from the launched arrays. -/
def Dx (r k : Fin 2048) : EReal := Dr m c r k + MmSpec.ndx (X m c r) (G m c) (Dh m c r) k
/-- The gradient of the gain, from the launched arrays. -/
def Dg (k : Fin 2048) : EReal := ∑ r, X m c r k * Ideal.rsqrt (MmSpec.ms (X m c r)) * Dh m c r k
/-- The first result. -/
def res0 : FVec Ideal S2048x2048 .f32 := fun i => Dx m c (i 0) (i 1)
/-- The second result. -/
def res1 : FVec Ideal S1x2048 .f32 := fun i => Dg m c (i 1)

theorem res0_final : (dats m 0 c).arrAt 4 cfg0.N = res0 m c := by
  refine (dats m 0 c).arrAt_eq_of_covers 4 _ (by decide +kernel) fun t hf y => ?_
  obtain ⟨i, j, rfl⟩ : ∃ (i : Fin 256) (j : Fin 2048), y = ix2 i j := ⟨y 0, y 1, by funext a; fin_cases a <;> rfl⟩
  have ht : t.val < 8 := N_eq ▸ t.isLt
  blk_simp
  rw [after0_4, rows m c t, pay1_at, pay7_at]
  have e : (win0_4.blk t).view.emb (ix2 i j) = ix2 (⟨t.val * 256 + i.val, by omega⟩ : Fin 2048) j := by
    refine (eq_ix2 _).trans (congrArg₂ ix2 (Fin.ext ?_) (Fin.ext ?_))
    · blk_simp [idx4 t]
    · blk_simp [idx4 t]
  rw [e]
  refine congrArg₂ (· + ·) (blk3 m c t i j _ rfl) ?_
  rw [show (fun l => iblk m c 0 t (ix2 i l)) = X m c ⟨t.val * 256 + i.val, by omega⟩ from funext fun l => blk0 m c t i l _ rfl,
    show (fun l => iblk m c 1 t (ix2 0 l)) = G m c from funext fun l => blk1 m c t 0 l,
    show (fun l => iblk m c 2 t (ix2 i l)) = Dh m c ⟨t.val * 256 + i.val, by omega⟩ from funext fun l => blk2 m c t i l _ rfl]
  rfl

theorem res1_final : (dats m 0 c).arrAt 5 cfg0.N = res1 m c := by
  refine (dats m 0 c).arrAt_eq_of_covers 5 _ (by decide +kernel) fun t hf y => ?_
  have h2 : t.val % 8 = 7 := (flush0_5 t).mp hf
  have ht : t.val < 8 := N_eq ▸ t.isLt
  obtain ⟨i, j, rfl⟩ : ∃ (i : Fin 1) (j : Fin 2048), y = ix2 i j := ⟨y 0, y 1, by funext a; fin_cases a <;> rfl⟩
  blk_simp
  rw [after0_5, acc_eq m c t h2, zero_add]
  have e : (win0_5.blk t).view.emb (ix2 i j) = ix2 i j := by
    refine (eq_ix2 _).trans (congrArg₂ ix2 (Fin.ext ?_) (Fin.ext ?_))
    · blk_simp [idx5 t]
    · blk_simp [idx5 t]
  rw [e]
  refine (Finset.sum_congr rfl fun s _ => pay6_at _ _ i j).trans ?_
  refine Fin.sum_mul_add_congr fun s k hl => ?_
  have hr : s.val * 256 + k.val = (pt t h2 s).val * 256 + k.val := by dsimp only [pt]; omega
  rw [show (fun l => iblk m c 0 (pt t h2 s) (ix2 k l)) = X m c ⟨s.val * 256 + k.val, hl⟩ from funext fun l => blk0 m c _ k l _ hr,
    blk0 m c _ k j ⟨s.val * 256 + k.val, hl⟩ hr, blk2 m c _ k j ⟨s.val * 256 + k.val, hl⟩ hr]
  rfl

/-- The run: both results. -/
theorem run (g : Dev nD → PrngReg) : θ_run defs (onTc (τ := τ) (main (F := Ideal))) ⟨m, fun _ => 0, g⟩ (fun r => ∀ c : Dev nD,
      r.2.mem ((c.tc : Thread nD τ).loc main_v0_0) = res0 m c ∧ r.2.mem ((c.tc : Thread nD τ).loc main_v0_1) = res1 m c) :=
  (θ_run defs _ _).mono (fun r h c => ⟨((h c).1 4).trans (res0_final m c), ((h c).1 5).trans (res1_final m c)⟩) (run_main m g)

end Cert.Kernel9Ideal.Mm
end
-- ==== Proof.Mm.V9.lean ====
module

public import proofs.«01_k».proof.Defs
public import proofs.«01_k».proof.Proof.Mm.K9
public import proofs.«01_k».proof.Proof.Gen.Reference9Ideal.Run

/-! # Program 9: the kernel's results are the reference's -/

@[expose] public section
set_option maxRecDepth 16384
noncomputable section
namespace Cert.Reference9Ideal.Mm
open Cert.Reference9Ideal Cert.Reference9Ideal.Gen
open Idealize.ShloMosaic Idealize.ShloMosaic.TcCoe
open Idealize.SL.Sem

section
variable {F : FTy → Type} [FloatOps F] (m : (ℓ : Loc nD τ sig) → Buf (Elt F) ℓ) (ρ : Dev nD → PrngReg)
/-- The arguments end as they began and every counter is at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2, sem_eq_zero_of_no_sems (by decide) r.2⟩) (Value.run m ρ)
end

/-- The rows' mean squares plus epsilon. -/
def M (x : FVec Ideal S2048x2048 .f32) : FVec Ideal S2048x1 .f32 :=
  addf (Host.divf (broadcastInDim S2048x1 ![0] bcast_S2048_S2048x1_0 (Host.reduceAdd (mulf x x) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32))
/-- The output's gradient times the gain. -/
def D (g : FVec Ideal S1x2048 .f32) (d : FVec Ideal S2048x2048 .f32) : FVec Ideal S2048x2048 .f32 :=
  mulf d (broadcastInDim S2048x2048 ![0, 1] bcast_S1x2048_S2048x2048_0_1 (broadcastInDim S1x2048 ![1] bcast_S2048_S1x2048_1 (shapeCast _ g shapeCasts_S1x2048_S2048)))
/-- What reaches the entries through the mean squares. -/
def W (x : FVec Ideal S2048x2048 .f32) (g : FVec Ideal S1x2048 .f32) (d : FVec Ideal S2048x2048 .f32) : FVec Ideal S2048x2048 .f32 :=
  broadcastInDim S2048x2048 ![0] bcast_S2048_S2048x2048_0 (Host.reduceAdd (Host.divf (mulf (shapeCast _ (Host.reduceAdd (mulf x (D g d)) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (M x)) (M x)))) (broadcastInDim S2048x1 ![] bcast_S_S2048x1 (constant S_ .f32 0x45000000#32))) (constant S_ .f32 0x00000000#32) reducesTo_S2048x1_S2048_d1 h_S_)

theorem M_at (x : FVec Ideal S2048x2048 .f32) (r : Fin 2048) (k : Fin 1) : M x (ix2 r k) = MmSpec.ms (fun l => x (ix2 r l)) := by
  pointwise [M, MmSpec.ms]
theorem D_at (g : FVec Ideal S1x2048 .f32) (d : FVec Ideal S2048x2048 .f32) (r k : Fin 2048) : D g d (ix2 r k) = d (ix2 r k) * g (ix2 0 k) := by
  pointwise [D]
theorem W_at (x : FVec Ideal S2048x2048 .f32) (g : FVec Ideal S1x2048 .f32) (d : FVec Ideal S2048x2048 .f32) (r k : Fin 2048) :
    W x g d (ix2 r k) = MmSpec.via (fun l => x (ix2 r l)) (fun l => g (ix2 0 l)) (fun l => d (ix2 r l)) := by
  pointwise [W, M_at, D_at, MmSpec.via]
  simp only [Fin.sum_univ_one]

theorem dx_at (x : FVec Ideal S2048x2048 .f32) (g : FVec Ideal S1x2048 .f32) (d e : FVec Ideal S2048x2048 .f32) (r k : Fin 2048) :
    addf e (addf (addf (mulf (D g d) (broadcastInDim S2048x2048 ![0, 1] bcast_S2048x1_S2048x2048_0_1 (Host.rsqrt (M x)))) (mulf x (W x g d))) (mulf (W x g d) x)) (ix2 r k)
      = e (ix2 r k) + MmSpec.ndx (fun l => x (ix2 r l)) (fun l => g (ix2 0 l)) (fun l => d (ix2 r l)) k := by
  pointwise [W_at, M_at, D_at, MmSpec.ndx]
theorem dg_at (x : FVec Ideal S2048x2048 .f32) (d : FVec Ideal S2048x2048 .f32) (r : Fin 1) (k : Fin 2048) :
    (broadcastInDim S1x2048 ![1] bcast_S2048_S1x2048_1 (Host.reduceAdd (shapeCast _ (Host.reduceAdd (mulf (mulf x (broadcastInDim S2048x2048 ![0, 1] bcast_S2048x1_S2048x2048_0_1 (Host.rsqrt (M x)))) d) (constant S_ .f32 0x00000000#32) reducesTo_S2048x2048_S2048_d0 h_S_) shapeCasts_S2048_S1x2048) (constant S_ .f32 0x00000000#32) reducesTo_S1x2048_S2048_d0 h_S_) : FVec Ideal S1x2048 .f32) (ix2 r k)
      = ∑ l, x (ix2 l k) * Ideal.rsqrt (MmSpec.ms (fun z => x (ix2 l z))) * d (ix2 l k) := by
  pointwise [M_at]
  simp only [Fin.sum_univ_one]
end Cert.Reference9Ideal.Mm

namespace Cert.Proof
open Idealize.ShloMosaic Idealize.ShloMosaic.TcCoe Idealize.SL.Sem

/-- From memories agreeing on the arguments both programs run and end with the same results. -/
theorem value9 : Cert.algebraic_Kernel9Ideal_Reference9Ideal := by
  intro m g m' g' _ hm
  refine ⟨Kernel9Ideal.Mm.res0 m, Kernel9Ideal.Mm.res1 m, ?_, ?_⟩
  · exact θ_run_and (Kernel9Ideal.Mm.run m g) (Kernel9Ideal.Gen.unchanged m g) |> (θ_run Kernel9Ideal.defs _ _).mono
      (fun r h c => ⟨(h.1 c).1, (h.1 c).2, h.2 c⟩)
  · refine (θ_run Reference9Ideal.defs _ _).mono (fun r h c => ⟨(h c).1.trans ?_, (h c).2.1.trans ?_, (h c).2.2⟩) (Reference9Ideal.Value.run m' g')
    · obtain ⟨e0, e1, e2, e3⟩ := hm c
      unfold Reference9Ideal.Value.res_main_v37
      rw [e0, e1, e2, e3]
      funext i
      obtain ⟨r, z, rfl⟩ : ∃ (r : Fin 2048) (z : Fin 2048), i = ix2 r z := ⟨i 0, i 1, by funext a; fin_cases a <;> rfl⟩
      exact Reference9Ideal.Mm.dx_at _ _ _ _ r z
    · obtain ⟨e0, e1, e2, e3⟩ := hm c
      rw [e0, e2]
      funext i
      obtain ⟨r, z, rfl⟩ : ∃ (r : Fin 1) (z : Fin 2048), i = ix2 r z := ⟨i 0, i 1, by funext a; fin_cases a <;> rfl⟩
      exact Reference9Ideal.Mm.dg_at _ _ r z

end Cert.Proof
end
-- ==== Proof.Mm.K10.lean ====
module

public import proofs.«01_k».proof.Proof.Gen.Kernel10Ideal.Frame
public import proofs.«01_k».proof.Proof.Mm.Spec
public import Idealize.ShloMosaic.Lib.Pointwise
public import Idealize.ShloMosaic.Lib.Pipeline.ValueKit

/-! # Program 10: the last norm, the loss and their backward, over eight blocks of rows, element by element -/

@[expose] public section
set_option maxRecDepth 16384
noncomputable section

namespace Cert.Kernel10Ideal.Mm
open Cert.Kernel10Ideal Cert.Kernel10Ideal.Gen
open Idealize.ShloMosaic Idealize.ShloMosaic.TcCoe
open Idealize.SL.Sem

theorem pay6_at (a : Vec Ideal S256x2048 .f32) (i : Fin 256) (j : Fin 1) :
    k0_pay6 a (ix2 i j) = MmSpec.ms (fun l => a (ix2 i l)) := by
  pointwise [k0_pay6, MmSpec.ms]
theorem pay7_at (a : Vec Ideal S256x2048 .f32) (i : Fin 256) (j : Fin 1) :
    k0_pay7 a (ix2 i j) = Ideal.rsqrt (MmSpec.ms (fun l => a (ix2 i l))) := by
  pointwise [k0_pay7, pay6_at]
theorem pay8_at (a : Vec Ideal S256x2048 .f32) (i : Fin 256) (j : Fin 2048) :
    k0_pay8 a (ix2 i j) = a (ix2 i j) * Ideal.rsqrt (MmSpec.ms (fun l => a (ix2 i l))) := by
  pointwise [k0_pay8, pay7_at]

section
variable (a : Vec Ideal S256x2048 .f32) (g : Vec Ideal S1x2048 .f32) (u : Vec Ideal S256x2048 .f32)

/-- The rows' differences from the target. -/
def bErr (i : Fin 256) : Fin 2048 → EReal := MmSpec.err (fun l => a (ix2 i l)) (fun l => g (ix2 0 l)) (fun l => u (ix2 i l))
/-- The loss's gradients there. -/
def bEct (i : Fin 256) : Fin 2048 → EReal := MmSpec.ect (fun l => a (ix2 i l)) (fun l => g (ix2 0 l)) (fun l => u (ix2 i l))

theorem pay9_at (i : Fin 256) (j : Fin 2048) : k0_pay9 a g u (ix2 i j) = bErr a g u i j := by
  pointwise [k0_pay9, pay8_at, bErr, MmSpec.err]
theorem pay10_at (i : Fin 256) (j : Fin 2048) : k0_pay10 a g u (ix2 i j) = bEct a g u i j := by
  pointwise [k0_pay10, pay9_at, bErr, bEct, MmSpec.ect]
theorem pay11_at (i : Fin 1) (j : Fin 2048) :
    k0_pay11 a g u (ix2 i j) = ∑ k, a (ix2 k j) * Ideal.rsqrt (MmSpec.ms (fun l => a (ix2 k l))) * bEct a g u k j := by
  pointwise [k0_pay11, pay8_at, pay10_at]
theorem pay12_at (i : Fin 256) (j : Fin 2048) : k0_pay12 a g u (ix2 i j) = bEct a g u i j * g (ix2 0 j) := by
  pointwise [k0_pay12, pay10_at]
theorem pay13_at (i : Fin 256) (j : Fin 2048) :
    k0_pay13 a g u (ix2 i j) = bEct a g u i j * g (ix2 0 j) * Ideal.rsqrt (MmSpec.ms (fun l => a (ix2 i l))) := by
  pointwise [k0_pay13, pay12_at, pay7_at]
theorem pay14_at (i : Fin 256) (j : Fin 2048) :
    k0_pay14 a g u (ix2 i j) = MmSpec.via (fun l => a (ix2 i l)) (fun l => g (ix2 0 l)) (bEct a g u i) := by
  pointwise [k0_pay14, pay12_at, pay7_at, pay6_at, MmSpec.via]
  simp only [Fin.sum_univ_one]
theorem pay1_at (i : Fin 256) (j : Fin 2048) :
    k0_pay1 a (k0_pay13 a g u) (k0_pay14 a g u) (k0_pay15 a g u) (ix2 i j) = MmSpec.ndx (fun l => a (ix2 i l)) (fun l => g (ix2 0 l)) (bEct a g u i) j := by
  pointwise [k0_pay1, k0_pay15, pay13_at, pay14_at, MmSpec.ndx]
end
theorem pay2_at (a b : Vec Ideal S1x2048 .f32) (y : S1x2048.Idx) : k0_pay2 a b y = b y + a y := by
  unfold k0_pay2; simp only [shapeCast_self]; rfl
theorem pay3_at (a : Vec Ideal S256x2048 .f32) (b : Vec Ideal S1x128 .f32) (i : Fin 1) (j : Fin 128) :
    k0_pay3 a b (ix2 i j) = b (ix2 i j) + Ideal.ofBits .f32 964689920#32 * ∑ k : Fin 256, ∑ l : Fin 2048, a (ix2 k l) * a (ix2 k l) := by
  pointwise [k0_pay3]
theorem pay4_at (y : S1x2048.Idx) : (k0_pay4 : FVec Ideal S1x2048 .f32) y = 0 := by
  obtain ⟨i, j, rfl⟩ : ∃ (i : Fin 1) (j : Fin 2048), y = ix2 i j := ⟨y 0, y 1, by funext a; fin_cases a <;> rfl⟩
  pointwise [k0_pay4]
theorem pay5_at (y : S1x128.Idx) : (k0_pay5 : FVec Ideal S1x128 .f32) y = 0 := by
  obtain ⟨i, j, rfl⟩ : ∃ (i : Fin 1) (j : Fin 128), y = ix2 i j := ⟨y 0, y 1, by funext a; fin_cases a <;> rfl⟩
  pointwise [k0_pay5]

variable (m : (ℓ : Loc nD τ sig) → Buf (Elt Ideal) ℓ) (c : Dev nD)

/-- The norm's input as launched. -/
def X (r k : Fin 2048) : EReal := (m ((c.tc : Thread nD τ).loc main_arg0) : FVec Ideal S2048x2048 .f32) (ix2 r k)
/-- The gain as launched. -/
def G (k : Fin 2048) : EReal := (m ((c.tc : Thread nD τ).loc main_arg1) : FVec Ideal S1x2048 .f32) (ix2 0 k)
/-- The target as launched. -/
def U (r k : Fin 2048) : EReal := (m ((c.tc : Thread nD τ).loc main_arg2) : FVec Ideal S2048x2048 .f32) (ix2 r k)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![0, 0] := by decide +kernel
theorem idx5 : ∀ t : Fin cfg0.N, win0_5.index t = ![0, 0] := by decide +kernel
theorem N_eq : cfg0.N = 8 := by decide +kernel

theorem blk0 (t : Fin cfg0.N) (i : Fin 256) (k r : Fin 2048) (hr : r.val = t.val * 256 + i.val) :
    iblk m c 0 t (ix2 i k) = X m c r k := by
  unfold X
  blk_ext [iblk, V, idx0 t, hr]
theorem blk1 (t : Fin cfg0.N) (i : Fin 1) (k : Fin 2048) : iblk m c 1 t (ix2 i k) = G m c k := by
  unfold G
  obtain rfl : i = 0 := Subsingleton.elim _ _
  blk_ext [iblk, V, idx1 t]
theorem blk2 (t : Fin cfg0.N) (i : Fin 256) (k r : Fin 2048) (hr : r.val = t.val * 256 + i.val) :
    iblk m c 2 t (ix2 i k) = U m c r k := by
  unfold U
  blk_ext [iblk, V, idx2 t, hr]
/-- The differences of a block's rows, of the launched rows. -/
theorem bErr_eq (t : Fin cfg0.N) (i : Fin 256) (r : Fin 2048) (hr : r.val = t.val * 256 + i.val) :
    bErr (iblk m c 0 t) (iblk m c 1 t) (iblk m c 2 t) i = MmSpec.err (X m c r) (G m c) (U m c r) := by
  unfold bErr
  rw [show (fun l => iblk m c 0 t (ix2 i l)) = X m c r from funext fun l => blk0 m c t i l r hr,
    show (fun l => iblk m c 1 t (ix2 0 l)) = G m c from funext fun l => blk1 m c t 0 l,
    show (fun l => iblk m c 2 t (ix2 i l)) = U m c r from funext fun l => blk2 m c t i l r hr]
theorem bEct_eq (t : Fin cfg0.N) (i : Fin 256) (r : Fin 2048) (hr : r.val = t.val * 256 + i.val) :
    bEct (iblk m c 0 t) (iblk m c 1 t) (iblk m c 2 t) i = MmSpec.ect (X m c r) (G m c) (U m c r) :=
  funext fun k => congrArg (· * _) (congrFun (bErr_eq m c t i r hr) k)

theorem rows (t : Fin cfg0.N) (y : S256x2048.Idx) : (outsAt0 m c t.val t.isLt).1 y
    = k0_pay1 (iblk m c 0 t) (k0_pay13 (iblk m c 0 t) (iblk m c 1 t) (iblk m c 2 t)) (k0_pay14 (iblk m c 0 t) (iblk m c 1 t) (iblk m c 2 t))
        (k0_pay15 (iblk m c 0 t) (iblk m c 1 t) (iblk m c 2 t)) y := by
  by_cases h : t.val % 8 = 0
  · rw [outsAt0_A m c t h]; frame_out
  · rw [outsAt0_B m c t h]; frame_out
/-- What a block of rows adds to the gain's gradient. -/
def addG (t : Fin cfg0.N) : S1x2048.Idx → EReal := k0_pay11 (iblk m c 0 t) (iblk m c 1 t) (iblk m c 2 t)
/-- What a block of rows adds to the loss. -/
def addL (t : Fin cfg0.N) (_ : S1x128.Idx) : EReal := Ideal.ofBits .f32 964689920#32
  * ∑ k : Fin 256, ∑ l : Fin 2048, bErr (iblk m c 0 t) (iblk m c 1 t) (iblk m c 2 t) k l * bErr (iblk m c 0 t) (iblk m c 1 t) (iblk m c 2 t) k l
theorem pay3_eq (t : Fin cfg0.N) (b : Vec Ideal S1x128 .f32) (y : S1x128.Idx) :
    k0_pay3 (k0_pay9 (iblk m c 0 t) (iblk m c 1 t) (iblk m c 2 t)) b y = b y + addL m c t y := by
  obtain ⟨i, j, rfl⟩ : ∃ (i : Fin 1) (j : Fin 128), y = ix2 i j := ⟨y 0, y 1, by funext a; fin_cases a <;> rfl⟩
  rw [pay3_at]
  simp only [pay9_at]
  rfl
theorem firstG (t : Fin cfg0.N) (h : t.val % 8 = 0) (y : S1x2048.Idx) :
    (outsAt0 m c t.val t.isLt).2.1 y = 0 + addG m c t y := by
  rw [outsAt0_A m c t h]; frame_out; rw [pay2_at, pay4_at]; rfl
theorem laterG (t : Fin cfg0.N) (h : ¬t.val % 8 = 0) (y : S1x2048.Idx) :
    (outsAt0 m c t.val t.isLt).2.1 y = (outsAt0 m c (t.val - 1) (Nat.lt_of_le_of_lt (Nat.sub_le _ _) t.isLt)).2.1 y + addG m c t y := by
  rw [outsAt0_B m c t h]; frame_out; rw [pay2_at]; rfl
theorem firstL (t : Fin cfg0.N) (h : t.val % 8 = 0) (y : S1x128.Idx) :
    (outsAt0 m c t.val t.isLt).2.2 y = 0 + addL m c t y := by
  rw [outsAt0_A m c t h]; frame_out; rw [pay3_eq, pay5_at]
theorem laterL (t : Fin cfg0.N) (h : ¬t.val % 8 = 0) (y : S1x128.Idx) :
    (outsAt0 m c t.val t.isLt).2.2 y = (outsAt0 m c (t.val - 1) (Nat.lt_of_le_of_lt (Nat.sub_le _ _) t.isLt)).2.2 y + addL m c t y := by
  rw [outsAt0_B m c t h]; frame_out; rw [pay3_eq]

/-- The point of the run at its block `s`. -/
def pt (t : Fin cfg0.N) (h2 : t.val % 8 = 7) (s : Fin 8) : Fin cfg0.N :=
  ⟨8 * (t.val / 8) + s.val, Pipeline.run_point_lt_of_flush t h2 s⟩
theorem pt_row (t : Fin cfg0.N) (h2 : t.val % 8 = 7) (s : Fin 8) (k : Fin 256) : s.val * 256 + k.val = (pt t h2 s).val * 256 + k.val := by
  have ht : t.val < 8 := N_eq ▸ t.isLt
  dsimp only [pt]; omega

theorem accG (t : Fin cfg0.N) (h2 : t.val % 8 = 7) (y : S1x2048.Idx) :
    (outsAt0 m c t.val t.isLt).2.1 y = 0 + ∑ s : Fin 8, addG m c (pt t h2 s) y :=
  Pipeline.eq_sum_fin_of_reset_step_apply_of_flush (fun n h => (outsAt0 m c n h).2.1) 8 (fun _ => 0)
    (addG m c) (firstG m c) (laterG m c) t h2 y
theorem accL (t : Fin cfg0.N) (h2 : t.val % 8 = 7) (y : S1x128.Idx) :
    (outsAt0 m c t.val t.isLt).2.2 y = 0 + ∑ s : Fin 8, addL m c (pt t h2 s) y :=
  Pipeline.eq_sum_fin_of_reset_step_apply_of_flush (fun n h => (outsAt0 m c n h).2.2) 8 (fun _ => 0)
    (addL m c) (firstL m c) (laterL m c) t h2 y

/-- The gradient of the input, from the launched arrays. -/
def Dx (r k : Fin 2048) : EReal := MmSpec.ndx (X m c r) (G m c) (MmSpec.ect (X m c r) (G m c) (U m c r)) k
/-- The gradient of the gain, from the launched arrays. -/
def Dg (k : Fin 2048) : EReal := ∑ r, X m c r k * Ideal.rsqrt (MmSpec.ms (X m c r)) * MmSpec.ect (X m c r) (G m c) (U m c r) k
/-- The loss, from the launched arrays. -/
def Loss : EReal := MmSpec.lossOf (fun r => MmSpec.err (X m c r) (G m c) (U m c r))
/-- The first result. -/
def res0 : FVec Ideal S2048x2048 .f32 := fun i => Dx m c (i 0) (i 1)
/-- The second result. -/
def res1 : FVec Ideal S1x2048 .f32 := fun i => Dg m c (i 1)
/-- The third result. -/
def res2 : FVec Ideal S1x128 .f32 := fun _ => Loss m c

theorem res0_final : (dats m 0 c).arrAt 3 cfg0.N = res0 m c := by
  refine (dats m 0 c).arrAt_eq_of_covers 3 _ (by decide +kernel) fun t hf y => ?_
  obtain ⟨i, j, rfl⟩ : ∃ (i : Fin 256) (j : Fin 2048), y = ix2 i j := ⟨y 0, y 1, by funext a; fin_cases a <;> rfl⟩
  have ht : t.val < 8 := N_eq ▸ t.isLt
  blk_simp
  rw [after0_3, rows m c t, pay1_at]
  have e : (win0_3.blk t).view.emb (ix2 i j) = ix2 (⟨t.val * 256 + i.val, by omega⟩ : Fin 2048) j := by
    refine (eq_ix2 _).trans (congrArg₂ ix2 (Fin.ext ?_) (Fin.ext ?_))
    · blk_simp [idx3 t]
    · blk_simp [idx3 t]
  rw [e, bEct_eq m c t i ⟨t.val * 256 + i.val, by omega⟩ rfl,
    show (fun l => iblk m c 0 t (ix2 i l)) = X m c ⟨t.val * 256 + i.val, by omega⟩ from funext fun l => blk0 m c t i l _ rfl,
    show (fun l => iblk m c 1 t (ix2 0 l)) = G m c from funext fun l => blk1 m c t 0 l]
  rfl

theorem res1_final : (dats m 0 c).arrAt 4 cfg0.N = res1 m c := by
  refine (dats m 0 c).arrAt_eq_of_covers 4 _ (by decide +kernel) fun t hf y => ?_
  have h2 : t.val % 8 = 7 := (flush0_4 t).mp hf
  obtain ⟨i, j, rfl⟩ : ∃ (i : Fin 1) (j : Fin 2048), y = ix2 i j := ⟨y 0, y 1, by funext a; fin_cases a <;> rfl⟩
  blk_simp
  rw [after0_4, accG m c t h2, zero_add]
  have e : (win0_4.blk t).view.emb (ix2 i j) = ix2 i j := by
    refine (eq_ix2 _).trans (congrArg₂ ix2 (Fin.ext ?_) (Fin.ext ?_))
    · blk_simp [idx4 t]
    · blk_simp [idx4 t]
  rw [e]
  refine (Finset.sum_congr rfl fun s _ => pay11_at _ _ _ i j).trans ?_
  refine Fin.sum_mul_add_congr fun s k hl => ?_
  have hr := pt_row t h2 s k
  rw [show (fun l => iblk m c 0 (pt t h2 s) (ix2 k l)) = X m c ⟨s.val * 256 + k.val, hl⟩ from funext fun l => blk0 m c _ k l _ hr,
    blk0 m c _ k j ⟨s.val * 256 + k.val, hl⟩ hr, bEct_eq m c _ k ⟨s.val * 256 + k.val, hl⟩ hr]
  rfl

theorem res2_final : (dats m 0 c).arrAt 5 cfg0.N = res2 m c := by
  refine (dats m 0 c).arrAt_eq_of_covers 5 _ (by decide +kernel) fun t hf y => ?_
  have h2 : t.val % 8 = 7 := (flush0_5 t).mp hf
  blk_simp
  rw [after0_5, accL m c t h2, zero_add]
  refine MmSpec.loss_blocks _ _ fun s k hl => ?_
  exact bErr_eq m c _ k ⟨s.val * 256 + k.val, hl⟩ (pt_row t h2 s k)

/-- The run: the three results. -/
theorem run (g : Dev nD → PrngReg) : θ_run defs (onTc (τ := τ) (main (F := Ideal))) ⟨m, fun _ => 0, g⟩ (fun r => ∀ c : Dev nD,
      r.2.mem ((c.tc : Thread nD τ).loc main_v0_0) = res0 m c ∧ r.2.mem ((c.tc : Thread nD τ).loc main_v0_1) = res1 m c ∧ r.2.mem ((c.tc : Thread nD τ).loc main_v0_2) = res2 m c) :=
  (θ_run defs _ _).mono (fun r h c => ⟨((h c).1 3).trans (res0_final m c), ((h c).1 4).trans (res1_final m c), ((h c).1 5).trans (res2_final m c)⟩) (run_main m g)

end Cert.Kernel10Ideal.Mm
end
-- ==== Proof.Mm.V10.lean ====
module

public import proofs.«01_k».proof.Defs
public import proofs.«01_k».proof.Proof.Mm.K10
public import proofs.«01_k».proof.Proof.Gen.Reference10Ideal.Run

/-! # Program 10: the kernel's results are the reference's -/

@[expose] public section
set_option maxRecDepth 16384
noncomputable section
namespace Cert.Reference10Ideal.Mm
open Cert.Reference10Ideal Cert.Reference10Ideal.Gen
open Idealize.ShloMosaic Idealize.ShloMosaic.TcCoe
open Idealize.SL.Sem

section
variable {F : FTy → Type} [FloatOps F] (m : (ℓ : Loc nD τ sig) → Buf (Elt F) ℓ) (ρ : Dev nD → PrngReg)
/-- The arguments end as they began and every counter is at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2.2, sem_eq_zero_of_no_sems (by decide) r.2⟩) (Value.run m ρ)
end

/-- The rows' mean squares plus epsilon. -/
def M (x : FVec Ideal S2048x2048 .f32) : FVec Ideal S2048x1 .f32 :=
  addf (Host.divf (broadcastInDim S2048x1 ![0] bcast_S2048_S2048x1_0 (Host.reduceAdd (mulf x x) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32))
theorem M_at (x : FVec Ideal S2048x2048 .f32) (r : Fin 2048) (k : Fin 1) : M x (ix2 r k) = MmSpec.ms (fun l => x (ix2 r l)) := by
  pointwise [M, MmSpec.ms]

section
variable (x : FVec Ideal S2048x2048 .f32) (g : FVec Ideal S1x2048 .f32) (u : FVec Ideal S2048x2048 .f32)

/-- The gain along the rows. -/
def Gb : FVec Ideal S2048x2048 .f32 :=
  broadcastInDim S2048x2048 ![0, 1] bcast_S1x2048_S2048x2048_0_1 (broadcastInDim S1x2048 ![1] bcast_S2048_S1x2048_1 (shapeCast _ g shapeCasts_S1x2048_S2048))
/-- The differences from the target. -/
def E : FVec Ideal S2048x2048 .f32 := subf (mulf (mulf x (broadcastInDim S2048x2048 ![0, 1] bcast_S2048x1_S2048x2048_0_1 (Host.rsqrt (M x)))) (Gb g)) u
/-- The loss's gradient there. -/
def C : FVec Ideal S2048x2048 .f32 :=
  mulf (broadcastInDim S2048x2048 ![0] bcast_S2048_S2048x2048_0 (Host.divf (broadcastInDim S2048 ![] bcast_S_S2048 (mulf (constant S_ .f32 0x3F000000#32) (constant S_ .f32 0x3F800000#32))) (broadcastInDim S2048 ![] bcast_S_S2048 (constant S_ .f32 0x45000000#32)))) (mulf (broadcastInDim S2048x2048 ![] bcast_S_S2048x2048 (constant S_ .f32 0x40000000#32)) (E x g u))
/-- What reaches the entries through the mean squares. -/
def W : FVec Ideal S2048x2048 .f32 :=
  broadcastInDim S2048x2048 ![0] bcast_S2048_S2048x2048_0 (Host.reduceAdd (Host.divf (mulf (shapeCast _ (Host.reduceAdd (mulf x (mulf (C x g u) (Gb g))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (M x)) (M x)))) (broadcastInDim S2048x1 ![] bcast_S_S2048x1 (constant S_ .f32 0x45000000#32))) (constant S_ .f32 0x00000000#32) reducesTo_S2048x1_S2048_d1 h_S_)

theorem Gb_at (r k : Fin 2048) : Gb g (ix2 r k) = g (ix2 0 k) := by
  pointwise [Gb]
theorem E_at (r k : Fin 2048) : E x g u (ix2 r k) = MmSpec.err (fun l => x (ix2 r l)) (fun l => g (ix2 0 l)) (fun l => u (ix2 r l)) k := by
  pointwise [E, Gb_at, M_at, MmSpec.err]
theorem C_at (r k : Fin 2048) : C x g u (ix2 r k) = MmSpec.ect (fun l => x (ix2 r l)) (fun l => g (ix2 0 l)) (fun l => u (ix2 r l)) k := by
  rw [MmSpec.ect, ← MmSpec.dct_eq]
  pointwise [C, E_at]
theorem W_at (r k : Fin 2048) : W x g u (ix2 r k) = MmSpec.via (fun l => x (ix2 r l)) (fun l => g (ix2 0 l)) (MmSpec.ect (fun l => x (ix2 r l)) (fun l => g (ix2 0 l)) (fun l => u (ix2 r l))) := by
  pointwise [W, M_at, Gb_at, C_at, MmSpec.via]
  simp only [Fin.sum_univ_one]

theorem dx_at (r k : Fin 2048) :
    addf (addf (mulf (mulf (C x g u) (Gb g)) (broadcastInDim S2048x2048 ![0, 1] bcast_S2048x1_S2048x2048_0_1 (Host.rsqrt (M x)))) (mulf x (W x g u))) (mulf (W x g u) x) (ix2 r k)
      = MmSpec.ndx (fun l => x (ix2 r l)) (fun l => g (ix2 0 l)) (MmSpec.ect (fun l => x (ix2 r l)) (fun l => g (ix2 0 l)) (fun l => u (ix2 r l))) k := by
  pointwise [W_at, M_at, C_at, Gb_at, MmSpec.ndx]
theorem dg_at (r : Fin 1) (k : Fin 2048) :
    (broadcastInDim S1x2048 ![1] bcast_S2048_S1x2048_1 (Host.reduceAdd (shapeCast _ (Host.reduceAdd (mulf (mulf x (broadcastInDim S2048x2048 ![0, 1] bcast_S2048x1_S2048x2048_0_1 (Host.rsqrt (M x)))) (C x g u)) (constant S_ .f32 0x00000000#32) reducesTo_S2048x2048_S2048_d0 h_S_) shapeCasts_S2048_S1x2048) (constant S_ .f32 0x00000000#32) reducesTo_S1x2048_S2048_d0 h_S_) : FVec Ideal S1x2048 .f32) (ix2 r k)
      = ∑ l, x (ix2 l k) * Ideal.rsqrt (MmSpec.ms (fun z => x (ix2 l z))) * MmSpec.ect (fun z => x (ix2 l z)) (fun z => g (ix2 0 z)) (fun z => u (ix2 l z)) k := by
  pointwise [M_at, C_at]
  simp only [Fin.sum_univ_one]
theorem loss_at (r : Fin 1) (k : Fin 128) :
    (broadcastInDim S1x128 ![] bcast_S_S1x128 (mulf (constant S_ .f32 0x3F000000#32) (Host.reduceAdd (Host.divf (Host.reduceAdd (mulf (E x g u) (E x g u)) (constant S_ .f32 0x00000000#32) reducesTo_S2048x2048_S2048_d1 h_S_) (broadcastInDim S2048 ![] bcast_S_S2048 (constant S_ .f32 0x45000000#32))) (constant S_ .f32 0x00000000#32) reducesTo_S2048_S_d0 h_S_)) : FVec Ideal S1x128 .f32) (ix2 r k)
      = MmSpec.lossOf (fun r => MmSpec.err (fun l => x (ix2 r l)) (fun l => g (ix2 0 l)) (fun l => u (ix2 r l))) := by
  pointwise [E_at, MmSpec.lossOf]
end
end Cert.Reference10Ideal.Mm

namespace Cert.Proof
open Idealize.ShloMosaic Idealize.ShloMosaic.TcCoe Idealize.SL.Sem

/-- From memories agreeing on the arguments both programs run and end with the same results. -/
theorem value10 : Cert.algebraic_Kernel10Ideal_Reference10Ideal := by
  intro m g m' g' _ hm
  refine ⟨Kernel10Ideal.Mm.res0 m, Kernel10Ideal.Mm.res1 m, Kernel10Ideal.Mm.res2 m, ?_, ?_⟩
  · exact θ_run_and (Kernel10Ideal.Mm.run m g) (Kernel10Ideal.Gen.unchanged m g) |> (θ_run Kernel10Ideal.defs _ _).mono
      (fun r h c => ⟨(h.1 c).1, (h.1 c).2.1, (h.1 c).2.2, h.2 c⟩)
  · refine (θ_run Reference10Ideal.defs _ _).mono (fun r h c => ⟨(h c).1.trans ?_, (h c).2.1.trans ?_, (h c).2.2.1.trans ?_, (h c).2.2.2⟩) (Reference10Ideal.Value.run m' g')
    · obtain ⟨e0, e1, e2⟩ := hm c
      unfold Reference10Ideal.Value.res_main_v51
      rw [e0, e1, e2]
      funext i
      obtain ⟨r, z, rfl⟩ : ∃ (r : Fin 2048) (z : Fin 2048), i = ix2 r z := ⟨i 0, i 1, by funext a; fin_cases a <;> rfl⟩
      exact Reference10Ideal.Mm.dx_at _ _ _ r z
    · obtain ⟨e0, e1, e2⟩ := hm c
      rw [e0, e1, e2]
      funext i
      obtain ⟨r, z, rfl⟩ : ∃ (r : Fin 1) (z : Fin 2048), i = ix2 r z := ⟨i 0, i 1, by funext a; fin_cases a <;> rfl⟩
      exact Reference10Ideal.Mm.dg_at _ _ _ r z
    · obtain ⟨e0, e1, e2⟩ := hm c
      rw [e0, e1, e2]
      funext i
      obtain ⟨r, z, rfl⟩ : ∃ (r : Fin 1) (z : Fin 128), i = ix2 r z := ⟨i 0, i 1, by funext a; fin_cases a <;> rfl⟩
      exact Reference10Ideal.Mm.loss_at _ _ _ r z

end Cert.Proof
end
-- ==== Proof.Fwd.Body.lean ====
module

public import proofs.«01_k».proof.Proof.Gen.Kernel11Ideal.Skeleton
public import proofs.«01_k».proof.Proof.Ret.Chunks

/-! # The retention of one head

The body walks the sixteen chunks of a head twice: forwards with the forward state, storing each chunk's rows, then
backwards with the backward state, adding to the rows stored. Each walk has its own statement of what the buffers hold
before a trip. Chunks and their windows are those of the gradient. -/

@[expose] public section

set_option maxRecDepth 16384
set_option maxHeartbeats 2000000

noncomputable section

namespace Cert.Kernel11Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel11Ideal.Gen
open Cert.KernelIdeal.Ret (ch rch ch_val rch_val bn bw asmW eq_asmW step_w)

variable {F : FTy → Type} [FloatOps F]

local notation "𝕄R" => MT nD τ sig Unit (Elt F) ℕ (UR sig nD τ) ℕ

section Values
variable (w1 w4 : Elt F .f32) (q k : Vec F S2048x256 .bf16) (v : Vec F S2048x512 .bf16)

/-- The forward state before chunk `n`. -/
def Sf : ℕ → Vec F S256x512 .f32
  | 0 => k0_pay4
  | n + 1 => k0_pay6 w1 (k0_pay10 (bn k (ch n))) (k0_pay11 (bw v (ch n))) (k0_pay13 (k0_pay1 w1)) (Sf n)

/-- The backward state before the `n`-th chunk from the last. -/
def Sb : ℕ → Vec F S256x512 .f32
  | 0 => k0_pay7
  | n + 1 => k0_pay8 (k0_pay18 (k0_pay2 w4) (k0_pay3 w4) (bn k (rch n)) (bw v (rch n)) (Sb n))

/-- What the forward walk stores for chunk `c`. -/
def Yf (c : Fin 16) : Vec F S128x512 .f32 :=
  k0_pay5 (Sf w1 k v c.val) (k0_pay14 (k0_pay1 w1) (k0_pay2 w4) (bn q c) (bn k c) (bw v c)) (k0_pay15 (k0_pay1 w1) (bn q c))

/-- Chunk `c` of the head's retention. -/
def Yc (c : Fin 16) : Vec F S128x512 .f32 :=
  k0_pay17 (k0_pay2 w4) (bn q c) (Sb w4 k v (15 - c.val)) (Yf w1 w4 q k v c)

end Values

section Walks
variable {sp : Space}

/-- A load of one chunk reads the chunk. -/
theorem ld_n {e : EltTy} (a : Memref sig .tc sp S2048x256 e) (f : a.view.ty.Contents (Elt F)) (off : Fin 2 → ℕ) (inb) (c : Fin 16) (h : off = ![128 * c.val, 0]) :
    a.view.readAt (Elt F) (Rect.unit (s := S2048x256) off S128x256.size inb).toLoadRect f = bn (a.view.read (Elt F) f) c :=
  View.readAt_unit a.view f inb h _
theorem ld_w {e : EltTy} (a : Memref sig .tc sp S2048x512 e) (f : a.view.ty.Contents (Elt F)) (off : Fin 2 → ℕ) (inb) (c : Fin 16) (h : off = ![128 * c.val, 0]) :
    a.view.readAt (Elt F) (Rect.unit (s := S2048x512) off S128x512.size inb).toLoadRect f = bw (a.view.read (Elt F) f) c :=
  View.readAt_unit a.view f inb h _
/-- A load of a whole state reads the state. -/
theorem ld_m (a : Memref sig .tc sp S256x512 .f32) (f : a.view.ty.Contents (Elt F)) (inb) :
    a.view.readAt (Elt F) (Rect.unit (s := S256x512) ![0, 0] S256x512.size inb).toLoadRect f = a.view.read (Elt F) f :=
  View.readAt_full a.view f inb
theorem ld_m' (a : Memref sig .tc sp S256x512 .f32) (f : a.view.ty.Contents (Elt F)) (inb) :
    a.view.readAt (Elt F) (Rect.unit (s := S256x512) ![0, 0] ![256, 512] inb).toLoadRect f = a.view.read (Elt F) f :=
  View.readAt_full a.view f inb
/-- A store of a whole state leaves the state. -/
theorem st_m (a : Memref sig .tc sp S256x512 .f32) (f : a.view.ty.Contents (Elt F)) (inb) (w : Vec F S256x512 .f32) (L) :
    a.view.read (Elt F) (a.view.writes (Elt F) f (⟨Rect.unit (s := S256x512) ![0, 0] S256x512.size inb, w⟩ :: L)) = w :=
  View.read_writes_full a.view f inb w L
/-- A store of one chunk puts the chunk. -/
theorem st_w (a : Memref sig .tc sp S2048x512 .f32) (f : a.view.ty.Contents (Elt F)) (off : Fin 2 → ℕ) (inb) (w : Vec F S128x512 .f32) (c : Fin 16) (h : off = ![128 * c.val, 0]) :
    a.view.read (Elt F) (a.view.writes (Elt F) f [⟨Rect.unit (s := S2048x512) off S128x512.size inb, w⟩]) = VecWindow.put (a.view.read (Elt F) f) ![128 * c.val, 0] ![128, 512] w :=
  View.read_writes_cons_put a.view f inb w [] h

variable (c : Dev nD) (i : grid0.Coords)
variable (arg1 : Memref sig .tc .smem S2x4 .f32) (harg1 : arg1.IsWhole)
variable (arg2 : Memref sig .tc .vmem S2048x256 .bf16) (harg2 : arg2.IsWhole)
variable (arg3 : Memref sig .tc .vmem S2048x256 .bf16) (harg3 : arg3.IsWhole)
variable (arg4 : Memref sig .tc .vmem S2048x512 .bf16) (harg4 : arg4.IsWhole)
variable (arg5 : Memref sig .tc .vmem S2048x512 .f32) (harg5 : arg5.IsWhole)
variable (arg6 : Memref sig .tc .vmem S256x512 .f32) (harg6 : arg6.IsWhole)
variable (w1 w4 : Elt F .f32)
variable (X2 : BufTy.Contents (Elt F) arg2.view.ty) (X3 : BufTy.Contents (Elt F) arg3.view.ty) (X4 : BufTy.Contents (Elt F) arg4.view.ty)

local notation "xq" => arg2.view.read (Elt F) X2
local notation "xk" => arg3.view.read (Elt F) X3
local notation "xv" => arg4.view.read (Elt F) X4

/-- The rows satisfy `P` and the state is `S`. -/
def inv (P : Vec F S2048x512 .f32 → Prop) (S : Vec F S256x512 .f32) : sProp 𝕄R :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (∃ f, ⌜P (arg5.view.read (Elt F) f)⌝ ∗ (arg5.view.loc (c : Thread nD τ) ↦[arg5.view.set]{fullShare} f))
    ∗ (∃ f, ⌜arg6.view.read (Elt F) f = S⌝ ∗ (arg6.view.loc (c : Thread nD τ) ↦[arg6.view.set]{fullShare} f)))

/-- Before trip `n` of the forward walk the chunks before `n` hold what it stores and the state is the `n`-th. -/
def inv1 (n : ℕ) : sProp 𝕄R :=
  inv (F := F) c arg2 arg3 arg4 arg5 arg6 X2 X3 X4 (fun y => ∀ j : Fin 16, j.val < n → bw y j = Yf w1 w4 xq xk xv j) (Sf w1 xk xv n)

/-- Before trip `n` of the backward walk the last `n` chunks are done and the others hold what the forward walk stored. -/
def inv2 (n : ℕ) : sProp 𝕄R :=
  inv (F := F) c arg2 arg3 arg4 arg5 arg6 X2 X3 X4
    (fun y => ∀ j : Fin 16, bw y j = if 15 - j.val < n then Yc w1 w4 xq xk xv j else Yf w1 w4 xq xk xv j) (Sb w4 xk xv n)

theorem trip1 (n : Fin k0_t1_loop.trips) (E : Set ℕ) :
    inv1 (F := F) c arg2 arg3 arg4 arg5 arg6 w1 w4 X2 X3 X4 n.val ⊢ wp frame (wpE (defs₀ (F := F)) Variants.none (c : Thread nD τ) none) E
      (k0_t1_body (F := F) i arg1 harg1 arg2 harg2 arg3 harg3 arg4 harg4 arg5 harg5 arg6 harg6 w1 w4 n PUnit.unit) (fun _ => inv1 (F := F) c arg2 arg3 arg4 arg5 arg6 w1 w4 X2 X3 X4 (n.val + 1)) := by
  have hn : n.val < 16 := Nat.lt_of_lt_of_le n.isLt k0_t1_abs.2.1
  have hc := ch_val hn
  have e3 : k0_off3 n = ![128 * (ch n.val).val, 0] := by rw [k0_off3_eq, hc]
  have e4 : k0_off4 n = ![128 * (ch n.val).val, 0] := by rw [k0_off4_eq, hc]
  unfold k0_t1_body inv1 inv
  simp only [k0_part1_eq_skeleton]
  iintro ⟨H2, H3, H4, ⟨%f5, %h5, H5⟩, ⟨%f6, %h6, H6⟩⟩
  sl_exec
  sl_step
  isplitl [H2]; · iexact H2
  isplitl [H3]; · iexact H3
  isplitl [H4]; · iexact H4
  isplitl [H5]
  · iexists _; isplitr; swap; · iexact H5
    ipureintro
    intro j hj
    have key := step_w (arg5.view.read (Elt F) f5) (fun j => Yf w1 w4 xq xk xv j) (ch n.val) (fun j => j.val < n.val) h5 j
      (by rcases Nat.lt_succ_iff_lt_or_eq.mp hj with h | h
          · exact Or.inl h
          · exact Or.inr (Fin.ext (h.trans hc.symm)))
    refine Eq.trans ?_ key
    rw [st_w _ _ _ _ _ _ e4]
    unfold Yf; rw [hc]
    try sl_unfold_run_names
    simp only [ld_n _ _ _ _ _ e3, ld_w _ _ _ _ _ e4, ld_m, ld_m', h6]
    try rfl
  iexists _; isplitr; swap; · iexact H6
  ipureintro
  refine (st_m _ _ _ _ _).trans ?_
  try sl_unfold_run_names
  simp only [ld_n _ _ _ _ _ e3, ld_w _ _ _ _ _ e4, ld_m, ld_m', h6]
  rfl

theorem trip2 (n : Fin k0_t2_loop.trips) (E : Set ℕ) :
    inv2 (F := F) c arg2 arg3 arg4 arg5 arg6 w1 w4 X2 X3 X4 n.val ⊢ wp frame (wpE (defs₀ (F := F)) Variants.none (c : Thread nD τ) none) E
      (k0_t2_body (F := F) i arg1 harg1 arg2 harg2 arg3 harg3 arg4 harg4 arg5 harg5 arg6 harg6 w4 n PUnit.unit) (fun _ => inv2 (F := F) c arg2 arg3 arg4 arg5 arg6 w1 w4 X2 X3 X4 (n.val + 1)) := by
  have hn : n.val < 16 := Nat.lt_of_lt_of_le n.isLt k0_t2_abs.2.1
  have hc := rch_val hn
  have e5 : k0_off5 n = ![128 * (rch n.val).val, 0] := by rw [k0_off5_eq, hc]; congr 1; omega
  have e6 : k0_off6 n = ![128 * (rch n.val).val, 0] := by rw [k0_off6_eq, hc]; congr 1; omega
  have hself : ¬ 15 - (rch n.val).val < n.val := by omega
  have hnext : 15 - (rch n.val).val < n.val + 1 := by omega
  have hoth : ∀ j : Fin 16, j ≠ rch n.val → (15 - j.val < n.val ↔ 15 - j.val < n.val + 1) := fun j hj => by
    have : j.val ≠ (rch n.val).val := fun e => hj (Fin.ext e)
    omega
  unfold k0_t2_body inv2 inv
  simp only [k0_part2_eq_skeleton]
  iintro ⟨H2, H3, H4, ⟨%f5, %h5, H5⟩, ⟨%f6, %h6, H6⟩⟩
  have g5 := h5 (rch n.val); rw [if_neg hself] at g5
  sl_exec
  sl_step
  isplitl [H2]; · iexact H2
  isplitl [H3]; · iexact H3
  isplitl [H4]; · iexact H4
  isplitl [H5]
  · iexists _; isplitr; swap; · iexact H5
    ipureintro
    intro j
    have key := step_w (arg5.view.read (Elt F) f5) (fun j => if 15 - j.val < n.val + 1 then Yc w1 w4 xq xk xv j else Yf w1 w4 xq xk xv j) (rch n.val) (· ≠ rch n.val)
      (fun j hj => by rw [h5 j]; simp only [hoth j hj]) j (or_comm.mp (em _))
    refine Eq.trans ?_ key
    rw [st_w _ _ _ _ _ _ e6, if_pos hnext]
    unfold Yc; rw [show 15 - (rch n.val).val = n.val by omega]
    try sl_unfold_run_names
    simp only [ld_n _ _ _ _ _ e5, ld_w _ _ _ _ _ e6, ld_m, ld_m', h6, g5]
    try rfl
  iexists _; isplitr; swap; · iexact H6
  ipureintro
  refine (st_m _ _ _ _ _).trans ?_
  try sl_unfold_run_names
  simp only [ld_n _ _ _ _ _ e5, ld_w _ _ _ _ _ e6, ld_m, ld_m', h6]
  rfl

/-- The head's forward decay exponent. -/
def wf (i : grid0.Coords) (x : Vec F S2x4 .f32) : Elt F .f32 := x (fun a => match a with | ⟨0, _⟩ => (0 : Fin 2) | ⟨1, _⟩ => (i 0 : Fin 4))
/-- The head's backward decay exponent. -/
def wb (i : grid0.Coords) (x : Vec F S2x4 .f32) : Elt F .f32 := x (fun a => match a with | ⟨0, _⟩ => (1 : Fin 2) | ⟨1, _⟩ => (i 0 : Fin 4))

theorem trips1 : k0_t1_loop.trips = 16 := by decide +kernel
theorem trips2 : k0_t2_loop.trips = 16 := by decide +kernel

theorem head_nat (j : Fin 4) : (Scalar.indexCast (BitVec.ofNat 32 j.val) : Index).toNat = j.val := by
  revert j; decide +kernel

theorem off1 (i : grid0.Coords) : k0_off1 i = ![0, (i 0).val] := by
  show ![0, (Scalar.indexCast (BitVec.ofNat 32 (i 0).val) : Index).toNat] = _
  rw [head_nat (i 0)]

theorem off2 (i : grid0.Coords) : k0_off2 i = ![1, (i 0).val] := by
  show ![1, (Scalar.indexCast (BitVec.ofNat 32 (i 0).val) : Index).toNat] = _
  rw [head_nat (i 0)]

/-- On whole staging buffers the body leaves the output at the head's retention, as a function of the head's inputs. -/
theorem run (x0 : Vec F S2x4 .f32) (x1 x2 : Vec F S2048x256 .bf16) (x3 : Vec F S2048x512 .bf16) (E : Set ℕ) (K : PUnit → sProp 𝕄R) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (asmW (Yc (wf i x0) (wb i x0) x1 x2 x3)) ∗ (∃ d, owns (c : Thread nD τ) arg6 fullShare d)) -∗ K ⟨⟩))
      ⊢ wp frame (wpE (defs₀ (F := F)) Variants.none c none) E (cc0_ret_fwd (F := F) i arg1 harg1 arg2 harg2 arg3 harg3 arg4 harg4 arg5 harg5 arg6 harg6) K := by
  simp only [cc0_ret_fwd_eq_skeleton]; unfold cc0_ret_fwd_skel
  unfold owns
  iintro ⟨⟨%f0, %hf0, H1⟩, ⟨%X2, %hf1, H2⟩, ⟨%X3, %hf2, H3⟩, ⟨%X4, %hf3, H4⟩, ⟨%d5, %f5, -, H5⟩, ⟨%ds, %fs, -, H6⟩, Hk⟩
  subst hf0 hf1 hf2 hf3
  sl_exec
  have e1 : run.sl.r (F := F) c i arg1 f0 = wf i (arg1.view.read (Elt F) f0) := by
    unfold run.sl.r
    refine congrArg (arg1.view.read (Elt F) f0) (funext fun a => Fin.ext ?_)
    fin_cases a
    · exact congrFun (off1 i) 0
    · exact congrFun (off1 i) 1
  have e2 : run.sl.r_1 (F := F) c i arg1 f0 = wb i (arg1.view.read (Elt F) f0) := by
    unfold run.sl.r_1
    refine congrArg (arg1.view.read (Elt F) f0) (funext fun a => Fin.ext ?_)
    fin_cases a
    · exact congrFun (off2 i) 0
    · exact congrFun (off2 i) 1
  generalize wf i (arg1.view.read (Elt F) f0) = w1 at e1 ⊢
  generalize wb i (arg1.view.read (Elt F) f0) = w4 at e2 ⊢
  sl_for (fun n (_ : PUnit) => inv1 (F := F) c arg2 arg3 arg4 arg5 arg6 w1 w4 X2 X3 X4 n) $$ [H2 H3 H4 H5 H6]
  case region =>
    intro n acc
    unfold run.sl.prog.body_1
    rw [e1, e2]
    exact trip1 (F := F) c i arg1 harg1 arg2 harg2 arg3 harg3 arg4 harg4 arg5 harg5 arg6 harg6 _ _ X2 X3 X4 n E
  · unfold inv1 inv
    isplitl [H2]; · iexact H2
    isplitl [H3]; · iexact H3
    isplitl [H4]; · iexact H4
    isplitl [H5]
    · iexists _; isplitr; swap; · iexact H5
      ipureintro; intro j hj; exact absurd hj (Nat.not_lt_zero _)
    iexists _; isplitr; swap; · iexact H6
    ipureintro; exact st_m _ _ _ _ _
  iintro %acc HI
  rw [show Scf.trips k0_t1_loop.lb k0_t1_loop.ub k0_t1_loop.st = 16 from trips1]
  unfold inv1 inv
  icases HI with ⟨H2, H3, H4, ⟨%g5, %h5, H5⟩, ⟨%g6, %h6, H6⟩⟩
  sl_exec
  sl_for (fun n (_ : PUnit) => inv2 (F := F) c arg2 arg3 arg4 arg5 arg6 w1 w4 X2 X3 X4 n) $$ [H2 H3 H4 H5 H6]
  case region =>
    intro n acc
    unfold run.sl.prog.body_2
    rw [e2]
    exact trip2 (F := F) c i arg1 harg1 arg2 harg2 arg3 harg3 arg4 harg4 arg5 harg5 arg6 harg6 _ _ X2 X3 X4 n E
  · unfold inv2 inv
    isplitl [H2]; · iexact H2
    isplitl [H3]; · iexact H3
    isplitl [H4]; · iexact H4
    isplitl [H5]
    · iexists _; isplitr; swap; · iexact H5
      ipureintro; intro j; rw [if_neg (Nat.not_lt_zero _)]; exact h5 j j.isLt
    iexists _; isplitr; swap; · iexact H6
    ipureintro; exact st_m _ _ _ _ _
  iintro %acc2 HI
  rw [show Scf.trips k0_t2_loop.lb k0_t2_loop.ub k0_t2_loop.st = 16 from trips2]
  unfold inv2 inv
  icases HI with ⟨H2, H3, H4, ⟨%y5, %hy5, H5⟩, ⟨%y6, %hy6, H6⟩⟩
  sl_exec
  sl_step
  iapply Hk
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]
  · iexists _; isplitr; swap; · iexact H5
    ipureintro; refine eq_asmW _ _ fun j => ?_
    rw [hy5 j, if_pos (by omega)]
  iexists _, _; isplitr; swap; · iexact H6
  ipureintro; rfl

end Walks
end Cert.Kernel11Ideal.Fwd

end
-- ==== Proof.Fwd.Launch.lean ====
module

public import proofs.«01_k».proof.Proof.Gen.Kernel11Ideal.Frame.Runs
public import proofs.«01_k».proof.Proof.Fwd.Body
public import Idealize.ShloMosaic.Lib.Claim

/-! # The launch of the retention

The four heads' bodies under the pipeline: what every staging buffer holds after each head, the launch, and the
frame, over any values. -/

@[expose] public section

set_option maxRecDepth 16384

noncomputable section

namespace Cert.Kernel11Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel11Ideal.Gen
open Cert.KernelIdeal.Ret (asmW)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The head's retention at grid point `t`. -/
def yAt (c : Dev nD) (t : Fin cfg0.N) : Vec F S2048x512 .f32 :=
  asmW (Yc (wf (grid0.coords t) (iblk m c 0 t)) (wb (grid0.coords t) (iblk m c 0 t)) (iblk m c 1 t) (iblk m c 2 t) (iblk m c 3 t))

/-- The arrays as the launch finds them and what each buffer holds after the body at each head. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yAt m c t
  Φ _ := Pipeline.ΦA spec0 c
  q _ := fullShare
  owed _ := 0

/-- The arrays are as the launch finds them. -/
theorem A_eq (c : Dev nD) (w : Fin cfg0.W) : (dats m 0 c).A w = V m c (Pipeline.arrRef spec0 w) := by
  dsimp only [dats]

/-- What the body leaves, buffer by buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = yAt m c t := by dsimp only [dats]

/-- Each input's buffer holds the head's block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body finds at a head, buffer by buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What the body leaves at a head. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1200000 in
/-- At every head the body takes what it finds to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold yAt
  iintro ⟨⟨HS, Hg⟩, Ho, ⟨%d0, H0⟩, ⟨%d1, H1⟩, ⟨%d2, H2⟩, ⟨%d3, H3⟩, ⟨%d4, H4⟩⟩
  iapply (run (F := F) c (grid0.coords t) _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  iexact H4

/-- The table's row at a head is the body over the head's buffers. -/
theorem defs₀_row (t : Fin cfg0.N) :
    defs₀ (F := F) .tc cfg0.body (cfg0.bodyArgs t (cfg0.slots t)) = bodyAt0 t := by
  unfold defs₀; rw [Defs.onTc_tc]

/-- The body at every head, as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every fair execution ends with the arrays at what the heads left and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel11Ideal.Fwd

end
-- ==== Proof.Fwd.Same.lean ====
module

public import proofs.«01_k».proof.Defs
public import proofs.«01_k».proof.Proof.Gen.Kernel11
public import proofs.«01_k».proof.Proof.Fwd.Launch
@[expose] public section
set_option maxRecDepth 16384
noncomputable section
namespace Cert.Proof
open Idealize.ShloMosaic Idealize.SL.Sem
variable {F : FTy → Type} [FloatOps F] [Cert.Kernel11.Facts] [Cert.Kernel11Ideal.Facts]

/-- The two programs' tables of kernel functions are the same. -/
theorem same_table11 : @Cert.Kernel11.defs₀ F _ _ = @Cert.Kernel11Ideal.defs₀ F _ _ := by
  unfold Cert.Kernel11.defs₀ Cert.Kernel11Ideal.defs₀
  refine congrArg Defs.onTc ?_
  funext l x
  match l, x with
  | 0, (t, s) => rfl
  | ⟨_ + 1, h⟩, _ => exact absurd h (Nat.not_lt.2 (Nat.le_add_left _ _))
/-- The two programs' body tables are the same. -/
theorem same_defs11 : @Cert.Kernel11.defs F _ _ = @Cert.Kernel11Ideal.defs F _ _ := congrArg (Pipeline.defs Cert.Kernel11Ideal.pcfgs) same_table11

/-- The retention at the bits runs, leaves its arguments unchanged and its semaphores at zero. -/
theorem frame_kernel11 : Cert.quiescent_Kernel11 := fun m ρ _ => by
  rw [same_defs11]
  exact (θ_run Cert.Kernel11Ideal.defs _ _).mono (fun _ h => h) (Cert.Kernel11Ideal.Fwd.frame (F := Bits) m ρ)

end Cert.Proof
end
-- ==== Proof.Fwd.Spec.lean ====
module

public import proofs.«01_k».proof.Proof.Ret.Spec

/-! # The retention of one head, element by element -/

@[expose] public section
noncomputable section
namespace Cert.RetSpec
open Idealize.ShloMosaic

/-- The retention: within the chunk, from the chunks before it, from the chunks after it. -/
def fwd (lf lb : EReal) (q k : Fin 16 → Fin 128 → Fin 256 → EReal) (v : Fin 16 → Fin 128 → Fin 512 → EReal)
    (c : Fin 16) (t : Fin 128) (e : Fin 512) : EReal :=
  (∑ u, (∑ x, q c t x * k c u x) * dm lf lb t u * v c u e + ∑ x, q c t x * wqf lf t * stF lf k v c x e)
    + ∑ x, q c t x * wqb lb t * stB lb k v c x e

end Cert.RetSpec
end
-- ==== Proof.Fwd.KerFinal.lean ====
module

public import proofs.«01_k».proof.Proof.Fwd.Launch
public import proofs.«01_k».proof.Proof.Fwd.Spec
public import proofs.«01_k».proof.Proof.Ret.KerFinal
public import Idealize.ShloMosaic.Lib.Pipeline.ValueKit

/-! # The kernel's retention, element by element -/

@[expose] public section
set_option maxRecDepth 16384
noncomputable section
namespace Cert.Kernel11Ideal.Fwd
open Cert.Kernel11Ideal Cert.Kernel11Ideal.Gen Cert.RetSpec
open Idealize.ShloMosaic Idealize.ShloMosaic.TcCoe
open Idealize.SL.Sem
open Cert.KernelIdeal.Ret (ch rch bn bw asmW bn_apply bw_apply cn cw asmW_at)

section Elements
variable (w1 w4 : Elt Ideal .f32)
variable (kb qb : Vec Ideal S128x256 .bf16) (vb : Vec Ideal S128x512 .bf16) (S : Vec Ideal S256x512 .f32) (y : FVec Ideal S128x512 .f32)
  (t : Fin 128) (x : Fin 256) (e : Fin 512)

theorem e4 : (k0_pay4 : FVec Ideal S256x512 .f32) (ix2 x e) = 0 := by pointwise [k0_pay4]
theorem e7 : (k0_pay7 : FVec Ideal S256x512 .f32) (ix2 x e) = 0 := by pointwise [k0_pay7]
theorem e6 : k0_pay6 w1 (k0_pay10 kb) (k0_pay11 vb) (k0_pay13 (k0_pay1 w1)) S (ix2 x e)
    = dec w1 * S (ix2 x e) + ∑ t, kb (ix2 t x) * wkf w1 t * vb (ix2 t e) := by
  unfold dec wkf pos
  pointwise [k0_pay6, k0_pay10, k0_pay11, k0_pay13, k0_pay1, k0_pay12]
theorem e8 : k0_pay8 (k0_pay18 (k0_pay2 w4) (k0_pay3 w4) kb vb S) (ix2 x e)
    = dec w4 * S (ix2 x e) + ∑ t, kb (ix2 t x) * wkb w4 t * vb (ix2 t e) := by
  unfold dec wkb pos
  pointwise [k0_pay8, k0_pay18, k0_pay2, k0_pay3, k0_pay16]
theorem e5 : k0_pay5 S (k0_pay14 (k0_pay1 w1) (k0_pay2 w4) qb kb vb) (k0_pay15 (k0_pay1 w1) qb) (ix2 t e)
    = ∑ u, (∑ x, qb (ix2 t x) * kb (ix2 u x)) * dm w1 w4 t u * vb (ix2 u e) + ∑ x, qb (ix2 t x) * wqf w1 t * S (ix2 x e) := by
  unfold dm wqf
  pointwise [k0_pay5, k0_pay14, k0_pay15, k0_pay1, k0_pay2, k0_pay9, k0_pay10, k0_pay11, k0_pay12, pos_sub, zero_sub]
  rfl
theorem e17 : k0_pay17 (k0_pay2 w4) qb S y (ix2 t e) = y (ix2 t e) + ∑ x, qb (ix2 t x) * wqb w4 t * S (ix2 x e) := by
  unfold wqb pos
  pointwise [k0_pay17, k0_pay2, k0_pay16]

variable (q k : Vec Ideal S2048x256 .bf16) (v : Vec Ideal S2048x512 .bf16)

theorem Sf_apply (n : ℕ) : Sf w1 k v n (ix2 x e) = carry (dec w1) (fun n => kvf w1 (cn k) (cw v) (cN n) x e) n := by
  induction n with
  | zero => exact e4 x e
  | succ n ih =>
    show k0_pay6 w1 (k0_pay10 (bn k (ch n))) (k0_pay11 (bw v (ch n))) (k0_pay13 (k0_pay1 w1)) (Sf w1 k v n) (ix2 x e) = _
    rw [e6, ih]
    simp only [bn_apply, bw_apply]
    rfl

theorem Sb_apply (n : ℕ) : Sb w4 k v n (ix2 x e) = carry (dec w4) (fun n => kvb w4 (cn k) (cw v) (cR n) x e) n := by
  induction n with
  | zero => exact e7 x e
  | succ n ih =>
    show k0_pay8 (k0_pay18 (k0_pay2 w4) (k0_pay3 w4) (bn k (rch n)) (bw v (rch n)) (Sb w4 k v n)) (ix2 x e) = _
    rw [e8, ih]
    simp only [bn_apply, bw_apply]
    rfl

theorem Yc_apply (c : Fin 16) : Yc w1 w4 q k v c (ix2 t e) = RetSpec.fwd w1 w4 (cn q) (cn k) (cw v) c t e := by
  unfold Yc Yf
  rw [e17, e5]
  simp only [bn_apply, bw_apply, Sf_apply, Sb_apply]
  rfl

end Elements

variable (m : (ℓ : Loc nD τ sig) → Buf (Elt Ideal) ℓ) (c : Dev nD)

/-- The exponents, the queries, the keys and the values as launched. -/
def B0 : FVec Ideal S2x4 .f32 := m ((c.tc : Thread nD τ).loc main_arg0)
def B1 : FVec Ideal S2048x1024 .bf16 := m ((c.tc : Thread nD τ).loc main_arg1)
def B2 : FVec Ideal S2048x1024 .bf16 := m ((c.tc : Thread nD τ).loc main_arg2)
def B3 : FVec Ideal S2048x2048 .bf16 := m ((c.tc : Thread nD τ).loc main_arg3)

def hq (h : Fin 4) : Fin 16 → Fin 128 → Fin 256 → EReal := fun n t x => B1 m c (ix2 (row n t) (colN h x))
def hk (h : Fin 4) : Fin 16 → Fin 128 → Fin 256 → EReal := fun n t x => B2 m c (ix2 (row n t) (colN h x))
def hv (h : Fin 4) : Fin 16 → Fin 128 → Fin 512 → EReal := fun n t e => B3 m c (ix2 (row n t) (colW h e))
def hf (h : Fin 4) : EReal := B0 m c (ix2 0 h)
def hb (h : Fin 4) : EReal := B0 m c (ix2 1 h)

/-- The head at a grid point. -/
def hd (t : Fin cfg0.N) : Fin 4 := grid0.coords t 0

theorem idx0 : ∀ t : Fin cfg0.N, win0_0.index t = ![0, 0] := by decide +kernel
theorem idx1 : ∀ t : Fin cfg0.N, win0_1.index t = ![0, (hd t).val] := by decide +kernel
theorem idx2 : ∀ t : Fin cfg0.N, win0_2.index t = ![0, (hd t).val] := by decide +kernel
theorem idx3 : ∀ t : Fin cfg0.N, win0_3.index t = ![0, (hd t).val] := by decide +kernel
theorem idx4 : ∀ t : Fin cfg0.N, win0_4.index t = ![0, (hd t).val] := by decide +kernel

theorem wf_eq (t : Fin cfg0.N) : wf (grid0.coords t) (iblk m c 0 t) = hf m c (hd t) := by
  unfold wf hf B0 hd
  blk_ext [iblk, V, idx0 t]
theorem wb_eq (t : Fin cfg0.N) : wb (grid0.coords t) (iblk m c 0 t) = hb m c (hd t) := by
  unfold wb hb B0 hd
  blk_ext [iblk, V, idx0 t]
theorem cn1 (t : Fin cfg0.N) : cn (iblk m c 1 t) = hq m c (hd t) := by
  funext n r x
  unfold cn hq B1
  blk_ext [iblk, V, idx1 t, row, colN]
theorem cn2 (t : Fin cfg0.N) : cn (iblk m c 2 t) = hk m c (hd t) := by
  funext n r x
  unfold cn hk B2
  blk_ext [iblk, V, idx2 t, row, colN]
theorem cw3 (t : Fin cfg0.N) : cw (iblk m c 3 t) = hv m c (hd t) := by
  funext n r x
  unfold cw hv B3
  blk_ext [iblk, V, idx3 t, row, colW]

/-- The retention as an array. -/
def yArr : FVec Ideal S2048x2048 .f32 := fun i =>
  have hr : (i 0).val < 2048 := (i 0).isLt
  have hz : (i 1).val < 2048 := (i 1).isLt
  let h : Fin 4 := ⟨(i 1).val / 512, by omega⟩
  RetSpec.fwd (hf m c h) (hb m c h) (hq m c h) (hk m c h) (hv m c h) ⟨(i 0).val / 128, by omega⟩ ⟨(i 0).val % 128, Nat.mod_lt _ (by decide)⟩ ⟨(i 1).val % 512, Nat.mod_lt _ (by decide)⟩

theorem yArr_at (i : S2048x2048.Idx) (h : Fin 4) (n : Fin 16) (t : Fin 128) (x : Fin 512)
    (h0 : (i 0).val = n.val * 128 + t.val) (h1 : (i 1).val = h.val * 512 + x.val) :
    yArr m c i = RetSpec.fwd (hf m c h) (hb m c h) (hq m c h) (hk m c h) (hv m c h) n t x := by
  have e1 : (i 1).val / 512 = h.val := by have := x.isLt; omega
  have e2 : (i 1).val % 512 = x.val := by have := x.isLt; omega
  have e3 : (i 0).val / 128 = n.val := by have := t.isLt; omega
  have e4 : (i 0).val % 128 = t.val := by have := t.isLt; omega
  unfold yArr
  simp only [e1, e2, e3, e4, Fin.eta]

theorem y_final : (dats m 0 c).arrAt 4 cfg0.N = yArr m c := by
  refine (dats m 0 c).arrAt_eq_of_covers 4 _ (by decide +kernel) fun t hf y => ?_
  blk_simp
  rw [after0_4]
  have hy0 : (y 0).val < 2048 := (y 0).isLt
  have hy1 : (y 1).val < 512 := (y 1).isLt
  refine Eq.trans ?_ (yArr_at m c _ (hd t) ⟨(y 0).val / 128, by omega⟩ ⟨(y 0).val % 128, Nat.mod_lt _ (by decide)⟩ ⟨(y 1).val, hy1⟩ ?_ ?_).symm
  · unfold yAt
    rw [asmW_at _ y ⟨(y 0).val / 128, by omega⟩ ⟨(y 0).val % 128, Nat.mod_lt _ (by decide)⟩ ⟨(y 1).val, hy1⟩ rfl rfl rfl,
      Yc_apply, wf_eq, wb_eq, cn1, cn2, cw3]
  · blk_simp [idx4 t]
    have := Nat.div_add_mod (y 0).val 128
    show (y 0).val = (y 0).val / 128 * 128 + (y 0).val % 128
    omega
  · blk_simp [idx4 t]

/-- The run leaves the retention in its result. -/
theorem fwd_run (g : Dev nD → PrngReg) : θ_run defs (onTc (τ := τ) (main (F := Ideal))) ⟨m, fun _ => 0, g⟩ (fun r => ∀ c : Dev nD,
      r.2.mem ((c.tc : Thread nD τ).loc main_v0) = yArr m c) :=
  (θ_run defs _ _).mono (fun r h c => ((h c).1 4).trans (y_final m c)) (run_main m g)

end Cert.Kernel11Ideal.Fwd
end
-- ==== Proof.Fwd.RefVal.lean ====
module

public import proofs.«01_k».proof.Proof.Fwd.Spec
public import proofs.«01_k».proof.Proof.Gen.Reference11Ideal.Run
public import Idealize.ShloMosaic.Lib.Pipeline.ValueKit

/-! # The reference's retention, element by element

The states before the chunks are stacked in order, the states after them in reverse; a state is a decayed state plus
the next chunk's products. -/

@[expose] public section
set_option maxRecDepth 16384
noncomputable section
namespace Cert.Reference11Ideal.Fwd
open Cert.Reference11Ideal Cert.Reference11Ideal.Gen Cert.Reference11Ideal.Value Cert.RetSpec
open Idealize.ShloMosaic Idealize.ShloMosaic.TcCoe
open Idealize.SL.Sem

/-! ## The carried states -/

section States
variable (d : FVec Ideal S4x1x1 .f32) (kv : FVec Ideal S16x4x256x512 .f32) (p : ℕ → Fin 16)

/-- Every chunk can be cut out of the stack. -/
theorem cuts (n : Fin 16) : S16x4x256x512.Slices ![n.val, 0, 0, 0] S1x4x256x512 := by
  revert n
  decide +kernel

/-- The next state: the last decayed, plus the products of the chunk whose turn it is. -/
def next (s : FVec Ideal S4x256x512 .f32) (n : Fin 16) : FVec Ideal S4x256x512 .f32 :=
  addf (mulf (broadcastInDim S4x256x512 ![0, 1, 2] bcast_S4x1x1_S4x256x512_0_1_2 d) s)
    (shapeCast _ (extractStridedSlice S1x4x256x512 ![n.val, 0, 0, 0] kv (cuts n)) shapeCasts_S1x4x256x512_S4x256x512)

/-- The states one after another. -/
def states : ℕ → FVec Ideal S4x256x512 .f32
  | 0 => broadcastInDim S4x256x512 ![] bcast_S_S4x256x512 (constant S_ .f32 0x00000000#32)
  | n + 1 => next d kv (states n) (p n)

theorem next_at (s : FVec Ideal S4x256x512 .f32) (n : Fin 16) (h : Fin 4) (x : Fin 256) (e : Fin 512) :
    next d kv s n (ix3 h x e) = d (ix3 h 0 0) * s (ix3 h x e) + kv (ix4 n h x e) := by
  pointwise [next]

theorem states_at (n : ℕ) (h : Fin 4) (x : Fin 256) (e : Fin 512) :
    states d kv p n (ix3 h x e) = carry (d (ix3 h 0 0)) (fun n => kv (ix4 (p n) h x e)) n := by
  induction n with
  | zero => pointwise [states, carry]
  | succ n ih => rw [states, next_at, ih]; rfl

/-- Sixteen states stacked. -/
def stack (f : Fin 16 → FVec Ideal S4x256x512 .f32) : FVec Ideal S16x4x256x512 .f32 :=
  concatenate S16x4x256x512 0 (List.ofFn fun n : Fin 16 => (⟨S1x4x256x512, broadcastInDim S1x4x256x512 ![1, 2, 3] bcast_S4x256x512_S1x4x256x512_1_2_3 (f n)⟩ : (s : Shape) × (s.Idx → Elt Ideal .f32)))
    concatenates_S1x4x256x512_S1x4x256x512_S1x4x256x512_S1x4x256x512_S1x4x256x512_S1x4x256x512_S1x4x256x512_S1x4x256x512_S1x4x256x512_S1x4x256x512_S1x4x256x512_S1x4x256x512_S1x4x256x512_S1x4x256x512_S1x4x256x512_S1x4x256x512_S16x4x256x512_d0

theorem stack_at (f : Fin 16 → FVec Ideal S4x256x512 .f32) (c : Fin 16) (h : Fin 4) (x : Fin 256) (e : Fin 512) :
    stack f (ix4 c h x e) = f c (ix3 h x e) := by
  refine (concatenate_ofFn_unit_apply (t := S16x4x256x512) (s₁ := S1x4x256x512) 0 _ _ rfl rfl (ix4 c h x e) c rfl (ix4 0 h x e)
    (by intro b hb; fin_cases b <;> first | rfl | exact absurd rfl hb)).trans ?_
  pointwise

end States

/-! ## The inputs read -/

section
variable (V0 : Valuation τ sig (Elt Ideal))

def A0 : FVec Ideal S2x4 .f32 := V0 (Proc.devRef .tc main_arg0)
def A1 : FVec Ideal S2048x1024 .bf16 := V0 (Proc.devRef .tc main_arg1)
def A2 : FVec Ideal S2048x1024 .bf16 := V0 (Proc.devRef .tc main_arg2)
def A3 : FVec Ideal S2048x2048 .bf16 := V0 (Proc.devRef .tc main_arg3)

def rq (h : Fin 4) : Fin 16 → Fin 128 → Fin 256 → EReal := fun n t x => A1 V0 (ix2 (row n t) (colN h x))
def rk (h : Fin 4) : Fin 16 → Fin 128 → Fin 256 → EReal := fun n t x => A2 V0 (ix2 (row n t) (colN h x))
def rv (h : Fin 4) : Fin 16 → Fin 128 → Fin 512 → EReal := fun n t e => A3 V0 (ix2 (row n t) (colW h e))
def rf (h : Fin 4) : EReal := A0 V0 (ix2 0 h)
def rb (h : Fin 4) : EReal := A0 V0 (ix2 1 h)

theorem v1_at (c : Fin 16) (t : Fin 128) (h : Fin 4) (x : Fin 256) : res_main_v1 V0 (ix4 c t h x) = rq V0 h c t x := by
  pointwise [res_main_v1, rq, A1, row, colN]
theorem v3_at (c : Fin 16) (t : Fin 128) (h : Fin 4) (x : Fin 256) : res_main_v3 V0 (ix4 c t h x) = rk V0 h c t x := by
  pointwise [res_main_v3, rk, A2, row, colN]
theorem v5_at (c : Fin 16) (t : Fin 128) (h : Fin 4) (e : Fin 512) : res_main_v5 V0 (ix4 c t h e) = rv V0 h c t e := by
  pointwise [res_main_v5, rv, A3, row, colW]
theorem v7_at (h : Fin 4) : res_main_v7 V0 (ix1 h) = rf V0 h := by pointwise [res_main_v7, rf, A0]
theorem v9_at (h : Fin 4) : res_main_v9 V0 (ix1 h) = rb V0 h := by pointwise [res_main_v9, rb, A0]
theorem v10_at (t : Fin 128) : res_main_v10 V0 (ix1 t) = pos t := by pointwise [res_main_v10, pos]
theorem v15_at (i j : Fin 128) : res_main_v15 V0 (ix2 i j) = pos i - pos j := by pointwise [res_main_v15, v10_at]
theorem v59_at (c : Fin 16) (h : Fin 4) (x : Fin 256) (e : Fin 512) :
    res_main_v59 V0 (ix4 c h x e) = kvf (rf V0 h) (rk V0 h) (rv V0 h) c x e := by
  unfold kvf wkf
  pointwise [res_main_v59, v3_at, v5_at, v7_at, v10_at]
theorem v60_at (c : Fin 16) (h : Fin 4) (x : Fin 256) (e : Fin 512) :
    res_main_v60 V0 (ix4 c h x e) = kvb (rb V0 h) (rk V0 h) (rv V0 h) c x e := by
  unfold kvb wkb
  pointwise [res_main_v60, v3_at, v5_at, v9_at, v10_at]
theorem v64_at (h : Fin 4) : res_main_v64 V0 (ix3 h 0 0) = dec (rf V0 h) := by
  unfold dec
  pointwise [res_main_v64, v7_at]
theorem v68_at (h : Fin 4) : res_main_v68 V0 (ix3 h 0 0) = dec (rb V0 h) := by
  unfold dec
  pointwise [res_main_v68, v9_at]

/-- The forward states and the backward states. -/
def SF : ℕ → FVec Ideal S4x256x512 .f32 := states (res_main_v64 V0) (res_main_v59 V0) cN
def SB : ℕ → FVec Ideal S4x256x512 .f32 := states (res_main_v68 V0) (res_main_v60 V0) cR

theorem SF_at (c : Fin 16) (h : Fin 4) (x : Fin 256) (e : Fin 512) :
    SF V0 c.val (ix3 h x e) = stF (rf V0 h) (rk V0 h) (rv V0 h) c x e := by
  unfold SF stF
  simp only [states_at, v64_at, v59_at]
theorem SB_at (c : Fin 16) (h : Fin 4) (x : Fin 256) (e : Fin 512) :
    SB V0 (15 - c.val) (ix3 h x e) = stB (rb V0 h) (rk V0 h) (rv V0 h) c x e := by
  unfold SB stB
  simp only [states_at, v68_at, v60_at]

theorem nextF (n : ℕ) (s : FVec Ideal S4x256x512 .f32) (h : s = SF V0 n) : next (res_main_v64 V0) (res_main_v59 V0) s (cN n) = SF V0 (n + 1) := by
  subst h; rfl
theorem nextB (n : ℕ) (s : FVec Ideal S4x256x512 .f32) (h : s = SB V0 n) : next (res_main_v68 V0) (res_main_v60 V0) s (cR n) = SB V0 (n + 1) := by
  subst h; rfl

theorem f0 : res_main_v69 V0 = SF V0 0 := rfl
theorem f1 : res_main_v75 V0 = SF V0 1 := nextF V0 0 _ (f0 V0)
theorem f2 : res_main_v85 V0 = SF V0 2 := nextF V0 1 _ (f1 V0)
theorem f3 : res_main_v95 V0 = SF V0 3 := nextF V0 2 _ (f2 V0)
theorem f4 : res_main_v105 V0 = SF V0 4 := nextF V0 3 _ (f3 V0)
theorem f5 : res_main_v115 V0 = SF V0 5 := nextF V0 4 _ (f4 V0)
theorem f6 : res_main_v125 V0 = SF V0 6 := nextF V0 5 _ (f5 V0)
theorem f7 : res_main_v135 V0 = SF V0 7 := nextF V0 6 _ (f6 V0)
theorem f8 : res_main_v145 V0 = SF V0 8 := nextF V0 7 _ (f7 V0)
theorem f9 : res_main_v155 V0 = SF V0 9 := nextF V0 8 _ (f8 V0)
theorem f10 : res_main_v165 V0 = SF V0 10 := nextF V0 9 _ (f9 V0)
theorem f11 : res_main_v175 V0 = SF V0 11 := nextF V0 10 _ (f10 V0)
theorem f12 : res_main_v185 V0 = SF V0 12 := nextF V0 11 _ (f11 V0)
theorem f13 : res_main_v195 V0 = SF V0 13 := nextF V0 12 _ (f12 V0)
theorem f14 : res_main_v205 V0 = SF V0 14 := nextF V0 13 _ (f13 V0)
theorem b0 : res_main_v70 V0 = SB V0 0 := rfl
theorem b1 : res_main_v80 V0 = SB V0 1 := nextB V0 0 _ (b0 V0)
theorem b2 : res_main_v90 V0 = SB V0 2 := nextB V0 1 _ (b1 V0)
theorem b3 : res_main_v100 V0 = SB V0 3 := nextB V0 2 _ (b2 V0)
theorem b4 : res_main_v110 V0 = SB V0 4 := nextB V0 3 _ (b3 V0)
theorem b5 : res_main_v120 V0 = SB V0 5 := nextB V0 4 _ (b4 V0)
theorem b6 : res_main_v130 V0 = SB V0 6 := nextB V0 5 _ (b5 V0)
theorem b7 : res_main_v140 V0 = SB V0 7 := nextB V0 6 _ (b6 V0)
theorem b8 : res_main_v150 V0 = SB V0 8 := nextB V0 7 _ (b7 V0)
theorem b9 : res_main_v160 V0 = SB V0 9 := nextB V0 8 _ (b8 V0)
theorem b10 : res_main_v170 V0 = SB V0 10 := nextB V0 9 _ (b9 V0)
theorem b11 : res_main_v180 V0 = SB V0 11 := nextB V0 10 _ (b10 V0)
theorem b12 : res_main_v190 V0 = SB V0 12 := nextB V0 11 _ (b11 V0)
theorem b13 : res_main_v200 V0 = SB V0 13 := nextB V0 12 _ (b12 V0)
theorem b14 : res_main_v210 V0 = SB V0 14 := nextB V0 13 _ (b13 V0)

/-! ## The three parts -/

/-- Queries weighted by `w` against the states `S`. -/
def inter (S : FVec Ideal S16x4x256x512 .f32) (w : FVec Ideal S128x4 .f32) : FVec Ideal S16x128x4x512 .f32 :=
  transpose S16x128x4x512 [0, 3, 1, 2] (Host.dotGeneral dot_S16x4x256x512_S16x128x4x256_S16x4x512x128_2_3_3_1_01_02 none S (mulf (res_main_v1 V0) (broadcastInDim S16x128x4x256 ![0, 1, 2, 3] bcast_S1x128x4x1_S16x128x4x256_0_1_2_3 (broadcastInDim S1x128x4x1 ![1, 2, 3] bcast_S128x4x1_S1x128x4x1_1_2_3 (broadcastInDim S128x4x1 ![0, 1] bcast_S128x4_S128x4x1_0_1 w))))) transposes_S16x4x512x128_S16x128x4x512_0_3_1_2

theorem inter_at (S : FVec Ideal S16x4x256x512 .f32) (w : FVec Ideal S128x4 .f32) (c : Fin 16) (t : Fin 128) (h : Fin 4) (e : Fin 512) :
    inter V0 S w (ix4 c t h e) = ∑ x, rq V0 h c t x * w (ix2 t h) * S (ix4 c h x e) := by
  pointwise [inter, v1_at]
  exact Finset.sum_congr rfl fun x _ => mul_comm _ _

/-- The weights between the positions of one chunk. -/
def D : FVec Ideal S4x128x128 .f32 :=
  Host.exp (select (broadcastInDim S4x128x128 ![1, 2] bcast_S128x128_S4x128x128_1_2 (cmpf .oge (res_main_v15 V0) (broadcastInDim S128x128 ![] bcast_S_S128x128 (constant S_ .f32 0x00000000#32)))) (mulf (broadcastInDim S4x128x128 ![0, 1, 2] bcast_S4x1x1_S4x128x128_0_1_2 (broadcastInDim S4x1x1 ![0] bcast_S4_S4x1x1_0 (res_main_v7 V0))) (broadcastInDim S4x128x128 ![0, 1, 2] bcast_S1x128x128_S4x128x128_0_1_2 (broadcastInDim S1x128x128 ![1, 2] bcast_S128x128_S1x128x128_1_2 (res_main_v15 V0)))) (mulf (broadcastInDim S4x128x128 ![0, 1, 2] bcast_S4x1x1_S4x128x128_0_1_2 (Host.negf (broadcastInDim S4x1x1 ![0] bcast_S4_S4x1x1_0 (res_main_v9 V0)))) (broadcastInDim S4x128x128 ![0, 1, 2] bcast_S1x128x128_S4x128x128_0_1_2 (broadcastInDim S1x128x128 ![1, 2] bcast_S128x128_S1x128x128_1_2 (res_main_v15 V0)))))
theorem D_at (h : Fin 4) (i j : Fin 128) : D V0 (ix3 h i j) = dm (rf V0 h) (rb V0 h) i j := by
  unfold dm
  pointwise [D, v15_at, v7_at, v9_at]

/-- The part within a chunk. -/
def intra : FVec Ideal S16x128x4x512 .f32 :=
  transpose S16x128x4x512 [0, 3, 1, 2] (Host.dotGeneral (φ₁ := .f32) (φ₂ := .f32) dot_S16x128x4x512_S16x4x128x128_S16x4x512x128_1_3_3_2_02_01 none (res_main_v5 V0) (mulf (Host.dotGeneral (φ₁ := .f32) (φ₂ := .f32) dot_S16x128x4x256_S16x128x4x256_S16x4x128x128_3_3_1_1_02_02 none (res_main_v1 V0) (res_main_v3 V0)) (broadcastInDim S16x4x128x128 ![0, 1, 2, 3] bcast_S1x4x128x128_S16x4x128x128_0_1_2_3 (broadcastInDim S1x4x128x128 ![1, 2, 3] bcast_S4x128x128_S1x4x128x128_1_2_3 (D V0))))) transposes_S16x4x512x128_S16x128x4x512_0_3_1_2
theorem intra_at (c : Fin 16) (t : Fin 128) (h : Fin 4) (e : Fin 512) :
    intra V0 (ix4 c t h e) = ∑ u, (∑ x, rq V0 h c t x * rk V0 h c u x) * dm (rf V0 h) (rb V0 h) t u * rv V0 h c u e := by
  pointwise [intra, v1_at, v3_at, v5_at, D_at]
  exact Finset.sum_congr rfl fun x _ => mul_comm _ _

/-- Weights of the queries against the forward states. -/
def Wf : FVec Ideal S128x4 .f32 :=
  Host.exp (mulf (broadcastInDim S128x4 ![0, 1] bcast_S1x4_S128x4_0_1 (broadcastInDim S1x4 ![1] bcast_S4_S1x4_1 (res_main_v7 V0))) (broadcastInDim S128x4 ![0, 1] bcast_S128x1_S128x4_0_1 (addf (broadcastInDim S128x1 ![0] bcast_S128_S128x1_0 (res_main_v10 V0)) (broadcastInDim S128x1 ![] bcast_S_S128x1 (constant S_ .f32 0x3F800000#32)))))
theorem Wf_at (t : Fin 128) (h : Fin 4) : Wf V0 (ix2 t h) = wqf (rf V0 h) t := by
  unfold wqf
  pointwise [Wf, v7_at, v10_at]
/-- Weights of the queries against the backward states. -/
def Wb : FVec Ideal S128x4 .f32 :=
  Host.exp (mulf (broadcastInDim S128x4 ![0, 1] bcast_S1x4_S128x4_0_1 (broadcastInDim S1x4 ![1] bcast_S4_S1x4_1 (res_main_v9 V0))) (broadcastInDim S128x4 ![0, 1] bcast_S128x1_S128x4_0_1 (broadcastInDim S128x1 ![0] bcast_S128_S128x1_0 (subf (broadcastInDim S128 ![] bcast_S_S128 (constant S_ .f32 0x43000000#32)) (res_main_v10 V0)))))
theorem Wb_at (t : Fin 128) (h : Fin 4) : Wb V0 (ix2 t h) = wqb (rb V0 h) t := by
  unfold wqb
  pointwise [Wb, v9_at, v10_at]

/-- The states in the order the reference stacks them. -/
def Fs : Fin 16 → FVec Ideal S4x256x512 .f32 :=
  ![res_main_v69 V0, res_main_v75 V0, res_main_v85 V0, res_main_v95 V0, res_main_v105 V0, res_main_v115 V0, res_main_v125 V0, res_main_v135 V0, res_main_v145 V0, res_main_v155 V0, res_main_v165 V0, res_main_v175 V0, res_main_v185 V0, res_main_v195 V0, res_main_v205 V0, next (res_main_v64 V0) (res_main_v59 V0) (res_main_v205 V0) 14]
def Bs : Fin 16 → FVec Ideal S4x256x512 .f32 :=
  ![next (res_main_v68 V0) (res_main_v60 V0) (res_main_v210 V0) 1, res_main_v210 V0, res_main_v200 V0, res_main_v190 V0, res_main_v180 V0, res_main_v170 V0, res_main_v160 V0, res_main_v150 V0, res_main_v140 V0, res_main_v130 V0, res_main_v120 V0, res_main_v110 V0, res_main_v100 V0, res_main_v90 V0, res_main_v80 V0, res_main_v70 V0]
theorem Fs_eq : Fs V0 = fun n => SF V0 n.val := by
  funext n
  fin_cases n
  exacts [f0 V0, f1 V0, f2 V0, f3 V0, f4 V0, f5 V0, f6 V0, f7 V0, f8 V0, f9 V0, f10 V0, f11 V0, f12 V0, f13 V0, f14 V0, nextF V0 14 _ (f14 V0)]
theorem Bs_eq : Bs V0 = fun n => SB V0 (15 - n.val) := by
  funext n
  fin_cases n
  exacts [nextB V0 14 _ (b14 V0), b14 V0, b13 V0, b12 V0, b11 V0, b10 V0, b9 V0, b8 V0, b7 V0, b6 V0, b5 V0, b4 V0, b3 V0, b2 V0, b1 V0, b0 V0]

theorem v264_eq : res_main_v264 V0 = addf (intra V0) (inter V0 (stack (Fs V0)) (Wf V0)) := rfl
theorem v285_eq : res_main_v285 V0 = shapeCast _ (addf (res_main_v264 V0) (inter V0 (stack (Bs V0)) (Wb V0))) shapeCasts_S16x128x4x512_S2048x2048 := rfl

section
variable (c : Fin 16) (t : Fin 128) (h : Fin 4) (e : Fin 512)
theorem before_at : inter V0 (stack (Fs V0)) (Wf V0) (ix4 c t h e)
    = ∑ x, rq V0 h c t x * wqf (rf V0 h) t * stF (rf V0 h) (rk V0 h) (rv V0 h) c x e := by
  simp only [inter_at, stack_at, Fs_eq, SF_at, Wf_at]
theorem after_at : inter V0 (stack (Bs V0)) (Wb V0) (ix4 c t h e)
    = ∑ x, rq V0 h c t x * wqb (rb V0 h) t * stB (rb V0 h) (rk V0 h) (rv V0 h) c x e := by
  simp only [inter_at, stack_at, Bs_eq, SB_at, Wb_at]
theorem v264_at : res_main_v264 V0 (ix4 c t h e) = ∑ u, (∑ x, rq V0 h c t x * rk V0 h c u x) * dm (rf V0 h) (rb V0 h) t u * rv V0 h c u e
      + ∑ x, rq V0 h c t x * wqf (rf V0 h) t * stF (rf V0 h) (rk V0 h) (rv V0 h) c x e := by
  refine (congrFun (v264_eq V0) _).trans ?_
  pointwise [intra_at, before_at]
end

theorem v285_at (r z : Fin 2048) :
    res_main_v285 V0 (ix2 r z) = (fun h : Fin 4 => fwd (rf V0 h) (rb V0 h) (rq V0 h) (rk V0 h) (rv V0 h) ⟨r.val / 128, by omega⟩ ⟨r.val % 128, Nat.mod_lt _ (by decide)⟩ ⟨z.val % 512, Nat.mod_lt _ (by decide)⟩) ⟨z.val / 512, by omega⟩ := by
  refine (congrFun (v285_eq V0) _).trans ?_
  unfold fwd
  pointwise [v264_at, after_at]

end
end Cert.Reference11Ideal.Fwd
end
-- ==== Proof.Fwd.Value.lean ====
module

public import proofs.«01_k».proof.Defs
public import proofs.«01_k».proof.Proof.Fwd.KerFinal
public import proofs.«01_k».proof.Proof.Fwd.RefVal

/-! # The kernel's retention is the reference's -/

@[expose] public section
set_option maxRecDepth 16384
noncomputable section

namespace Cert.Reference11Ideal.Fwd
open Cert.Reference11Ideal Cert.Reference11Ideal.Gen
open Idealize.ShloMosaic Idealize.ShloMosaic.TcCoe
open Idealize.SL.Sem
variable {F : FTy → Type} [FloatOps F] (m : (ℓ : Loc nD τ sig) → Buf (Elt F) ℓ) (ρ : Dev nD → PrngReg)
/-- The arguments end as they began and every counter is at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (Value.run m ρ)
end Cert.Reference11Ideal.Fwd

namespace Cert.Proof
open Idealize.ShloMosaic Idealize.ShloMosaic.TcCoe Idealize.SL.Sem

/-- From memories agreeing on the arguments both programs run and end with the same retention. -/
theorem value11 : Cert.algebraic_Kernel11Ideal_Reference11Ideal := by
  intro m g m' g' _ hm
  refine ⟨Kernel11Ideal.Fwd.yArr m, ?_, ?_⟩
  · exact (θ_run Kernel11Ideal.defs _ _).mono (fun r h c => ⟨h.1 c, h.2.1 c⟩)
      (θ_run_and (Kernel11Ideal.Fwd.fwd_run m g) (Kernel11Ideal.Fwd.frame m g))
  · refine (θ_run Reference11Ideal.defs _ _).mono (fun r h c => ⟨(h c).1.trans ?_, (h c).2⟩) (Reference11Ideal.Value.run m' g')
    obtain ⟨e0, e1, e2, e3⟩ := hm c
    funext i
    obtain ⟨r, z, rfl⟩ : ∃ (r : Fin 2048) (z : Fin 2048), i = ix2 r z := ⟨i 0, i 1, by funext a; fin_cases a <;> rfl⟩
    refine (Reference11Ideal.Fwd.v285_at _ r z).trans ?_
    have f0 : Reference11Ideal.Fwd.A0 (StableHlo.launchContents m' c) = Kernel11Ideal.Fwd.B0 m c := e0
    have f1 : Reference11Ideal.Fwd.A1 (StableHlo.launchContents m' c) = Kernel11Ideal.Fwd.B1 m c := e1
    have f2 : Reference11Ideal.Fwd.A2 (StableHlo.launchContents m' c) = Kernel11Ideal.Fwd.B2 m c := e2
    have f3 : Reference11Ideal.Fwd.A3 (StableHlo.launchContents m' c) = Kernel11Ideal.Fwd.B3 m c := e3
    unfold Reference11Ideal.Fwd.rf Reference11Ideal.Fwd.rb Reference11Ideal.Fwd.rq Reference11Ideal.Fwd.rk Reference11Ideal.Fwd.rv
    rw [f0, f1, f2, f3]
    rfl

end Cert.Proof
end
-- ==== Proof.Rot.Spec.lean ====
module

public import Idealize.ShloMosaic.Lib.Pointwise
public import Idealize.ShloMosaic.Lib.KernelVsHost
public import Idealize.ShloMosaic.Lib.IdealHost
public import Idealize.ShloMosaic.Lib.Pipeline.ValueKit
public import Idealize.ShloMosaic.Lib.Pipeline.ValueKit

/-! # The rotary embedding of one row, element by element -/

@[expose] public section
noncomputable section
namespace Cert.RotSpec
open Idealize.ShloMosaic

/-- The angle at row `r` for the pair `l` of a head's entries. -/
def ang (r : Fin 2048) (l : Fin 128) : EReal :=
  FloatOps.sitofp (F := Ideal) FTy.f32 (BitVec.ofNat 32 r)
    * Ideal.div 1 (Ideal.pow (Ideal.ofBits .f32 1176256512#32) (Ideal.div (FloatOps.sitofp (F := Ideal) FTy.f32 (BitVec.ofNat 32 l)) (Ideal.ofBits .f32 1124073472#32)))

/-- One sixteenth, the keys' scale. -/
def sc : EReal := Ideal.ofBits .f32 1031798784#32

theorem sc_eq : sc = ((1 / 16 : ℝ) : EReal) := by
  unfold sc; simp [Ideal.ofBits, Ideal.ieee, -EReal.coe_mul]; norm_num
theorem add_sc (a b : EReal) : (a + b) * sc = a * sc + b * sc := by
  rw [sc_eq]
  exact EReal.right_distrib_of_nonneg_of_ne_top (EReal.coe_nonneg.mpr (by norm_num)) (EReal.coe_ne_top _) _ _
theorem sub_sc (a b : EReal) : (a - b) * sc = a * sc - b * sc := by
  rw [sub_eq_add_neg, add_sc, neg_mul, ← sub_eq_add_neg]

/-- The pair of column `j`. -/
def pr (j : Fin 1024) : Fin 128 := ⟨j.val % 128, Nat.mod_lt _ (by decide)⟩

/-- A row rotated, head by head. -/
def rot (c s : Fin 128 → EReal) (x : Fin 1024 → EReal) (j : Fin 1024) : EReal :=
  if h : j.val % 256 < 128 then x j * c (pr j) - x ⟨j.val + 128, by omega⟩ * s (pr j)
  else x ⟨j.val - 128, by omega⟩ * s (pr j) + x j * c (pr j)
/-- A row rotated back, head by head. -/
def unrot (c s : Fin 128 → EReal) (x : Fin 1024 → EReal) (j : Fin 1024) : EReal :=
  if h : j.val % 256 < 128 then x j * c (pr j) + x ⟨j.val + 128, by omega⟩ * s (pr j)
  else x j * c (pr j) - x ⟨j.val - 128, by omega⟩ * s (pr j)

theorem rot_sc (c s : Fin 128 → EReal) (x : Fin 1024 → EReal) (j : Fin 1024) :
    rot c s (fun i => x i) j * sc = rot c s (fun i => x i * sc) j := by
  unfold rot
  split <;> simp only [add_sc, sub_sc, mul_right_comm _ _ sc]
theorem unrot_sc (c s : Fin 128 → EReal) (x : Fin 1024 → EReal) (j : Fin 1024) :
    unrot c s x j * sc = unrot c s (fun i => x i * sc) j := by
  unfold unrot
  split <;> simp only [add_sc, sub_sc, mul_right_comm _ _ sc]

/-- A read of some columns of a block. -/
theorem ld_at {n w off v : ℕ} (inb) (x : Vec Ideal (⟨2, ![n, w]⟩ : Shape) .f32) (a i : Fin n) (b : Fin v) (k : Fin w) (h0 : i.val = a.val) (h1 : k.val = off + b.val) :
    View.ld x (Rect.unit (s := ⟨2, ![n, w]⟩) ![0, off] ![n, v] inb) (ix2 a b) = x (ix2 i k) := by
  refine View.ld_unit_apply_of x _ _ _ _ _ fun q => ?_
  fin_cases q
  · exact h0.trans (Nat.zero_add _).symm
  · exact h1

section
variable (c s : Fin 128 → EReal) (x : Fin 1024 → EReal) (j : Fin 1024) (b : Fin 128) {o : ℕ} {x1 x2 cc ss : EReal} (h3 : cc = c b) (h4 : ss = s b)
include h3 h4
theorem rot_lo (hj : j.val = o + b.val) (ho : o % 256 = 0) (h1 : x1 = x j) (h2 : ∀ k : Fin 1024, k.val = j.val + 128 → x2 = x k) :
    x1 * cc - x2 * ss = rot c s x j := by
  have e : pr j = b := Fin.ext (by dsimp only [pr]; omega)
  rw [rot, dif_pos (by omega), h1, h2 ⟨j.val + 128, by omega⟩ rfl, h3, h4, e]
theorem rot_hi (hj : j.val = o + 128 + b.val) (ho : o % 256 = 0) (h1 : x1 = x j) (h2 : ∀ k : Fin 1024, k.val + 128 = j.val → x2 = x k) :
    x2 * ss + x1 * cc = rot c s x j := by
  have e : pr j = b := Fin.ext (by dsimp only [pr]; omega)
  rw [rot, dif_neg (by omega), h1, h2 ⟨j.val - 128, by omega⟩ (by dsimp only; omega), h3, h4, e]
theorem unrot_lo (hj : j.val = o + b.val) (ho : o % 256 = 0) (h1 : x1 = x j) (h2 : ∀ k : Fin 1024, k.val = j.val + 128 → x2 = x k) :
    x1 * cc + x2 * ss = unrot c s x j := by
  have e : pr j = b := Fin.ext (by dsimp only [pr]; omega)
  rw [unrot, dif_pos (by omega), h1, h2 ⟨j.val + 128, by omega⟩ rfl, h3, h4, e]
theorem unrot_hi (hj : j.val = o + 128 + b.val) (ho : o % 256 = 0) (h1 : x1 = x j) (h2 : ∀ k : Fin 1024, k.val + 128 = j.val → x2 = x k) :
    x1 * cc - x2 * ss = unrot c s x j := by
  have e : pr j = b := Fin.ext (by dsimp only [pr]; omega)
  rw [unrot, dif_neg (by omega), h1, h2 ⟨j.val - 128, by omega⟩ (by dsimp only; omega), h3, h4, e]
end

end Cert.RotSpec
end
-- ==== Proof.Rot.K12.lean ====
module

public import proofs.«01_k».proof.Proof.Gen.Kernel12Ideal.Frame
public import proofs.«01_k».proof.Proof.Rot.Spec
public import Idealize.ShloMosaic.Lib.Pointwise
public import Idealize.ShloMosaic.Lib.Pipeline.ValueKit

/-! # Program 12: the rotation undone, over eight blocks of rows, element by element -/

@[expose] public section
set_option maxRecDepth 16384
noncomputable section

namespace Cert.Kernel12Ideal.Rot
open Cert.Kernel12Ideal Cert.Kernel12Ideal.Gen
open Idealize.ShloMosaic Idealize.ShloMosaic.TcCoe
open Idealize.SL.Sem

theorem pay7_at (c s : Vec Ideal S256x128 .f32) (x : Vec Ideal S256x256 .f32) (i : Fin 256) (l : Fin 128) :
    k0_pay7 c s x (ix2 i l) = x (ix2 i (⟨l.val, by omega⟩ : Fin 256)) * c (ix2 i l) + x (ix2 i (⟨128 + l.val, by omega⟩ : Fin 256)) * s (ix2 i l) := by
  pointwise [k0_pay7, k0_pay6, k0_pay5, k0_pay4, k0_pay3, k0_pay2]
  simp [sub_eq_add_neg]
theorem pay8_at (c s : Vec Ideal S256x128 .f32) (x : Vec Ideal S256x256 .f32) (i : Fin 256) (l : Fin 128) :
    k0_pay8 c s x (ix2 i l) = x (ix2 i (⟨128 + l.val, by omega⟩ : Fin 256)) * c (ix2 i l) - x (ix2 i (⟨l.val, by omega⟩ : Fin 256)) * s (ix2 i l) := by
  pointwise [k0_pay8, k0_pay6, k0_pay5, k0_pay4, k0_pay3, k0_pay2]
  simp only [zero_sub, mul_neg, mul_one]
  exact (add_comm _ _).trans (sub_eq_add_neg _ _).symm
/-- Scaled, a key's entry is a query's times the scale. -/
theorem pay12_at (c s : Vec Ideal S256x128 .f32) (x : Vec Ideal S256x256 .f32) (i : Fin 256) (l : Fin 128) :
    k0_pay12 c s x (ix2 i l) = k0_pay7 c s x (ix2 i l) * RotSpec.sc := by
  rw [pay7_at]
  pointwise [k0_pay12, k0_pay11, k0_pay10, k0_pay9, k0_pay3, k0_pay2]
  simp [RotSpec.sc, sub_eq_add_neg]
theorem pay15_at (c s : Vec Ideal S256x128 .f32) (x : Vec Ideal S256x256 .f32) (i : Fin 256) (l : Fin 128) :
    k0_pay15 (k0_pay13 s x) (k0_pay14 c x) (ix2 i l) = k0_pay8 c s x (ix2 i l) * RotSpec.sc := by
  rw [pay8_at]
  pointwise [k0_pay15, k0_pay14, k0_pay13, k0_pay11, k0_pay10, k0_pay9, k0_pay3, k0_pay2]
  simp only [zero_sub, mul_neg, mul_one]
  exact congrArg (· * _) ((add_comm _ _).trans (sub_eq_add_neg _ _).symm)

section
variable (x : Vec Ideal S256x1024 .f32) (c s : Vec Ideal S256x128 .f32) {off : ℕ} (inb) (a i : Fin 256) (b : Fin 128) (j : Fin 1024) (ha : i.val = a.val)
include ha
/-- A head's first half. -/
theorem lo (hj : j.val = off + b.val) (ho : off % 256 = 0) :
    k0_pay7 (View.ld c r0_0) (View.ld s r0_0) (View.ld x (Rect.unit (s := S256x1024) ![0, off] S256x256.size inb)) (ix2 a b)
      = RotSpec.unrot (fun l => c (ix2 i l)) (fun l => s (ix2 i l)) (fun l => x (ix2 i l)) j :=
  (pay7_at _ _ _ a b).trans (RotSpec.unrot_lo _ _ _ j b (RotSpec.ld_at _ c a i b b ha (Nat.zero_add _).symm) (RotSpec.ld_at _ s a i b b ha (Nat.zero_add _).symm) hj ho
    (RotSpec.ld_at inb x a i _ j ha hj) fun k hk => RotSpec.ld_at inb x a i _ k ha (by dsimp only; omega))
/-- A head's second half. -/
theorem hi (hj : j.val = off + 128 + b.val) (ho : off % 256 = 0) :
    k0_pay8 (View.ld c r0_0) (View.ld s r0_0) (View.ld x (Rect.unit (s := S256x1024) ![0, off] S256x256.size inb)) (ix2 a b)
      = RotSpec.unrot (fun l => c (ix2 i l)) (fun l => s (ix2 i l)) (fun l => x (ix2 i l)) j :=
  (pay8_at _ _ _ a b).trans (RotSpec.unrot_hi _ _ _ j b (RotSpec.ld_at _ c a i b b ha (Nat.zero_add _).symm) (RotSpec.ld_at _ s a i b b ha (Nat.zero_add _).symm) hj ho
    (RotSpec.ld_at inb x a i _ j ha (by dsimp only; omega)) fun k hk => RotSpec.ld_at inb x a i _ k ha (by dsimp only; omega))
end

theorem out4_at (x y : Vec Ideal S256x1024 .f32) (c s : Vec Ideal S256x128 .f32) (i : Fin 256) (j : Fin 1024) :
    out0_4 x y c s (ix2 i j) = RotSpec.unrot (fun l => c (ix2 i l)) (fun l => s (ix2 i l)) (fun l => x (ix2 i l)) j := by
  unfold_out out0_4
  canon_tiles z h
  all_goals obtain ⟨a, b, rfl⟩ : ∃ (a : Fin 256) (b : Fin 128), z = ix2 a b := ⟨z 0, z 1, by funext q; fin_cases q <;> rfl⟩
  all_goals have h2 : j.val = _ := h1
  · exact hi x c s _ a i b j h0 h2 rfl
  · exact lo x c s _ a i b j h0 h2 rfl
  · exact hi x c s _ a i b j h0 h2 rfl
  · exact lo x c s _ a i b j h0 h2 rfl
  · exact hi x c s _ a i b j h0 h2 rfl
  · exact lo x c s _ a i b j h0 h2 rfl
  · exact hi x c s _ a i b j h0 h2 rfl
  · exact lo x c s _ a i b j h0 (h2.trans (Nat.zero_add _).symm) rfl

theorem out5_at (x y : Vec Ideal S256x1024 .f32) (c s : Vec Ideal S256x128 .f32) (i : Fin 256) (j : Fin 1024) :
    out0_5 x y c s (ix2 i j) = RotSpec.unrot (fun l => c (ix2 i l)) (fun l => s (ix2 i l)) (fun l => y (ix2 i l)) j * RotSpec.sc := by
  unfold_out out0_5
  canon_tiles z h
  all_goals obtain ⟨a, b, rfl⟩ : ∃ (a : Fin 256) (b : Fin 128), z = ix2 a b := ⟨z 0, z 1, by funext q; fin_cases q <;> rfl⟩
  all_goals have h2 : j.val = _ := h1
  · exact (pay15_at _ _ _ a b).trans (congrArg (· * RotSpec.sc) (hi y c s _ a i b j h0 h2 rfl))
  · exact (pay12_at _ _ _ a b).trans (congrArg (· * RotSpec.sc) (lo y c s _ a i b j h0 h2 rfl))
  · exact (pay15_at _ _ _ a b).trans (congrArg (· * RotSpec.sc) (hi y c s _ a i b j h0 h2 rfl))
  · exact (pay12_at _ _ _ a b).trans (congrArg (· * RotSpec.sc) (lo y c s _ a i b j h0 h2 rfl))
  · exact (pay15_at _ _ _ a b).trans (congrArg (· * RotSpec.sc) (hi y c s _ a i b j h0 h2 rfl))
  · exact (pay12_at _ _ _ a b).trans (congrArg (· * RotSpec.sc) (lo y c s _ a i b j h0 h2 rfl))
  · exact (pay15_at _ _ _ a b).trans (congrArg (· * RotSpec.sc) (hi y c s _ a i b j h0 h2 rfl))
  · exact (pay12_at _ _ _ a b).trans (congrArg (· * RotSpec.sc) (lo y c s _ a i b j h0 (h2.trans (Nat.zero_add _).symm) rfl))

variable (m : (ℓ : Loc nD τ sig) → Buf (Elt Ideal) ℓ) (c : Dev nD)

/-- The angles as an array. -/
def angs : FVec Ideal S2048x128 .f32 :=
  mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.divf (broadcastInDim S128 ![] bcast_S_S128 (constant S_ .f32 0x3F800000#32)) (Host.powf (broadcastInDim S128 ![] bcast_S_S128 (constant S_ .f32 0x461C4000#32)) (Host.divf (sitofp .f32 (iotaInDim S128 32 0)) (broadcastInDim S128 ![] bcast_S_S128 (constant S_ .f32 0x43000000#32)))))))
theorem angs_at (r : Fin 2048) (l : Fin 128) : angs (ix2 r l) = RotSpec.ang r l := by
  pointwise [angs, RotSpec.ang]
theorem V_cos : @Eq (FVec Ideal S2048x128 .f32) (V m c main_v13) (Host.cos angs) := by
  unfold V angs
  after_results_simp <;> rfl
theorem V_sin : @Eq (FVec Ideal S2048x128 .f32) (V m c main_v14) (Host.sin angs) := by
  unfold V angs
  after_results_simp <;> rfl

/-- The first argument as launched. -/
def Q (r : Fin 2048) (k : Fin 1024) : EReal := (m ((c.tc : Thread nD τ).loc main_arg0) : FVec Ideal S2048x1024 .f32) (ix2 r k)
/-- The second argument as launched. -/
def K (r : Fin 2048) (k : Fin 1024) : EReal := (m ((c.tc : Thread nD τ).loc main_arg1) : FVec Ideal S2048x1024 .f32) (ix2 r k)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem N_eq : cfg0.N = 8 := by decide +kernel

section
variable (t : Fin cfg0.N) (i : Fin 256) (r : Fin 2048) (hr : r.val = t.val * 256 + i.val)
include hr
theorem blk0 (k : Fin 1024) : iblk m c 0 t (ix2 i k) = Q m c r k := by
  unfold Q
  rw [← V_main_arg0 m c]
  blk_ext [iblk, idx0 t, hr]
theorem blk1 (k : Fin 1024) : iblk m c 1 t (ix2 i k) = K m c r k := by
  unfold K
  rw [← V_main_arg1 m c]
  blk_ext [iblk, idx1 t, hr]
theorem blk2 (l : Fin 128) : iblk m c 2 t (ix2 i l) = Ideal.cos (RotSpec.ang r l) := by
  rw [← angs_at]
  refine Eq.trans ?_ (congrFun (V_cos m c) (ix2 r l))
  blk_ext [iblk, idx2 t, hr]
theorem blk3 (l : Fin 128) : iblk m c 3 t (ix2 i l) = Ideal.sin (RotSpec.ang r l) := by
  rw [← angs_at]
  refine Eq.trans ?_ (congrFun (V_sin m c) (ix2 r l))
  blk_ext [iblk, idx3 t, hr]
end

/-- The first result. -/
def res0 : FVec Ideal S2048x1024 .bf16 := fun i => RotSpec.unrot (fun l => Ideal.cos (RotSpec.ang (i 0) l)) (fun l => Ideal.sin (RotSpec.ang (i 0) l)) (Q m c (i 0)) (i 1)
/-- The second result. -/
def res1 : FVec Ideal S2048x1024 .bf16 := fun i => RotSpec.unrot (fun l => Ideal.cos (RotSpec.ang (i 0) l)) (fun l => Ideal.sin (RotSpec.ang (i 0) l)) (K m c (i 0)) (i 1) * RotSpec.sc

theorem res0_final : (dats m 0 c).arrAt 4 cfg0.N = res0 m c := by
  refine (dats m 0 c).arrAt_eq_of_covers 4 _ (by decide +kernel) fun t hf y => ?_
  obtain ⟨i, j, rfl⟩ : ∃ (i : Fin 256) (j : Fin 1024), y = ix2 i j := ⟨y 0, y 1, by funext a; fin_cases a <;> rfl⟩
  have ht : t.val < 8 := N_eq ▸ t.isLt
  blk_simp
  rw [after0_4, out4_at]
  have e : (win0_4.blk t).view.emb (ix2 i j) = ix2 (⟨t.val * 256 + i.val, by omega⟩ : Fin 2048) j := by
    refine (eq_ix2 _).trans (congrArg₂ ix2 (Fin.ext ?_) (Fin.ext ?_))
    · blk_simp [idx4 t]
    · blk_simp [idx4 t]
  rw [e]
  simp only [blk0 m c t i ⟨t.val * 256 + i.val, by omega⟩ rfl, blk2 m c t i ⟨t.val * 256 + i.val, by omega⟩ rfl, blk3 m c t i ⟨t.val * 256 + i.val, by omega⟩ rfl]
  rfl

theorem res1_final : (dats m 0 c).arrAt 5 cfg0.N = res1 m c := by
  refine (dats m 0 c).arrAt_eq_of_covers 5 _ (by decide +kernel) fun t hf y => ?_
  obtain ⟨i, j, rfl⟩ : ∃ (i : Fin 256) (j : Fin 1024), y = ix2 i j := ⟨y 0, y 1, by funext a; fin_cases a <;> rfl⟩
  have ht : t.val < 8 := N_eq ▸ t.isLt
  blk_simp
  rw [after0_5, out5_at]
  have e : (win0_5.blk t).view.emb (ix2 i j) = ix2 (⟨t.val * 256 + i.val, by omega⟩ : Fin 2048) j := by
    refine (eq_ix2 _).trans (congrArg₂ ix2 (Fin.ext ?_) (Fin.ext ?_))
    · blk_simp [idx5 t]
    · blk_simp [idx5 t]
  rw [e]
  simp only [blk1 m c t i ⟨t.val * 256 + i.val, by omega⟩ rfl, blk2 m c t i ⟨t.val * 256 + i.val, by omega⟩ rfl, blk3 m c t i ⟨t.val * 256 + i.val, by omega⟩ rfl]
  rfl

/-- The run: both results. -/
theorem run (g : Dev nD → PrngReg) : θ_run defs (onTc (τ := τ) (main (F := Ideal))) ⟨m, fun _ => 0, g⟩ (fun r => ∀ c : Dev nD,
      r.2.mem ((c.tc : Thread nD τ).loc main_v15_0) = res0 m c ∧ r.2.mem ((c.tc : Thread nD τ).loc main_v15_1) = res1 m c) :=
  (θ_run defs _ _).mono (fun r h c => ⟨((h c).1 4).trans (res0_final m c), ((h c).1 5).trans (res1_final m c)⟩) (run_main m g)

end Cert.Kernel12Ideal.Rot
end
-- ==== Proof.Rot.V12.lean ====
module

public import proofs.«01_k».proof.Defs
public import proofs.«01_k».proof.Proof.Rot.K12
public import proofs.«01_k».proof.Proof.Gen.Reference12Ideal.Run

/-! # Program 12: the kernel's results are the reference's -/

@[expose] public section
set_option maxRecDepth 16384
noncomputable section
namespace Cert.Reference12Ideal.Rot
open Cert.Reference12Ideal Cert.Reference12Ideal.Gen
open Idealize.ShloMosaic Idealize.ShloMosaic.TcCoe
open Idealize.SL.Sem

section
variable {F : FTy → Type} [FloatOps F] (m : (ℓ : Loc nD τ sig) → Buf (Elt F) ℓ) (ρ : Dev nD → PrngReg)
/-- The arguments end as they began and every counter is at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2, sem_eq_zero_of_no_sems (by decide) r.2⟩) (Value.run m ρ)
end

/-- The angles as an array. -/
def angs : FVec Ideal S2048x128 .f32 :=
  mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.divf (broadcastInDim S128 ![] bcast_S_S128 (constant S_ .f32 0x3F800000#32)) (Host.powf (broadcastInDim S128 ![] bcast_S_S128 (constant S_ .f32 0x461C4000#32)) (Host.divf (sitofp .f32 (iotaInDim S128 32 0)) (broadcastInDim S128 ![] bcast_S_S128 (constant S_ .f32 0x43000000#32)))))))
/-- An array over rows and pairs, the same for every head. -/
def heads (a : FVec Ideal S2048x128 .f32) : FVec Ideal S2048x4x128 .f32 :=
  broadcastInDim S2048x4x128 ![0, 1, 2] bcast_S2048x1x128_S2048x4x128_0_1_2 (broadcastInDim S2048x1x128 ![0, 2] bcast_S2048x128_S2048x1x128_0_2 a)
/-- The halves rotated back and put side by side. -/
def back (x : FVec Ideal S2048x4x256 .f32) : FVec Ideal S2048x4x256 .f32 :=
  addf (pad S2048x4x256 ![0, 0, 128] ![0, 0, 0] ![0, 0, 0] (addf (mulf (extractStridedSlice S2048x4x128 ![0, 0, 128] x slices_S2048x4x256_S2048x4x128_0_0_128) (heads (Host.cos angs))) (mulf (Host.negf (extractStridedSlice S2048x4x128 ![0, 0, 0] x slices_S2048x4x256_S2048x4x128_0_0_0)) (heads (Host.sin angs)))) (constant S_ .f32 0x00000000#32) pads_S2048x4x128_S2048x4x256_000_000_12800 h_S_) (pad S2048x4x256 ![0, 0, 0] ![0, 0, 128] ![0, 0, 0] (addf (mulf (extractStridedSlice S2048x4x128 ![0, 0, 128] x slices_S2048x4x256_S2048x4x128_0_0_128) (heads (Host.sin angs))) (mulf (extractStridedSlice S2048x4x128 ![0, 0, 0] x slices_S2048x4x256_S2048x4x128_0_0_0) (heads (Host.cos angs)))) (constant S_ .f32 0x00000000#32) pads_S2048x4x128_S2048x4x256_000_000_01280 h_S_)

theorem angs_at (r : Fin 2048) (l : Fin 128) : angs (ix2 r l) = RotSpec.ang r l := by
  pointwise [angs, RotSpec.ang]
theorem heads_at (a : FVec Ideal S2048x128 .f32) (r : Fin 2048) (h : Fin 4) (l : Fin 128) : heads a (ix3 r h l) = a (ix2 r l) := by
  pointwise [heads]
theorem back_at (x : FVec Ideal S2048x4x256 .f32) (r : Fin 2048) (f : Fin 1024 → EReal) (hf : ∀ (h : Fin 4) (l : Fin 256) (j : Fin 1024), j.val = h.val * 256 + l.val → f j = x (ix3 r h l))
    (h : Fin 4) (l : Fin 256) (j : Fin 1024) (hj : j.val = h.val * 256 + l.val) :
    back x (ix3 r h l) = RotSpec.unrot (fun l => Ideal.cos (RotSpec.ang r l)) (fun l => Ideal.sin (RotSpec.ang r l)) f j := by
  pointwise [back, heads_at, angs_at]
  by_cases hl : l.val < 128
  · have e : RotSpec.pr j = ⟨l.val, hl⟩ := Fin.ext (by dsimp only [RotSpec.pr]; omega)
    rw [RotSpec.unrot, dif_neg (by omega), dif_pos hl, dif_pos (by omega), zero_add, e, hf h l j hj, hf h ⟨128 + l.val, by omega⟩ _ (by dsimp only; omega)]
    exact add_comm _ _
  · have e : RotSpec.pr j = ⟨l.val - 128, by omega⟩ := Fin.ext (by dsimp only [RotSpec.pr]; omega)
    rw [RotSpec.unrot, dif_pos (by omega), dif_neg hl, dif_neg (by omega), add_zero, e, hf h ⟨128 + (l.val - 128), by omega⟩ j (by dsimp only; omega), hf h ⟨l.val - 128, by omega⟩ _ (by dsimp only; omega), neg_mul]
    exact (sub_eq_add_neg _ _).symm
/-- Over the flat columns. -/
theorem flat_at (x : FVec Ideal S2048x4x256 .f32) (r : Fin 2048) (f : Fin 1024 → EReal) (hf : ∀ (h : Fin 4) (l : Fin 256) (j : Fin 1024), j.val = h.val * 256 + l.val → f j = x (ix3 r h l)) (j : Fin 1024) :
    truncf (F := Ideal) .bf16 (shapeCast _ (back x) shapeCasts_S2048x4x256_S2048x1024) bitsLt_bf16_f32 (ix2 r j)
      = RotSpec.unrot (fun l => Ideal.cos (RotSpec.ang r l)) (fun l => Ideal.sin (RotSpec.ang r l)) f j := by
  rw [← back_at x r f hf (⟨j.val / 256, by omega⟩ : Fin 4) (⟨j.val % 256, Nat.mod_lt _ (by decide)⟩ : Fin 256) j (by dsimp only; omega)]
  pointwise []
theorem dq_at (x : FVec Ideal S2048x1024 .f32) (r : Fin 2048) (j : Fin 1024) :
    truncf (F := Ideal) .bf16 (shapeCast _ (back (shapeCast _ x shapeCasts_S2048x1024_S2048x4x256)) shapeCasts_S2048x4x256_S2048x1024) bitsLt_bf16_f32 (ix2 r j)
      = RotSpec.unrot (fun l => Ideal.cos (RotSpec.ang r l)) (fun l => Ideal.sin (RotSpec.ang r l)) (fun l => x (ix2 r l)) j :=
  flat_at _ r _ (fun h l j hj => by
    pointwise []
    exact congrArg x (congrArg (ix2 r) (Fin.ext (by dsimp only; omega)))) j
theorem dk_at (x : FVec Ideal S2048x1024 .f32) (r : Fin 2048) (j : Fin 1024) :
    truncf (F := Ideal) .bf16 (shapeCast _ (back (mulf (shapeCast _ x shapeCasts_S2048x1024_S2048x4x256) (broadcastInDim S2048x4x256 ![] bcast_S_S2048x4x256 (constant S_ .f32 0x3D800000#32)))) shapeCasts_S2048x4x256_S2048x1024) bitsLt_bf16_f32 (ix2 r j)
      = RotSpec.unrot (fun l => Ideal.cos (RotSpec.ang r l)) (fun l => Ideal.sin (RotSpec.ang r l)) (fun l => x (ix2 r l)) j * RotSpec.sc := by
  rw [RotSpec.unrot_sc]
  refine flat_at _ r _ (fun h l j hj => ?_) j
  pointwise [RotSpec.sc]
  exact congrArg (· * _) (congrArg x (congrArg (ix2 r) (Fin.ext (by dsimp only; omega))))
end Cert.Reference12Ideal.Rot

namespace Cert.Proof
open Idealize.ShloMosaic Idealize.ShloMosaic.TcCoe Idealize.SL.Sem

/-- From memories agreeing on the arguments both programs run and end with the same results. -/
theorem value12 : Cert.algebraic_Kernel12Ideal_Reference12Ideal := by
  intro m g m' g' _ hm
  refine ⟨Kernel12Ideal.Rot.res0 m, Kernel12Ideal.Rot.res1 m, ?_, ?_⟩
  · exact θ_run_and (Kernel12Ideal.Rot.run m g) (Kernel12Ideal.Gen.unchanged m g) |> (θ_run Kernel12Ideal.defs _ _).mono
      (fun r h c => ⟨(h.1 c).1, (h.1 c).2, h.2 c⟩)
  · refine (θ_run Reference12Ideal.defs _ _).mono (fun r h c => ⟨(h c).1.trans ?_, (h c).2.1.trans ?_, (h c).2.2⟩) (Reference12Ideal.Value.run m' g')
    · obtain ⟨e0, e1⟩ := hm c
      rw [e0]
      funext i
      obtain ⟨r, z, rfl⟩ : ∃ (r : Fin 2048) (z : Fin 1024), i = ix2 r z := ⟨i 0, i 1, by funext a; fin_cases a <;> rfl⟩
      exact Reference12Ideal.Rot.dq_at _ r z
    · obtain ⟨e0, e1⟩ := hm c
      unfold Reference12Ideal.Value.res_main_v107
      rw [e1]
      funext i
      obtain ⟨r, z, rfl⟩ : ∃ (r : Fin 2048) (z : Fin 1024), i = ix2 r z := ⟨i 0, i 1, by funext a; fin_cases a <;> rfl⟩
      exact Reference12Ideal.Rot.dk_at _ r z

end Cert.Proof
end
-- ==== Proof.Rot.K13.lean ====
module

public import proofs.«01_k».proof.Proof.Gen.Kernel13Ideal.Frame
public import proofs.«01_k».proof.Proof.Rot.Spec
public import Idealize.ShloMosaic.Lib.Pointwise
public import Idealize.ShloMosaic.Lib.Pipeline.ValueKit

/-! # Program 13: the rotation, over eight blocks of rows, element by element -/

@[expose] public section
set_option maxRecDepth 16384
noncomputable section

namespace Cert.Kernel13Ideal.Rot
open Cert.Kernel13Ideal Cert.Kernel13Ideal.Gen
open Idealize.ShloMosaic Idealize.ShloMosaic.TcCoe
open Idealize.SL.Sem

/-- A first half's entry of a query. -/
theorem pay12_at (c s : Vec Ideal S256x128 .f32) (x : Vec Ideal S256x256 .f32) (i : Fin 256) (l : Fin 128) :
    k0_pay12 c s x (ix2 i l) = x (ix2 i (⟨l.val, by omega⟩ : Fin 256)) * c (ix2 i l) - x (ix2 i (⟨128 + l.val, by omega⟩ : Fin 256)) * s (ix2 i l) := by
  pointwise [k0_pay12, k0_pay11, k0_pay10, k0_pay9, k0_pay8]
/-- A second half's entry of a query. -/
theorem pay13_at (c s : Vec Ideal S256x128 .f32) (x : Vec Ideal S256x256 .f32) (i : Fin 256) (l : Fin 128) :
    k0_pay13 c s x (ix2 i l) = x (ix2 i (⟨l.val, by omega⟩ : Fin 256)) * s (ix2 i l) + x (ix2 i (⟨128 + l.val, by omega⟩ : Fin 256)) * c (ix2 i l) := by
  pointwise [k0_pay13, k0_pay11, k0_pay10, k0_pay9, k0_pay8]
/-- A key's entries are a query's times the scale. -/
theorem pay16_at (c s : Vec Ideal S256x128 .f32) (x : Vec Ideal S256x256 .f32) (i : Fin 256) (l : Fin 128) :
    k0_pay16 c s x (ix2 i l) = k0_pay12 c s x (ix2 i l) * RotSpec.sc := by
  rw [pay12_at]
  pointwise [k0_pay16, k0_pay15, k0_pay14, k0_pay9, k0_pay8, RotSpec.sc]
theorem pay17_at (c s : Vec Ideal S256x128 .f32) (x : Vec Ideal S256x256 .f32) (i : Fin 256) (l : Fin 128) :
    k0_pay17 c s x (ix2 i l) = k0_pay13 c s x (ix2 i l) * RotSpec.sc := by
  rw [pay13_at]
  pointwise [k0_pay17, k0_pay15, k0_pay14, k0_pay9, k0_pay8, RotSpec.sc]

section
variable (x : Vec Ideal S256x1024 .f32) (c s : Vec Ideal S256x128 .f32) {off : ℕ} (inb) (a i : Fin 256) (b : Fin 128) (j : Fin 1024) (ha : i.val = a.val)
include ha
/-- A head's first half. -/
theorem lo (hj : j.val = off + b.val) (ho : off % 256 = 0) :
    k0_pay12 (View.ld c r0_0) (View.ld s r0_0) (View.ld x (Rect.unit (s := S256x1024) ![0, off] S256x256.size inb)) (ix2 a b)
      = RotSpec.rot (fun l => c (ix2 i l)) (fun l => s (ix2 i l)) (fun l => x (ix2 i l)) j :=
  (pay12_at _ _ _ a b).trans (RotSpec.rot_lo _ _ _ j b (RotSpec.ld_at _ c a i b b ha (Nat.zero_add _).symm) (RotSpec.ld_at _ s a i b b ha (Nat.zero_add _).symm) hj ho
    (RotSpec.ld_at inb x a i _ j ha hj) fun k hk => RotSpec.ld_at inb x a i _ k ha (by dsimp only; omega))
/-- A head's second half. -/
theorem hi (hj : j.val = off + 128 + b.val) (ho : off % 256 = 0) :
    k0_pay13 (View.ld c r0_0) (View.ld s r0_0) (View.ld x (Rect.unit (s := S256x1024) ![0, off] S256x256.size inb)) (ix2 a b)
      = RotSpec.rot (fun l => c (ix2 i l)) (fun l => s (ix2 i l)) (fun l => x (ix2 i l)) j :=
  (pay13_at _ _ _ a b).trans (RotSpec.rot_hi _ _ _ j b (RotSpec.ld_at _ c a i b b ha (Nat.zero_add _).symm) (RotSpec.ld_at _ s a i b b ha (Nat.zero_add _).symm) hj ho
    (RotSpec.ld_at inb x a i _ j ha (by dsimp only; omega)) fun k hk => RotSpec.ld_at inb x a i _ k ha (by dsimp only; omega))
end

section
variable (x y : Vec Ideal S256x1024 .f32) (v : Vec Ideal S256x2048 .f32) (c s : Vec Ideal S256x128 .f32) (i : Fin 256)
theorem out5_at (j : Fin 1024) : out0_5 x y v c s (ix2 i j) = RotSpec.rot (fun l => c (ix2 i l)) (fun l => s (ix2 i l)) (fun l => x (ix2 i l)) j := by
  unfold_out out0_5
  canon_tiles z h
  all_goals obtain ⟨a, b, rfl⟩ : ∃ (a : Fin 256) (b : Fin 128), z = ix2 a b := ⟨z 0, z 1, by funext q; fin_cases q <;> rfl⟩
  all_goals have h2 : j.val = _ := h1
  · exact hi x c s _ a i b j h0 h2 rfl
  · exact lo x c s _ a i b j h0 h2 rfl
  · exact hi x c s _ a i b j h0 h2 rfl
  · exact lo x c s _ a i b j h0 h2 rfl
  · exact hi x c s _ a i b j h0 h2 rfl
  · exact lo x c s _ a i b j h0 h2 rfl
  · exact hi x c s _ a i b j h0 h2 rfl
  · exact lo x c s _ a i b j h0 (h2.trans (Nat.zero_add _).symm) rfl
theorem out6_at (j : Fin 1024) : out0_6 x y v c s (ix2 i j) = RotSpec.rot (fun l => c (ix2 i l)) (fun l => s (ix2 i l)) (fun l => y (ix2 i l)) j * RotSpec.sc := by
  unfold_out out0_6
  canon_tiles z h
  all_goals obtain ⟨a, b, rfl⟩ : ∃ (a : Fin 256) (b : Fin 128), z = ix2 a b := ⟨z 0, z 1, by funext q; fin_cases q <;> rfl⟩
  all_goals have h2 : j.val = _ := h1
  · exact (pay17_at _ _ _ a b).trans (congrArg (· * RotSpec.sc) (hi y c s _ a i b j h0 h2 rfl))
  · exact (pay16_at _ _ _ a b).trans (congrArg (· * RotSpec.sc) (lo y c s _ a i b j h0 h2 rfl))
  · exact (pay17_at _ _ _ a b).trans (congrArg (· * RotSpec.sc) (hi y c s _ a i b j h0 h2 rfl))
  · exact (pay16_at _ _ _ a b).trans (congrArg (· * RotSpec.sc) (lo y c s _ a i b j h0 h2 rfl))
  · exact (pay17_at _ _ _ a b).trans (congrArg (· * RotSpec.sc) (hi y c s _ a i b j h0 h2 rfl))
  · exact (pay16_at _ _ _ a b).trans (congrArg (· * RotSpec.sc) (lo y c s _ a i b j h0 h2 rfl))
  · exact (pay17_at _ _ _ a b).trans (congrArg (· * RotSpec.sc) (hi y c s _ a i b j h0 h2 rfl))
  · exact (pay16_at _ _ _ a b).trans (congrArg (· * RotSpec.sc) (lo y c s _ a i b j h0 (h2.trans (Nat.zero_add _).symm) rfl))
theorem out7_at (j : Fin 2048) : out0_7 x y v c s (ix2 i j) = v (ix2 i j) := by
  frame_out
  pointwise [k0_pay7]
end

variable (m : (ℓ : Loc nD τ sig) → Buf (Elt Ideal) ℓ) (c : Dev nD)

/-- The angles as an array. -/
def angs : FVec Ideal S2048x128 .f32 :=
  mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.divf (broadcastInDim S128 ![] bcast_S_S128 (constant S_ .f32 0x3F800000#32)) (Host.powf (broadcastInDim S128 ![] bcast_S_S128 (constant S_ .f32 0x461C4000#32)) (Host.divf (sitofp .f32 (iotaInDim S128 32 0)) (broadcastInDim S128 ![] bcast_S_S128 (constant S_ .f32 0x43000000#32)))))))
theorem angs_at (r : Fin 2048) (l : Fin 128) : angs (ix2 r l) = RotSpec.ang r l := by
  pointwise [angs, RotSpec.ang]
theorem V_cos : @Eq (FVec Ideal S2048x128 .f32) (V m c main_v13) (Host.cos angs) := by
  unfold V angs
  after_results_simp <;> rfl
theorem V_sin : @Eq (FVec Ideal S2048x128 .f32) (V m c main_v14) (Host.sin angs) := by
  unfold V angs
  after_results_simp <;> rfl

/-- The argument as launched. -/
def Z (r : Fin 2048) (k : Fin 12288) : EReal := (m ((c.tc : Thread nD τ).loc main_arg0) : FVec Ideal S2048x12288 .f32) (ix2 r k)

theorem idx0 : ∀ t : Fin cfg0.N, win0_0.index t = ![t.val, 0] := by decide +kernel
theorem idx1 : ∀ t : Fin cfg0.N, win0_1.index t = ![t.val, 1] := by decide +kernel
theorem idx2 : ∀ t : Fin cfg0.N, win0_2.index t = ![t.val, 1] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![t.val, 0] := by decide +kernel
theorem N_eq : cfg0.N = 8 := by decide +kernel

section
variable (t : Fin cfg0.N) (i : Fin 256) (r : Fin 2048) (hr : r.val = t.val * 256 + i.val)
include hr
theorem blk0 (k : Fin 1024) : iblk m c 0 t (ix2 i k) = Z m c r ⟨k.val, by omega⟩ := by
  unfold Z
  rw [← V_main_arg0 m c]
  blk_ext [iblk, idx0 t, hr]
theorem blk1 (k : Fin 1024) : iblk m c 1 t (ix2 i k) = Z m c r ⟨1024 + k.val, by omega⟩ := by
  unfold Z
  rw [← V_main_arg0 m c]
  blk_ext [iblk, idx1 t, hr]
theorem blk2 (k : Fin 2048) : iblk m c 2 t (ix2 i k) = Z m c r ⟨2048 + k.val, by omega⟩ := by
  unfold Z
  rw [← V_main_arg0 m c]
  blk_ext [iblk, idx2 t, hr]
theorem blk3 (l : Fin 128) : iblk m c 3 t (ix2 i l) = Ideal.cos (RotSpec.ang r l) := by
  rw [← angs_at]
  refine Eq.trans ?_ (congrFun (V_cos m c) (ix2 r l))
  blk_ext [iblk, idx3 t, hr]
theorem blk4 (l : Fin 128) : iblk m c 4 t (ix2 i l) = Ideal.sin (RotSpec.ang r l) := by
  rw [← angs_at]
  refine Eq.trans ?_ (congrFun (V_sin m c) (ix2 r l))
  blk_ext [iblk, idx4 t, hr]
end

/-- The first result. -/
def res0 : FVec Ideal S2048x1024 .bf16 := fun i => RotSpec.rot (fun l => Ideal.cos (RotSpec.ang (i 0) l)) (fun l => Ideal.sin (RotSpec.ang (i 0) l)) (fun k => Z m c (i 0) ⟨k.val, by omega⟩) (i 1)
/-- The second result. -/
def res1 : FVec Ideal S2048x1024 .bf16 := fun i => RotSpec.rot (fun l => Ideal.cos (RotSpec.ang (i 0) l)) (fun l => Ideal.sin (RotSpec.ang (i 0) l)) (fun k => Z m c (i 0) ⟨1024 + k.val, by omega⟩) (i 1) * RotSpec.sc
/-- The third result. -/
def res2 : FVec Ideal S2048x2048 .bf16 := fun i => Z m c (i 0) ⟨2048 + (i 1).val, Nat.lt_of_lt_of_le (Nat.add_lt_add_left (i 1).isLt 2048) (by decide)⟩

theorem res0_final : (dats m 0 c).arrAt 5 cfg0.N = res0 m c := by
  refine (dats m 0 c).arrAt_eq_of_covers 5 _ (by decide +kernel) fun t hf y => ?_
  obtain ⟨i, j, rfl⟩ : ∃ (i : Fin 256) (j : Fin 1024), y = ix2 i j := ⟨y 0, y 1, by funext a; fin_cases a <;> rfl⟩
  have ht : t.val < 8 := N_eq ▸ t.isLt
  blk_simp
  rw [after0_5, out5_at]
  have e : (win0_5.blk t).view.emb (ix2 i j) = ix2 (⟨t.val * 256 + i.val, by omega⟩ : Fin 2048) j := by
    refine (eq_ix2 _).trans (congrArg₂ ix2 (Fin.ext ?_) (Fin.ext ?_))
    · blk_simp [idx5 t]
    · blk_simp [idx5 t]
  rw [e]
  simp only [blk0 m c t i ⟨t.val * 256 + i.val, by omega⟩ rfl, blk3 m c t i ⟨t.val * 256 + i.val, by omega⟩ rfl, blk4 m c t i ⟨t.val * 256 + i.val, by omega⟩ rfl]
  rfl

theorem res1_final : (dats m 0 c).arrAt 6 cfg0.N = res1 m c := by
  refine (dats m 0 c).arrAt_eq_of_covers 6 _ (by decide +kernel) fun t hf y => ?_
  obtain ⟨i, j, rfl⟩ : ∃ (i : Fin 256) (j : Fin 1024), y = ix2 i j := ⟨y 0, y 1, by funext a; fin_cases a <;> rfl⟩
  have ht : t.val < 8 := N_eq ▸ t.isLt
  blk_simp
  rw [after0_6, out6_at]
  have e : (win0_6.blk t).view.emb (ix2 i j) = ix2 (⟨t.val * 256 + i.val, by omega⟩ : Fin 2048) j := by
    refine (eq_ix2 _).trans (congrArg₂ ix2 (Fin.ext ?_) (Fin.ext ?_))
    · blk_simp [idx6 t]
    · blk_simp [idx6 t]
  rw [e]
  simp only [blk1 m c t i ⟨t.val * 256 + i.val, by omega⟩ rfl, blk3 m c t i ⟨t.val * 256 + i.val, by omega⟩ rfl, blk4 m c t i ⟨t.val * 256 + i.val, by omega⟩ rfl]
  rfl

theorem res2_final : (dats m 0 c).arrAt 7 cfg0.N = res2 m c := by
  refine (dats m 0 c).arrAt_eq_of_covers 7 _ (by decide +kernel) fun t hf y => ?_
  obtain ⟨i, j, rfl⟩ : ∃ (i : Fin 256) (j : Fin 2048), y = ix2 i j := ⟨y 0, y 1, by funext a; fin_cases a <;> rfl⟩
  have ht : t.val < 8 := N_eq ▸ t.isLt
  blk_simp
  rw [after0_7, out7_at]
  have e : (win0_7.blk t).view.emb (ix2 i j) = ix2 (⟨t.val * 256 + i.val, by omega⟩ : Fin 2048) j := by
    refine (eq_ix2 _).trans (congrArg₂ ix2 (Fin.ext ?_) (Fin.ext ?_))
    · blk_simp [idx7 t]
    · blk_simp [idx7 t]
  rw [e]
  simp only [blk2 m c t i ⟨t.val * 256 + i.val, by omega⟩ rfl]
  rfl

/-- The run: the three results. -/
theorem run (g : Dev nD → PrngReg) : θ_run defs (onTc (τ := τ) (main (F := Ideal))) ⟨m, fun _ => 0, g⟩ (fun r => ∀ c : Dev nD,
      r.2.mem ((c.tc : Thread nD τ).loc main_v15_0) = res0 m c ∧ r.2.mem ((c.tc : Thread nD τ).loc main_v15_1) = res1 m c ∧ r.2.mem ((c.tc : Thread nD τ).loc main_v15_2) = res2 m c) :=
  (θ_run defs _ _).mono (fun r h c => ⟨((h c).1 5).trans (res0_final m c), ((h c).1 6).trans (res1_final m c), ((h c).1 7).trans (res2_final m c)⟩) (run_main m g)

end Cert.Kernel13Ideal.Rot
end
-- ==== Proof.Rot.V13.lean ====
module

public import proofs.«01_k».proof.Defs
public import proofs.«01_k».proof.Proof.Rot.K13
public import proofs.«01_k».proof.Proof.Gen.Reference13Ideal.Run

/-! # Program 13: the kernel's results are the reference's -/

@[expose] public section
set_option maxRecDepth 16384
noncomputable section
namespace Cert.Reference13Ideal.Rot
open Cert.Reference13Ideal Cert.Reference13Ideal.Gen
open Idealize.ShloMosaic Idealize.ShloMosaic.TcCoe
open Idealize.SL.Sem

section
variable {F : FTy → Type} [FloatOps F] (m : (ℓ : Loc nD τ sig) → Buf (Elt F) ℓ) (ρ : Dev nD → PrngReg)
/-- The arguments end as they began and every counter is at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (h c).2.2.2, sem_eq_zero_of_no_sems (by decide) r.2⟩) (Value.run m ρ)
end

/-- The angles as an array. -/
def angs : FVec Ideal S2048x128 .f32 :=
  mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.divf (broadcastInDim S128 ![] bcast_S_S128 (constant S_ .f32 0x3F800000#32)) (Host.powf (broadcastInDim S128 ![] bcast_S_S128 (constant S_ .f32 0x461C4000#32)) (Host.divf (sitofp .f32 (iotaInDim S128 32 0)) (broadcastInDim S128 ![] bcast_S_S128 (constant S_ .f32 0x43000000#32)))))))
/-- An array over rows and pairs, the same for every head. -/
def heads (a : FVec Ideal S2048x128 .f32) : FVec Ideal S2048x4x128 .f32 :=
  broadcastInDim S2048x4x128 ![0, 1, 2] bcast_S2048x1x128_S2048x4x128_0_1_2 (broadcastInDim S2048x1x128 ![0, 2] bcast_S2048x128_S2048x1x128_0_2 a)
/-- The halves rotated and put side by side. -/
def turn (x : FVec Ideal S2048x4x256 .f32) : FVec Ideal S2048x4x256 .f32 :=
  concatenate S2048x4x256 2 [⟨S2048x4x128, (subf (mulf (extractStridedSlice S2048x4x128 ![0, 0, 0] x slices_S2048x4x256_S2048x4x128_0_0_0) (heads (Host.cos angs))) (mulf (extractStridedSlice S2048x4x128 ![0, 0, 128] x slices_S2048x4x256_S2048x4x128_0_0_128) (heads (Host.sin angs))))⟩, ⟨S2048x4x128, (addf (mulf (extractStridedSlice S2048x4x128 ![0, 0, 0] x slices_S2048x4x256_S2048x4x128_0_0_0) (heads (Host.sin angs))) (mulf (extractStridedSlice S2048x4x128 ![0, 0, 128] x slices_S2048x4x256_S2048x4x128_0_0_128) (heads (Host.cos angs))))⟩] concatenates_S2048x4x128_S2048x4x128_S2048x4x256_d2
/-- The array's first four thousand and ninety-six columns. -/
def qkv (z : FVec Ideal S2048x12288 .f32) : FVec Ideal S2048x4096 .f32 := extractStridedSlice S2048x4096 ![0, 0] z slices_S2048x12288_S2048x4096_0_0

theorem angs_at (r : Fin 2048) (l : Fin 128) : angs (ix2 r l) = RotSpec.ang r l := by
  pointwise [angs, RotSpec.ang]
theorem heads_at (a : FVec Ideal S2048x128 .f32) (r : Fin 2048) (h : Fin 4) (l : Fin 128) : heads a (ix3 r h l) = a (ix2 r l) := by
  pointwise [heads]
theorem turn_at (x : FVec Ideal S2048x4x256 .f32) (r : Fin 2048) (f : Fin 1024 → EReal) (hf : ∀ (h : Fin 4) (l : Fin 256) (j : Fin 1024), j.val = h.val * 256 + l.val → f j = x (ix3 r h l))
    (h : Fin 4) (l : Fin 256) (j : Fin 1024) (hj : j.val = h.val * 256 + l.val) :
    turn x (ix3 r h l) = RotSpec.rot (fun l => Ideal.cos (RotSpec.ang r l)) (fun l => Ideal.sin (RotSpec.ang r l)) f j := by
  pointwise [turn, heads_at, angs_at]
  by_cases hl : l.val < 128
  · have e : RotSpec.pr j = ⟨l.val, hl⟩ := Fin.ext (by dsimp only [RotSpec.pr]; omega)
    rw [RotSpec.rot, dif_pos hl, dif_pos (by omega), e, hf h l j hj, hf h ⟨128 + l.val, by omega⟩ _ (by dsimp only; omega)]
  · have e : RotSpec.pr j = ⟨l.val - 128, by omega⟩ := Fin.ext (by dsimp only [RotSpec.pr]; omega)
    rw [RotSpec.rot, dif_neg hl, dif_neg (by omega), e, hf h ⟨128 + (l.val - 128), by omega⟩ j (by dsimp only; omega), hf h ⟨l.val - 128, by omega⟩ _ (by dsimp only; omega)]
theorem q_at (z : FVec Ideal S2048x12288 .f32) (r : Fin 2048) (j : Fin 1024) :
    truncf (F := Ideal) .bf16 (shapeCast _ (turn (shapeCast _ (extractStridedSlice S2048x1024 ![0, 0] (qkv z) slices_S2048x4096_S2048x1024_0_0) shapeCasts_S2048x1024_S2048x4x256)) shapeCasts_S2048x4x256_S2048x1024) bitsLt_bf16_f32 (ix2 r j)
      = RotSpec.rot (fun l => Ideal.cos (RotSpec.ang r l)) (fun l => Ideal.sin (RotSpec.ang r l)) (fun l => z (ix2 r ⟨l.val, by omega⟩)) j := by
  refine Eq.trans ?_ (turn_at (shapeCast _ (extractStridedSlice S2048x1024 ![0, 0] (qkv z) slices_S2048x4096_S2048x1024_0_0) shapeCasts_S2048x1024_S2048x4x256) r _ ?_ (⟨j.val / 256, by omega⟩ : Fin 4) (⟨j.val % 256, Nat.mod_lt _ (by decide)⟩ : Fin 256) j (by dsimp only; omega))
  · pointwise []
  · intro h l j hj
    pointwise [qkv]
    exact congrArg z (congrArg (ix2 r) (Fin.ext (by dsimp only; omega)))
theorem k_at (z : FVec Ideal S2048x12288 .f32) (r : Fin 2048) (j : Fin 1024) :
    truncf (F := Ideal) .bf16 (shapeCast _ (mulf (turn (shapeCast _ (extractStridedSlice S2048x1024 ![0, 1024] (qkv z) slices_S2048x4096_S2048x1024_0_1024) shapeCasts_S2048x1024_S2048x4x256)) (broadcastInDim S2048x4x256 ![] bcast_S_S2048x4x256 (constant S_ .f32 0x3D800000#32))) shapeCasts_S2048x4x256_S2048x1024) bitsLt_bf16_f32 (ix2 r j)
      = RotSpec.rot (fun l => Ideal.cos (RotSpec.ang r l)) (fun l => Ideal.sin (RotSpec.ang r l)) (fun l => z (ix2 r ⟨1024 + l.val, by omega⟩)) j * RotSpec.sc := by
  refine Eq.trans ?_ (congrArg (· * RotSpec.sc) (turn_at (shapeCast _ (extractStridedSlice S2048x1024 ![0, 1024] (qkv z) slices_S2048x4096_S2048x1024_0_1024) shapeCasts_S2048x1024_S2048x4x256) r _ ?_ (⟨j.val / 256, by omega⟩ : Fin 4) (⟨j.val % 256, Nat.mod_lt _ (by decide)⟩ : Fin 256) j (by dsimp only; omega)))
  · pointwise [RotSpec.sc]
  · intro h l j hj
    pointwise [qkv]
    exact congrArg z (congrArg (ix2 r) (Fin.ext (by dsimp only; omega)))
theorem v_at (z : FVec Ideal S2048x12288 .f32) (r : Fin 2048) (j : Fin 2048) :
    truncf (F := Ideal) .bf16 (extractStridedSlice S2048x2048 ![0, 2048] (qkv z) slices_S2048x4096_S2048x2048_0_2048) bitsLt_bf16_f32 (ix2 r j) = z (ix2 r ⟨2048 + j.val, by omega⟩) := by
  pointwise [qkv]
end Cert.Reference13Ideal.Rot

namespace Cert.Proof
open Idealize.ShloMosaic Idealize.ShloMosaic.TcCoe Idealize.SL.Sem

/-- From memories agreeing on the arguments both programs run and end with the same results. -/
theorem value13 : Cert.algebraic_Kernel13Ideal_Reference13Ideal := by
  intro m g m' g' _ hm
  refine ⟨Kernel13Ideal.Rot.res0 m, Kernel13Ideal.Rot.res1 m, Kernel13Ideal.Rot.res2 m, ?_, ?_⟩
  · exact θ_run_and (Kernel13Ideal.Rot.run m g) (Kernel13Ideal.Gen.unchanged m g) |> (θ_run Kernel13Ideal.defs _ _).mono
      (fun r h c => ⟨(h.1 c).1, (h.1 c).2.1, (h.1 c).2.2, h.2 c⟩)
  · refine (θ_run Reference13Ideal.defs _ _).mono (fun r h c => ⟨(h c).1.trans ?_, (h c).2.1.trans ?_, (h c).2.2.1.trans ?_, (h c).2.2.2⟩) (Reference13Ideal.Value.run m' g')
    · unfold Reference13Ideal.Value.res_main_v70
      rw [hm c]
      funext i
      obtain ⟨r, z, rfl⟩ : ∃ (r : Fin 2048) (z : Fin 1024), i = ix2 r z := ⟨i 0, i 1, by funext a; fin_cases a <;> rfl⟩
      exact Reference13Ideal.Rot.q_at _ r z
    · unfold Reference13Ideal.Value.res_main_v71
      rw [hm c]
      funext i
      obtain ⟨r, z, rfl⟩ : ∃ (r : Fin 2048) (z : Fin 1024), i = ix2 r z := ⟨i 0, i 1, by funext a; fin_cases a <;> rfl⟩
      exact Reference13Ideal.Rot.k_at _ r z
    · rw [hm c]
      funext i
      obtain ⟨r, z, rfl⟩ : ∃ (r : Fin 2048) (z : Fin 2048), i = ix2 r z := ⟨i 0, i 1, by funext a; fin_cases a <;> rfl⟩
      exact Reference13Ideal.Rot.v_at _ r z

end Cert.Proof
end
-- ==== Proof.Gate.Spec.lean ====
module

public import Idealize.ShloMosaic.Lib.Pointwise
public import Idealize.ShloMosaic.Lib.KernelVsHost
public import Idealize.ShloMosaic.Lib.IdealHost

/-! # The gates' gradients of one entry -/

@[expose] public section
noncomputable section
namespace Cert.GateSpec
open Idealize.ShloMosaic

/-- The gelu's hyperbolic tangent at `p`. -/
def th (p : EReal) : EReal := Ideal.tanh (Ideal.ofBits .f32 1061962282#32 * (p + Ideal.ofBits .f32 1027024659#32 * (p * (p * p))))
/-- What reaches the tangent's argument from the gelu's gradient `t`. -/
def arg (p t : EReal) : EReal := Ideal.ofBits .f32 1061962282#32 * (Ideal.ofBits .f32 1056964608#32 * (p * t) * ((1 + th p) * (1 - th p)))
/-- The gelu's backward at `p`. -/
def dgelu (p t : EReal) : EReal :=
  t * (Ideal.ofBits .f32 1056964608#32 * (1 + th p)) + arg p t + Ideal.ofBits .f32 1027024659#32 * arg p t * (Ideal.ofBits .f32 1077936128#32 * (p * p))

/-- The reciprocal root of a head's mean square, from the sum `q` of its squares. -/
def inv (q : EReal) : EReal := Ideal.rsqrt (Ideal.div q (Ideal.ofBits .f32 1140850688#32) + Ideal.ofBits .f32 897988541#32)
/-- The merge of one entry: the heads' output `y` with its head's sum of squares `q` under its gate `g`, the scan's output `s` under its gate's argument `a`, and the gates `u`, `w` of the two. -/
def merge (y q g u w s a : EReal) : EReal :=
  Ideal.logistic u * (g * Ideal.logistic g * (y * inv q)) + Ideal.logistic w * (s * Ideal.logistic a)

end Cert.GateSpec
end
-- ==== Proof.Gate.K15.lean ====
module

public import proofs.«01_k».proof.Proof.Gen.Kernel15Ideal.Frame
public import proofs.«01_k».proof.Proof.Gate.Spec
public import proofs.«01_k».proof.Proof.Rot.Spec
public import Idealize.ShloMosaic.Lib.Pointwise
public import Idealize.ShloMosaic.Lib.Pipeline.ValueKit

/-! # Program 15: the gated merge, over sixteen blocks of rows and four heads, element by element -/

@[expose] public section
set_option maxRecDepth 16384
noncomputable section

namespace Cert.Kernel15Ideal.Gate
open Cert.Kernel15Ideal Cert.Kernel15Ideal.Gen
open Idealize.ShloMosaic Idealize.ShloMosaic.TcCoe
open Idealize.SL.Sem

theorem pay2_at (y g u w s a : Vec Ideal S128x512 .f32) (b : Vec Ideal S1x512 .f32) (i : Fin 128) (j : Fin 512) :
    k0_pay2 y g u w s a b (ix2 i j) = GateSpec.merge (y (ix2 i j)) (∑ l, y (ix2 i l) * y (ix2 i l)) (g (ix2 i j)) (u (ix2 i j)) (w (ix2 i j)) (s (ix2 i j)) (a (ix2 i j) + b (ix2 0 j)) := by
  pointwise [k0_pay2, GateSpec.merge, GateSpec.inv]

section
variable (y g u w s a : Vec Ideal S128x2048 .f32) (b : Vec Ideal S1x2048 .f32)
/-- The merge of an entry of a block. -/
def mg (i : Fin 128) (j : Fin 2048) : EReal :=
  GateSpec.merge (y (ix2 i j)) (∑ l : Fin 512, y (ix2 i (⟨j.val / 512 * 512 + l.val, by omega⟩ : Fin 2048)) * y (ix2 i (⟨j.val / 512 * 512 + l.val, by omega⟩ : Fin 2048)))
    (g (ix2 i j)) (u (ix2 i j)) (w (ix2 i j)) (s (ix2 i j)) (a (ix2 i j) + b (ix2 0 j))
/-- One head. -/
theorem head {off : ℕ} (inb inb1) (i k : Fin 128) (l : Fin 512) (j : Fin 2048) (hi : i.val = k.val) (hj : j.val = off + l.val) (ho : off % 512 = 0) :
    k0_pay2 (View.ld y (Rect.unit (s := S128x2048) ![0, off] S128x512.size inb)) (View.ld g (Rect.unit (s := S128x2048) ![0, off] S128x512.size inb))
      (View.ld u (Rect.unit (s := S128x2048) ![0, off] S128x512.size inb)) (View.ld w (Rect.unit (s := S128x2048) ![0, off] S128x512.size inb))
      (View.ld s (Rect.unit (s := S128x2048) ![0, off] S128x512.size inb)) (View.ld a (Rect.unit (s := S128x2048) ![0, off] S128x512.size inb))
      (View.ld b (Rect.unit (s := S1x2048) ![0, off] S1x512.size inb1)) (ix2 k l) = mg y g u w s a b i j := by
  have e : ∀ z : Vec Ideal S128x2048 .f32, View.ld z (Rect.unit (s := S128x2048) ![0, off] S128x512.size inb) (ix2 k l) = z (ix2 i j) :=
    fun z => RotSpec.ld_at inb z k i l j hi hj
  rw [pay2_at, e, e, e, e, e, e, RotSpec.ld_at inb1 b 0 0 l j rfl hj]
  unfold mg
  refine congrArg (fun q => GateSpec.merge _ q _ _ _ _ _) (Finset.sum_congr rfl fun x _ => ?_)
  rw [RotSpec.ld_at inb y k i x (⟨j.val / 512 * 512 + x.val, by omega⟩ : Fin 2048) hi (by dsimp only; omega)]
theorem out_at (i : Fin 128) (j : Fin 2048) : out0_7 y g u w s a b (ix2 i j) = mg y g u w s a b i j := by
  unfold out0_7
  canon_tiles z h
  all_goals obtain ⟨k, l, rfl⟩ : ∃ (k : Fin 128) (l : Fin 512), z = ix2 k l := ⟨z 0, z 1, by funext q; fin_cases q <;> rfl⟩
  all_goals have h2 : j.val = _ := h1
  · exact head y g u w s a b _ _ i k l j h0 h2 rfl
  · exact head y g u w s a b _ _ i k l j h0 h2 rfl
  · exact head y g u w s a b _ _ i k l j h0 h2 rfl
  · exact head y g u w s a b _ _ i k l j h0 (h2.trans (Nat.zero_add _).symm) rfl
end

variable (m : (ℓ : Loc nD τ sig) → Buf (Elt Ideal) ℓ) (c : Dev nD)

/-- The heads' output, the projection, the scan's output, its gate's argument and that gate's bias, as launched. -/
def A0 : FVec Ideal S2048x2048 .f32 := m ((c.tc : Thread nD τ).loc main_arg0)
def A1 : FVec Ideal S2048x12288 .f32 := m ((c.tc : Thread nD τ).loc main_arg1)
def A2 : FVec Ideal S2048x2048 .f32 := m ((c.tc : Thread nD τ).loc main_arg2)
def A3 : FVec Ideal S2048x2048 .f32 := m ((c.tc : Thread nD τ).loc main_arg3)
def A4 : FVec Ideal S1x2048 .f32 := m ((c.tc : Thread nD τ).loc main_arg4)

theorem idx0 : ∀ t : Fin cfg0.N, win0_0.index t = ![t.val, 0] := by decide +kernel
theorem idx1 : ∀ t : Fin cfg0.N, win0_1.index t = ![t.val, 2] := by decide +kernel
theorem idx2 : ∀ t : Fin cfg0.N, win0_2.index t = ![t.val, 4] := by decide +kernel
theorem idx3 : ∀ t : Fin cfg0.N, win0_3.index t = ![t.val, 5] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![0, 0] := by decide +kernel
theorem idx7 : ∀ t : Fin cfg0.N, win0_7.index t = ![t.val, 0] := by decide +kernel
theorem N_eq : cfg0.N = 16 := by decide +kernel

section
variable (t : Fin cfg0.N) (i : Fin 128) (k r : Fin 2048) (hr : r.val = t.val * 128 + i.val)
include hr
theorem blk0 : iblk m c 0 t (ix2 i k) = A0 m c (ix2 r k) := by unfold A0; blk_ext [iblk, V, idx0 t, hr]
theorem blk1 : iblk m c 1 t (ix2 i k) = A1 m c (ix2 r (⟨4096 + k.val, by omega⟩ : Fin 12288)) := by unfold A1; blk_ext [iblk, V, idx1 t, hr]
theorem blk2 : iblk m c 2 t (ix2 i k) = A1 m c (ix2 r (⟨8192 + k.val, by omega⟩ : Fin 12288)) := by unfold A1; blk_ext [iblk, V, idx2 t, hr]
theorem blk3 : iblk m c 3 t (ix2 i k) = A1 m c (ix2 r (⟨10240 + k.val, by omega⟩ : Fin 12288)) := by unfold A1; blk_ext [iblk, V, idx3 t, hr]
theorem blk4 : iblk m c 4 t (ix2 i k) = A2 m c (ix2 r k) := by unfold A2; blk_ext [iblk, V, idx4 t, hr]
theorem blk5 : iblk m c 5 t (ix2 i k) = A3 m c (ix2 r k) := by unfold A3; blk_ext [iblk, V, idx5 t, hr]
end
theorem blk6 (t : Fin cfg0.N) (k : Fin 2048) : iblk m c 6 t (ix2 (0 : Fin 1) k) = A4 m c (ix2 0 k) := by unfold A4; blk_ext [iblk, V, idx6 t]

/-- The merge, from the launched arrays. -/
def M (r k : Fin 2048) : EReal :=
  GateSpec.merge (A0 m c (ix2 r k)) (∑ l : Fin 512, A0 m c (ix2 r (⟨k.val / 512 * 512 + l.val, by omega⟩ : Fin 2048)) * A0 m c (ix2 r (⟨k.val / 512 * 512 + l.val, by omega⟩ : Fin 2048)))
    (A1 m c (ix2 r (⟨4096 + k.val, by omega⟩ : Fin 12288))) (A1 m c (ix2 r (⟨8192 + k.val, by omega⟩ : Fin 12288))) (A1 m c (ix2 r (⟨10240 + k.val, by omega⟩ : Fin 12288)))
    (A2 m c (ix2 r k)) (A3 m c (ix2 r k) + A4 m c (ix2 0 k))
/-- The result. -/
def res : FVec Ideal S2048x2048 .bf16 := fun i => M m c (i 0) (i 1)

theorem res_final : (dats m 0 c).arrAt 7 cfg0.N = res m c := by
  refine (dats m 0 c).arrAt_eq_of_covers 7 _ (by decide +kernel) fun t hf y => ?_
  obtain ⟨i, j, rfl⟩ : ∃ (i : Fin 128) (j : Fin 2048), y = ix2 i j := ⟨y 0, y 1, by funext a; fin_cases a <;> rfl⟩
  have ht : t.val < 16 := N_eq ▸ t.isLt
  blk_simp
  rw [after0_7, out_at]
  obtain ⟨r, hr⟩ : ∃ r : Fin 2048, r.val = t.val * 128 + i.val := ⟨⟨t.val * 128 + i.val, by omega⟩, rfl⟩
  have e : (win0_7.blk t).view.emb (ix2 i j) = ix2 r j := by
    refine (eq_ix2 _).trans (congrArg₂ ix2 (Fin.ext ?_) (Fin.ext ?_))
    · blk_simp [idx7 t, hr]
    · blk_simp [idx7 t]
  rw [e]
  have b0 : ∀ k, iblk m c 0 t (ix2 i k) = A0 m c (ix2 r k) := fun k => blk0 m c t i k r hr
  unfold mg
  simp only [b0]
  rw [blk1 m c t i j r hr, blk2 m c t i j r hr, blk3 m c t i j r hr, blk4 m c t i j r hr, blk5 m c t i j r hr, blk6]
  rfl

/-- The run: the result. -/
theorem run (g : Dev nD → PrngReg) : θ_run defs (onTc (τ := τ) (main (F := Ideal))) ⟨m, fun _ => 0, g⟩ (fun r => ∀ c : Dev nD,
      r.2.mem ((c.tc : Thread nD τ).loc main_v0) = res m c) :=
  (θ_run defs _ _).mono (fun r h c => ((h c).1 7).trans (res_final m c)) (run_main m g)

end Cert.Kernel15Ideal.Gate
end
-- ==== Proof.Gate.V15.lean ====
module

public import proofs.«01_k».proof.Defs
public import proofs.«01_k».proof.Proof.Gate.K15
public import proofs.«01_k».proof.Proof.Gen.Reference15Ideal.Run

/-! # Program 15: the kernel's result is the reference's -/

@[expose] public section
set_option maxRecDepth 16384
noncomputable section
namespace Cert.Reference15Ideal.Gate
open Cert.Reference15Ideal Cert.Reference15Ideal.Gen
open Idealize.ShloMosaic Idealize.ShloMosaic.TcCoe
open Idealize.SL.Sem

section
variable {F : FTy → Type} [FloatOps F] (m : (ℓ : Loc nD τ sig) → Buf (Elt F) ℓ) (ρ : Dev nD → PrngReg)
/-- The arguments end as they began and every counter is at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems (by decide) r.2⟩) (Value.run m ρ)
end

/-- The logistic function of every entry. -/
def Sg (x : FVec Ideal S2048x2048 .f32) : FVec Ideal S2048x2048 .f32 :=
  Host.divf (broadcastInDim S2048x2048 ![] bcast_S_S2048x2048 (constant S_ .f32 0x3F800000#32)) (addf (broadcastInDim S2048x2048 ![] bcast_S_S2048x2048 (constant S_ .f32 0x3F800000#32)) (Host.exp (Host.negf x)))
/-- The heads' output under its norm. -/
def Nm (y : FVec Ideal S2048x2048 .f32) : FVec Ideal S2048x4x512 .f32 :=
  mulf (shapeCast _ y shapeCasts_S2048x2048_S2048x4x512) (broadcastInDim S2048x4x512 ![0, 1, 2] bcast_S2048x4x1_S2048x4x512_0_1_2 (Host.rsqrt (addf (Host.divf (broadcastInDim S2048x4x1 ![0, 1] bcast_S2048x4_S2048x4x1_0_1 (Host.reduceAdd (mulf (shapeCast _ y shapeCasts_S2048x2048_S2048x4x512) (shapeCast _ y shapeCasts_S2048x2048_S2048x4x512)) (constant S_ .f32 0x00000000#32) reducesTo_S2048x4x512_S2048x4_d2 h_S_)) (broadcastInDim S2048x4x1 ![] bcast_S_S2048x4x1 (constant S_ .f32 0x44000000#32))) (broadcastInDim S2048x4x1 ![] bcast_S_S2048x4x1 (constant S_ .f32 0x358637BD#32)))))
/-- The merge. -/
def Mg (y : FVec Ideal S2048x2048 .f32) (p : FVec Ideal S2048x12288 .f32) (s a : FVec Ideal S2048x2048 .f32) (b : FVec Ideal S1x2048 .f32) : FVec Ideal S2048x2048 .bf16 :=
  truncf .bf16 (addf (mulf (Sg (extractStridedSlice S2048x2048 ![0, 8192] p slices_S2048x12288_S2048x2048_0_8192)) (mulf (mulf (extractStridedSlice S2048x2048 ![0, 4096] p slices_S2048x12288_S2048x2048_0_4096) (Sg (extractStridedSlice S2048x2048 ![0, 4096] p slices_S2048x12288_S2048x2048_0_4096))) (shapeCast _ (Nm y) shapeCasts_S2048x4x512_S2048x2048)))
    (mulf (Sg (extractStridedSlice S2048x2048 ![0, 10240] p slices_S2048x12288_S2048x2048_0_10240)) (mulf s (Sg (addf a (broadcastInDim S2048x2048 ![0, 1] bcast_S1x2048_S2048x2048_0_1 (broadcastInDim S1x2048 ![1] bcast_S2048_S1x2048_1 (shapeCast _ b shapeCasts_S1x2048_S2048)))))))) bitsLt_bf16_f32

theorem Sg_at (x : FVec Ideal S2048x2048 .f32) (r k : Fin 2048) : Sg x (ix2 r k) = Ideal.logistic (x (ix2 r k)) := by
  pointwise [Sg, Ideal.logistic]
theorem Nm_at (y : FVec Ideal S2048x2048 .f32) (r : Fin 2048) (h : Fin 4) (e : Fin 512) :
    Nm y (ix3 r h e) = y (ix2 r (⟨h.val * 512 + e.val, by omega⟩ : Fin 2048))
      * GateSpec.inv (∑ l : Fin 512, y (ix2 r (⟨h.val * 512 + l.val, by omega⟩ : Fin 2048)) * y (ix2 r (⟨h.val * 512 + l.val, by omega⟩ : Fin 2048))) := by
  pointwise [Nm, GateSpec.inv]
theorem Mg_at (y : FVec Ideal S2048x2048 .f32) (p : FVec Ideal S2048x12288 .f32) (s a : FVec Ideal S2048x2048 .f32) (b : FVec Ideal S1x2048 .f32) (r k : Fin 2048) :
    Mg y p s a b (ix2 r k) = GateSpec.merge (y (ix2 r k)) (∑ l : Fin 512, y (ix2 r (⟨k.val / 512 * 512 + l.val, by omega⟩ : Fin 2048)) * y (ix2 r (⟨k.val / 512 * 512 + l.val, by omega⟩ : Fin 2048)))
      (p (ix2 r (⟨4096 + k.val, by omega⟩ : Fin 12288))) (p (ix2 r (⟨8192 + k.val, by omega⟩ : Fin 12288))) (p (ix2 r (⟨10240 + k.val, by omega⟩ : Fin 12288)))
      (s (ix2 r k)) (a (ix2 r k) + b (ix2 0 k)) := by
  have e : (⟨k.val / 512 * 512 + k.val % 512, by omega⟩ : Fin 2048) = k := Fin.ext (Nat.div_add_mod' _ _)
  pointwise [Mg, Sg_at, Nm_at, GateSpec.merge, e]
end Cert.Reference15Ideal.Gate

namespace Cert.Proof
open Idealize.ShloMosaic Idealize.ShloMosaic.TcCoe Idealize.SL.Sem

/-- From memories agreeing on the arguments both programs run and end with the same result. -/
theorem value15 : Cert.algebraic_Kernel15Ideal_Reference15Ideal := by
  intro m g m' g' _ hm
  refine ⟨Kernel15Ideal.Gate.res m, ?_, ?_⟩
  · exact (θ_run Kernel15Ideal.defs _ _).mono (fun r h c => ⟨h.1 c, h.2 c⟩) (θ_run_and (Kernel15Ideal.Gate.run m g) (Kernel15Ideal.Gen.unchanged m g))
  · refine (θ_run Reference15Ideal.defs _ _).mono (fun r h c => ⟨(h c).1.trans ?_, (h c).2⟩) (Reference15Ideal.Value.run m' g')
    obtain ⟨e0, e1, e2, e3, e4⟩ := hm c
    rw [e0, e1, e2, e3, e4]
    funext i
    obtain ⟨r, z, rfl⟩ : ∃ (r : Fin 2048) (z : Fin 2048), i = ix2 r z := ⟨i 0, i 1, by funext a; fin_cases a <;> rfl⟩
    exact Reference15Ideal.Gate.Mg_at _ _ _ _ _ r z

end Cert.Proof
end
-- ==== Proof.Gate.K16.lean ====
module

public import proofs.«01_k».proof.Proof.Gen.Kernel16Ideal.Frame
public import proofs.«01_k».proof.Proof.Gate.Spec
public import Idealize.ShloMosaic.Lib.Pointwise
public import Idealize.ShloMosaic.Lib.Pipeline.ValueKit

/-! # Program 16: the backward of the gelu over the scan's output and the skip, over eight blocks of rows, element by element -/

@[expose] public section
set_option maxRecDepth 16384
noncomputable section

namespace Cert.Kernel16Ideal.Gate
open Cert.Kernel16Ideal Cert.Kernel16Ideal.Gen
open Idealize.ShloMosaic Idealize.ShloMosaic.TcCoe
open Idealize.SL.Sem

theorem pay4_at (u y : Vec Ideal S256x2048 .f32) (d : Vec Ideal S1x2048 .f32) (i : Fin 256) (j : Fin 2048) :
    k0_pay4 u y d (ix2 i j) = y (ix2 i j) + d (ix2 0 j) * u (ix2 i j) := by
  pointwise [k0_pay4]
theorem pay6_at (u y : Vec Ideal S256x2048 .f32) (d : Vec Ideal S1x2048 .f32) (i : Fin 256) (j : Fin 2048) :
    k0_pay6 u y d (ix2 i j) = GateSpec.th (y (ix2 i j) + d (ix2 0 j) * u (ix2 i j)) := by
  pointwise [k0_pay6, pay4_at, GateSpec.th]
/-- The gradient of the sum under the gelu. -/
def dpre (u y : Vec Ideal S256x2048 .f32) (d : Vec Ideal S1x2048 .f32) (t : Vec Ideal S256x2048 .f32) : FVec Ideal S256x2048 .f32 :=
  k0_pay1 (k0_pay5 u y d) (k0_pay7 u y d t) (k0_pay8 u y d t) (Scalar.ofBits .f32 0x3D372713#32)
theorem dpre_at (u y : Vec Ideal S256x2048 .f32) (d : Vec Ideal S1x2048 .f32) (t : Vec Ideal S256x2048 .f32) (i : Fin 256) (j : Fin 2048) :
    dpre u y d t (ix2 i j) = GateSpec.dgelu (y (ix2 i j) + d (ix2 0 j) * u (ix2 i j)) (t (ix2 i j)) := by
  pointwise [dpre, k0_pay1, k0_pay5, k0_pay7, k0_pay8, pay6_at, pay4_at, GateSpec.dgelu, GateSpec.arg]
theorem pay2_at (u y : Vec Ideal S256x2048 .f32) (d : Vec Ideal S1x2048 .f32) (t : Vec Ideal S256x2048 .f32) (a : Vec Ideal S1x2048 .f32) (y' : S1x2048.Idx) :
    k0_pay2 u (k0_pay5 u y d) (k0_pay7 u y d t) (k0_pay8 u y d t) (Scalar.ofBits .f32 0x3D372713#32) a y' = a y' + ∑ k, dpre u y d t (ix2 k (y' 1)) * u (ix2 k (y' 1)) := by
  obtain ⟨i, j, rfl⟩ : ∃ (i : Fin 1) (j : Fin 2048), y' = ix2 i j := ⟨y' 0, y' 1, by funext a; fin_cases a <;> rfl⟩
  pointwise [k0_pay2, dpre]
theorem pay3_at (y : S1x2048.Idx) : (k0_pay3 : FVec Ideal S1x2048 .f32) y = 0 := by
  obtain ⟨i, j, rfl⟩ : ∃ (i : Fin 1) (j : Fin 2048), y = ix2 i j := ⟨y 0, y 1, by funext a; fin_cases a <;> rfl⟩
  pointwise [k0_pay3]

variable (m : (ℓ : Loc nD τ sig) → Buf (Elt Ideal) ℓ) (c : Dev nD)

/-- The scan's output as launched. -/
def Y (r k : Fin 2048) : EReal := (m ((c.tc : Thread nD τ).loc main_arg0) : FVec Ideal S2048x2048 .f32) (ix2 r k)
/-- The scan's input, a part of the projection as launched. -/
def U (r k : Fin 2048) : EReal := (m ((c.tc : Thread nD τ).loc main_arg1) : FVec Ideal S2048x12288 .f32) (ix2 r (⟨6144 + k.val, by omega⟩ : Fin 12288))
/-- The skip's gain as launched. -/
def D (k : Fin 2048) : EReal := (m ((c.tc : Thread nD τ).loc main_arg2) : FVec Ideal S1x2048 .f32) (ix2 0 k)
/-- The gradient of the output as launched. -/
def T (r k : Fin 2048) : EReal := (m ((c.tc : Thread nD τ).loc main_arg3) : FVec Ideal S2048x2048 .f32) (ix2 r k)

theorem idx0 : ∀ t : Fin cfg0.N, win0_0.index t = ![t.val, 0] := by decide +kernel
theorem idx1 : ∀ t : Fin cfg0.N, win0_1.index t = ![t.val, 3] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![0, 0] := by decide +kernel
theorem N_eq : cfg0.N = 8 := by decide +kernel

section
variable (t : Fin cfg0.N) (i : Fin 256) (k r : Fin 2048) (hr : r.val = t.val * 256 + i.val)
include hr
theorem blk0 : iblk m c 0 t (ix2 i k) = Y m c r k := by
  unfold Y
  blk_ext [iblk, V, idx0 t, hr]
theorem blk1 : iblk m c 1 t (ix2 i k) = U m c r k := by
  unfold U
  blk_ext [iblk, V, idx1 t, hr]
theorem blk3 : iblk m c 3 t (ix2 i k) = T m c r k := by
  unfold T
  blk_ext [iblk, V, idx3 t, hr]
end
theorem blk2 (t : Fin cfg0.N) (k : Fin 2048) : iblk m c 2 t (ix2 (0 : Fin 1) k) = D m c k := by
  unfold D
  blk_ext [iblk, V, idx2 t]

/-- The gradient of the sum under the gelu, from the launched arrays. -/
def Dp (r k : Fin 2048) : EReal := GateSpec.dgelu (Y m c r k + D m c k * U m c r k) (T m c r k)
theorem dpre_blk (t : Fin cfg0.N) (i : Fin 256) (k r : Fin 2048) (hr : r.val = t.val * 256 + i.val) :
    dpre (iblk m c 1 t) (iblk m c 0 t) (iblk m c 2 t) (iblk m c 3 t) (ix2 i k) = Dp m c r k := by
  rw [dpre_at, blk0 m c t i k r hr, blk1 m c t i k r hr, blk2, blk3 m c t i k r hr]
  rfl

theorem rows (t : Fin cfg0.N) (y : S256x2048.Idx) : (outsAt0 m c t.val t.isLt).1 y
    = dpre (iblk m c 1 t) (iblk m c 0 t) (iblk m c 2 t) (iblk m c 3 t) y := by
  by_cases h : t.val % 8 = 0
  · rw [outsAt0_A m c t h]; frame_out; rfl
  · rw [outsAt0_B m c t h]; frame_out; rfl
/-- A block's part of the gradient of the skip's gain. -/
def part (t : Fin cfg0.N) (y : S1x2048.Idx) : EReal :=
  ∑ k : Fin 256, dpre (iblk m c 1 t) (iblk m c 0 t) (iblk m c 2 t) (iblk m c 3 t) (ix2 k (y 1)) * iblk m c 1 t (ix2 k (y 1))
theorem first (t : Fin cfg0.N) (h : t.val % 8 = 0) (y : S1x2048.Idx) : (outsAt0 m c t.val t.isLt).2 y = 0 + part m c t y := by
  rw [outsAt0_A m c t h]; frame_out; rw [pay2_at, pay3_at]; rfl
theorem later (t : Fin cfg0.N) (h : ¬t.val % 8 = 0) (y : S1x2048.Idx) :
    (outsAt0 m c t.val t.isLt).2 y = (outsAt0 m c (t.val - 1) (Nat.lt_of_le_of_lt (Nat.sub_le _ _) t.isLt)).2 y + part m c t y := by
  rw [outsAt0_B m c t h]; frame_out; rw [pay2_at]; rfl

/-- The point of the run at its block `s`. -/
def pt (t : Fin cfg0.N) (h2 : t.val % 8 = 7) (s : Fin 8) : Fin cfg0.N :=
  ⟨8 * (t.val / 8) + s.val, Pipeline.run_point_lt_of_flush t h2 s⟩

theorem acc_eq (t : Fin cfg0.N) (h2 : t.val % 8 = 7) (y : S1x2048.Idx) :
    (outsAt0 m c t.val t.isLt).2 y = 0 + ∑ s : Fin 8, part m c (pt t h2 s) y :=
  Pipeline.eq_sum_fin_of_reset_step_apply_of_flush (fun n h => (outsAt0 m c n h).2) 8 (fun _ => 0)
    (part m c) (first m c) (later m c) t h2 y

/-- The gradient of the skip's gain, from the launched arrays. -/
def Dd (k : Fin 2048) : EReal := ∑ r, Dp m c r k * U m c r k
/-- The first result. -/
def res0 : FVec Ideal S2048x2048 .f32 := fun i => Dp m c (i 0) (i 1)
/-- The second result. -/
def res1 : FVec Ideal S1x2048 .f32 := fun i => Dd m c (i 1)

theorem res0_final : (dats m 0 c).arrAt 4 cfg0.N = res0 m c := by
  refine (dats m 0 c).arrAt_eq_of_covers 4 _ (by decide +kernel) fun t hf y => ?_
  obtain ⟨i, j, rfl⟩ : ∃ (i : Fin 256) (j : Fin 2048), y = ix2 i j := ⟨y 0, y 1, by funext a; fin_cases a <;> rfl⟩
  have ht : t.val < 8 := N_eq ▸ t.isLt
  blk_simp
  rw [after0_4, rows m c t]
  have e : (win0_4.blk t).view.emb (ix2 i j) = ix2 (⟨t.val * 256 + i.val, by omega⟩ : Fin 2048) j := by
    refine (eq_ix2 _).trans (congrArg₂ ix2 (Fin.ext ?_) (Fin.ext ?_))
    · blk_simp [idx4 t]
    · blk_simp [idx4 t]
  rw [e]
  exact dpre_blk m c t i j _ rfl

theorem res1_final : (dats m 0 c).arrAt 5 cfg0.N = res1 m c := by
  refine (dats m 0 c).arrAt_eq_of_covers 5 _ (by decide +kernel) fun t hf y => ?_
  have h2 : t.val % 8 = 7 := (flush0_5 t).mp hf
  have ht : t.val < 8 := N_eq ▸ t.isLt
  obtain ⟨i, j, rfl⟩ : ∃ (i : Fin 1) (j : Fin 2048), y = ix2 i j := ⟨y 0, y 1, by funext a; fin_cases a <;> rfl⟩
  blk_simp
  rw [after0_5, acc_eq m c t h2, zero_add]
  have e : (win0_5.blk t).view.emb (ix2 i j) = ix2 i j := by
    refine (eq_ix2 _).trans (congrArg₂ ix2 (Fin.ext ?_) (Fin.ext ?_))
    · blk_simp [idx5 t]
    · blk_simp [idx5 t]
  rw [e]
  refine Fin.sum_mul_add_congr (f := fun r => Dp m c r j * U m c r j) fun s k hl => ?_
  have hr : s.val * 256 + k.val = (pt t h2 s).val * 256 + k.val := by dsimp only [pt]; omega
  exact congrArg₂ (· * ·) (dpre_blk m c _ k j ⟨s.val * 256 + k.val, hl⟩ hr) (blk1 m c _ k j ⟨s.val * 256 + k.val, hl⟩ hr)

/-- The run: both results. -/
theorem run (g : Dev nD → PrngReg) : θ_run defs (onTc (τ := τ) (main (F := Ideal))) ⟨m, fun _ => 0, g⟩ (fun r => ∀ c : Dev nD,
      r.2.mem ((c.tc : Thread nD τ).loc main_v0_0) = res0 m c ∧ r.2.mem ((c.tc : Thread nD τ).loc main_v0_1) = res1 m c) :=
  (θ_run defs _ _).mono (fun r h c => ⟨((h c).1 4).trans (res0_final m c), ((h c).1 5).trans (res1_final m c)⟩) (run_main m g)

end Cert.Kernel16Ideal.Gate
end
-- ==== Proof.Gate.V16.lean ====
module

public import proofs.«01_k».proof.Defs
public import proofs.«01_k».proof.Proof.Gate.K16
public import proofs.«01_k».proof.Proof.Gen.Reference16Ideal.Run

/-! # Program 16: the kernel's results are the reference's -/

@[expose] public section
set_option maxRecDepth 16384
noncomputable section
namespace Cert.Reference16Ideal.Gate
open Cert.Reference16Ideal Cert.Reference16Ideal.Gen
open Idealize.ShloMosaic Idealize.ShloMosaic.TcCoe
open Idealize.SL.Sem

section
variable {F : FTy → Type} [FloatOps F] (m : (ℓ : Loc nD τ sig) → Buf (Elt F) ℓ) (ρ : Dev nD → PrngReg)
/-- The arguments end as they began and every counter is at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2, sem_eq_zero_of_no_sems (by decide) r.2⟩) (Value.run m ρ)
end

/-- The same word everywhere. -/
def all (w : BitVec 32) : FVec Ideal S2048x2048 .f32 := broadcastInDim S2048x2048 ![] bcast_S_S2048x2048 (constant S_ .f32 w)
/-- The sum under the gelu. -/
def P (y : FVec Ideal S2048x2048 .f32) (p : FVec Ideal S2048x12288 .f32) (d : FVec Ideal S1x2048 .f32) : FVec Ideal S2048x2048 .f32 :=
  addf y (mulf (broadcastInDim S2048x2048 ![0, 1] bcast_S1x2048_S2048x2048_0_1 (broadcastInDim S1x2048 ![1] bcast_S2048_S1x2048_1 (shapeCast _ d shapeCasts_S1x2048_S2048))) (extractStridedSlice S2048x2048 ![0, 6144] p slices_S2048x12288_S2048x2048_0_6144))
/-- The gelu's hyperbolic tangent. -/
def Th (p : FVec Ideal S2048x2048 .f32) : FVec Ideal S2048x2048 .f32 :=
  Host.tanh (mulf (all 0x3F4C422A#32) (addf p (mulf (all 0x3D372713#32) (mulf (mulf p p) p))))
/-- What reaches the tangent's argument. -/
def Arg (p t : FVec Ideal S2048x2048 .f32) : FVec Ideal S2048x2048 .f32 :=
  mulf (all 0x3F4C422A#32) (mulf (mulf (all 0x3F000000#32) (mulf p t)) (mulf (addf (all 0x3F800000#32) (Th p)) (subf (all 0x3F800000#32) (Th p))))
/-- The gelu's backward. -/
def Dg (p t : FVec Ideal S2048x2048 .f32) : FVec Ideal S2048x2048 .f32 :=
  addf (addf (mulf t (mulf (all 0x3F000000#32) (addf (all 0x3F800000#32) (Th p)))) (Arg p t)) (mulf (mulf (all 0x3D372713#32) (Arg p t)) (mulf (all 0x40400000#32) (mulf p p)))

theorem all_at (w : BitVec 32) (r k : Fin 2048) : all w (ix2 r k) = Ideal.ofBits .f32 w := by
  pointwise [all]
theorem Dg_at (p t : FVec Ideal S2048x2048 .f32) (r k : Fin 2048) : Dg p t (ix2 r k) = GateSpec.dgelu (p (ix2 r k)) (t (ix2 r k)) := by
  have e : p (ix2 r k) * p (ix2 r k) * p (ix2 r k) = p (ix2 r k) * (p (ix2 r k) * p (ix2 r k)) := mul_assoc _ _ _
  pointwise [Dg, Arg, Th, all_at, GateSpec.dgelu, GateSpec.arg, GateSpec.th, e]
theorem P_at (y : FVec Ideal S2048x2048 .f32) (p : FVec Ideal S2048x12288 .f32) (d : FVec Ideal S1x2048 .f32) (r k : Fin 2048) :
    P y p d (ix2 r k) = y (ix2 r k) + d (ix2 0 k) * p (ix2 r ⟨6144 + k.val, by omega⟩) := by
  pointwise [P]
theorem dd_at (q : FVec Ideal S2048x2048 .f32) (p : FVec Ideal S2048x12288 .f32) (r : Fin 1) (k : Fin 2048) :
    (broadcastInDim S1x2048 ![1] bcast_S2048_S1x2048_1 (Host.reduceAdd (shapeCast _ (Host.reduceAdd (mulf q (extractStridedSlice S2048x2048 ![0, 6144] p slices_S2048x12288_S2048x2048_0_6144)) (constant S_ .f32 0x00000000#32) reducesTo_S2048x2048_S2048_d0 h_S_) shapeCasts_S2048_S1x2048) (constant S_ .f32 0x00000000#32) reducesTo_S1x2048_S2048_d0 h_S_) : FVec Ideal S1x2048 .f32) (ix2 r k)
      = ∑ l : Fin 2048, q (ix2 l k) * p (ix2 l ⟨6144 + k.val, by omega⟩) := by
  pointwise []
  simp only [Fin.sum_univ_one]
end Cert.Reference16Ideal.Gate

namespace Cert.Proof
open Idealize.ShloMosaic Idealize.ShloMosaic.TcCoe Idealize.SL.Sem

/-- From memories agreeing on the arguments both programs run and end with the same results. -/
theorem value16 : Cert.algebraic_Kernel16Ideal_Reference16Ideal := by
  intro m g m' g' _ hm
  refine ⟨Kernel16Ideal.Gate.res0 m, Kernel16Ideal.Gate.res1 m, ?_, ?_⟩
  · exact θ_run_and (Kernel16Ideal.Gate.run m g) (Kernel16Ideal.Gen.unchanged m g) |> (θ_run Kernel16Ideal.defs _ _).mono
      (fun r h c => ⟨(h.1 c).1, (h.1 c).2, h.2 c⟩)
  · refine (θ_run Reference16Ideal.defs _ _).mono (fun r h c => ⟨(h c).1.trans ?_, (h c).2.1.trans ?_, (h c).2.2⟩) (Reference16Ideal.Value.run m' g')
    · obtain ⟨e0, e1, e2, e3⟩ := hm c
      unfold Reference16Ideal.Value.res_main_v38
      rw [e0, e1, e2, e3]
      funext i
      obtain ⟨r, z, rfl⟩ : ∃ (r : Fin 2048) (z : Fin 2048), i = ix2 r z := ⟨i 0, i 1, by funext a; fin_cases a <;> rfl⟩
      refine (Reference16Ideal.Gate.Dg_at (Reference16Ideal.Gate.P _ _ _) _ r z).trans ?_
      rw [Reference16Ideal.Gate.P_at]
      rfl
    · obtain ⟨e0, e1, e2, e3⟩ := hm c
      unfold Reference16Ideal.Value.res_main_v45
      rw [e0, e1, e2, e3]
      funext i
      obtain ⟨r, z, rfl⟩ : ∃ (r : Fin 1) (z : Fin 2048), i = ix2 r z := ⟨i 0, i 1, by funext a; fin_cases a <;> rfl⟩
      refine (Reference16Ideal.Gate.dd_at (Reference16Ideal.Gate.Dg (Reference16Ideal.Gate.P _ _ _) _) _ r z).trans ?_
      simp only [Reference16Ideal.Gate.Dg_at, Reference16Ideal.Gate.P_at]
      rfl

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.ReferenceIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal.Run
public import proofs.«01_k».proof.Proof.Ret.Launch
public import proofs.«01_k».proof.Proof.Ret.Same
public import proofs.«01_k».proof.Proof.Ret.Value
public import proofs.«01_k».proof.Proof.Mm.V2
public import proofs.«01_k».proof.Proof.Mm.V3
public import proofs.«01_k».proof.Proof.Mm.V4
public import proofs.«01_k».proof.Proof.Mm.V5
public import proofs.«01_k».proof.Proof.Mm.V6
public import proofs.«01_k».proof.Proof.Mm.V7
public import proofs.«01_k».proof.Proof.Mm.V8
public import proofs.«01_k».proof.Proof.Mm.V9
public import proofs.«01_k».proof.Proof.Mm.V10
public import proofs.«01_k».proof.Proof.Fwd.Same
public import proofs.«01_k».proof.Proof.Fwd.Value
public import proofs.«01_k».proof.Proof.Rot.V12
public import proofs.«01_k».proof.Proof.Rot.V13
public import proofs.«01_k».proof.Proof.Gate.V15
public import proofs.«01_k».proof.Proof.Gate.V16
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  frame_kernel, fun m ρ _ => Cert.KernelIdeal.Ret.frame m ρ, fun m ρ _ => Cert.ReferenceIdeal.Ret.frame m ρ,
  fun m ρ _ => Cert.Kernel2.Gen.frame m ρ, fun m ρ _ => Cert.Kernel2Ideal.Gen.frame m ρ, fun m ρ _ => Cert.Reference2Ideal.Mm.frame m ρ,
  fun m ρ _ => Cert.Kernel3.Gen.frame m ρ, fun m ρ _ => Cert.Kernel3Ideal.Gen.frame m ρ, fun m ρ _ => Cert.Reference3Ideal.Mm.frame m ρ,
  fun m ρ _ => Cert.Kernel4.Gen.frame m ρ, fun m ρ _ => Cert.Kernel4Ideal.Gen.frame m ρ, fun m ρ _ => Cert.Reference4Ideal.Mm.frame m ρ,
  fun m ρ _ => Cert.Kernel5.Gen.frame m ρ, fun m ρ _ => Cert.Kernel5Ideal.Gen.frame m ρ, fun m ρ _ => Cert.Reference5Ideal.Mm.frame m ρ,
  fun m ρ _ => Cert.Kernel6.Gen.frame m ρ, fun m ρ _ => Cert.Kernel6Ideal.Gen.frame m ρ, fun m ρ _ => Cert.Reference6Ideal.Mm.frame m ρ,
  fun m ρ _ => Cert.Kernel7.Gen.frame m ρ, fun m ρ _ => Cert.Kernel7Ideal.Gen.frame m ρ, fun m ρ _ => Cert.Reference7Ideal.Mm.frame m ρ,
  fun m ρ _ => Cert.Kernel8.Gen.frame m ρ, fun m ρ _ => Cert.Kernel8Ideal.Gen.frame m ρ, fun m ρ _ => Cert.Reference8Ideal.Mm.frame m ρ,
  fun m ρ _ => Cert.Kernel9.Gen.frame m ρ, fun m ρ _ => Cert.Kernel9Ideal.Gen.frame m ρ, fun m ρ _ => Cert.Reference9Ideal.Mm.frame m ρ,
  fun m ρ _ => Cert.Kernel10.Gen.frame m ρ, fun m ρ _ => Cert.Kernel10Ideal.Gen.frame m ρ, fun m ρ _ => Cert.Reference10Ideal.Mm.frame m ρ,
  frame_kernel11, fun m ρ _ => Cert.Kernel11Ideal.Fwd.frame m ρ, fun m ρ _ => Cert.Reference11Ideal.Fwd.frame m ρ,
  fun m ρ _ => Cert.Kernel12.Gen.frame m ρ, fun m ρ _ => Cert.Kernel12Ideal.Gen.frame m ρ, fun m ρ _ => Cert.Reference12Ideal.Rot.frame m ρ,
  fun m ρ _ => Cert.Kernel13.Gen.frame m ρ, fun m ρ _ => Cert.Kernel13Ideal.Gen.frame m ρ, fun m ρ _ => Cert.Reference13Ideal.Rot.frame m ρ,
  fun m ρ _ => Cert.Kernel15.Gen.frame m ρ, fun m ρ _ => Cert.Kernel15Ideal.Gen.frame m ρ, fun m ρ _ => Cert.Reference15Ideal.Gate.frame m ρ,
  fun m ρ _ => Cert.Kernel16.Gen.frame m ρ, fun m ρ _ => Cert.Kernel16Ideal.Gen.frame m ρ, fun m ρ _ => Cert.Reference16Ideal.Gate.frame m ρ,
  trivial, value, trivial, value2, trivial, value3, trivial, value4, trivial, value5, trivial, value6, trivial, value7, trivial, value8, trivial, value9, trivial, value10, trivial, value11, trivial, value12, trivial, value13, trivial, value15, trivial, value16⟩

end Cert.Proof

end
